-- ==== Defs.lean ====
def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_band_finite [hPre_band_finite : Cert.Pre_band_finite.Facts] (m : (ℓ : Loc Cert.BandIdeal.nD Cert.BandIdeal.τ Cert.BandIdeal.sig) → Buf (Elt Ideal) ℓ) : Prop :=
  ∀ c : Dev Cert.BandIdeal.nD,
    (Cert.Pre_band_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3)) (m ((c.tc : Thread Cert.BandIdeal.nD Cert.BandIdeal.τ).loc Cert.BandIdeal.main_arg4))).1 = (fun _ => 1#1)
    ∧ (Cert.Pre_band_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3)) (m ((c.tc : Thread Cert.BandIdeal.nD Cert.BandIdeal.τ).loc Cert.BandIdeal.main_arg4))).2.1 = (fun _ => 1#1)
    ∧ (Cert.Pre_band_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3)) (m ((c.tc : Thread Cert.BandIdeal.nD Cert.BandIdeal.τ).loc Cert.BandIdeal.main_arg4))).2.2 = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_band_finite [hPre_band_finite : Cert.Pre_band_finite.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_band_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3)) (m ((c.tc : Thread Cert.BandRefIdeal.nD Cert.BandRefIdeal.τ).loc Cert.BandRefIdeal.main_arg4))).1 = (fun _ => 1#1)
    ∧ (Cert.Pre_band_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3)) (m ((c.tc : Thread Cert.BandRefIdeal.nD Cert.BandRefIdeal.τ).loc Cert.BandRefIdeal.main_arg4))).2.1 = (fun _ => 1#1)
    ∧ (Cert.Pre_band_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3)) (m ((c.tc : Thread Cert.BandRefIdeal.nD Cert.BandRefIdeal.τ).loc Cert.BandRefIdeal.main_arg4))).2.2 = (fun _ => 1#1)

def Pre_DiffIn (m : (ℓ : Loc Cert.DiffIn.nD Cert.DiffIn.τ Cert.DiffIn.sig) → Buf (Elt Bits) ℓ) : Prop :=
  True

def Pre_DiffInIdeal (m : (ℓ : Loc Cert.DiffInIdeal.nD Cert.DiffInIdeal.τ Cert.DiffInIdeal.sig) → Buf (Elt Ideal) ℓ) : Prop :=
  True

def Pre_DiffInRefIdeal (m : (ℓ : Loc Cert.DiffInRefIdeal.nD Cert.DiffInRefIdeal.τ Cert.DiffInRefIdeal.sig) → Buf (Elt Ideal) ℓ) : Prop :=
  True

def Pre_DiffInS (m : (ℓ : Loc Cert.DiffInS.nD Cert.DiffInS.τ Cert.DiffInS.sig) → Buf (Elt Bits) ℓ) : Prop :=
  True

def Pre_DiffInSIdeal (m : (ℓ : Loc Cert.DiffInSIdeal.nD Cert.DiffInSIdeal.τ Cert.DiffInSIdeal.sig) → Buf (Elt Ideal) ℓ) : Prop :=
  True

def Pre_DiffInSRefIdeal (m : (ℓ : Loc Cert.DiffInSRefIdeal.nD Cert.DiffInSRefIdeal.τ Cert.DiffInSRefIdeal.sig) → Buf (Elt Ideal) ℓ) : Prop :=
  True

def Pre_SwaIn (m : (ℓ : Loc Cert.SwaIn.nD Cert.SwaIn.τ Cert.SwaIn.sig) → Buf (Elt Bits) ℓ) : Prop :=
  True

def Pre_SwaInIdeal (m : (ℓ : Loc Cert.SwaInIdeal.nD Cert.SwaInIdeal.τ Cert.SwaInIdeal.sig) → Buf (Elt Ideal) ℓ) : Prop :=
  True

def Pre_SwaInRefIdeal (m : (ℓ : Loc Cert.SwaInRefIdeal.nD Cert.SwaInRefIdeal.τ Cert.SwaInRefIdeal.sig) → Buf (Elt Ideal) ℓ) : Prop :=
  True

def Pre_DnOut (m : (ℓ : Loc Cert.DnOut.nD Cert.DnOut.τ Cert.DnOut.sig) → Buf (Elt Bits) ℓ) : Prop :=
  True

def Pre_DnOutIdeal (m : (ℓ : Loc Cert.DnOutIdeal.nD Cert.DnOutIdeal.τ Cert.DnOutIdeal.sig) → Buf (Elt Ideal) ℓ) : Prop :=
  True

def Pre_DnOutRefIdeal (m : (ℓ : Loc Cert.DnOutRefIdeal.nD Cert.DnOutRefIdeal.τ Cert.DnOutRefIdeal.sig) → Buf (Elt Ideal) ℓ) : Prop :=
  True

def Pre_DnOutS (m : (ℓ : Loc Cert.DnOutS.nD Cert.DnOutS.τ Cert.DnOutS.sig) → Buf (Elt Bits) ℓ) : Prop :=
  True

def Pre_DnOutSIdeal (m : (ℓ : Loc Cert.DnOutSIdeal.nD Cert.DnOutSIdeal.τ Cert.DnOutSIdeal.sig) → Buf (Elt Ideal) ℓ) : Prop :=
  True

def Pre_DnOutSRefIdeal (m : (ℓ : Loc Cert.DnOutSRefIdeal.nD Cert.DnOutSRefIdeal.τ Cert.DnOutSRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_DnIn (m : (ℓ : Loc Cert.DnIn.nD Cert.DnIn.τ Cert.DnIn.sig) → Buf (Elt Bits) ℓ) : Prop :=
  True

def Pre_DnInIdeal (m : (ℓ : Loc Cert.DnInIdeal.nD Cert.DnInIdeal.τ Cert.DnInIdeal.sig) → Buf (Elt Ideal) ℓ) : Prop :=
  True

def Pre_DnInRefIdeal (m : (ℓ : Loc Cert.DnInRefIdeal.nD Cert.DnInRefIdeal.τ Cert.DnInRefIdeal.sig) → Buf (Elt Ideal) ℓ) : Prop :=
  True

def Pre_SwaDec (m : (ℓ : Loc Cert.SwaDec.nD Cert.SwaDec.τ Cert.SwaDec.sig) → Buf (Elt Bits) ℓ) : Prop :=
  True

def Pre_SwaDecIdeal (m : (ℓ : Loc Cert.SwaDecIdeal.nD Cert.SwaDecIdeal.τ Cert.SwaDecIdeal.sig) → Buf (Elt Ideal) ℓ) : Prop :=
  True

def Pre_SwaDecIdeal_decode_finite [hPre_decode_finite : Cert.Pre_decode_finite.Facts] (m : (ℓ : Loc Cert.SwaDecIdeal.nD Cert.SwaDecIdeal.τ Cert.SwaDecIdeal.sig) → Buf (Elt Ideal) ℓ) : Prop :=
  ∀ c : Dev Cert.SwaDecIdeal.nD,
    (Cert.Pre_decode_finite.fn (F := Ideal) (m ((c.tc : Thread Cert.SwaDecIdeal.nD Cert.SwaDecIdeal.τ).loc Cert.SwaDecIdeal.main_arg0)) (m ((c.tc : Thread Cert.SwaDecIdeal.nD Cert.SwaDecIdeal.τ).loc Cert.SwaDecIdeal.main_arg1)) (m ((c.tc : Thread Cert.SwaDecIdeal.nD Cert.SwaDecIdeal.τ).loc Cert.SwaDecIdeal.main_arg2)) (m ((c.tc : Thread Cert.SwaDecIdeal.nD Cert.SwaDecIdeal.τ).loc Cert.SwaDecIdeal.main_arg3)) (m ((c.tc : Thread Cert.SwaDecIdeal.nD Cert.SwaDecIdeal.τ).loc Cert.SwaDecIdeal.main_arg4)) (m ((c.tc : Thread Cert.SwaDecIdeal.nD Cert.SwaDecIdeal.τ).loc Cert.SwaDecIdeal.main_arg5)) (m ((c.tc : Thread Cert.SwaDecIdeal.nD Cert.SwaDecIdeal.τ).loc Cert.SwaDecIdeal.main_arg6))).1 = (fun _ => 1#1)
    ∧ (Cert.Pre_decode_finite.fn (F := Ideal) (m ((c.tc : Thread Cert.SwaDecIdeal.nD Cert.SwaDecIdeal.τ).loc Cert.SwaDecIdeal.main_arg0)) (m ((c.tc : Thread Cert.SwaDecIdeal.nD Cert.SwaDecIdeal.τ).loc Cert.SwaDecIdeal.main_arg1)) (m ((c.tc : Thread Cert.SwaDecIdeal.nD Cert.SwaDecIdeal.τ).loc Cert.SwaDecIdeal.main_arg2)) (m ((c.tc : Thread Cert.SwaDecIdeal.nD Cert.SwaDecIdeal.τ).loc Cert.SwaDecIdeal.main_arg3)) (m ((c.tc : Thread Cert.SwaDecIdeal.nD Cert.SwaDecIdeal.τ).loc Cert.SwaDecIdeal.main_arg4)) (m ((c.tc : Thread Cert.SwaDecIdeal.nD Cert.SwaDecIdeal.τ).loc Cert.SwaDecIdeal.main_arg5)) (m ((c.tc : Thread Cert.SwaDecIdeal.nD Cert.SwaDecIdeal.τ).loc Cert.SwaDecIdeal.main_arg6))).2.1 = (fun _ => 1#1)
    ∧ (Cert.Pre_decode_finite.fn (F := Ideal) (m ((c.tc : Thread Cert.SwaDecIdeal.nD Cert.SwaDecIdeal.τ).loc Cert.SwaDecIdeal.main_arg0)) (m ((c.tc : Thread Cert.SwaDecIdeal.nD Cert.SwaDecIdeal.τ).loc Cert.SwaDecIdeal.main_arg1)) (m ((c.tc : Thread Cert.SwaDecIdeal.nD Cert.SwaDecIdeal.τ).loc Cert.SwaDecIdeal.main_arg2)) (m ((c.tc : Thread Cert.SwaDecIdeal.nD Cert.SwaDecIdeal.τ).loc Cert.SwaDecIdeal.main_arg3)) (m ((c.tc : Thread Cert.SwaDecIdeal.nD Cert.SwaDecIdeal.τ).loc Cert.SwaDecIdeal.main_arg4)) (m ((c.tc : Thread Cert.SwaDecIdeal.nD Cert.SwaDecIdeal.τ).loc Cert.SwaDecIdeal.main_arg5)) (m ((c.tc : Thread Cert.SwaDecIdeal.nD Cert.SwaDecIdeal.τ).loc Cert.SwaDecIdeal.main_arg6))).2.2.1 = (fun _ => 1#1)
    ∧ (Cert.Pre_decode_finite.fn (F := Ideal) (m ((c.tc : Thread Cert.SwaDecIdeal.nD Cert.SwaDecIdeal.τ).loc Cert.SwaDecIdeal.main_arg0)) (m ((c.tc : Thread Cert.SwaDecIdeal.nD Cert.SwaDecIdeal.τ).loc Cert.SwaDecIdeal.main_arg1)) (m ((c.tc : Thread Cert.SwaDecIdeal.nD Cert.SwaDecIdeal.τ).loc Cert.SwaDecIdeal.main_arg2)) (m ((c.tc : Thread Cert.SwaDecIdeal.nD Cert.SwaDecIdeal.τ).loc Cert.SwaDecIdeal.main_arg3)) (m ((c.tc : Thread Cert.SwaDecIdeal.nD Cert.SwaDecIdeal.τ).loc Cert.SwaDecIdeal.main_arg4)) (m ((c.tc : Thread Cert.SwaDecIdeal.nD Cert.SwaDecIdeal.τ).loc Cert.SwaDecIdeal.main_arg5)) (m ((c.tc : Thread Cert.SwaDecIdeal.nD Cert.SwaDecIdeal.τ).loc Cert.SwaDecIdeal.main_arg6))).2.2.2 = (fun _ => 1#1)

def Pre_SwaDecRefIdeal (m : (ℓ : Loc Cert.SwaDecRefIdeal.nD Cert.SwaDecRefIdeal.τ Cert.SwaDecRefIdeal.sig) → Buf (Elt Ideal) ℓ) : Prop :=
  True

def Pre_SwaDecRefIdeal_decode_finite [hPre_decode_finite : Cert.Pre_decode_finite.Facts] (m : (ℓ : Loc Cert.SwaDecRefIdeal.nD Cert.SwaDecRefIdeal.τ Cert.SwaDecRefIdeal.sig) → Buf (Elt Ideal) ℓ) : Prop :=
  ∀ c : Dev Cert.SwaDecRefIdeal.nD,
    (Cert.Pre_decode_finite.fn (F := Ideal) (m ((c.tc : Thread Cert.SwaDecRefIdeal.nD Cert.SwaDecRefIdeal.τ).loc Cert.SwaDecRefIdeal.main_arg0)) (m ((c.tc : Thread Cert.SwaDecRefIdeal.nD Cert.SwaDecRefIdeal.τ).loc Cert.SwaDecRefIdeal.main_arg1)) (m ((c.tc : Thread Cert.SwaDecRefIdeal.nD Cert.SwaDecRefIdeal.τ).loc Cert.SwaDecRefIdeal.main_arg2)) (m ((c.tc : Thread Cert.SwaDecRefIdeal.nD Cert.SwaDecRefIdeal.τ).loc Cert.SwaDecRefIdeal.main_arg3)) (m ((c.tc : Thread Cert.SwaDecRefIdeal.nD Cert.SwaDecRefIdeal.τ).loc Cert.SwaDecRefIdeal.main_arg4)) (m ((c.tc : Thread Cert.SwaDecRefIdeal.nD Cert.SwaDecRefIdeal.τ).loc Cert.SwaDecRefIdeal.main_arg5)) (m ((c.tc : Thread Cert.SwaDecRefIdeal.nD Cert.SwaDecRefIdeal.τ).loc Cert.SwaDecRefIdeal.main_arg6))).1 = (fun _ => 1#1)
    ∧ (Cert.Pre_decode_finite.fn (F := Ideal) (m ((c.tc : Thread Cert.SwaDecRefIdeal.nD Cert.SwaDecRefIdeal.τ).loc Cert.SwaDecRefIdeal.main_arg0)) (m ((c.tc : Thread Cert.SwaDecRefIdeal.nD Cert.SwaDecRefIdeal.τ).loc Cert.SwaDecRefIdeal.main_arg1)) (m ((c.tc : Thread Cert.SwaDecRefIdeal.nD Cert.SwaDecRefIdeal.τ).loc Cert.SwaDecRefIdeal.main_arg2)) (m ((c.tc : Thread Cert.SwaDecRefIdeal.nD Cert.SwaDecRefIdeal.τ).loc Cert.SwaDecRefIdeal.main_arg3)) (m ((c.tc : Thread Cert.SwaDecRefIdeal.nD Cert.SwaDecRefIdeal.τ).loc Cert.SwaDecRefIdeal.main_arg4)) (m ((c.tc : Thread Cert.SwaDecRefIdeal.nD Cert.SwaDecRefIdeal.τ).loc Cert.SwaDecRefIdeal.main_arg5)) (m ((c.tc : Thread Cert.SwaDecRefIdeal.nD Cert.SwaDecRefIdeal.τ).loc Cert.SwaDecRefIdeal.main_arg6))).2.1 = (fun _ => 1#1)
    ∧ (Cert.Pre_decode_finite.fn (F := Ideal) (m ((c.tc : Thread Cert.SwaDecRefIdeal.nD Cert.SwaDecRefIdeal.τ).loc Cert.SwaDecRefIdeal.main_arg0)) (m ((c.tc : Thread Cert.SwaDecRefIdeal.nD Cert.SwaDecRefIdeal.τ).loc Cert.SwaDecRefIdeal.main_arg1)) (m ((c.tc : Thread Cert.SwaDecRefIdeal.nD Cert.SwaDecRefIdeal.τ).loc Cert.SwaDecRefIdeal.main_arg2)) (m ((c.tc : Thread Cert.SwaDecRefIdeal.nD Cert.SwaDecRefIdeal.τ).loc Cert.SwaDecRefIdeal.main_arg3)) (m ((c.tc : Thread Cert.SwaDecRefIdeal.nD Cert.SwaDecRefIdeal.τ).loc Cert.SwaDecRefIdeal.main_arg4)) (m ((c.tc : Thread Cert.SwaDecRefIdeal.nD Cert.SwaDecRefIdeal.τ).loc Cert.SwaDecRefIdeal.main_arg5)) (m ((c.tc : Thread Cert.SwaDecRefIdeal.nD Cert.SwaDecRefIdeal.τ).loc Cert.SwaDecRefIdeal.main_arg6))).2.2.1 = (fun _ => 1#1)
    ∧ (Cert.Pre_decode_finite.fn (F := Ideal) (m ((c.tc : Thread Cert.SwaDecRefIdeal.nD Cert.SwaDecRefIdeal.τ).loc Cert.SwaDecRefIdeal.main_arg0)) (m ((c.tc : Thread Cert.SwaDecRefIdeal.nD Cert.SwaDecRefIdeal.τ).loc Cert.SwaDecRefIdeal.main_arg1)) (m ((c.tc : Thread Cert.SwaDecRefIdeal.nD Cert.SwaDecRefIdeal.τ).loc Cert.SwaDecRefIdeal.main_arg2)) (m ((c.tc : Thread Cert.SwaDecRefIdeal.nD Cert.SwaDecRefIdeal.τ).loc Cert.SwaDecRefIdeal.main_arg3)) (m ((c.tc : Thread Cert.SwaDecRefIdeal.nD Cert.SwaDecRefIdeal.τ).loc Cert.SwaDecRefIdeal.main_arg4)) (m ((c.tc : Thread Cert.SwaDecRefIdeal.nD Cert.SwaDecRefIdeal.τ).loc Cert.SwaDecRefIdeal.main_arg5)) (m ((c.tc : Thread Cert.SwaDecRefIdeal.nD Cert.SwaDecRefIdeal.τ).loc Cert.SwaDecRefIdeal.main_arg6))).2.2.2 = (fun _ => 1#1)

def Pre_DnPrep (m : (ℓ : Loc Cert.DnPrep.nD Cert.DnPrep.τ Cert.DnPrep.sig) → Buf (Elt Bits) ℓ) : Prop :=
  True

def Pre_DnPrepIdeal (m : (ℓ : Loc Cert.DnPrepIdeal.nD Cert.DnPrepIdeal.τ Cert.DnPrepIdeal.sig) → Buf (Elt Ideal) ℓ) : Prop :=
  True

def Pre_DnPrepRefIdeal (m : (ℓ : Loc Cert.DnPrepRefIdeal.nD Cert.DnPrepRefIdeal.τ Cert.DnPrepRefIdeal.sig) → Buf (Elt Ideal) ℓ) : Prop :=
  True

def Pre_DnStep (m : (ℓ : Loc Cert.DnStep.nD Cert.DnStep.τ Cert.DnStep.sig) → Buf (Elt Bits) ℓ) : Prop :=
  True

def Pre_DnStepIdeal (m : (ℓ : Loc Cert.DnStepIdeal.nD Cert.DnStepIdeal.τ Cert.DnStepIdeal.sig) → Buf (Elt Ideal) ℓ) : Prop :=
  True

def Pre_DnStepIdeal_step_finite [hPre_step_finite : Cert.Pre_step_finite.Facts] (m : (ℓ : Loc Cert.DnStepIdeal.nD Cert.DnStepIdeal.τ Cert.DnStepIdeal.sig) → Buf (Elt Ideal) ℓ) : Prop :=
  ∀ c : Dev Cert.DnStepIdeal.nD,
    (Cert.Pre_step_finite.fn (F := Ideal) (m ((c.tc : Thread Cert.DnStepIdeal.nD Cert.DnStepIdeal.τ).loc Cert.DnStepIdeal.main_arg0)) (m ((c.tc : Thread Cert.DnStepIdeal.nD Cert.DnStepIdeal.τ).loc Cert.DnStepIdeal.main_arg1)) (m ((c.tc : Thread Cert.DnStepIdeal.nD Cert.DnStepIdeal.τ).loc Cert.DnStepIdeal.main_arg2)) (m ((c.tc : Thread Cert.DnStepIdeal.nD Cert.DnStepIdeal.τ).loc Cert.DnStepIdeal.main_arg3)) (m ((c.tc : Thread Cert.DnStepIdeal.nD Cert.DnStepIdeal.τ).loc Cert.DnStepIdeal.main_arg4))).1 = (fun _ => 1#1)
    ∧ (Cert.Pre_step_finite.fn (F := Ideal) (m ((c.tc : Thread Cert.DnStepIdeal.nD Cert.DnStepIdeal.τ).loc Cert.DnStepIdeal.main_arg0)) (m ((c.tc : Thread Cert.DnStepIdeal.nD Cert.DnStepIdeal.τ).loc Cert.DnStepIdeal.main_arg1)) (m ((c.tc : Thread Cert.DnStepIdeal.nD Cert.DnStepIdeal.τ).loc Cert.DnStepIdeal.main_arg2)) (m ((c.tc : Thread Cert.DnStepIdeal.nD Cert.DnStepIdeal.τ).loc Cert.DnStepIdeal.main_arg3)) (m ((c.tc : Thread Cert.DnStepIdeal.nD Cert.DnStepIdeal.τ).loc Cert.DnStepIdeal.main_arg4))).2.1 = (fun _ => 1#1)
    ∧ (Cert.Pre_step_finite.fn (F := Ideal) (m ((c.tc : Thread Cert.DnStepIdeal.nD Cert.DnStepIdeal.τ).loc Cert.DnStepIdeal.main_arg0)) (m ((c.tc : Thread Cert.DnStepIdeal.nD Cert.DnStepIdeal.τ).loc Cert.DnStepIdeal.main_arg1)) (m ((c.tc : Thread Cert.DnStepIdeal.nD Cert.DnStepIdeal.τ).loc Cert.DnStepIdeal.main_arg2)) (m ((c.tc : Thread Cert.DnStepIdeal.nD Cert.DnStepIdeal.τ).loc Cert.DnStepIdeal.main_arg3)) (m ((c.tc : Thread Cert.DnStepIdeal.nD Cert.DnStepIdeal.τ).loc Cert.DnStepIdeal.main_arg4))).2.2 = (fun _ => 1#1)

def Pre_DnStepRefIdeal (m : (ℓ : Loc Cert.DnStepRefIdeal.nD Cert.DnStepRefIdeal.τ Cert.DnStepRefIdeal.sig) → Buf (Elt Ideal) ℓ) : Prop :=
  True

def Pre_DnStepRefIdeal_step_finite [hPre_step_finite : Cert.Pre_step_finite.Facts] (m : (ℓ : Loc Cert.DnStepRefIdeal.nD Cert.DnStepRefIdeal.τ Cert.DnStepRefIdeal.sig) → Buf (Elt Ideal) ℓ) : Prop :=
  ∀ c : Dev Cert.DnStepRefIdeal.nD,
    (Cert.Pre_step_finite.fn (F := Ideal) (m ((c.tc : Thread Cert.DnStepRefIdeal.nD Cert.DnStepRefIdeal.τ).loc Cert.DnStepRefIdeal.main_arg0)) (m ((c.tc : Thread Cert.DnStepRefIdeal.nD Cert.DnStepRefIdeal.τ).loc Cert.DnStepRefIdeal.main_arg1)) (m ((c.tc : Thread Cert.DnStepRefIdeal.nD Cert.DnStepRefIdeal.τ).loc Cert.DnStepRefIdeal.main_arg2)) (m ((c.tc : Thread Cert.DnStepRefIdeal.nD Cert.DnStepRefIdeal.τ).loc Cert.DnStepRefIdeal.main_arg3)) (m ((c.tc : Thread Cert.DnStepRefIdeal.nD Cert.DnStepRefIdeal.τ).loc Cert.DnStepRefIdeal.main_arg4))).1 = (fun _ => 1#1)
    ∧ (Cert.Pre_step_finite.fn (F := Ideal) (m ((c.tc : Thread Cert.DnStepRefIdeal.nD Cert.DnStepRefIdeal.τ).loc Cert.DnStepRefIdeal.main_arg0)) (m ((c.tc : Thread Cert.DnStepRefIdeal.nD Cert.DnStepRefIdeal.τ).loc Cert.DnStepRefIdeal.main_arg1)) (m ((c.tc : Thread Cert.DnStepRefIdeal.nD Cert.DnStepRefIdeal.τ).loc Cert.DnStepRefIdeal.main_arg2)) (m ((c.tc : Thread Cert.DnStepRefIdeal.nD Cert.DnStepRefIdeal.τ).loc Cert.DnStepRefIdeal.main_arg3)) (m ((c.tc : Thread Cert.DnStepRefIdeal.nD Cert.DnStepRefIdeal.τ).loc Cert.DnStepRefIdeal.main_arg4))).2.1 = (fun _ => 1#1)
    ∧ (Cert.Pre_step_finite.fn (F := Ideal) (m ((c.tc : Thread Cert.DnStepRefIdeal.nD Cert.DnStepRefIdeal.τ).loc Cert.DnStepRefIdeal.main_arg0)) (m ((c.tc : Thread Cert.DnStepRefIdeal.nD Cert.DnStepRefIdeal.τ).loc Cert.DnStepRefIdeal.main_arg1)) (m ((c.tc : Thread Cert.DnStepRefIdeal.nD Cert.DnStepRefIdeal.τ).loc Cert.DnStepRefIdeal.main_arg2)) (m ((c.tc : Thread Cert.DnStepRefIdeal.nD Cert.DnStepRefIdeal.τ).loc Cert.DnStepRefIdeal.main_arg3)) (m ((c.tc : Thread Cert.DnStepRefIdeal.nD Cert.DnStepRefIdeal.τ).loc Cert.DnStepRefIdeal.main_arg4))).2.2 = (fun _ => 1#1)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2)
      ∧ r.2.mem ((c.tc : Thread Cert.Band.nD Cert.Band.τ).loc Cert.Band.main_arg3) = m ((c.tc : Thread Cert.Band.nD Cert.Band.τ).loc Cert.Band.main_arg3)
      ∧ r.2.mem ((c.tc : Thread Cert.Band.nD Cert.Band.τ).loc Cert.Band.main_arg4) = m ((c.tc : Thread Cert.Band.nD Cert.Band.τ).loc Cert.Band.main_arg4))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3)
      ∧ r.2.mem ((c.tc : Thread Cert.BandIdeal.nD Cert.BandIdeal.τ).loc Cert.BandIdeal.main_arg4) = m ((c.tc : Thread Cert.BandIdeal.nD Cert.BandIdeal.τ).loc Cert.BandIdeal.main_arg4))
      ∧ r.2.sem = fun _ => 0)

def quiescent_BandIdeal_pre_band_finite [hBandIdeal : Cert.BandIdeal.Facts] [hPre_band_finite : Cert.Pre_band_finite.Facts] : Prop :=
  ∀ (m : (ℓ : Loc Cert.BandIdeal.nD Cert.BandIdeal.τ Cert.BandIdeal.sig) → Buf (Elt Ideal) ℓ) (g : Dev Cert.BandIdeal.nD → PrngReg), Pre_BandIdeal_band_finite m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3)
      ∧ r.2.mem ((c.tc : Thread Cert.BandIdeal.nD Cert.BandIdeal.τ).loc Cert.BandIdeal.main_arg4) = m ((c.tc : Thread Cert.BandIdeal.nD Cert.BandIdeal.τ).loc Cert.BandIdeal.main_arg4))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3)
      ∧ r.2.mem ((c.tc : Thread Cert.BandRefIdeal.nD Cert.BandRefIdeal.τ).loc Cert.BandRefIdeal.main_arg4) = m ((c.tc : Thread Cert.BandRefIdeal.nD Cert.BandRefIdeal.τ).loc Cert.BandRefIdeal.main_arg4))
      ∧ r.2.sem = fun _ => 0)

def quiescent_BandRefIdeal_pre_band_finite [hBandRefIdeal : Cert.BandRefIdeal.Facts] [hPre_band_finite : Cert.Pre_band_finite.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_band_finite m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3)
      ∧ r.2.mem ((c.tc : Thread Cert.BandRefIdeal.nD Cert.BandRefIdeal.τ).loc Cert.BandRefIdeal.main_arg4) = m ((c.tc : Thread Cert.BandRefIdeal.nD Cert.BandRefIdeal.τ).loc Cert.BandRefIdeal.main_arg4))
      ∧ r.2.sem = fun _ => 0)

def quiescent_DiffIn [hDiffIn : Cert.DiffIn.Facts] : Prop :=
  ∀ (m : (ℓ : Loc Cert.DiffIn.nD Cert.DiffIn.τ Cert.DiffIn.sig) → Buf (Elt Bits) ℓ) (g : Dev Cert.DiffIn.nD → PrngReg), Pre_DiffIn m →
    θ_run (Cert.DiffIn.defs (F := Bits)) (onTc (τ := Cert.DiffIn.τ) (Cert.DiffIn.main (F := Bits))) ⟨m, fun _ => 0, g⟩ (fun r => (∀ c : Dev Cert.DiffIn.nD,
      r.2.mem ((c.tc : Thread Cert.DiffIn.nD Cert.DiffIn.τ).loc Cert.DiffIn.main_arg0) = m ((c.tc : Thread Cert.DiffIn.nD Cert.DiffIn.τ).loc Cert.DiffIn.main_arg0)
      ∧ r.2.mem ((c.tc : Thread Cert.DiffIn.nD Cert.DiffIn.τ).loc Cert.DiffIn.main_arg1) = m ((c.tc : Thread Cert.DiffIn.nD Cert.DiffIn.τ).loc Cert.DiffIn.main_arg1)
      ∧ r.2.mem ((c.tc : Thread Cert.DiffIn.nD Cert.DiffIn.τ).loc Cert.DiffIn.main_arg2) = m ((c.tc : Thread Cert.DiffIn.nD Cert.DiffIn.τ).loc Cert.DiffIn.main_arg2))
      ∧ r.2.sem = fun _ => 0)

def quiescent_DiffInIdeal [hDiffInIdeal : Cert.DiffInIdeal.Facts] : Prop :=
  ∀ (m : (ℓ : Loc Cert.DiffInIdeal.nD Cert.DiffInIdeal.τ Cert.DiffInIdeal.sig) → Buf (Elt Ideal) ℓ) (g : Dev Cert.DiffInIdeal.nD → PrngReg), Pre_DiffInIdeal m →
    θ_run (Cert.DiffInIdeal.defs (F := Ideal)) (onTc (τ := Cert.DiffInIdeal.τ) (Cert.DiffInIdeal.main (F := Ideal))) ⟨m, fun _ => 0, g⟩ (fun r => (∀ c : Dev Cert.DiffInIdeal.nD,
      r.2.mem ((c.tc : Thread Cert.DiffInIdeal.nD Cert.DiffInIdeal.τ).loc Cert.DiffInIdeal.main_arg0) = m ((c.tc : Thread Cert.DiffInIdeal.nD Cert.DiffInIdeal.τ).loc Cert.DiffInIdeal.main_arg0)
      ∧ r.2.mem ((c.tc : Thread Cert.DiffInIdeal.nD Cert.DiffInIdeal.τ).loc Cert.DiffInIdeal.main_arg1) = m ((c.tc : Thread Cert.DiffInIdeal.nD Cert.DiffInIdeal.τ).loc Cert.DiffInIdeal.main_arg1)
      ∧ r.2.mem ((c.tc : Thread Cert.DiffInIdeal.nD Cert.DiffInIdeal.τ).loc Cert.DiffInIdeal.main_arg2) = m ((c.tc : Thread Cert.DiffInIdeal.nD Cert.DiffInIdeal.τ).loc Cert.DiffInIdeal.main_arg2))
      ∧ r.2.sem = fun _ => 0)

def quiescent_DiffInRefIdeal [hDiffInRefIdeal : Cert.DiffInRefIdeal.Facts] : Prop :=
  ∀ (m : (ℓ : Loc Cert.DiffInRefIdeal.nD Cert.DiffInRefIdeal.τ Cert.DiffInRefIdeal.sig) → Buf (Elt Ideal) ℓ) (g : Dev Cert.DiffInRefIdeal.nD → PrngReg), Pre_DiffInRefIdeal m →
    θ_run (Cert.DiffInRefIdeal.defs (F := Ideal)) (onTc (τ := Cert.DiffInRefIdeal.τ) (Cert.DiffInRefIdeal.main (F := Ideal))) ⟨m, fun _ => 0, g⟩ (fun r => (∀ c : Dev Cert.DiffInRefIdeal.nD,
      r.2.mem ((c.tc : Thread Cert.DiffInRefIdeal.nD Cert.DiffInRefIdeal.τ).loc Cert.DiffInRefIdeal.main_arg0) = m ((c.tc : Thread Cert.DiffInRefIdeal.nD Cert.DiffInRefIdeal.τ).loc Cert.DiffInRefIdeal.main_arg0)
      ∧ r.2.mem ((c.tc : Thread Cert.DiffInRefIdeal.nD Cert.DiffInRefIdeal.τ).loc Cert.DiffInRefIdeal.main_arg1) = m ((c.tc : Thread Cert.DiffInRefIdeal.nD Cert.DiffInRefIdeal.τ).loc Cert.DiffInRefIdeal.main_arg1)
      ∧ r.2.mem ((c.tc : Thread Cert.DiffInRefIdeal.nD Cert.DiffInRefIdeal.τ).loc Cert.DiffInRefIdeal.main_arg2) = m ((c.tc : Thread Cert.DiffInRefIdeal.nD Cert.DiffInRefIdeal.τ).loc Cert.DiffInRefIdeal.main_arg2))
      ∧ r.2.sem = fun _ => 0)

def quiescent_DiffInS [hDiffInS : Cert.DiffInS.Facts] : Prop :=
  ∀ (m : (ℓ : Loc Cert.DiffInS.nD Cert.DiffInS.τ Cert.DiffInS.sig) → Buf (Elt Bits) ℓ) (g : Dev Cert.DiffInS.nD → PrngReg), Pre_DiffInS m →
    θ_run (Cert.DiffInS.defs (F := Bits)) (onTc (τ := Cert.DiffInS.τ) (Cert.DiffInS.main (F := Bits))) ⟨m, fun _ => 0, g⟩ (fun r => (∀ c : Dev Cert.DiffInS.nD,
      r.2.mem ((c.tc : Thread Cert.DiffInS.nD Cert.DiffInS.τ).loc Cert.DiffInS.main_arg0) = m ((c.tc : Thread Cert.DiffInS.nD Cert.DiffInS.τ).loc Cert.DiffInS.main_arg0)
      ∧ r.2.mem ((c.tc : Thread Cert.DiffInS.nD Cert.DiffInS.τ).loc Cert.DiffInS.main_arg1) = m ((c.tc : Thread Cert.DiffInS.nD Cert.DiffInS.τ).loc Cert.DiffInS.main_arg1)
      ∧ r.2.mem ((c.tc : Thread Cert.DiffInS.nD Cert.DiffInS.τ).loc Cert.DiffInS.main_arg2) = m ((c.tc : Thread Cert.DiffInS.nD Cert.DiffInS.τ).loc Cert.DiffInS.main_arg2))
      ∧ r.2.sem = fun _ => 0)

def quiescent_DiffInSIdeal [hDiffInSIdeal : Cert.DiffInSIdeal.Facts] : Prop :=
  ∀ (m : (ℓ : Loc Cert.DiffInSIdeal.nD Cert.DiffInSIdeal.τ Cert.DiffInSIdeal.sig) → Buf (Elt Ideal) ℓ) (g : Dev Cert.DiffInSIdeal.nD → PrngReg), Pre_DiffInSIdeal m →
    θ_run (Cert.DiffInSIdeal.defs (F := Ideal)) (onTc (τ := Cert.DiffInSIdeal.τ) (Cert.DiffInSIdeal.main (F := Ideal))) ⟨m, fun _ => 0, g⟩ (fun r => (∀ c : Dev Cert.DiffInSIdeal.nD,
      r.2.mem ((c.tc : Thread Cert.DiffInSIdeal.nD Cert.DiffInSIdeal.τ).loc Cert.DiffInSIdeal.main_arg0) = m ((c.tc : Thread Cert.DiffInSIdeal.nD Cert.DiffInSIdeal.τ).loc Cert.DiffInSIdeal.main_arg0)
      ∧ r.2.mem ((c.tc : Thread Cert.DiffInSIdeal.nD Cert.DiffInSIdeal.τ).loc Cert.DiffInSIdeal.main_arg1) = m ((c.tc : Thread Cert.DiffInSIdeal.nD Cert.DiffInSIdeal.τ).loc Cert.DiffInSIdeal.main_arg1)
      ∧ r.2.mem ((c.tc : Thread Cert.DiffInSIdeal.nD Cert.DiffInSIdeal.τ).loc Cert.DiffInSIdeal.main_arg2) = m ((c.tc : Thread Cert.DiffInSIdeal.nD Cert.DiffInSIdeal.τ).loc Cert.DiffInSIdeal.main_arg2))
      ∧ r.2.sem = fun _ => 0)

def quiescent_DiffInSRefIdeal [hDiffInSRefIdeal : Cert.DiffInSRefIdeal.Facts] : Prop :=
  ∀ (m : (ℓ : Loc Cert.DiffInSRefIdeal.nD Cert.DiffInSRefIdeal.τ Cert.DiffInSRefIdeal.sig) → Buf (Elt Ideal) ℓ) (g : Dev Cert.DiffInSRefIdeal.nD → PrngReg), Pre_DiffInSRefIdeal m →
    θ_run (Cert.DiffInSRefIdeal.defs (F := Ideal)) (onTc (τ := Cert.DiffInSRefIdeal.τ) (Cert.DiffInSRefIdeal.main (F := Ideal))) ⟨m, fun _ => 0, g⟩ (fun r => (∀ c : Dev Cert.DiffInSRefIdeal.nD,
      r.2.mem ((c.tc : Thread Cert.DiffInSRefIdeal.nD Cert.DiffInSRefIdeal.τ).loc Cert.DiffInSRefIdeal.main_arg0) = m ((c.tc : Thread Cert.DiffInSRefIdeal.nD Cert.DiffInSRefIdeal.τ).loc Cert.DiffInSRefIdeal.main_arg0)
      ∧ r.2.mem ((c.tc : Thread Cert.DiffInSRefIdeal.nD Cert.DiffInSRefIdeal.τ).loc Cert.DiffInSRefIdeal.main_arg1) = m ((c.tc : Thread Cert.DiffInSRefIdeal.nD Cert.DiffInSRefIdeal.τ).loc Cert.DiffInSRefIdeal.main_arg1)
      ∧ r.2.mem ((c.tc : Thread Cert.DiffInSRefIdeal.nD Cert.DiffInSRefIdeal.τ).loc Cert.DiffInSRefIdeal.main_arg2) = m ((c.tc : Thread Cert.DiffInSRefIdeal.nD Cert.DiffInSRefIdeal.τ).loc Cert.DiffInSRefIdeal.main_arg2))
      ∧ r.2.sem = fun _ => 0)

def quiescent_SwaIn [hSwaIn : Cert.SwaIn.Facts] : Prop :=
  ∀ (m : (ℓ : Loc Cert.SwaIn.nD Cert.SwaIn.τ Cert.SwaIn.sig) → Buf (Elt Bits) ℓ) (g : Dev Cert.SwaIn.nD → PrngReg), Pre_SwaIn m →
    θ_run (Cert.SwaIn.defs (F := Bits)) (onTc (τ := Cert.SwaIn.τ) (Cert.SwaIn.main (F := Bits))) ⟨m, fun _ => 0, g⟩ (fun r => (∀ c : Dev Cert.SwaIn.nD,
      r.2.mem ((c.tc : Thread Cert.SwaIn.nD Cert.SwaIn.τ).loc Cert.SwaIn.main_arg0) = m ((c.tc : Thread Cert.SwaIn.nD Cert.SwaIn.τ).loc Cert.SwaIn.main_arg0)
      ∧ r.2.mem ((c.tc : Thread Cert.SwaIn.nD Cert.SwaIn.τ).loc Cert.SwaIn.main_arg1) = m ((c.tc : Thread Cert.SwaIn.nD Cert.SwaIn.τ).loc Cert.SwaIn.main_arg1)
      ∧ r.2.mem ((c.tc : Thread Cert.SwaIn.nD Cert.SwaIn.τ).loc Cert.SwaIn.main_arg2) = m ((c.tc : Thread Cert.SwaIn.nD Cert.SwaIn.τ).loc Cert.SwaIn.main_arg2))
      ∧ r.2.sem = fun _ => 0)

def quiescent_SwaInIdeal [hSwaInIdeal : Cert.SwaInIdeal.Facts] : Prop :=
  ∀ (m : (ℓ : Loc Cert.SwaInIdeal.nD Cert.SwaInIdeal.τ Cert.SwaInIdeal.sig) → Buf (Elt Ideal) ℓ) (g : Dev Cert.SwaInIdeal.nD → PrngReg), Pre_SwaInIdeal m →
    θ_run (Cert.SwaInIdeal.defs (F := Ideal)) (onTc (τ := Cert.SwaInIdeal.τ) (Cert.SwaInIdeal.main (F := Ideal))) ⟨m, fun _ => 0, g⟩ (fun r => (∀ c : Dev Cert.SwaInIdeal.nD,
      r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
      ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1)
      ∧ r.2.mem ((c.tc : Thread Cert.SwaInIdeal.nD Cert.SwaInIdeal.τ).loc Cert.SwaInIdeal.main_arg2) = m ((c.tc : Thread Cert.SwaInIdeal.nD Cert.SwaInIdeal.τ).loc Cert.SwaInIdeal.main_arg2))
      ∧ r.2.sem = fun _ => 0)

def quiescent_SwaInRefIdeal [hSwaInRefIdeal : Cert.SwaInRefIdeal.Facts] : Prop :=
  ∀ (m : (ℓ : Loc Cert.SwaInRefIdeal.nD Cert.SwaInRefIdeal.τ Cert.SwaInRefIdeal.sig) → Buf (Elt Ideal) ℓ) (g : Dev Cert.SwaInRefIdeal.nD → PrngReg), Pre_SwaInRefIdeal m →
    θ_run (Cert.SwaInRefIdeal.defs (F := Ideal)) (onTc (τ := Cert.SwaInRefIdeal.τ) (Cert.SwaInRefIdeal.main (F := Ideal))) ⟨m, fun _ => 0, g⟩ (fun r => (∀ c : Dev Cert.SwaInRefIdeal.nD,
      r.2.mem ((c.tc : Thread Cert.SwaInRefIdeal.nD Cert.SwaInRefIdeal.τ).loc Cert.SwaInRefIdeal.main_arg0) = m ((c.tc : Thread Cert.SwaInRefIdeal.nD Cert.SwaInRefIdeal.τ).loc Cert.SwaInRefIdeal.main_arg0)
      ∧ r.2.mem ((c.tc : Thread Cert.SwaInRefIdeal.nD Cert.SwaInRefIdeal.τ).loc Cert.SwaInRefIdeal.main_arg1) = m ((c.tc : Thread Cert.SwaInRefIdeal.nD Cert.SwaInRefIdeal.τ).loc Cert.SwaInRefIdeal.main_arg1)
      ∧ r.2.mem ((c.tc : Thread Cert.SwaInRefIdeal.nD Cert.SwaInRefIdeal.τ).loc Cert.SwaInRefIdeal.main_arg2) = m ((c.tc : Thread Cert.SwaInRefIdeal.nD Cert.SwaInRefIdeal.τ).loc Cert.SwaInRefIdeal.main_arg2))
      ∧ r.2.sem = fun _ => 0)

def quiescent_DnOut [hDnOut : Cert.DnOut.Facts] : Prop :=
  ∀ (m : (ℓ : Loc Cert.DnOut.nD Cert.DnOut.τ Cert.DnOut.sig) → Buf (Elt Bits) ℓ) (g : Dev Cert.DnOut.nD → PrngReg), Pre_DnOut m →
    θ_run (Cert.DnOut.defs (F := Bits)) (onTc (τ := Cert.DnOut.τ) (Cert.DnOut.main (F := Bits))) ⟨m, fun _ => 0, g⟩ (fun r => (∀ c : Dev Cert.DnOut.nD,
      r.2.mem ((c.tc : Thread Cert.DnOut.nD Cert.DnOut.τ).loc Cert.DnOut.main_arg0) = m ((c.tc : Thread Cert.DnOut.nD Cert.DnOut.τ).loc Cert.DnOut.main_arg0)
      ∧ r.2.mem ((c.tc : Thread Cert.DnOut.nD Cert.DnOut.τ).loc Cert.DnOut.main_arg1) = m ((c.tc : Thread Cert.DnOut.nD Cert.DnOut.τ).loc Cert.DnOut.main_arg1)
      ∧ r.2.mem ((c.tc : Thread Cert.DnOut.nD Cert.DnOut.τ).loc Cert.DnOut.main_arg2) = m ((c.tc : Thread Cert.DnOut.nD Cert.DnOut.τ).loc Cert.DnOut.main_arg2)
      ∧ r.2.mem ((c.tc : Thread Cert.DnOut.nD Cert.DnOut.τ).loc Cert.DnOut.main_arg3) = m ((c.tc : Thread Cert.DnOut.nD Cert.DnOut.τ).loc Cert.DnOut.main_arg3)
      ∧ r.2.mem ((c.tc : Thread Cert.DnOut.nD Cert.DnOut.τ).loc Cert.DnOut.main_arg4) = m ((c.tc : Thread Cert.DnOut.nD Cert.DnOut.τ).loc Cert.DnOut.main_arg4)
      ∧ r.2.mem ((c.tc : Thread Cert.DnOut.nD Cert.DnOut.τ).loc Cert.DnOut.main_arg5) = m ((c.tc : Thread Cert.DnOut.nD Cert.DnOut.τ).loc Cert.DnOut.main_arg5))
      ∧ r.2.sem = fun _ => 0)

def quiescent_DnOutIdeal [hDnOutIdeal : Cert.DnOutIdeal.Facts] : Prop :=
  ∀ (m : (ℓ : Loc Cert.DnOutIdeal.nD Cert.DnOutIdeal.τ Cert.DnOutIdeal.sig) → Buf (Elt Ideal) ℓ) (g : Dev Cert.DnOutIdeal.nD → PrngReg), Pre_DnOutIdeal m →
    θ_run (Cert.DnOutIdeal.defs (F := Ideal)) (onTc (τ := Cert.DnOutIdeal.τ) (Cert.DnOutIdeal.main (F := Ideal))) ⟨m, fun _ => 0, g⟩ (fun r => (∀ c : Dev Cert.DnOutIdeal.nD,
      r.2.mem ((c.tc : Thread Cert.DnOutIdeal.nD Cert.DnOutIdeal.τ).loc Cert.DnOutIdeal.main_arg0) = m ((c.tc : Thread Cert.DnOutIdeal.nD Cert.DnOutIdeal.τ).loc Cert.DnOutIdeal.main_arg0)
      ∧ r.2.mem ((c.tc : Thread Cert.DnOutIdeal.nD Cert.DnOutIdeal.τ).loc Cert.DnOutIdeal.main_arg1) = m ((c.tc : Thread Cert.DnOutIdeal.nD Cert.DnOutIdeal.τ).loc Cert.DnOutIdeal.main_arg1)
      ∧ r.2.mem ((c.tc : Thread Cert.DnOutIdeal.nD Cert.DnOutIdeal.τ).loc Cert.DnOutIdeal.main_arg2) = m ((c.tc : Thread Cert.DnOutIdeal.nD Cert.DnOutIdeal.τ).loc Cert.DnOutIdeal.main_arg2)
      ∧ r.2.mem ((c.tc : Thread Cert.DnOutIdeal.nD Cert.DnOutIdeal.τ).loc Cert.DnOutIdeal.main_arg3) = m ((c.tc : Thread Cert.DnOutIdeal.nD Cert.DnOutIdeal.τ).loc Cert.DnOutIdeal.main_arg3)
      ∧ r.2.mem ((c.tc : Thread Cert.DnOutIdeal.nD Cert.DnOutIdeal.τ).loc Cert.DnOutIdeal.main_arg4) = m ((c.tc : Thread Cert.DnOutIdeal.nD Cert.DnOutIdeal.τ).loc Cert.DnOutIdeal.main_arg4)
      ∧ r.2.mem ((c.tc : Thread Cert.DnOutIdeal.nD Cert.DnOutIdeal.τ).loc Cert.DnOutIdeal.main_arg5) = m ((c.tc : Thread Cert.DnOutIdeal.nD Cert.DnOutIdeal.τ).loc Cert.DnOutIdeal.main_arg5))
      ∧ r.2.sem = fun _ => 0)

def quiescent_DnOutRefIdeal [hDnOutRefIdeal : Cert.DnOutRefIdeal.Facts] : Prop :=
  ∀ (m : (ℓ : Loc Cert.DnOutRefIdeal.nD Cert.DnOutRefIdeal.τ Cert.DnOutRefIdeal.sig) → Buf (Elt Ideal) ℓ) (g : Dev Cert.DnOutRefIdeal.nD → PrngReg), Pre_DnOutRefIdeal m →
    θ_run (Cert.DnOutRefIdeal.defs (F := Ideal)) (onTc (τ := Cert.DnOutRefIdeal.τ) (Cert.DnOutRefIdeal.main (F := Ideal))) ⟨m, fun _ => 0, g⟩ (fun r => (∀ c : Dev Cert.DnOutRefIdeal.nD,
      r.2.mem ((c.tc : Thread Cert.DnOutRefIdeal.nD Cert.DnOutRefIdeal.τ).loc Cert.DnOutRefIdeal.main_arg0) = m ((c.tc : Thread Cert.DnOutRefIdeal.nD Cert.DnOutRefIdeal.τ).loc Cert.DnOutRefIdeal.main_arg0)
      ∧ r.2.mem ((c.tc : Thread Cert.DnOutRefIdeal.nD Cert.DnOutRefIdeal.τ).loc Cert.DnOutRefIdeal.main_arg1) = m ((c.tc : Thread Cert.DnOutRefIdeal.nD Cert.DnOutRefIdeal.τ).loc Cert.DnOutRefIdeal.main_arg1)
      ∧ r.2.mem ((c.tc : Thread Cert.DnOutRefIdeal.nD Cert.DnOutRefIdeal.τ).loc Cert.DnOutRefIdeal.main_arg2) = m ((c.tc : Thread Cert.DnOutRefIdeal.nD Cert.DnOutRefIdeal.τ).loc Cert.DnOutRefIdeal.main_arg2)
      ∧ r.2.mem ((c.tc : Thread Cert.DnOutRefIdeal.nD Cert.DnOutRefIdeal.τ).loc Cert.DnOutRefIdeal.main_arg3) = m ((c.tc : Thread Cert.DnOutRefIdeal.nD Cert.DnOutRefIdeal.τ).loc Cert.DnOutRefIdeal.main_arg3)
      ∧ r.2.mem ((c.tc : Thread Cert.DnOutRefIdeal.nD Cert.DnOutRefIdeal.τ).loc Cert.DnOutRefIdeal.main_arg4) = m ((c.tc : Thread Cert.DnOutRefIdeal.nD Cert.DnOutRefIdeal.τ).loc Cert.DnOutRefIdeal.main_arg4)
      ∧ r.2.mem ((c.tc : Thread Cert.DnOutRefIdeal.nD Cert.DnOutRefIdeal.τ).loc Cert.DnOutRefIdeal.main_arg5) = m ((c.tc : Thread Cert.DnOutRefIdeal.nD Cert.DnOutRefIdeal.τ).loc Cert.DnOutRefIdeal.main_arg5))
      ∧ r.2.sem = fun _ => 0)

def quiescent_DnOutS [hDnOutS : Cert.DnOutS.Facts] : Prop :=
  ∀ (m : (ℓ : Loc Cert.DnOutS.nD Cert.DnOutS.τ Cert.DnOutS.sig) → Buf (Elt Bits) ℓ) (g : Dev Cert.DnOutS.nD → PrngReg), Pre_DnOutS m →
    θ_run (Cert.DnOutS.defs (F := Bits)) (onTc (τ := Cert.DnOutS.τ) (Cert.DnOutS.main (F := Bits))) ⟨m, fun _ => 0, g⟩ (fun r => (∀ c : Dev Cert.DnOutS.nD,
      r.2.mem ((c.tc : Thread Cert.DnOutS.nD Cert.DnOutS.τ).loc Cert.DnOutS.main_arg0) = m ((c.tc : Thread Cert.DnOutS.nD Cert.DnOutS.τ).loc Cert.DnOutS.main_arg0)
      ∧ r.2.mem ((c.tc : Thread Cert.DnOutS.nD Cert.DnOutS.τ).loc Cert.DnOutS.main_arg1) = m ((c.tc : Thread Cert.DnOutS.nD Cert.DnOutS.τ).loc Cert.DnOutS.main_arg1)
      ∧ r.2.mem ((c.tc : Thread Cert.DnOutS.nD Cert.DnOutS.τ).loc Cert.DnOutS.main_arg2) = m ((c.tc : Thread Cert.DnOutS.nD Cert.DnOutS.τ).loc Cert.DnOutS.main_arg2)
      ∧ r.2.mem ((c.tc : Thread Cert.DnOutS.nD Cert.DnOutS.τ).loc Cert.DnOutS.main_arg3) = m ((c.tc : Thread Cert.DnOutS.nD Cert.DnOutS.τ).loc Cert.DnOutS.main_arg3)
      ∧ r.2.mem ((c.tc : Thread Cert.DnOutS.nD Cert.DnOutS.τ).loc Cert.DnOutS.main_arg4) = m ((c.tc : Thread Cert.DnOutS.nD Cert.DnOutS.τ).loc Cert.DnOutS.main_arg4)
      ∧ r.2.mem ((c.tc : Thread Cert.DnOutS.nD Cert.DnOutS.τ).loc Cert.DnOutS.main_arg5) = m ((c.tc : Thread Cert.DnOutS.nD Cert.DnOutS.τ).loc Cert.DnOutS.main_arg5))
      ∧ r.2.sem = fun _ => 0)

def quiescent_DnOutSIdeal [hDnOutSIdeal : Cert.DnOutSIdeal.Facts] : Prop :=
  ∀ (m : (ℓ : Loc Cert.DnOutSIdeal.nD Cert.DnOutSIdeal.τ Cert.DnOutSIdeal.sig) → Buf (Elt Ideal) ℓ) (g : Dev Cert.DnOutSIdeal.nD → PrngReg), Pre_DnOutSIdeal m →
    θ_run (Cert.DnOutSIdeal.defs (F := Ideal)) (onTc (τ := Cert.DnOutSIdeal.τ) (Cert.DnOutSIdeal.main (F := Ideal))) ⟨m, fun _ => 0, g⟩ (fun r => (∀ c : Dev Cert.DnOutSIdeal.nD,
      r.2.mem ((c.tc : Thread Cert.DnOutSIdeal.nD Cert.DnOutSIdeal.τ).loc Cert.DnOutSIdeal.main_arg0) = m ((c.tc : Thread Cert.DnOutSIdeal.nD Cert.DnOutSIdeal.τ).loc Cert.DnOutSIdeal.main_arg0)
      ∧ r.2.mem ((c.tc : Thread Cert.DnOutSIdeal.nD Cert.DnOutSIdeal.τ).loc Cert.DnOutSIdeal.main_arg1) = m ((c.tc : Thread Cert.DnOutSIdeal.nD Cert.DnOutSIdeal.τ).loc Cert.DnOutSIdeal.main_arg1)
      ∧ r.2.mem ((c.tc : Thread Cert.DnOutSIdeal.nD Cert.DnOutSIdeal.τ).loc Cert.DnOutSIdeal.main_arg2) = m ((c.tc : Thread Cert.DnOutSIdeal.nD Cert.DnOutSIdeal.τ).loc Cert.DnOutSIdeal.main_arg2)
      ∧ r.2.mem ((c.tc : Thread Cert.DnOutSIdeal.nD Cert.DnOutSIdeal.τ).loc Cert.DnOutSIdeal.main_arg3) = m ((c.tc : Thread Cert.DnOutSIdeal.nD Cert.DnOutSIdeal.τ).loc Cert.DnOutSIdeal.main_arg3)
      ∧ r.2.mem ((c.tc : Thread Cert.DnOutSIdeal.nD Cert.DnOutSIdeal.τ).loc Cert.DnOutSIdeal.main_arg4) = m ((c.tc : Thread Cert.DnOutSIdeal.nD Cert.DnOutSIdeal.τ).loc Cert.DnOutSIdeal.main_arg4)
      ∧ r.2.mem ((c.tc : Thread Cert.DnOutSIdeal.nD Cert.DnOutSIdeal.τ).loc Cert.DnOutSIdeal.main_arg5) = m ((c.tc : Thread Cert.DnOutSIdeal.nD Cert.DnOutSIdeal.τ).loc Cert.DnOutSIdeal.main_arg5))
      ∧ r.2.sem = fun _ => 0)

def quiescent_DnOutSRefIdeal [hDnOutSRefIdeal : Cert.DnOutSRefIdeal.Facts] : Prop :=
  ∀ (m : (ℓ : Loc Cert.DnOutSRefIdeal.nD Cert.DnOutSRefIdeal.τ Cert.DnOutSRefIdeal.sig) → Buf (Elt Ideal) ℓ) (g : Dev Cert.DnOutSRefIdeal.nD → PrngReg), Pre_DnOutSRefIdeal m →
    θ_run (Cert.DnOutSRefIdeal.defs (F := Ideal)) (onTc (τ := Cert.DnOutSRefIdeal.τ) (Cert.DnOutSRefIdeal.main (F := Ideal))) ⟨m, fun _ => 0, g⟩ (fun r => (∀ c : Dev Cert.DnOutSRefIdeal.nD,
      r.2.mem ((c.tc : Thread Cert.DnOutSRefIdeal.nD Cert.DnOutSRefIdeal.τ).loc Cert.DnOutSRefIdeal.main_arg0) = m ((c.tc : Thread Cert.DnOutSRefIdeal.nD Cert.DnOutSRefIdeal.τ).loc Cert.DnOutSRefIdeal.main_arg0)
      ∧ r.2.mem ((c.tc : Thread Cert.DnOutSRefIdeal.nD Cert.DnOutSRefIdeal.τ).loc Cert.DnOutSRefIdeal.main_arg1) = m ((c.tc : Thread Cert.DnOutSRefIdeal.nD Cert.DnOutSRefIdeal.τ).loc Cert.DnOutSRefIdeal.main_arg1)
      ∧ r.2.mem ((c.tc : Thread Cert.DnOutSRefIdeal.nD Cert.DnOutSRefIdeal.τ).loc Cert.DnOutSRefIdeal.main_arg2) = m ((c.tc : Thread Cert.DnOutSRefIdeal.nD Cert.DnOutSRefIdeal.τ).loc Cert.DnOutSRefIdeal.main_arg2)
      ∧ r.2.mem ((c.tc : Thread Cert.DnOutSRefIdeal.nD Cert.DnOutSRefIdeal.τ).loc Cert.DnOutSRefIdeal.main_arg3) = m ((c.tc : Thread Cert.DnOutSRefIdeal.nD Cert.DnOutSRefIdeal.τ).loc Cert.DnOutSRefIdeal.main_arg3)
      ∧ r.2.mem ((c.tc : Thread Cert.DnOutSRefIdeal.nD Cert.DnOutSRefIdeal.τ).loc Cert.DnOutSRefIdeal.main_arg4) = m ((c.tc : Thread Cert.DnOutSRefIdeal.nD Cert.DnOutSRefIdeal.τ).loc Cert.DnOutSRefIdeal.main_arg4)
      ∧ r.2.mem ((c.tc : Thread Cert.DnOutSRefIdeal.nD Cert.DnOutSRefIdeal.τ).loc Cert.DnOutSRefIdeal.main_arg5) = m ((c.tc : Thread Cert.DnOutSRefIdeal.nD Cert.DnOutSRefIdeal.τ).loc Cert.DnOutSRefIdeal.main_arg5))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5))
      ∧ r.2.sem = fun _ => 0)

def quiescent_DnIn [hDnIn : Cert.DnIn.Facts] : Prop :=
  ∀ (m : (ℓ : Loc Cert.DnIn.nD Cert.DnIn.τ Cert.DnIn.sig) → Buf (Elt Bits) ℓ) (g : Dev Cert.DnIn.nD → PrngReg), Pre_DnIn m →
    θ_run (Cert.DnIn.defs (F := Bits)) (onTc (τ := Cert.DnIn.τ) (Cert.DnIn.main (F := Bits))) ⟨m, fun _ => 0, g⟩ (fun r => (∀ c : Dev Cert.DnIn.nD,
      r.2.mem ((c.tc : Thread Cert.DnIn.nD Cert.DnIn.τ).loc Cert.DnIn.main_arg0) = m ((c.tc : Thread Cert.DnIn.nD Cert.DnIn.τ).loc Cert.DnIn.main_arg0)
      ∧ r.2.mem ((c.tc : Thread Cert.DnIn.nD Cert.DnIn.τ).loc Cert.DnIn.main_arg1) = m ((c.tc : Thread Cert.DnIn.nD Cert.DnIn.τ).loc Cert.DnIn.main_arg1)
      ∧ r.2.mem ((c.tc : Thread Cert.DnIn.nD Cert.DnIn.τ).loc Cert.DnIn.main_arg2) = m ((c.tc : Thread Cert.DnIn.nD Cert.DnIn.τ).loc Cert.DnIn.main_arg2)
      ∧ r.2.mem ((c.tc : Thread Cert.DnIn.nD Cert.DnIn.τ).loc Cert.DnIn.main_arg3) = m ((c.tc : Thread Cert.DnIn.nD Cert.DnIn.τ).loc Cert.DnIn.main_arg3)
      ∧ r.2.mem ((c.tc : Thread Cert.DnIn.nD Cert.DnIn.τ).loc Cert.DnIn.main_arg4) = m ((c.tc : Thread Cert.DnIn.nD Cert.DnIn.τ).loc Cert.DnIn.main_arg4)
      ∧ r.2.mem ((c.tc : Thread Cert.DnIn.nD Cert.DnIn.τ).loc Cert.DnIn.main_arg5) = m ((c.tc : Thread Cert.DnIn.nD Cert.DnIn.τ).loc Cert.DnIn.main_arg5))
      ∧ r.2.sem = fun _ => 0)

def quiescent_DnInIdeal [hDnInIdeal : Cert.DnInIdeal.Facts] : Prop :=
  ∀ (m : (ℓ : Loc Cert.DnInIdeal.nD Cert.DnInIdeal.τ Cert.DnInIdeal.sig) → Buf (Elt Ideal) ℓ) (g : Dev Cert.DnInIdeal.nD → PrngReg), Pre_DnInIdeal m →
    θ_run (Cert.DnInIdeal.defs (F := Ideal)) (onTc (τ := Cert.DnInIdeal.τ) (Cert.DnInIdeal.main (F := Ideal))) ⟨m, fun _ => 0, g⟩ (fun r => (∀ c : Dev Cert.DnInIdeal.nD,
      r.2.mem ((c.tc : Thread Cert.DnInIdeal.nD Cert.DnInIdeal.τ).loc Cert.DnInIdeal.main_arg0) = m ((c.tc : Thread Cert.DnInIdeal.nD Cert.DnInIdeal.τ).loc Cert.DnInIdeal.main_arg0)
      ∧ r.2.mem ((c.tc : Thread Cert.DnInIdeal.nD Cert.DnInIdeal.τ).loc Cert.DnInIdeal.main_arg1) = m ((c.tc : Thread Cert.DnInIdeal.nD Cert.DnInIdeal.τ).loc Cert.DnInIdeal.main_arg1)
      ∧ r.2.mem ((c.tc : Thread Cert.DnInIdeal.nD Cert.DnInIdeal.τ).loc Cert.DnInIdeal.main_arg2) = m ((c.tc : Thread Cert.DnInIdeal.nD Cert.DnInIdeal.τ).loc Cert.DnInIdeal.main_arg2)
      ∧ r.2.mem ((c.tc : Thread Cert.DnInIdeal.nD Cert.DnInIdeal.τ).loc Cert.DnInIdeal.main_arg3) = m ((c.tc : Thread Cert.DnInIdeal.nD Cert.DnInIdeal.τ).loc Cert.DnInIdeal.main_arg3)
      ∧ r.2.mem ((c.tc : Thread Cert.DnInIdeal.nD Cert.DnInIdeal.τ).loc Cert.DnInIdeal.main_arg4) = m ((c.tc : Thread Cert.DnInIdeal.nD Cert.DnInIdeal.τ).loc Cert.DnInIdeal.main_arg4)
      ∧ r.2.mem ((c.tc : Thread Cert.DnInIdeal.nD Cert.DnInIdeal.τ).loc Cert.DnInIdeal.main_arg5) = m ((c.tc : Thread Cert.DnInIdeal.nD Cert.DnInIdeal.τ).loc Cert.DnInIdeal.main_arg5))
      ∧ r.2.sem = fun _ => 0)

def quiescent_DnInRefIdeal [hDnInRefIdeal : Cert.DnInRefIdeal.Facts] : Prop :=
  ∀ (m : (ℓ : Loc Cert.DnInRefIdeal.nD Cert.DnInRefIdeal.τ Cert.DnInRefIdeal.sig) → Buf (Elt Ideal) ℓ) (g : Dev Cert.DnInRefIdeal.nD → PrngReg), Pre_DnInRefIdeal m →
    θ_run (Cert.DnInRefIdeal.defs (F := Ideal)) (onTc (τ := Cert.DnInRefIdeal.τ) (Cert.DnInRefIdeal.main (F := Ideal))) ⟨m, fun _ => 0, g⟩ (fun r => (∀ c : Dev Cert.DnInRefIdeal.nD,
      r.2.mem ((c.tc : Thread Cert.DnInRefIdeal.nD Cert.DnInRefIdeal.τ).loc Cert.DnInRefIdeal.main_arg0) = m ((c.tc : Thread Cert.DnInRefIdeal.nD Cert.DnInRefIdeal.τ).loc Cert.DnInRefIdeal.main_arg0)
      ∧ r.2.mem ((c.tc : Thread Cert.DnInRefIdeal.nD Cert.DnInRefIdeal.τ).loc Cert.DnInRefIdeal.main_arg1) = m ((c.tc : Thread Cert.DnInRefIdeal.nD Cert.DnInRefIdeal.τ).loc Cert.DnInRefIdeal.main_arg1)
      ∧ r.2.mem ((c.tc : Thread Cert.DnInRefIdeal.nD Cert.DnInRefIdeal.τ).loc Cert.DnInRefIdeal.main_arg2) = m ((c.tc : Thread Cert.DnInRefIdeal.nD Cert.DnInRefIdeal.τ).loc Cert.DnInRefIdeal.main_arg2)
      ∧ r.2.mem ((c.tc : Thread Cert.DnInRefIdeal.nD Cert.DnInRefIdeal.τ).loc Cert.DnInRefIdeal.main_arg3) = m ((c.tc : Thread Cert.DnInRefIdeal.nD Cert.DnInRefIdeal.τ).loc Cert.DnInRefIdeal.main_arg3)
      ∧ r.2.mem ((c.tc : Thread Cert.DnInRefIdeal.nD Cert.DnInRefIdeal.τ).loc Cert.DnInRefIdeal.main_arg4) = m ((c.tc : Thread Cert.DnInRefIdeal.nD Cert.DnInRefIdeal.τ).loc Cert.DnInRefIdeal.main_arg4)
      ∧ r.2.mem ((c.tc : Thread Cert.DnInRefIdeal.nD Cert.DnInRefIdeal.τ).loc Cert.DnInRefIdeal.main_arg5) = m ((c.tc : Thread Cert.DnInRefIdeal.nD Cert.DnInRefIdeal.τ).loc Cert.DnInRefIdeal.main_arg5))
      ∧ r.2.sem = fun _ => 0)

def quiescent_SwaDec [hSwaDec : Cert.SwaDec.Facts] : Prop :=
  ∀ (m : (ℓ : Loc Cert.SwaDec.nD Cert.SwaDec.τ Cert.SwaDec.sig) → Buf (Elt Bits) ℓ) (g : Dev Cert.SwaDec.nD → PrngReg), Pre_SwaDec m →
    θ_run (Cert.SwaDec.defs (F := Bits)) (onTc (τ := Cert.SwaDec.τ) (Cert.SwaDec.main (F := Bits))) ⟨m, fun _ => 0, g⟩ (fun r => (∀ c : Dev Cert.SwaDec.nD,
      r.2.mem ((c.tc : Thread Cert.SwaDec.nD Cert.SwaDec.τ).loc Cert.SwaDec.main_arg0) = m ((c.tc : Thread Cert.SwaDec.nD Cert.SwaDec.τ).loc Cert.SwaDec.main_arg0)
      ∧ r.2.mem ((c.tc : Thread Cert.SwaDec.nD Cert.SwaDec.τ).loc Cert.SwaDec.main_arg1) = m ((c.tc : Thread Cert.SwaDec.nD Cert.SwaDec.τ).loc Cert.SwaDec.main_arg1)
      ∧ r.2.mem ((c.tc : Thread Cert.SwaDec.nD Cert.SwaDec.τ).loc Cert.SwaDec.main_arg2) = m ((c.tc : Thread Cert.SwaDec.nD Cert.SwaDec.τ).loc Cert.SwaDec.main_arg2)
      ∧ r.2.mem ((c.tc : Thread Cert.SwaDec.nD Cert.SwaDec.τ).loc Cert.SwaDec.main_arg3) = m ((c.tc : Thread Cert.SwaDec.nD Cert.SwaDec.τ).loc Cert.SwaDec.main_arg3)
      ∧ r.2.mem ((c.tc : Thread Cert.SwaDec.nD Cert.SwaDec.τ).loc Cert.SwaDec.main_arg4) = m ((c.tc : Thread Cert.SwaDec.nD Cert.SwaDec.τ).loc Cert.SwaDec.main_arg4)
      ∧ r.2.mem ((c.tc : Thread Cert.SwaDec.nD Cert.SwaDec.τ).loc Cert.SwaDec.main_arg5) = m ((c.tc : Thread Cert.SwaDec.nD Cert.SwaDec.τ).loc Cert.SwaDec.main_arg5)
      ∧ r.2.mem ((c.tc : Thread Cert.SwaDec.nD Cert.SwaDec.τ).loc Cert.SwaDec.main_arg6) = m ((c.tc : Thread Cert.SwaDec.nD Cert.SwaDec.τ).loc Cert.SwaDec.main_arg6))
      ∧ r.2.sem = fun _ => 0)

def quiescent_SwaDecIdeal [hSwaDecIdeal : Cert.SwaDecIdeal.Facts] : Prop :=
  ∀ (m : (ℓ : Loc Cert.SwaDecIdeal.nD Cert.SwaDecIdeal.τ Cert.SwaDecIdeal.sig) → Buf (Elt Ideal) ℓ) (g : Dev Cert.SwaDecIdeal.nD → PrngReg), Pre_SwaDecIdeal m →
    θ_run (Cert.SwaDecIdeal.defs (F := Ideal)) (onTc (τ := Cert.SwaDecIdeal.τ) (Cert.SwaDecIdeal.main (F := Ideal))) ⟨m, fun _ => 0, g⟩ (fun r => (∀ c : Dev Cert.SwaDecIdeal.nD,
      r.2.mem ((c.tc : Thread Cert.SwaDecIdeal.nD Cert.SwaDecIdeal.τ).loc Cert.SwaDecIdeal.main_arg0) = m ((c.tc : Thread Cert.SwaDecIdeal.nD Cert.SwaDecIdeal.τ).loc Cert.SwaDecIdeal.main_arg0)
      ∧ r.2.mem ((c.tc : Thread Cert.SwaDecIdeal.nD Cert.SwaDecIdeal.τ).loc Cert.SwaDecIdeal.main_arg1) = m ((c.tc : Thread Cert.SwaDecIdeal.nD Cert.SwaDecIdeal.τ).loc Cert.SwaDecIdeal.main_arg1)
      ∧ r.2.mem ((c.tc : Thread Cert.SwaDecIdeal.nD Cert.SwaDecIdeal.τ).loc Cert.SwaDecIdeal.main_arg2) = m ((c.tc : Thread Cert.SwaDecIdeal.nD Cert.SwaDecIdeal.τ).loc Cert.SwaDecIdeal.main_arg2)
      ∧ r.2.mem ((c.tc : Thread Cert.SwaDecIdeal.nD Cert.SwaDecIdeal.τ).loc Cert.SwaDecIdeal.main_arg3) = m ((c.tc : Thread Cert.SwaDecIdeal.nD Cert.SwaDecIdeal.τ).loc Cert.SwaDecIdeal.main_arg3)
      ∧ r.2.mem ((c.tc : Thread Cert.SwaDecIdeal.nD Cert.SwaDecIdeal.τ).loc Cert.SwaDecIdeal.main_arg4) = m ((c.tc : Thread Cert.SwaDecIdeal.nD Cert.SwaDecIdeal.τ).loc Cert.SwaDecIdeal.main_arg4)
      ∧ r.2.mem ((c.tc : Thread Cert.SwaDecIdeal.nD Cert.SwaDecIdeal.τ).loc Cert.SwaDecIdeal.main_arg5) = m ((c.tc : Thread Cert.SwaDecIdeal.nD Cert.SwaDecIdeal.τ).loc Cert.SwaDecIdeal.main_arg5)
      ∧ r.2.mem ((c.tc : Thread Cert.SwaDecIdeal.nD Cert.SwaDecIdeal.τ).loc Cert.SwaDecIdeal.main_arg6) = m ((c.tc : Thread Cert.SwaDecIdeal.nD Cert.SwaDecIdeal.τ).loc Cert.SwaDecIdeal.main_arg6))
      ∧ r.2.sem = fun _ => 0)

def quiescent_SwaDecIdeal_pre_decode_finite [hSwaDecIdeal : Cert.SwaDecIdeal.Facts] [hPre_decode_finite : Cert.Pre_decode_finite.Facts] : Prop :=
  ∀ (m : (ℓ : Loc Cert.SwaDecIdeal.nD Cert.SwaDecIdeal.τ Cert.SwaDecIdeal.sig) → Buf (Elt Ideal) ℓ) (g : Dev Cert.SwaDecIdeal.nD → PrngReg), Pre_SwaDecIdeal_decode_finite m →
    θ_run (Cert.SwaDecIdeal.defs (F := Ideal)) (onTc (τ := Cert.SwaDecIdeal.τ) (Cert.SwaDecIdeal.main (F := Ideal))) ⟨m, fun _ => 0, g⟩ (fun r => (∀ c : Dev Cert.SwaDecIdeal.nD,
      r.2.mem ((c.tc : Thread Cert.SwaDecIdeal.nD Cert.SwaDecIdeal.τ).loc Cert.SwaDecIdeal.main_arg0) = m ((c.tc : Thread Cert.SwaDecIdeal.nD Cert.SwaDecIdeal.τ).loc Cert.SwaDecIdeal.main_arg0)
      ∧ r.2.mem ((c.tc : Thread Cert.SwaDecIdeal.nD Cert.SwaDecIdeal.τ).loc Cert.SwaDecIdeal.main_arg1) = m ((c.tc : Thread Cert.SwaDecIdeal.nD Cert.SwaDecIdeal.τ).loc Cert.SwaDecIdeal.main_arg1)
      ∧ r.2.mem ((c.tc : Thread Cert.SwaDecIdeal.nD Cert.SwaDecIdeal.τ).loc Cert.SwaDecIdeal.main_arg2) = m ((c.tc : Thread Cert.SwaDecIdeal.nD Cert.SwaDecIdeal.τ).loc Cert.SwaDecIdeal.main_arg2)
      ∧ r.2.mem ((c.tc : Thread Cert.SwaDecIdeal.nD Cert.SwaDecIdeal.τ).loc Cert.SwaDecIdeal.main_arg3) = m ((c.tc : Thread Cert.SwaDecIdeal.nD Cert.SwaDecIdeal.τ).loc Cert.SwaDecIdeal.main_arg3)
      ∧ r.2.mem ((c.tc : Thread Cert.SwaDecIdeal.nD Cert.SwaDecIdeal.τ).loc Cert.SwaDecIdeal.main_arg4) = m ((c.tc : Thread Cert.SwaDecIdeal.nD Cert.SwaDecIdeal.τ).loc Cert.SwaDecIdeal.main_arg4)
      ∧ r.2.mem ((c.tc : Thread Cert.SwaDecIdeal.nD Cert.SwaDecIdeal.τ).loc Cert.SwaDecIdeal.main_arg5) = m ((c.tc : Thread Cert.SwaDecIdeal.nD Cert.SwaDecIdeal.τ).loc Cert.SwaDecIdeal.main_arg5)
      ∧ r.2.mem ((c.tc : Thread Cert.SwaDecIdeal.nD Cert.SwaDecIdeal.τ).loc Cert.SwaDecIdeal.main_arg6) = m ((c.tc : Thread Cert.SwaDecIdeal.nD Cert.SwaDecIdeal.τ).loc Cert.SwaDecIdeal.main_arg6))
      ∧ r.2.sem = fun _ => 0)

def quiescent_SwaDecRefIdeal [hSwaDecRefIdeal : Cert.SwaDecRefIdeal.Facts] : Prop :=
  ∀ (m : (ℓ : Loc Cert.SwaDecRefIdeal.nD Cert.SwaDecRefIdeal.τ Cert.SwaDecRefIdeal.sig) → Buf (Elt Ideal) ℓ) (g : Dev Cert.SwaDecRefIdeal.nD → PrngReg), Pre_SwaDecRefIdeal m →
    θ_run (Cert.SwaDecRefIdeal.defs (F := Ideal)) (onTc (τ := Cert.SwaDecRefIdeal.τ) (Cert.SwaDecRefIdeal.main (F := Ideal))) ⟨m, fun _ => 0, g⟩ (fun r => (∀ c : Dev Cert.SwaDecRefIdeal.nD,
      r.2.mem ((c.tc : Thread Cert.SwaDecRefIdeal.nD Cert.SwaDecRefIdeal.τ).loc Cert.SwaDecRefIdeal.main_arg0) = m ((c.tc : Thread Cert.SwaDecRefIdeal.nD Cert.SwaDecRefIdeal.τ).loc Cert.SwaDecRefIdeal.main_arg0)
      ∧ r.2.mem ((c.tc : Thread Cert.SwaDecRefIdeal.nD Cert.SwaDecRefIdeal.τ).loc Cert.SwaDecRefIdeal.main_arg1) = m ((c.tc : Thread Cert.SwaDecRefIdeal.nD Cert.SwaDecRefIdeal.τ).loc Cert.SwaDecRefIdeal.main_arg1)
      ∧ r.2.mem ((c.tc : Thread Cert.SwaDecRefIdeal.nD Cert.SwaDecRefIdeal.τ).loc Cert.SwaDecRefIdeal.main_arg2) = m ((c.tc : Thread Cert.SwaDecRefIdeal.nD Cert.SwaDecRefIdeal.τ).loc Cert.SwaDecRefIdeal.main_arg2)
      ∧ r.2.mem ((c.tc : Thread Cert.SwaDecRefIdeal.nD Cert.SwaDecRefIdeal.τ).loc Cert.SwaDecRefIdeal.main_arg3) = m ((c.tc : Thread Cert.SwaDecRefIdeal.nD Cert.SwaDecRefIdeal.τ).loc Cert.SwaDecRefIdeal.main_arg3)
      ∧ r.2.mem ((c.tc : Thread Cert.SwaDecRefIdeal.nD Cert.SwaDecRefIdeal.τ).loc Cert.SwaDecRefIdeal.main_arg4) = m ((c.tc : Thread Cert.SwaDecRefIdeal.nD Cert.SwaDecRefIdeal.τ).loc Cert.SwaDecRefIdeal.main_arg4)
      ∧ r.2.mem ((c.tc : Thread Cert.SwaDecRefIdeal.nD Cert.SwaDecRefIdeal.τ).loc Cert.SwaDecRefIdeal.main_arg5) = m ((c.tc : Thread Cert.SwaDecRefIdeal.nD Cert.SwaDecRefIdeal.τ).loc Cert.SwaDecRefIdeal.main_arg5)
      ∧ r.2.mem ((c.tc : Thread Cert.SwaDecRefIdeal.nD Cert.SwaDecRefIdeal.τ).loc Cert.SwaDecRefIdeal.main_arg6) = m ((c.tc : Thread Cert.SwaDecRefIdeal.nD Cert.SwaDecRefIdeal.τ).loc Cert.SwaDecRefIdeal.main_arg6))
      ∧ r.2.sem = fun _ => 0)

def quiescent_SwaDecRefIdeal_pre_decode_finite [hSwaDecRefIdeal : Cert.SwaDecRefIdeal.Facts] [hPre_decode_finite : Cert.Pre_decode_finite.Facts] : Prop :=
  ∀ (m : (ℓ : Loc Cert.SwaDecRefIdeal.nD Cert.SwaDecRefIdeal.τ Cert.SwaDecRefIdeal.sig) → Buf (Elt Ideal) ℓ) (g : Dev Cert.SwaDecRefIdeal.nD → PrngReg), Pre_SwaDecRefIdeal_decode_finite m →
    θ_run (Cert.SwaDecRefIdeal.defs (F := Ideal)) (onTc (τ := Cert.SwaDecRefIdeal.τ) (Cert.SwaDecRefIdeal.main (F := Ideal))) ⟨m, fun _ => 0, g⟩ (fun r => (∀ c : Dev Cert.SwaDecRefIdeal.nD,
      r.2.mem ((c.tc : Thread Cert.SwaDecRefIdeal.nD Cert.SwaDecRefIdeal.τ).loc Cert.SwaDecRefIdeal.main_arg0) = m ((c.tc : Thread Cert.SwaDecRefIdeal.nD Cert.SwaDecRefIdeal.τ).loc Cert.SwaDecRefIdeal.main_arg0)
      ∧ r.2.mem ((c.tc : Thread Cert.SwaDecRefIdeal.nD Cert.SwaDecRefIdeal.τ).loc Cert.SwaDecRefIdeal.main_arg1) = m ((c.tc : Thread Cert.SwaDecRefIdeal.nD Cert.SwaDecRefIdeal.τ).loc Cert.SwaDecRefIdeal.main_arg1)
      ∧ r.2.mem ((c.tc : Thread Cert.SwaDecRefIdeal.nD Cert.SwaDecRefIdeal.τ).loc Cert.SwaDecRefIdeal.main_arg2) = m ((c.tc : Thread Cert.SwaDecRefIdeal.nD Cert.SwaDecRefIdeal.τ).loc Cert.SwaDecRefIdeal.main_arg2)
      ∧ r.2.mem ((c.tc : Thread Cert.SwaDecRefIdeal.nD Cert.SwaDecRefIdeal.τ).loc Cert.SwaDecRefIdeal.main_arg3) = m ((c.tc : Thread Cert.SwaDecRefIdeal.nD Cert.SwaDecRefIdeal.τ).loc Cert.SwaDecRefIdeal.main_arg3)
      ∧ r.2.mem ((c.tc : Thread Cert.SwaDecRefIdeal.nD Cert.SwaDecRefIdeal.τ).loc Cert.SwaDecRefIdeal.main_arg4) = m ((c.tc : Thread Cert.SwaDecRefIdeal.nD Cert.SwaDecRefIdeal.τ).loc Cert.SwaDecRefIdeal.main_arg4)
      ∧ r.2.mem ((c.tc : Thread Cert.SwaDecRefIdeal.nD Cert.SwaDecRefIdeal.τ).loc Cert.SwaDecRefIdeal.main_arg5) = m ((c.tc : Thread Cert.SwaDecRefIdeal.nD Cert.SwaDecRefIdeal.τ).loc Cert.SwaDecRefIdeal.main_arg5)
      ∧ r.2.mem ((c.tc : Thread Cert.SwaDecRefIdeal.nD Cert.SwaDecRefIdeal.τ).loc Cert.SwaDecRefIdeal.main_arg6) = m ((c.tc : Thread Cert.SwaDecRefIdeal.nD Cert.SwaDecRefIdeal.τ).loc Cert.SwaDecRefIdeal.main_arg6))
      ∧ r.2.sem = fun _ => 0)

def quiescent_DnPrep [hDnPrep : Cert.DnPrep.Facts] : Prop :=
  ∀ (m : (ℓ : Loc Cert.DnPrep.nD Cert.DnPrep.τ Cert.DnPrep.sig) → Buf (Elt Bits) ℓ) (g : Dev Cert.DnPrep.nD → PrngReg), Pre_DnPrep m →
    θ_run (Cert.DnPrep.defs (F := Bits)) (onTc (τ := Cert.DnPrep.τ) (Cert.DnPrep.main (F := Bits))) ⟨m, fun _ => 0, g⟩ (fun r => (∀ c : Dev Cert.DnPrep.nD,
      r.2.mem ((c.tc : Thread Cert.DnPrep.nD Cert.DnPrep.τ).loc Cert.DnPrep.main_arg0) = m ((c.tc : Thread Cert.DnPrep.nD Cert.DnPrep.τ).loc Cert.DnPrep.main_arg0)
      ∧ r.2.mem ((c.tc : Thread Cert.DnPrep.nD Cert.DnPrep.τ).loc Cert.DnPrep.main_arg1) = m ((c.tc : Thread Cert.DnPrep.nD Cert.DnPrep.τ).loc Cert.DnPrep.main_arg1)
      ∧ r.2.mem ((c.tc : Thread Cert.DnPrep.nD Cert.DnPrep.τ).loc Cert.DnPrep.main_arg2) = m ((c.tc : Thread Cert.DnPrep.nD Cert.DnPrep.τ).loc Cert.DnPrep.main_arg2))
      ∧ r.2.sem = fun _ => 0)

def quiescent_DnPrepIdeal [hDnPrepIdeal : Cert.DnPrepIdeal.Facts] : Prop :=
  ∀ (m : (ℓ : Loc Cert.DnPrepIdeal.nD Cert.DnPrepIdeal.τ Cert.DnPrepIdeal.sig) → Buf (Elt Ideal) ℓ) (g : Dev Cert.DnPrepIdeal.nD → PrngReg), Pre_DnPrepIdeal m →
    θ_run (Cert.DnPrepIdeal.defs (F := Ideal)) (onTc (τ := Cert.DnPrepIdeal.τ) (Cert.DnPrepIdeal.main (F := Ideal))) ⟨m, fun _ => 0, g⟩ (fun r => (∀ c : Dev Cert.DnPrepIdeal.nD,
      r.2.mem ((c.tc : Thread Cert.DnPrepIdeal.nD Cert.DnPrepIdeal.τ).loc Cert.DnPrepIdeal.main_arg0) = m ((c.tc : Thread Cert.DnPrepIdeal.nD Cert.DnPrepIdeal.τ).loc Cert.DnPrepIdeal.main_arg0)
      ∧ r.2.mem ((c.tc : Thread Cert.DnPrepIdeal.nD Cert.DnPrepIdeal.τ).loc Cert.DnPrepIdeal.main_arg1) = m ((c.tc : Thread Cert.DnPrepIdeal.nD Cert.DnPrepIdeal.τ).loc Cert.DnPrepIdeal.main_arg1)
      ∧ r.2.mem ((c.tc : Thread Cert.DnPrepIdeal.nD Cert.DnPrepIdeal.τ).loc Cert.DnPrepIdeal.main_arg2) = m ((c.tc : Thread Cert.DnPrepIdeal.nD Cert.DnPrepIdeal.τ).loc Cert.DnPrepIdeal.main_arg2))
      ∧ r.2.sem = fun _ => 0)

def quiescent_DnPrepRefIdeal [hDnPrepRefIdeal : Cert.DnPrepRefIdeal.Facts] : Prop :=
  ∀ (m : (ℓ : Loc Cert.DnPrepRefIdeal.nD Cert.DnPrepRefIdeal.τ Cert.DnPrepRefIdeal.sig) → Buf (Elt Ideal) ℓ) (g : Dev Cert.DnPrepRefIdeal.nD → PrngReg), Pre_DnPrepRefIdeal m →
    θ_run (Cert.DnPrepRefIdeal.defs (F := Ideal)) (onTc (τ := Cert.DnPrepRefIdeal.τ) (Cert.DnPrepRefIdeal.main (F := Ideal))) ⟨m, fun _ => 0, g⟩ (fun r => (∀ c : Dev Cert.DnPrepRefIdeal.nD,
      r.2.mem ((c.tc : Thread Cert.DnPrepRefIdeal.nD Cert.DnPrepRefIdeal.τ).loc Cert.DnPrepRefIdeal.main_arg0) = m ((c.tc : Thread Cert.DnPrepRefIdeal.nD Cert.DnPrepRefIdeal.τ).loc Cert.DnPrepRefIdeal.main_arg0)
      ∧ r.2.mem ((c.tc : Thread Cert.DnPrepRefIdeal.nD Cert.DnPrepRefIdeal.τ).loc Cert.DnPrepRefIdeal.main_arg1) = m ((c.tc : Thread Cert.DnPrepRefIdeal.nD Cert.DnPrepRefIdeal.τ).loc Cert.DnPrepRefIdeal.main_arg1)
      ∧ r.2.mem ((c.tc : Thread Cert.DnPrepRefIdeal.nD Cert.DnPrepRefIdeal.τ).loc Cert.DnPrepRefIdeal.main_arg2) = m ((c.tc : Thread Cert.DnPrepRefIdeal.nD Cert.DnPrepRefIdeal.τ).loc Cert.DnPrepRefIdeal.main_arg2))
      ∧ r.2.sem = fun _ => 0)

def quiescent_DnStep [hDnStep : Cert.DnStep.Facts] : Prop :=
  ∀ (m : (ℓ : Loc Cert.DnStep.nD Cert.DnStep.τ Cert.DnStep.sig) → Buf (Elt Bits) ℓ) (g : Dev Cert.DnStep.nD → PrngReg), Pre_DnStep m →
    θ_run (Cert.DnStep.defs (F := Bits)) (onTc (τ := Cert.DnStep.τ) (Cert.DnStep.main (F := Bits))) ⟨m, fun _ => 0, g⟩ (fun r => (∀ c : Dev Cert.DnStep.nD,
      r.2.mem ((c.tc : Thread Cert.DnStep.nD Cert.DnStep.τ).loc Cert.DnStep.main_arg0) = m ((c.tc : Thread Cert.DnStep.nD Cert.DnStep.τ).loc Cert.DnStep.main_arg0)
      ∧ r.2.mem ((c.tc : Thread Cert.DnStep.nD Cert.DnStep.τ).loc Cert.DnStep.main_arg1) = m ((c.tc : Thread Cert.DnStep.nD Cert.DnStep.τ).loc Cert.DnStep.main_arg1)
      ∧ r.2.mem ((c.tc : Thread Cert.DnStep.nD Cert.DnStep.τ).loc Cert.DnStep.main_arg2) = m ((c.tc : Thread Cert.DnStep.nD Cert.DnStep.τ).loc Cert.DnStep.main_arg2)
      ∧ r.2.mem ((c.tc : Thread Cert.DnStep.nD Cert.DnStep.τ).loc Cert.DnStep.main_arg3) = m ((c.tc : Thread Cert.DnStep.nD Cert.DnStep.τ).loc Cert.DnStep.main_arg3)
      ∧ r.2.mem ((c.tc : Thread Cert.DnStep.nD Cert.DnStep.τ).loc Cert.DnStep.main_arg4) = m ((c.tc : Thread Cert.DnStep.nD Cert.DnStep.τ).loc Cert.DnStep.main_arg4))
      ∧ r.2.sem = fun _ => 0)

def quiescent_DnStepIdeal [hDnStepIdeal : Cert.DnStepIdeal.Facts] : Prop :=
  ∀ (m : (ℓ : Loc Cert.DnStepIdeal.nD Cert.DnStepIdeal.τ Cert.DnStepIdeal.sig) → Buf (Elt Ideal) ℓ) (g : Dev Cert.DnStepIdeal.nD → PrngReg), Pre_DnStepIdeal m →
    θ_run (Cert.DnStepIdeal.defs (F := Ideal)) (onTc (τ := Cert.DnStepIdeal.τ) (Cert.DnStepIdeal.main (F := Ideal))) ⟨m, fun _ => 0, g⟩ (fun r => (∀ c : Dev Cert.DnStepIdeal.nD,
      r.2.mem ((c.tc : Thread Cert.DnStepIdeal.nD Cert.DnStepIdeal.τ).loc Cert.DnStepIdeal.main_arg0) = m ((c.tc : Thread Cert.DnStepIdeal.nD Cert.DnStepIdeal.τ).loc Cert.DnStepIdeal.main_arg0)
      ∧ r.2.mem ((c.tc : Thread Cert.DnStepIdeal.nD Cert.DnStepIdeal.τ).loc Cert.DnStepIdeal.main_arg1) = m ((c.tc : Thread Cert.DnStepIdeal.nD Cert.DnStepIdeal.τ).loc Cert.DnStepIdeal.main_arg1)
      ∧ r.2.mem ((c.tc : Thread Cert.DnStepIdeal.nD Cert.DnStepIdeal.τ).loc Cert.DnStepIdeal.main_arg2) = m ((c.tc : Thread Cert.DnStepIdeal.nD Cert.DnStepIdeal.τ).loc Cert.DnStepIdeal.main_arg2)
      ∧ r.2.mem ((c.tc : Thread Cert.DnStepIdeal.nD Cert.DnStepIdeal.τ).loc Cert.DnStepIdeal.main_arg3) = m ((c.tc : Thread Cert.DnStepIdeal.nD Cert.DnStepIdeal.τ).loc Cert.DnStepIdeal.main_arg3)
      ∧ r.2.mem ((c.tc : Thread Cert.DnStepIdeal.nD Cert.DnStepIdeal.τ).loc Cert.DnStepIdeal.main_arg4) = m ((c.tc : Thread Cert.DnStepIdeal.nD Cert.DnStepIdeal.τ).loc Cert.DnStepIdeal.main_arg4))
      ∧ r.2.sem = fun _ => 0)

def quiescent_DnStepIdeal_pre_step_finite [hDnStepIdeal : Cert.DnStepIdeal.Facts] [hPre_step_finite : Cert.Pre_step_finite.Facts] : Prop :=
  ∀ (m : (ℓ : Loc Cert.DnStepIdeal.nD Cert.DnStepIdeal.τ Cert.DnStepIdeal.sig) → Buf (Elt Ideal) ℓ) (g : Dev Cert.DnStepIdeal.nD → PrngReg), Pre_DnStepIdeal_step_finite m →
    θ_run (Cert.DnStepIdeal.defs (F := Ideal)) (onTc (τ := Cert.DnStepIdeal.τ) (Cert.DnStepIdeal.main (F := Ideal))) ⟨m, fun _ => 0, g⟩ (fun r => (∀ c : Dev Cert.DnStepIdeal.nD,
      r.2.mem ((c.tc : Thread Cert.DnStepIdeal.nD Cert.DnStepIdeal.τ).loc Cert.DnStepIdeal.main_arg0) = m ((c.tc : Thread Cert.DnStepIdeal.nD Cert.DnStepIdeal.τ).loc Cert.DnStepIdeal.main_arg0)
      ∧ r.2.mem ((c.tc : Thread Cert.DnStepIdeal.nD Cert.DnStepIdeal.τ).loc Cert.DnStepIdeal.main_arg1) = m ((c.tc : Thread Cert.DnStepIdeal.nD Cert.DnStepIdeal.τ).loc Cert.DnStepIdeal.main_arg1)
      ∧ r.2.mem ((c.tc : Thread Cert.DnStepIdeal.nD Cert.DnStepIdeal.τ).loc Cert.DnStepIdeal.main_arg2) = m ((c.tc : Thread Cert.DnStepIdeal.nD Cert.DnStepIdeal.τ).loc Cert.DnStepIdeal.main_arg2)
      ∧ r.2.mem ((c.tc : Thread Cert.DnStepIdeal.nD Cert.DnStepIdeal.τ).loc Cert.DnStepIdeal.main_arg3) = m ((c.tc : Thread Cert.DnStepIdeal.nD Cert.DnStepIdeal.τ).loc Cert.DnStepIdeal.main_arg3)
      ∧ r.2.mem ((c.tc : Thread Cert.DnStepIdeal.nD Cert.DnStepIdeal.τ).loc Cert.DnStepIdeal.main_arg4) = m ((c.tc : Thread Cert.DnStepIdeal.nD Cert.DnStepIdeal.τ).loc Cert.DnStepIdeal.main_arg4))
      ∧ r.2.sem = fun _ => 0)

def quiescent_DnStepRefIdeal [hDnStepRefIdeal : Cert.DnStepRefIdeal.Facts] : Prop :=
  ∀ (m : (ℓ : Loc Cert.DnStepRefIdeal.nD Cert.DnStepRefIdeal.τ Cert.DnStepRefIdeal.sig) → Buf (Elt Ideal) ℓ) (g : Dev Cert.DnStepRefIdeal.nD → PrngReg), Pre_DnStepRefIdeal m →
    θ_run (Cert.DnStepRefIdeal.defs (F := Ideal)) (onTc (τ := Cert.DnStepRefIdeal.τ) (Cert.DnStepRefIdeal.main (F := Ideal))) ⟨m, fun _ => 0, g⟩ (fun r => (∀ c : Dev Cert.DnStepRefIdeal.nD,
      r.2.mem ((c.tc : Thread Cert.DnStepRefIdeal.nD Cert.DnStepRefIdeal.τ).loc Cert.DnStepRefIdeal.main_arg0) = m ((c.tc : Thread Cert.DnStepRefIdeal.nD Cert.DnStepRefIdeal.τ).loc Cert.DnStepRefIdeal.main_arg0)
      ∧ r.2.mem ((c.tc : Thread Cert.DnStepRefIdeal.nD Cert.DnStepRefIdeal.τ).loc Cert.DnStepRefIdeal.main_arg1) = m ((c.tc : Thread Cert.DnStepRefIdeal.nD Cert.DnStepRefIdeal.τ).loc Cert.DnStepRefIdeal.main_arg1)
      ∧ r.2.mem ((c.tc : Thread Cert.DnStepRefIdeal.nD Cert.DnStepRefIdeal.τ).loc Cert.DnStepRefIdeal.main_arg2) = m ((c.tc : Thread Cert.DnStepRefIdeal.nD Cert.DnStepRefIdeal.τ).loc Cert.DnStepRefIdeal.main_arg2)
      ∧ r.2.mem ((c.tc : Thread Cert.DnStepRefIdeal.nD Cert.DnStepRefIdeal.τ).loc Cert.DnStepRefIdeal.main_arg3) = m ((c.tc : Thread Cert.DnStepRefIdeal.nD Cert.DnStepRefIdeal.τ).loc Cert.DnStepRefIdeal.main_arg3)
      ∧ r.2.mem ((c.tc : Thread Cert.DnStepRefIdeal.nD Cert.DnStepRefIdeal.τ).loc Cert.DnStepRefIdeal.main_arg4) = m ((c.tc : Thread Cert.DnStepRefIdeal.nD Cert.DnStepRefIdeal.τ).loc Cert.DnStepRefIdeal.main_arg4))
      ∧ r.2.sem = fun _ => 0)

def quiescent_DnStepRefIdeal_pre_step_finite [hDnStepRefIdeal : Cert.DnStepRefIdeal.Facts] [hPre_step_finite : Cert.Pre_step_finite.Facts] : Prop :=
  ∀ (m : (ℓ : Loc Cert.DnStepRefIdeal.nD Cert.DnStepRefIdeal.τ Cert.DnStepRefIdeal.sig) → Buf (Elt Ideal) ℓ) (g : Dev Cert.DnStepRefIdeal.nD → PrngReg), Pre_DnStepRefIdeal_step_finite m →
    θ_run (Cert.DnStepRefIdeal.defs (F := Ideal)) (onTc (τ := Cert.DnStepRefIdeal.τ) (Cert.DnStepRefIdeal.main (F := Ideal))) ⟨m, fun _ => 0, g⟩ (fun r => (∀ c : Dev Cert.DnStepRefIdeal.nD,
      r.2.mem ((c.tc : Thread Cert.DnStepRefIdeal.nD Cert.DnStepRefIdeal.τ).loc Cert.DnStepRefIdeal.main_arg0) = m ((c.tc : Thread Cert.DnStepRefIdeal.nD Cert.DnStepRefIdeal.τ).loc Cert.DnStepRefIdeal.main_arg0)
      ∧ r.2.mem ((c.tc : Thread Cert.DnStepRefIdeal.nD Cert.DnStepRefIdeal.τ).loc Cert.DnStepRefIdeal.main_arg1) = m ((c.tc : Thread Cert.DnStepRefIdeal.nD Cert.DnStepRefIdeal.τ).loc Cert.DnStepRefIdeal.main_arg1)
      ∧ r.2.mem ((c.tc : Thread Cert.DnStepRefIdeal.nD Cert.DnStepRefIdeal.τ).loc Cert.DnStepRefIdeal.main_arg2) = m ((c.tc : Thread Cert.DnStepRefIdeal.nD Cert.DnStepRefIdeal.τ).loc Cert.DnStepRefIdeal.main_arg2)
      ∧ r.2.mem ((c.tc : Thread Cert.DnStepRefIdeal.nD Cert.DnStepRefIdeal.τ).loc Cert.DnStepRefIdeal.main_arg3) = m ((c.tc : Thread Cert.DnStepRefIdeal.nD Cert.DnStepRefIdeal.τ).loc Cert.DnStepRefIdeal.main_arg3)
      ∧ r.2.mem ((c.tc : Thread Cert.DnStepRefIdeal.nD Cert.DnStepRefIdeal.τ).loc Cert.DnStepRefIdeal.main_arg4) = m ((c.tc : Thread Cert.DnStepRefIdeal.nD Cert.DnStepRefIdeal.τ).loc Cert.DnStepRefIdeal.main_arg4))
      ∧ r.2.sem = fun _ => 0)

def preserves_Band_BandIdeal : Prop :=
  True

def algebraic_BandIdeal_BandRefIdeal_pre_band_finite [hBandIdeal : Cert.BandIdeal.Facts] [hBandRefIdeal : Cert.BandRefIdeal.Facts] [hPre_band_finite : Cert.Pre_band_finite.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_band_finite m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)
      ∧ m' ((c.tc : Thread Cert.BandRefIdeal.nD Cert.BandRefIdeal.τ).loc Cert.BandRefIdeal.main_arg2) = m ((c.tc : Thread Cert.BandIdeal.nD Cert.BandIdeal.τ).loc Cert.BandIdeal.main_arg2)
      ∧ m' ((c.tc : Thread Cert.BandRefIdeal.nD Cert.BandRefIdeal.τ).loc Cert.BandRefIdeal.main_arg3) = m ((c.tc : Thread Cert.BandIdeal.nD Cert.BandIdeal.τ).loc Cert.BandIdeal.main_arg3)
      ∧ m' ((c.tc : Thread Cert.BandRefIdeal.nD Cert.BandRefIdeal.τ).loc Cert.BandRefIdeal.main_arg4) = m ((c.tc : Thread Cert.BandIdeal.nD Cert.BandIdeal.τ).loc Cert.BandIdeal.main_arg4)) →
    ∃ (v0 : (c : Dev Cert.BandIdeal.nD) → Buf (Elt Ideal) ((c.tc : Thread Cert.BandIdeal.nD Cert.BandIdeal.τ).loc Cert.BandIdeal.main_v1)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v1) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
          ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
          ∧ r.2.mem ((c.tc : Thread Cert.BandIdeal.nD Cert.BandIdeal.τ).loc Cert.BandIdeal.main_arg3) = m ((c.tc : Thread Cert.BandIdeal.nD Cert.BandIdeal.τ).loc Cert.BandIdeal.main_arg3)
          ∧ r.2.mem ((c.tc : Thread Cert.BandIdeal.nD Cert.BandIdeal.τ).loc Cert.BandIdeal.main_arg4) = m ((c.tc : Thread Cert.BandIdeal.nD Cert.BandIdeal.τ).loc Cert.BandIdeal.main_arg4))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v66) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1)
          ∧ r.2.mem ((c.tc : Thread Cert.BandRefIdeal.nD Cert.BandRefIdeal.τ).loc Cert.BandRefIdeal.main_arg2) = m' ((c.tc : Thread Cert.BandRefIdeal.nD Cert.BandRefIdeal.τ).loc Cert.BandRefIdeal.main_arg2)
          ∧ r.2.mem ((c.tc : Thread Cert.BandRefIdeal.nD Cert.BandRefIdeal.τ).loc Cert.BandRefIdeal.main_arg3) = m' ((c.tc : Thread Cert.BandRefIdeal.nD Cert.BandRefIdeal.τ).loc Cert.BandRefIdeal.main_arg3)
          ∧ r.2.mem ((c.tc : Thread Cert.BandRefIdeal.nD Cert.BandRefIdeal.τ).loc Cert.BandRefIdeal.main_arg4) = m' ((c.tc : Thread Cert.BandRefIdeal.nD Cert.BandRefIdeal.τ).loc Cert.BandRefIdeal.main_arg4))

def preserves_DiffIn_DiffInIdeal : Prop :=
  True

def algebraic_DiffInIdeal_DiffInRefIdeal [hDiffInIdeal : Cert.DiffInIdeal.Facts] [hDiffInRefIdeal : Cert.DiffInRefIdeal.Facts] : Prop :=
  ∀ (m : (ℓ : Loc Cert.DiffInIdeal.nD Cert.DiffInIdeal.τ Cert.DiffInIdeal.sig) → Buf (Elt Ideal) ℓ) (g : Dev Cert.DiffInIdeal.nD → PrngReg)
    (m' : (ℓ : Loc Cert.DiffInRefIdeal.nD Cert.DiffInRefIdeal.τ Cert.DiffInRefIdeal.sig) → Buf (Elt Ideal) ℓ) (g' : Dev Cert.DiffInRefIdeal.nD → PrngReg), Pre_DiffInIdeal m →
    (∀ c : Dev Cert.DiffInIdeal.nD,
      m' ((c.tc : Thread Cert.DiffInRefIdeal.nD Cert.DiffInRefIdeal.τ).loc Cert.DiffInRefIdeal.main_arg0) = m ((c.tc : Thread Cert.DiffInIdeal.nD Cert.DiffInIdeal.τ).loc Cert.DiffInIdeal.main_arg0)
      ∧ m' ((c.tc : Thread Cert.DiffInRefIdeal.nD Cert.DiffInRefIdeal.τ).loc Cert.DiffInRefIdeal.main_arg1) = m ((c.tc : Thread Cert.DiffInIdeal.nD Cert.DiffInIdeal.τ).loc Cert.DiffInIdeal.main_arg1)
      ∧ m' ((c.tc : Thread Cert.DiffInRefIdeal.nD Cert.DiffInRefIdeal.τ).loc Cert.DiffInRefIdeal.main_arg2) = m ((c.tc : Thread Cert.DiffInIdeal.nD Cert.DiffInIdeal.τ).loc Cert.DiffInIdeal.main_arg2)) →
    ∃ (v0 : (c : Dev Cert.DiffInIdeal.nD) → Buf (Elt Ideal) ((c.tc : Thread Cert.DiffInIdeal.nD Cert.DiffInIdeal.τ).loc Cert.DiffInIdeal.main_v3_0)) (v1 : (c : Dev Cert.DiffInIdeal.nD) → Buf (Elt Ideal) ((c.tc : Thread Cert.DiffInIdeal.nD Cert.DiffInIdeal.τ).loc Cert.DiffInIdeal.main_v3_1)) (v2 : (c : Dev Cert.DiffInIdeal.nD) → Buf (Elt Ideal) ((c.tc : Thread Cert.DiffInIdeal.nD Cert.DiffInIdeal.τ).loc Cert.DiffInIdeal.main_v3_2)) (v3 : (c : Dev Cert.DiffInIdeal.nD) → Buf (Elt Ideal) ((c.tc : Thread Cert.DiffInIdeal.nD Cert.DiffInIdeal.τ).loc Cert.DiffInIdeal.main_v3_3)),
      θ_run (Cert.DiffInIdeal.defs (F := Ideal)) (onTc (τ := Cert.DiffInIdeal.τ) (Cert.DiffInIdeal.main (F := Ideal))) ⟨m, fun _ => 0, g⟩ (fun r => ∀ c : Dev Cert.DiffInIdeal.nD,
          r.2.mem ((c.tc : Thread Cert.DiffInIdeal.nD Cert.DiffInIdeal.τ).loc Cert.DiffInIdeal.main_v3_0) = v0 c
          ∧ r.2.mem ((c.tc : Thread Cert.DiffInIdeal.nD Cert.DiffInIdeal.τ).loc Cert.DiffInIdeal.main_v3_1) = v1 c
          ∧ r.2.mem ((c.tc : Thread Cert.DiffInIdeal.nD Cert.DiffInIdeal.τ).loc Cert.DiffInIdeal.main_v3_2) = v2 c
          ∧ r.2.mem ((c.tc : Thread Cert.DiffInIdeal.nD Cert.DiffInIdeal.τ).loc Cert.DiffInIdeal.main_v3_3) = v3 c
          ∧ r.2.mem ((c.tc : Thread Cert.DiffInIdeal.nD Cert.DiffInIdeal.τ).loc Cert.DiffInIdeal.main_arg0) = m ((c.tc : Thread Cert.DiffInIdeal.nD Cert.DiffInIdeal.τ).loc Cert.DiffInIdeal.main_arg0)
          ∧ r.2.mem ((c.tc : Thread Cert.DiffInIdeal.nD Cert.DiffInIdeal.τ).loc Cert.DiffInIdeal.main_arg1) = m ((c.tc : Thread Cert.DiffInIdeal.nD Cert.DiffInIdeal.τ).loc Cert.DiffInIdeal.main_arg1)
          ∧ r.2.mem ((c.tc : Thread Cert.DiffInIdeal.nD Cert.DiffInIdeal.τ).loc Cert.DiffInIdeal.main_arg2) = m ((c.tc : Thread Cert.DiffInIdeal.nD Cert.DiffInIdeal.τ).loc Cert.DiffInIdeal.main_arg2))
      ∧ θ_run (Cert.DiffInRefIdeal.defs (F := Ideal)) (onTc (τ := Cert.DiffInRefIdeal.τ) (Cert.DiffInRefIdeal.main (F := Ideal))) ⟨m', fun _ => 0, g'⟩ (fun r => ∀ c : Dev Cert.DiffInRefIdeal.nD,
          r.2.mem ((c.tc : Thread Cert.DiffInRefIdeal.nD Cert.DiffInRefIdeal.τ).loc Cert.DiffInRefIdeal.main_v15) = v0 c
          ∧ r.2.mem ((c.tc : Thread Cert.DiffInRefIdeal.nD Cert.DiffInRefIdeal.τ).loc Cert.DiffInRefIdeal.main_v16) = v1 c
          ∧ r.2.mem ((c.tc : Thread Cert.DiffInRefIdeal.nD Cert.DiffInRefIdeal.τ).loc Cert.DiffInRefIdeal.main_v17) = v2 c
          ∧ r.2.mem ((c.tc : Thread Cert.DiffInRefIdeal.nD Cert.DiffInRefIdeal.τ).loc Cert.DiffInRefIdeal.main_v18) = v3 c
          ∧ r.2.mem ((c.tc : Thread Cert.DiffInRefIdeal.nD Cert.DiffInRefIdeal.τ).loc Cert.DiffInRefIdeal.main_arg0) = m' ((c.tc : Thread Cert.DiffInRefIdeal.nD Cert.DiffInRefIdeal.τ).loc Cert.DiffInRefIdeal.main_arg0)
          ∧ r.2.mem ((c.tc : Thread Cert.DiffInRefIdeal.nD Cert.DiffInRefIdeal.τ).loc Cert.DiffInRefIdeal.main_arg1) = m' ((c.tc : Thread Cert.DiffInRefIdeal.nD Cert.DiffInRefIdeal.τ).loc Cert.DiffInRefIdeal.main_arg1)
          ∧ r.2.mem ((c.tc : Thread Cert.DiffInRefIdeal.nD Cert.DiffInRefIdeal.τ).loc Cert.DiffInRefIdeal.main_arg2) = m' ((c.tc : Thread Cert.DiffInRefIdeal.nD Cert.DiffInRefIdeal.τ).loc Cert.DiffInRefIdeal.main_arg2))

def preserves_DiffInS_DiffInSIdeal : Prop :=
  True

def algebraic_DiffInSIdeal_DiffInSRefIdeal [hDiffInSIdeal : Cert.DiffInSIdeal.Facts] [hDiffInSRefIdeal : Cert.DiffInSRefIdeal.Facts] : Prop :=
  ∀ (m : (ℓ : Loc Cert.DiffInSIdeal.nD Cert.DiffInSIdeal.τ Cert.DiffInSIdeal.sig) → Buf (Elt Ideal) ℓ) (g : Dev Cert.DiffInSIdeal.nD → PrngReg)
    (m' : (ℓ : Loc Cert.DiffInSRefIdeal.nD Cert.DiffInSRefIdeal.τ Cert.DiffInSRefIdeal.sig) → Buf (Elt Ideal) ℓ) (g' : Dev Cert.DiffInSRefIdeal.nD → PrngReg), Pre_DiffInSIdeal m →
    (∀ c : Dev Cert.DiffInSIdeal.nD,
      m' ((c.tc : Thread Cert.DiffInSRefIdeal.nD Cert.DiffInSRefIdeal.τ).loc Cert.DiffInSRefIdeal.main_arg0) = m ((c.tc : Thread Cert.DiffInSIdeal.nD Cert.DiffInSIdeal.τ).loc Cert.DiffInSIdeal.main_arg0)
      ∧ m' ((c.tc : Thread Cert.DiffInSRefIdeal.nD Cert.DiffInSRefIdeal.τ).loc Cert.DiffInSRefIdeal.main_arg1) = m ((c.tc : Thread Cert.DiffInSIdeal.nD Cert.DiffInSIdeal.τ).loc Cert.DiffInSIdeal.main_arg1)
      ∧ m' ((c.tc : Thread Cert.DiffInSRefIdeal.nD Cert.DiffInSRefIdeal.τ).loc Cert.DiffInSRefIdeal.main_arg2) = m ((c.tc : Thread Cert.DiffInSIdeal.nD Cert.DiffInSIdeal.τ).loc Cert.DiffInSIdeal.main_arg2)) →
    ∃ (v0 : (c : Dev Cert.DiffInSIdeal.nD) → Buf (Elt Ideal) ((c.tc : Thread Cert.DiffInSIdeal.nD Cert.DiffInSIdeal.τ).loc Cert.DiffInSIdeal.main_v2_0)) (v1 : (c : Dev Cert.DiffInSIdeal.nD) → Buf (Elt Ideal) ((c.tc : Thread Cert.DiffInSIdeal.nD Cert.DiffInSIdeal.τ).loc Cert.DiffInSIdeal.main_v2_1)) (v2 : (c : Dev Cert.DiffInSIdeal.nD) → Buf (Elt Ideal) ((c.tc : Thread Cert.DiffInSIdeal.nD Cert.DiffInSIdeal.τ).loc Cert.DiffInSIdeal.main_v2_2)) (v3 : (c : Dev Cert.DiffInSIdeal.nD) → Buf (Elt Ideal) ((c.tc : Thread Cert.DiffInSIdeal.nD Cert.DiffInSIdeal.τ).loc Cert.DiffInSIdeal.main_v2_3)),
      θ_run (Cert.DiffInSIdeal.defs (F := Ideal)) (onTc (τ := Cert.DiffInSIdeal.τ) (Cert.DiffInSIdeal.main (F := Ideal))) ⟨m, fun _ => 0, g⟩ (fun r => ∀ c : Dev Cert.DiffInSIdeal.nD,
          r.2.mem ((c.tc : Thread Cert.DiffInSIdeal.nD Cert.DiffInSIdeal.τ).loc Cert.DiffInSIdeal.main_v2_0) = v0 c
          ∧ r.2.mem ((c.tc : Thread Cert.DiffInSIdeal.nD Cert.DiffInSIdeal.τ).loc Cert.DiffInSIdeal.main_v2_1) = v1 c
          ∧ r.2.mem ((c.tc : Thread Cert.DiffInSIdeal.nD Cert.DiffInSIdeal.τ).loc Cert.DiffInSIdeal.main_v2_2) = v2 c
          ∧ r.2.mem ((c.tc : Thread Cert.DiffInSIdeal.nD Cert.DiffInSIdeal.τ).loc Cert.DiffInSIdeal.main_v2_3) = v3 c
          ∧ r.2.mem ((c.tc : Thread Cert.DiffInSIdeal.nD Cert.DiffInSIdeal.τ).loc Cert.DiffInSIdeal.main_arg0) = m ((c.tc : Thread Cert.DiffInSIdeal.nD Cert.DiffInSIdeal.τ).loc Cert.DiffInSIdeal.main_arg0)
          ∧ r.2.mem ((c.tc : Thread Cert.DiffInSIdeal.nD Cert.DiffInSIdeal.τ).loc Cert.DiffInSIdeal.main_arg1) = m ((c.tc : Thread Cert.DiffInSIdeal.nD Cert.DiffInSIdeal.τ).loc Cert.DiffInSIdeal.main_arg1)
          ∧ r.2.mem ((c.tc : Thread Cert.DiffInSIdeal.nD Cert.DiffInSIdeal.τ).loc Cert.DiffInSIdeal.main_arg2) = m ((c.tc : Thread Cert.DiffInSIdeal.nD Cert.DiffInSIdeal.τ).loc Cert.DiffInSIdeal.main_arg2))
      ∧ θ_run (Cert.DiffInSRefIdeal.defs (F := Ideal)) (onTc (τ := Cert.DiffInSRefIdeal.τ) (Cert.DiffInSRefIdeal.main (F := Ideal))) ⟨m', fun _ => 0, g'⟩ (fun r => ∀ c : Dev Cert.DiffInSRefIdeal.nD,
          r.2.mem ((c.tc : Thread Cert.DiffInSRefIdeal.nD Cert.DiffInSRefIdeal.τ).loc Cert.DiffInSRefIdeal.main_v13) = v0 c
          ∧ r.2.mem ((c.tc : Thread Cert.DiffInSRefIdeal.nD Cert.DiffInSRefIdeal.τ).loc Cert.DiffInSRefIdeal.main_v14) = v1 c
          ∧ r.2.mem ((c.tc : Thread Cert.DiffInSRefIdeal.nD Cert.DiffInSRefIdeal.τ).loc Cert.DiffInSRefIdeal.main_v15) = v2 c
          ∧ r.2.mem ((c.tc : Thread Cert.DiffInSRefIdeal.nD Cert.DiffInSRefIdeal.τ).loc Cert.DiffInSRefIdeal.main_v16) = v3 c
          ∧ r.2.mem ((c.tc : Thread Cert.DiffInSRefIdeal.nD Cert.DiffInSRefIdeal.τ).loc Cert.DiffInSRefIdeal.main_arg0) = m' ((c.tc : Thread Cert.DiffInSRefIdeal.nD Cert.DiffInSRefIdeal.τ).loc Cert.DiffInSRefIdeal.main_arg0)
          ∧ r.2.mem ((c.tc : Thread Cert.DiffInSRefIdeal.nD Cert.DiffInSRefIdeal.τ).loc Cert.DiffInSRefIdeal.main_arg1) = m' ((c.tc : Thread Cert.DiffInSRefIdeal.nD Cert.DiffInSRefIdeal.τ).loc Cert.DiffInSRefIdeal.main_arg1)
          ∧ r.2.mem ((c.tc : Thread Cert.DiffInSRefIdeal.nD Cert.DiffInSRefIdeal.τ).loc Cert.DiffInSRefIdeal.main_arg2) = m' ((c.tc : Thread Cert.DiffInSRefIdeal.nD Cert.DiffInSRefIdeal.τ).loc Cert.DiffInSRefIdeal.main_arg2))

def preserves_SwaIn_SwaInIdeal : Prop :=
  True

def algebraic_SwaInIdeal_SwaInRefIdeal [hSwaInIdeal : Cert.SwaInIdeal.Facts] [hSwaInRefIdeal : Cert.SwaInRefIdeal.Facts] : Prop :=
  ∀ (m : (ℓ : Loc Cert.SwaInIdeal.nD Cert.SwaInIdeal.τ Cert.SwaInIdeal.sig) → Buf (Elt Ideal) ℓ) (g : Dev Cert.SwaInIdeal.nD → PrngReg)
    (m' : (ℓ : Loc Cert.SwaInRefIdeal.nD Cert.SwaInRefIdeal.τ Cert.SwaInRefIdeal.sig) → Buf (Elt Ideal) ℓ) (g' : Dev Cert.SwaInRefIdeal.nD → PrngReg), Pre_SwaInIdeal m →
    (∀ c : Dev Cert.SwaInIdeal.nD,
      m' ((c.tc : Thread Cert.SwaInRefIdeal.nD Cert.SwaInRefIdeal.τ).loc Cert.SwaInRefIdeal.main_arg0) = m ((c.tc : Thread Cert.SwaInIdeal.nD Cert.SwaInIdeal.τ).loc Cert.SwaInIdeal.main_arg0)
      ∧ m' ((c.tc : Thread Cert.SwaInRefIdeal.nD Cert.SwaInRefIdeal.τ).loc Cert.SwaInRefIdeal.main_arg1) = m ((c.tc : Thread Cert.SwaInIdeal.nD Cert.SwaInIdeal.τ).loc Cert.SwaInIdeal.main_arg1)
      ∧ m' ((c.tc : Thread Cert.SwaInRefIdeal.nD Cert.SwaInRefIdeal.τ).loc Cert.SwaInRefIdeal.main_arg2) = m ((c.tc : Thread Cert.SwaInIdeal.nD Cert.SwaInIdeal.τ).loc Cert.SwaInIdeal.main_arg2)) →
    ∃ (v0 : (c : Dev Cert.SwaInIdeal.nD) → Buf (Elt Ideal) ((c.tc : Thread Cert.SwaInIdeal.nD Cert.SwaInIdeal.τ).loc Cert.SwaInIdeal.main_v3_0)) (v1 : (c : Dev Cert.SwaInIdeal.nD) → Buf (Elt Ideal) ((c.tc : Thread Cert.SwaInIdeal.nD Cert.SwaInIdeal.τ).loc Cert.SwaInIdeal.main_v3_1)) (v2 : (c : Dev Cert.SwaInIdeal.nD) → Buf (Elt Ideal) ((c.tc : Thread Cert.SwaInIdeal.nD Cert.SwaInIdeal.τ).loc Cert.SwaInIdeal.main_v3_2)) (v3 : (c : Dev Cert.SwaInIdeal.nD) → Buf (Elt Ideal) ((c.tc : Thread Cert.SwaInIdeal.nD Cert.SwaInIdeal.τ).loc Cert.SwaInIdeal.main_v3_3)),
      θ_run (Cert.SwaInIdeal.defs (F := Ideal)) (onTc (τ := Cert.SwaInIdeal.τ) (Cert.SwaInIdeal.main (F := Ideal))) ⟨m, fun _ => 0, g⟩ (fun r => ∀ c : Dev Cert.SwaInIdeal.nD,
          r.2.mem ((c.tc : Thread Cert.SwaInIdeal.nD Cert.SwaInIdeal.τ).loc Cert.SwaInIdeal.main_v3_0) = v0 c
          ∧ r.2.mem ((c.tc : Thread Cert.SwaInIdeal.nD Cert.SwaInIdeal.τ).loc Cert.SwaInIdeal.main_v3_1) = v1 c
          ∧ r.2.mem ((c.tc : Thread Cert.SwaInIdeal.nD Cert.SwaInIdeal.τ).loc Cert.SwaInIdeal.main_v3_2) = v2 c
          ∧ r.2.mem ((c.tc : Thread Cert.SwaInIdeal.nD Cert.SwaInIdeal.τ).loc Cert.SwaInIdeal.main_v3_3) = v3 c
          ∧ r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
          ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1)
          ∧ r.2.mem ((c.tc : Thread Cert.SwaInIdeal.nD Cert.SwaInIdeal.τ).loc Cert.SwaInIdeal.main_arg2) = m ((c.tc : Thread Cert.SwaInIdeal.nD Cert.SwaInIdeal.τ).loc Cert.SwaInIdeal.main_arg2))
      ∧ θ_run (Cert.SwaInRefIdeal.defs (F := Ideal)) (onTc (τ := Cert.SwaInRefIdeal.τ) (Cert.SwaInRefIdeal.main (F := Ideal))) ⟨m', fun _ => 0, g'⟩ (fun r => ∀ c : Dev Cert.SwaInRefIdeal.nD,
          r.2.mem ((c.tc : Thread Cert.SwaInRefIdeal.nD Cert.SwaInRefIdeal.τ).loc Cert.SwaInRefIdeal.main_v15) = v0 c
          ∧ r.2.mem ((c.tc : Thread Cert.SwaInRefIdeal.nD Cert.SwaInRefIdeal.τ).loc Cert.SwaInRefIdeal.main_v16) = v1 c
          ∧ r.2.mem ((c.tc : Thread Cert.SwaInRefIdeal.nD Cert.SwaInRefIdeal.τ).loc Cert.SwaInRefIdeal.main_v17) = v2 c
          ∧ r.2.mem ((c.tc : Thread Cert.SwaInRefIdeal.nD Cert.SwaInRefIdeal.τ).loc Cert.SwaInRefIdeal.main_v18) = v3 c
          ∧ r.2.mem ((c.tc : Thread Cert.SwaInRefIdeal.nD Cert.SwaInRefIdeal.τ).loc Cert.SwaInRefIdeal.main_arg0) = m' ((c.tc : Thread Cert.SwaInRefIdeal.nD Cert.SwaInRefIdeal.τ).loc Cert.SwaInRefIdeal.main_arg0)
          ∧ r.2.mem ((c.tc : Thread Cert.SwaInRefIdeal.nD Cert.SwaInRefIdeal.τ).loc Cert.SwaInRefIdeal.main_arg1) = m' ((c.tc : Thread Cert.SwaInRefIdeal.nD Cert.SwaInRefIdeal.τ).loc Cert.SwaInRefIdeal.main_arg1)
          ∧ r.2.mem ((c.tc : Thread Cert.SwaInRefIdeal.nD Cert.SwaInRefIdeal.τ).loc Cert.SwaInRefIdeal.main_arg2) = m' ((c.tc : Thread Cert.SwaInRefIdeal.nD Cert.SwaInRefIdeal.τ).loc Cert.SwaInRefIdeal.main_arg2))

def preserves_DnOut_DnOutIdeal : Prop :=
  True

def algebraic_DnOutIdeal_DnOutRefIdeal [hDnOutIdeal : Cert.DnOutIdeal.Facts] [hDnOutRefIdeal : Cert.DnOutRefIdeal.Facts] : Prop :=
  ∀ (m : (ℓ : Loc Cert.DnOutIdeal.nD Cert.DnOutIdeal.τ Cert.DnOutIdeal.sig) → Buf (Elt Ideal) ℓ) (g : Dev Cert.DnOutIdeal.nD → PrngReg)
    (m' : (ℓ : Loc Cert.DnOutRefIdeal.nD Cert.DnOutRefIdeal.τ Cert.DnOutRefIdeal.sig) → Buf (Elt Ideal) ℓ) (g' : Dev Cert.DnOutRefIdeal.nD → PrngReg), Pre_DnOutIdeal m →
    (∀ c : Dev Cert.DnOutIdeal.nD,
      m' ((c.tc : Thread Cert.DnOutRefIdeal.nD Cert.DnOutRefIdeal.τ).loc Cert.DnOutRefIdeal.main_arg0) = m ((c.tc : Thread Cert.DnOutIdeal.nD Cert.DnOutIdeal.τ).loc Cert.DnOutIdeal.main_arg0)
      ∧ m' ((c.tc : Thread Cert.DnOutRefIdeal.nD Cert.DnOutRefIdeal.τ).loc Cert.DnOutRefIdeal.main_arg1) = m ((c.tc : Thread Cert.DnOutIdeal.nD Cert.DnOutIdeal.τ).loc Cert.DnOutIdeal.main_arg1)
      ∧ m' ((c.tc : Thread Cert.DnOutRefIdeal.nD Cert.DnOutRefIdeal.τ).loc Cert.DnOutRefIdeal.main_arg2) = m ((c.tc : Thread Cert.DnOutIdeal.nD Cert.DnOutIdeal.τ).loc Cert.DnOutIdeal.main_arg2)
      ∧ m' ((c.tc : Thread Cert.DnOutRefIdeal.nD Cert.DnOutRefIdeal.τ).loc Cert.DnOutRefIdeal.main_arg3) = m ((c.tc : Thread Cert.DnOutIdeal.nD Cert.DnOutIdeal.τ).loc Cert.DnOutIdeal.main_arg3)
      ∧ m' ((c.tc : Thread Cert.DnOutRefIdeal.nD Cert.DnOutRefIdeal.τ).loc Cert.DnOutRefIdeal.main_arg4) = m ((c.tc : Thread Cert.DnOutIdeal.nD Cert.DnOutIdeal.τ).loc Cert.DnOutIdeal.main_arg4)
      ∧ m' ((c.tc : Thread Cert.DnOutRefIdeal.nD Cert.DnOutRefIdeal.τ).loc Cert.DnOutRefIdeal.main_arg5) = m ((c.tc : Thread Cert.DnOutIdeal.nD Cert.DnOutIdeal.τ).loc Cert.DnOutIdeal.main_arg5)) →
    ∃ (v0 : (c : Dev Cert.DnOutIdeal.nD) → Buf (Elt Ideal) ((c.tc : Thread Cert.DnOutIdeal.nD Cert.DnOutIdeal.τ).loc Cert.DnOutIdeal.main_v6)),
      θ_run (Cert.DnOutIdeal.defs (F := Ideal)) (onTc (τ := Cert.DnOutIdeal.τ) (Cert.DnOutIdeal.main (F := Ideal))) ⟨m, fun _ => 0, g⟩ (fun r => ∀ c : Dev Cert.DnOutIdeal.nD,
          r.2.mem ((c.tc : Thread Cert.DnOutIdeal.nD Cert.DnOutIdeal.τ).loc Cert.DnOutIdeal.main_v6) = v0 c
          ∧ r.2.mem ((c.tc : Thread Cert.DnOutIdeal.nD Cert.DnOutIdeal.τ).loc Cert.DnOutIdeal.main_arg0) = m ((c.tc : Thread Cert.DnOutIdeal.nD Cert.DnOutIdeal.τ).loc Cert.DnOutIdeal.main_arg0)
          ∧ r.2.mem ((c.tc : Thread Cert.DnOutIdeal.nD Cert.DnOutIdeal.τ).loc Cert.DnOutIdeal.main_arg1) = m ((c.tc : Thread Cert.DnOutIdeal.nD Cert.DnOutIdeal.τ).loc Cert.DnOutIdeal.main_arg1)
          ∧ r.2.mem ((c.tc : Thread Cert.DnOutIdeal.nD Cert.DnOutIdeal.τ).loc Cert.DnOutIdeal.main_arg2) = m ((c.tc : Thread Cert.DnOutIdeal.nD Cert.DnOutIdeal.τ).loc Cert.DnOutIdeal.main_arg2)
          ∧ r.2.mem ((c.tc : Thread Cert.DnOutIdeal.nD Cert.DnOutIdeal.τ).loc Cert.DnOutIdeal.main_arg3) = m ((c.tc : Thread Cert.DnOutIdeal.nD Cert.DnOutIdeal.τ).loc Cert.DnOutIdeal.main_arg3)
          ∧ r.2.mem ((c.tc : Thread Cert.DnOutIdeal.nD Cert.DnOutIdeal.τ).loc Cert.DnOutIdeal.main_arg4) = m ((c.tc : Thread Cert.DnOutIdeal.nD Cert.DnOutIdeal.τ).loc Cert.DnOutIdeal.main_arg4)
          ∧ r.2.mem ((c.tc : Thread Cert.DnOutIdeal.nD Cert.DnOutIdeal.τ).loc Cert.DnOutIdeal.main_arg5) = m ((c.tc : Thread Cert.DnOutIdeal.nD Cert.DnOutIdeal.τ).loc Cert.DnOutIdeal.main_arg5))
      ∧ θ_run (Cert.DnOutRefIdeal.defs (F := Ideal)) (onTc (τ := Cert.DnOutRefIdeal.τ) (Cert.DnOutRefIdeal.main (F := Ideal))) ⟨m', fun _ => 0, g'⟩ (fun r => ∀ c : Dev Cert.DnOutRefIdeal.nD,
          r.2.mem ((c.tc : Thread Cert.DnOutRefIdeal.nD Cert.DnOutRefIdeal.τ).loc Cert.DnOutRefIdeal.main_v41) = v0 c
          ∧ r.2.mem ((c.tc : Thread Cert.DnOutRefIdeal.nD Cert.DnOutRefIdeal.τ).loc Cert.DnOutRefIdeal.main_arg0) = m' ((c.tc : Thread Cert.DnOutRefIdeal.nD Cert.DnOutRefIdeal.τ).loc Cert.DnOutRefIdeal.main_arg0)
          ∧ r.2.mem ((c.tc : Thread Cert.DnOutRefIdeal.nD Cert.DnOutRefIdeal.τ).loc Cert.DnOutRefIdeal.main_arg1) = m' ((c.tc : Thread Cert.DnOutRefIdeal.nD Cert.DnOutRefIdeal.τ).loc Cert.DnOutRefIdeal.main_arg1)
          ∧ r.2.mem ((c.tc : Thread Cert.DnOutRefIdeal.nD Cert.DnOutRefIdeal.τ).loc Cert.DnOutRefIdeal.main_arg2) = m' ((c.tc : Thread Cert.DnOutRefIdeal.nD Cert.DnOutRefIdeal.τ).loc Cert.DnOutRefIdeal.main_arg2)
          ∧ r.2.mem ((c.tc : Thread Cert.DnOutRefIdeal.nD Cert.DnOutRefIdeal.τ).loc Cert.DnOutRefIdeal.main_arg3) = m' ((c.tc : Thread Cert.DnOutRefIdeal.nD Cert.DnOutRefIdeal.τ).loc Cert.DnOutRefIdeal.main_arg3)
          ∧ r.2.mem ((c.tc : Thread Cert.DnOutRefIdeal.nD Cert.DnOutRefIdeal.τ).loc Cert.DnOutRefIdeal.main_arg4) = m' ((c.tc : Thread Cert.DnOutRefIdeal.nD Cert.DnOutRefIdeal.τ).loc Cert.DnOutRefIdeal.main_arg4)
          ∧ r.2.mem ((c.tc : Thread Cert.DnOutRefIdeal.nD Cert.DnOutRefIdeal.τ).loc Cert.DnOutRefIdeal.main_arg5) = m' ((c.tc : Thread Cert.DnOutRefIdeal.nD Cert.DnOutRefIdeal.τ).loc Cert.DnOutRefIdeal.main_arg5))

def preserves_DnOutS_DnOutSIdeal : Prop :=
  True

def algebraic_DnOutSIdeal_DnOutSRefIdeal [hDnOutSIdeal : Cert.DnOutSIdeal.Facts] [hDnOutSRefIdeal : Cert.DnOutSRefIdeal.Facts] : Prop :=
  ∀ (m : (ℓ : Loc Cert.DnOutSIdeal.nD Cert.DnOutSIdeal.τ Cert.DnOutSIdeal.sig) → Buf (Elt Ideal) ℓ) (g : Dev Cert.DnOutSIdeal.nD → PrngReg)
    (m' : (ℓ : Loc Cert.DnOutSRefIdeal.nD Cert.DnOutSRefIdeal.τ Cert.DnOutSRefIdeal.sig) → Buf (Elt Ideal) ℓ) (g' : Dev Cert.DnOutSRefIdeal.nD → PrngReg), Pre_DnOutSIdeal m →
    (∀ c : Dev Cert.DnOutSIdeal.nD,
      m' ((c.tc : Thread Cert.DnOutSRefIdeal.nD Cert.DnOutSRefIdeal.τ).loc Cert.DnOutSRefIdeal.main_arg0) = m ((c.tc : Thread Cert.DnOutSIdeal.nD Cert.DnOutSIdeal.τ).loc Cert.DnOutSIdeal.main_arg0)
      ∧ m' ((c.tc : Thread Cert.DnOutSRefIdeal.nD Cert.DnOutSRefIdeal.τ).loc Cert.DnOutSRefIdeal.main_arg1) = m ((c.tc : Thread Cert.DnOutSIdeal.nD Cert.DnOutSIdeal.τ).loc Cert.DnOutSIdeal.main_arg1)
      ∧ m' ((c.tc : Thread Cert.DnOutSRefIdeal.nD Cert.DnOutSRefIdeal.τ).loc Cert.DnOutSRefIdeal.main_arg2) = m ((c.tc : Thread Cert.DnOutSIdeal.nD Cert.DnOutSIdeal.τ).loc Cert.DnOutSIdeal.main_arg2)
      ∧ m' ((c.tc : Thread Cert.DnOutSRefIdeal.nD Cert.DnOutSRefIdeal.τ).loc Cert.DnOutSRefIdeal.main_arg3) = m ((c.tc : Thread Cert.DnOutSIdeal.nD Cert.DnOutSIdeal.τ).loc Cert.DnOutSIdeal.main_arg3)
      ∧ m' ((c.tc : Thread Cert.DnOutSRefIdeal.nD Cert.DnOutSRefIdeal.τ).loc Cert.DnOutSRefIdeal.main_arg4) = m ((c.tc : Thread Cert.DnOutSIdeal.nD Cert.DnOutSIdeal.τ).loc Cert.DnOutSIdeal.main_arg4)
      ∧ m' ((c.tc : Thread Cert.DnOutSRefIdeal.nD Cert.DnOutSRefIdeal.τ).loc Cert.DnOutSRefIdeal.main_arg5) = m ((c.tc : Thread Cert.DnOutSIdeal.nD Cert.DnOutSIdeal.τ).loc Cert.DnOutSIdeal.main_arg5)) →
    ∃ (v0 : (c : Dev Cert.DnOutSIdeal.nD) → Buf (Elt Ideal) ((c.tc : Thread Cert.DnOutSIdeal.nD Cert.DnOutSIdeal.τ).loc Cert.DnOutSIdeal.main_v5)),
      θ_run (Cert.DnOutSIdeal.defs (F := Ideal)) (onTc (τ := Cert.DnOutSIdeal.τ) (Cert.DnOutSIdeal.main (F := Ideal))) ⟨m, fun _ => 0, g⟩ (fun r => ∀ c : Dev Cert.DnOutSIdeal.nD,
          r.2.mem ((c.tc : Thread Cert.DnOutSIdeal.nD Cert.DnOutSIdeal.τ).loc Cert.DnOutSIdeal.main_v5) = v0 c
          ∧ r.2.mem ((c.tc : Thread Cert.DnOutSIdeal.nD Cert.DnOutSIdeal.τ).loc Cert.DnOutSIdeal.main_arg0) = m ((c.tc : Thread Cert.DnOutSIdeal.nD Cert.DnOutSIdeal.τ).loc Cert.DnOutSIdeal.main_arg0)
          ∧ r.2.mem ((c.tc : Thread Cert.DnOutSIdeal.nD Cert.DnOutSIdeal.τ).loc Cert.DnOutSIdeal.main_arg1) = m ((c.tc : Thread Cert.DnOutSIdeal.nD Cert.DnOutSIdeal.τ).loc Cert.DnOutSIdeal.main_arg1)
          ∧ r.2.mem ((c.tc : Thread Cert.DnOutSIdeal.nD Cert.DnOutSIdeal.τ).loc Cert.DnOutSIdeal.main_arg2) = m ((c.tc : Thread Cert.DnOutSIdeal.nD Cert.DnOutSIdeal.τ).loc Cert.DnOutSIdeal.main_arg2)
          ∧ r.2.mem ((c.tc : Thread Cert.DnOutSIdeal.nD Cert.DnOutSIdeal.τ).loc Cert.DnOutSIdeal.main_arg3) = m ((c.tc : Thread Cert.DnOutSIdeal.nD Cert.DnOutSIdeal.τ).loc Cert.DnOutSIdeal.main_arg3)
          ∧ r.2.mem ((c.tc : Thread Cert.DnOutSIdeal.nD Cert.DnOutSIdeal.τ).loc Cert.DnOutSIdeal.main_arg4) = m ((c.tc : Thread Cert.DnOutSIdeal.nD Cert.DnOutSIdeal.τ).loc Cert.DnOutSIdeal.main_arg4)
          ∧ r.2.mem ((c.tc : Thread Cert.DnOutSIdeal.nD Cert.DnOutSIdeal.τ).loc Cert.DnOutSIdeal.main_arg5) = m ((c.tc : Thread Cert.DnOutSIdeal.nD Cert.DnOutSIdeal.τ).loc Cert.DnOutSIdeal.main_arg5))
      ∧ θ_run (Cert.DnOutSRefIdeal.defs (F := Ideal)) (onTc (τ := Cert.DnOutSRefIdeal.τ) (Cert.DnOutSRefIdeal.main (F := Ideal))) ⟨m', fun _ => 0, g'⟩ (fun r => ∀ c : Dev Cert.DnOutSRefIdeal.nD,
          r.2.mem ((c.tc : Thread Cert.DnOutSRefIdeal.nD Cert.DnOutSRefIdeal.τ).loc Cert.DnOutSRefIdeal.main_v37) = v0 c
          ∧ r.2.mem ((c.tc : Thread Cert.DnOutSRefIdeal.nD Cert.DnOutSRefIdeal.τ).loc Cert.DnOutSRefIdeal.main_arg0) = m' ((c.tc : Thread Cert.DnOutSRefIdeal.nD Cert.DnOutSRefIdeal.τ).loc Cert.DnOutSRefIdeal.main_arg0)
          ∧ r.2.mem ((c.tc : Thread Cert.DnOutSRefIdeal.nD Cert.DnOutSRefIdeal.τ).loc Cert.DnOutSRefIdeal.main_arg1) = m' ((c.tc : Thread Cert.DnOutSRefIdeal.nD Cert.DnOutSRefIdeal.τ).loc Cert.DnOutSRefIdeal.main_arg1)
          ∧ r.2.mem ((c.tc : Thread Cert.DnOutSRefIdeal.nD Cert.DnOutSRefIdeal.τ).loc Cert.DnOutSRefIdeal.main_arg2) = m' ((c.tc : Thread Cert.DnOutSRefIdeal.nD Cert.DnOutSRefIdeal.τ).loc Cert.DnOutSRefIdeal.main_arg2)
          ∧ r.2.mem ((c.tc : Thread Cert.DnOutSRefIdeal.nD Cert.DnOutSRefIdeal.τ).loc Cert.DnOutSRefIdeal.main_arg3) = m' ((c.tc : Thread Cert.DnOutSRefIdeal.nD Cert.DnOutSRefIdeal.τ).loc Cert.DnOutSRefIdeal.main_arg3)
          ∧ r.2.mem ((c.tc : Thread Cert.DnOutSRefIdeal.nD Cert.DnOutSRefIdeal.τ).loc Cert.DnOutSRefIdeal.main_arg4) = m' ((c.tc : Thread Cert.DnOutSRefIdeal.nD Cert.DnOutSRefIdeal.τ).loc Cert.DnOutSRefIdeal.main_arg4)
          ∧ r.2.mem ((c.tc : Thread Cert.DnOutSRefIdeal.nD Cert.DnOutSRefIdeal.τ).loc Cert.DnOutSRefIdeal.main_arg5) = m' ((c.tc : Thread Cert.DnOutSRefIdeal.nD Cert.DnOutSRefIdeal.τ).loc Cert.DnOutSRefIdeal.main_arg5))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)) →
    ∃ (v0 : (c : Dev Cert.MixOutIdeal.nD) → Buf (Elt Ideal) ((c.tc : Thread Cert.MixOutIdeal.nD Cert.MixOutIdeal.τ).loc Cert.MixOutIdeal.main_v6)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v6) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v41) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5))

def preserves_DnIn_DnInIdeal : Prop :=
  True

def algebraic_DnInIdeal_DnInRefIdeal [hDnInIdeal : Cert.DnInIdeal.Facts] [hDnInRefIdeal : Cert.DnInRefIdeal.Facts] : Prop :=
  ∀ (m : (ℓ : Loc Cert.DnInIdeal.nD Cert.DnInIdeal.τ Cert.DnInIdeal.sig) → Buf (Elt Ideal) ℓ) (g : Dev Cert.DnInIdeal.nD → PrngReg)
    (m' : (ℓ : Loc Cert.DnInRefIdeal.nD Cert.DnInRefIdeal.τ Cert.DnInRefIdeal.sig) → Buf (Elt Ideal) ℓ) (g' : Dev Cert.DnInRefIdeal.nD → PrngReg), Pre_DnInIdeal m →
    (∀ c : Dev Cert.DnInIdeal.nD,
      m' ((c.tc : Thread Cert.DnInRefIdeal.nD Cert.DnInRefIdeal.τ).loc Cert.DnInRefIdeal.main_arg0) = m ((c.tc : Thread Cert.DnInIdeal.nD Cert.DnInIdeal.τ).loc Cert.DnInIdeal.main_arg0)
      ∧ m' ((c.tc : Thread Cert.DnInRefIdeal.nD Cert.DnInRefIdeal.τ).loc Cert.DnInRefIdeal.main_arg1) = m ((c.tc : Thread Cert.DnInIdeal.nD Cert.DnInIdeal.τ).loc Cert.DnInIdeal.main_arg1)
      ∧ m' ((c.tc : Thread Cert.DnInRefIdeal.nD Cert.DnInRefIdeal.τ).loc Cert.DnInRefIdeal.main_arg2) = m ((c.tc : Thread Cert.DnInIdeal.nD Cert.DnInIdeal.τ).loc Cert.DnInIdeal.main_arg2)
      ∧ m' ((c.tc : Thread Cert.DnInRefIdeal.nD Cert.DnInRefIdeal.τ).loc Cert.DnInRefIdeal.main_arg3) = m ((c.tc : Thread Cert.DnInIdeal.nD Cert.DnInIdeal.τ).loc Cert.DnInIdeal.main_arg3)
      ∧ m' ((c.tc : Thread Cert.DnInRefIdeal.nD Cert.DnInRefIdeal.τ).loc Cert.DnInRefIdeal.main_arg4) = m ((c.tc : Thread Cert.DnInIdeal.nD Cert.DnInIdeal.τ).loc Cert.DnInIdeal.main_arg4)
      ∧ m' ((c.tc : Thread Cert.DnInRefIdeal.nD Cert.DnInRefIdeal.τ).loc Cert.DnInRefIdeal.main_arg5) = m ((c.tc : Thread Cert.DnInIdeal.nD Cert.DnInIdeal.τ).loc Cert.DnInIdeal.main_arg5)) →
    ∃ (v0 : (c : Dev Cert.DnInIdeal.nD) → Buf (Elt Ideal) ((c.tc : Thread Cert.DnInIdeal.nD Cert.DnInIdeal.τ).loc Cert.DnInIdeal.main_v8_0)) (v1 : (c : Dev Cert.DnInIdeal.nD) → Buf (Elt Ideal) ((c.tc : Thread Cert.DnInIdeal.nD Cert.DnInIdeal.τ).loc Cert.DnInIdeal.main_v8_1)) (v2 : (c : Dev Cert.DnInIdeal.nD) → Buf (Elt Ideal) ((c.tc : Thread Cert.DnInIdeal.nD Cert.DnInIdeal.τ).loc Cert.DnInIdeal.main_v9)) (v3 : (c : Dev Cert.DnInIdeal.nD) → Buf (Elt Ideal) ((c.tc : Thread Cert.DnInIdeal.nD Cert.DnInIdeal.τ).loc Cert.DnInIdeal.main_v10)),
      θ_run (Cert.DnInIdeal.defs (F := Ideal)) (onTc (τ := Cert.DnInIdeal.τ) (Cert.DnInIdeal.main (F := Ideal))) ⟨m, fun _ => 0, g⟩ (fun r => ∀ c : Dev Cert.DnInIdeal.nD,
          r.2.mem ((c.tc : Thread Cert.DnInIdeal.nD Cert.DnInIdeal.τ).loc Cert.DnInIdeal.main_v8_0) = v0 c
          ∧ r.2.mem ((c.tc : Thread Cert.DnInIdeal.nD Cert.DnInIdeal.τ).loc Cert.DnInIdeal.main_v8_1) = v1 c
          ∧ r.2.mem ((c.tc : Thread Cert.DnInIdeal.nD Cert.DnInIdeal.τ).loc Cert.DnInIdeal.main_v9) = v2 c
          ∧ r.2.mem ((c.tc : Thread Cert.DnInIdeal.nD Cert.DnInIdeal.τ).loc Cert.DnInIdeal.main_v10) = v3 c
          ∧ r.2.mem ((c.tc : Thread Cert.DnInIdeal.nD Cert.DnInIdeal.τ).loc Cert.DnInIdeal.main_arg0) = m ((c.tc : Thread Cert.DnInIdeal.nD Cert.DnInIdeal.τ).loc Cert.DnInIdeal.main_arg0)
          ∧ r.2.mem ((c.tc : Thread Cert.DnInIdeal.nD Cert.DnInIdeal.τ).loc Cert.DnInIdeal.main_arg1) = m ((c.tc : Thread Cert.DnInIdeal.nD Cert.DnInIdeal.τ).loc Cert.DnInIdeal.main_arg1)
          ∧ r.2.mem ((c.tc : Thread Cert.DnInIdeal.nD Cert.DnInIdeal.τ).loc Cert.DnInIdeal.main_arg2) = m ((c.tc : Thread Cert.DnInIdeal.nD Cert.DnInIdeal.τ).loc Cert.DnInIdeal.main_arg2)
          ∧ r.2.mem ((c.tc : Thread Cert.DnInIdeal.nD Cert.DnInIdeal.τ).loc Cert.DnInIdeal.main_arg3) = m ((c.tc : Thread Cert.DnInIdeal.nD Cert.DnInIdeal.τ).loc Cert.DnInIdeal.main_arg3)
          ∧ r.2.mem ((c.tc : Thread Cert.DnInIdeal.nD Cert.DnInIdeal.τ).loc Cert.DnInIdeal.main_arg4) = m ((c.tc : Thread Cert.DnInIdeal.nD Cert.DnInIdeal.τ).loc Cert.DnInIdeal.main_arg4)
          ∧ r.2.mem ((c.tc : Thread Cert.DnInIdeal.nD Cert.DnInIdeal.τ).loc Cert.DnInIdeal.main_arg5) = m ((c.tc : Thread Cert.DnInIdeal.nD Cert.DnInIdeal.τ).loc Cert.DnInIdeal.main_arg5))
      ∧ θ_run (Cert.DnInRefIdeal.defs (F := Ideal)) (onTc (τ := Cert.DnInRefIdeal.τ) (Cert.DnInRefIdeal.main (F := Ideal))) ⟨m', fun _ => 0, g'⟩ (fun r => ∀ c : Dev Cert.DnInRefIdeal.nD,
          r.2.mem ((c.tc : Thread Cert.DnInRefIdeal.nD Cert.DnInRefIdeal.τ).loc Cert.DnInRefIdeal.main_v60) = v0 c
          ∧ r.2.mem ((c.tc : Thread Cert.DnInRefIdeal.nD Cert.DnInRefIdeal.τ).loc Cert.DnInRefIdeal.main_v61) = v1 c
          ∧ r.2.mem ((c.tc : Thread Cert.DnInRefIdeal.nD Cert.DnInRefIdeal.τ).loc Cert.DnInRefIdeal.main_v63) = v2 c
          ∧ r.2.mem ((c.tc : Thread Cert.DnInRefIdeal.nD Cert.DnInRefIdeal.τ).loc Cert.DnInRefIdeal.main_v64) = v3 c
          ∧ r.2.mem ((c.tc : Thread Cert.DnInRefIdeal.nD Cert.DnInRefIdeal.τ).loc Cert.DnInRefIdeal.main_arg0) = m' ((c.tc : Thread Cert.DnInRefIdeal.nD Cert.DnInRefIdeal.τ).loc Cert.DnInRefIdeal.main_arg0)
          ∧ r.2.mem ((c.tc : Thread Cert.DnInRefIdeal.nD Cert.DnInRefIdeal.τ).loc Cert.DnInRefIdeal.main_arg1) = m' ((c.tc : Thread Cert.DnInRefIdeal.nD Cert.DnInRefIdeal.τ).loc Cert.DnInRefIdeal.main_arg1)
          ∧ r.2.mem ((c.tc : Thread Cert.DnInRefIdeal.nD Cert.DnInRefIdeal.τ).loc Cert.DnInRefIdeal.main_arg2) = m' ((c.tc : Thread Cert.DnInRefIdeal.nD Cert.DnInRefIdeal.τ).loc Cert.DnInRefIdeal.main_arg2)
          ∧ r.2.mem ((c.tc : Thread Cert.DnInRefIdeal.nD Cert.DnInRefIdeal.τ).loc Cert.DnInRefIdeal.main_arg3) = m' ((c.tc : Thread Cert.DnInRefIdeal.nD Cert.DnInRefIdeal.τ).loc Cert.DnInRefIdeal.main_arg3)
          ∧ r.2.mem ((c.tc : Thread Cert.DnInRefIdeal.nD Cert.DnInRefIdeal.τ).loc Cert.DnInRefIdeal.main_arg4) = m' ((c.tc : Thread Cert.DnInRefIdeal.nD Cert.DnInRefIdeal.τ).loc Cert.DnInRefIdeal.main_arg4)
          ∧ r.2.mem ((c.tc : Thread Cert.DnInRefIdeal.nD Cert.DnInRefIdeal.τ).loc Cert.DnInRefIdeal.main_arg5) = m' ((c.tc : Thread Cert.DnInRefIdeal.nD Cert.DnInRefIdeal.τ).loc Cert.DnInRefIdeal.main_arg5))

def preserves_SwaDec_SwaDecIdeal : Prop :=
  True

def algebraic_SwaDecIdeal_SwaDecRefIdeal_pre_decode_finite [hSwaDecIdeal : Cert.SwaDecIdeal.Facts] [hSwaDecRefIdeal : Cert.SwaDecRefIdeal.Facts] [hPre_decode_finite : Cert.Pre_decode_finite.Facts] : Prop :=
  ∀ (m : (ℓ : Loc Cert.SwaDecIdeal.nD Cert.SwaDecIdeal.τ Cert.SwaDecIdeal.sig) → Buf (Elt Ideal) ℓ) (g : Dev Cert.SwaDecIdeal.nD → PrngReg)
    (m' : (ℓ : Loc Cert.SwaDecRefIdeal.nD Cert.SwaDecRefIdeal.τ Cert.SwaDecRefIdeal.sig) → Buf (Elt Ideal) ℓ) (g' : Dev Cert.SwaDecRefIdeal.nD → PrngReg), Pre_SwaDecIdeal_decode_finite m →
    (∀ c : Dev Cert.SwaDecIdeal.nD,
      m' ((c.tc : Thread Cert.SwaDecRefIdeal.nD Cert.SwaDecRefIdeal.τ).loc Cert.SwaDecRefIdeal.main_arg0) = m ((c.tc : Thread Cert.SwaDecIdeal.nD Cert.SwaDecIdeal.τ).loc Cert.SwaDecIdeal.main_arg0)
      ∧ m' ((c.tc : Thread Cert.SwaDecRefIdeal.nD Cert.SwaDecRefIdeal.τ).loc Cert.SwaDecRefIdeal.main_arg1) = m ((c.tc : Thread Cert.SwaDecIdeal.nD Cert.SwaDecIdeal.τ).loc Cert.SwaDecIdeal.main_arg1)
      ∧ m' ((c.tc : Thread Cert.SwaDecRefIdeal.nD Cert.SwaDecRefIdeal.τ).loc Cert.SwaDecRefIdeal.main_arg2) = m ((c.tc : Thread Cert.SwaDecIdeal.nD Cert.SwaDecIdeal.τ).loc Cert.SwaDecIdeal.main_arg2)
      ∧ m' ((c.tc : Thread Cert.SwaDecRefIdeal.nD Cert.SwaDecRefIdeal.τ).loc Cert.SwaDecRefIdeal.main_arg3) = m ((c.tc : Thread Cert.SwaDecIdeal.nD Cert.SwaDecIdeal.τ).loc Cert.SwaDecIdeal.main_arg3)
      ∧ m' ((c.tc : Thread Cert.SwaDecRefIdeal.nD Cert.SwaDecRefIdeal.τ).loc Cert.SwaDecRefIdeal.main_arg4) = m ((c.tc : Thread Cert.SwaDecIdeal.nD Cert.SwaDecIdeal.τ).loc Cert.SwaDecIdeal.main_arg4)
      ∧ m' ((c.tc : Thread Cert.SwaDecRefIdeal.nD Cert.SwaDecRefIdeal.τ).loc Cert.SwaDecRefIdeal.main_arg5) = m ((c.tc : Thread Cert.SwaDecIdeal.nD Cert.SwaDecIdeal.τ).loc Cert.SwaDecIdeal.main_arg5)
      ∧ m' ((c.tc : Thread Cert.SwaDecRefIdeal.nD Cert.SwaDecRefIdeal.τ).loc Cert.SwaDecRefIdeal.main_arg6) = m ((c.tc : Thread Cert.SwaDecIdeal.nD Cert.SwaDecIdeal.τ).loc Cert.SwaDecIdeal.main_arg6)) →
    ∃ (v0 : (c : Dev Cert.SwaDecIdeal.nD) → Buf (Elt Ideal) ((c.tc : Thread Cert.SwaDecIdeal.nD Cert.SwaDecIdeal.τ).loc Cert.SwaDecIdeal.main_v7_0)) (v1 : (c : Dev Cert.SwaDecIdeal.nD) → Buf (Elt Ideal) ((c.tc : Thread Cert.SwaDecIdeal.nD Cert.SwaDecIdeal.τ).loc Cert.SwaDecIdeal.main_v7_1)) (v2 : (c : Dev Cert.SwaDecIdeal.nD) → Buf (Elt Ideal) ((c.tc : Thread Cert.SwaDecIdeal.nD Cert.SwaDecIdeal.τ).loc Cert.SwaDecIdeal.main_v7_2)),
      θ_run (Cert.SwaDecIdeal.defs (F := Ideal)) (onTc (τ := Cert.SwaDecIdeal.τ) (Cert.SwaDecIdeal.main (F := Ideal))) ⟨m, fun _ => 0, g⟩ (fun r => ∀ c : Dev Cert.SwaDecIdeal.nD,
          r.2.mem ((c.tc : Thread Cert.SwaDecIdeal.nD Cert.SwaDecIdeal.τ).loc Cert.SwaDecIdeal.main_v7_0) = v0 c
          ∧ r.2.mem ((c.tc : Thread Cert.SwaDecIdeal.nD Cert.SwaDecIdeal.τ).loc Cert.SwaDecIdeal.main_v7_1) = v1 c
          ∧ r.2.mem ((c.tc : Thread Cert.SwaDecIdeal.nD Cert.SwaDecIdeal.τ).loc Cert.SwaDecIdeal.main_v7_2) = v2 c
          ∧ r.2.mem ((c.tc : Thread Cert.SwaDecIdeal.nD Cert.SwaDecIdeal.τ).loc Cert.SwaDecIdeal.main_arg0) = m ((c.tc : Thread Cert.SwaDecIdeal.nD Cert.SwaDecIdeal.τ).loc Cert.SwaDecIdeal.main_arg0)
          ∧ r.2.mem ((c.tc : Thread Cert.SwaDecIdeal.nD Cert.SwaDecIdeal.τ).loc Cert.SwaDecIdeal.main_arg1) = m ((c.tc : Thread Cert.SwaDecIdeal.nD Cert.SwaDecIdeal.τ).loc Cert.SwaDecIdeal.main_arg1)
          ∧ r.2.mem ((c.tc : Thread Cert.SwaDecIdeal.nD Cert.SwaDecIdeal.τ).loc Cert.SwaDecIdeal.main_arg2) = m ((c.tc : Thread Cert.SwaDecIdeal.nD Cert.SwaDecIdeal.τ).loc Cert.SwaDecIdeal.main_arg2)
          ∧ r.2.mem ((c.tc : Thread Cert.SwaDecIdeal.nD Cert.SwaDecIdeal.τ).loc Cert.SwaDecIdeal.main_arg3) = m ((c.tc : Thread Cert.SwaDecIdeal.nD Cert.SwaDecIdeal.τ).loc Cert.SwaDecIdeal.main_arg3)
          ∧ r.2.mem ((c.tc : Thread Cert.SwaDecIdeal.nD Cert.SwaDecIdeal.τ).loc Cert.SwaDecIdeal.main_arg4) = m ((c.tc : Thread Cert.SwaDecIdeal.nD Cert.SwaDecIdeal.τ).loc Cert.SwaDecIdeal.main_arg4)
          ∧ r.2.mem ((c.tc : Thread Cert.SwaDecIdeal.nD Cert.SwaDecIdeal.τ).loc Cert.SwaDecIdeal.main_arg5) = m ((c.tc : Thread Cert.SwaDecIdeal.nD Cert.SwaDecIdeal.τ).loc Cert.SwaDecIdeal.main_arg5)
          ∧ r.2.mem ((c.tc : Thread Cert.SwaDecIdeal.nD Cert.SwaDecIdeal.τ).loc Cert.SwaDecIdeal.main_arg6) = m ((c.tc : Thread Cert.SwaDecIdeal.nD Cert.SwaDecIdeal.τ).loc Cert.SwaDecIdeal.main_arg6))
      ∧ θ_run (Cert.SwaDecRefIdeal.defs (F := Ideal)) (onTc (τ := Cert.SwaDecRefIdeal.τ) (Cert.SwaDecRefIdeal.main (F := Ideal))) ⟨m', fun _ => 0, g'⟩ (fun r => ∀ c : Dev Cert.SwaDecRefIdeal.nD,
          r.2.mem ((c.tc : Thread Cert.SwaDecRefIdeal.nD Cert.SwaDecRefIdeal.τ).loc Cert.SwaDecRefIdeal.main_v47) = v0 c
          ∧ r.2.mem ((c.tc : Thread Cert.SwaDecRefIdeal.nD Cert.SwaDecRefIdeal.τ).loc Cert.SwaDecRefIdeal.main_v48) = v1 c
          ∧ r.2.mem ((c.tc : Thread Cert.SwaDecRefIdeal.nD Cert.SwaDecRefIdeal.τ).loc Cert.SwaDecRefIdeal.main_v49) = v2 c
          ∧ r.2.mem ((c.tc : Thread Cert.SwaDecRefIdeal.nD Cert.SwaDecRefIdeal.τ).loc Cert.SwaDecRefIdeal.main_arg0) = m' ((c.tc : Thread Cert.SwaDecRefIdeal.nD Cert.SwaDecRefIdeal.τ).loc Cert.SwaDecRefIdeal.main_arg0)
          ∧ r.2.mem ((c.tc : Thread Cert.SwaDecRefIdeal.nD Cert.SwaDecRefIdeal.τ).loc Cert.SwaDecRefIdeal.main_arg1) = m' ((c.tc : Thread Cert.SwaDecRefIdeal.nD Cert.SwaDecRefIdeal.τ).loc Cert.SwaDecRefIdeal.main_arg1)
          ∧ r.2.mem ((c.tc : Thread Cert.SwaDecRefIdeal.nD Cert.SwaDecRefIdeal.τ).loc Cert.SwaDecRefIdeal.main_arg2) = m' ((c.tc : Thread Cert.SwaDecRefIdeal.nD Cert.SwaDecRefIdeal.τ).loc Cert.SwaDecRefIdeal.main_arg2)
          ∧ r.2.mem ((c.tc : Thread Cert.SwaDecRefIdeal.nD Cert.SwaDecRefIdeal.τ).loc Cert.SwaDecRefIdeal.main_arg3) = m' ((c.tc : Thread Cert.SwaDecRefIdeal.nD Cert.SwaDecRefIdeal.τ).loc Cert.SwaDecRefIdeal.main_arg3)
          ∧ r.2.mem ((c.tc : Thread Cert.SwaDecRefIdeal.nD Cert.SwaDecRefIdeal.τ).loc Cert.SwaDecRefIdeal.main_arg4) = m' ((c.tc : Thread Cert.SwaDecRefIdeal.nD Cert.SwaDecRefIdeal.τ).loc Cert.SwaDecRefIdeal.main_arg4)
          ∧ r.2.mem ((c.tc : Thread Cert.SwaDecRefIdeal.nD Cert.SwaDecRefIdeal.τ).loc Cert.SwaDecRefIdeal.main_arg5) = m' ((c.tc : Thread Cert.SwaDecRefIdeal.nD Cert.SwaDecRefIdeal.τ).loc Cert.SwaDecRefIdeal.main_arg5)
          ∧ r.2.mem ((c.tc : Thread Cert.SwaDecRefIdeal.nD Cert.SwaDecRefIdeal.τ).loc Cert.SwaDecRefIdeal.main_arg6) = m' ((c.tc : Thread Cert.SwaDecRefIdeal.nD Cert.SwaDecRefIdeal.τ).loc Cert.SwaDecRefIdeal.main_arg6))

def preserves_DnPrep_DnPrepIdeal : Prop :=
  True

def algebraic_DnPrepIdeal_DnPrepRefIdeal [hDnPrepIdeal : Cert.DnPrepIdeal.Facts] [hDnPrepRefIdeal : Cert.DnPrepRefIdeal.Facts] : Prop :=
  ∀ (m : (ℓ : Loc Cert.DnPrepIdeal.nD Cert.DnPrepIdeal.τ Cert.DnPrepIdeal.sig) → Buf (Elt Ideal) ℓ) (g : Dev Cert.DnPrepIdeal.nD → PrngReg)
    (m' : (ℓ : Loc Cert.DnPrepRefIdeal.nD Cert.DnPrepRefIdeal.τ Cert.DnPrepRefIdeal.sig) → Buf (Elt Ideal) ℓ) (g' : Dev Cert.DnPrepRefIdeal.nD → PrngReg), Pre_DnPrepIdeal m →
    (∀ c : Dev Cert.DnPrepIdeal.nD,
      m' ((c.tc : Thread Cert.DnPrepRefIdeal.nD Cert.DnPrepRefIdeal.τ).loc Cert.DnPrepRefIdeal.main_arg0) = m ((c.tc : Thread Cert.DnPrepIdeal.nD Cert.DnPrepIdeal.τ).loc Cert.DnPrepIdeal.main_arg0)
      ∧ m' ((c.tc : Thread Cert.DnPrepRefIdeal.nD Cert.DnPrepRefIdeal.τ).loc Cert.DnPrepRefIdeal.main_arg1) = m ((c.tc : Thread Cert.DnPrepIdeal.nD Cert.DnPrepIdeal.τ).loc Cert.DnPrepIdeal.main_arg1)
      ∧ m' ((c.tc : Thread Cert.DnPrepRefIdeal.nD Cert.DnPrepRefIdeal.τ).loc Cert.DnPrepRefIdeal.main_arg2) = m ((c.tc : Thread Cert.DnPrepIdeal.nD Cert.DnPrepIdeal.τ).loc Cert.DnPrepIdeal.main_arg2)) →
    ∃ (v0 : (c : Dev Cert.DnPrepIdeal.nD) → Buf (Elt Ideal) ((c.tc : Thread Cert.DnPrepIdeal.nD Cert.DnPrepIdeal.τ).loc Cert.DnPrepIdeal.main_v1_0)) (v1 : (c : Dev Cert.DnPrepIdeal.nD) → Buf (Elt Ideal) ((c.tc : Thread Cert.DnPrepIdeal.nD Cert.DnPrepIdeal.τ).loc Cert.DnPrepIdeal.main_v2)),
      θ_run (Cert.DnPrepIdeal.defs (F := Ideal)) (onTc (τ := Cert.DnPrepIdeal.τ) (Cert.DnPrepIdeal.main (F := Ideal))) ⟨m, fun _ => 0, g⟩ (fun r => ∀ c : Dev Cert.DnPrepIdeal.nD,
          r.2.mem ((c.tc : Thread Cert.DnPrepIdeal.nD Cert.DnPrepIdeal.τ).loc Cert.DnPrepIdeal.main_v1_0) = v0 c
          ∧ r.2.mem ((c.tc : Thread Cert.DnPrepIdeal.nD Cert.DnPrepIdeal.τ).loc Cert.DnPrepIdeal.main_v2) = v1 c
          ∧ r.2.mem ((c.tc : Thread Cert.DnPrepIdeal.nD Cert.DnPrepIdeal.τ).loc Cert.DnPrepIdeal.main_arg0) = m ((c.tc : Thread Cert.DnPrepIdeal.nD Cert.DnPrepIdeal.τ).loc Cert.DnPrepIdeal.main_arg0)
          ∧ r.2.mem ((c.tc : Thread Cert.DnPrepIdeal.nD Cert.DnPrepIdeal.τ).loc Cert.DnPrepIdeal.main_arg1) = m ((c.tc : Thread Cert.DnPrepIdeal.nD Cert.DnPrepIdeal.τ).loc Cert.DnPrepIdeal.main_arg1)
          ∧ r.2.mem ((c.tc : Thread Cert.DnPrepIdeal.nD Cert.DnPrepIdeal.τ).loc Cert.DnPrepIdeal.main_arg2) = m ((c.tc : Thread Cert.DnPrepIdeal.nD Cert.DnPrepIdeal.τ).loc Cert.DnPrepIdeal.main_arg2))
      ∧ θ_run (Cert.DnPrepRefIdeal.defs (F := Ideal)) (onTc (τ := Cert.DnPrepRefIdeal.τ) (Cert.DnPrepRefIdeal.main (F := Ideal))) ⟨m', fun _ => 0, g'⟩ (fun r => ∀ c : Dev Cert.DnPrepRefIdeal.nD,
          r.2.mem ((c.tc : Thread Cert.DnPrepRefIdeal.nD Cert.DnPrepRefIdeal.τ).loc Cert.DnPrepRefIdeal.main_v56) = v0 c
          ∧ r.2.mem ((c.tc : Thread Cert.DnPrepRefIdeal.nD Cert.DnPrepRefIdeal.τ).loc Cert.DnPrepRefIdeal.main_v57) = v1 c
          ∧ r.2.mem ((c.tc : Thread Cert.DnPrepRefIdeal.nD Cert.DnPrepRefIdeal.τ).loc Cert.DnPrepRefIdeal.main_arg0) = m' ((c.tc : Thread Cert.DnPrepRefIdeal.nD Cert.DnPrepRefIdeal.τ).loc Cert.DnPrepRefIdeal.main_arg0)
          ∧ r.2.mem ((c.tc : Thread Cert.DnPrepRefIdeal.nD Cert.DnPrepRefIdeal.τ).loc Cert.DnPrepRefIdeal.main_arg1) = m' ((c.tc : Thread Cert.DnPrepRefIdeal.nD Cert.DnPrepRefIdeal.τ).loc Cert.DnPrepRefIdeal.main_arg1)
          ∧ r.2.mem ((c.tc : Thread Cert.DnPrepRefIdeal.nD Cert.DnPrepRefIdeal.τ).loc Cert.DnPrepRefIdeal.main_arg2) = m' ((c.tc : Thread Cert.DnPrepRefIdeal.nD Cert.DnPrepRefIdeal.τ).loc Cert.DnPrepRefIdeal.main_arg2))

def preserves_DnStep_DnStepIdeal : Prop :=
  True

def algebraic_DnStepIdeal_DnStepRefIdeal_pre_step_finite [hDnStepIdeal : Cert.DnStepIdeal.Facts] [hDnStepRefIdeal : Cert.DnStepRefIdeal.Facts] [hPre_step_finite : Cert.Pre_step_finite.Facts] : Prop :=
  ∀ (m : (ℓ : Loc Cert.DnStepIdeal.nD Cert.DnStepIdeal.τ Cert.DnStepIdeal.sig) → Buf (Elt Ideal) ℓ) (g : Dev Cert.DnStepIdeal.nD → PrngReg)
    (m' : (ℓ : Loc Cert.DnStepRefIdeal.nD Cert.DnStepRefIdeal.τ Cert.DnStepRefIdeal.sig) → Buf (Elt Ideal) ℓ) (g' : Dev Cert.DnStepRefIdeal.nD → PrngReg), Pre_DnStepIdeal_step_finite m →
    (∀ c : Dev Cert.DnStepIdeal.nD,
      m' ((c.tc : Thread Cert.DnStepRefIdeal.nD Cert.DnStepRefIdeal.τ).loc Cert.DnStepRefIdeal.main_arg0) = m ((c.tc : Thread Cert.DnStepIdeal.nD Cert.DnStepIdeal.τ).loc Cert.DnStepIdeal.main_arg0)
      ∧ m' ((c.tc : Thread Cert.DnStepRefIdeal.nD Cert.DnStepRefIdeal.τ).loc Cert.DnStepRefIdeal.main_arg1) = m ((c.tc : Thread Cert.DnStepIdeal.nD Cert.DnStepIdeal.τ).loc Cert.DnStepIdeal.main_arg1)
      ∧ m' ((c.tc : Thread Cert.DnStepRefIdeal.nD Cert.DnStepRefIdeal.τ).loc Cert.DnStepRefIdeal.main_arg2) = m ((c.tc : Thread Cert.DnStepIdeal.nD Cert.DnStepIdeal.τ).loc Cert.DnStepIdeal.main_arg2)
      ∧ m' ((c.tc : Thread Cert.DnStepRefIdeal.nD Cert.DnStepRefIdeal.τ).loc Cert.DnStepRefIdeal.main_arg3) = m ((c.tc : Thread Cert.DnStepIdeal.nD Cert.DnStepIdeal.τ).loc Cert.DnStepIdeal.main_arg3)
      ∧ m' ((c.tc : Thread Cert.DnStepRefIdeal.nD Cert.DnStepRefIdeal.τ).loc Cert.DnStepRefIdeal.main_arg4) = m ((c.tc : Thread Cert.DnStepIdeal.nD Cert.DnStepIdeal.τ).loc Cert.DnStepIdeal.main_arg4)) →
    ∃ (v0 : (c : Dev Cert.DnStepIdeal.nD) → Buf (Elt Ideal) ((c.tc : Thread Cert.DnStepIdeal.nD Cert.DnStepIdeal.τ).loc Cert.DnStepIdeal.main_v10_0)) (v1 : (c : Dev Cert.DnStepIdeal.nD) → Buf (Elt Ideal) ((c.tc : Thread Cert.DnStepIdeal.nD Cert.DnStepIdeal.τ).loc Cert.DnStepIdeal.main_v10_1)),
      θ_run (Cert.DnStepIdeal.defs (F := Ideal)) (onTc (τ := Cert.DnStepIdeal.τ) (Cert.DnStepIdeal.main (F := Ideal))) ⟨m, fun _ => 0, g⟩ (fun r => ∀ c : Dev Cert.DnStepIdeal.nD,
          r.2.mem ((c.tc : Thread Cert.DnStepIdeal.nD Cert.DnStepIdeal.τ).loc Cert.DnStepIdeal.main_v10_0) = v0 c
          ∧ r.2.mem ((c.tc : Thread Cert.DnStepIdeal.nD Cert.DnStepIdeal.τ).loc Cert.DnStepIdeal.main_v10_1) = v1 c
          ∧ r.2.mem ((c.tc : Thread Cert.DnStepIdeal.nD Cert.DnStepIdeal.τ).loc Cert.DnStepIdeal.main_arg0) = m ((c.tc : Thread Cert.DnStepIdeal.nD Cert.DnStepIdeal.τ).loc Cert.DnStepIdeal.main_arg0)
          ∧ r.2.mem ((c.tc : Thread Cert.DnStepIdeal.nD Cert.DnStepIdeal.τ).loc Cert.DnStepIdeal.main_arg1) = m ((c.tc : Thread Cert.DnStepIdeal.nD Cert.DnStepIdeal.τ).loc Cert.DnStepIdeal.main_arg1)
          ∧ r.2.mem ((c.tc : Thread Cert.DnStepIdeal.nD Cert.DnStepIdeal.τ).loc Cert.DnStepIdeal.main_arg2) = m ((c.tc : Thread Cert.DnStepIdeal.nD Cert.DnStepIdeal.τ).loc Cert.DnStepIdeal.main_arg2)
          ∧ r.2.mem ((c.tc : Thread Cert.DnStepIdeal.nD Cert.DnStepIdeal.τ).loc Cert.DnStepIdeal.main_arg3) = m ((c.tc : Thread Cert.DnStepIdeal.nD Cert.DnStepIdeal.τ).loc Cert.DnStepIdeal.main_arg3)
          ∧ r.2.mem ((c.tc : Thread Cert.DnStepIdeal.nD Cert.DnStepIdeal.τ).loc Cert.DnStepIdeal.main_arg4) = m ((c.tc : Thread Cert.DnStepIdeal.nD Cert.DnStepIdeal.τ).loc Cert.DnStepIdeal.main_arg4))
      ∧ θ_run (Cert.DnStepRefIdeal.defs (F := Ideal)) (onTc (τ := Cert.DnStepRefIdeal.τ) (Cert.DnStepRefIdeal.main (F := Ideal))) ⟨m', fun _ => 0, g'⟩ (fun r => ∀ c : Dev Cert.DnStepRefIdeal.nD,
          r.2.mem ((c.tc : Thread Cert.DnStepRefIdeal.nD Cert.DnStepRefIdeal.τ).loc Cert.DnStepRefIdeal.main_v97) = v0 c
          ∧ r.2.mem ((c.tc : Thread Cert.DnStepRefIdeal.nD Cert.DnStepRefIdeal.τ).loc Cert.DnStepRefIdeal.main_v100) = v1 c
          ∧ r.2.mem ((c.tc : Thread Cert.DnStepRefIdeal.nD Cert.DnStepRefIdeal.τ).loc Cert.DnStepRefIdeal.main_arg0) = m' ((c.tc : Thread Cert.DnStepRefIdeal.nD Cert.DnStepRefIdeal.τ).loc Cert.DnStepRefIdeal.main_arg0)
          ∧ r.2.mem ((c.tc : Thread Cert.DnStepRefIdeal.nD Cert.DnStepRefIdeal.τ).loc Cert.DnStepRefIdeal.main_arg1) = m' ((c.tc : Thread Cert.DnStepRefIdeal.nD Cert.DnStepRefIdeal.τ).loc Cert.DnStepRefIdeal.main_arg1)
          ∧ r.2.mem ((c.tc : Thread Cert.DnStepRefIdeal.nD Cert.DnStepRefIdeal.τ).loc Cert.DnStepRefIdeal.main_arg2) = m' ((c.tc : Thread Cert.DnStepRefIdeal.nD Cert.DnStepRefIdeal.τ).loc Cert.DnStepRefIdeal.main_arg2)
          ∧ r.2.mem ((c.tc : Thread Cert.DnStepRefIdeal.nD Cert.DnStepRefIdeal.τ).loc Cert.DnStepRefIdeal.main_arg3) = m' ((c.tc : Thread Cert.DnStepRefIdeal.nD Cert.DnStepRefIdeal.τ).loc Cert.DnStepRefIdeal.main_arg3)
          ∧ r.2.mem ((c.tc : Thread Cert.DnStepRefIdeal.nD Cert.DnStepRefIdeal.τ).loc Cert.DnStepRefIdeal.main_arg4) = m' ((c.tc : Thread Cert.DnStepRefIdeal.nD Cert.DnStepRefIdeal.τ).loc Cert.DnStepRefIdeal.main_arg4))

def Claim : Prop :=
  ∃ (hBand : Cert.Band.Facts) (hBandIdeal : Cert.BandIdeal.Facts) (hBandRefIdeal : Cert.BandRefIdeal.Facts) (hDiffIn : Cert.DiffIn.Facts) (hDiffInIdeal : Cert.DiffInIdeal.Facts) (hDiffInRefIdeal : Cert.DiffInRefIdeal.Facts) (hDiffInS : Cert.DiffInS.Facts) (hDiffInSIdeal : Cert.DiffInSIdeal.Facts) (hDiffInSRefIdeal : Cert.DiffInSRefIdeal.Facts) (hSwaIn : Cert.SwaIn.Facts) (hSwaInIdeal : Cert.SwaInIdeal.Facts) (hSwaInRefIdeal : Cert.SwaInRefIdeal.Facts) (hDnOut : Cert.DnOut.Facts) (hDnOutIdeal : Cert.DnOutIdeal.Facts) (hDnOutRefIdeal : Cert.DnOutRefIdeal.Facts) (hDnOutS : Cert.DnOutS.Facts) (hDnOutSIdeal : Cert.DnOutSIdeal.Facts) (hDnOutSRefIdeal : Cert.DnOutSRefIdeal.Facts) (hMixOut : Cert.MixOut.Facts) (hMixOutIdeal : Cert.MixOutIdeal.Facts) (hMixOutRefIdeal : Cert.MixOutRefIdeal.Facts) (hDnIn : Cert.DnIn.Facts) (hDnInIdeal : Cert.DnInIdeal.Facts) (hDnInRefIdeal : Cert.DnInRefIdeal.Facts) (hSwaDec : Cert.SwaDec.Facts) (hSwaDecIdeal : Cert.SwaDecIdeal.Facts) (hSwaDecRefIdeal : Cert.SwaDecRefIdeal.Facts) (hDnPrep : Cert.DnPrep.Facts) (hDnPrepIdeal : Cert.DnPrepIdeal.Facts) (hDnPrepRefIdeal : Cert.DnPrepRefIdeal.Facts) (hDnStep : Cert.DnStep.Facts) (hDnStepIdeal : Cert.DnStepIdeal.Facts) (hDnStepRefIdeal : Cert.DnStepRefIdeal.Facts) (hPre_band_finite : Cert.Pre_band_finite.Facts) (hPre_decode_finite : Cert.Pre_decode_finite.Facts) (hPre_step_finite : Cert.Pre_step_finite.Facts),
    quiescent_Band (hBand := hBand)
    ∧ quiescent_BandIdeal (hBandIdeal := hBandIdeal)
    ∧ quiescent_BandIdeal_pre_band_finite (hBandIdeal := hBandIdeal) (hPre_band_finite := hPre_band_finite)
    ∧ quiescent_BandRefIdeal (hBandRefIdeal := hBandRefIdeal)
    ∧ quiescent_BandRefIdeal_pre_band_finite (hBandRefIdeal := hBandRefIdeal) (hPre_band_finite := hPre_band_finite)
    ∧ quiescent_DiffIn (hDiffIn := hDiffIn)
    ∧ quiescent_DiffInIdeal (hDiffInIdeal := hDiffInIdeal)
    ∧ quiescent_DiffInRefIdeal (hDiffInRefIdeal := hDiffInRefIdeal)
    ∧ quiescent_DiffInS (hDiffInS := hDiffInS)
    ∧ quiescent_DiffInSIdeal (hDiffInSIdeal := hDiffInSIdeal)
    ∧ quiescent_DiffInSRefIdeal (hDiffInSRefIdeal := hDiffInSRefIdeal)
    ∧ quiescent_SwaIn (hSwaIn := hSwaIn)
    ∧ quiescent_SwaInIdeal (hSwaInIdeal := hSwaInIdeal)
    ∧ quiescent_SwaInRefIdeal (hSwaInRefIdeal := hSwaInRefIdeal)
    ∧ quiescent_DnOut (hDnOut := hDnOut)
    ∧ quiescent_DnOutIdeal (hDnOutIdeal := hDnOutIdeal)
    ∧ quiescent_DnOutRefIdeal (hDnOutRefIdeal := hDnOutRefIdeal)
    ∧ quiescent_DnOutS (hDnOutS := hDnOutS)
    ∧ quiescent_DnOutSIdeal (hDnOutSIdeal := hDnOutSIdeal)
    ∧ quiescent_DnOutSRefIdeal (hDnOutSRefIdeal := hDnOutSRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_DnIn (hDnIn := hDnIn)
    ∧ quiescent_DnInIdeal (hDnInIdeal := hDnInIdeal)
    ∧ quiescent_DnInRefIdeal (hDnInRefIdeal := hDnInRefIdeal)
    ∧ quiescent_SwaDec (hSwaDec := hSwaDec)
    ∧ quiescent_SwaDecIdeal (hSwaDecIdeal := hSwaDecIdeal)
    ∧ quiescent_SwaDecIdeal_pre_decode_finite (hSwaDecIdeal := hSwaDecIdeal) (hPre_decode_finite := hPre_decode_finite)
    ∧ quiescent_SwaDecRefIdeal (hSwaDecRefIdeal := hSwaDecRefIdeal)
    ∧ quiescent_SwaDecRefIdeal_pre_decode_finite (hSwaDecRefIdeal := hSwaDecRefIdeal) (hPre_decode_finite := hPre_decode_finite)
    ∧ quiescent_DnPrep (hDnPrep := hDnPrep)
    ∧ quiescent_DnPrepIdeal (hDnPrepIdeal := hDnPrepIdeal)
    ∧ quiescent_DnPrepRefIdeal (hDnPrepRefIdeal := hDnPrepRefIdeal)
    ∧ quiescent_DnStep (hDnStep := hDnStep)
    ∧ quiescent_DnStepIdeal (hDnStepIdeal := hDnStepIdeal)
    ∧ quiescent_DnStepIdeal_pre_step_finite (hDnStepIdeal := hDnStepIdeal) (hPre_step_finite := hPre_step_finite)
    ∧ quiescent_DnStepRefIdeal (hDnStepRefIdeal := hDnStepRefIdeal)
    ∧ quiescent_DnStepRefIdeal_pre_step_finite (hDnStepRefIdeal := hDnStepRefIdeal) (hPre_step_finite := hPre_step_finite)
    ∧ preserves_Band_BandIdeal
    ∧ algebraic_BandIdeal_BandRefIdeal_pre_band_finite (hBandIdeal := hBandIdeal) (hBandRefIdeal := hBandRefIdeal) (hPre_band_finite := hPre_band_finite)
    ∧ preserves_DiffIn_DiffInIdeal
    ∧ algebraic_DiffInIdeal_DiffInRefIdeal (hDiffInIdeal := hDiffInIdeal) (hDiffInRefIdeal := hDiffInRefIdeal)
    ∧ preserves_DiffInS_DiffInSIdeal
    ∧ algebraic_DiffInSIdeal_DiffInSRefIdeal (hDiffInSIdeal := hDiffInSIdeal) (hDiffInSRefIdeal := hDiffInSRefIdeal)
    ∧ preserves_SwaIn_SwaInIdeal
    ∧ algebraic_SwaInIdeal_SwaInRefIdeal (hSwaInIdeal := hSwaInIdeal) (hSwaInRefIdeal := hSwaInRefIdeal)
    ∧ preserves_DnOut_DnOutIdeal
    ∧ algebraic_DnOutIdeal_DnOutRefIdeal (hDnOutIdeal := hDnOutIdeal) (hDnOutRefIdeal := hDnOutRefIdeal)
    ∧ preserves_DnOutS_DnOutSIdeal
    ∧ algebraic_DnOutSIdeal_DnOutSRefIdeal (hDnOutSIdeal := hDnOutSIdeal) (hDnOutSRefIdeal := hDnOutSRefIdeal)
    ∧ preserves_MixOut_MixOutIdeal
    ∧ algebraic_MixOutIdeal_MixOutRefIdeal (hMixOutIdeal := hMixOutIdeal) (hMixOutRefIdeal := hMixOutRefIdeal)
    ∧ preserves_DnIn_DnInIdeal
    ∧ algebraic_DnInIdeal_DnInRefIdeal (hDnInIdeal := hDnInIdeal) (hDnInRefIdeal := hDnInRefIdeal)
    ∧ preserves_SwaDec_SwaDecIdeal
    ∧ algebraic_SwaDecIdeal_SwaDecRefIdeal_pre_decode_finite (hSwaDecIdeal := hSwaDecIdeal) (hSwaDecRefIdeal := hSwaDecRefIdeal) (hPre_decode_finite := hPre_decode_finite)
    ∧ preserves_DnPrep_DnPrepIdeal
    ∧ algebraic_DnPrepIdeal_DnPrepRefIdeal (hDnPrepIdeal := hDnPrepIdeal) (hDnPrepRefIdeal := hDnPrepRefIdeal)
    ∧ preserves_DnStep_DnStepIdeal
    ∧ algebraic_DnStepIdeal_DnStepRefIdeal_pre_step_finite (hDnStepIdeal := hDnStepIdeal) (hDnStepRefIdeal := hDnStepRefIdeal) (hPre_step_finite := hPre_step_finite)
-- ==== Pre_band_finite.lean ====
abbrev S4x4096x1024 : Shape := ⟨3, ![4, 4096, 1024]⟩
abbrev S4x4096x128 : Shape := ⟨3, ![4, 4096, 128]⟩
abbrev S16 : Shape := ⟨1, ![16]⟩
abbrev S_ : Shape := ⟨0, ![]⟩

class Facts : Prop where
  bcast_S_S4x4096x1024 : S_.BroadcastsInDim S4x4096x1024 (![] : Fin 0 → Fin S4x4096x1024.rank)
  bcast_S_S4x4096x128 : S_.BroadcastsInDim S4x4096x128 (![] : Fin 0 → Fin S4x4096x128.rank)
  bcast_S_S16 : S_.BroadcastsInDim S16 (![] : Fin 0 → Fin S16.rank)

variable [Facts]

def fn {F : FTy → Type} [FloatOps F] (main_arg0 : FVec F S4x4096x1024 .f32) (main_arg1 : FVec F S4x4096x128 .f32) (main_arg2 : FVec F S4x4096x128 .f32) (main_arg3 : FVec F S4x4096x1024 .f32) (main_arg4 : FVec F S16 .f32) : IVec S4x4096x1024 1 × IVec S4x4096x128 1 × IVec S16 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S4x4096x128 .f32 := Host.absf main_arg1
  let main_cst_0 : FVec F S_ .f32 := constant S_ .f32 0x7F800000#32
  let main_v4 : FVec F S4x4096x128 .f32 := broadcastInDim S4x4096x128 ![] bcast_S_S4x4096x128 main_cst_0
  let main_v5 : IVec S4x4096x128 1 := cmpf .olt main_v3 main_v4
  let main_v6 : FVec F S16 .f32 := Host.absf main_arg4
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  (main_v2, main_v5, main_v8)
-- ==== Pre_decode_finite.lean ====
abbrev S128x1024 : Shape := ⟨2, ![128, 1024]⟩
abbrev S128x128 : Shape := ⟨2, ![128, 128]⟩
abbrev S128x128x2x64 : Shape := ⟨4, ![128, 128, 2, 64]⟩
abbrev S16 : Shape := ⟨1, ![16]⟩
abbrev S_ : Shape := ⟨0, ![]⟩

class Facts : Prop where
  bcast_S_S128x1024 : S_.BroadcastsInDim S128x1024 (![] : Fin 0 → Fin S128x1024.rank)
  bcast_S_S128x128 : S_.BroadcastsInDim S128x128 (![] : Fin 0 → Fin S128x128.rank)
  bcast_S_S128x128x2x64 : S_.BroadcastsInDim S128x128x2x64 (![] : Fin 0 → Fin S128x128x2x64.rank)
  bcast_S_S16 : S_.BroadcastsInDim S16 (![] : Fin 0 → Fin S16.rank)

variable [Facts]

def fn {F : FTy → Type} [FloatOps F] (main_arg0 : FVec F S128x1024 .f32) (main_arg1 : FVec F S128x128 .f32) (main_arg2 : FVec F S128x128 .f32) (main_arg3 : FVec F S128x1024 .f32) (main_arg4 : FVec F S128x128x2x64 .f32) (main_arg5 : FVec F S128x128x2x64 .f32) (main_arg6 : FVec F S16 .f32) : IVec S128x1024 1 × IVec S128x128 1 × IVec S128x128x2x64 1 × IVec S16 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_v3 : FVec F S128x128 .f32 := Host.absf main_arg1
  let main_cst_0 : FVec F S_ .f32 := constant S_ .f32 0x7F800000#32
  let main_v4 : FVec F S128x128 .f32 := broadcastInDim S128x128 ![] bcast_S_S128x128 main_cst_0
  let main_v5 : IVec S128x128 1 := cmpf .olt main_v3 main_v4
  let main_v6 : FVec F S128x128x2x64 .f32 := Host.absf main_arg4
  let main_cst_1 : FVec F S_ .f32 := constant S_ .f32 0x7F800000#32
  let main_v7 : FVec F S128x128x2x64 .f32 := broadcastInDim S128x128x2x64 ![] bcast_S_S128x128x2x64 main_cst_1
  let main_v8 : IVec S128x128x2x64 1 := cmpf .olt main_v6 main_v7
  let main_v9 : FVec F S16 .f32 := Host.absf main_arg6
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  (main_v2, main_v5, main_v8, main_v11)
-- ==== Pre_step_finite.lean ====
abbrev S128x4096 : Shape := ⟨2, ![128, 4096]⟩
abbrev S128x2048 : Shape := ⟨2, ![128, 2048]⟩
abbrev S128x32 : Shape := ⟨2, ![128, 32]⟩
abbrev S128 : Shape := ⟨1, ![128]⟩
abbrev S2x128x16x128x128 : Shape := ⟨5, ![2, 128, 16, 128, 128]⟩
abbrev S128x3072 : Shape := ⟨2, ![128, 3072]⟩
abbrev S_ : Shape := ⟨0, ![]⟩
abbrev S1x128x16x128x128 : Shape := ⟨5, ![1, 128, 16, 128, 128]⟩
abbrev S128x16x128x128 : Shape := ⟨4, ![128, 16, 128, 128]⟩

class Facts : Prop where
  slices_S128x4096_S128x3072_0_1024 : S128x4096.Slices ![0, 1024] S128x3072
  bcast_S_S128x3072 : S_.BroadcastsInDim S128x3072 (![] : Fin 0 → Fin S128x3072.rank)
  bcast_S_S128x32 : S_.BroadcastsInDim S128x32 (![] : Fin 0 → Fin S128x32.rank)
  slices_S2x128x16x128x128_S1x128x16x128x128_0_0_0_0_0 : S2x128x16x128x128.Slices ![0, 0, 0, 0, 0] S1x128x16x128x128
  shapeCasts_S1x128x16x128x128_S128x16x128x128 : S1x128x16x128x128.ShapeCasts S128x16x128x128
  bcast_S_S128x16x128x128 : S_.BroadcastsInDim S128x16x128x128 (![] : Fin 0 → Fin S128x16x128x128.rank)

variable [Facts]

def fn {F : FTy → Type} [FloatOps F] (main_arg0 : FVec F S128x4096 .f32) (main_arg1 : FVec F S128x2048 .f32) (main_arg2 : FVec F S128x32 .f32) (main_arg3 : FVec F S128 .f32) (main_arg4 : FVec F S2x128x16x128x128 .f32) : IVec S128x3072 1 × IVec S128x32 1 × IVec S128x16x128x128 1 :=
  let main_v0 : FVec F S128x3072 .f32 := (extractStridedSlice S128x3072 ![0, 1024] · slices_S128x4096_S128x3072_0_1024) main_arg0
  let main_v1 : FVec F S128x3072 .f32 := Host.absf main_v0
  let main_cst : FVec F S_ .f32 := constant S_ .f32 0x7F800000#32
  let main_v2 : FVec F S128x3072 .f32 := broadcastInDim S128x3072 ![] bcast_S_S128x3072 main_cst
  let main_v3 : IVec S128x3072 1 := cmpf .olt main_v1 main_v2
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_v7 : FVec F S1x128x16x128x128 .f32 := (extractStridedSlice S1x128x16x128x128 ![0, 0, 0, 0, 0] · slices_S2x128x16x128x128_S1x128x16x128x128_0_0_0_0_0) main_arg4
  let main_v8 : FVec F S128x16x128x128 .f32 := shapeCast S128x16x128x128 main_v7 shapeCasts_S1x128x16x128x128_S128x16x128x128
  let main_v9 : FVec F S128x16x128x128 .f32 := Host.absf main_v8
  let main_cst_1 : FVec F S_ .f32 := constant S_ .f32 0x7F800000#32
  let main_v10 : FVec F S128x16x128x128 .f32 := broadcastInDim S128x16x128x128 ![] bcast_S_S128x16x128x128 main_cst_1
  let main_v11 : IVec S128x16x128x128 1 := cmpf .olt main_v9 main_v10
  (main_v3, main_v6, main_v11)
-- ==== Band.lean ====
abbrev S4x4096x1024 : Shape := ⟨3, ![4, 4096, 1024]⟩
abbrev S4x4096x128 : Shape := ⟨3, ![4, 4096, 128]⟩
abbrev S16 : Shape := ⟨1, ![16]⟩
abbrev S1x16 : Shape := ⟨2, ![1, 16]⟩
abbrev S1x128x1024 : Shape := ⟨3, ![1, 128, 1024]⟩
abbrev S1x128x128 : Shape := ⟨3, ![1, 128, 128]⟩
abbrev S256x256 : Shape := ⟨2, ![256, 256]⟩
abbrev S1x128x64 : Shape := ⟨3, ![1, 128, 64]⟩
abbrev S128x64 : Shape := ⟨2, ![128, 64]⟩
abbrev S256x64 : Shape := ⟨2, ![256, 64]⟩
abbrev S1x1 : Shape := ⟨2, ![1, 1]⟩
abbrev S1x128 : Shape := ⟨2, ![1, 128]⟩
abbrev S1x256 : Shape := ⟨2, ![1, 256]⟩
abbrev S256 : Shape := ⟨1, ![256]⟩
abbrev S64x256 : Shape := ⟨2, ![64, 256]⟩
abbrev S64x128 : Shape := ⟨2, ![64, 128]⟩
abbrev S128x128 : Shape := ⟨2, ![128, 128]⟩

abbrev nBuf : Space → Nat
  | .hbm => 7
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x4096x128, .f32⟩
  | .hbm, ⟨2, _⟩ => ⟨S4x4096x128, .f32⟩
  | .hbm, ⟨3, _⟩ => ⟨S4x4096x1024, .f32⟩
  | .hbm, ⟨4, _⟩ => ⟨S16, .f32⟩
  | .hbm, ⟨5, _⟩ => ⟨S1x16, .f32⟩
  | .hbm, ⟨6, _⟩ => ⟨S4x4096x1024, .bf16⟩
  | .local _ .vmem, ⟨0, _⟩ => ⟨S1x128x1024, .f32⟩
  | .local _ .vmem, ⟨1, _⟩ => ⟨S1x128x1024, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x1024, .f32⟩
  | .local _ .vmem, ⟨11, _⟩ => ⟨S1x128x1024, .f32⟩
  | .local _ .vmem, ⟨12, _⟩ => ⟨S1x16, .f32⟩
  | .local _ .vmem, ⟨13, _⟩ => ⟨S1x128x1024, .bf16⟩
  | .local _ .vmem, ⟨14, _⟩ => ⟨S1x128x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== BandRefIdeal.lean ====
abbrev S4x4096x1024 : Shape := ⟨3, ![4, 4096, 1024]⟩
abbrev S4x4096x128 : Shape := ⟨3, ![4, 4096, 128]⟩
abbrev S16 : Shape := ⟨1, ![16]⟩
abbrev S4x4096x2x8x64 : Shape := ⟨5, ![4, 4096, 2, 8, 64]⟩
abbrev S4x4096x2x64 : Shape := ⟨4, ![4, 4096, 2, 64]⟩
abbrev S4x32x128x2x8x64 : Shape := ⟨6, ![4, 32, 128, 2, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S4x32x128x2x64 : Shape := ⟨5, ![4, 32, 128, 2, 64]⟩
abbrev S4x33x128x2x64 : Shape := ⟨5, ![4, 33, 128, 2, 64]⟩
abbrev S4x32x256x2x64 : Shape := ⟨5, ![4, 32, 256, 2, 64]⟩
abbrev S4x32x2x256x128x8 : Shape := ⟨6, ![4, 32, 2, 256, 128, 8]⟩
abbrev S4x32x2x8x128x256 : Shape := ⟨6, ![4, 32, 2, 8, 128, 256]⟩
abbrev S32x1x1x128x256 : Shape := ⟨5, ![32, 1, 1, 128, 256]⟩
abbrev S2x8x1x1 : Shape := ⟨4, ![2, 8, 1, 1]⟩
abbrev S4x32x2x8x128x1 : Shape := ⟨6, ![4, 32, 2, 8, 128, 1]⟩
abbrev S4x32x2x8x128x257 : Shape := ⟨6, ![4, 32, 2, 8, 128, 257]⟩
abbrev S4x32x2x8x128 : Shape := ⟨5, ![4, 32, 2, 8, 128]⟩
abbrev S4x32x2x64x8x128 : Shape := ⟨6, ![4, 32, 2, 64, 8, 128]⟩

abbrev nBuf : Space → Nat
  | .hbm => 97
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x128, .f32⟩
  | .hbm, ⟨2, _⟩ => ⟨S4x4096x128, .f32⟩
  | .hbm, ⟨3, _⟩ => ⟨S4x4096x1024, .f32⟩
  | .hbm, ⟨4, _⟩ => ⟨S16, .f32⟩
  | .hbm, ⟨5, _⟩ => ⟨S4x4096x2x8x64, .f32⟩
  | .hbm, ⟨6, _⟩ => ⟨S4x4096x2x64, .f32⟩
  | .hbm, ⟨7, _⟩ => ⟨S4x4096x2x64, .f32⟩
  | .hbm, ⟨8, _⟩ => ⟨S4x32x128x2x8x64, .f32⟩
  | .hbm, ⟨9, _⟩ => ⟨S128, .i32⟩
  | .hbm, ⟨10, _⟩ => ⟨S128x1, .i32⟩
  | .hbm, ⟨11, _⟩ => ⟨S256, .i32⟩
  | .hbm, ⟨12, _⟩ => ⟨S1x256, .i32⟩
  | .hbm, ⟨13, _⟩ => ⟨S_, .i32⟩
  | .hbm, ⟨14, _⟩ => ⟨S128x1, .i32⟩
  | .hbm, ⟨15, _⟩ => ⟨S128x1, .i32⟩
  | .hbm, ⟨16, _⟩ => ⟨S128x256, .i32⟩
  | .hbm, ⟨17, _⟩ => ⟨S128x256, .i32⟩
  | .hbm, ⟨18, _⟩ => ⟨S128x256, .i32⟩
  | .hbm, ⟨19, _⟩ => ⟨S_, .i32⟩
  | .hbm, ⟨20, _⟩ => ⟨S128x256, .i32⟩
  | .hbm, ⟨21, _⟩ => ⟨S128x256, .i1⟩
  | .hbm, ⟨22, _⟩ => ⟨S_, .i32⟩
  | .hbm, ⟨23, _⟩ => ⟨S128x256, .i32⟩
  | .hbm, ⟨24, _⟩ => ⟨S128x256, .i1⟩
  | .hbm, ⟨25, _⟩ => ⟨S128x256, .i1⟩
  | .hbm, ⟨26, _⟩ => ⟨S32, .i32⟩
  | .hbm, ⟨27, _⟩ => ⟨S32x1x1, .i32⟩
  | .hbm, ⟨28, _⟩ => ⟨S_, .i32⟩
  | .hbm, ⟨29, _⟩ => ⟨S32x1x1, .i32⟩
  | .hbm, ⟨30, _⟩ => ⟨S32x1x1, .i1⟩
  | .hbm, ⟨31, _⟩ => ⟨S_, .i32⟩
  | .hbm, ⟨32, _⟩ => ⟨S1x256, .i32⟩
  | .hbm, ⟨33, _⟩ => ⟨S1x256, .i1⟩
  | .hbm, ⟨34, _⟩ => ⟨S1x1x256, .i1⟩
  | .hbm, ⟨35, _⟩ => ⟨S32x1x256, .i1⟩
  | .hbm, ⟨36, _⟩ => ⟨S32x1x256, .i1⟩
  | .hbm, ⟨37, _⟩ => ⟨S32x1x256, .i1⟩
  | .hbm, ⟨38, _⟩ => ⟨S1x128x256, .i1⟩
  | .hbm, ⟨39, _⟩ => ⟨S32x128x256, .i1⟩
  | .hbm, ⟨40, _⟩ => ⟨S32x128x256, .i1⟩
  | .hbm, ⟨41, _⟩ => ⟨S32x128x256, .i1⟩
  | .hbm, ⟨42, _⟩ => ⟨S4x32x128x2x64, .f32⟩
  | .hbm, ⟨43, _⟩ => ⟨S_, .i32⟩
  | .hbm, ⟨44, _⟩ => ⟨S_, .f32⟩
  | .hbm, ⟨45, _⟩ => ⟨S4x33x128x2x64, .f32⟩
  | .hbm, ⟨46, _⟩ => ⟨S4x32x128x2x64, .f32⟩
  | .hbm, ⟨47, _⟩ => ⟨S4x32x256x2x64, .f32⟩
  | .hbm, ⟨48, _⟩ => ⟨S4x32x128x2x64, .f32⟩
  | .hbm, ⟨49, _⟩ => ⟨S_, .i32⟩
  | .hbm, ⟨50, _⟩ => ⟨S_, .f32⟩
  | .hbm, ⟨51, _⟩ => ⟨S4x33x128x2x64, .f32⟩
  | .hbm, ⟨52, _⟩ => ⟨S4x32x128x2x64, .f32⟩
  | .hbm, ⟨53, _⟩ => ⟨S4x32x256x2x64, .f32⟩
  | .hbm, ⟨54, _⟩ => ⟨S4x32x2x256x128x8, .f32⟩
  | .hbm, ⟨55, _⟩ => ⟨S4x32x2x8x128x256, .f32⟩
  | .hbm, ⟨56, _⟩ => ⟨S_, .f32⟩
  | .hbm, ⟨57, _⟩ => ⟨S4x32x2x8x128x256, .f32⟩
  | .hbm, ⟨58, _⟩ => ⟨S4x32x2x8x128x256, .f32⟩
  | .hbm, ⟨59, _⟩ => ⟨S32x1x1x128x256, .i1⟩
  | .hbm, ⟨60, _⟩ => ⟨S_, .f32⟩
  | .hbm, ⟨61, _⟩ => ⟨S_, .f32⟩
  | .hbm, ⟨62, _⟩ => ⟨S4x32x2x8x128x256, .i1⟩
  | .hbm, ⟨63, _⟩ => ⟨S4x32x2x8x128x256, .f32⟩
  | .hbm, ⟨64, _⟩ => ⟨S4x32x2x8x128x256, .f32⟩
  | .hbm, ⟨65, _⟩ => ⟨S2x8x1x1, .f32⟩
  | .hbm, ⟨66, _⟩ => ⟨S4x32x2x8x128x1, .f32⟩
  | .hbm, ⟨67, _⟩ => ⟨S4x32x2x8x128x257, .f32⟩
  | .hbm, ⟨68, _⟩ => ⟨S_, .f32⟩
  | .hbm, ⟨69, _⟩ => ⟨S4x32x2x8x128, .f32⟩
  | .hbm, ⟨70, _⟩ => ⟨S_, .f32⟩
  | .hbm, ⟨71, _⟩ => ⟨S4x32x2x8x128, .f32⟩
  | .hbm, ⟨72, _⟩ => ⟨S4x32x2x8x128, .f32⟩
  | .hbm, ⟨73, _⟩ => ⟨S4x32x2x8x128x1, .f32⟩
  | .hbm, ⟨74, _⟩ => ⟨S4x32x2x8x128x257, .f32⟩
  | .hbm, ⟨75, _⟩ => ⟨S4x32x2x8x128x257, .f32⟩
  | .hbm, ⟨76, _⟩ => ⟨S4x32x2x8x128x257, .f32⟩
  | .hbm, ⟨77, _⟩ => ⟨S_, .f32⟩
  | .hbm, ⟨78, _⟩ => ⟨S4x32x2x8x128, .f32⟩
  | .hbm, ⟨79, _⟩ => ⟨S4x32x2x8x128x1, .f32⟩
  | .hbm, ⟨80, _⟩ => ⟨S4x32x2x8x128x257, .f32⟩
  | .hbm, ⟨81, _⟩ => ⟨S4x32x2x8x128x257, .f32⟩
  | .hbm, ⟨82, _⟩ => ⟨S4x32x2x8x128x256, .f32⟩
  | .hbm, ⟨83, _⟩ => ⟨S4x32x2x64x8x128, .f32⟩
  | .hbm, ⟨84, _⟩ => ⟨S4x32x128x2x8x64, .f32⟩
  | .hbm, ⟨85, _⟩ => ⟨S4x4096x1024, .f32⟩
  | .hbm, ⟨86, _⟩ => ⟨S4x4096x1024, .f32⟩
  | .hbm, ⟨87, _⟩ => ⟨S4x4096x1024, .f32⟩
  | .hbm, ⟨88, _⟩ => ⟨S_, .f32⟩
  | .hbm, ⟨89, _⟩ => ⟨S4x4096x1024, .f32⟩
  | .hbm, ⟨90, _⟩ => ⟨S4x4096x1024, .f32⟩
  | .hbm, ⟨91, _⟩ => ⟨S_, .f32⟩
  | .hbm, ⟨92, _⟩ => ⟨S4x4096x1024, .f32⟩
  | .hbm, ⟨93, _⟩ => ⟨S4x4096x1024, .f32⟩
  | .hbm, ⟨94, _⟩ => ⟨S4x4096x1024, .f32⟩
  | .hbm, ⟨95, _⟩ => ⟨S4x4096x1024, .f32⟩
  | .hbm, ⟨96, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_call1_v0 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call3_v0 : Ref sig .tc := ⟨.hbm, 86, rfl⟩
abbrev main_call3_v1 : Ref sig .tc := ⟨.hbm, 87, rfl⟩
abbrev main_call3_cst : Ref sig .tc := ⟨.hbm, 88, rfl⟩
abbrev main_call3_v2 : Ref sig .tc := ⟨.hbm, 89, rfl⟩
abbrev main_call3_v3 : Ref sig .tc := ⟨.hbm, 90, rfl⟩
abbrev main_call3_cst_0 : Ref sig .tc := ⟨.hbm, 91, rfl⟩
abbrev main_call3_v4 : Ref sig .tc := ⟨.hbm, 92, rfl⟩
abbrev main_call3_v5 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩

abbrev nD : Nat := 1
abbrev τ : Topo := Topo.v7x

variable {F : FTy → Type} [FloatOps F]
-- ==== DiffIn.lean ====
abbrev S4x4096x1024 : Shape := ⟨3, ![4, 4096, 1024]⟩
abbrev S4x3072 : Shape := ⟨2, ![4, 3072]⟩
abbrev S1024x3072 : Shape := ⟨2, ![1024, 3072]⟩
abbrev S16384x1024 : Shape := ⟨2, ![16384, 1024]⟩
abbrev S4x1x3072 : Shape := ⟨3, ![4, 1, 3072]⟩
abbrev S16384x512 : Shape := ⟨2, ![16384, 512]⟩
abbrev S512x1024 : Shape := ⟨2, ![512, 1024]⟩
abbrev S1x1x3072 : Shape := ⟨3, ![1, 1, 3072]⟩
abbrev S512x512 : Shape := ⟨2, ![512, 512]⟩
abbrev S1x1x1024 : Shape := ⟨3, ![1, 1, 1024]⟩
abbrev S1x1024 : Shape := ⟨2, ![1, 1024]⟩
abbrev S1024x1024 : Shape := ⟨2, ![1024, 1024]⟩
abbrev S1024x512 : Shape := ⟨2, ![1024, 512]⟩

abbrev nBuf : Space → Nat
  | .hbm => 10
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x3072, .f32⟩
  | .hbm, ⟨2, _⟩ => ⟨S1024x3072, .f32⟩
  | .hbm, ⟨3, _⟩ => ⟨S16384x1024, .f32⟩
  | .hbm, ⟨4, _⟩ => ⟨S4x1x3072, .f32⟩
  | .hbm, ⟨5, _⟩ => ⟨S1024x3072, .bf16⟩
  | .hbm, ⟨6, _⟩ => ⟨S16384x1024, .f32⟩
  | .hbm, ⟨7, _⟩ => ⟨S16384x512, .f32⟩
  | .hbm, ⟨8, _⟩ => ⟨S16384x512, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x1x3072, .f32⟩
  | .local _ .vmem, ⟨4, _⟩ => ⟨S1x1x3072, .f32⟩
  | .local _ .vmem, ⟨5, _⟩ => ⟨S512x1024, .f32⟩
  | .local _ .vmem, ⟨6, _⟩ => ⟨S512x1024, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x1024, .f32⟩
  | .local _ .vmem, ⟨12, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DiffInRefIdeal.lean ====
abbrev S4x4096x1024 : Shape := ⟨3, ![4, 4096, 1024]⟩
abbrev S4x3072 : Shape := ⟨2, ![4, 3072]⟩
abbrev S1024x3072 : Shape := ⟨2, ![1024, 3072]⟩
abbrev S4x1x3072 : Shape := ⟨3, ![4, 1, 3072]⟩
abbrev S4x1x1024 : Shape := ⟨3, ![4, 1, 1024]⟩
abbrev S_ : Shape := ⟨0, ![]⟩
abbrev S4x4096x3072 : Shape := ⟨3, ![4, 4096, 3072]⟩
abbrev S4x4096x512 : Shape := ⟨3, ![4, 4096, 512]⟩
abbrev S16384x1024 : Shape := ⟨2, ![16384, 1024]⟩
abbrev S16384x512 : Shape := ⟨2, ![16384, 512]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x3072, .f32⟩
  | .hbm, ⟨2, _⟩ => ⟨S1024x3072, .f32⟩
  | .hbm, ⟨3, _⟩ => ⟨S4x1x3072, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S_, .f32⟩
  | .hbm, ⟨8, _⟩ => ⟨S4x1x1024, .f32⟩
  | .hbm, ⟨9, _⟩ => ⟨S4x1x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S4x4096x3072, .f32⟩
  | .hbm, ⟨15, _⟩ => ⟨S4x4096x1024, .f32⟩
  | .hbm, ⟨16, _⟩ => ⟨S4x4096x512, .f32⟩
  | .hbm, ⟨17, _⟩ => ⟨S4x4096x512, .f32⟩
  | .hbm, ⟨18, _⟩ => ⟨S4x4096x1024, .f32⟩
  | .hbm, ⟨19, _⟩ => ⟨S16384x1024, .f32⟩
  | .hbm, ⟨20, _⟩ => ⟨S16384x512, .f32⟩
  | .hbm, ⟨21, _⟩ => ⟨S16384x512, .f32⟩
  | .hbm, ⟨22, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== DiffInS.lean ====
abbrev S128x1x1024 : Shape := ⟨3, ![128, 1, 1024]⟩
abbrev S128x3072 : Shape := ⟨2, ![128, 3072]⟩
abbrev S1024x3072 : Shape := ⟨2, ![1024, 3072]⟩
abbrev S128x1024 : Shape := ⟨2, ![128, 1024]⟩
abbrev S128x512 : Shape := ⟨2, ![128, 512]⟩
abbrev S1024x1024 : Shape := ⟨2, ![1024, 1024]⟩
abbrev S1024x512 : Shape := ⟨2, ![1024, 512]⟩

abbrev nBuf : Space → Nat
  | .hbm => 9
  | .vmem => 7
  | .smem => 0
  | _ => 0

abbrev bufTy : (tb : Table) → Fin (tcTables nBuf tb) → BufTy
  | .hbm, ⟨0, _⟩ => ⟨S128x1x1024, .f32⟩
  | .hbm, ⟨1, _⟩ => ⟨S128x3072, .f32⟩
  | .hbm, ⟨2, _⟩ => ⟨S1024x3072, .f32⟩
  | .hbm, ⟨3, _⟩ => ⟨S128x1024, .f32⟩
  | .hbm, ⟨4, _⟩ => ⟨S1024x3072, .bf16⟩
  | .hbm, ⟨5, _⟩ => ⟨S128x1024, .f32⟩
  | .hbm, ⟨6, _⟩ => ⟨S128x512, .f32⟩
  | .hbm, ⟨7, _⟩ => ⟨S128x512, .f32⟩
  | .hbm, ⟨8, _⟩ => ⟨S128x1024, .f32⟩
  | .local _ .vmem, ⟨0, _⟩ => ⟨S128x1024, .f32⟩
  | .local _ .vmem, ⟨1, _⟩ => ⟨S1024x3072, .bf16⟩
  | .local _ .vmem, ⟨2, _⟩ => ⟨S128x3072, .f32⟩
  | .local _ .vmem, ⟨3, _⟩ => ⟨S128x1024, .f32⟩
  | .local _ .vmem, ⟨4, _⟩ => ⟨S128x512, .f32⟩
  | .local _ .vmem, ⟨5, _⟩ => ⟨S128x512, .f32⟩
  | .local _ .vmem, ⟨6, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== DiffInSRefIdeal.lean ====
abbrev S128x1x1024 : Shape := ⟨3, ![128, 1, 1024]⟩
abbrev S128x3072 : Shape := ⟨2, ![128, 3072]⟩
abbrev S1024x3072 : Shape := ⟨2, ![1024, 3072]⟩
abbrev S128x1x3072 : Shape := ⟨3, ![128, 1, 3072]⟩
abbrev S_ : Shape := ⟨0, ![]⟩
abbrev S128x1x512 : Shape := ⟨3, ![128, 1, 512]⟩
abbrev S128x1024 : Shape := ⟨2, ![128, 1024]⟩
abbrev S128x512 : Shape := ⟨2, ![128, 512]⟩

abbrev nBuf : Space → Nat
  | .hbm => 21
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x3072, .f32⟩
  | .hbm, ⟨2, _⟩ => ⟨S1024x3072, .f32⟩
  | .hbm, ⟨3, _⟩ => ⟨S128x1x3072, .f32⟩
  | .hbm, ⟨4, _⟩ => ⟨S128x1x1024, .f32⟩
  | .hbm, ⟨5, _⟩ => ⟨S128x1x1024, .f32⟩
  | .hbm, ⟨6, _⟩ => ⟨S128x1x1024, .f32⟩
  | .hbm, ⟨7, _⟩ => ⟨S_, .f32⟩
  | .hbm, ⟨8, _⟩ => ⟨S128x1x1024, .f32⟩
  | .hbm, ⟨9, _⟩ => ⟨S128x1x1024, .f32⟩
  | .hbm, ⟨10, _⟩ => ⟨S128x1x1024, .f32⟩
  | .hbm, ⟨11, _⟩ => ⟨S128x1x1024, .f32⟩
  | .hbm, ⟨12, _⟩ => ⟨S128x1x3072, .f32⟩
  | .hbm, ⟨13, _⟩ => ⟨S128x1x1024, .f32⟩
  | .hbm, ⟨14, _⟩ => ⟨S128x1x512, .f32⟩
  | .hbm, ⟨15, _⟩ => ⟨S128x1x512, .f32⟩
  | .hbm, ⟨16, _⟩ => ⟨S128x1x1024, .f32⟩
  | .hbm, ⟨17, _⟩ => ⟨S128x1024, .f32⟩
  | .hbm, ⟨18, _⟩ => ⟨S128x512, .f32⟩
  | .hbm, ⟨19, _⟩ => ⟨S128x512, .f32⟩
  | .hbm, ⟨20, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== SwaIn.lean ====
abbrev S4x4096x1024 : Shape := ⟨3, ![4, 4096, 1024]⟩
abbrev S4x3072 : Shape := ⟨2, ![4, 3072]⟩
abbrev S1024x2304 : Shape := ⟨2, ![1024, 2304]⟩
abbrev S16384x1024 : Shape := ⟨2, ![16384, 1024]⟩
abbrev S4x1x3072 : Shape := ⟨3, ![4, 1, 3072]⟩
abbrev S16384x128 : Shape := ⟨2, ![16384, 128]⟩
abbrev S512x1024 : Shape := ⟨2, ![512, 1024]⟩
abbrev S1x1x3072 : Shape := ⟨3, ![1, 1, 3072]⟩
abbrev S512x128 : Shape := ⟨2, ![512, 128]⟩
abbrev S1x1x1024 : Shape := ⟨3, ![1, 1, 1024]⟩
abbrev S1x1024 : Shape := ⟨2, ![1, 1024]⟩
abbrev S1024x1024 : Shape := ⟨2, ![1024, 1024]⟩
abbrev S1024x128 : Shape := ⟨2, ![1024, 128]⟩

abbrev nBuf : Space → Nat
  | .hbm => 10
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x3072, .f32⟩
  | .hbm, ⟨2, _⟩ => ⟨S1024x2304, .f32⟩
  | .hbm, ⟨3, _⟩ => ⟨S16384x1024, .f32⟩
  | .hbm, ⟨4, _⟩ => ⟨S4x1x3072, .f32⟩
  | .hbm, ⟨5, _⟩ => ⟨S1024x2304, .bf16⟩
  | .hbm, ⟨6, _⟩ => ⟨S16384x1024, .f32⟩
  | .hbm, ⟨7, _⟩ => ⟨S16384x128, .f32⟩
  | .hbm, ⟨8, _⟩ => ⟨S16384x128, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x2304, .bf16⟩
  | .local _ .vmem, ⟨3, _⟩ => ⟨S1x1x3072, .f32⟩
  | .local _ .vmem, ⟨4, _⟩ => ⟨S1x1x3072, .f32⟩
  | .local _ .vmem, ⟨5, _⟩ => ⟨S512x1024, .f32⟩
  | .local _ .vmem, ⟨6, _⟩ => ⟨S512x1024, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x1024, .f32⟩
  | .local _ .vmem, ⟨12, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SwaInRefIdeal.lean ====
abbrev S4x4096x1024 : Shape := ⟨3, ![4, 4096, 1024]⟩
abbrev S4x3072 : Shape := ⟨2, ![4, 3072]⟩
abbrev S1024x2304 : Shape := ⟨2, ![1024, 2304]⟩
abbrev S4x1x3072 : Shape := ⟨3, ![4, 1, 3072]⟩
abbrev S4x1x1024 : Shape := ⟨3, ![4, 1, 1024]⟩
abbrev S_ : Shape := ⟨0, ![]⟩
abbrev S4x4096x2304 : Shape := ⟨3, ![4, 4096, 2304]⟩
abbrev S4x4096x128 : Shape := ⟨3, ![4, 4096, 128]⟩
abbrev S16384x1024 : Shape := ⟨2, ![16384, 1024]⟩
abbrev S16384x128 : Shape := ⟨2, ![16384, 128]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x3072, .f32⟩
  | .hbm, ⟨2, _⟩ => ⟨S1024x2304, .f32⟩
  | .hbm, ⟨3, _⟩ => ⟨S4x1x3072, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S_, .f32⟩
  | .hbm, ⟨8, _⟩ => ⟨S4x1x1024, .f32⟩
  | .hbm, ⟨9, _⟩ => ⟨S4x1x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S4x4096x2304, .f32⟩
  | .hbm, ⟨15, _⟩ => ⟨S4x4096x1024, .f32⟩
  | .hbm, ⟨16, _⟩ => ⟨S4x4096x128, .f32⟩
  | .hbm, ⟨17, _⟩ => ⟨S4x4096x128, .f32⟩
  | .hbm, ⟨18, _⟩ => ⟨S4x4096x1024, .f32⟩
  | .hbm, ⟨19, _⟩ => ⟨S16384x1024, .f32⟩
  | .hbm, ⟨20, _⟩ => ⟨S16384x128, .f32⟩
  | .hbm, ⟨21, _⟩ => ⟨S16384x128, .f32⟩
  | .hbm, ⟨22, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== DnOut.lean ====
abbrev S4x4096x2048 : Shape := ⟨3, ![4, 4096, 2048]⟩
abbrev S2048x1024 : Shape := ⟨2, ![2048, 1024]⟩
abbrev S4x4096x1024 : Shape := ⟨3, ![4, 4096, 1024]⟩
abbrev S4x3072 : Shape := ⟨2, ![4, 3072]⟩
abbrev S1024 : Shape := ⟨1, ![1024]⟩
abbrev S16384x2048 : Shape := ⟨2, ![16384, 2048]⟩
abbrev S16384x1024 : Shape := ⟨2, ![16384, 1024]⟩
abbrev S4x1x3072 : Shape := ⟨3, ![4, 1, 3072]⟩
abbrev S1x1024 : Shape := ⟨2, ![1, 1024]⟩
abbrev S512x2048 : Shape := ⟨2, ![512, 2048]⟩
abbrev S512x1024 : Shape := ⟨2, ![512, 1024]⟩
abbrev S1x1x3072 : Shape := ⟨3, ![1, 1, 3072]⟩
abbrev S1x1x1024 : Shape := ⟨3, ![1, 1, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S4x4096x2048, .bf16⟩
  | .hbm, ⟨1, _⟩ => ⟨S2048x1024, .f32⟩
  | .hbm, ⟨2, _⟩ => ⟨S4x4096x1024, .f32⟩
  | .hbm, ⟨3, _⟩ => ⟨S4x3072, .f32⟩
  | .hbm, ⟨4, _⟩ => ⟨S1024, .f32⟩
  | .hbm, ⟨5, _⟩ => ⟨S1024, .f32⟩
  | .hbm, ⟨6, _⟩ => ⟨S2048x1024, .bf16⟩
  | .hbm, ⟨7, _⟩ => ⟨S16384x2048, .bf16⟩
  | .hbm, ⟨8, _⟩ => ⟨S16384x1024, .f32⟩
  | .hbm, ⟨9, _⟩ => ⟨S4x1x3072, .f32⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1x3072, .f32⟩
  | .local _ .vmem, ⟨6, _⟩ => ⟨S1x1x3072, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DnOutIdeal.lean ====
abbrev S4x4096x2048 : Shape := ⟨3, ![4, 4096, 2048]⟩
abbrev S2048x1024 : Shape := ⟨2, ![2048, 1024]⟩
abbrev S4x4096x1024 : Shape := ⟨3, ![4, 4096, 1024]⟩
abbrev S4x3072 : Shape := ⟨2, ![4, 3072]⟩
abbrev S1024 : Shape := ⟨1, ![1024]⟩
abbrev S16384x2048 : Shape := ⟨2, ![16384, 2048]⟩
abbrev S16384x1024 : Shape := ⟨2, ![16384, 1024]⟩
abbrev S4x1x3072 : Shape := ⟨3, ![4, 1, 3072]⟩
abbrev S1x1024 : Shape := ⟨2, ![1, 1024]⟩
abbrev S512x2048 : Shape := ⟨2, ![512, 2048]⟩
abbrev S512x1024 : Shape := ⟨2, ![512, 1024]⟩
abbrev S1x1x3072 : Shape := ⟨3, ![1, 1, 3072]⟩
abbrev S1x1x1024 : Shape := ⟨3, ![1, 1, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S4x4096x2048, .bf16⟩
  | .hbm, ⟨1, _⟩ => ⟨S2048x1024, .f32⟩
  | .hbm, ⟨2, _⟩ => ⟨S4x4096x1024, .f32⟩
  | .hbm, ⟨3, _⟩ => ⟨S4x3072, .f32⟩
  | .hbm, ⟨4, _⟩ => ⟨S1024, .f32⟩
  | .hbm, ⟨5, _⟩ => ⟨S1024, .f32⟩
  | .hbm, ⟨6, _⟩ => ⟨S2048x1024, .bf16⟩
  | .hbm, ⟨7, _⟩ => ⟨S16384x2048, .bf16⟩
  | .hbm, ⟨8, _⟩ => ⟨S16384x1024, .f32⟩
  | .hbm, ⟨9, _⟩ => ⟨S4x1x3072, .f32⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1x3072, .f32⟩
  | .local _ .vmem, ⟨6, _⟩ => ⟨S1x1x3072, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DnOutRefIdeal.lean ====
abbrev S4x4096x2048 : Shape := ⟨3, ![4, 4096, 2048]⟩
abbrev S2048x1024 : Shape := ⟨2, ![2048, 1024]⟩
abbrev S4x4096x1024 : Shape := ⟨3, ![4, 4096, 1024]⟩
abbrev S4x3072 : Shape := ⟨2, ![4, 3072]⟩
abbrev S1024 : Shape := ⟨1, ![1024]⟩
abbrev S4x1x3072 : Shape := ⟨3, ![4, 1, 3072]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S2048x1024, .f32⟩
  | .hbm, ⟨2, _⟩ => ⟨S4x4096x1024, .f32⟩
  | .hbm, ⟨3, _⟩ => ⟨S4x3072, .f32⟩
  | .hbm, ⟨4, _⟩ => ⟨S1024, .f32⟩
  | .hbm, ⟨5, _⟩ => ⟨S1024, .f32⟩
  | .hbm, ⟨6, _⟩ => ⟨S4x1x3072, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S_, .f32⟩
  | .hbm, ⟨11, _⟩ => ⟨S4x1x1024, .f32⟩
  | .hbm, ⟨12, _⟩ => ⟨S4x1x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S4x4096x2048, .f32⟩
  | .hbm, ⟨18, _⟩ => ⟨S4x4096x1024, .f32⟩
  | .hbm, ⟨19, _⟩ => ⟨S_, .f32⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1, .f32⟩
  | .hbm, ⟨47, _⟩ => ⟨S4x4096x1024, .f32⟩
  | .hbm, ⟨48, _⟩ => ⟨S4x4096x1024, .f32⟩
  | .hbm, ⟨49, _⟩ => ⟨S1x1x1024, .f32⟩
  | .hbm, ⟨50, _⟩ => ⟨S4x4096x1024, .f32⟩
  | .hbm, ⟨51, _⟩ => ⟨S4x4096x1024, .f32⟩
  | .hbm, ⟨52, _⟩ => ⟨S1x1x1024, .f32⟩
  | .hbm, ⟨53, _⟩ => ⟨S4x4096x1024, .f32⟩
  | .hbm, ⟨54, _⟩ => ⟨S4x4096x1024, .f32⟩
  | .hbm, ⟨55, _⟩ => ⟨S16384x1024, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== DnOutS.lean ====
abbrev S128x1x2048 : Shape := ⟨3, ![128, 1, 2048]⟩
abbrev S2048x1024 : Shape := ⟨2, ![2048, 1024]⟩
abbrev S128x1x1024 : Shape := ⟨3, ![128, 1, 1024]⟩
abbrev S128x3072 : Shape := ⟨2, ![128, 3072]⟩
abbrev S1024 : Shape := ⟨1, ![1024]⟩
abbrev S128x2048 : Shape := ⟨2, ![128, 2048]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩

abbrev nBuf : Space → Nat
  | .hbm => 12
  | .vmem => 7
  | .smem => 0
  | _ => 0

abbrev bufTy : (tb : Table) → Fin (tcTables nBuf tb) → BufTy
  | .hbm, ⟨0, _⟩ => ⟨S128x1x2048, .f32⟩
  | .hbm, ⟨1, _⟩ => ⟨S2048x1024, .f32⟩
  | .hbm, ⟨2, _⟩ => ⟨S128x1x1024, .f32⟩
  | .hbm, ⟨3, _⟩ => ⟨S128x3072, .f32⟩
  | .hbm, ⟨4, _⟩ => ⟨S1024, .f32⟩
  | .hbm, ⟨5, _⟩ => ⟨S1024, .f32⟩
  | .hbm, ⟨6, _⟩ => ⟨S2048x1024, .bf16⟩
  | .hbm, ⟨7, _⟩ => ⟨S128x2048, .f32⟩
  | .hbm, ⟨8, _⟩ => ⟨S128x1024, .f32⟩
  | .hbm, ⟨9, _⟩ => ⟨S1x1024, .f32⟩
  | .hbm, ⟨10, _⟩ => ⟨S1x1024, .f32⟩
  | .hbm, ⟨11, _⟩ => ⟨S128x1024, .f32⟩
  | .local _ .vmem, ⟨0, _⟩ => ⟨S128x2048, .f32⟩
  | .local _ .vmem, ⟨1, _⟩ => ⟨S2048x1024, .bf16⟩
  | .local _ .vmem, ⟨2, _⟩ => ⟨S128x1024, .f32⟩
  | .local _ .vmem, ⟨3, _⟩ => ⟨S128x3072, .f32⟩
  | .local _ .vmem, ⟨4, _⟩ => ⟨S1x1024, .f32⟩
  | .local _ .vmem, ⟨5, _⟩ => ⟨S1x1024, .f32⟩
  | .local _ .vmem, ⟨6, _⟩ => ⟨S128x1024, .f32⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== DnOutSRefIdeal.lean ====
abbrev S128x1x2048 : Shape := ⟨3, ![128, 1, 2048]⟩
abbrev S2048x1024 : Shape := ⟨2, ![2048, 1024]⟩
abbrev S128x1x1024 : Shape := ⟨3, ![128, 1, 1024]⟩
abbrev S128x3072 : Shape := ⟨2, ![128, 3072]⟩
abbrev S1024 : Shape := ⟨1, ![1024]⟩
abbrev S128x1x3072 : Shape := ⟨3, ![128, 1, 3072]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1024 : Shape := ⟨2, ![128, 1024]⟩

abbrev nBuf : Space → Nat
  | .hbm => 52
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S2048x1024, .f32⟩
  | .hbm, ⟨2, _⟩ => ⟨S128x1x1024, .f32⟩
  | .hbm, ⟨3, _⟩ => ⟨S128x3072, .f32⟩
  | .hbm, ⟨4, _⟩ => ⟨S1024, .f32⟩
  | .hbm, ⟨5, _⟩ => ⟨S1024, .f32⟩
  | .hbm, ⟨6, _⟩ => ⟨S128x1x3072, .f32⟩
  | .hbm, ⟨7, _⟩ => ⟨S128x1x1024, .f32⟩
  | .hbm, ⟨8, _⟩ => ⟨S128x1x1024, .f32⟩
  | .hbm, ⟨9, _⟩ => ⟨S128x1x1024, .f32⟩
  | .hbm, ⟨10, _⟩ => ⟨S_, .f32⟩
  | .hbm, ⟨11, _⟩ => ⟨S128x1x1024, .f32⟩
  | .hbm, ⟨12, _⟩ => ⟨S128x1x1024, .f32⟩
  | .hbm, ⟨13, _⟩ => ⟨S128x1x1024, .f32⟩
  | .hbm, ⟨14, _⟩ => ⟨S128x1x1024, .f32⟩
  | .hbm, ⟨15, _⟩ => ⟨S128x1x1024, .f32⟩
  | .hbm, ⟨16, _⟩ => ⟨S_, .f32⟩
  | .hbm, ⟨17, _⟩ => ⟨S128x1x1024, .f32⟩
  | .hbm, ⟨18, _⟩ => ⟨S128x1x1024, .f32⟩
  | .hbm, ⟨19, _⟩ => ⟨S_, .f32⟩
  | .hbm, ⟨20, _⟩ => ⟨S128x1x1024, .f32⟩
  | .hbm, ⟨21, _⟩ => ⟨S128x1x1024, .f32⟩
  | .hbm, ⟨22, _⟩ => ⟨S128x1x1024, .f32⟩
  | .hbm, ⟨23, _⟩ => ⟨S128x1x1024, .f32⟩
  | .hbm, ⟨24, _⟩ => ⟨S_, .f32⟩
  | .hbm, ⟨25, _⟩ => ⟨S128x1, .f32⟩
  | .hbm, ⟨26, _⟩ => ⟨S128x1x1, .f32⟩
  | .hbm, ⟨27, _⟩ => ⟨S_, .f32⟩
  | .hbm, ⟨28, _⟩ => ⟨S128x1x1, .f32⟩
  | .hbm, ⟨29, _⟩ => ⟨S128x1x1, .f32⟩
  | .hbm, ⟨30, _⟩ => ⟨S128x1x1024, .f32⟩
  | .hbm, ⟨31, _⟩ => ⟨S128x1x1024, .f32⟩
  | .hbm, ⟨32, _⟩ => ⟨S128x1x1024, .f32⟩
  | .hbm, ⟨33, _⟩ => ⟨S_, .f32⟩
  | .hbm, ⟨34, _⟩ => ⟨S128x1, .f32⟩
  | .hbm, ⟨35, _⟩ => ⟨S128x1x1, .f32⟩
  | .hbm, ⟨36, _⟩ => ⟨S_, .f32⟩
  | .hbm, ⟨37, _⟩ => ⟨S128x1x1, .f32⟩
  | .hbm, ⟨38, _⟩ => ⟨S128x1x1, .f32⟩
  | .hbm, ⟨39, _⟩ => ⟨S_, .f32⟩
  | .hbm, ⟨40, _⟩ => ⟨S128x1x1, .f32⟩
  | .hbm, ⟨41, _⟩ => ⟨S128x1x1, .f32⟩
  | .hbm, ⟨42, _⟩ => ⟨S128x1x1, .f32⟩
  | .hbm, ⟨43, _⟩ => ⟨S128x1x1024, .f32⟩
  | .hbm, ⟨44, _⟩ => ⟨S128x1x1024, .f32⟩
  | .hbm, ⟨45, _⟩ => ⟨S1x1x1024, .f32⟩
  | .hbm, ⟨46, _⟩ => ⟨S128x1x1024, .f32⟩
  | .hbm, ⟨47, _⟩ => ⟨S128x1x1024, .f32⟩
  | .hbm, ⟨48, _⟩ => ⟨S1x1x1024, .f32⟩
  | .hbm, ⟨49, _⟩ => ⟨S128x1x1024, .f32⟩
  | .hbm, ⟨50, _⟩ => ⟨S128x1x1024, .f32⟩
  | .hbm, ⟨51, _⟩ => ⟨S128x1024, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== MixOut.lean ====
abbrev S4x4096x1024 : Shape := ⟨3, ![4, 4096, 1024]⟩
abbrev S1024x1024 : Shape := ⟨2, ![1024, 1024]⟩
abbrev S4x3072 : Shape := ⟨2, ![4, 3072]⟩
abbrev S1024 : Shape := ⟨1, ![1024]⟩
abbrev S16384x1024 : Shape := ⟨2, ![16384, 1024]⟩
abbrev S4x1x3072 : Shape := ⟨3, ![4, 1, 3072]⟩
abbrev S1x1024 : Shape := ⟨2, ![1, 1024]⟩
abbrev S512x1024 : Shape := ⟨2, ![512, 1024]⟩
abbrev S1x1x3072 : Shape := ⟨3, ![1, 1, 3072]⟩
abbrev S1x1x1024 : Shape := ⟨3, ![1, 1, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S4x4096x1024, .bf16⟩
  | .hbm, ⟨1, _⟩ => ⟨S1024x1024, .f32⟩
  | .hbm, ⟨2, _⟩ => ⟨S4x4096x1024, .f32⟩
  | .hbm, ⟨3, _⟩ => ⟨S4x3072, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S16384x1024, .bf16⟩
  | .hbm, ⟨8, _⟩ => ⟨S16384x1024, .f32⟩
  | .hbm, ⟨9, _⟩ => ⟨S4x1x3072, .f32⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x3072, .f32⟩
  | .local _ .vmem, ⟨6, _⟩ => ⟨S1x1x3072, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixOutRefIdeal.lean ====
abbrev S4x4096x1024 : Shape := ⟨3, ![4, 4096, 1024]⟩
abbrev S1024x1024 : Shape := ⟨2, ![1024, 1024]⟩
abbrev S4x3072 : Shape := ⟨2, ![4, 3072]⟩
abbrev S1024 : Shape := ⟨1, ![1024]⟩
abbrev S4x1x3072 : Shape := ⟨3, ![4, 1, 3072]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S1024x1024, .f32⟩
  | .hbm, ⟨2, _⟩ => ⟨S4x4096x1024, .f32⟩
  | .hbm, ⟨3, _⟩ => ⟨S4x3072, .f32⟩
  | .hbm, ⟨4, _⟩ => ⟨S1024, .f32⟩
  | .hbm, ⟨5, _⟩ => ⟨S1024, .f32⟩
  | .hbm, ⟨6, _⟩ => ⟨S4x1x3072, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S_, .f32⟩
  | .hbm, ⟨11, _⟩ => ⟨S4x1x1024, .f32⟩
  | .hbm, ⟨12, _⟩ => ⟨S4x1x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1, .f32⟩
  | .hbm, ⟨47, _⟩ => ⟨S4x4096x1024, .f32⟩
  | .hbm, ⟨48, _⟩ => ⟨S4x4096x1024, .f32⟩
  | .hbm, ⟨49, _⟩ => ⟨S1x1x1024, .f32⟩
  | .hbm, ⟨50, _⟩ => ⟨S4x4096x1024, .f32⟩
  | .hbm, ⟨51, _⟩ => ⟨S4x4096x1024, .f32⟩
  | .hbm, ⟨52, _⟩ => ⟨S1x1x1024, .f32⟩
  | .hbm, ⟨53, _⟩ => ⟨S4x4096x1024, .f32⟩
  | .hbm, ⟨54, _⟩ => ⟨S4x4096x1024, .f32⟩
  | .hbm, ⟨55, _⟩ => ⟨S16384x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== DnIn.lean ====
abbrev S4x4096x1024 : Shape := ⟨3, ![4, 4096, 1024]⟩
abbrev S4x3072 : Shape := ⟨2, ![4, 3072]⟩
abbrev S1024x6176 : Shape := ⟨2, ![1024, 6176]⟩
abbrev S4x4096 : Shape := ⟨2, ![4, 4096]⟩
abbrev S16 : Shape := ⟨1, ![16]⟩
abbrev S_ : Shape := ⟨0, ![]⟩
abbrev S1024x6272 : Shape := ⟨2, ![1024, 6272]⟩
abbrev S128 : Shape := ⟨1, ![128]⟩
abbrev S1x128 : Shape := ⟨2, ![1, 128]⟩
abbrev S16384x1024 : Shape := ⟨2, ![16384, 1024]⟩
abbrev S4x1x3072 : Shape := ⟨3, ![4, 1, 3072]⟩
abbrev S16384x4096 : Shape := ⟨2, ![16384, 4096]⟩
abbrev S16384x2048 : Shape := ⟨2, ![16384, 2048]⟩
abbrev S16384x128 : Shape := ⟨2, ![16384, 128]⟩
abbrev S4x8x4096 : Shape := ⟨3, ![4, 8, 4096]⟩
abbrev S512x1024 : Shape := ⟨2, ![512, 1024]⟩
abbrev S1x1x3072 : Shape := ⟨3, ![1, 1, 3072]⟩
abbrev S512x4096 : Shape := ⟨2, ![512, 4096]⟩
abbrev S512x2048 : Shape := ⟨2, ![512, 2048]⟩
abbrev S512x128 : Shape := ⟨2, ![512, 128]⟩
abbrev S1x8x4096 : Shape := ⟨3, ![1, 8, 4096]⟩
abbrev S8x4096 : Shape := ⟨2, ![8, 4096]⟩
abbrev S1x1x1024 : Shape := ⟨3, ![1, 1, 1024]⟩
abbrev S1x1024 : Shape := ⟨2, ![1, 1024]⟩
abbrev S8x512 : Shape := ⟨2, ![8, 512]⟩
abbrev S1024x512 : Shape := ⟨2, ![1024, 512]⟩
abbrev S512x512 : Shape := ⟨2, ![512, 512]⟩
abbrev S1x512 : Shape := ⟨2, ![1, 512]⟩
abbrev S1x8x512 : Shape := ⟨3, ![1, 8, 512]⟩
abbrev S1024x2048 : Shape := ⟨2, ![1024, 2048]⟩
abbrev S1024x128 : Shape := ⟨2, ![1024, 128]⟩
abbrev S16384x32 : Shape := ⟨2, ![16384, 32]⟩
abbrev S4x3x4096 : Shape := ⟨3, ![4, 3, 4096]⟩

abbrev nBuf : Space → Nat
  | .hbm => 26
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x3072, .f32⟩
  | .hbm, ⟨2, _⟩ => ⟨S1024x6176, .f32⟩
  | .hbm, ⟨3, _⟩ => ⟨S4x4096, .f32⟩
  | .hbm, ⟨4, _⟩ => ⟨S16, .f32⟩
  | .hbm, ⟨5, _⟩ => ⟨S16, .f32⟩
  | .hbm, ⟨6, _⟩ => ⟨S_, .i32⟩
  | .hbm, ⟨7, _⟩ => ⟨S_, .f32⟩
  | .hbm, ⟨8, _⟩ => ⟨S1024x6272, .f32⟩
  | .hbm, ⟨9, _⟩ => ⟨S1024x6272, .bf16⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S16384x1024, .f32⟩
  | .hbm, ⟨19, _⟩ => ⟨S4x1x3072, .f32⟩
  | .hbm, ⟨20, _⟩ => ⟨S16384x4096, .f32⟩
  | .hbm, ⟨21, _⟩ => ⟨S16384x2048, .f32⟩
  | .hbm, ⟨22, _⟩ => ⟨S16384x128, .f32⟩
  | .hbm, ⟨23, _⟩ => ⟨S4x8x4096, .f32⟩
  | .hbm, ⟨24, _⟩ => ⟨S16384x32, .f32⟩
  | .hbm, ⟨25, _⟩ => ⟨S4x3x4096, .f32⟩
  | .local _ .vmem, ⟨0, _⟩ => ⟨S512x1024, .f32⟩
  | .local _ .vmem, ⟨1, _⟩ => ⟨S512x1024, .f32⟩
  | .local _ .vmem, ⟨2, _⟩ => ⟨S1024x6272, .bf16⟩
  | .local _ .vmem, ⟨3, _⟩ => ⟨S1x1x3072, .f32⟩
  | .local _ .vmem, ⟨4, _⟩ => ⟨S1x1x3072, .f32⟩
  | .local _ .vmem, ⟨5, _⟩ => ⟨S4x4096, .f32⟩
  | .local _ .vmem, ⟨6, _⟩ => ⟨S1x128, .f32⟩
  | .local _ .vmem, ⟨7, _⟩ => ⟨S1x128, .f32⟩
  | .local _ .vmem, ⟨8, _⟩ => ⟨S512x4096, .f32⟩
  | .local _ .vmem, ⟨9, _⟩ => ⟨S512x4096, .f32⟩
  | .local _ .vmem, ⟨10, _⟩ => ⟨S512x2048, .f32⟩
  | .local _ .vmem, ⟨11, _⟩ => ⟨S512x2048, .f32⟩
  | .local _ .vmem, ⟨12, _⟩ => ⟨S512x128, .f32⟩
  | .local _ .vmem, ⟨13, _⟩ => ⟨S512x128, .f32⟩
  | .local _ .vmem, ⟨14, _⟩ => ⟨S1x8x4096, .f32⟩
  | .local _ .vmem, ⟨15, _⟩ => ⟨S1x8x4096, .f32⟩
  | .local _ .vmem, ⟨16, _⟩ => ⟨S8x4096, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call2_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6272 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DnInRefIdeal.lean ====
abbrev S4x4096x1024 : Shape := ⟨3, ![4, 4096, 1024]⟩
abbrev S4x3072 : Shape := ⟨2, ![4, 3072]⟩
abbrev S1024x6176 : Shape := ⟨2, ![1024, 6176]⟩
abbrev S4x4096 : Shape := ⟨2, ![4, 4096]⟩
abbrev S16 : Shape := ⟨1, ![16]⟩
abbrev S4x1x3072 : Shape := ⟨3, ![4, 1, 3072]⟩
abbrev S4x1x1024 : Shape := ⟨3, ![4, 1, 1024]⟩
abbrev S_ : Shape := ⟨0, ![]⟩
abbrev S4x3x4096 : Shape := ⟨3, ![4, 3, 4096]⟩
abbrev S4x4096x6176 : Shape := ⟨3, ![4, 4096, 6176]⟩
abbrev S4x4096x4096 : Shape := ⟨3, ![4, 4096, 4096]⟩
abbrev S4x4096x2048 : Shape := ⟨3, ![4, 4096, 2048]⟩
abbrev S4x4096x16 : Shape := ⟨3, ![4, 4096, 16]⟩
abbrev S4x4099x4096 : Shape := ⟨3, ![4, 4099, 4096]⟩
abbrev S1x4096 : Shape := ⟨2, ![1, 4096]⟩
abbrev S4096 : Shape := ⟨1, ![4096]⟩
abbrev S1x1x4096 : Shape := ⟨3, ![1, 1, 4096]⟩
abbrev S1x1x16 : Shape := ⟨3, ![1, 1, 16]⟩
abbrev S16384x4096 : Shape := ⟨2, ![16384, 4096]⟩
abbrev S16384x2048 : Shape := ⟨2, ![16384, 2048]⟩
abbrev S4x4096x32 : Shape := ⟨3, ![4, 4096, 32]⟩
abbrev S16384x32 : Shape := ⟨2, ![16384, 32]⟩

abbrev nBuf : Space → Nat
  | .hbm => 96
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x3072, .f32⟩
  | .hbm, ⟨2, _⟩ => ⟨S1024x6176, .f32⟩
  | .hbm, ⟨3, _⟩ => ⟨S4x4096, .f32⟩
  | .hbm, ⟨4, _⟩ => ⟨S16, .f32⟩
  | .hbm, ⟨5, _⟩ => ⟨S16, .f32⟩
  | .hbm, ⟨6, _⟩ => ⟨S4x1x3072, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S_, .f32⟩
  | .hbm, ⟨11, _⟩ => ⟨S4x1x1024, .f32⟩
  | .hbm, ⟨12, _⟩ => ⟨S4x1x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S_, .f32⟩
  | .hbm, ⟨18, _⟩ => ⟨S4x3x4096, .f32⟩
  | .hbm, ⟨19, _⟩ => ⟨S4x4096x6176, .f32⟩
  | .hbm, ⟨20, _⟩ => ⟨S4x4096x4096, .f32⟩
  | .hbm, ⟨21, _⟩ => ⟨S4x4096x2048, .f32⟩
  | .hbm, ⟨22, _⟩ => ⟨S4x4096x16, .f32⟩
  | .hbm, ⟨23, _⟩ => ⟨S4x4096x16, .f32⟩
  | .hbm, ⟨24, _⟩ => ⟨S4x4099x4096, .f32⟩
  | .hbm, ⟨25, _⟩ => ⟨S4x4096x4096, .f32⟩
  | .hbm, ⟨26, _⟩ => ⟨S1x4096, .f32⟩
  | .hbm, ⟨27, _⟩ => ⟨S4096, .f32⟩
  | .hbm, ⟨28, _⟩ => ⟨S1x1x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S1x4096, .f32⟩
  | .hbm, ⟨33, _⟩ => ⟨S4096, .f32⟩
  | .hbm, ⟨34, _⟩ => ⟨S1x1x4096, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S1x4096, .f32⟩
  | .hbm, ⟨40, _⟩ => ⟨S4096, .f32⟩
  | .hbm, ⟨41, _⟩ => ⟨S1x1x4096, .f32⟩
  | .hbm, ⟨42, _⟩ => ⟨S4x4096x4096, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S1x4096, .f32⟩
  | .hbm, ⟨47, _⟩ => ⟨S4096, .f32⟩
  | .hbm, ⟨48, _⟩ => ⟨S1x1x4096, .f32⟩
  | .hbm, ⟨49, _⟩ => ⟨S4x4096x4096, .f32⟩
  | .hbm, ⟨50, _⟩ => ⟨S4x4096x4096, .f32⟩
  | .hbm, ⟨51, _⟩ => ⟨S4x4096x4096, .f32⟩
  | .hbm, ⟨52, _⟩ => ⟨S4x4096x4096, .f32⟩
  | .hbm, ⟨53, _⟩ => ⟨S4x4096x4096, .f32⟩
  | .hbm, ⟨54, _⟩ => ⟨S_, .f32⟩
  | .hbm, ⟨55, _⟩ => ⟨S4x4096x4096, .f32⟩
  | .hbm, ⟨56, _⟩ => ⟨S4x4096x4096, .f32⟩
  | .hbm, ⟨57, _⟩ => ⟨S_, .f32⟩
  | .hbm, ⟨58, _⟩ => ⟨S4x4096x4096, .f32⟩
  | .hbm, ⟨59, _⟩ => ⟨S4x4096x4096, .f32⟩
  | .hbm, ⟨60, _⟩ => ⟨S4x4096x4096, .f32⟩
  | .hbm, ⟨61, _⟩ => ⟨S16, .f32⟩
  | .hbm, ⟨62, _⟩ => ⟨S16, .f32⟩
  | .hbm, ⟨63, _⟩ => ⟨S1x1x16, .f32⟩
  | .hbm, ⟨64, _⟩ => ⟨S4x4096x16, .f32⟩
  | .hbm, ⟨65, _⟩ => ⟨S4x4096x16, .f32⟩
  | .hbm, ⟨66, _⟩ => ⟨S_, .f32⟩
  | .hbm, ⟨67, _⟩ => ⟨S4x4096x16, .f32⟩
  | .hbm, ⟨68, _⟩ => ⟨S4x4096x16, .f32⟩
  | .hbm, ⟨69, _⟩ => ⟨S4x4096x16, .f32⟩
  | .hbm, ⟨70, _⟩ => ⟨S4x4096x16, .f32⟩
  | .hbm, ⟨71, _⟩ => ⟨S4x4096x16, .i1⟩
  | .hbm, ⟨72, _⟩ => ⟨S4x4096x16, .f32⟩
  | .hbm, ⟨73, _⟩ => ⟨S4x4096x16, .f32⟩
  | .hbm, ⟨74, _⟩ => ⟨S4x4096x16, .f32⟩
  | .hbm, ⟨75, _⟩ => ⟨S4x4096x16, .f32⟩
  | .hbm, ⟨76, _⟩ => ⟨S4x4096x16, .f32⟩
  | .hbm, ⟨77, _⟩ => ⟨S4x4096x16, .f32⟩
  | .hbm, ⟨78, _⟩ => ⟨S4x4096x16, .f32⟩
  | .hbm, ⟨79, _⟩ => ⟨S4x4096x16, .f32⟩
  | .hbm, ⟨80, _⟩ => ⟨S1x1x16, .f32⟩
  | .hbm, ⟨81, _⟩ => ⟨S4x4096x16, .f32⟩
  | .hbm, ⟨82, _⟩ => ⟨S4x4096x16, .f32⟩
  | .hbm, ⟨83, _⟩ => ⟨S4x4096x16, .f32⟩
  | .hbm, ⟨84, _⟩ => ⟨S4x4096x16, .f32⟩
  | .hbm, ⟨85, _⟩ => ⟨S_, .f32⟩
  | .hbm, ⟨86, _⟩ => ⟨S4x4096x16, .f32⟩
  | .hbm, ⟨87, _⟩ => ⟨S4x4096x16, .f32⟩
  | .hbm, ⟨88, _⟩ => ⟨S_, .f32⟩
  | .hbm, ⟨89, _⟩ => ⟨S4x4096x16, .f32⟩
  | .hbm, ⟨90, _⟩ => ⟨S4x4096x16, .f32⟩
  | .hbm, ⟨91, _⟩ => ⟨S16384x4096, .f32⟩
  | .hbm, ⟨92, _⟩ => ⟨S16384x2048, .f32⟩
  | .hbm, ⟨93, _⟩ => ⟨S4x4096x32, .f32⟩
  | .hbm, ⟨94, _⟩ => ⟨S16384x32, .f32⟩
  | .hbm, ⟨95, _⟩ => ⟨S4x3x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_1 : Ref sig .tc := ⟨.hbm, 85, rfl⟩
abbrev main_v56 : Ref sig .tc := ⟨.hbm, 86, rfl⟩
abbrev main_v57 : Ref sig .tc := ⟨.hbm, 87, rfl⟩
abbrev main_cst_2 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]
-- ==== SwaDec.lean ====
abbrev S128x1024 : Shape := ⟨2, ![128, 1024]⟩
abbrev S128x128 : Shape := ⟨2, ![128, 128]⟩
abbrev S128x128x2x64 : Shape := ⟨4, ![128, 128, 2, 64]⟩
abbrev S16 : Shape := ⟨1, ![16]⟩
abbrev S128x16x64 : Shape := ⟨3, ![128, 16, 64]⟩
abbrev S128x1x128 : Shape := ⟨3, ![128, 1, 128]⟩
abbrev S128x128x128 : Shape := ⟨3, ![128, 128, 128]⟩
abbrev S16x1 : Shape := ⟨2, ![16, 1]⟩
abbrev S8x16x64 : Shape := ⟨3, ![8, 16, 64]⟩
abbrev S8x128x128 : Shape := ⟨3, ![8, 128, 128]⟩
abbrev S8x1x128 : Shape := ⟨3, ![8, 1, 128]⟩
abbrev S8x8x64 : Shape := ⟨3, ![8, 8, 64]⟩
abbrev S8x128x64 : Shape := ⟨3, ![8, 128, 64]⟩
abbrev S8x8x128 : Shape := ⟨3, ![8, 8, 128]⟩
abbrev S8x1x64 : Shape := ⟨3, ![8, 1, 64]⟩
abbrev S8x8 : Shape := ⟨2, ![8, 8]⟩
abbrev S8x8x1 : Shape := ⟨3, ![8, 8, 1]⟩
abbrev S8x1 : Shape := ⟨2, ![8, 1]⟩
abbrev S1x8x1 : Shape := ⟨3, ![1, 8, 1]⟩
abbrev S8x127x128 : Shape := ⟨3, ![8, 127, 128]⟩

abbrev nBuf : Space → Nat
  | .hbm => 17
  | .vmem => 19
  | .smem => 0
  | _ => 0

abbrev bufTy : (tb : Table) → Fin (tcTables nBuf tb) → BufTy
  | .hbm, ⟨0, _⟩ => ⟨S128x1024, .f32⟩
  | .hbm, ⟨1, _⟩ => ⟨S128x128, .f32⟩
  | .hbm, ⟨2, _⟩ => ⟨S128x128, .f32⟩
  | .hbm, ⟨3, _⟩ => ⟨S128x1024, .f32⟩
  | .hbm, ⟨4, _⟩ => ⟨S128x128x2x64, .f32⟩
  | .hbm, ⟨5, _⟩ => ⟨S128x128x2x64, .f32⟩
  | .hbm, ⟨6, _⟩ => ⟨S16, .f32⟩
  | .hbm, ⟨7, _⟩ => ⟨S128x16x64, .f32⟩
  | .hbm, ⟨8, _⟩ => ⟨S128x1x128, .f32⟩
  | .hbm, ⟨9, _⟩ => ⟨S128x1x128, .f32⟩
  | .hbm, ⟨10, _⟩ => ⟨S128x16x64, .f32⟩
  | .hbm, ⟨11, _⟩ => ⟨S128x128x128, .f32⟩
  | .hbm, ⟨12, _⟩ => ⟨S128x128x128, .f32⟩
  | .hbm, ⟨13, _⟩ => ⟨S16x1, .f32⟩
  | .hbm, ⟨14, _⟩ => ⟨S128x16x64, .f32⟩
  | .hbm, ⟨15, _⟩ => ⟨S128x128x128, .f32⟩
  | .hbm, ⟨16, _⟩ => ⟨S128x128x128, .f32⟩
  | .local _ .vmem, ⟨0, _⟩ => ⟨S8x16x64, .f32⟩
  | .local _ .vmem, ⟨1, _⟩ => ⟨S8x16x64, .f32⟩
  | .local _ .vmem, ⟨2, _⟩ => ⟨S8x128x128, .f32⟩
  | .local _ .vmem, ⟨3, _⟩ => ⟨S8x128x128, .f32⟩
  | .local _ .vmem, ⟨4, _⟩ => ⟨S8x128x128, .f32⟩
  | .local _ .vmem, ⟨5, _⟩ => ⟨S8x128x128, .f32⟩
  | .local _ .vmem, ⟨6, _⟩ => ⟨S8x1x128, .f32⟩
  | .local _ .vmem, ⟨7, _⟩ => ⟨S8x1x128, .f32⟩
  | .local _ .vmem, ⟨8, _⟩ => ⟨S8x1x128, .f32⟩
  | .local _ .vmem, ⟨9, _⟩ => ⟨S8x1x128, .f32⟩
  | .local _ .vmem, ⟨10, _⟩ => ⟨S8x16x64, .f32⟩
  | .local _ .vmem, ⟨11, _⟩ => ⟨S8x16x64, .f32⟩
  | .local _ .vmem, ⟨12, _⟩ => ⟨S16x1, .f32⟩
  | .local _ .vmem, ⟨13, _⟩ => ⟨S8x16x64, .f32⟩
  | .local _ .vmem, ⟨14, _⟩ => ⟨S8x16x64, .f32⟩
  | .local _ .vmem, ⟨15, _⟩ => ⟨S8x128x128, .f32⟩
  | .local _ .vmem, ⟨16, _⟩ => ⟨S8x128x128, .f32⟩
  | .local _ .vmem, ⟨17, _⟩ => ⟨S8x128x128, .f32⟩
  | .local _ .vmem, ⟨18, _⟩ => ⟨S8x128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x16x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SwaDecRefIdeal.lean ====
abbrev S128x1024 : Shape := ⟨2, ![128, 1024]⟩
abbrev S128x128 : Shape := ⟨2, ![128, 128]⟩
abbrev S128x128x2x64 : Shape := ⟨4, ![128, 128, 2, 64]⟩
abbrev S16 : Shape := ⟨1, ![16]⟩
abbrev S128x1x2x8x64 : Shape := ⟨5, ![128, 1, 2, 8, 64]⟩
abbrev S128x1x2x64 : Shape := ⟨4, ![128, 1, 2, 64]⟩
abbrev S128x1x1024 : Shape := ⟨3, ![128, 1, 1024]⟩
abbrev S128x129x2x64 : Shape := ⟨4, ![128, 129, 2, 64]⟩
abbrev S1 : Shape := ⟨1, ![1]⟩
abbrev S1x1 : Shape := ⟨2, ![1, 1]⟩
abbrev S_ : Shape := ⟨0, ![]⟩
abbrev S129 : Shape := ⟨1, ![129]⟩
abbrev S1x129 : Shape := ⟨2, ![1, 129]⟩
abbrev S128x2x129x1x8 : Shape := ⟨5, ![128, 2, 129, 1, 8]⟩
abbrev S128x2x8x1x129 : Shape := ⟨5, ![128, 2, 8, 1, 129]⟩
abbrev S1x1x1x129 : Shape := ⟨4, ![1, 1, 1, 129]⟩
abbrev S2x8x1x1 : Shape := ⟨4, ![2, 8, 1, 1]⟩
abbrev S128x2x8x1x1 : Shape := ⟨5, ![128, 2, 8, 1, 1]⟩
abbrev S128x2x8x1x130 : Shape := ⟨5, ![128, 2, 8, 1, 130]⟩
abbrev S128x2x8x1 : Shape := ⟨4, ![128, 2, 8, 1]⟩
abbrev S128x2x64x8x1 : Shape := ⟨5, ![128, 2, 64, 8, 1]⟩
abbrev S128x16x64 : Shape := ⟨3, ![128, 16, 64]⟩
abbrev S128x128x128 : Shape := ⟨3, ![128, 128, 128]⟩

abbrev nBuf : Space → Nat
  | .hbm => 76
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x128, .f32⟩
  | .hbm, ⟨2, _⟩ => ⟨S128x128, .f32⟩
  | .hbm, ⟨3, _⟩ => ⟨S128x1024, .f32⟩
  | .hbm, ⟨4, _⟩ => ⟨S128x128x2x64, .f32⟩
  | .hbm, ⟨5, _⟩ => ⟨S128x128x2x64, .f32⟩
  | .hbm, ⟨6, _⟩ => ⟨S16, .f32⟩
  | .hbm, ⟨7, _⟩ => ⟨S128x1x2x8x64, .f32⟩
  | .hbm, ⟨8, _⟩ => ⟨S128x1x2x64, .f32⟩
  | .hbm, ⟨9, _⟩ => ⟨S128x1x2x64, .f32⟩
  | .hbm, ⟨10, _⟩ => ⟨S128x1x1024, .f32⟩
  | .hbm, ⟨11, _⟩ => ⟨S128x129x2x64, .f32⟩
  | .hbm, ⟨12, _⟩ => ⟨S128x129x2x64, .f32⟩
  | .hbm, ⟨13, _⟩ => ⟨S1, .i32⟩
  | .hbm, ⟨14, _⟩ => ⟨S1x1, .i32⟩
  | .hbm, ⟨15, _⟩ => ⟨S_, .i32⟩
  | .hbm, ⟨16, _⟩ => ⟨S1x1, .i32⟩
  | .hbm, ⟨17, _⟩ => ⟨S1x1, .i32⟩
  | .hbm, ⟨18, _⟩ => ⟨S129, .i32⟩
  | .hbm, ⟨19, _⟩ => ⟨S1x129, .i32⟩
  | .hbm, ⟨20, _⟩ => ⟨S1x129, .i32⟩
  | .hbm, ⟨21, _⟩ => ⟨S1x129, .i32⟩
  | .hbm, ⟨22, _⟩ => ⟨S_, .i32⟩
  | .hbm, ⟨23, _⟩ => ⟨S1x129, .i32⟩
  | .hbm, ⟨24, _⟩ => ⟨S1x129, .i1⟩
  | .hbm, ⟨25, _⟩ => ⟨S_, .i32⟩
  | .hbm, ⟨26, _⟩ => ⟨S1x129, .i32⟩
  | .hbm, ⟨27, _⟩ => ⟨S1x129, .i1⟩
  | .hbm, ⟨28, _⟩ => ⟨S1x129, .i1⟩
  | .hbm, ⟨29, _⟩ => ⟨S128x2x129x1x8, .f32⟩
  | .hbm, ⟨30, _⟩ => ⟨S128x2x8x1x129, .f32⟩
  | .hbm, ⟨31, _⟩ => ⟨S_, .f32⟩
  | .hbm, ⟨32, _⟩ => ⟨S128x2x8x1x129, .f32⟩
  | .hbm, ⟨33, _⟩ => ⟨S128x2x8x1x129, .f32⟩
  | .hbm, ⟨34, _⟩ => ⟨S1x1x1x129, .i1⟩
  | .hbm, ⟨35, _⟩ => ⟨S_, .f32⟩
  | .hbm, ⟨36, _⟩ => ⟨S_, .f32⟩
  | .hbm, ⟨37, _⟩ => ⟨S128x2x8x1x129, .i1⟩
  | .hbm, ⟨38, _⟩ => ⟨S128x2x8x1x129, .f32⟩
  | .hbm, ⟨39, _⟩ => ⟨S128x2x8x1x129, .f32⟩
  | .hbm, ⟨40, _⟩ => ⟨S2x8x1x1, .f32⟩
  | .hbm, ⟨41, _⟩ => ⟨S128x2x8x1x1, .f32⟩
  | .hbm, ⟨42, _⟩ => ⟨S128x2x8x1x130, .f32⟩
  | .hbm, ⟨43, _⟩ => ⟨S_, .f32⟩
  | .hbm, ⟨44, _⟩ => ⟨S128x2x8x1, .f32⟩
  | .hbm, ⟨45, _⟩ => ⟨S_, .f32⟩
  | .hbm, ⟨46, _⟩ => ⟨S128x2x8x1, .f32⟩
  | .hbm, ⟨47, _⟩ => ⟨S128x2x8x1, .f32⟩
  | .hbm, ⟨48, _⟩ => ⟨S128x2x8x1x1, .f32⟩
  | .hbm, ⟨49, _⟩ => ⟨S128x2x8x1x130, .f32⟩
  | .hbm, ⟨50, _⟩ => ⟨S128x2x8x1x130, .f32⟩
  | .hbm, ⟨51, _⟩ => ⟨S128x2x8x1x130, .f32⟩
  | .hbm, ⟨52, _⟩ => ⟨S_, .f32⟩
  | .hbm, ⟨53, _⟩ => ⟨S128x2x8x1, .f32⟩
  | .hbm, ⟨54, _⟩ => ⟨S128x2x8x1x1, .f32⟩
  | .hbm, ⟨55, _⟩ => ⟨S128x2x8x1x130, .f32⟩
  | .hbm, ⟨56, _⟩ => ⟨S128x2x8x1x130, .f32⟩
  | .hbm, ⟨57, _⟩ => ⟨S128x2x8x1x129, .f32⟩
  | .hbm, ⟨58, _⟩ => ⟨S128x2x64x8x1, .f32⟩
  | .hbm, ⟨59, _⟩ => ⟨S128x1x2x8x64, .f32⟩
  | .hbm, ⟨60, _⟩ => ⟨S128x1x1024, .f32⟩
  | .hbm, ⟨61, _⟩ => ⟨S128x1x1024, .f32⟩
  | .hbm, ⟨62, _⟩ => ⟨S128x1x1024, .f32⟩
  | .hbm, ⟨63, _⟩ => ⟨S_, .f32⟩
  | .hbm, ⟨64, _⟩ => ⟨S128x1x1024, .f32⟩
  | .hbm, ⟨65, _⟩ => ⟨S128x1x1024, .f32⟩
  | .hbm, ⟨66, _⟩ => ⟨S_, .f32⟩
  | .hbm, ⟨67, _⟩ => ⟨S128x1x1024, .f32⟩
  | .hbm, ⟨68, _⟩ => ⟨S128x1x1024, .f32⟩
  | .hbm, ⟨69, _⟩ => ⟨S128x1x1024, .f32⟩
  | .hbm, ⟨70, _⟩ => ⟨S128x1x1024, .f32⟩
  | .hbm, ⟨71, _⟩ => ⟨S128x128x2x64, .f32⟩
  | .hbm, ⟨72, _⟩ => ⟨S128x128x2x64, .f32⟩
  | .hbm, ⟨73, _⟩ => ⟨S128x16x64, .f32⟩
  | .hbm, ⟨74, _⟩ => ⟨S128x128x128, .f32⟩
  | .hbm, ⟨75, _⟩ => ⟨S128x128x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩

abbrev nD : Nat := 1
abbrev τ : Topo := Topo.v7x

variable {F : FTy → Type} [FloatOps F]
-- ==== DnPrep.lean ====
abbrev S128x4096 : Shape := ⟨2, ![128, 4096]⟩
abbrev S128x3x4096 : Shape := ⟨3, ![128, 3, 4096]⟩
abbrev S4x4096 : Shape := ⟨2, ![4, 4096]⟩
abbrev S3x128x4096 : Shape := ⟨3, ![3, 128, 4096]⟩
abbrev S128x512 : Shape := ⟨2, ![128, 512]⟩
abbrev S3x128x512 : Shape := ⟨3, ![3, 128, 512]⟩
abbrev S4x512 : Shape := ⟨2, ![4, 512]⟩
abbrev S1x128x512 : Shape := ⟨3, ![1, 128, 512]⟩
abbrev S1x512 : Shape := ⟨2, ![1, 512]⟩
abbrev S128x128 : Shape := ⟨2, ![128, 128]⟩
abbrev S128 : Shape := ⟨1, ![128]⟩
abbrev S128x1 : Shape := ⟨2, ![128, 1]⟩

abbrev nBuf : Space → Nat
  | .hbm => 7
  | .vmem => 10
  | .smem => 0
  | _ => 0

abbrev bufTy : (tb : Table) → Fin (tcTables nBuf tb) → BufTy
  | .hbm, ⟨0, _⟩ => ⟨S128x4096, .f32⟩
  | .hbm, ⟨1, _⟩ => ⟨S128x3x4096, .f32⟩
  | .hbm, ⟨2, _⟩ => ⟨S4x4096, .f32⟩
  | .hbm, ⟨3, _⟩ => ⟨S3x128x4096, .f32⟩
  | .hbm, ⟨4, _⟩ => ⟨S128x4096, .f32⟩
  | .hbm, ⟨5, _⟩ => ⟨S3x128x4096, .f32⟩
  | .hbm, ⟨6, _⟩ => ⟨S128x3x4096, .f32⟩
  | .local _ .vmem, ⟨0, _⟩ => ⟨S128x512, .f32⟩
  | .local _ .vmem, ⟨1, _⟩ => ⟨S128x512, .f32⟩
  | .local _ .vmem, ⟨2, _⟩ => ⟨S3x128x512, .f32⟩
  | .local _ .vmem, ⟨3, _⟩ => ⟨S3x128x512, .f32⟩
  | .local _ .vmem, ⟨4, _⟩ => ⟨S4x512, .f32⟩
  | .local _ .vmem, ⟨5, _⟩ => ⟨S4x512, .f32⟩
  | .local _ .vmem, ⟨6, _⟩ => ⟨S128x512, .f32⟩
  | .local _ .vmem, ⟨7, _⟩ => ⟨S128x512, .f32⟩
  | .local _ .vmem, ⟨8, _⟩ => ⟨S3x128x512, .f32⟩
  | .local _ .vmem, ⟨9, _⟩ => ⟨S3x128x512, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let v44 : BitVec 1 := Scalar.cmpi .sge arg0 c4_i32
  let v45 : BitVec 32 := Scalar.extui v44
  let c0_i32 : BitVec 32 := 0#32
  let v46 : BitVec 1 := Scalar.cmpi .ne v45 c0_i32
  v46

def k0_cond2 (i : grid0.Coords) : BitVec 1 :=
  let arg0 : BitVec 32 := BitVec.ofNat 32 (i 0).val
  let c4_i32_27 : BitVec 32 := 4#32
  let v47 : BitVec 1 := Scalar.cmpi .slt arg0 c4_i32_27
  let v48 : BitVec 32 := Scalar.extui v47
  let c0_i32_28 : BitVec 32 := 0#32
  let v49 : BitVec 1 := Scalar.cmpi .ne v48 c0_i32_28
  v49

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DnPrepRefIdeal.lean ====
abbrev S128x4096 : Shape := ⟨2, ![128, 4096]⟩
abbrev S128x3x4096 : Shape := ⟨3, ![128, 3, 4096]⟩
abbrev S4x4096 : Shape := ⟨2, ![4, 4096]⟩
abbrev S128x1x4096 : Shape := ⟨3, ![128, 1, 4096]⟩
abbrev S128x4x4096 : Shape := ⟨3, ![128, 4, 4096]⟩
abbrev S1x4096 : Shape := ⟨2, ![1, 4096]⟩
abbrev S4096 : Shape := ⟨1, ![4096]⟩
abbrev S1x1x4096 : Shape := ⟨3, ![1, 1, 4096]⟩
abbrev S_ : Shape := ⟨0, ![]⟩
abbrev S128x1x1024 : Shape := ⟨3, ![128, 1, 1024]⟩
abbrev S128x1x2048 : Shape := ⟨3, ![128, 1, 2048]⟩
abbrev S128x1x8x128 : Shape := ⟨4, ![128, 1, 8, 128]⟩
abbrev S128x1x8 : Shape := ⟨3, ![128, 1, 8]⟩
abbrev S128x1x8x1 : Shape := ⟨4, ![128, 1, 8, 1]⟩

abbrev nBuf : Space → Nat
  | .hbm => 74
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S128x3x4096, .f32⟩
  | .hbm, ⟨2, _⟩ => ⟨S4x4096, .f32⟩
  | .hbm, ⟨3, _⟩ => ⟨S128x1x4096, .f32⟩
  | .hbm, ⟨4, _⟩ => ⟨S128x4x4096, .f32⟩
  | .hbm, ⟨5, _⟩ => ⟨S128x1x4096, .f32⟩
  | .hbm, ⟨6, _⟩ => ⟨S1x4096, .f32⟩
  | .hbm, ⟨7, _⟩ => ⟨S4096, .f32⟩
  | .hbm, ⟨8, _⟩ => ⟨S1x1x4096, .f32⟩
  | .hbm, ⟨9, _⟩ => ⟨S128x1x4096, .f32⟩
  | .hbm, ⟨10, _⟩ => ⟨S128x1x4096, .f32⟩
  | .hbm, ⟨11, _⟩ => ⟨S128x1x4096, .f32⟩
  | .hbm, ⟨12, _⟩ => ⟨S1x4096, .f32⟩
  | .hbm, ⟨13, _⟩ => ⟨S4096, .f32⟩
  | .hbm, ⟨14, _⟩ => ⟨S1x1x4096, .f32⟩
  | .hbm, ⟨15, _⟩ => ⟨S128x1x4096, .f32⟩
  | .hbm, ⟨16, _⟩ => ⟨S128x1x4096, .f32⟩
  | .hbm, ⟨17, _⟩ => ⟨S128x1x4096, .f32⟩
  | .hbm, ⟨18, _⟩ => ⟨S128x1x4096, .f32⟩
  | .hbm, ⟨19, _⟩ => ⟨S1x4096, .f32⟩
  | .hbm, ⟨20, _⟩ => ⟨S4096, .f32⟩
  | .hbm, ⟨21, _⟩ => ⟨S1x1x4096, .f32⟩
  | .hbm, ⟨22, _⟩ => ⟨S128x1x4096, .f32⟩
  | .hbm, ⟨23, _⟩ => ⟨S128x1x4096, .f32⟩
  | .hbm, ⟨24, _⟩ => ⟨S128x1x4096, .f32⟩
  | .hbm, ⟨25, _⟩ => ⟨S128x1x4096, .f32⟩
  | .hbm, ⟨26, _⟩ => ⟨S1x4096, .f32⟩
  | .hbm, ⟨27, _⟩ => ⟨S4096, .f32⟩
  | .hbm, ⟨28, _⟩ => ⟨S1x1x4096, .f32⟩
  | .hbm, ⟨29, _⟩ => ⟨S128x1x4096, .f32⟩
  | .hbm, ⟨30, _⟩ => ⟨S128x1x4096, .f32⟩
  | .hbm, ⟨31, _⟩ => ⟨S128x1x4096, .f32⟩
  | .hbm, ⟨32, _⟩ => ⟨S128x1x4096, .f32⟩
  | .hbm, ⟨33, _⟩ => ⟨S128x1x4096, .f32⟩
  | .hbm, ⟨34, _⟩ => ⟨S_, .f32⟩
  | .hbm, ⟨35, _⟩ => ⟨S128x1x4096, .f32⟩
  | .hbm, ⟨36, _⟩ => ⟨S128x1x4096, .f32⟩
  | .hbm, ⟨37, _⟩ => ⟨S_, .f32⟩
  | .hbm, ⟨38, _⟩ => ⟨S128x1x4096, .f32⟩
  | .hbm, ⟨39, _⟩ => ⟨S128x1x4096, .f32⟩
  | .hbm, ⟨40, _⟩ => ⟨S128x1x4096, .f32⟩
  | .hbm, ⟨41, _⟩ => ⟨S128x1x1024, .f32⟩
  | .hbm, ⟨42, _⟩ => ⟨S128x1x1024, .f32⟩
  | .hbm, ⟨43, _⟩ => ⟨S128x1x2048, .f32⟩
  | .hbm, ⟨44, _⟩ => ⟨S128x1x8x128, .f32⟩
  | .hbm, ⟨45, _⟩ => ⟨S128x1x8x128, .f32⟩
  | .hbm, ⟨46, _⟩ => ⟨S_, .f32⟩
  | .hbm, ⟨47, _⟩ => ⟨S128x1x8, .f32⟩
  | .hbm, ⟨48, _⟩ => ⟨S128x1x8x1, .f32⟩
  | .hbm, ⟨49, _⟩ => ⟨S_, .f32⟩
  | .hbm, ⟨50, _⟩ => ⟨S128x1x8x1, .f32⟩
  | .hbm, ⟨51, _⟩ => ⟨S128x1x8x1, .f32⟩
  | .hbm, ⟨52, _⟩ => ⟨S128x1x8x1, .f32⟩
  | .hbm, ⟨53, _⟩ => ⟨S128x1x8x128, .f32⟩
  | .hbm, ⟨54, _⟩ => ⟨S128x1x8x128, .f32⟩
  | .hbm, ⟨55, _⟩ => ⟨S_, .f32⟩
  | .hbm, ⟨56, _⟩ => ⟨S128x1x8x128, .f32⟩
  | .hbm, ⟨57, _⟩ => ⟨S128x1x8x128, .f32⟩
  | .hbm, ⟨58, _⟩ => ⟨S128x1x8x128, .f32⟩
  | .hbm, ⟨59, _⟩ => ⟨S128x1x8x128, .f32⟩
  | .hbm, ⟨60, _⟩ => ⟨S_, .f32⟩
  | .hbm, ⟨61, _⟩ => ⟨S128x1x8, .f32⟩
  | .hbm, ⟨62, _⟩ => ⟨S128x1x8x1, .f32⟩
  | .hbm, ⟨63, _⟩ => ⟨S_, .f32⟩
  | .hbm, ⟨64, _⟩ => ⟨S128x1x8x1, .f32⟩
  | .hbm, ⟨65, _⟩ => ⟨S128x1x8x1, .f32⟩
  | .hbm, ⟨66, _⟩ => ⟨S128x1x8x1, .f32⟩
  | .hbm, ⟨67, _⟩ => ⟨S128x1x8x128, .f32⟩
  | .hbm, ⟨68, _⟩ => ⟨S128x1x8x128, .f32⟩
  | .hbm, ⟨69, _⟩ => ⟨S128x1x1024, .f32⟩
  | .hbm, ⟨70, _⟩ => ⟨S128x1x1024, .f32⟩
  | .hbm, ⟨71, _⟩ => ⟨S128x1x4096, .f32⟩
  | .hbm, ⟨72, _⟩ => ⟨S128x4096, .f32⟩
  | .hbm, ⟨73, _⟩ => ⟨S128x3x4096, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst : Ref sig .tc := ⟨.hbm, 46, rfl⟩
abbrev main_v35 : Ref sig .tc := ⟨.hbm, 47, rfl⟩
abbrev main_v36 : Ref sig .tc := ⟨.hbm, 48, rfl⟩
abbrev main_cst_0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_1 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_2 : Ref sig .tc := ⟨.hbm, 60, rfl⟩
abbrev main_v46 : Ref sig .tc := ⟨.hbm, 61, rfl⟩
abbrev main_v47 : Ref sig .tc := ⟨.hbm, 62, rfl⟩
abbrev main_cst_3 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== DnStep.lean ====
abbrev S128x4096 : Shape := ⟨2, ![128, 4096]⟩
abbrev S128x2048 : Shape := ⟨2, ![128, 2048]⟩
abbrev S128x32 : Shape := ⟨2, ![128, 32]⟩
abbrev S128 : Shape := ⟨1, ![128]⟩
abbrev S2x128x16x128x128 : Shape := ⟨5, ![2, 128, 16, 128, 128]⟩
abbrev S_ : Shape := ⟨0, ![]⟩
abbrev S128x128 : Shape := ⟨2, ![128, 128]⟩
abbrev S128x1024 : Shape := ⟨2, ![128, 1024]⟩
abbrev S128x8x128 : Shape := ⟨3, ![128, 8, 128]⟩
abbrev S128x16x128 : Shape := ⟨3, ![128, 16, 128]⟩
abbrev S128x1x128 : Shape := ⟨3, ![128, 1, 128]⟩
abbrev S1x128 : Shape := ⟨2, ![1, 128]⟩
abbrev S4x8x128 : Shape := ⟨3, ![4, 8, 128]⟩
abbrev S4x16x128 : Shape := ⟨3, ![4, 16, 128]⟩
abbrev S4x1x128 : Shape := ⟨3, ![4, 1, 128]⟩
abbrev S1x4x16x128x128 : Shape := ⟨5, ![1, 4, 16, 128, 128]⟩
abbrev S4x16x128x128 : Shape := ⟨4, ![4, 16, 128, 128]⟩
abbrev S8x128 : Shape := ⟨2, ![8, 128]⟩
abbrev S1x1x1x128x128 : Shape := ⟨5, ![1, 1, 1, 128, 128]⟩
abbrev S1x1x128 : Shape := ⟨3, ![1, 1, 128]⟩
abbrev S1x1x1 : Shape := ⟨3, ![1, 1, 1]⟩
abbrev S1x1 : Shape := ⟨2, ![1, 1]⟩
abbrev S1 : Shape := ⟨1, ![1]⟩

abbrev nBuf : Space → Nat
  | .hbm => 19
  | .vmem => 17
  | .smem => 0
  | _ => 0

abbrev bufTy : (tb : Table) → Fin (tcTables nBuf tb) → BufTy
  | .hbm, ⟨0, _⟩ => ⟨S128x4096, .f32⟩
  | .hbm, ⟨1, _⟩ => ⟨S128x2048, .f32⟩
  | .hbm, ⟨2, _⟩ => ⟨S128x32, .f32⟩
  | .hbm, ⟨3, _⟩ => ⟨S128, .f32⟩
  | .hbm, ⟨4, _⟩ => ⟨S2x128x16x128x128, .f32⟩
  | .hbm, ⟨5, _⟩ => ⟨S_, .i32⟩
  | .hbm, ⟨6, _⟩ => ⟨S_, .f32⟩
  | .hbm, ⟨7, _⟩ => ⟨S128x128, .f32⟩
  | .hbm, ⟨8, _⟩ => ⟨S128x1024, .f32⟩
  | .hbm, ⟨9, _⟩ => ⟨S128x8x128, .f32⟩
  | .hbm, ⟨10, _⟩ => ⟨S128x1024, .f32⟩
  | .hbm, ⟨11, _⟩ => ⟨S128x8x128, .f32⟩
  | .hbm, ⟨12, _⟩ => ⟨S128x2048, .f32⟩
  | .hbm, ⟨13, _⟩ => ⟨S128x16x128, .f32⟩
  | .hbm, ⟨14, _⟩ => ⟨S128x16x128, .f32⟩
  | .hbm, ⟨15, _⟩ => ⟨S128x1x128, .f32⟩
  | .hbm, ⟨16, _⟩ => ⟨S1x128, .f32⟩
  | .hbm, ⟨17, _⟩ => ⟨S128x16x128, .f32⟩
  | .hbm, ⟨18, _⟩ => ⟨S2x128x16x128x128, .f32⟩
  | .local _ .vmem, ⟨0, _⟩ => ⟨S4x8x128, .f32⟩
  | .local _ .vmem, ⟨1, _⟩ => ⟨S4x8x128, .f32⟩
  | .local _ .vmem, ⟨2, _⟩ => ⟨S4x8x128, .f32⟩
  | .local _ .vmem, ⟨3, _⟩ => ⟨S4x8x128, .f32⟩
  | .local _ .vmem, ⟨4, _⟩ => ⟨S4x16x128, .f32⟩
  | .local _ .vmem, ⟨5, _⟩ => ⟨S4x16x128, .f32⟩
  | .local _ .vmem, ⟨6, _⟩ => ⟨S4x16x128, .f32⟩
  | .local _ .vmem, ⟨7, _⟩ => ⟨S4x16x128, .f32⟩
  | .local _ .vmem, ⟨8, _⟩ => ⟨S4x1x128, .f32⟩
  | .local _ .vmem, ⟨9, _⟩ => ⟨S4x1x128, .f32⟩
  | .local _ .vmem, ⟨10, _⟩ => ⟨S1x128, .f32⟩
  | .local _ .vmem, ⟨11, _⟩ => ⟨S1x4x16x128x128, .f32⟩
  | .local _ .vmem, ⟨12, _⟩ => ⟨S1x4x16x128x128, .f32⟩
  | .local _ .vmem, ⟨13, _⟩ => ⟨S4x16x128, .f32⟩
  | .local _ .vmem, ⟨14, _⟩ => ⟨S4x16x128, .f32⟩
  | .local _ .vmem, ⟨15, _⟩ => ⟨S1x4x16x128x128, .f32⟩
  | .local _ .vmem, ⟨16, _⟩ => ⟨S1x4x16x128x128, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg0 : BitVec 32 := BitVec.ofNat 32 (i 0).val
  let c1_i32_0 : BitVec 32 := 1#32
  let v3 : BitVec 1 := Scalar.cmpi .eq arg0 c1_i32_0
  let v4 : BitVec 32 := Scalar.extui v3
  let c0_i32_1 : BitVec 32 := 0#32
  let v5 : BitVec 1 := Scalar.cmpi .ne v4 c0_i32_1
  v5

def k0_cond1 (i : grid0.Coords) : BitVec 1 :=
  let arg0 : BitVec 32 := BitVec.ofNat 32 (i 0).val
  let c1_i32 : BitVec 32 := 1#32
  let v0 : BitVec 1 := Scalar.cmpi .slt arg0 c1_i32
  let v1 : BitVec 32 := Scalar.extui v0
  let c0_i32 : BitVec 32 := 0#32
  let v2 : BitVec 1 := Scalar.cmpi .ne v1 c0_i32
  v2

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![v1.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  let c0_i32_6 : BitVec 32 := 0#32
  let c0_i32_7 : BitVec 32 := 0#32
  ![v10.toNat, arg1.toNat, c0_i32_4.toNat, c0_i32_5.toNat, c0_i32_6.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![v1.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  let c0_i32_6 : BitVec 32 := 0#32
  let c0_i32_7 : BitVec 32 := 0#32
  ![v10.toNat, arg1.toNat, c0_i32_4.toNat, c0_i32_5.toNat, c0_i32_6.toNat]

abbrev stage0_0 : Fin 2 → Memref sig .tc .vmem S4x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DnStepRefIdeal.lean ====
abbrev S128x4096 : Shape := ⟨2, ![128, 4096]⟩
abbrev S128x2048 : Shape := ⟨2, ![128, 2048]⟩
abbrev S128x32 : Shape := ⟨2, ![128, 32]⟩
abbrev S128 : Shape := ⟨1, ![128]⟩
abbrev S2x128x16x128x128 : Shape := ⟨5, ![2, 128, 16, 128, 128]⟩
abbrev S128x1x4096 : Shape := ⟨3, ![128, 1, 4096]⟩
abbrev S128x1x1024 : Shape := ⟨3, ![128, 1, 1024]⟩
abbrev S128x1x2048 : Shape := ⟨3, ![128, 1, 2048]⟩
abbrev S128x1x32 : Shape := ⟨3, ![128, 1, 32]⟩
abbrev S128x1x16 : Shape := ⟨3, ![128, 1, 16]⟩
abbrev S128x1x8x128 : Shape := ⟨4, ![128, 1, 8, 128]⟩
abbrev S128x1x8x2x128 : Shape := ⟨5, ![128, 1, 8, 2, 128]⟩
abbrev S128x1x16x128 : Shape := ⟨4, ![128, 1, 16, 128]⟩
abbrev S1x128x16x128x128 : Shape := ⟨5, ![1, 128, 16, 128, 128]⟩
abbrev S128x16x128x128 : Shape := ⟨4, ![128, 16, 128, 128]⟩
abbrev S128x1x1x16x128 : Shape := ⟨5, ![128, 1, 1, 16, 128]⟩
abbrev S1x128x1x16x128 : Shape := ⟨5, ![1, 128, 1, 16, 128]⟩
abbrev S1x128x16x1x128 : Shape := ⟨5, ![1, 128, 16, 1, 128]⟩
abbrev S128x1x1x16 : Shape := ⟨4, ![128, 1, 1, 16]⟩
abbrev S1x128x1x16 : Shape := ⟨4, ![1, 128, 1, 16]⟩
abbrev S1x128x16x1 : Shape := ⟨4, ![1, 128, 16, 1]⟩
abbrev S_ : Shape := ⟨0, ![]⟩
abbrev S1x1 : Shape := ⟨2, ![1, 1]⟩
abbrev S1x128x16x1x1 : Shape := ⟨5, ![1, 128, 16, 1, 1]⟩
abbrev S1x128x16 : Shape := ⟨3, ![1, 128, 16]⟩
abbrev S128x16x1x1 : Shape := ⟨4, ![128, 16, 1, 1]⟩
abbrev S128x16x1x128 : Shape := ⟨4, ![128, 16, 1, 128]⟩
abbrev S128x16 : Shape := ⟨2, ![128, 16]⟩
abbrev S128x1x16x1 : Shape := ⟨4, ![128, 1, 16, 1]⟩
abbrev S1x1x1x128 : Shape := ⟨4, ![1, 1, 1, 128]⟩
abbrev S128x16x128 : Shape := ⟨3, ![128, 16, 128]⟩

abbrev nBuf : Space → Nat
  | .hbm => 136
  | .vmem => 0
  | .smem => 0
  | _ => 0

abbrev hbmTy0_0 (i : Nat) : BufTy := match i % 128 with
  | 0 => ⟨S128x4096, .f32⟩
  | 1 => ⟨S128x2048, .f32⟩
  | 2 => ⟨S128x32, .f32⟩
  | 3 => ⟨S128, .f32⟩
  | 4 => ⟨S2x128x16x128x128, .f32⟩
  | 5 => ⟨S128x1x4096, .f32⟩
  | 6 => ⟨S128x1x1024, .f32⟩
  | 7 => ⟨S128x1x1024, .f32⟩
  | 8 => ⟨S128x1x2048, .f32⟩
  | 9 => ⟨S128x1x32, .f32⟩
  | 10 => ⟨S128x1x16, .f32⟩
  | 11 => ⟨S128x1x16, .f32⟩
  | 12 => ⟨S128x1x8x128, .f32⟩
  | 13 => ⟨S128x1x8x2x128, .f32⟩
  | 14 => ⟨S128x1x16x128, .f32⟩
  | 15 => ⟨S128x1x8x128, .f32⟩
  | 16 => ⟨S128x1x8x2x128, .f32⟩
  | 17 => ⟨S128x1x16x128, .f32⟩
  | 18 => ⟨S128x1x16x128, .f32⟩
  | 19 => ⟨S1x128x16x128x128, .f32⟩
  | 20 => ⟨S128x16x128x128, .f32⟩
  | 21 => ⟨S128x1x1x16x128, .f32⟩
  | 22 => ⟨S1x128x1x16x128, .f32⟩
  | 23 => ⟨S1x128x16x1x128, .f32⟩
  | 24 => ⟨S128x1x1x16x128, .f32⟩
  | 25 => ⟨S1x128x1x16x128, .f32⟩
  | 26 => ⟨S1x128x16x1x128, .f32⟩
  | 27 => ⟨S128x1x1x16x128, .f32⟩
  | 28 => ⟨S1x128x1x16x128, .f32⟩
  | 29 => ⟨S1x128x16x1x128, .f32⟩
  | 30 => ⟨S128x1x1x16, .f32⟩
  | 31 => ⟨S1x128x1x16, .f32⟩
  | 32 => ⟨S1x128x16x1, .f32⟩
  | 33 => ⟨S128x1x1x16, .f32⟩
  | 34 => ⟨S1x128x1x16, .f32⟩
  | 35 => ⟨S1x128x16x1, .f32⟩
  | 36 => ⟨S_, .f32⟩
  | 37 => ⟨S_, .f32⟩
  | 38 => ⟨S1x128x16x1, .f32⟩
  | 39 => ⟨S_, .i1⟩
  | 40 => ⟨S1x1, .i1⟩
  | 41 => ⟨S1x1, .i32⟩
  | 42 => ⟨S_, .i32⟩
  | 43 => ⟨S1x1, .i32⟩
  | 44 => ⟨S1x1, .i32⟩
  | 45 => ⟨S1x1, .i32⟩
  | 46 => ⟨S1x1, .i1⟩
  | 47 => ⟨S_, .i1⟩
  | 48 => ⟨S1x1, .i1⟩
  | 49 => ⟨S1x1, .i1⟩
  | 50 => ⟨S1x128x16x1x1, .f32⟩
  | 51 => ⟨S1x128x16x1x1, .f32⟩
  | 52 => ⟨S1x128x16x1x1, .f32⟩
  | 53 => ⟨S_, .f32⟩
  | 54 => ⟨S_, .f32⟩
  | 55 => ⟨S1x128x16x1x1, .i1⟩
  | 56 => ⟨S1x128x16x1x1, .f32⟩
  | 57 => ⟨S1x128x16x1x1, .f32⟩
  | 58 => ⟨S1x128x16x1x1, .f32⟩
  | 59 => ⟨S_, .f32⟩
  | 60 => ⟨S_, .f32⟩
  | 61 => ⟨S1x128x16x1x1, .i1⟩
  | 62 => ⟨S1x128x16x1x1, .f32⟩
  | 63 => ⟨S1x128x16x1x1, .f32⟩
  | 64 => ⟨S1x128x16x1x1, .f32⟩
  | 65 => ⟨S1x128x16x1x128, .f32⟩
  | 66 => ⟨S1x128x16x1x128, .f32⟩
  | 67 => ⟨S1x128x16x1x1, .f32⟩
  | 68 => ⟨S1x128x16x1x128, .f32⟩
  | 69 => ⟨S1x128x16x1x128, .f32⟩
  | 70 => ⟨S1x128x16x1, .f32⟩
  | 71 => ⟨S1x128x16x1x1, .f32⟩
  | 72 => ⟨S1x128x16x1x128, .f32⟩
  | 73 => ⟨S1x128x16x1x128, .f32⟩
  | 74 => ⟨S1x128x16x1x1, .f32⟩
  | 75 => ⟨S1x128x16x1x1, .f32⟩
  | 76 => ⟨S1x128x16x1, .f32⟩
  | 77 => ⟨S1x128x16x1x1, .f32⟩
  | 78 => ⟨S1x128x16x1x128, .f32⟩
  | 79 => ⟨S1x128x16x1x128, .f32⟩
  | 80 => ⟨S1x128x16, .f32⟩
  | 81 => ⟨S1x128x16x1, .f32⟩
  | 82 => ⟨S1x128x16x1, .f32⟩
  | 83 => ⟨S1x128x16x1, .f32⟩
  | 84 => ⟨S1x128x16x1x1, .f32⟩
  | 85 => ⟨S1x128x16x1x128, .f32⟩
  | 86 => ⟨S1x128x16x1x128, .f32⟩
  | 87 => ⟨S128x16x1x1, .f32⟩
  | 88 => ⟨S128x16x1x128, .f32⟩
  | 89 => ⟨S128x16x1x128, .f32⟩
  | 90 => ⟨S128x16x1x128, .f32⟩
  | 91 => ⟨S128x16x1x128, .f32⟩
  | 92 => ⟨S128x16, .f32⟩
  | 93 => ⟨S128x16x1x128, .f32⟩
  | 94 => ⟨S128x16x1x128, .f32⟩
  | 95 => ⟨S128x16x1x128, .f32⟩
  | 96 => ⟨S128x16x1x128, .f32⟩
  | 97 => ⟨S128x16x1x128, .f32⟩
  | 98 => ⟨S128x16, .f32⟩
  | 99 => ⟨S128x16x1x1, .f32⟩
  | 100 => ⟨S128x16x128x128, .f32⟩
  | 101 => ⟨S128x16x128x128, .f32⟩
  | 102 => ⟨S128x16x128x128, .f32⟩
  | 103 => ⟨S128x16x128x128, .f32⟩
  | 104 => ⟨S128x1x16x128, .f32⟩
  | 105 => ⟨S128x1x16x128, .f32⟩
  | 106 => ⟨S_, .f32⟩
  | 107 => ⟨S128x1x16, .f32⟩
  | 108 => ⟨S128x1x16x1, .f32⟩
  | 109 => ⟨S_, .f32⟩
  | 110 => ⟨S128x1x16x1, .f32⟩
  | 111 => ⟨S128x1x16x1, .f32⟩
  | 112 => ⟨S_, .f32⟩
  | 113 => ⟨S128x1x16x1, .f32⟩
  | 114 => ⟨S128x1x16x1, .f32⟩
  | 115 => ⟨S128x1x16x1, .f32⟩
  | 116 => ⟨S128x1x16x128, .f32⟩
  | 117 => ⟨S128x1x16x128, .f32⟩
  | 118 => ⟨S1x1x1x128, .f32⟩
  | 119 => ⟨S128x1x16x128, .f32⟩
  | 120 => ⟨S128x1x16x128, .f32⟩
  | 121 => ⟨S128x1x16x128, .f32⟩
  | 122 => ⟨S128x1x16x128, .f32⟩
  | 123 => ⟨S128x1x16x128, .f32⟩
  | 124 => ⟨S_, .f32⟩
  | 125 => ⟨S128x1x16x128, .f32⟩
  | 126 => ⟨S128x1x16x128, .f32⟩
  | 127 => ⟨S_, .f32⟩
  | _ => ⟨S128x4096, .f32⟩

abbrev hbmTy0_1 (i : Nat) : BufTy := match i % 128 with
  | 0 => ⟨S128x1x16x128, .f32⟩
  | 1 => ⟨S128x1x16x128, .f32⟩
  | 2 => ⟨S128x1x16x128, .f32⟩
  | 3 => ⟨S128x1x16x128, .f32⟩
  | 4 => ⟨S128x16x128, .f32⟩
  | 5 => ⟨S1x128x16x128x128, .f32⟩
  | 6 => ⟨S1x128x16x128x128, .f32⟩
  | 7 => ⟨S2x128x16x128x128, .f32⟩
  | _ => ⟨S128x4096, .f32⟩

abbrev hbmTy (i : Nat) : BufTy := match i / 128 with
  | 0 => hbmTy0_0 i
  | 1 => hbmTy0_1 i
  | _ => ⟨S128x4096, .f32⟩

abbrev bufTy : (tb : Table) → Fin (tcTables nBuf tb) → BufTy
  | .hbm, ⟨i, _⟩ => hbmTy i
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_call0_cst : Ref sig .tc := ⟨.hbm, 36, rfl⟩
abbrev main_call0_call0_v0 : Ref sig .tc := ⟨.hbm, 37, rfl⟩
abbrev main_v31 : Ref sig .tc := ⟨.hbm, 38, rfl⟩
abbrev main_c : Ref sig .tc := ⟨.hbm, 39, rfl⟩
abbrev main_v32 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_0 : Ref sig .tc := ⟨.hbm, 47, rfl⟩
abbrev main_call1_v5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v37 : Ref sig .tc := ⟨.hbm, 57, rfl⟩
abbrev main_v38 : Ref sig .tc := ⟨.hbm, 58, rfl⟩
abbrev main_cst_0 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_1 : Ref sig .tc := ⟨.hbm, 106, rfl⟩
abbrev main_v82 : Ref sig .tc := ⟨.hbm, 107, rfl⟩
abbrev main_v83 : Ref sig .tc := ⟨.hbm, 108, rfl⟩
abbrev main_cst_2 : Ref sig .tc := ⟨.hbm, 109, rfl⟩
abbrev main_v84 : Ref sig .tc := ⟨.hbm, 110, rfl⟩
abbrev main_v85 : Ref sig .tc := ⟨.hbm, 111, rfl⟩
abbrev main_cst_3 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_call4_v0 : Ref sig .tc := ⟨.hbm, 122, rfl⟩
abbrev main_call4_v1 : Ref sig .tc := ⟨.hbm, 123, rfl⟩
abbrev main_call4_cst : Ref sig .tc := ⟨.hbm, 124, rfl⟩
abbrev main_call4_v2 : Ref sig .tc := ⟨.hbm, 125, rfl⟩
abbrev main_call4_v3 : Ref sig .tc := ⟨.hbm, 126, rfl⟩
abbrev main_call4_cst_0 : Ref sig .tc := ⟨.hbm, 127, rfl⟩
abbrev main_call4_v4 : Ref sig .tc := ⟨.hbm, 128, rfl⟩
abbrev main_call4_v5 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩

abbrev nD : Nat := 1
abbrev τ : Topo := Topo.v7x

variable {F : FTy → Type} [FloatOps F]
-- ==== Proof.Softmax.lean ====
/-
  Facts about extended reals that the attention proofs share: the two spellings of the silu gate, a real factor moved
  through a sum, and a softmax divided before or after the values are summed.
-/
module

public import Idealize.ShloMosaic.PureOps.Ideal

@[expose] public section

noncomputable section

open Idealize.ShloMosaic

namespace Cert.Num

/-- The gate by `tanh` at half the argument is the gate by the logistic function, infinities included. -/
theorem silu_eq (x : EReal) :
    ((1 / 2 : ℝ) : EReal) * x * (1 + Ideal.tanh (((1 / 2 : ℝ) : EReal) * x))
      = x * Ideal.div 1 (1 + Ideal.exp (-x)) := by
  induction x using EReal.rec with
  | bot =>
    rw [EReal.coe_mul_bot_of_pos (by norm_num), EReal.neg_bot]
    show ⊥ * (1 + (-1 : EReal)) = ⊥ * Ideal.div 1 (1 + ⊤)
    rw [show (1 : EReal) + ⊤ = ⊤ from EReal.coe_add_top 1, Ideal.div, if_neg (by simp), EReal.inv_top]
    have e0 : (1 : EReal) + (-1) = 0 := by
      rw [← EReal.coe_one, ← EReal.coe_neg, ← EReal.coe_add]; norm_num
    rw [e0]; simp
  | top =>
    rw [EReal.coe_mul_top_of_pos (by norm_num), EReal.neg_top]
    show ⊤ * (1 + (1 : EReal)) = ⊤ * Ideal.div 1 (1 + 0)
    rw [add_zero, Ideal.div, if_neg one_ne_zero, inv_one, mul_one, mul_one,
      show (1 : EReal) + 1 = ((2 : ℝ) : EReal) from by rw [← EReal.coe_one, ← EReal.coe_add]; norm_num]
    exact EReal.top_mul_coe_of_pos (by norm_num)
  | coe r =>
    rw [← EReal.coe_neg, ← EReal.coe_mul]
    show ((1 / 2 * r : ℝ) : EReal) * (1 + ((Real.tanh (1 / 2 * r) : ℝ) : EReal))
      = (r : EReal) * Ideal.div 1 (1 + ((Real.exp (-r) : ℝ) : EReal))
    have hpos : (1 : ℝ) + Real.exp (-r) ≠ 0 := by positivity
    rw [← EReal.coe_one, ← EReal.coe_add, ← EReal.coe_add, ← EReal.coe_mul, Ideal.div,
      if_neg (by exact_mod_cast hpos), ← EReal.coe_inv, ← EReal.coe_mul, ← EReal.coe_mul]
    congr 1
    have h2 : Real.exp (-r) = Real.exp (-(1 / 2 * r)) * Real.exp (-(1 / 2 * r)) := by
      rw [← Real.exp_add]; congr 1; ring
    have h3 : Real.exp (1 / 2 * r) * Real.exp (-(1 / 2 * r)) = 1 := by
      rw [← Real.exp_add]; simp
    rw [Real.tanh_eq_sinh_div_cosh, Real.sinh_eq, Real.cosh_eq, h2]
    set a := Real.exp (1 / 2 * r) with ha
    set b := Real.exp (-(1 / 2 * r)) with hb
    have ha0 : 0 < a := Real.exp_pos _
    have hb0 : 0 < b := Real.exp_pos _
    have hab : a + b ≠ 0 := by positivity
    have hbb : 1 + b * b ≠ 0 := by positivity
    field_simp
    linear_combination (2 * r * b) * h3

/-- A real factor that is not negative moves out of a sum of extended reals. -/
theorem sum_mul_real {ι : Type} (s : Finset ι) (f : ι → EReal) {c : EReal} (h0 : 0 ≤ c) (ht : c ≠ ⊤) :
    (∑ i ∈ s, f i * c) = (∑ i ∈ s, f i) * c := by
  classical
  induction s using Finset.induction_on with
  | empty => simp
  | insert a s ha ih =>
    rw [Finset.sum_insert ha, Finset.sum_insert ha, ih, EReal.right_distrib_of_nonneg_of_ne_top h0 ht]

/-- An extended real that is neither infinity is a real number. -/
theorem exists_real {x : EReal} (h1 : x ≠ ⊥) (h2 : x ≠ ⊤) : ∃ r : ℝ, x = r :=
  ⟨x.toReal, (EReal.coe_toReal h2 h1).symm⟩

/-- A finite sum of real numbers is a real number. -/
theorem sum_exists_real {ι : Type} (s : Finset ι) (f : ι → EReal) (hf : ∀ i, ∃ r : ℝ, f i = r) :
    ∃ r : ℝ, (∑ i ∈ s, f i) = r := by
  classical
  induction s using Finset.induction_on with
  | empty => exact ⟨0, by simp⟩
  | insert a s ha ih =>
    obtain ⟨x, hx⟩ := hf a
    obtain ⟨y, hy⟩ := ih
    exact ⟨x + y, by rw [Finset.sum_insert ha, hx, hy, EReal.coe_add]⟩

/-- The exponential is not negative. -/
theorem exp_nonneg (x : EReal) : 0 ≤ Ideal.exp x := by
  induction x using EReal.rec with
  | bot => exact le_refl _
  | top => exact le_top
  | coe r => exact EReal.coe_nonneg.mpr (Real.exp_pos r).le

/-- The weighted sum divided once at its end is the sum of the weights divided one by one, for a divisor that is
    positive. -/
theorem sum_div {ι : Type} (s : Finset ι) (v p : ι → EReal) {D : EReal} (hD : 0 < D) :
    (∑ i ∈ s, v i * p i) * Ideal.div 1 D = ∑ i ∈ s, v i * Ideal.div (p i) D := by
  have hne : D ≠ 0 := hD.ne'
  have h0 : 0 ≤ D⁻¹ := EReal.inv_nonneg_of_nonneg hD.le
  have ht : D⁻¹ ≠ ⊤ := by
    induction D using EReal.rec with
    | bot => simp
    | top => simp
    | coe r => rw [← EReal.coe_inv]; exact EReal.coe_ne_top _
  have e1 : Ideal.div 1 D = D⁻¹ := by rw [Ideal.div, if_neg hne, one_mul]
  rw [e1, ← sum_mul_real s _ h0 ht]
  refine Finset.sum_congr rfl fun i _ => ?_
  rw [Ideal.div, if_neg hne, mul_assoc]

end Cert.Num
end
-- ==== Proof.BandBlock.lean ====
/-
  What one grid point of the banded attention kernel computes: eight chains of the same form, one for each pair of
  neighbouring query heads. The form is stated once (`chain`) and read at an index.
-/
module

public import proofs.«01_k».proof.Proof.Gen.BandIdeal.Value
public import Idealize.ShloMosaic.Lib.Pipeline.ValueKit
public import Idealize.ShloMosaic.Lib.Pointwise
public import proofs.«01_k».proof.Proof.Softmax

@[expose] public section

set_option maxRecDepth 16384

noncomputable section

open Idealize.ShloMosaic Idealize.ShloMosaic.TcCoe Idealize.SL.Sem
open Cert.BandIdeal Cert.BandIdeal.Gen Cert.BandIdeal.Facts

namespace Cert.Band.Block

variable {F : FTy → Type} [FloatOps F]

/-- Two blocks of 128 rows, one above the other. -/
def stack (a b : Vec F S1x128x64 .f32) : FVec F S256x64 .f32 :=
  concatenate S256x64 0 [⟨S128x64, shapeCast S128x64 a shapeCasts_S1x128x64_S128x64⟩,
    ⟨S128x64, shapeCast S128x64 b shapeCasts_S1x128x64_S128x64⟩] concatenates_S128x64_S128x64_S256x64_d0

/-- The masked scores: keys down the rows, the queries of two heads side by side along the columns. -/
def score (keep : IVec S256x256 1) (k2 qs : FVec F S256x64 .f32) : FVec F S256x256 .f32 :=
  select keep
    (matmul dot_S256x64_S256x64_S256x256_1_1_0_0_n_n none k2 (mulf qs (broadcast S256x64 (Scalar.ofBits .f32 0x3E000000#32)))
      (constant S256x256 .f32 0x00000000#32))
    (broadcast S256x256 (Scalar.ofBits .f32 0xFF800000#32))

/-- The sink logits of two heads, each over its head's 128 columns. -/
def sinkRow (a b : Vec F S1x1 .f32) : FVec F S1x256 .f32 :=
  concatenate S1x256 1
    [⟨S1x128, broadcastTo S1x128 (shapeCast S1x1 (shapeCast S1x1 a shapeCasts_S1x1_S1x1) shapeCasts_S1x1_S1x1) broadcasts_S1x1_S1x128⟩,
     ⟨S1x128, broadcastTo S1x128 (shapeCast S1x1 (shapeCast S1x1 b shapeCasts_S1x1_S1x1) shapeCasts_S1x1_S1x1) broadcasts_S1x1_S1x128⟩]
    concatenates_S1x128_S1x128_S1x256_d1

/-- The column maxima, the sink included. -/
def top (st : FVec F S256x256 .f32) (sink : FVec F S1x256 .f32) : FVec F S1x256 .f32 :=
  maximumf (shapeCast S1x256 (multiReduction .maximumf [0] S256 st 0xFF800000#32 reduces_S256x256_S256 (.inl rfl) rfl)
    shapeCasts_S256_S1x256) sink

/-- The exponentials of the scores less the column maxima. -/
def weight (st : FVec F S256x256 .f32) (mx : FVec F S1x256 .f32) : FVec F S256x256 .f32 :=
  exp (subf st (broadcastTo S256x256 mx broadcasts_S1x256_S256x256))

/-- The column sums of the exponentials, the sink's included. -/
def denom (p : FVec F S256x256 .f32) (sink mx : FVec F S1x256 .f32) : FVec F S1x256 .f32 :=
  addf (shapeCast S1x256 (multiReduction .add [0] S256 p 0x00000000#32 reduces_S256x256_S256 (.inl rfl) rfl) shapeCasts_S256_S1x256)
    (exp (subf sink mx))

/-- The weighted sums of the values, divided: one column per query. -/
def mix (v2 : FVec F S256x64 .f32) (p : FVec F S256x256 .f32) (den : FVec F S1x256 .f32) : FVec F S64x256 .f32 :=
  mulf (matmul dot_S256x64_S256x256_S64x256_0_0_1_1_n_n none v2 p (constant S64x256 .f32 0x00000000#32))
    (broadcastTo S64x256 (divf (broadcast S1x256 (Scalar.ofBits .f32 0x3F800000#32)) den) broadcasts_S1x256_S64x256)

/-- The two heads' columns turned into rows, side by side. -/
def turn (ot : FVec F S64x256 .f32) : FVec F S128x128 .f32 :=
  transpose S128x128 [1, 0]
    (concatenate S128x128 0 [⟨S64x128, extractStridedSlice S64x128 ![0, 0] ot slices_S64x256_o0_0_S64x128⟩,
      ⟨S64x128, extractStridedSlice S64x128 ![0, 128] ot slices_S64x256_o0_128_S64x128⟩] concatenates_S64x128_S64x128_S128x128_d0)
    transposes_S128x128_p1_0_S128x128

/-- The gate, by `tanh` at half its argument. -/
def gate (z : Vec F S1x128x128 .f32) : FVec F S128x128 .f32 :=
  mulf (mulf (broadcast S128x128 (Scalar.ofBits .f32 0x3F000000#32)) (shapeCast S128x128 z shapeCasts_S1x128x128_S128x128))
    (addf (broadcast S128x128 (Scalar.ofBits .f32 0x3F800000#32))
      (tanh (mulf (broadcast S128x128 (Scalar.ofBits .f32 0x3F000000#32)) (shapeCast S128x128 z shapeCasts_S1x128x128_S128x128))))

/-- One chain: what two neighbouring heads leave in the result block. -/
def chain (keep : IVec S256x256 1) (k2 v2 qs : FVec F S256x64 .f32) (sink : FVec F S1x256 .f32) (z : Vec F S1x128x128 .f32) :
    FVec F S1x128x128 .bf16 :=
  shapeCast S1x128x128
    (truncf .bf16
      (mulf (turn (mix v2 (weight (score keep k2 qs) (top (score keep k2 qs) sink))
        (denom (weight (score keep k2 qs) (top (score keep k2 qs) sink)) sink (top (score keep k2 qs) sink)))) (gate z))
      bitsLt_bf16_f32) shapeCasts_S128x128_S1x128x128

set_option maxHeartbeats 4000000 in
/-- The body's result block: the eight chains, written side by side. -/
theorem out_eq (i : grid0.Coords) (x0 : Vec F S1x128x1024 .f32) (x1 x2 x3 x4 : Vec F S1x128x128 .f32)
    (x5 : Vec F S1x128x1024 .f32) (x6 : Vec F S1x16 .f32) :
    out0_7 i x0 x1 x2 x3 x4 x5 x6 = View.canon [
      ⟨r0_41, chain (k0_pay2 i) (stack (View.ld x2 r0_1) (View.ld x1 r0_1)) (stack (View.ld x4 r0_1) (View.ld x3 r0_1)) (stack (View.ld x0 r0_16) (View.ld x0 r0_17)) (sinkRow (View.ld x6 r0_39) (View.ld x6 r0_40)) (View.ld x5 r0_41)⟩,
      ⟨r0_38, chain (k0_pay2 i) (stack (View.ld x2 r0_1) (View.ld x1 r0_1)) (stack (View.ld x4 r0_1) (View.ld x3 r0_1)) (stack (View.ld x0 r0_14) (View.ld x0 r0_15)) (sinkRow (View.ld x6 r0_36) (View.ld x6 r0_37)) (View.ld x5 r0_38)⟩,
      ⟨r0_35, chain (k0_pay2 i) (stack (View.ld x2 r0_1) (View.ld x1 r0_1)) (stack (View.ld x4 r0_1) (View.ld x3 r0_1)) (stack (View.ld x0 r0_12) (View.ld x0 r0_13)) (sinkRow (View.ld x6 r0_33) (View.ld x6 r0_34)) (View.ld x5 r0_35)⟩,
      ⟨r0_32, chain (k0_pay2 i) (stack (View.ld x2 r0_1) (View.ld x1 r0_1)) (stack (View.ld x4 r0_1) (View.ld x3 r0_1)) (stack (View.ld x0 r0_10) (View.ld x0 r0_11)) (sinkRow (View.ld x6 r0_30) (View.ld x6 r0_31)) (View.ld x5 r0_32)⟩,
      ⟨r0_29, chain (k0_pay2 i) (stack (View.ld x2 r0_0) (View.ld x1 r0_0)) (stack (View.ld x4 r0_0) (View.ld x3 r0_0)) (stack (View.ld x0 r0_8) (View.ld x0 r0_9)) (sinkRow (View.ld x6 r0_27) (View.ld x6 r0_28)) (View.ld x5 r0_29)⟩,
      ⟨r0_26, chain (k0_pay2 i) (stack (View.ld x2 r0_0) (View.ld x1 r0_0)) (stack (View.ld x4 r0_0) (View.ld x3 r0_0)) (stack (View.ld x0 r0_6) (View.ld x0 r0_7)) (sinkRow (View.ld x6 r0_24) (View.ld x6 r0_25)) (View.ld x5 r0_26)⟩,
      ⟨r0_23, chain (k0_pay2 i) (stack (View.ld x2 r0_0) (View.ld x1 r0_0)) (stack (View.ld x4 r0_0) (View.ld x3 r0_0)) (stack (View.ld x0 r0_4) (View.ld x0 r0_5)) (sinkRow (View.ld x6 r0_21) (View.ld x6 r0_22)) (View.ld x5 r0_23)⟩,
      ⟨r0_20, chain (k0_pay2 i) (stack (View.ld x2 r0_0) (View.ld x1 r0_0)) (stack (View.ld x4 r0_0) (View.ld x3 r0_0)) (stack (View.ld x0 r0_2) (View.ld x0 r0_3)) (sinkRow (View.ld x6 r0_18) (View.ld x6 r0_19)) (View.ld x5 r0_20)⟩] := rfl

/-! ## Each step read at an index, over the extended reals -/

theorem stack_apply (a b : Vec Ideal S1x128x64 .f32) (k : Fin 256) (e : Fin 64) :
    stack a b (ix2 k e) = if h : k.val < 128 then a (ix3 0 ⟨k.val, h⟩ e) else b (ix3 0 ⟨k.val - 128, by omega⟩ e) := by
  pointwise [stack]

theorem sinkRow_apply (a b : Vec Ideal S1x1 .f32) (j : Fin 256) :
    sinkRow a b (ix2 0 j) = if j.val < 128 then a (ix2 0 0) else b (ix2 0 0) := by
  pointwise [sinkRow]
  simp only [dite_eq_ite]

/-- One query's attention over 256 keys with scores `s`, a sink logit and values `v`: the values weighted by the
    exponentials of the scores less their maximum, divided at the end by the exponentials' sum with the sink's. -/
def attend (s v : Fin 256 → EReal) (snk : EReal) : EReal :=
  (∑ k, v k * Ideal.exp (s k - max (Finset.univ.fold max ⊥ s) snk))
    * Ideal.div 1 ((∑ k, Ideal.exp (s k - max (Finset.univ.fold max ⊥ s) snk)) + Ideal.exp (snk - max (Finset.univ.fold max ⊥ s) snk))

theorem mix_eq (keep : IVec S256x256 1) (k2 v2 qs : FVec Ideal S256x64 .f32) (sink : FVec Ideal S1x256 .f32) (d : Fin 64) (j : Fin 256) :
    mix v2 (weight (score keep k2 qs) (top (score keep k2 qs) sink))
        (denom (weight (score keep k2 qs) (top (score keep k2 qs) sink)) sink (top (score keep k2 qs) sink)) (ix2 d j)
      = attend (fun k => Scalar.select (keep (ix2 k j)) (∑ e, k2 (ix2 k e) * (qs (ix2 j e) * Ideal.ofBits .f32 0x3E000000#32)) ⊥)
          (fun k => v2 (ix2 k d)) (sink (ix2 0 j)) := by
  pointwise [mix, denom, weight, top, score, attend]
  rw [show Ideal.ofBits .f32 0xFF800000#32 = ⊥ from by simp [Ideal.ofBits, Ideal.ieee]]

theorem turn_apply (ot : FVec Ideal S64x256 .f32) (r l : Fin 128) :
    turn ot (ix2 r l) = ot (ix2 ⟨l.val % 64, by omega⟩ ⟨l.val / 64 * 128 + r.val, by omega⟩) := by
  pointwise [turn]
  split
  · congr 1
    refine congrArg₂ ix2 ?_ ?_ <;> (apply Fin.ext; dsimp only; omega)
  · congr 1
    refine congrArg₂ ix2 ?_ ?_ <;> (apply Fin.ext; dsimp only; omega)

theorem gate_apply (z : Vec Ideal S1x128x128 .f32) (r l : Fin 128) :
    gate z (ix2 r l) = z (ix3 0 r l) * Ideal.div 1 (1 + Ideal.exp (-z (ix3 0 r l))) := by
  pointwise [gate]
  rw [← Cert.Num.silu_eq, show Ideal.ofBits .f32 0x3F000000#32 = ((1 / 2 : ℝ) : EReal) from by
    simp [Ideal.ofBits, Ideal.ieee]; rw [← EReal.coe_mul]; norm_num]

/-- One chain read at row `r` and lane `l`: head `l / 64` of the pair, value column `l % 64`. -/
theorem chain_apply (keep : IVec S256x256 1) (k2 v2 qs : FVec Ideal S256x64 .f32) (sink : FVec Ideal S1x256 .f32)
    (z : Vec Ideal S1x128x128 .f32) (r l : Fin 128) :
    chain keep k2 v2 qs sink z (ix3 0 r l)
      = attend (fun k => Scalar.select (keep (ix2 k ⟨l.val / 64 * 128 + r.val, by omega⟩))
            (∑ e, k2 (ix2 k e) * (qs (ix2 ⟨l.val / 64 * 128 + r.val, by omega⟩ e) * Ideal.ofBits .f32 0x3E000000#32)) ⊥)
          (fun k => v2 (ix2 k ⟨l.val % 64, by omega⟩)) (sink (ix2 0 ⟨l.val / 64 * 128 + r.val, by omega⟩))
        * (z (ix3 0 r l) * Ideal.div 1 (1 + Ideal.exp (-z (ix3 0 r l)))) := by
  unfold chain
  rw [← mix_eq, ← gate_apply]
  generalize mix v2 _ _ = o
  refine Eq.trans ?_ (congrArg (· * gate z (ix2 r l)) (turn_apply o r l))
  pointwise []

end Cert.Band.Block
end
-- ==== Proof.LastAxis.lean ====
/-
  Reductions of a rank 6 array along its last axis, read at an index: the fold and the sum over that axis.
-/
module

public import Idealize.ShloMosaic.Lib.Pointwise

@[expose] public section

noncomputable section

open Idealize.ShloMosaic

namespace Cert.LastAxis

variable {n0 n1 n2 n3 n4 n5 : Nat}

/-- An index of the source lies over the target index `(a, b, c, d, e)` exactly when it is that index with some last coordinate. -/
theorem fiber (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, ?_⟩
    have hq (x : Fin 5) := congrArg Fin.val (congrFun q x)
    funext x
    apply Fin.ext
    match x with
    | ⟨0, _⟩ => exact (hq 0).symm
    | ⟨1, _⟩ => exact (hq 1).symm
    | ⟨2, _⟩ => exact (hq 2).symm
    | ⟨3, _⟩ => exact (hq 3).symm
    | ⟨4, _⟩ => exact (hq 4).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

/-- The host's maximum along the last axis is the maximum over that axis from the start value. -/
theorem reduce_max (h : (⟨6, ![n0, n1, n2, n3, n4, n5]⟩ : Shape).ReducesTo [5] ⟨5, ![n0, n1, n2, n3, n4]⟩) {u : Shape} (hu : 0 < u.numel)
    (x : FVec Ideal ⟨6, ![n0, n1, n2, n3, n4, n5]⟩ .f32) (init : FVec Ideal u .f32)
    (a : Fin n0) (b : Fin n1) (c : Fin n2) (d : Fin n3) (e : Fin n4) :
    Host.reduce FloatOps.maximumf x init h hu (ix5 a b c d e)
      = (Finset.univ : Finset (Fin n5)).fold max (init (Shape.Idx.first hu) : EReal) (fun k => x (ix6 a b c d e k)) := by
  refine (Host.reduce_eq_fold (f := (max : EReal → EReal → EReal)) x init h hu _).trans ?_
  exact Finset.fold_filter_eq_fold_of_fiber max _ (fun k : Fin n5 => ix6 a b c d e k) (fun _ _ q => congrFun q 5)
    (fiber h a b c d e) _ _

/-- The host's sum along the last axis is the sum over that axis on top of the start value. -/
theorem reduce_add (h : (⟨6, ![n0, n1, n2, n3, n4, n5]⟩ : Shape).ReducesTo [5] ⟨5, ![n0, n1, n2, n3, n4]⟩) {u : Shape} (hu : 0 < u.numel)
    (x : FVec Ideal ⟨6, ![n0, n1, n2, n3, n4, n5]⟩ .f32) (init : FVec Ideal u .f32)
    (a : Fin n0) (b : Fin n1) (c : Fin n2) (d : Fin n3) (e : Fin n4) :
    Host.reduceAdd x init h hu (ix5 a b c d e) = (init (Shape.Idx.first hu) : EReal) + ∑ k : Fin n5, x (ix6 a b c d e k) := by
  show (init (Shape.Idx.first hu) : EReal) + _ = _
  exact congrArg (_ + ·) (Finset.sum_filter_eq_sum_of_fiber _ (fun k : Fin n5 => ix6 a b c d e k) (fun _ _ q => congrFun q 5)
    (fiber h a b c d e) _)

end Cert.LastAxis
end
-- ==== Proof.BandRef.lean ====
/-
  What the banded attention's reference computes: its term cut into steps, each read at an index.
-/
module

public import proofs.«01_k».proof.Proof.Gen.BandRefIdeal.Run
public import Idealize.ShloMosaic.Lib.Pointwise
public import proofs.«01_k».proof.Proof.Softmax
public import proofs.«01_k».proof.Proof.LastAxis

@[expose] public section

set_option maxRecDepth 16384

noncomputable section

open Idealize.ShloMosaic Idealize.ShloMosaic.TcCoe Idealize.SL.Sem
open Cert.BandRefIdeal Cert.BandRefIdeal.Gen Cert.BandRefIdeal.Facts

namespace Cert.Band.Ref

variable {F : FTy → Type} [FloatOps F]

/-- The rows of every block of 128 with the block's predecessor before them (zeros before the first). -/
def band (x : FVec F S4x4096x128 .f32) : FVec F S4x32x256x2x64 .f32 :=
  concatenate S4x32x256x2x64 2 [⟨S4x32x128x2x64, (extractStridedSlice S4x32x128x2x64 ![0, 0, 0, 0, 0] (pad S4x33x128x2x64 ![0, 1, 0, 0, 0] ![0, 0, 0, 0, 0] ![0, 0, 0, 0, 0] (shapeCast S4x32x128x2x64 (shapeCast S4x4096x2x64 x shapeCasts_S4x4096x128_S4x4096x2x64) shapeCasts_S4x4096x2x64_S4x32x128x2x64) (sitofp .f32 (constantI S_ 32 0#32)) pads_S4x32x128x2x64_S4x33x128x2x64_000_100_000_000_000 h_S_) slices_S4x33x128x2x64_S4x32x128x2x64_0_0_0_0_0)⟩, ⟨S4x32x128x2x64, (shapeCast S4x32x128x2x64 (shapeCast S4x4096x2x64 x shapeCasts_S4x4096x128_S4x4096x2x64) shapeCasts_S4x4096x2x64_S4x32x128x2x64)⟩] concatenates_S4x32x128x2x64_S4x32x128x2x64_S4x32x256x2x64_d2

/-- The mask of block, query row and key row. -/
def mask : IVec S32x128x256 1 :=
  andi (broadcastInDim S32x128x256 ![0, 1, 2] bcast_S1x128x256_S32x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S32x128x256 ![0, 1, 2] bcast_S32x1x256_S32x128x256_0_1_2 (ori (broadcastInDim S32x1x256 ![0, 1, 2] bcast_S32x1x1_S32x1x256_0_1_2 (cmpi .sgt (broadcastInDim S32x1x1 ![0] bcast_S32_S32x1x1_0 (iotaInDim S32 32 0)) (broadcastInDim S32x1x1 ![] bcast_S_S32x1x1 (constantI S_ 32 0#32)))) (broadcastInDim S32x1x256 ![0, 1, 2] bcast_S1x1x256_S32x1x256_0_1_2 (broadcastInDim S1x1x256 ![1, 2] bcast_S1x256_S1x1x256_1_2 (cmpi .sge (broadcastInDim S1x256 ![1] bcast_S256_S1x256_1 (iotaInDim S256 32 0)) (broadcastInDim S1x256 ![] bcast_S_S1x256 (constantI S_ 32 128#32)))))))

/-- The masked scores. -/
def score (q : FVec F S4x4096x1024 .f32) (kk : FVec F S4x32x256x2x64 .f32) (msk : IVec S32x128x256 1) : FVec F S4x32x2x8x128x256 .f32 :=
  select (broadcastInDim S4x32x2x8x128x256 ![1, 2, 3, 4, 5] bcast_S32x1x1x128x256_S4x32x2x8x128x256_1_2_3_4_5 (broadcastInDim S32x1x1x128x256 ![0, 3, 4] bcast_S32x128x256_S32x1x1x128x256_0_3_4 msk)) (mulf (transpose S4x32x2x8x128x256 [0, 1, 2, 5, 4, 3] (Host.dotGeneral dot_S4x32x256x2x64_S4x32x128x2x8x64_S4x32x2x256x128x8_4_5_2_24_013_013 none kk (shapeCast S4x32x128x2x8x64 (shapeCast S4x4096x2x8x64 q shapeCasts_S4x4096x1024_S4x4096x2x8x64) shapeCasts_S4x4096x2x8x64_S4x32x128x2x8x64)) transposes_S4x32x2x256x128x8_S4x32x2x8x128x256_0_1_2_5_4_3) (broadcastInDim S4x32x2x8x128x256 ![] bcast_S_S4x32x2x8x128x256 (constant S_ .f32 0x3E000000#32))) (broadcastInDim S4x32x2x8x128x256 ![] bcast_S_S4x32x2x8x128x256 (id (constant S_ .f32 0xFF800000#32)))

/-- The scores with the sink logit behind them. -/
def withSink (s : FVec F S4x32x2x8x128x256 .f32) (sinks : FVec F S16 .f32) : FVec F S4x32x2x8x128x257 .f32 :=
  concatenate S4x32x2x8x128x257 5 [⟨S4x32x2x8x128x256, s⟩, ⟨S4x32x2x8x128x1, (broadcastInDim S4x32x2x8x128x1 ![2, 3, 4, 5] bcast_S2x8x1x1_S4x32x2x8x128x1_2_3_4_5 (shapeCast S2x8x1x1 sinks shapeCasts_S16_S2x8x1x1))⟩] concatenates_S4x32x2x8x128x256_S4x32x2x8x128x1_S4x32x2x8x128x257_d5

/-- The exponentials of the logits less the given maxima. -/
def less (l : FVec F S4x32x2x8x128x257 .f32) (mx : FVec F S4x32x2x8x128 .f32) : FVec F S4x32x2x8x128x257 .f32 :=
  Host.exp (subf l (broadcastInDim S4x32x2x8x128x257 ![0, 1, 2, 3, 4, 5] bcast_S4x32x2x8x128x1_S4x32x2x8x128x257_0_1_2_3_4_5 (broadcastInDim S4x32x2x8x128x1 ![0, 1, 2, 3, 4] bcast_S4x32x2x8x128_S4x32x2x8x128x1_0_1_2_3_4 (maximumf (broadcastInDim S4x32x2x8x128 ![] bcast_S_S4x32x2x8x128 (constant S_ .f32 0xFF800000#32)) mx))))

/-- The maxima of the logits along the keys. -/
def tops (l : FVec F S4x32x2x8x128x257 .f32) : FVec F S4x32x2x8x128 .f32 :=
  Host.reduce FloatOps.maximumf l (constant S_ .f32 0xFF800000#32) reducesTo_S4x32x2x8x128x257_S4x32x2x8x128_d5 h_S_

/-- The exponentials of the logits less their maximum. -/
def weight (l : FVec F S4x32x2x8x128x257 .f32) : FVec F S4x32x2x8x128x257 .f32 := less l (tops l)

/-- The sums of the weights along the keys. -/
def sums (w : FVec F S4x32x2x8x128x257 .f32) : FVec F S4x32x2x8x128 .f32 :=
  Host.reduceAdd w (constant S_ .f32 0x00000000#32) reducesTo_S4x32x2x8x128x257_S4x32x2x8x128_d5 h_S_

/-- The weights divided by the given sums, without the sink's own weight. -/
def over (w : FVec F S4x32x2x8x128x257 .f32) (sm : FVec F S4x32x2x8x128 .f32) : FVec F S4x32x2x8x128x256 .f32 :=
  extractStridedSlice S4x32x2x8x128x256 ![0, 0, 0, 0, 0, 0] (Host.divf w (broadcastInDim S4x32x2x8x128x257 ![0, 1, 2, 3, 4, 5] bcast_S4x32x2x8x128x1_S4x32x2x8x128x257_0_1_2_3_4_5 (broadcastInDim S4x32x2x8x128x1 ![0, 1, 2, 3, 4] bcast_S4x32x2x8x128_S4x32x2x8x128x1_0_1_2_3_4 sm))) slices_S4x32x2x8x128x257_S4x32x2x8x128x256_0_0_0_0_0_0

/-- The softmax without the sink's own weight. -/
def prob (w : FVec F S4x32x2x8x128x257 .f32) : FVec F S4x32x2x8x128x256 .f32 := over w (sums w)

/-- The weighted sums of the values, gated. -/
def out (vv : FVec F S4x32x256x2x64 .f32) (p : FVec F S4x32x2x8x128x256 .f32) (z : FVec F S4x4096x1024 .f32) : FVec F S4x4096x1024 .bf16 :=
  truncf .bf16 (mulf (shapeCast S4x4096x1024 (transpose S4x32x128x2x8x64 [0, 1, 5, 2, 4, 3] (Host.dotGeneral dot_S4x32x256x2x64_S4x32x2x8x128x256_S4x32x2x64x8x128_2_5_4_34_013_012 none vv p) transposes_S4x32x2x64x8x128_S4x32x128x2x8x64_0_1_5_2_4_3) shapeCasts_S4x32x128x2x8x64_S4x4096x1024) (mulf z (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf z)))))) bitsLt_bf16_f32

/-- The reference's result, from the four arrays and the sinks. -/
def res (q : FVec F S4x4096x1024 .f32) (k v : FVec F S4x4096x128 .f32) (z : FVec F S4x4096x1024 .f32) (sinks : FVec F S16 .f32) :
    FVec F S4x4096x1024 .bf16 :=
  out (band v) (prob (weight (withSink (score q (band k) mask) sinks))) z

/-- The generated run's term is `res` of the arguments. -/
theorem res_eq (m : (ℓ : Loc nD τ sig) → Buf (Elt F) ℓ) (c : Dev nD) :
    Cert.BandRefIdeal.Value.res_main_v66 m c = res (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## Each step read at an index, over the extended reals -/

/-- A banded row is a row of the previous block (zero before the first), or one of the block itself. -/
theorem band_apply (x : FVec Ideal S4x4096x128 .f32) (b : Fin 4) (n : Fin 32) (k : Fin 256) (h : Fin 2) (e : Fin 64) :
    band x (ix5 b n k h e) = if h1 : k.val < 128
      then (if h2 : 1 ≤ n.val then x (ix3 b ⟨(n.val - 1) * 128 + k.val, by omega⟩ ⟨h.val * 64 + e.val, by omega⟩) else 0)
      else x (ix3 b ⟨n.val * 128 + (k.val - 128), by omega⟩ ⟨h.val * 64 + e.val, by omega⟩) := by
  pointwise [band]
  split
  · rename_i h1
    have e0 : (FloatOps.sitofp .f32 (0#32 : BitVec 32) : Ideal .f32) = (0 : EReal) := by
      show (((0#32 : BitVec 32).toInt : ℝ) : EReal) = 0
      simp
    split
    · rename_i h3
      split
      · rfl
      · exact absurd h3.1.1 ‹_›
    · rename_i h3
      split
      · rename_i h2
        exact absurd ⟨⟨h2, by omega⟩, h1⟩ h3
      · exact e0
  · rfl

/-- Whether a key row is read by a query row: at most 128 rows back, not ahead, and not before the first block. -/
def keep (n : Fin 32) (r : Fin 128) (k : Fin 256) : BitVec 1 :=
  IntOp.andi (IntOp.andi
    (IntOp.cmpi .sge (IntOp.subi (IntOp.addi (BitVec.ofNat 32 r.val) 128#32) (BitVec.ofNat 32 k.val)) 0#32)
    (IntOp.cmpi .sle (IntOp.subi (IntOp.addi (BitVec.ofNat 32 r.val) 128#32) (BitVec.ofNat 32 k.val)) 128#32))
    (IntOp.ori (IntOp.cmpi .sgt (BitVec.ofNat 32 n.val) 0#32) (IntOp.cmpi .sge (BitVec.ofNat 32 k.val) 128#32))

theorem mask_apply (n : Fin 32) (r : Fin 128) (k : Fin 256) : mask (ix3 n r k) = keep n r k := by
  pointwise [mask, keep]

theorem score_apply (q : FVec Ideal S4x4096x1024 .f32) (kk : FVec Ideal S4x32x256x2x64 .f32) (msk : IVec S32x128x256 1)
    (b : Fin 4) (n : Fin 32) (h : Fin 2) (g : Fin 8) (r : Fin 128) (k : Fin 256) :
    score q kk msk (ix6 b n h g r k) = Scalar.select (msk (ix3 n r k))
      ((∑ e : Fin 64, kk (ix5 b n k h e) * q (ix3 b ⟨n.val * 128 + r.val, by omega⟩ ⟨h.val * 512 + g.val * 64 + e.val, by omega⟩))
        * Ideal.ofBits .f32 0x3E000000#32) ⊥ := by
  pointwise [score]
  have e : (id (constant S_ .f32 0xFF800000#32 : FVec Ideal S_ .f32) ix0 : EReal) = ⊥ := by
    show Ideal.ofBits .f32 0xFF800000#32 = ⊥
    simp [Ideal.ofBits, Ideal.ieee]
  rw [e]

theorem withSink_apply (s : FVec Ideal S4x32x2x8x128x256 .f32) (sinks : FVec Ideal S16 .f32)
    (b : Fin 4) (n : Fin 32) (h : Fin 2) (g : Fin 8) (r : Fin 128) (k : Fin 257) :
    withSink s sinks (ix6 b n h g r k) = if hk : k.val < 256 then s (ix6 b n h g r ⟨k.val, hk⟩)
      else sinks (ix1 ⟨h.val * 8 + g.val, by omega⟩) := by
  pointwise [withSink]

theorem less_apply (l : FVec Ideal S4x32x2x8x128x257 .f32) (mx : FVec Ideal S4x32x2x8x128 .f32)
    (b : Fin 4) (n : Fin 32) (h : Fin 2) (g : Fin 8) (r : Fin 128) (k : Fin 257) :
    less l mx (ix6 b n h g r k) = Ideal.exp (l (ix6 b n h g r k) - mx (ix5 b n h g r)) := by
  pointwise [less]
  rw [show Ideal.ofBits .f32 0xFF800000#32 = ⊥ from by simp [Ideal.ofBits, Ideal.ieee]]
  simp

theorem weight_apply (l : FVec Ideal S4x32x2x8x128x257 .f32)
    (b : Fin 4) (n : Fin 32) (h : Fin 2) (g : Fin 8) (r : Fin 128) (k : Fin 257) :
    weight l (ix6 b n h g r k) = Ideal.exp (l (ix6 b n h g r k)
      - (Finset.univ : Finset (Fin 257)).fold max ⊥ fun k' => l (ix6 b n h g r k')) := by
  have e : tops l (ix5 b n h g r) = (Finset.univ : Finset (Fin 257)).fold max ⊥ fun k' => l (ix6 b n h g r k') := by
    refine (Cert.LastAxis.reduce_max _ _ _ _ _ _ _ _ _).trans ?_
    show Finset.fold max (Ideal.ofBits .f32 0xFF800000#32) _ _ = _
    rw [show Ideal.ofBits .f32 0xFF800000#32 = ⊥ from by simp [Ideal.ofBits, Ideal.ieee]]
  rw [weight, less_apply, e]

theorem over_apply (w : FVec Ideal S4x32x2x8x128x257 .f32) (sm : FVec Ideal S4x32x2x8x128 .f32)
    (b : Fin 4) (n : Fin 32) (h : Fin 2) (g : Fin 8) (r : Fin 128) (k : Fin 256) :
    over w sm (ix6 b n h g r k) = Ideal.div (w (ix6 b n h g r ⟨k.val, by omega⟩)) (sm (ix5 b n h g r)) := by
  pointwise [over]

theorem prob_apply (w : FVec Ideal S4x32x2x8x128x257 .f32)
    (b : Fin 4) (n : Fin 32) (h : Fin 2) (g : Fin 8) (r : Fin 128) (k : Fin 256) :
    prob w (ix6 b n h g r k) = Ideal.div (w (ix6 b n h g r ⟨k.val, by omega⟩)) (∑ k' : Fin 257, w (ix6 b n h g r k')) := by
  have e : sums w (ix5 b n h g r) = ∑ k' : Fin 257, w (ix6 b n h g r k') := by
    refine (Cert.LastAxis.reduce_add _ _ _ _ _ _ _ _ _).trans ?_
    show Ideal.ofBits .f32 0x00000000#32 + _ = _
    rw [show Ideal.ofBits .f32 0x00000000#32 = 0 from by simp [Ideal.ofBits, Ideal.ieee], zero_add]
  rw [prob, over_apply, e]

theorem out_apply (vv : FVec Ideal S4x32x256x2x64 .f32) (p : FVec Ideal S4x32x2x8x128x256 .f32) (z : FVec Ideal S4x4096x1024 .f32)
    (b : Fin 4) (t : Fin 4096) (c : Fin 1024) :
    out vv p z (ix3 b t c) = (∑ k : Fin 256, vv (ix5 b ⟨t.val / 128, by omega⟩ k ⟨c.val / 512, by omega⟩ ⟨c.val % 64, by omega⟩)
        * p (ix6 b ⟨t.val / 128, by omega⟩ ⟨c.val / 512, by omega⟩ ⟨c.val / 64 % 8, by omega⟩ ⟨t.val % 128, by omega⟩ k))
      * (z (ix3 b t c) * Ideal.div 1 (1 + Ideal.exp (-z (ix3 b t c)))) := by
  pointwise [out]

end Cert.Band.Ref
end
-- ==== Proof.BandEq.lean ====
/-
  The banded attention's equation: the reference's result at one row and column is the kernel's form of it, for finite
  queries, keys and sinks.
-/
module

public import proofs.«01_k».proof.Proof.BandBlock
public import proofs.«01_k».proof.Proof.BandRef

@[expose] public section

set_option maxRecDepth 16384

noncomputable section

open Idealize.ShloMosaic Idealize.ShloMosaic.TcCoe Idealize.SL.Sem

namespace Cert.Band

open Cert.Band.Block Cert.Band.Ref

/-- A maximum over 257 entries is the maximum of that over the first 256 and the last one. -/
theorem fold_max_castSucc (f : Fin 257 → EReal) :
    (Finset.univ : Finset (Fin 257)).fold max ⊥ f
      = max ((Finset.univ : Finset (Fin 256)).fold max ⊥ fun k => f k.castSucc) (f (Fin.last 256)) := by
  show (Finset.univ : Finset (Fin 257)).sup f = max ((Finset.univ : Finset (Fin 256)).sup fun k => f k.castSucc) _
  rw [Fin.univ_castSuccEmb, Finset.sup_cons, Finset.sup_map, max_comm]
  rfl

/-- A maximum of entries none of which is `⊤` is not `⊤`. -/
theorem fold_max_ne_top (s : Fin 256 → EReal) (hs : ∀ k, s k ≠ ⊤) : (Finset.univ : Finset (Fin 256)).fold max ⊥ s ≠ ⊤ := by
  refine ne_of_lt ?_
  show Finset.univ.sup s < ⊤
  exact (Finset.sup_lt_iff (by exact bot_lt_top)).2 fun k _ => lt_top_iff_ne_top.2 (hs k)

/-- The exponential is positive away from `⊥`. -/
theorem exp_pos {x : EReal} (h : x ≠ ⊥) : 0 < Ideal.exp x := by
  induction x using EReal.rec with
  | bot => exact absurd rfl h
  | top => exact EReal.zero_lt_top
  | coe r => exact EReal.coe_pos.mpr (Real.exp_pos r)

/-- The softmax with a sink, divided weight by weight, is `attend`; a value is read only where its score is not `⊥`. -/
theorem softmax_eq (l : Fin 257 → EReal) (s v w : Fin 256 → EReal) (snk : EReal)
    (hl : ∀ k : Fin 256, l k.castSucc = s k) (hl' : l (Fin.last 256) = snk)
    (hs : ∀ k, s k ≠ ⊤) (h1 : snk ≠ ⊥) (h2 : snk ≠ ⊤) (hvw : ∀ k, s k = ⊥ ∨ v k = w k) :
    (∑ k : Fin 256, w k * Ideal.div (Ideal.exp (l k.castSucc - (Finset.univ : Finset (Fin 257)).fold max ⊥ l))
        (∑ k' : Fin 257, Ideal.exp (l k' - (Finset.univ : Finset (Fin 257)).fold max ⊥ l)))
      = attend s v snk := by
  have e : (Finset.univ : Finset (Fin 257)).fold max ⊥ l = max (Finset.univ.fold max ⊥ s) snk := by
    rw [fold_max_castSucc, hl', funext hl]
  rw [e, Fin.sum_univ_castSucc (n := 256), hl']
  simp only [hl]
  unfold attend
  have ht := fold_max_ne_top s hs
  generalize (Finset.univ : Finset (Fin 256)).fold max ⊥ s = T at ht
  have hM : max T snk ≠ ⊤ := by
    rcases max_choice T snk with h | h <;> rw [h] <;> assumption
  generalize max T snk = M at hM
  have hpos : 0 < (∑ k : Fin 256, Ideal.exp (s k - M)) + Ideal.exp (snk - M) := by
    refine lt_of_lt_of_le (exp_pos (x := snk - M) ?_) (le_add_of_nonneg_left (Finset.sum_nonneg fun k _ => Cert.Num.exp_nonneg _))
    rw [sub_eq_add_neg, Ne, EReal.add_eq_bot_iff]
    rintro (h | h)
    · exact h1 h
    · exact hM (by simpa using h)
  rw [Cert.Num.sum_div _ _ _ hpos]
  refine Finset.sum_congr rfl fun k _ => ?_
  rcases hvw k with h | h
  · rw [h, EReal.bot_sub]
    rw [show Ideal.exp ⊥ = 0 from rfl, Ideal.div, if_neg hpos.ne', zero_mul, mul_zero, mul_zero]
  · rw [h]

/-- The reference's result at one row and column, over any keys and values that agree with the band's wherever they are
    not before the first block. -/
theorem res_apply (q : FVec Ideal Cert.BandRefIdeal.S4x4096x1024 .f32) (k v : FVec Ideal Cert.BandRefIdeal.S4x4096x128 .f32)
    (z : FVec Ideal Cert.BandRefIdeal.S4x4096x1024 .f32) (sinks : FVec Ideal Cert.BandRefIdeal.S16 .f32)
    (hq : ∀ i, ∃ r : ℝ, q i = r) (hk : ∀ i, ∃ r : ℝ, k i = r) (hsink : ∀ i, ∃ r : ℝ, sinks i = r)
    (b : Fin 4) (n : Fin 32) (r : Fin 128) (h : Fin 2) (g : Fin 8) (d : Fin 64)
    (K : Fin 256 → Fin 64 → EReal) (V : Fin 256 → EReal)
    (hK : ∀ (j : Fin 256) e, 0 < n.val ∨ 128 ≤ j.val → K j e = band k (ix5 b n j h e))
    (hV : ∀ j : Fin 256, 0 < n.val ∨ 128 ≤ j.val → V j = band v (ix5 b n j h d)) :
    res q k v z sinks (ix3 b ⟨n.val * 128 + r.val, by omega⟩ ⟨h.val * 512 + g.val * 64 + d.val, by omega⟩)
      = attend (fun j => Scalar.select (keep n r j)
          (∑ e : Fin 64, K j e * (q (ix3 b ⟨n.val * 128 + r.val, by omega⟩ ⟨h.val * 512 + g.val * 64 + e.val, by omega⟩)
            * Ideal.ofBits .f32 0x3E000000#32)) ⊥) V (sinks (ix1 ⟨h.val * 8 + g.val, by omega⟩))
        * (z (ix3 b ⟨n.val * 128 + r.val, by omega⟩ ⟨h.val * 512 + g.val * 64 + d.val, by omega⟩)
          * Ideal.div 1 (1 + Ideal.exp (-z (ix3 b ⟨n.val * 128 + r.val, by omega⟩ ⟨h.val * 512 + g.val * 64 + d.val, by omega⟩)))) := by
  have hc : Ideal.ofBits .f32 0x3E000000#32 = ((1 / 8 : ℝ) : EReal) := by
    simp [Ideal.ofBits, Ideal.ieee]; rw [← EReal.coe_mul]; norm_num
  unfold res
  rw [out_apply]
  have e1 : (⟨(n.val * 128 + r.val) / 128, by omega⟩ : Fin 32) = n := Fin.ext (by dsimp only; omega)
  have e2 : (⟨(n.val * 128 + r.val) % 128, by omega⟩ : Fin 128) = r := Fin.ext (by dsimp only; omega)
  have e3 : (⟨(h.val * 512 + g.val * 64 + d.val) / 512, by omega⟩ : Fin 2) = h := Fin.ext (by dsimp only; omega)
  have e4 : (⟨(h.val * 512 + g.val * 64 + d.val) % 64, by omega⟩ : Fin 64) = d := Fin.ext (by dsimp only; omega)
  have e5 : (⟨(h.val * 512 + g.val * 64 + d.val) / 64 % 8, by omega⟩ : Fin 8) = g := Fin.ext (by dsimp only; omega)
  dsimp only
  rw [e1, e2, e3, e4, e5]
  refine congrArg (· * _) ?_
  -- the masked scores, in the kernel's spelling
  have hmasked (j : Fin 256) : keep n r j = 0#1 ∨ (0 < n.val ∨ 128 ≤ j.val) := by
    by_cases hh : 0 < n.val ∨ 128 ≤ j.val
    · exact .inr hh
    · refine .inl ?_
      have hn : n = 0 := Fin.ext (by have := not_or.1 hh; simp; omega)
      subst hn
      have hj : j.val < 128 := by omega
      unfold keep
      have : IntOp.cmpi .sge (BitVec.ofNat 32 j.val) 128#32 = 0#1 := by
        have : ∀ j : Fin 128, IntOp.cmpi .sge (BitVec.ofNat 32 j.val) 128#32 = 0#1 := by decide +kernel
        exact this ⟨j.val, hj⟩
      rw [this]
      have h0 : IntOp.cmpi .sgt (BitVec.ofNat 32 (0 : Fin 32).val) 0#32 = 0#1 := by decide
      rw [h0]
      generalize IntOp.andi (IntOp.cmpi .sge _ _) _ = x
      revert x; decide
  have hband (j : Fin 256) (e : Fin 64) : ∃ x : ℝ, band k (ix5 b n j h e) = x := by
    rw [band_apply]
    split
    · split
      · exact hk _
      · exact ⟨0, rfl⟩
    · exact hk _
  have hscore (j : Fin 256) : score q (band k) mask (ix6 b n h g r j)
      = Scalar.select (keep n r j)
          (∑ e : Fin 64, K j e * (q (ix3 b ⟨n.val * 128 + r.val, by omega⟩ ⟨h.val * 512 + g.val * 64 + e.val, by omega⟩)
            * Ideal.ofBits .f32 0x3E000000#32)) ⊥ := by
    rw [score_apply, mask_apply]
    rcases hmasked j with h0 | h0
    · rw [h0]; rfl
    · rw [← Cert.Num.sum_mul_real _ _ (by rw [hc]; exact EReal.coe_nonneg.mpr (by norm_num)) (by rw [hc]; exact EReal.coe_ne_top _)]
      refine congrArg (fun x => Scalar.select (keep n r j) x ⊥) (Finset.sum_congr rfl fun e _ => ?_)
      rw [hK j e h0, mul_assoc]
  have hfin (j : Fin 256) : score q (band k) mask (ix6 b n h g r j) ≠ ⊤ := by
    rw [score_apply]
    have : ∃ x : ℝ, (∑ e : Fin 64, band k (ix5 b n j h e)
        * q (ix3 b ⟨n.val * 128 + r.val, by omega⟩ ⟨h.val * 512 + g.val * 64 + e.val, by omega⟩)) = (x : EReal) := by
      refine Cert.Num.sum_exists_real _ _ fun e => ?_
      obtain ⟨x, hx⟩ := hband j e
      obtain ⟨y, hy⟩ := hq (ix3 b ⟨n.val * 128 + r.val, by omega⟩ ⟨h.val * 512 + g.val * 64 + e.val, by omega⟩)
      exact ⟨x * y, by rw [hx, hy, EReal.coe_mul]⟩
    obtain ⟨x, hx⟩ := this
    rw [hx, hc, ← EReal.coe_mul]
    unfold Scalar.select
    split
    · exact EReal.coe_ne_top _
    · exact bot_ne_top
  obtain ⟨x, hx⟩ := hsink (ix1 ⟨h.val * 8 + g.val, by omega⟩)
  simp only [← hscore]
  rw [← softmax_eq (fun j => withSink (score q (band k) mask) sinks (ix6 b n h g r j)) _ V (fun j => band v (ix5 b n j h d)) _
    (fun j => ?_) ?_ hfin (by rw [hx]; exact EReal.coe_ne_bot _) (by rw [hx]; exact EReal.coe_ne_top _) (fun j => ?_)]
  · refine Finset.sum_congr rfl fun j _ => ?_
    rw [prob_apply]
    simp only [weight_apply]
    rfl
  · rw [withSink_apply, dif_neg (by decide)]
  · rw [withSink_apply, dif_pos (by exact j.isLt)]
    rfl
  · rcases hmasked j with h0 | h0
    · refine .inl ?_
      rw [score_apply, mask_apply, h0]; rfl
    · exact .inr (hV j h0)

end Cert.Band
end
-- ==== Proof.BandPoint.lean ====
/-
  One block of the banded attention kernel against the reference: at a grid point the eight chains together are the
  reference's rows of that block.
-/
module

public import proofs.«01_k».proof.Proof.BandEq

@[expose] public section

set_option maxRecDepth 16384

noncomputable section

open Idealize.ShloMosaic Idealize.ShloMosaic.TcCoe Idealize.SL.Sem
open Cert.BandIdeal Cert.BandIdeal.Gen Cert.BandIdeal.Facts

namespace Cert.Band

open Cert.Band.Block

/-- The kernel's mask over key row `k` and column `j` is the reference's at query row `j % 128` of the block. -/
theorem keep_eq (i : grid0.Coords) (n : Fin 32) (hn : (i 1).val = n.val) (k j : Fin 256) :
    k0_pay2 i (ix2 k j) = Ref.keep n ⟨j.val % 128, by omega⟩ k := by
  have e : IntOp.andi (BitVec.ofNat 32 j.val) 127#32 = BitVec.ofNat 32 (j.val % 128) := by
    have : ∀ j : Fin 256, IntOp.andi (BitVec.ofNat 32 j.val) 127#32 = BitVec.ofNat 32 (j.val % 128) := by decide +kernel
    exact this j
  pointwise [k0_pay2, Ref.keep]
  rw [e, hn]
  rfl

/-- Row `r` of block `n`. -/
abbrev row (n : Fin 32) (r : Fin 128) : Fin 4096 := ⟨n.val * 128 + r.val, by omega⟩

/-- Row `r` of the block before block `n`. -/
abbrev rowBefore (n : Fin 32) (r : Fin 128) : Fin 4096 := ⟨(n.val - 1) * 128 + r.val, by omega⟩

/-- A load of 64 columns from column `o` on. -/
theorem ld_cols {C : Nat} (x : Vec Ideal ⟨3, ![1, 128, C]⟩ .f32) (o w : Nat) (inb) (r : Fin 128) (e : Fin w) (i : Fin C)
    (hi : i.val = o + e.val) :
    View.ld x (Rect.unit (s := ⟨3, ![1, 128, C]⟩) ![0, 0, o] (⟨3, ![1, 128, w]⟩ : Shape).size inb) (ix3 0 r e) = x (ix3 0 r i) := by
  refine View.ld_unit_apply_of _ _ _ inb _ _ fun a => ?_
  match a with
  | ⟨0, _⟩ => rfl
  | ⟨1, _⟩ => exact (Nat.zero_add _).symm
  | ⟨2, _⟩ => exact hi

/-- A load of one entry of the sinks' row. -/
theorem ld_one (x : Vec Ideal S1x16 .f32) (o : Nat) (inb) (i : Fin 16) (hi : i.val = o) :
    View.ld x (Rect.unit (s := S1x16) ![0, o] S1x1.size inb) (ix2 0 0) = x (ix2 0 i) := by
  refine View.ld_unit_apply_of _ _ _ inb _ _ fun a => ?_
  match a with
  | ⟨0, _⟩ => rfl
  | ⟨1, _⟩ => exact hi

/-- The two stacked blocks of keys or values are the band's rows wherever they are not before the first block. -/
theorem stack_band (b : Fin 4) (n : Fin 32) (y : FVec Ideal S4x4096x128 .f32) (cur prev : Vec Ideal S1x128x128 .f32)
    (hc : ∀ r l, cur (ix3 0 r l) = y (ix3 b ⟨n.val * 128 + r.val, by omega⟩ l))
    (hp : 1 ≤ n.val → ∀ r l, prev (ix3 0 r l) = y (ix3 b ⟨(n.val - 1) * 128 + r.val, by omega⟩ l))
    (o : Nat) (inb) (h : Fin 2) (ho : o = h.val * 64) (j : Fin 256) (e : Fin 64) (hj : 0 < n.val ∨ 128 ≤ j.val) :
    stack (View.ld prev (Rect.unit (s := S1x128x128) ![0, 0, o] S1x128x64.size inb))
        (View.ld cur (Rect.unit (s := S1x128x128) ![0, 0, o] S1x128x64.size inb)) (ix2 j e)
      = Ref.band y (ix5 b n j h e) := by
  rw [stack_apply, Ref.band_apply]
  split
  · rename_i hlt
    have hn1 : 1 ≤ n.val := by omega
    split
    · refine (ld_cols prev o 64 inb ⟨j.val, hlt⟩ e ⟨h.val * 64 + e.val, by omega⟩ (by dsimp only; omega)).trans ?_
      exact hp hn1 _ _
    · exact absurd hn1 ‹_›
  · refine (ld_cols cur o 64 inb ⟨j.val - 128, by omega⟩ e ⟨h.val * 64 + e.val, by omega⟩ (by dsimp only; omega)).trans ?_
    exact hc _ _

/-- A stored piece that is, at its own rows and columns, 128 columns of an array of 1024, is the array where the piece lies. -/
theorem piece_ext (G : S1x128x1024.Idx → Elt Ideal .bf16) (P : Vec Ideal S1x128x128 .bf16) (o : Nat) (inb)
    (hP : ∀ (r l : Fin 128) (c : Fin 1024), c.val = o + l.val → P (ix3 0 r l) = G (ix3 0 r c))
    (x : (Rect.unit (s := S1x128x1024) ![0, 0, o] S1x128x128.size inb).shape.Idx) :
    P x = G ((Rect.unit (s := S1x128x1024) ![0, 0, o] S1x128x128.size inb).emb x) := by
  have e0 : (Rect.unit (s := S1x128x1024) ![0, 0, o] S1x128x128.size inb).emb x = ix3 0 (x 1) ((Rect.unit (s := S1x128x1024) ![0, 0, o] S1x128x128.size inb).emb x 2) := by
    funext a
    match a with
    | ⟨0, _⟩ => exact Subsingleton.elim (α := Fin 1) _ _
    | ⟨1, _⟩ => exact Fin.ext ((Rect.idx_unit_val _ _ inb x 1).trans (Nat.zero_add _))
    | ⟨2, _⟩ => rfl
  have e1 : x = (ix3 0 (x 1) (x 2) : S1x128x128.Idx) := by
    funext a
    match a with
    | ⟨0, _⟩ => exact Subsingleton.elim (α := Fin 1) _ _
    | ⟨1, _⟩ => rfl
    | ⟨2, _⟩ => rfl
  rw [e0]
  exact (congrArg P e1).trans (hP (x 1) (x 2) _ (Rect.idx_unit_val _ _ inb x 2))

section

variable (q : FVec Ideal S4x4096x1024 .f32) (k v : FVec Ideal S4x4096x128 .f32) (z : FVec Ideal S4x4096x1024 .f32) (sinks : FVec Ideal S16 .f32)
  (hq : ∀ i, ∃ r : ℝ, q i = r) (hk : ∀ i, ∃ r : ℝ, k i = r) (hsink : ∀ i, ∃ r : ℝ, sinks i = r)
  (i : grid0.Coords) (b : Fin 4) (n : Fin 32) (hn : (i 1).val = n.val)
  (x0 : Vec Ideal S1x128x1024 .f32) (x1 x2 x3 x4 : Vec Ideal S1x128x128 .f32) (x5 : Vec Ideal S1x128x1024 .f32) (x6 : Vec Ideal S1x16 .f32)
  (h0 : ∀ r l, x0 (ix3 0 r l) = q (ix3 b (row n r) l))
  (h1 : ∀ r l, x1 (ix3 0 r l) = k (ix3 b (row n r) l))
  (h2 : 1 ≤ n.val → ∀ r l, x2 (ix3 0 r l) = k (ix3 b (rowBefore n r) l))
  (h3 : ∀ r l, x3 (ix3 0 r l) = v (ix3 b (row n r) l))
  (h4 : 1 ≤ n.val → ∀ r l, x4 (ix3 0 r l) = v (ix3 b (rowBefore n r) l))
  (h5 : ∀ r l, x5 (ix3 0 r l) = z (ix3 b (row n r) l))
  (h6 : ∀ a, x6 (ix2 0 a) = sinks (ix1 a))

include hq hk hsink hn h0 h1 h2 h3 h4 h5 h6 in
/-- One chain, of head pair `p`, is the reference's 128 columns of that pair. -/
theorem chain_res (p : Fin 8) (ok oa ob oz sa sb : Nat) (i1 i2 i3 i4 i5 i6) (hok : ok = p.val / 4 * 64) (hoa : oa = p.val * 128)
    (hob : ob = p.val * 128 + 64) (hoz : oz = p.val * 128) (hsa : sa = p.val * 2) (hsb : sb = p.val * 2 + 1) (r l : Fin 128) :
    chain (k0_pay2 i)
        (stack (View.ld x2 (Rect.unit (s := S1x128x128) ![0, 0, ok] S1x128x64.size i1)) (View.ld x1 (Rect.unit (s := S1x128x128) ![0, 0, ok] S1x128x64.size i1)))
        (stack (View.ld x4 (Rect.unit (s := S1x128x128) ![0, 0, ok] S1x128x64.size i1)) (View.ld x3 (Rect.unit (s := S1x128x128) ![0, 0, ok] S1x128x64.size i1)))
        (stack (View.ld x0 (Rect.unit (s := S1x128x1024) ![0, 0, oa] S1x128x64.size i2)) (View.ld x0 (Rect.unit (s := S1x128x1024) ![0, 0, ob] S1x128x64.size i3)))
        (sinkRow (View.ld x6 (Rect.unit (s := S1x16) ![0, sa] S1x1.size i4)) (View.ld x6 (Rect.unit (s := S1x16) ![0, sb] S1x1.size i5)))
        (View.ld x5 (Rect.unit (s := S1x128x1024) ![0, 0, oz] S1x128x128.size i6)) (ix3 0 r l)
      = Ref.res q k v z sinks (ix3 b ⟨n.val * 128 + r.val, by omega⟩ ⟨p.val * 128 + l.val, by omega⟩) := by
  rw [chain_apply]
  have ec : (⟨p.val * 128 + l.val, by omega⟩ : Fin 1024)
      = ⟨(⟨p.val / 4, by omega⟩ : Fin 2).val * 512 + (⟨p.val % 4 * 2 + l.val / 64, by omega⟩ : Fin 8).val * 64 + (⟨l.val % 64, by omega⟩ : Fin 64).val, by dsimp only; omega⟩ :=
    Fin.ext (by dsimp only; omega)
  have ez : View.ld x5 (Rect.unit (s := S1x128x1024) ![0, 0, oz] S1x128x128.size i6) (ix3 0 r l)
      = z (ix3 b ⟨n.val * 128 + r.val, by omega⟩ ⟨p.val * 128 + l.val, by omega⟩) :=
    (ld_cols x5 oz 128 i6 r l ⟨p.val * 128 + l.val, by omega⟩ (by dsimp only; omega)).trans (h5 _ _)
  have er : (⟨(l.val / 64 * 128 + r.val) % 128, by omega⟩ : Fin 128) = r := Fin.ext (by dsimp only; omega)
  have eq' (e : Fin 64) : stack (View.ld x0 (Rect.unit (s := S1x128x1024) ![0, 0, oa] S1x128x64.size i2)) (View.ld x0 (Rect.unit (s := S1x128x1024) ![0, 0, ob] S1x128x64.size i3))
        (ix2 ⟨l.val / 64 * 128 + r.val, by omega⟩ e)
      = q (ix3 b ⟨n.val * 128 + r.val, by omega⟩ ⟨p.val / 4 * 512 + (p.val % 4 * 2 + l.val / 64) * 64 + e.val, by omega⟩) := by
    rw [stack_apply]
    split
    · rename_i hlt
      have hl : l.val / 64 = 0 := by dsimp only at hlt; omega
      refine (ld_cols x0 oa 64 i2 _ e ⟨p.val / 4 * 512 + (p.val % 4 * 2 + l.val / 64) * 64 + e.val, by omega⟩ (by dsimp only; omega)).trans ?_
      rw [h0]
      exact congrArg q (congrArg₂ (ix3 b) (Fin.ext (by dsimp only; omega)) rfl)
    · rename_i hlt
      have hl : l.val / 64 = 1 := by dsimp only at hlt; omega
      refine (ld_cols x0 ob 64 i3 _ e ⟨p.val / 4 * 512 + (p.val % 4 * 2 + l.val / 64) * 64 + e.val, by omega⟩ (by dsimp only; omega)).trans ?_
      rw [h0]
      exact congrArg q (congrArg₂ (ix3 b) (Fin.ext (by dsimp only; omega)) rfl)
  have es : sinkRow (View.ld x6 (Rect.unit (s := S1x16) ![0, sa] S1x1.size i4)) (View.ld x6 (Rect.unit (s := S1x16) ![0, sb] S1x1.size i5))
        (ix2 0 ⟨l.val / 64 * 128 + r.val, by omega⟩)
      = sinks (ix1 ⟨p.val / 4 * 8 + (p.val % 4 * 2 + l.val / 64), by omega⟩) := by
    rw [sinkRow_apply]
    split
    · rename_i hlt
      have hl : l.val / 64 = 0 := by dsimp only at hlt; omega
      exact (ld_one x6 sa i4 ⟨p.val / 4 * 8 + (p.val % 4 * 2 + l.val / 64), by omega⟩ (by dsimp only; omega)).trans (h6 _)
    · rename_i hlt
      have hl : l.val / 64 = 1 := by dsimp only at hlt; omega
      exact (ld_one x6 sb i5 ⟨p.val / 4 * 8 + (p.val % 4 * 2 + l.val / 64), by omega⟩ (by dsimp only; omega)).trans (h6 _)
  rw [ez, ec, es]
  simp only [keep_eq i n hn, er, eq']
  exact (res_apply q k v z sinks hq hk hsink b n r ⟨p.val / 4, by omega⟩ ⟨p.val % 4 * 2 + l.val / 64, by omega⟩ ⟨l.val % 64, by omega⟩
    (fun j e => stack (View.ld x2 (Rect.unit (s := S1x128x128) ![0, 0, ok] S1x128x64.size i1)) (View.ld x1 (Rect.unit (s := S1x128x128) ![0, 0, ok] S1x128x64.size i1)) (ix2 j e))
    (fun j => stack (View.ld x4 (Rect.unit (s := S1x128x128) ![0, 0, ok] S1x128x64.size i1)) (View.ld x3 (Rect.unit (s := S1x128x128) ![0, 0, ok] S1x128x64.size i1)) (ix2 j ⟨l.val % 64, by omega⟩))
    (fun j e hj => stack_band b n k x1 x2 h1 h2 ok i1 ⟨p.val / 4, by omega⟩ hok j e hj)
    (fun j hj => stack_band b n v x3 x4 h3 h4 ok i1 ⟨p.val / 4, by omega⟩ hok j ⟨l.val % 64, by omega⟩ hj)).symm

include hq hk hsink hn h0 h1 h2 h3 h4 h5 h6 in
/-- The body's block is the reference's rows of that block. -/
theorem out_res (y : S1x128x1024.Idx) : out0_7 i x0 x1 x2 x3 x4 x5 x6 y
    = Ref.res q k v z sinks (ix3 b ⟨n.val * 128 + (y 1).val, by have := (y 1).isLt; simp at this; omega⟩ (y 2)) := by
  rw [out_eq]
  refine View.canon_apply_of_pieces (Val := Elt Ideal) (e := .bf16) (fun y : S1x128x1024.Idx => Ref.res q k v z sinks
    (ix3 b ⟨n.val * 128 + (y 1).val, by have := (y 1).isLt; simp at this; omega⟩ (y 2))) _ ?_ y (cover0_7 _ _ _ _ _ _ _ _ y)
  have key (p : Fin 8) (ok oa ob oz sa sb : Nat) (i1 i2 i3 i4 i5 i6) (hok : ok = p.val / 4 * 64) (hoa : oa = p.val * 128)
      (hob : ob = p.val * 128 + 64) (hoz : oz = p.val * 128) (hsa : sa = p.val * 2) (hsb : sb = p.val * 2 + 1) :=
    piece_ext (fun y : S1x128x1024.Idx => Ref.res q k v z sinks
        (ix3 b ⟨n.val * 128 + (y 1).val, by have := (y 1).isLt; simp at this; omega⟩ (y 2))) _ oz i6 fun r l c hc =>
      (chain_res q k v z sinks hq hk hsink i b n hn x0 x1 x2 x3 x4 x5 x6 h0 h1 h2 h3 h4 h5 h6 p ok oa ob oz sa sb i1 i2 i3 i4 i5 i6
        hok hoa hob hoz hsa hsb r l).trans
        (congrArg (Ref.res q k v z sinks) (congrArg (ix3 b _) (Fin.ext (by dsimp only [ix3_2]; omega))))
  refine List.forall_mem_cons.2 ⟨key 7 64 896 960 896 14 15 _ _ _ _ _ _ rfl rfl rfl rfl rfl rfl,
    List.forall_mem_cons.2 ⟨key 6 64 768 832 768 12 13 _ _ _ _ _ _ rfl rfl rfl rfl rfl rfl,
    List.forall_mem_cons.2 ⟨key 5 64 640 704 640 10 11 _ _ _ _ _ _ rfl rfl rfl rfl rfl rfl,
    List.forall_mem_cons.2 ⟨key 4 64 512 576 512 8 9 _ _ _ _ _ _ rfl rfl rfl rfl rfl rfl,
    List.forall_mem_cons.2 ⟨key 3 0 384 448 384 6 7 _ _ _ _ _ _ rfl rfl rfl rfl rfl rfl,
    List.forall_mem_cons.2 ⟨key 2 0 256 320 256 4 5 _ _ _ _ _ _ rfl rfl rfl rfl rfl rfl,
    List.forall_mem_cons.2 ⟨key 1 0 128 192 128 2 3 _ _ _ _ _ _ rfl rfl rfl rfl rfl rfl,
    List.forall_mem_cons.2 ⟨key 0 0 0 64 0 0 1 _ _ _ _ _ _ rfl rfl rfl rfl rfl rfl,
    List.forall_mem_nil _⟩⟩⟩⟩⟩⟩⟩⟩

end

end Cert.Band
end
-- ==== Proof.BandValue.lean ====
/-
  The banded attention kernel's result array: every block is the reference's rows, so the array is the reference's.
-/
module

public import proofs.«01_k».proof.Proof.BandPoint

@[expose] public section

set_option maxRecDepth 16384

noncomputable section

open Idealize.ShloMosaic Idealize.ShloMosaic.TcCoe Idealize.SL.Sem Idealize.ShloMosaic.Pipeline
open Cert.BandIdeal Cert.BandIdeal.Gen Cert.BandIdeal.Facts

namespace Cert.Band

/-- Every entry is a real number. -/
def AllReal {s : Shape} (x : FVec Ideal s .f32) : Prop := ∀ i, ∃ r : ℝ, x i = (r : EReal)

variable (m : (ℓ : Loc nD τ sig) → Buf (Elt Ideal) ℓ)

/-- Where each window's block lies at every grid point. -/
theorem idx : ∀ t : Fin cfg0.N,
    win0_0.index t = ![t.val / 32, t.val % 32, 0] ∧ win0_1.index t = ![t.val / 32, t.val % 32, 0]
    ∧ win0_2.index t = ![t.val / 32, t.val % 32 - 1, 0] ∧ win0_3.index t = ![t.val / 32, t.val % 32, 0]
    ∧ win0_4.index t = ![t.val / 32, t.val % 32 - 1, 0] ∧ win0_5.index t = ![t.val / 32, t.val % 32, 0]
    ∧ win0_6.index t = ![0, 0] ∧ win0_7.index t = ![t.val / 32, t.val % 32, 0]
    ∧ (cfg0.grid.coords t 1).val = t.val % 32 :=
  (by decide +kernel : ∀ t : Fin grid0.N, _)

/-- The reference's array, from the arguments in memory. -/
abbrev goal (c : Dev nD) : FVec Ideal S4x4096x1024 .bf16 :=
  Ref.res (m ((c : Thread nD τ).loc main_arg0)) (m ((c : Thread nD τ).loc main_arg1)) (m ((c : Thread nD τ).loc main_arg2))
    (m ((c : Thread nD τ).loc main_arg3)) (m ((c : Thread nD τ).loc main_arg4))

theorem point (c : Dev nD)
    (hq : AllReal (s := S4x4096x1024) (m ((c : Thread nD τ).loc main_arg0)))
    (hk : AllReal (s := S4x4096x128) (m ((c : Thread nD τ).loc main_arg1)))
    (hsink : AllReal (s := S16) (m ((c : Thread nD τ).loc main_arg4)))
    (t : Fin cfg0.N) (y : S1x128x1024.Idx) :
    out0_7 (cfg0.grid.coords t) (iblk m c 0 t) (iblk m c 1 t) (iblk m c 2 t) (iblk m c 3 t) (iblk m c 4 t) (iblk m c 5 t) (iblk m c 6 t) y
      = goal m c (((cfg0.win 7).blk t).view.emb y) := by
  have hN : t.val < 128 := t.isLt
  rw [out_res (m ((c : Thread nD τ).loc main_arg0)) (m ((c : Thread nD τ).loc main_arg1)) (m ((c : Thread nD τ).loc main_arg2))
    (m ((c : Thread nD τ).loc main_arg3)) (m ((c : Thread nD τ).loc main_arg4)) hq hk hsink (cfg0.grid.coords t)
    ⟨t.val / 32, by omega⟩ ⟨t.val % 32, by omega⟩ (idx t).2.2.2.2.2.2.2.2]
  · refine congrArg (goal m c) ?_
    blk_ext [iblk, V, idx t]
  · intro r l
    blk_simp [iblk]
    entry_read
    blk_ext [iblk, V, idx t]
  · intro r l
    blk_simp [iblk]
    entry_read
    blk_ext [iblk, V, idx t]
  · intro h r l
    blk_simp [iblk]
    entry_read
    blk_ext [iblk, V, idx t]
  · intro r l
    blk_simp [iblk]
    entry_read
    blk_ext [iblk, V, idx t]
  · intro h r l
    blk_simp [iblk]
    entry_read
    blk_ext [iblk, V, idx t]
  · intro r l
    blk_simp [iblk]
    entry_read
    blk_ext [iblk, V, idx t]
  · intro a
    blk_simp [iblk]
    entry_read
    pointwise []
    blk_ext [iblk, V, idx t]

theorem final (c : Dev nD)
    (hq : AllReal (s := S4x4096x1024) (m ((c : Thread nD τ).loc main_arg0)))
    (hk : AllReal (s := S4x4096x128) (m ((c : Thread nD τ).loc main_arg1)))
    (hsink : AllReal (s := S16) (m ((c : Thread nD τ).loc main_arg4))) :
    (dats m 0 c).arrAt 7 cfg0.N = goal m c := by
  refine (dats m 0 c).arrAt_eq_of_covers 7 _ (by decide +kernel) fun t _ y => ?_
  blk_simp
  rw [after0_7]
  exact point m c hq hk hsink t y

end Cert.Band
end
-- ==== Proof.BandProof.lean ====
/-
  The banded attention's claims: the precondition read as finite entries, the reference's frame, and the equation of the
  two programs' results.
-/
module

public import proofs.«01_k».proof.Proof.BandValue
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem

namespace Cert.Band

/-- The side conditions of the precondition's function. -/
instance preFacts : Cert.Pre_band_finite.Facts where
  bcast_S_S4x4096x1024 := by decide
  bcast_S_S4x4096x128 := by decide
  bcast_S_S16 := by decide

/-- An extended real whose magnitude is below `⊤` is a real number. -/
theorem real_of_lt {s : Shape} (x : FVec Ideal s .f32) (h : (⟨0, ![]⟩ : Shape).BroadcastsInDim s ![])
    (hx : cmpf .olt (Host.absf x) (broadcastInDim s ![] h (constant (⟨0, ![]⟩ : Shape) .f32 0x7F800000#32 : FVec Ideal _ .f32)) = fun _ => 1#1) :
    AllReal x := by
  intro i
  have h1 := congrFun hx i
  have h2 : Ideal.cmp .olt (max (x i : EReal) (-x i)) (Ideal.ofBits .f32 0x7F800000#32) = 1#1 := h1
  rw [show Ideal.ofBits .f32 0x7F800000#32 = ⊤ from by simp [Ideal.ofBits, Ideal.ieee]] at h2
  have h3 : max (x i : EReal) (-x i) < ⊤ := by
    by_contra hc
    rw [Ideal.cmp] at h2
    simp [hc] at h2
  exact Cert.Num.exists_real (fun hb => by rw [hb] at h3; simp at h3) (fun hb => by rw [hb] at h3; simp at h3)

theorem quiescent_ref : Cert.quiescent_BandRefIdeal (hBandRefIdeal := Cert.BandRefIdeal.Gen.facts) :=
  fun m ρ _ => (θ_run Cert.BandRefIdeal.defs _ _).mono
    (fun r h => ⟨fun c => (h c).2, Idealize.ShloMosaic.sem_eq_zero_of_no_sems (by decide) r.2⟩)
    (Cert.BandRefIdeal.Value.run (F := Ideal) m ρ)

theorem algebraic : Cert.algebraic_BandIdeal_BandRefIdeal_pre_band_finite (hBandIdeal := Cert.BandIdeal.Gen.facts)
    (hBandRefIdeal := Cert.BandRefIdeal.Gen.facts) (hPre_band_finite := preFacts) := by
  intro m ρ m' ρ' hpre hag
  refine ⟨fun c => goal m c, (θ_run _ _ _).mono (fun r h c => ⟨(h c).1.trans (final m c ?_ ?_ ?_), (h c).2⟩)
    (Cert.BandIdeal.Value.run_blocks (F := Ideal) m ρ),
    (θ_run _ _ _).mono (fun r h c => ⟨(h c).1.trans ?_, (h c).2⟩) (Cert.BandRefIdeal.Value.run (F := Ideal) m' ρ')⟩
  · exact real_of_lt _ _ (hpre c).1
  · exact real_of_lt _ _ (hpre c).2.1
  · exact real_of_lt _ _ (hpre c).2.2
  · rw [Ref.res_eq]
    obtain ⟨e0, e1, e2, e3, e4⟩ := hag c
    rw [e0, e1, e2, e3, e4]

end Cert.Band
end
-- ==== Proof.DiffInValue.lean ====
/-
  The differential attention's input projection over the prompt: every block of rows the kernel writes is the reference's
  modulated rows times the weights, so each of its four arrays is the reference's.
-/
module

public import proofs.«01_k».proof.Proof.Gen.DiffInIdeal.Value
public import proofs.«01_k».proof.Proof.Gen.DiffInRefIdeal.Run
public import proofs.«01_k».proof.Defs
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem Idealize.ShloMosaic.Pipeline

namespace Cert.DiffInEq

namespace Ref

open Cert.DiffInRefIdeal Cert.DiffInRefIdeal.Gen Cert.DiffInRefIdeal.Facts

variable (x : FVec Ideal S4x4096x1024 .f32) (mod : FVec Ideal S4x3072 .f32) (w : FVec Ideal S1024x3072 .f32)

/-- The reference's product of the modulated rows with all the weights. -/
def prod : FVec Ideal S4x4096x3072 .f32 :=
  Host.dotGeneral dot_S4x4096x1024_S1024x3072_S4x4096x3072_2_0_01_1_n_n none (addf (mulf x (broadcastInDim S4x4096x1024 ![0, 1, 2] bcast_S4x1x1024_S4x4096x1024_0_1_2 (addf (broadcastInDim S4x1x1024 ![] bcast_S_S4x1x1024 (constant S_ .f32 0x3F800000#32)) (extractStridedSlice S4x1x1024 ![0, 0, 1024] (broadcastInDim S4x1x3072 ![0, 2] bcast_S4x3072_S4x1x3072_0_2 mod) slices_S4x1x3072_S4x1x1024_0_0_1024)))) (broadcastInDim S4x4096x1024 ![0, 1, 2] bcast_S4x1x1024_S4x4096x1024_0_1_2 (extractStridedSlice S4x1x1024 ![0, 0, 0] (broadcastInDim S4x1x3072 ![0, 2] bcast_S4x3072_S4x1x3072_0_2 mod) slices_S4x1x3072_S4x1x1024_0_0_0))) w

/-- One entry of that product: row `i` of the flattened batch and time, column `j` of the weights. -/
def entry (i : Fin 16384) (j : Fin 3072) : Ideal .f32 :=
  ∑ k : Fin 1024, (x (ix3 ⟨i.val / 4096, by omega⟩ ⟨i.val % 4096, by omega⟩ k)
    * (1 + mod (ix2 ⟨i.val / 4096, by omega⟩ ⟨1024 + k.val, by omega⟩)) + mod (ix2 ⟨i.val / 4096, by omega⟩ ⟨k.val, by omega⟩))
    * w (ix2 k j)

/-- The reference's result 0: columns 0 to 1023 of the product, batch and time flattened. -/
def res0 : FVec Ideal S16384x1024 .f32 :=
  shapeCast _ (extractStridedSlice S4x4096x1024 ![0, 0, 0] (prod x mod w) slices_S4x4096x3072_S4x4096x1024_0_0_0) shapeCasts_S4x4096x1024_S16384x1024

theorem res0_apply (i : Fin 16384) (c : Fin 1024) : res0 x mod w (ix2 i c) = entry x mod w i ⟨c.val, by omega⟩ := by
  pointwise [res0, prod, entry]

/-- The reference's result 1: columns 1024 to 1535 of the product, batch and time flattened. -/
def res1 : FVec Ideal S16384x512 .f32 :=
  shapeCast _ (extractStridedSlice S4x4096x512 ![0, 0, 1024] (prod x mod w) slices_S4x4096x3072_S4x4096x512_0_0_1024) shapeCasts_S4x4096x512_S16384x512

theorem res1_apply (i : Fin 16384) (c : Fin 512) : res1 x mod w (ix2 i c) = entry x mod w i ⟨1024 + c.val, by omega⟩ := by
  pointwise [res1, prod, entry]

/-- The reference's result 2: columns 1536 to 2047 of the product, batch and time flattened. -/
def res2 : FVec Ideal S16384x512 .f32 :=
  shapeCast _ (extractStridedSlice S4x4096x512 ![0, 0, 1536] (prod x mod w) slices_S4x4096x3072_S4x4096x512_0_0_1536) shapeCasts_S4x4096x512_S16384x512

theorem res2_apply (i : Fin 16384) (c : Fin 512) : res2 x mod w (ix2 i c) = entry x mod w i ⟨1536 + c.val, by omega⟩ := by
  pointwise [res2, prod, entry]

/-- The reference's result 3: columns 2048 to 3071 of the product, batch and time flattened. -/
def res3 : FVec Ideal S16384x1024 .f32 :=
  shapeCast _ (extractStridedSlice S4x4096x1024 ![0, 0, 2048] (prod x mod w) slices_S4x4096x3072_S4x4096x1024_0_0_2048) shapeCasts_S4x4096x1024_S16384x1024

theorem res3_apply (i : Fin 16384) (c : Fin 1024) : res3 x mod w (ix2 i c) = entry x mod w i ⟨2048 + c.val, by omega⟩ := by
  pointwise [res3, prod, entry]

end Ref

open Cert.DiffInIdeal Cert.DiffInIdeal.Gen Cert.DiffInIdeal.Facts

variable (m : (ℓ : Loc nD τ sig) → Buf (Elt Ideal) ℓ)

/-- Where each window's block lies at every grid point. -/
theorem idx : ∀ t : Fin cfg0.N,
    win0_0.index t = ![t.val, 0] ∧ win0_1.index t = ![0, 0] ∧ win0_2.index t = ![t.val / 8, 0, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The array row that row `r` of grid point `t`'s blocks is. -/
abbrev arow (t : Fin cfg0.N) (r : Fin 512) : Fin 16384 := ⟨t.val * 512 + r.val, by have : t.val < 32 := t.isLt; omega⟩

/-- Every row of grid point `t`'s blocks is of batch `t / 8`. -/
theorem batch_eq (t : Fin cfg0.N) (r : Fin 512) (h h') : (⟨(arow t r).val / 4096, h⟩ : Fin 4) = ⟨t.val / 8, h'⟩ :=
  Fin.ext (by dsimp only; omega)

/-- The block of rows is the rows of the flattened argument. -/
theorem block0 (c : Dev nD) (t : Fin cfg0.N) (r : Fin 512) (k : Fin 1024) :
    iblk m c 0 t (ix2 r k) = m ((c : Thread nD τ).loc main_arg0)
      (ix3 ⟨(arow t r).val / 4096, by omega⟩ ⟨(arow t r).val % 4096, by omega⟩ k) := by
  have hN : t.val < 32 := t.isLt
  blk_simp [iblk]
  entry_read
  pointwise []
  blk_ext [iblk, V, idx t]

/-- The block of weights is all of them. -/
theorem block1 (c : Dev nD) (t : Fin cfg0.N) (k : Fin 1024) (l : Fin 3072) :
    iblk m c 1 t (ix2 k l) = m ((c : Thread nD τ).loc main_arg2) (ix2 k l) := by
  blk_simp [iblk]
  entry_read
  pointwise []
  blk_ext [iblk, V, idx t]

/-- The block of modulation rows is the argument's. -/
theorem block2 (c : Dev nD) (t : Fin cfg0.N) (l : Fin 3072) :
    iblk m c 2 t (ix3 0 0 l) = m ((c : Thread nD τ).loc main_arg1) (ix2 ⟨t.val / 8, by have : t.val < 32 := t.isLt; omega⟩ l) := by
  have hN : t.val < 32 := t.isLt
  blk_simp [iblk]
  entry_read
  pointwise []
  blk_ext [iblk, V, idx t]

/-- The reference's result 0, from the arguments in memory. -/
abbrev goal0 (c : Dev nD) : FVec Ideal S16384x1024 .f32 :=
  Ref.res0 (m ((c : Thread nD τ).loc main_arg0)) (m ((c : Thread nD τ).loc main_arg1)) (m ((c : Thread nD τ).loc main_arg2))

/-- What a grid point stores for it, row by row. -/
theorem row0 (c : Dev nD) (t : Fin cfg0.N) (r : Fin 512) (l : Fin 1024) :
    k0_pay2 (iblk m c 0 t) (View.ld (iblk m c 2 t) r0_1) (View.ld (iblk m c 2 t) r0_2) (View.ld (iblk m c 1 t) r0_3) (ix2 r l)
      = goal0 m c (ix2 (arow t r) l) := by
  rw [goal0, Ref.res0_apply, Ref.entry]
  pointwise [k0_pay2, k0_pay1]
  refine Finset.sum_congr rfl fun k _ => ?_
  rw [block0, block1, block2, block2, batch_eq]

theorem point0 (c : Dev nD) (t : Fin cfg0.N) (y : S512x1024.Idx) :
    k0_pay2 (iblk m c 0 t) (View.ld (iblk m c 2 t) r0_1) (View.ld (iblk m c 2 t) r0_2) (View.ld (iblk m c 1 t) r0_3) y
      = goal0 m c (((cfg0.win 3).blk t).view.emb y) := by
  have e : ((cfg0.win 3).blk t).view.emb y = ix2 (arow t (y 0)) (y 1) := by
    blk_ext [idx t]
  exact (congrArg _ (eq_ix2 y)).trans ((row0 m c t (y 0) (y 1)).trans (congrArg _ e.symm))

/-- The kernel's array 0 is the reference's. -/
theorem final0 (c : Dev nD) : (dats m 0 c).arrAt 3 cfg0.N = goal0 m c := by
  refine (dats m 0 c).arrAt_eq_of_covers 3 _ (by decide +kernel) fun t _ y => ?_
  blk_simp
  rw [after0_3]
  frame_out
  exact point0 m c t y

/-- The reference's result 1, from the arguments in memory. -/
abbrev goal1 (c : Dev nD) : FVec Ideal S16384x512 .f32 :=
  Ref.res1 (m ((c : Thread nD τ).loc main_arg0)) (m ((c : Thread nD τ).loc main_arg1)) (m ((c : Thread nD τ).loc main_arg2))

/-- What a grid point stores for it, row by row. -/
theorem row1 (c : Dev nD) (t : Fin cfg0.N) (r : Fin 512) (l : Fin 512) :
    k0_pay3 (iblk m c 0 t) (View.ld (iblk m c 2 t) r0_1) (View.ld (iblk m c 2 t) r0_2) (View.ld (iblk m c 1 t) r0_4) (ix2 r l)
      = goal1 m c (ix2 (arow t r) l) := by
  rw [goal1, Ref.res1_apply, Ref.entry]
  pointwise [k0_pay3, k0_pay1]
  refine Finset.sum_congr rfl fun k _ => ?_
  rw [block0, block1, block2, block2, batch_eq]

theorem point1 (c : Dev nD) (t : Fin cfg0.N) (y : S512x512.Idx) :
    k0_pay3 (iblk m c 0 t) (View.ld (iblk m c 2 t) r0_1) (View.ld (iblk m c 2 t) r0_2) (View.ld (iblk m c 1 t) r0_4) y
      = goal1 m c (((cfg0.win 4).blk t).view.emb y) := by
  have e : ((cfg0.win 4).blk t).view.emb y = ix2 (arow t (y 0)) (y 1) := by
    blk_ext [idx t]
  exact (congrArg _ (eq_ix2 y)).trans ((row1 m c t (y 0) (y 1)).trans (congrArg _ e.symm))

/-- The kernel's array 1 is the reference's. -/
theorem final1 (c : Dev nD) : (dats m 0 c).arrAt 4 cfg0.N = goal1 m c := by
  refine (dats m 0 c).arrAt_eq_of_covers 4 _ (by decide +kernel) fun t _ y => ?_
  blk_simp
  rw [after0_4]
  frame_out
  exact point1 m c t y

/-- The reference's result 2, from the arguments in memory. -/
abbrev goal2 (c : Dev nD) : FVec Ideal S16384x512 .f32 :=
  Ref.res2 (m ((c : Thread nD τ).loc main_arg0)) (m ((c : Thread nD τ).loc main_arg1)) (m ((c : Thread nD τ).loc main_arg2))

/-- What a grid point stores for it, row by row. -/
theorem row2 (c : Dev nD) (t : Fin cfg0.N) (r : Fin 512) (l : Fin 512) :
    k0_pay4 (iblk m c 0 t) (View.ld (iblk m c 2 t) r0_1) (View.ld (iblk m c 2 t) r0_2) (View.ld (iblk m c 1 t) r0_6) (ix2 r l)
      = goal2 m c (ix2 (arow t r) l) := by
  rw [goal2, Ref.res2_apply, Ref.entry]
  pointwise [k0_pay4, k0_pay1]
  refine Finset.sum_congr rfl fun k _ => ?_
  rw [block0, block1, block2, block2, batch_eq]

theorem point2 (c : Dev nD) (t : Fin cfg0.N) (y : S512x512.Idx) :
    k0_pay4 (iblk m c 0 t) (View.ld (iblk m c 2 t) r0_1) (View.ld (iblk m c 2 t) r0_2) (View.ld (iblk m c 1 t) r0_6) y
      = goal2 m c (((cfg0.win 5).blk t).view.emb y) := by
  have e : ((cfg0.win 5).blk t).view.emb y = ix2 (arow t (y 0)) (y 1) := by
    blk_ext [idx t]
  exact (congrArg _ (eq_ix2 y)).trans ((row2 m c t (y 0) (y 1)).trans (congrArg _ e.symm))

/-- The kernel's array 2 is the reference's. -/
theorem final2 (c : Dev nD) : (dats m 0 c).arrAt 5 cfg0.N = goal2 m c := by
  refine (dats m 0 c).arrAt_eq_of_covers 5 _ (by decide +kernel) fun t _ y => ?_
  blk_simp
  rw [after0_5]
  frame_out
  exact point2 m c t y

/-- The reference's result 3, from the arguments in memory. -/
abbrev goal3 (c : Dev nD) : FVec Ideal S16384x1024 .f32 :=
  Ref.res3 (m ((c : Thread nD τ).loc main_arg0)) (m ((c : Thread nD τ).loc main_arg1)) (m ((c : Thread nD τ).loc main_arg2))

/-- What a grid point stores for it, row by row. -/
theorem row3 (c : Dev nD) (t : Fin cfg0.N) (r : Fin 512) (l : Fin 1024) :
    k0_pay5 (iblk m c 0 t) (View.ld (iblk m c 2 t) r0_1) (View.ld (iblk m c 2 t) r0_2) (View.ld (iblk m c 1 t) r0_7) (ix2 r l)
      = goal3 m c (ix2 (arow t r) l) := by
  rw [goal3, Ref.res3_apply, Ref.entry]
  pointwise [k0_pay5, k0_pay1]
  refine Finset.sum_congr rfl fun k _ => ?_
  rw [block0, block1, block2, block2, batch_eq]

theorem point3 (c : Dev nD) (t : Fin cfg0.N) (y : S512x1024.Idx) :
    k0_pay5 (iblk m c 0 t) (View.ld (iblk m c 2 t) r0_1) (View.ld (iblk m c 2 t) r0_2) (View.ld (iblk m c 1 t) r0_7) y
      = goal3 m c (((cfg0.win 6).blk t).view.emb y) := by
  have e : ((cfg0.win 6).blk t).view.emb y = ix2 (arow t (y 0)) (y 1) := by
    blk_ext [idx t]
  exact (congrArg _ (eq_ix2 y)).trans ((row3 m c t (y 0) (y 1)).trans (congrArg _ e.symm))

/-- The kernel's array 3 is the reference's. -/
theorem final3 (c : Dev nD) : (dats m 0 c).arrAt 6 cfg0.N = goal3 m c := by
  refine (dats m 0 c).arrAt_eq_of_covers 6 _ (by decide +kernel) fun t _ y => ?_
  blk_simp
  rw [after0_6]
  frame_out
  exact point3 m c t y

/-- The reference program ends with its counters at zero and its arguments unchanged. -/
theorem quiescent_ref : Cert.quiescent_DiffInRefIdeal (hDiffInRefIdeal := Cert.DiffInRefIdeal.Gen.facts) :=
  fun m ρ _ => (θ_run Cert.DiffInRefIdeal.defs _ _).mono
    (fun r h => ⟨fun c => (h c).2.2.2.2, Idealize.ShloMosaic.sem_eq_zero_of_no_sems (by decide) r.2⟩)
    (Cert.DiffInRefIdeal.Value.run (F := Ideal) m ρ)

/-- Kernel and reference end with the same four arrays. -/
theorem algebraic : Cert.algebraic_DiffInIdeal_DiffInRefIdeal (hDiffInIdeal := Cert.DiffInIdeal.Gen.facts)
    (hDiffInRefIdeal := Cert.DiffInRefIdeal.Gen.facts) := by
  intro m ρ m' ρ' hpre hag
  refine ⟨fun c => goal0 m c, fun c => goal1 m c, fun c => goal2 m c, fun c => goal3 m c,
    (θ_run _ _ _).mono (fun r h c => ⟨(h c).1.trans (final0 m c), (h c).2.1.trans (final1 m c),
      (h c).2.2.1.trans (final2 m c), (h c).2.2.2.1.trans (final3 m c), (h c).2.2.2.2⟩)
      (Cert.DiffInIdeal.Value.run_blocks (F := Ideal) m ρ),
    (θ_run _ _ _).mono (fun r h c => ?_) (Cert.DiffInRefIdeal.Value.run (F := Ideal) m' ρ')⟩
  obtain ⟨e0, e1, e2⟩ := hag c
  refine ⟨(h c).1.trans ?_, (h c).2.1.trans ?_, (h c).2.2.1.trans ?_, (h c).2.2.2.1.trans ?_, (h c).2.2.2.2⟩ <;>
  · rw [e0, e1, e2]
    rfl

end Cert.DiffInEq

end
-- ==== Proof.DiffInSValue.lean ====
/-
  The differential attention's input projection over the sample: every block of rows the kernel writes is the reference's
  modulated rows times the weights, so each of its four arrays is the reference's.
-/
module

public import proofs.«01_k».proof.Proof.Gen.DiffInSIdeal.Value
public import proofs.«01_k».proof.Proof.Gen.DiffInSRefIdeal.Run
public import proofs.«01_k».proof.Defs
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem Idealize.ShloMosaic.Pipeline

namespace Cert.DiffInSEq

namespace Ref

open Cert.DiffInSRefIdeal Cert.DiffInSRefIdeal.Gen Cert.DiffInSRefIdeal.Facts

variable (x : FVec Ideal S128x1x1024 .f32) (mod : FVec Ideal S128x3072 .f32) (w : FVec Ideal S1024x3072 .f32)

/-- The reference's product of the modulated rows with all the weights. -/
def prod : FVec Ideal S128x1x3072 .f32 :=
  Host.dotGeneral dot_S128x1x1024_S1024x3072_S128x1x3072_2_0_01_1_n_n none (addf (mulf x (addf (broadcastInDim S128x1x1024 ![] bcast_S_S128x1x1024 (constant S_ .f32 0x3F800000#32)) (extractStridedSlice S128x1x1024 ![0, 0, 1024] (broadcastInDim S128x1x3072 ![0, 2] bcast_S128x3072_S128x1x3072_0_2 mod) slices_S128x1x3072_S128x1x1024_0_0_1024))) (extractStridedSlice S128x1x1024 ![0, 0, 0] (broadcastInDim S128x1x3072 ![0, 2] bcast_S128x3072_S128x1x3072_0_2 mod) slices_S128x1x3072_S128x1x1024_0_0_0)) w

/-- One entry of that product: row `i` of the flattened batch and time, column `j` of the weights. -/
def entry (i : Fin 128) (j : Fin 3072) : Ideal .f32 :=
  ∑ k : Fin 1024, (x (ix3 i 0 k)
    * (1 + mod (ix2 i ⟨1024 + k.val, by omega⟩)) + mod (ix2 i ⟨k.val, by omega⟩))
    * w (ix2 k j)

/-- The reference's result 0: columns 0 to 1023 of the product, batch and time flattened. -/
def res0 : FVec Ideal S128x1024 .f32 :=
  shapeCast _ (extractStridedSlice S128x1x1024 ![0, 0, 0] (prod x mod w) slices_S128x1x3072_S128x1x1024_0_0_0) shapeCasts_S128x1x1024_S128x1024

theorem res0_apply (i : Fin 128) (c : Fin 1024) : res0 x mod w (ix2 i c) = entry x mod w i ⟨c.val, by omega⟩ := by
  pointwise [res0, prod, entry]

/-- The reference's result 1: columns 1024 to 1535 of the product, batch and time flattened. -/
def res1 : FVec Ideal S128x512 .f32 :=
  shapeCast _ (extractStridedSlice S128x1x512 ![0, 0, 1024] (prod x mod w) slices_S128x1x3072_S128x1x512_0_0_1024) shapeCasts_S128x1x512_S128x512

theorem res1_apply (i : Fin 128) (c : Fin 512) : res1 x mod w (ix2 i c) = entry x mod w i ⟨1024 + c.val, by omega⟩ := by
  pointwise [res1, prod, entry]

/-- The reference's result 2: columns 1536 to 2047 of the product, batch and time flattened. -/
def res2 : FVec Ideal S128x512 .f32 :=
  shapeCast _ (extractStridedSlice S128x1x512 ![0, 0, 1536] (prod x mod w) slices_S128x1x3072_S128x1x512_0_0_1536) shapeCasts_S128x1x512_S128x512

theorem res2_apply (i : Fin 128) (c : Fin 512) : res2 x mod w (ix2 i c) = entry x mod w i ⟨1536 + c.val, by omega⟩ := by
  pointwise [res2, prod, entry]

/-- The reference's result 3: columns 2048 to 3071 of the product, batch and time flattened. -/
def res3 : FVec Ideal S128x1024 .f32 :=
  shapeCast _ (extractStridedSlice S128x1x1024 ![0, 0, 2048] (prod x mod w) slices_S128x1x3072_S128x1x1024_0_0_2048) shapeCasts_S128x1x1024_S128x1024

theorem res3_apply (i : Fin 128) (c : Fin 1024) : res3 x mod w (ix2 i c) = entry x mod w i ⟨2048 + c.val, by omega⟩ := by
  pointwise [res3, prod, entry]

end Ref

open Cert.DiffInSIdeal Cert.DiffInSIdeal.Gen Cert.DiffInSIdeal.Facts

variable (m : (ℓ : Loc nD τ sig) → Buf (Elt Ideal) ℓ)

/-- Where each window's block lies at every grid point. -/
theorem idx : ∀ t : Fin cfg0.N,
    win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The block of rows is the rows of the flattened argument. -/
theorem block0 (c : Dev nD) (t : Fin cfg0.N) (r : Fin 128) (k : Fin 1024) :
    iblk m c 0 t (ix2 r k) = m ((c : Thread nD τ).loc main_arg0)
      (ix3 r 0 k) := by
  have hN : t.val < 1 := t.isLt
  blk_simp [iblk]
  entry_read
  pointwise []
  blk_ext [iblk, V, idx t]

/-- The block of weights is all of them. -/
theorem block1 (c : Dev nD) (t : Fin cfg0.N) (k : Fin 1024) (l : Fin 3072) :
    iblk m c 1 t (ix2 k l) = m ((c : Thread nD τ).loc main_arg2) (ix2 k l) := by
  blk_simp [iblk]
  entry_read
  pointwise []
  blk_ext [iblk, V, idx t]

/-- The block of modulation rows is the argument's. -/
theorem block2 (c : Dev nD) (t : Fin cfg0.N) (r : Fin 128) (l : Fin 3072) :
    iblk m c 2 t (ix2 r l) = m ((c : Thread nD τ).loc main_arg1) (ix2 r l) := by
  have hN : t.val < 1 := t.isLt
  blk_simp [iblk]
  entry_read
  pointwise []
  blk_ext [iblk, V, idx t]

/-- The reference's result 0, from the arguments in memory. -/
abbrev goal0 (c : Dev nD) : FVec Ideal S128x1024 .f32 :=
  Ref.res0 (m ((c : Thread nD τ).loc main_arg0)) (m ((c : Thread nD τ).loc main_arg1)) (m ((c : Thread nD τ).loc main_arg2))

/-- What a grid point stores for it, row by row. -/
theorem row0 (c : Dev nD) (t : Fin cfg0.N) (r : Fin 128) (l : Fin 1024) :
    k0_pay2 (iblk m c 0 t) (View.ld (iblk m c 2 t) r0_1) (View.ld (iblk m c 2 t) r0_2) (View.ld (iblk m c 1 t) r0_3) (ix2 r l)
      = goal0 m c (ix2 r l) := by
  rw [goal0, Ref.res0_apply, Ref.entry]
  pointwise [k0_pay2, k0_pay1]
  refine Finset.sum_congr rfl fun k _ => ?_
  rw [block0, block1, block2, block2]

theorem point0 (c : Dev nD) (t : Fin cfg0.N) (y : S128x1024.Idx) :
    k0_pay2 (iblk m c 0 t) (View.ld (iblk m c 2 t) r0_1) (View.ld (iblk m c 2 t) r0_2) (View.ld (iblk m c 1 t) r0_3) y
      = goal0 m c (((cfg0.win 3).blk t).view.emb y) := by
  have e : ((cfg0.win 3).blk t).view.emb y = ix2 (y 0) (y 1) := by
    blk_ext [idx t]
  exact (congrArg _ (eq_ix2 y)).trans ((row0 m c t (y 0) (y 1)).trans (congrArg _ e.symm))

/-- The kernel's array 0 is the reference's. -/
theorem final0 (c : Dev nD) : (dats m 0 c).arrAt 3 cfg0.N = goal0 m c := by
  refine (dats m 0 c).arrAt_eq_of_covers 3 _ (by decide +kernel) fun t _ y => ?_
  blk_simp
  rw [after0_3]
  frame_out
  exact point0 m c t y

/-- The reference's result 1, from the arguments in memory. -/
abbrev goal1 (c : Dev nD) : FVec Ideal S128x512 .f32 :=
  Ref.res1 (m ((c : Thread nD τ).loc main_arg0)) (m ((c : Thread nD τ).loc main_arg1)) (m ((c : Thread nD τ).loc main_arg2))

/-- What a grid point stores for it, row by row. -/
theorem row1 (c : Dev nD) (t : Fin cfg0.N) (r : Fin 128) (l : Fin 512) :
    k0_pay3 (iblk m c 0 t) (View.ld (iblk m c 2 t) r0_1) (View.ld (iblk m c 2 t) r0_2) (View.ld (iblk m c 1 t) r0_4) (ix2 r l)
      = goal1 m c (ix2 r l) := by
  rw [goal1, Ref.res1_apply, Ref.entry]
  pointwise [k0_pay3, k0_pay1]
  refine Finset.sum_congr rfl fun k _ => ?_
  rw [block0, block1, block2, block2]

theorem point1 (c : Dev nD) (t : Fin cfg0.N) (y : S128x512.Idx) :
    k0_pay3 (iblk m c 0 t) (View.ld (iblk m c 2 t) r0_1) (View.ld (iblk m c 2 t) r0_2) (View.ld (iblk m c 1 t) r0_4) y
      = goal1 m c (((cfg0.win 4).blk t).view.emb y) := by
  have e : ((cfg0.win 4).blk t).view.emb y = ix2 (y 0) (y 1) := by
    blk_ext [idx t]
  exact (congrArg _ (eq_ix2 y)).trans ((row1 m c t (y 0) (y 1)).trans (congrArg _ e.symm))

/-- The kernel's array 1 is the reference's. -/
theorem final1 (c : Dev nD) : (dats m 0 c).arrAt 4 cfg0.N = goal1 m c := by
  refine (dats m 0 c).arrAt_eq_of_covers 4 _ (by decide +kernel) fun t _ y => ?_
  blk_simp
  rw [after0_4]
  frame_out
  exact point1 m c t y

/-- The reference's result 2, from the arguments in memory. -/
abbrev goal2 (c : Dev nD) : FVec Ideal S128x512 .f32 :=
  Ref.res2 (m ((c : Thread nD τ).loc main_arg0)) (m ((c : Thread nD τ).loc main_arg1)) (m ((c : Thread nD τ).loc main_arg2))

/-- What a grid point stores for it, row by row. -/
theorem row2 (c : Dev nD) (t : Fin cfg0.N) (r : Fin 128) (l : Fin 512) :
    k0_pay4 (iblk m c 0 t) (View.ld (iblk m c 2 t) r0_1) (View.ld (iblk m c 2 t) r0_2) (View.ld (iblk m c 1 t) r0_6) (ix2 r l)
      = goal2 m c (ix2 r l) := by
  rw [goal2, Ref.res2_apply, Ref.entry]
  pointwise [k0_pay4, k0_pay1]
  refine Finset.sum_congr rfl fun k _ => ?_
  rw [block0, block1, block2, block2]

theorem point2 (c : Dev nD) (t : Fin cfg0.N) (y : S128x512.Idx) :
    k0_pay4 (iblk m c 0 t) (View.ld (iblk m c 2 t) r0_1) (View.ld (iblk m c 2 t) r0_2) (View.ld (iblk m c 1 t) r0_6) y
      = goal2 m c (((cfg0.win 5).blk t).view.emb y) := by
  have e : ((cfg0.win 5).blk t).view.emb y = ix2 (y 0) (y 1) := by
    blk_ext [idx t]
  exact (congrArg _ (eq_ix2 y)).trans ((row2 m c t (y 0) (y 1)).trans (congrArg _ e.symm))

/-- The kernel's array 2 is the reference's. -/
theorem final2 (c : Dev nD) : (dats m 0 c).arrAt 5 cfg0.N = goal2 m c := by
  refine (dats m 0 c).arrAt_eq_of_covers 5 _ (by decide +kernel) fun t _ y => ?_
  blk_simp
  rw [after0_5]
  frame_out
  exact point2 m c t y

/-- The reference's result 3, from the arguments in memory. -/
abbrev goal3 (c : Dev nD) : FVec Ideal S128x1024 .f32 :=
  Ref.res3 (m ((c : Thread nD τ).loc main_arg0)) (m ((c : Thread nD τ).loc main_arg1)) (m ((c : Thread nD τ).loc main_arg2))

/-- What a grid point stores for it, row by row. -/
theorem row3 (c : Dev nD) (t : Fin cfg0.N) (r : Fin 128) (l : Fin 1024) :
    k0_pay5 (iblk m c 0 t) (View.ld (iblk m c 2 t) r0_1) (View.ld (iblk m c 2 t) r0_2) (View.ld (iblk m c 1 t) r0_7) (ix2 r l)
      = goal3 m c (ix2 r l) := by
  rw [goal3, Ref.res3_apply, Ref.entry]
  pointwise [k0_pay5, k0_pay1]
  refine Finset.sum_congr rfl fun k _ => ?_
  rw [block0, block1, block2, block2]

theorem point3 (c : Dev nD) (t : Fin cfg0.N) (y : S128x1024.Idx) :
    k0_pay5 (iblk m c 0 t) (View.ld (iblk m c 2 t) r0_1) (View.ld (iblk m c 2 t) r0_2) (View.ld (iblk m c 1 t) r0_7) y
      = goal3 m c (((cfg0.win 6).blk t).view.emb y) := by
  have e : ((cfg0.win 6).blk t).view.emb y = ix2 (y 0) (y 1) := by
    blk_ext [idx t]
  exact (congrArg _ (eq_ix2 y)).trans ((row3 m c t (y 0) (y 1)).trans (congrArg _ e.symm))

/-- The kernel's array 3 is the reference's. -/
theorem final3 (c : Dev nD) : (dats m 0 c).arrAt 6 cfg0.N = goal3 m c := by
  refine (dats m 0 c).arrAt_eq_of_covers 6 _ (by decide +kernel) fun t _ y => ?_
  blk_simp
  rw [after0_6]
  frame_out
  exact point3 m c t y

/-- The reference program ends with its counters at zero and its arguments unchanged. -/
theorem quiescent_ref : Cert.quiescent_DiffInSRefIdeal (hDiffInSRefIdeal := Cert.DiffInSRefIdeal.Gen.facts) :=
  fun m ρ _ => (θ_run Cert.DiffInSRefIdeal.defs _ _).mono
    (fun r h => ⟨fun c => (h c).2.2.2.2, Idealize.ShloMosaic.sem_eq_zero_of_no_sems (by decide) r.2⟩)
    (Cert.DiffInSRefIdeal.Value.run (F := Ideal) m ρ)

/-- Kernel and reference end with the same four arrays. -/
theorem algebraic : Cert.algebraic_DiffInSIdeal_DiffInSRefIdeal (hDiffInSIdeal := Cert.DiffInSIdeal.Gen.facts)
    (hDiffInSRefIdeal := Cert.DiffInSRefIdeal.Gen.facts) := by
  intro m ρ m' ρ' hpre hag
  refine ⟨fun c => goal0 m c, fun c => goal1 m c, fun c => goal2 m c, fun c => goal3 m c,
    (θ_run _ _ _).mono (fun r h c => ⟨(h c).1.trans (final0 m c), (h c).2.1.trans (final1 m c),
      (h c).2.2.1.trans (final2 m c), (h c).2.2.2.1.trans (final3 m c), (h c).2.2.2.2⟩)
      (Cert.DiffInSIdeal.Value.run_blocks (F := Ideal) m ρ),
    (θ_run _ _ _).mono (fun r h c => ?_) (Cert.DiffInSRefIdeal.Value.run (F := Ideal) m' ρ')⟩
  obtain ⟨e0, e1, e2⟩ := hag c
  refine ⟨(h c).1.trans ?_, (h c).2.1.trans ?_, (h c).2.2.1.trans ?_, (h c).2.2.2.1.trans ?_, (h c).2.2.2.2⟩ <;>
  · rw [e0, e1, e2]
    rfl

end Cert.DiffInSEq

end
-- ==== Proof.DnInRun.lean ====
/-
  The delta network's input projection with its convolution: one grid point of the kernel, run store by store.
-/
module

public import proofs.«01_k».proof.Proof.Gen.DnInIdeal.Frame
public import proofs.«01_k».proof.Proof.Gen.DnInIdeal.Skeleton
public import Idealize.ShloMosaic.Lib.Claim

@[expose] public section

set_option maxRecDepth 16384

noncomputable section

namespace Cert.DnInRun

open Cert.DnInIdeal Cert.DnInIdeal.Gen Cert.DnInIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x6272 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x4096 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S8x4096 .f32 := Memref.whole cc0_scratch0

/-- What the lines of the kernel leave unstated between grid points: the carried rows at some contents, and the generator. -/
theorem PhiA_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 7852000 in
/-- The pieces the kernel's stores leave in its four outputs and in the carried rows (the last store first), with the
    proof that from the inputs' blocks, outputs at anything and the carried rows at `xs0`, the kernel runs to its end with the inputs unchanged and those
    pieces written. -/
noncomputable def kernelRun (c : Dev nD) (i : grid0.Coords) (arg1 : Memref sig .tc .vmem S512x1024 .f32) (harg1 : arg1.IsWhole) (arg2 : Memref sig .tc .vmem S1024x6272 .bf16) (harg2 : arg2.IsWhole) (arg3 : Memref sig .tc .vmem S1x1x3072 .f32) (harg3 : arg3.IsWhole) (arg4 : Memref sig .tc .vmem S4x4096 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x4096 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S1x8x4096 .f32) (harg10 : arg10.IsWhole) (arg11 : Memref sig .tc .vmem S8x4096 .f32) (harg11 : arg11.IsWhole)
    (x0 : Vec F S512x1024 .f32) (x1 : Vec F S1024x6272 .bf16) (x2 : Vec F S1x1x3072 .f32) (x3 : Vec F S4x4096 .f32) (x4 : Vec F S1x128 .f32) (x5 : Vec F S1x128 .f32) (xs0 : Vec F S8x4096 .f32) :
    Σ' (L6 : List (View.Piece (Elt F) S512x4096 .f32)), Σ' (L7 : List (View.Piece (Elt F) S512x2048 .f32)), Σ' (L8 : List (View.Piece (Elt F) S512x128 .f32)), Σ' (L9 : List (View.Piece (Elt F) S1x8x4096 .f32)), { LS0 : List (View.Piece (Elt F) S8x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc0_dn_in_conv_p i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_dn_in_conv_p_eq_skeleton]; unfold cc0_dn_in_conv_p_skel
    simp only [k0_part398_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hfs0
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    iexists _; iexact HS0

end Cert.DnInRun

end
-- ==== Proof.DnInBlock.lean ====
/-
  The delta network's convolution on a tile: eight rows at a time, each from its own rows and the eight before it.
  Here what the kernel stores is spelled once over the number of the eight-row block, and read at an entry.
-/
module

public import proofs.«01_k».proof.Proof.Gen.DnInIdeal
public import proofs.«01_k».proof.Proof.Softmax
public import Idealize.ShloMosaic.Lib.Pointwise
public import Idealize.ShloMosaic.Lib.Pipeline.ValueKit

@[expose] public section

noncomputable section

open Idealize.ShloMosaic Cert.DnInIdeal Cert.DnInIdeal.Gen

namespace Cert.DnInBlock

variable {F : FTy → Type} [FloatOps F]

/-- The rows `d` before each row of a block: rotated out of the block before where the block's own rows run out. -/
def back (d : BitVec 32) (prev cur : FVec F S8x512 .f32) : FVec F S8x512 .f32 :=
  select (cmpi .slt (iota .tc S8x512 32 [0] iota_S8x512_d0_w32) (broadcast S8x512 d))
    (dynamicRotate 0 d none prev rotates_S8x512_d0) (dynamicRotate 0 d none cur rotates_S8x512_d0)

/-- Four taps over a block. -/
def taps (prev cur : FVec F S8x512 .f32) (t0 t1 t2 t3 : Vec F S1x512 .f32) : FVec F S8x512 .f32 :=
  addf (addf (addf (mulf (back 3#32 prev cur) (broadcastTo S8x512 t0 broadcasts_S1x512_S8x512))
    (mulf (back 2#32 prev cur) (broadcastTo S8x512 t1 broadcasts_S1x512_S8x512)))
    (mulf (back 1#32 prev cur) (broadcastTo S8x512 t2 broadcasts_S1x512_S8x512)))
    (mulf cur (broadcastTo S8x512 t3 broadcasts_S1x512_S8x512))

/-- The taps gated. -/
def gate (y : FVec F S8x512 .f32) : FVec F S8x512 .f32 :=
  mulf (mulf (broadcast S8x512 (Scalar.ofBits .f32 0x3F000000#32)) y)
    (addf (broadcast S8x512 (Scalar.ofBits .f32 0x3F800000#32)) (tanh (mulf (broadcast S8x512 (Scalar.ofBits .f32 0x3F000000#32)) y)))

abbrev SlicesAt (n : ℕ) : Prop := S512x512.Slices ![8 * n, 0] S8x512

theorem slicesAt {n : ℕ} (h : n < 64) : SlicesAt n :=
  ⟨rfl, fun a => by
    match a with
    | ⟨0, _⟩ => show 8 * n + 8 ≤ 512; omega
    | ⟨1, _⟩ => show 0 + 512 ≤ 512; omega⟩

/-- Block `n` of a tile's columns. -/
def rowsAt (acc : FVec F S512x512 .f32) (n : ℕ) (h : n < 64) : FVec F S8x512 .f32 :=
  extractStridedSlice S8x512 ![8 * n, 0] acc (slicesAt h)

/-- What is stored for block `n`: from the rows carried in for the first, else from the block before. -/
def stored (first : BitVec 1) (acc : FVec F S512x512 .f32) (halo : FVec F S8x512 .f32) (t0 t1 t2 t3 : Vec F S1x512 .f32) :
    (n : ℕ) → n < 64 → FVec F S8x512 .f32
  | 0, h => gate (taps (Scalar.select first (broadcast S8x512 (Scalar.ofBits .f32 0x00000000#32)) halo) (rowsAt acc 0 h) t0 t1 t2 t3)
  | n + 1, h => gate (taps (rowsAt acc n (Nat.lt_of_succ_lt h)) (rowsAt acc (n + 1) h) t0 t1 t2 t3)

theorem inbAt {n c0 : ℕ} (h : n < 64) (hc : c0 + 512 ≤ 4096) :
    ∀ a, (![8 * n, c0] : Fin S512x4096.rank → ℕ) a + S8x512.size a ≤ S512x4096.size a := fun a => by
  match a with
  | ⟨0, _⟩ => show 8 * n + 8 ≤ 512; omega
  | ⟨1, _⟩ => show c0 + 512 ≤ 4096; omega

/-- The stores of one group of columns, the last first, before those of the groups before it. -/
def pieces (first : BitVec 1) (c0 : ℕ) (hc : c0 + 512 ≤ 4096) (acc : FVec F S512x512 .f32) (halo : FVec F S8x512 .f32)
    (t0 t1 t2 t3 : Vec F S1x512 .f32) (rest : List (View.Piece (Elt F) S512x4096 .f32)) :
    (n : ℕ) → n ≤ 64 → List (View.Piece (Elt F) S512x4096 .f32)
  | 0, _ => rest
  | n + 1, h => ⟨Rect.unit ![8 * n, c0] S8x512.size (inbAt h hc), stored first acc halo t0 t1 t2 t3 n h⟩
      :: pieces first c0 hc acc halo t0 t1 t2 t3 rest n (Nat.le_of_succ_le h)

/-! ## Read at an entry -/

/-- The gate of a number. -/
def silu (x : Ideal .f32) : Ideal .f32 := x * Ideal.div 1 (1 + Ideal.exp (-x))

theorem gate_apply (y : FVec Ideal S8x512 .f32) (j : S8x512.Idx) : gate y j = silu (y j) := by
  have h : gate y j = Ideal.ofBits .f32 0x3F000000#32 * y j * (Ideal.ofBits .f32 0x3F800000#32 + Ideal.tanh (Ideal.ofBits .f32 0x3F000000#32 * y j)) := rfl
  rw [h, silu, ← Cert.Num.silu_eq]
  have e1 : Ideal.ofBits .f32 0x3F800000#32 = 1 := by
    simp [Ideal.ofBits, Ideal.ieee]; rw [← EReal.coe_mul]; norm_num
  have e2 : Ideal.ofBits .f32 0x3F000000#32 = ((1 / 2 : ℝ) : EReal) := by
    simp [Ideal.ofBits, Ideal.ieee]; rw [← EReal.coe_mul]; norm_num
  rw [e1, e2]

/-- A row `d` back: of the block before (`P`, numbered to end where the block starts) or of the block. -/
theorem back_apply (d : ℕ) (hd : d = 1 ∨ d = 2 ∨ d = 3) (prev cur : FVec Ideal S8x512 .f32) (a : Fin 8) (b : Fin 512) :
    back (BitVec.ofNat 32 d) prev cur (ix2 a b)
      = if h : a.val < d then prev (ix2 ⟨8 + a.val - d, by omega⟩ b) else cur (ix2 ⟨a.val - d, by omega⟩ b) := by
  rcases hd with rfl | rfl | rfl <;> fin_cases a <;>
  · pointwise [back]
    first
    | rfl
    | (split <;> first | (exfalso; revert ‹_›; decide) | rfl)

theorem taps_apply (prev cur : FVec Ideal S8x512 .f32) (t0 t1 t2 t3 : Vec Ideal S1x512 .f32) (a : Fin 8) (b : Fin 512) :
    taps prev cur t0 t1 t2 t3 (ix2 a b)
      = back (BitVec.ofNat 32 3) prev cur (ix2 a b) * t0 (ix2 0 b) + back (BitVec.ofNat 32 2) prev cur (ix2 a b) * t1 (ix2 0 b)
        + back (BitVec.ofNat 32 1) prev cur (ix2 a b) * t2 (ix2 0 b) + cur (ix2 a b) * t3 (ix2 0 b) := by
  pointwise [taps]

theorem rowsAt_apply (acc : FVec Ideal S512x512 .f32) (n : ℕ) (h : n < 64) (a : Fin 8) (b : Fin 512) :
    rowsAt acc n h (ix2 a b) = acc (ix2 ⟨8 * n + a.val, by omega⟩ b) := by
  refine congrArg acc ?_
  funext q
  match q with
  | ⟨0, _⟩ => rfl
  | ⟨1, _⟩ => exact Fin.ext (Nat.zero_add _)

/-- Row `r`'s entry `d` rows back: of the tile, or of the eight rows before the tile. -/
def backAt (X : Fin 512 → Fin 4096 → Ideal .f32) (H : Fin 8 → Fin 4096 → Ideal .f32) (d : ℕ) (r : Fin 512) (c : Fin 4096) :
    Ideal .f32 :=
  if d ≤ r.val then X ⟨r.val - d, Nat.lt_of_le_of_lt (Nat.sub_le _ _) r.isLt⟩ c
  else H ⟨(8 + r.val - d) % 8, Nat.mod_lt _ (Nat.succ_pos _)⟩ c

/-- The gated convolution at an entry of the tile. -/
def conv (X : Fin 512 → Fin 4096 → Ideal .f32) (H : Fin 8 → Fin 4096 → Ideal .f32) (W : Fin 4 → Fin 4096 → Ideal .f32)
    (r : Fin 512) (c : Fin 4096) : Ideal .f32 :=
  silu (backAt X H 3 r c * W 0 c + backAt X H 2 r c * W 1 c + backAt X H 1 r c * W 2 c + X r c * W 3 c)

/-- Column `b` of the group that starts at `c0`. -/
abbrev col (c0 : ℕ) (hc : c0 + 512 ≤ 4096) (b : Fin 512) : Fin 4096 := ⟨c0 + b.val, by omega⟩

section
variable (X : Fin 512 → Fin 4096 → Ideal .f32) (H : Fin 8 → Fin 4096 → Ideal .f32) (W : Fin 4 → Fin 4096 → Ideal .f32)
  (first : BitVec 1) (c0 : ℕ) (hc : c0 + 512 ≤ 4096) (acc : FVec Ideal S512x512 .f32) (halo : FVec Ideal S8x512 .f32)
  (t0 t1 t2 t3 : Vec Ideal S1x512 .f32)
  (hacc : ∀ a b, acc (ix2 a b) = X a (col c0 hc b))
  (hhalo : ∀ a b, Scalar.select first (broadcast S8x512 (Scalar.ofBits .f32 0x00000000#32)) halo (ix2 a b) = H a (col c0 hc b))
  (h0 : ∀ b, t0 (ix2 0 b) = W 0 (col c0 hc b)) (h1 : ∀ b, t1 (ix2 0 b) = W 1 (col c0 hc b))
  (h2 : ∀ b, t2 (ix2 0 b) = W 2 (col c0 hc b)) (h3 : ∀ b, t3 (ix2 0 b) = W 3 (col c0 hc b))

include hacc hhalo in
/-- In the first block a row back is the tile's or the carried rows'. -/
theorem back_first (d : ℕ) (hd : d = 1 ∨ d = 2 ∨ d = 3) (h : 0 < 64) (a : Fin 8) (b : Fin 512) :
    back (BitVec.ofNat 32 d) (Scalar.select first (broadcast S8x512 (Scalar.ofBits .f32 0x00000000#32)) halo) (rowsAt acc 0 h) (ix2 a b)
      = backAt X H d ⟨8 * 0 + a.val, by omega⟩ (col c0 hc b) := by
  rw [back_apply d hd, backAt]
  split
  · rename_i hlt
    rw [if_neg (by dsimp only; omega), hhalo]
    congr 1
    apply Fin.ext; dsimp only; omega
  · rename_i hge
    rw [if_pos (by dsimp only; omega), rowsAt_apply, hacc]
    congr 1
    apply Fin.ext; dsimp only; omega

include hacc in
/-- In a later block a row back is the tile's. -/
theorem back_later (d : ℕ) (hd : d = 1 ∨ d = 2 ∨ d = 3) (n : ℕ) (h : n + 1 < 64) (a : Fin 8) (b : Fin 512) :
    back (BitVec.ofNat 32 d) (rowsAt acc n (Nat.lt_of_succ_lt h)) (rowsAt acc (n + 1) h) (ix2 a b)
      = backAt X H d ⟨8 * (n + 1) + a.val, by omega⟩ (col c0 hc b) := by
  rw [back_apply d hd, backAt]
  split
  all_goals
    rw [if_pos (by dsimp only; omega), rowsAt_apply, hacc]
    congr 1
    apply Fin.ext; dsimp only; omega

include hacc hhalo h0 h1 h2 h3 in
/-- What is stored for a block is the gated convolution of its rows. -/
theorem stored_apply (n : ℕ) (h : n < 64) (a : Fin 8) (b : Fin 512) :
    stored first acc halo t0 t1 t2 t3 n h (ix2 a b) = conv X H W ⟨8 * n + a.val, by omega⟩ (col c0 hc b) := by
  cases n with
  | zero =>
    rw [stored, gate_apply, taps_apply, conv,
      back_first X H first c0 hc acc halo hacc hhalo 3 (by decide),
      back_first X H first c0 hc acc halo hacc hhalo 2 (by decide),
      back_first X H first c0 hc acc halo hacc hhalo 1 (by decide), h0, h1, h2, h3, rowsAt_apply, hacc]
  | succ n =>
    rw [stored, gate_apply, taps_apply, conv,
      back_later X H c0 hc acc hacc 3 (by decide), back_later X H c0 hc acc hacc 2 (by decide),
      back_later X H c0 hc acc hacc 1 (by decide), h0, h1, h2, h3, rowsAt_apply, hacc]

include hacc hhalo h0 h1 h2 h3 in
/-- Every store of a group writes the gated convolution, if the stores before it do. -/
theorem pieces_conv (rest : List (View.Piece (Elt Ideal) S512x4096 .f32))
    (hrest : ∀ p ∈ rest, ∀ j, p.2 j = conv X H W (p.1.emb j 0) (p.1.emb j 1)) :
    ∀ (n : ℕ) (h : n ≤ 64), ∀ p ∈ pieces first c0 hc acc halo t0 t1 t2 t3 rest n h,
      ∀ j, p.2 j = conv X H W (p.1.emb j 0) (p.1.emb j 1)
  | 0, _ => hrest
  | n + 1, h => by
    refine List.forall_mem_cons.2 ⟨fun j => ?_, pieces_conv rest hrest n (Nat.le_of_succ_le h)⟩
    have e : j = ix2 (j 0) (j 1) := eq_ix2 j
    refine (congrArg (stored first acc halo t0 t1 t2 t3 n h) e).trans
      ((stored_apply X H W first c0 hc acc halo t0 t1 t2 t3 hacc hhalo h0 h1 h2 h3 n h (j 0) (j 1)).trans ?_)
    refine congrArg₂ (conv X H W) ?_ ?_
    · apply Fin.ext
      show 8 * n + (j 0).val = 8 * n + 1 * (j 0).val
      rw [Nat.one_mul]
    · apply Fin.ext
      show c0 + (j 1).val = c0 + 1 * (j 1).val
      rw [Nat.one_mul]

end

end Cert.DnInBlock

end
-- ==== Proof.DnInPieces.lean ====
/-
  The delta network's input projection with its convolution: the stores of one grid point, as lists over the eight groups of columns.
-/
module

public import proofs.«01_k».proof.Proof.DnInRun
public import proofs.«01_k».proof.Proof.DnInBlock
public import Idealize.ShloMosaic.Lib.Claim

@[expose] public section

set_option maxRecDepth 16384

noncomputable section

namespace Cert.DnInPieces

open Cert.DnInRun Cert.DnInBlock Cert.DnInIdeal Cert.DnInIdeal.Gen Cert.DnInIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem inbTwo {a b m n M N : ℕ} (h0 : a + m ≤ M) (h1 : b + n ≤ N) :
    ∀ q, (![a, b] : Fin 2 → ℕ) q + (![m, n] : Fin 2 → ℕ) q ≤ (![M, N] : Fin 2 → ℕ) q := fun q => by
  match q with
  | ⟨0, _⟩ => exact h0
  | ⟨1, _⟩ => exact h1

theorem inbThree {b n N : ℕ} (h : b + n ≤ N) :
    ∀ q, (![0, 0, b] : Fin 3 → ℕ) q + (![1, 1, n] : Fin 3 → ℕ) q ≤ (![1, 1, N] : Fin 3 → ℕ) q := fun q => by
  match q with
  | ⟨0, _⟩ => exact Nat.le_refl 1
  | ⟨1, _⟩ => exact Nat.le_refl 1
  | ⟨2, _⟩ => exact h

theorem inbTail {b n N : ℕ} (h : b + n ≤ N) :
    ∀ q, (![0, 0, b] : Fin 3 → ℕ) q + (![1, 8, n] : Fin 3 → ℕ) q ≤ (![1, 8, N] : Fin 3 → ℕ) q := fun q => by
  match q with
  | ⟨0, _⟩ => exact Nat.le_refl 1
  | ⟨1, _⟩ => exact Nat.le_refl 8
  | ⟨2, _⟩ => exact h

/-- The tile's rows of the input. -/
def ldX (arg1 : Memref sig .tc .vmem S512x1024 .f32) (harg1 : arg1.IsWhole) (x0 : Vec F S512x1024 .f32) : Vec F S512x1024 .f32 :=
  View.readAt (Elt F) arg1.view (Rect.unit (s := S512x1024) ![0, 0] S512x1024.size inb_S512x1024_S512x1024_0_0).toLoadRect (harg1.unread x0)

/-- Columns `o` on of the modulation. -/
def ldMod (arg3 : Memref sig .tc .vmem S1x1x3072 .f32) (harg3 : arg3.IsWhole) (x2 : Vec F S1x1x3072 .f32) (o : ℕ) (h : o + 1024 ≤ 3072) :
    Vec F S1x1x1024 .f32 :=
  View.readAt (Elt F) arg3.view (Rect.unit (s := S1x1x3072) ![0, 0, o] S1x1x1024.size (inbThree h)).toLoadRect (harg3.unread x2)

/-- Columns `o` on of the weights. -/
def ldW (arg2 : Memref sig .tc .vmem S1024x6272 .bf16) (harg2 : arg2.IsWhole) (x1 : Vec F S1024x6272 .bf16) (o : ℕ) (h : o + 512 ≤ 6272) :
    Vec F S1024x512 .bf16 :=
  View.readAt (Elt F) arg2.view (Rect.unit (s := S1024x6272) ![0, o] S1024x512.size (inbTwo (by decide) h)).toLoadRect (harg2.unread x1)

/-- Tap `s` at columns `o` on. -/
def ldTap (arg4 : Memref sig .tc .vmem S4x4096 .f32) (harg4 : arg4.IsWhole) (x3 : Vec F S4x4096 .f32) (s o : ℕ) (hs : s + 1 ≤ 4) (h : o + 512 ≤ 4096) :
    Vec F S1x512 .f32 :=
  View.readAt (Elt F) arg4.view (Rect.unit (s := S4x4096) ![s, o] S1x512.size (inbTwo hs h)).toLoadRect (harg4.unread x3)

/-- The carried rows at columns `o` on. -/
def ldHalo (arg11 : Memref sig .tc .vmem S8x4096 .f32) (harg11 : arg11.IsWhole) (xs0 : Vec F S8x4096 .f32) (o : ℕ) (h : o + 512 ≤ 4096) :
    Vec F S8x512 .f32 :=
  View.readAt (Elt F) arg11.view (Rect.unit (s := S8x4096) ![0, o] S8x512.size (inbTwo (by decide) h)).toLoadRect (harg11.unread xs0)

/-- The columns of the gate's input, and of the two decays. -/
def ldWz (arg2 : Memref sig .tc .vmem S1024x6272 .bf16) (harg2 : arg2.IsWhole) (x1 : Vec F S1024x6272 .bf16) : Vec F S1024x2048 .bf16 :=
  View.readAt (Elt F) arg2.view (Rect.unit (s := S1024x6272) ![0, 4096] S1024x2048.size inb_S1024x6272_S1024x2048_0_4096).toLoadRect (harg2.unread x1)

@[inherit_doc ldWz]
def ldWg (arg2 : Memref sig .tc .vmem S1024x6272 .bf16) (harg2 : arg2.IsWhole) (x1 : Vec F S1024x6272 .bf16) : Vec F S1024x128 .bf16 :=
  View.readAt (Elt F) arg2.view (Rect.unit (s := S1024x6272) ![0, 6144] S1024x128.size inb_S1024x6272_S1024x128_0_6144).toLoadRect (harg2.unread x1)

/-- A vector of the two decays. -/
def ldVec (arg : Memref sig .tc .vmem S1x128 .f32) (harg : arg.IsWhole) (x : Vec F S1x128 .f32) : Vec F S1x128 .f32 :=
  View.readAt (Elt F) arg.view (Rect.unit (s := S1x128) ![0, 0] S1x128.size inb_S1x128_S1x128_0_0).toLoadRect (harg.unread x)

/-- The last eight rows of a group of columns, as they are carried and as they are given out. -/
def carriedPiece (acc : FVec F S512x512 .f32) (o : ℕ) (h : o + 512 ≤ 4096) : View.Piece (Elt F) S8x4096 .f32 :=
  ⟨Rect.unit (s := S8x4096) ![0, o] S8x512.size (inbTwo (by decide) h), shapeCast S8x512 (rowsAt acc 63 (by decide)) shapeCasts_S8x512_S8x512⟩

@[inherit_doc carriedPiece]
def tailPiece (acc : FVec F S512x512 .f32) (o : ℕ) (h : o + 512 ≤ 4096) : View.Piece (Elt F) S1x8x4096 .f32 :=
  ⟨Rect.unit (s := S1x8x4096) ![0, 0, o] S1x8x512.size (inbTail h), shapeCast S1x8x512 (rowsAt acc 63 (by decide)) shapeCasts_S8x512_S1x8x512⟩

/-- A group of columns of the projection. -/
def project (xb : FVec F S512x1024 .bf16) (w : Vec F S1024x512 .bf16) : FVec F S512x512 .f32 :=
  matmul dot_S512x1024_S1024x512_S512x512_1_0_0_1_n_n none xb (shapeCast S1024x512 w shapeCasts_S1024x512_S1024x512) (constant S512x512 .f32 0x00000000#32)

/-- Whether a tile is its sequence's first. -/
def first (i : grid0.Coords) : BitVec 1 :=
  kernelRun.sl.v23 i

set_option maxRecDepth 65536 in
/-- The stores into the convolution's block, group by group. -/
theorem conv_stores (c : Dev nD) (i : grid0.Coords) (arg1 : Memref sig .tc .vmem S512x1024 .f32) (harg1 : arg1.IsWhole) (arg2 : Memref sig .tc .vmem S1024x6272 .bf16) (harg2 : arg2.IsWhole) (arg3 : Memref sig .tc .vmem S1x1x3072 .f32) (harg3 : arg3.IsWhole) (arg4 : Memref sig .tc .vmem S4x4096 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x4096 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S1x8x4096 .f32) (harg10 : arg10.IsWhole) (arg11 : Memref sig .tc .vmem S8x4096 .f32) (harg11 : arg11.IsWhole) (x0 : Vec F S512x1024 .f32) (x1 : Vec F S1024x6272 .bf16) (x2 : Vec F S1x1x3072 .f32) (x3 : Vec F S4x4096 .f32) (x4 : Vec F S1x128 .f32) (x5 : Vec F S1x128 .f32) (xs0 : Vec F S8x4096 .f32) :
    (kernelRun c i arg1 harg1 arg2 harg2 arg3 harg3 arg4 harg4 arg5 harg5 arg6 harg6 arg7 harg7 arg8 harg8 arg9 harg9 arg10 harg10 arg11 harg11 x0 x1 x2 x3 x4 x5 xs0).1 = pieces (first i) 3584 (by decide) (project (k0_pay2 (ldX arg1 harg1 x0) (ldMod arg3 harg3 x2 1024 (by decide)) (ldMod arg3 harg3 x2 0 (by decide))) (ldW arg2 harg2 x1 3584 (by decide)))
      (ldHalo arg11 harg11 xs0 3584 (by decide))
      (ldTap arg4 harg4 x3 0 3584 (by decide) (by decide)) (ldTap arg4 harg4 x3 1 3584 (by decide) (by decide)) (ldTap arg4 harg4 x3 2 3584 (by decide) (by decide)) (ldTap arg4 harg4 x3 3 3584 (by decide) (by decide))
      (pieces (first i) 3072 (by decide) (project (k0_pay2 (ldX arg1 harg1 x0) (ldMod arg3 harg3 x2 1024 (by decide)) (ldMod arg3 harg3 x2 0 (by decide))) (ldW arg2 harg2 x1 3072 (by decide)))
      (ldHalo arg11 harg11 xs0 3072 (by decide))
      (ldTap arg4 harg4 x3 0 3072 (by decide) (by decide)) (ldTap arg4 harg4 x3 1 3072 (by decide) (by decide)) (ldTap arg4 harg4 x3 2 3072 (by decide) (by decide)) (ldTap arg4 harg4 x3 3 3072 (by decide) (by decide))
      (pieces (first i) 2560 (by decide) (project (k0_pay2 (ldX arg1 harg1 x0) (ldMod arg3 harg3 x2 1024 (by decide)) (ldMod arg3 harg3 x2 0 (by decide))) (ldW arg2 harg2 x1 2560 (by decide)))
      (ldHalo arg11 harg11 xs0 2560 (by decide))
      (ldTap arg4 harg4 x3 0 2560 (by decide) (by decide)) (ldTap arg4 harg4 x3 1 2560 (by decide) (by decide)) (ldTap arg4 harg4 x3 2 2560 (by decide) (by decide)) (ldTap arg4 harg4 x3 3 2560 (by decide) (by decide))
      (pieces (first i) 2048 (by decide) (project (k0_pay2 (ldX arg1 harg1 x0) (ldMod arg3 harg3 x2 1024 (by decide)) (ldMod arg3 harg3 x2 0 (by decide))) (ldW arg2 harg2 x1 2048 (by decide)))
      (ldHalo arg11 harg11 xs0 2048 (by decide))
      (ldTap arg4 harg4 x3 0 2048 (by decide) (by decide)) (ldTap arg4 harg4 x3 1 2048 (by decide) (by decide)) (ldTap arg4 harg4 x3 2 2048 (by decide) (by decide)) (ldTap arg4 harg4 x3 3 2048 (by decide) (by decide))
      (pieces (first i) 1536 (by decide) (project (k0_pay2 (ldX arg1 harg1 x0) (ldMod arg3 harg3 x2 1024 (by decide)) (ldMod arg3 harg3 x2 0 (by decide))) (ldW arg2 harg2 x1 1536 (by decide)))
      (ldHalo arg11 harg11 xs0 1536 (by decide))
      (ldTap arg4 harg4 x3 0 1536 (by decide) (by decide)) (ldTap arg4 harg4 x3 1 1536 (by decide) (by decide)) (ldTap arg4 harg4 x3 2 1536 (by decide) (by decide)) (ldTap arg4 harg4 x3 3 1536 (by decide) (by decide))
      (pieces (first i) 1024 (by decide) (project (k0_pay2 (ldX arg1 harg1 x0) (ldMod arg3 harg3 x2 1024 (by decide)) (ldMod arg3 harg3 x2 0 (by decide))) (ldW arg2 harg2 x1 1024 (by decide)))
      (ldHalo arg11 harg11 xs0 1024 (by decide))
      (ldTap arg4 harg4 x3 0 1024 (by decide) (by decide)) (ldTap arg4 harg4 x3 1 1024 (by decide) (by decide)) (ldTap arg4 harg4 x3 2 1024 (by decide) (by decide)) (ldTap arg4 harg4 x3 3 1024 (by decide) (by decide))
      (pieces (first i) 512 (by decide) (project (k0_pay2 (ldX arg1 harg1 x0) (ldMod arg3 harg3 x2 1024 (by decide)) (ldMod arg3 harg3 x2 0 (by decide))) (ldW arg2 harg2 x1 512 (by decide)))
      (ldHalo arg11 harg11 xs0 512 (by decide))
      (ldTap arg4 harg4 x3 0 512 (by decide) (by decide)) (ldTap arg4 harg4 x3 1 512 (by decide) (by decide)) (ldTap arg4 harg4 x3 2 512 (by decide) (by decide)) (ldTap arg4 harg4 x3 3 512 (by decide) (by decide))
      (pieces (first i) 0 (by decide) (project (k0_pay2 (ldX arg1 harg1 x0) (ldMod arg3 harg3 x2 1024 (by decide)) (ldMod arg3 harg3 x2 0 (by decide))) (ldW arg2 harg2 x1 0 (by decide)))
      (ldHalo arg11 harg11 xs0 0 (by decide))
      (ldTap arg4 harg4 x3 0 0 (by decide) (by decide)) (ldTap arg4 harg4 x3 1 0 (by decide) (by decide)) (ldTap arg4 harg4 x3 2 0 (by decide) (by decide)) (ldTap arg4 harg4 x3 3 0 (by decide) (by decide))
      [] 64 (Nat.le_refl _)) 64 (Nat.le_refl _)) 64 (Nat.le_refl _)) 64 (Nat.le_refl _)) 64 (Nat.le_refl _)) 64 (Nat.le_refl _)) 64 (Nat.le_refl _)) 64 (Nat.le_refl _) := by
  rfl

set_option maxRecDepth 65536 in
/-- The store into the gate's block. -/
theorem z_stores (c : Dev nD) (i : grid0.Coords) (arg1 : Memref sig .tc .vmem S512x1024 .f32) (harg1 : arg1.IsWhole) (arg2 : Memref sig .tc .vmem S1024x6272 .bf16) (harg2 : arg2.IsWhole) (arg3 : Memref sig .tc .vmem S1x1x3072 .f32) (harg3 : arg3.IsWhole) (arg4 : Memref sig .tc .vmem S4x4096 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x4096 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S1x8x4096 .f32) (harg10 : arg10.IsWhole) (arg11 : Memref sig .tc .vmem S8x4096 .f32) (harg11 : arg11.IsWhole) (x0 : Vec F S512x1024 .f32) (x1 : Vec F S1024x6272 .bf16) (x2 : Vec F S1x1x3072 .f32) (x3 : Vec F S4x4096 .f32) (x4 : Vec F S1x128 .f32) (x5 : Vec F S1x128 .f32) (xs0 : Vec F S8x4096 .f32) :
    (kernelRun c i arg1 harg1 arg2 harg2 arg3 harg3 arg4 harg4 arg5 harg5 arg6 harg6 arg7 harg7 arg8 harg8 arg9 harg9 arg10 harg10 arg11 harg11 x0 x1 x2 x3 x4 x5 xs0).2.1 = [⟨Rect.unit (s := S512x2048) ![0, 0] S512x2048.size inb_S512x2048_S512x2048_0_0, k0_pay2678 (k0_pay2 (ldX arg1 harg1 x0) (ldMod arg3 harg3 x2 1024 (by decide)) (ldMod arg3 harg3 x2 0 (by decide))) (k0_pay2677 (ldWz arg2 harg2 x1))⟩] := by
  rfl

set_option maxRecDepth 65536 in
/-- The store into the decays' block. -/
theorem decay_stores (c : Dev nD) (i : grid0.Coords) (arg1 : Memref sig .tc .vmem S512x1024 .f32) (harg1 : arg1.IsWhole) (arg2 : Memref sig .tc .vmem S1024x6272 .bf16) (harg2 : arg2.IsWhole) (arg3 : Memref sig .tc .vmem S1x1x3072 .f32) (harg3 : arg3.IsWhole) (arg4 : Memref sig .tc .vmem S4x4096 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x4096 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S1x8x4096 .f32) (harg10 : arg10.IsWhole) (arg11 : Memref sig .tc .vmem S8x4096 .f32) (harg11 : arg11.IsWhole) (x0 : Vec F S512x1024 .f32) (x1 : Vec F S1024x6272 .bf16) (x2 : Vec F S1x1x3072 .f32) (x3 : Vec F S4x4096 .f32) (x4 : Vec F S1x128 .f32) (x5 : Vec F S1x128 .f32) (xs0 : Vec F S8x4096 .f32) :
    (kernelRun c i arg1 harg1 arg2 harg2 arg3 harg3 arg4 harg4 arg5 harg5 arg6 harg6 arg7 harg7 arg8 harg8 arg9 harg9 arg10 harg10 arg11 harg11 x0 x1 x2 x3 x4 x5 xs0).2.2.1 = [⟨Rect.unit (s := S512x128) ![0, 0] S512x128.size inb_S512x128_S512x128_0_0, k0_pay2679 (k0_pay2 (ldX arg1 harg1 x0) (ldMod arg3 harg3 x2 1024 (by decide)) (ldMod arg3 harg3 x2 0 (by decide))) (ldWg arg2 harg2 x1) (ldVec arg6 harg6 x5) (ldVec arg5 harg5 x4)⟩] := by
  rfl

set_option maxRecDepth 65536 in
/-- The stores of the last eight rows. -/
theorem tail_stores (c : Dev nD) (i : grid0.Coords) (arg1 : Memref sig .tc .vmem S512x1024 .f32) (harg1 : arg1.IsWhole) (arg2 : Memref sig .tc .vmem S1024x6272 .bf16) (harg2 : arg2.IsWhole) (arg3 : Memref sig .tc .vmem S1x1x3072 .f32) (harg3 : arg3.IsWhole) (arg4 : Memref sig .tc .vmem S4x4096 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x4096 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S1x8x4096 .f32) (harg10 : arg10.IsWhole) (arg11 : Memref sig .tc .vmem S8x4096 .f32) (harg11 : arg11.IsWhole) (x0 : Vec F S512x1024 .f32) (x1 : Vec F S1024x6272 .bf16) (x2 : Vec F S1x1x3072 .f32) (x3 : Vec F S4x4096 .f32) (x4 : Vec F S1x128 .f32) (x5 : Vec F S1x128 .f32) (xs0 : Vec F S8x4096 .f32) :
    (kernelRun c i arg1 harg1 arg2 harg2 arg3 harg3 arg4 harg4 arg5 harg5 arg6 harg6 arg7 harg7 arg8 harg8 arg9 harg9 arg10 harg10 arg11 harg11 x0 x1 x2 x3 x4 x5 xs0).2.2.2.1 = [tailPiece (project (k0_pay2 (ldX arg1 harg1 x0) (ldMod arg3 harg3 x2 1024 (by decide)) (ldMod arg3 harg3 x2 0 (by decide))) (ldW arg2 harg2 x1 3584 (by decide))) 3584 (by decide),
      tailPiece (project (k0_pay2 (ldX arg1 harg1 x0) (ldMod arg3 harg3 x2 1024 (by decide)) (ldMod arg3 harg3 x2 0 (by decide))) (ldW arg2 harg2 x1 3072 (by decide))) 3072 (by decide),
      tailPiece (project (k0_pay2 (ldX arg1 harg1 x0) (ldMod arg3 harg3 x2 1024 (by decide)) (ldMod arg3 harg3 x2 0 (by decide))) (ldW arg2 harg2 x1 2560 (by decide))) 2560 (by decide),
      tailPiece (project (k0_pay2 (ldX arg1 harg1 x0) (ldMod arg3 harg3 x2 1024 (by decide)) (ldMod arg3 harg3 x2 0 (by decide))) (ldW arg2 harg2 x1 2048 (by decide))) 2048 (by decide),
      tailPiece (project (k0_pay2 (ldX arg1 harg1 x0) (ldMod arg3 harg3 x2 1024 (by decide)) (ldMod arg3 harg3 x2 0 (by decide))) (ldW arg2 harg2 x1 1536 (by decide))) 1536 (by decide),
      tailPiece (project (k0_pay2 (ldX arg1 harg1 x0) (ldMod arg3 harg3 x2 1024 (by decide)) (ldMod arg3 harg3 x2 0 (by decide))) (ldW arg2 harg2 x1 1024 (by decide))) 1024 (by decide),
      tailPiece (project (k0_pay2 (ldX arg1 harg1 x0) (ldMod arg3 harg3 x2 1024 (by decide)) (ldMod arg3 harg3 x2 0 (by decide))) (ldW arg2 harg2 x1 512 (by decide))) 512 (by decide),
      tailPiece (project (k0_pay2 (ldX arg1 harg1 x0) (ldMod arg3 harg3 x2 1024 (by decide)) (ldMod arg3 harg3 x2 0 (by decide))) (ldW arg2 harg2 x1 0 (by decide))) 0 (by decide)] := by
  rfl

set_option maxRecDepth 65536 in
/-- The stores of the carried rows. -/
theorem carried_stores (c : Dev nD) (i : grid0.Coords) (arg1 : Memref sig .tc .vmem S512x1024 .f32) (harg1 : arg1.IsWhole) (arg2 : Memref sig .tc .vmem S1024x6272 .bf16) (harg2 : arg2.IsWhole) (arg3 : Memref sig .tc .vmem S1x1x3072 .f32) (harg3 : arg3.IsWhole) (arg4 : Memref sig .tc .vmem S4x4096 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x4096 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S1x8x4096 .f32) (harg10 : arg10.IsWhole) (arg11 : Memref sig .tc .vmem S8x4096 .f32) (harg11 : arg11.IsWhole) (x0 : Vec F S512x1024 .f32) (x1 : Vec F S1024x6272 .bf16) (x2 : Vec F S1x1x3072 .f32) (x3 : Vec F S4x4096 .f32) (x4 : Vec F S1x128 .f32) (x5 : Vec F S1x128 .f32) (xs0 : Vec F S8x4096 .f32) :
    (kernelRun c i arg1 harg1 arg2 harg2 arg3 harg3 arg4 harg4 arg5 harg5 arg6 harg6 arg7 harg7 arg8 harg8 arg9 harg9 arg10 harg10 arg11 harg11 x0 x1 x2 x3 x4 x5 xs0).2.2.2.2.1 = [carriedPiece (project (k0_pay2 (ldX arg1 harg1 x0) (ldMod arg3 harg3 x2 1024 (by decide)) (ldMod arg3 harg3 x2 0 (by decide))) (ldW arg2 harg2 x1 3584 (by decide))) 3584 (by decide),
      carriedPiece (project (k0_pay2 (ldX arg1 harg1 x0) (ldMod arg3 harg3 x2 1024 (by decide)) (ldMod arg3 harg3 x2 0 (by decide))) (ldW arg2 harg2 x1 3072 (by decide))) 3072 (by decide),
      carriedPiece (project (k0_pay2 (ldX arg1 harg1 x0) (ldMod arg3 harg3 x2 1024 (by decide)) (ldMod arg3 harg3 x2 0 (by decide))) (ldW arg2 harg2 x1 2560 (by decide))) 2560 (by decide),
      carriedPiece (project (k0_pay2 (ldX arg1 harg1 x0) (ldMod arg3 harg3 x2 1024 (by decide)) (ldMod arg3 harg3 x2 0 (by decide))) (ldW arg2 harg2 x1 2048 (by decide))) 2048 (by decide),
      carriedPiece (project (k0_pay2 (ldX arg1 harg1 x0) (ldMod arg3 harg3 x2 1024 (by decide)) (ldMod arg3 harg3 x2 0 (by decide))) (ldW arg2 harg2 x1 1536 (by decide))) 1536 (by decide),
      carriedPiece (project (k0_pay2 (ldX arg1 harg1 x0) (ldMod arg3 harg3 x2 1024 (by decide)) (ldMod arg3 harg3 x2 0 (by decide))) (ldW arg2 harg2 x1 1024 (by decide))) 1024 (by decide),
      carriedPiece (project (k0_pay2 (ldX arg1 harg1 x0) (ldMod arg3 harg3 x2 1024 (by decide)) (ldMod arg3 harg3 x2 0 (by decide))) (ldW arg2 harg2 x1 512 (by decide))) 512 (by decide),
      carriedPiece (project (k0_pay2 (ldX arg1 harg1 x0) (ldMod arg3 harg3 x2 1024 (by decide)) (ldMod arg3 harg3 x2 0 (by decide))) (ldW arg2 harg2 x1 0 (by decide))) 0 (by decide)] := by
  rfl

set_option maxRecDepth 65536 in
/-- The stores into the convolution's block cover it. -/
theorem conv_cover (c : Dev nD) (i : grid0.Coords) (arg1 : Memref sig .tc .vmem S512x1024 .f32) (harg1 : arg1.IsWhole) (arg2 : Memref sig .tc .vmem S1024x6272 .bf16) (harg2 : arg2.IsWhole) (arg3 : Memref sig .tc .vmem S1x1x3072 .f32) (harg3 : arg3.IsWhole) (arg4 : Memref sig .tc .vmem S4x4096 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x4096 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S1x8x4096 .f32) (harg10 : arg10.IsWhole) (arg11 : Memref sig .tc .vmem S8x4096 .f32) (harg11 : arg11.IsWhole) (x0 : Vec F S512x1024 .f32) (x1 : Vec F S1024x6272 .bf16) (x2 : Vec F S1x1x3072 .f32) (x3 : Vec F S4x4096 .f32) (x4 : Vec F S1x128 .f32) (x5 : Vec F S1x128 .f32) (xs0 : Vec F S8x4096 .f32) (y : S512x4096.Idx) :
    ∃ pc ∈ (kernelRun c i arg1 harg1 arg2 harg2 arg3 harg3 arg4 harg4 arg5 harg5 arg6 harg6 arg7 harg7 arg8 harg8 arg9 harg9 arg10 harg10 arg11 harg11 x0 x1 x2 x3 x4 x5 xs0).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 x0 x1 x2 x3 x4 x5 xs0).1 S8x512.size (by sl_kernel_rfl) y

set_option maxRecDepth 65536 in
/-- The store into the gate's block covers it. -/
theorem z_cover (c : Dev nD) (i : grid0.Coords) (arg1 : Memref sig .tc .vmem S512x1024 .f32) (harg1 : arg1.IsWhole) (arg2 : Memref sig .tc .vmem S1024x6272 .bf16) (harg2 : arg2.IsWhole) (arg3 : Memref sig .tc .vmem S1x1x3072 .f32) (harg3 : arg3.IsWhole) (arg4 : Memref sig .tc .vmem S4x4096 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x4096 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S1x8x4096 .f32) (harg10 : arg10.IsWhole) (arg11 : Memref sig .tc .vmem S8x4096 .f32) (harg11 : arg11.IsWhole) (x0 : Vec F S512x1024 .f32) (x1 : Vec F S1024x6272 .bf16) (x2 : Vec F S1x1x3072 .f32) (x3 : Vec F S4x4096 .f32) (x4 : Vec F S1x128 .f32) (x5 : Vec F S1x128 .f32) (xs0 : Vec F S8x4096 .f32) (y : S512x2048.Idx) :
    ∃ pc ∈ (kernelRun c i arg1 harg1 arg2 harg2 arg3 harg3 arg4 harg4 arg5 harg5 arg6 harg6 arg7 harg7 arg8 harg8 arg9 harg9 arg10 harg10 arg11 harg11 x0 x1 x2 x3 x4 x5 xs0).2.1, y ∈ pc.1.set :=
  View.cover_of_tiledL (kernelRun c i arg1 harg1 arg2 harg2 arg3 harg3 arg4 harg4 arg5 harg5 arg6 harg6 arg7 harg7 arg8 harg8 arg9 harg9 arg10 harg10 arg11 harg11 x0 x1 x2 x3 x4 x5 xs0).2.1 S512x2048.size (by sl_kernel_rfl) y

set_option maxRecDepth 65536 in
/-- The store into the decays' block covers it. -/
theorem decay_cover (c : Dev nD) (i : grid0.Coords) (arg1 : Memref sig .tc .vmem S512x1024 .f32) (harg1 : arg1.IsWhole) (arg2 : Memref sig .tc .vmem S1024x6272 .bf16) (harg2 : arg2.IsWhole) (arg3 : Memref sig .tc .vmem S1x1x3072 .f32) (harg3 : arg3.IsWhole) (arg4 : Memref sig .tc .vmem S4x4096 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x4096 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S1x8x4096 .f32) (harg10 : arg10.IsWhole) (arg11 : Memref sig .tc .vmem S8x4096 .f32) (harg11 : arg11.IsWhole) (x0 : Vec F S512x1024 .f32) (x1 : Vec F S1024x6272 .bf16) (x2 : Vec F S1x1x3072 .f32) (x3 : Vec F S4x4096 .f32) (x4 : Vec F S1x128 .f32) (x5 : Vec F S1x128 .f32) (xs0 : Vec F S8x4096 .f32) (y : S512x128.Idx) :
    ∃ pc ∈ (kernelRun c i arg1 harg1 arg2 harg2 arg3 harg3 arg4 harg4 arg5 harg5 arg6 harg6 arg7 harg7 arg8 harg8 arg9 harg9 arg10 harg10 arg11 harg11 x0 x1 x2 x3 x4 x5 xs0).2.2.1, y ∈ pc.1.set :=
  View.cover_of_tiledL (kernelRun c i arg1 harg1 arg2 harg2 arg3 harg3 arg4 harg4 arg5 harg5 arg6 harg6 arg7 harg7 arg8 harg8 arg9 harg9 arg10 harg10 arg11 harg11 x0 x1 x2 x3 x4 x5 xs0).2.2.1 S512x128.size (by sl_kernel_rfl) y

set_option maxRecDepth 65536 in
/-- The stores of the last rows cover their block. -/
theorem tail_cover (c : Dev nD) (i : grid0.Coords) (arg1 : Memref sig .tc .vmem S512x1024 .f32) (harg1 : arg1.IsWhole) (arg2 : Memref sig .tc .vmem S1024x6272 .bf16) (harg2 : arg2.IsWhole) (arg3 : Memref sig .tc .vmem S1x1x3072 .f32) (harg3 : arg3.IsWhole) (arg4 : Memref sig .tc .vmem S4x4096 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x4096 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S1x8x4096 .f32) (harg10 : arg10.IsWhole) (arg11 : Memref sig .tc .vmem S8x4096 .f32) (harg11 : arg11.IsWhole) (x0 : Vec F S512x1024 .f32) (x1 : Vec F S1024x6272 .bf16) (x2 : Vec F S1x1x3072 .f32) (x3 : Vec F S4x4096 .f32) (x4 : Vec F S1x128 .f32) (x5 : Vec F S1x128 .f32) (xs0 : Vec F S8x4096 .f32) (y : S1x8x4096.Idx) :
    ∃ pc ∈ (kernelRun c i arg1 harg1 arg2 harg2 arg3 harg3 arg4 harg4 arg5 harg5 arg6 harg6 arg7 harg7 arg8 harg8 arg9 harg9 arg10 harg10 arg11 harg11 x0 x1 x2 x3 x4 x5 xs0).2.2.2.1, y ∈ pc.1.set :=
  View.cover_of_tiledL (kernelRun c i arg1 harg1 arg2 harg2 arg3 harg3 arg4 harg4 arg5 harg5 arg6 harg6 arg7 harg7 arg8 harg8 arg9 harg9 arg10 harg10 arg11 harg11 x0 x1 x2 x3 x4 x5 xs0).2.2.2.1 S1x8x512.size (by sl_kernel_rfl) y

set_option maxRecDepth 65536 in
/-- The stores of the carried rows cover them. -/
theorem carried_cover (c : Dev nD) (i : grid0.Coords) (arg1 : Memref sig .tc .vmem S512x1024 .f32) (harg1 : arg1.IsWhole) (arg2 : Memref sig .tc .vmem S1024x6272 .bf16) (harg2 : arg2.IsWhole) (arg3 : Memref sig .tc .vmem S1x1x3072 .f32) (harg3 : arg3.IsWhole) (arg4 : Memref sig .tc .vmem S4x4096 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x4096 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S1x8x4096 .f32) (harg10 : arg10.IsWhole) (arg11 : Memref sig .tc .vmem S8x4096 .f32) (harg11 : arg11.IsWhole) (x0 : Vec F S512x1024 .f32) (x1 : Vec F S1024x6272 .bf16) (x2 : Vec F S1x1x3072 .f32) (x3 : Vec F S4x4096 .f32) (x4 : Vec F S1x128 .f32) (x5 : Vec F S1x128 .f32) (xs0 : Vec F S8x4096 .f32) (y : S8x4096.Idx) :
    ∃ pc ∈ (kernelRun c i arg1 harg1 arg2 harg2 arg3 harg3 arg4 harg4 arg5 harg5 arg6 harg6 arg7 harg7 arg8 harg8 arg9 harg9 arg10 harg10 arg11 harg11 x0 x1 x2 x3 x4 x5 xs0).2.2.2.2.1, y ∈ pc.1.set :=
  View.cover_of_tiledL (kernelRun c i arg1 harg1 arg2 harg2 arg3 harg3 arg4 harg4 arg5 harg5 arg6 harg6 arg7 harg7 arg8 harg8 arg9 harg9 arg10 harg10 arg11 harg11 x0 x1 x2 x3 x4 x5 xs0).2.2.2.2.1 S8x512.size (by sl_kernel_rfl) y

end Cert.DnInPieces

end
-- ==== Proof.DnInTile.lean ====
/-
  The delta network's input projection with its convolution: what one grid point leaves, entry by entry.
-/
module

public import proofs.«01_k».proof.Proof.DnInRun
public import proofs.«01_k».proof.Proof.DnInBlock
public import proofs.«01_k».proof.Proof.DnInPieces
public import Idealize.ShloMosaic.Lib.Claim
public import Idealize.ShloMosaic.Lib.WholeRead
public import Idealize.ShloMosaic.Lib.VecWindow

@[expose] public section

set_option maxRecDepth 16384

noncomputable section

namespace Cert.DnInTile

open Cert.DnInPieces Cert.DnInRun Cert.DnInBlock Cert.DnInIdeal Cert.DnInIdeal.Gen Cert.DnInIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A tile's projection: the modulated rows times the weights. -/
def tile (x0 : FVec Ideal S512x1024 .f32) (x1 : FVec Ideal S1024x6272 .bf16) (x2 : FVec Ideal S1x1x3072 .f32) (a : Fin 512) (c : Fin 6272) : Ideal .f32 :=
  ∑ k : Fin 1024, (x0 (ix2 a k) * (1 + x2 (ix3 0 0 ⟨1024 + k.val, by omega⟩)) + x2 (ix3 0 0 ⟨k.val, by omega⟩)) * x1 (ix2 k c)

/-- The convolution's columns of it. -/
def tileX (x0 : FVec Ideal S512x1024 .f32) (x1 : FVec Ideal S1024x6272 .bf16) (x2 : FVec Ideal S1x1x3072 .f32) (a : Fin 512) (c : Fin 4096) : Ideal .f32 :=
  tile x0 x1 x2 a ⟨c.val, by omega⟩

theorem ldX_apply (arg1 : Memref sig .tc .vmem S512x1024 .f32) (harg1 : arg1.IsWhole) (x0 : Vec Ideal S512x1024 .f32) (a : Fin 512) (k : Fin 1024) :
    ldX arg1 harg1 x0 (ix2 a k) = x0 (ix2 a k) := by
  refine (harg1.readAt_unread x0 _ _).trans (congrArg x0 (funext fun q => ?_))
  match q with
  | ⟨0, _⟩ => exact Fin.ext (show 0 + 1 * a.val = a.val by omega)
  | ⟨1, _⟩ => exact Fin.ext (show 0 + 1 * k.val = k.val by omega)

theorem ldMod_apply (arg3 : Memref sig .tc .vmem S1x1x3072 .f32) (harg3 : arg3.IsWhole) (x2 : Vec Ideal S1x1x3072 .f32) (o : ℕ) (h : o + 1024 ≤ 3072) (k : Fin 1024) :
    ldMod arg3 harg3 x2 o h (ix3 0 0 k) = x2 (ix3 0 0 ⟨o + k.val, by omega⟩) := by
  refine (harg3.readAt_unread x2 _ _).trans (congrArg x2 (funext fun q => ?_))
  match q with
  | ⟨0, _⟩ => exact Fin.ext (show 0 + 1 * 0 = 0 by omega)
  | ⟨1, _⟩ => exact Fin.ext (show 0 + 1 * 0 = 0 by omega)
  | ⟨2, _⟩ => exact Fin.ext (show o + 1 * k.val = o + k.val by omega)

theorem ldW_apply (arg2 : Memref sig .tc .vmem S1024x6272 .bf16) (harg2 : arg2.IsWhole) (x1 : Vec Ideal S1024x6272 .bf16) (o : ℕ) (h : o + 512 ≤ 6272) (k : Fin 1024) (l : Fin 512) :
    ldW arg2 harg2 x1 o h (ix2 k l) = x1 (ix2 k ⟨o + l.val, by omega⟩) := by
  refine (harg2.readAt_unread x1 _ _).trans (congrArg x1 (funext fun q => ?_))
  match q with
  | ⟨0, _⟩ => exact Fin.ext (show 0 + 1 * k.val = k.val by omega)
  | ⟨1, _⟩ => exact Fin.ext (show o + 1 * l.val = o + l.val by omega)

theorem ldWz_apply (arg2 : Memref sig .tc .vmem S1024x6272 .bf16) (harg2 : arg2.IsWhole) (x1 : Vec Ideal S1024x6272 .bf16) (k : Fin 1024) (l : Fin 2048) :
    ldWz arg2 harg2 x1 (ix2 k l) = x1 (ix2 k ⟨4096 + l.val, by omega⟩) := by
  refine (harg2.readAt_unread x1 _ _).trans (congrArg x1 (funext fun q => ?_))
  match q with
  | ⟨0, _⟩ => exact Fin.ext (show 0 + 1 * k.val = k.val by omega)
  | ⟨1, _⟩ => exact Fin.ext (show 4096 + 1 * l.val = 4096 + l.val by omega)

theorem ldWg_apply (arg2 : Memref sig .tc .vmem S1024x6272 .bf16) (harg2 : arg2.IsWhole) (x1 : Vec Ideal S1024x6272 .bf16) (k : Fin 1024) (l : Fin 128) :
    ldWg arg2 harg2 x1 (ix2 k l) = x1 (ix2 k ⟨6144 + l.val, by omega⟩) := by
  refine (harg2.readAt_unread x1 _ _).trans (congrArg x1 (funext fun q => ?_))
  match q with
  | ⟨0, _⟩ => exact Fin.ext (show 0 + 1 * k.val = k.val by omega)
  | ⟨1, _⟩ => exact Fin.ext (show 6144 + 1 * l.val = 6144 + l.val by omega)

theorem ldVec_apply (arg : Memref sig .tc .vmem S1x128 .f32) (harg : arg.IsWhole) (x : Vec Ideal S1x128 .f32) (l : Fin 128) :
    ldVec arg harg x (ix2 0 l) = x (ix2 0 l) := by
  refine (harg.readAt_unread x _ _).trans (congrArg x (funext fun q => ?_))
  match q with
  | ⟨0, _⟩ => exact Fin.ext (show 0 + 1 * 0 = 0 by omega)
  | ⟨1, _⟩ => exact Fin.ext (show 0 + 1 * l.val = l.val by omega)

theorem ldTap_apply (arg4 : Memref sig .tc .vmem S4x4096 .f32) (harg4 : arg4.IsWhole) (x3 : Vec Ideal S4x4096 .f32) (s o : ℕ) (hs : s + 1 ≤ 4) (h : o + 512 ≤ 4096) (b : Fin 512) :
    ldTap arg4 harg4 x3 s o hs h (ix2 0 b) = x3 (ix2 ⟨s, hs⟩ (col o h b)) := by
  refine (harg4.readAt_unread x3 _ _).trans (congrArg x3 (funext fun q => ?_))
  match q with
  | ⟨0, _⟩ => exact Fin.ext (show s + 1 * 0 = s by omega)
  | ⟨1, _⟩ => exact Fin.ext (show o + 1 * b.val = o + b.val by omega)

theorem ldHalo_apply (arg11 : Memref sig .tc .vmem S8x4096 .f32) (harg11 : arg11.IsWhole) (xs0 : Vec Ideal S8x4096 .f32) (o : ℕ) (h : o + 512 ≤ 4096) (a : Fin 8) (b : Fin 512) :
    ldHalo arg11 harg11 xs0 o h (ix2 a b) = xs0 (ix2 a (col o h b)) := by
  refine (harg11.readAt_unread xs0 _ _).trans (congrArg xs0 (funext fun q => ?_))
  match q with
  | ⟨0, _⟩ => exact Fin.ext (show 0 + 1 * a.val = a.val by omega)
  | ⟨1, _⟩ => exact Fin.ext (show o + 1 * b.val = o + b.val by omega)

/-- The modulated rows. -/
abbrev rowsOf (arg1 : Memref sig .tc .vmem S512x1024 .f32) (harg1 : arg1.IsWhole) (arg3 : Memref sig .tc .vmem S1x1x3072 .f32) (harg3 : arg3.IsWhole)
    (x0 : Vec Ideal S512x1024 .f32) (x2 : Vec Ideal S1x1x3072 .f32) : FVec Ideal S512x1024 .bf16 :=
  k0_pay2 (ldX arg1 harg1 x0) (ldMod arg3 harg3 x2 1024 (by decide)) (ldMod arg3 harg3 x2 0 (by decide))

theorem rowsOf_apply (arg1 : Memref sig .tc .vmem S512x1024 .f32) (harg1 : arg1.IsWhole) (arg3 : Memref sig .tc .vmem S1x1x3072 .f32) (harg3 : arg3.IsWhole)
    (x0 : Vec Ideal S512x1024 .f32) (x2 : Vec Ideal S1x1x3072 .f32) (a : Fin 512) (k : Fin 1024) :
    rowsOf arg1 harg1 arg3 harg3 x0 x2 (ix2 a k)
      = (x0 (ix2 a k) * (1 + x2 (ix3 0 0 ⟨1024 + k.val, by omega⟩)) + x2 (ix3 0 0 ⟨k.val, by omega⟩) : Ideal .f32) := by
  pointwise [k0_pay2]
  rw [ldX_apply, ldMod_apply, ldMod_apply]
  simp only [Nat.zero_add]

theorem project_apply (xb : FVec Ideal S512x1024 .bf16) (w : Vec Ideal S1024x512 .bf16) (a : Fin 512) (b : Fin 512) :
    project xb w (ix2 a b) = ∑ k : Fin 1024, (xb (ix2 a k) * w (ix2 k b) : EReal) := by
  pointwise [project]

section
variable (c : Dev nD) (i : grid0.Coords) (arg1 : Memref sig .tc .vmem S512x1024 .f32) (harg1 : arg1.IsWhole) (arg2 : Memref sig .tc .vmem S1024x6272 .bf16) (harg2 : arg2.IsWhole) (arg3 : Memref sig .tc .vmem S1x1x3072 .f32) (harg3 : arg3.IsWhole) (arg4 : Memref sig .tc .vmem S4x4096 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x4096 .f32) (harg7 : arg7.IsWhole) (arg8 : Memref sig .tc .vmem S512x2048 .f32) (harg8 : arg8.IsWhole) (arg9 : Memref sig .tc .vmem S512x128 .f32) (harg9 : arg9.IsWhole) (arg10 : Memref sig .tc .vmem S1x8x4096 .f32) (harg10 : arg10.IsWhole) (arg11 : Memref sig .tc .vmem S8x4096 .f32) (harg11 : arg11.IsWhole) (x0 : Vec Ideal S512x1024 .f32) (x1 : Vec Ideal S1024x6272 .bf16) (x2 : Vec Ideal S1x1x3072 .f32) (x3 : Vec Ideal S4x4096 .f32) (x4 : Vec Ideal S1x128 .f32) (x5 : Vec Ideal S1x128 .f32) (xs0 : Vec Ideal S8x4096 .f32)

/-- A group of columns of the projection is the tile's. -/
theorem group_apply (o : ℕ) (h : o + 512 ≤ 6272) (h' : o + 512 ≤ 4096) (a : Fin 512) (b : Fin 512) :
    project (rowsOf arg1 harg1 arg3 harg3 x0 x2) (ldW arg2 harg2 x1 o h) (ix2 a b) = tileX x0 x1 x2 a (col o h' b) := by
  rw [project_apply, tileX, tile]
  refine Finset.sum_congr rfl fun k _ => ?_
  rw [rowsOf_apply, ldW_apply]

/-- The taps' entries. -/
def tapsOf (x3 : FVec Ideal S4x4096 .f32) (s : Fin 4) (c : Fin 4096) : Ideal .f32 := x3 (ix2 s c)

/-- Eight rows' entries. -/
def rows8 (x : FVec Ideal S8x4096 .f32) (a : Fin 8) (c : Fin 4096) : Ideal .f32 := x (ix2 a c)

/-- The logarithm of one plus the exponential. -/
def softplus (t : Ideal .f32) : Ideal .f32 := max t 0 + Ideal.log1p (Ideal.exp (0 - FloatOps.absf t))

/-- The decays' entries: the first sixteen columns the decay, the others the step. -/
def decay (a dt p : Ideal .f32) (l : ℕ) : Ideal .f32 :=
  if l < 16 then (0 - Ideal.exp a) * softplus (p + dt) else Ideal.logistic p

@[inherit_doc decay]
def decays (x0 : FVec Ideal S512x1024 .f32) (x1 : FVec Ideal S1024x6272 .bf16) (x2 : FVec Ideal S1x1x3072 .f32)
    (x4 x5 : FVec Ideal S1x128 .f32) (r : Fin 512) (l : Fin 128) : Ideal .f32 :=
  decay (x4 (ix2 0 l)) (x5 (ix2 0 l)) (tile x0 x1 x2 r ⟨6144 + l.val, by omega⟩) l.val

/-- The comparison of a lane with sixteen. -/
theorem lane_lt (l : Fin 128) : IntOp.cmpi CmpIPredicate.slt (BitVec.ofNat 32 l.val) 16#32 = if l.val < 16 then 1#1 else 0#1 := by
  revert l; decide +kernel

theorem z_point (r : Fin 512) (l : Fin 2048) :
    k0_pay2678 (rowsOf arg1 harg1 arg3 harg3 x0 x2) (k0_pay2677 (ldWz arg2 harg2 x1)) (ix2 r l) = tile x0 x1 x2 r ⟨4096 + l.val, by omega⟩ := by
  rw [tile]
  pointwise [k0_pay2678, k0_pay2677]
  refine Finset.sum_congr rfl fun k _ => ?_
  refine congrArg₂ _ (rowsOf_apply arg1 harg1 arg3 harg3 x0 x2 r k) (ldWz_apply arg2 harg2 x1 k l)

theorem decay_point (r : Fin 512) (l : Fin 128) :
    k0_pay2679 (rowsOf arg1 harg1 arg3 harg3 x0 x2) (ldWg arg2 harg2 x1) (ldVec arg6 harg6 x5) (ldVec arg5 harg5 x4) (ix2 r l) = decays x0 x1 x2 x4 x5 r l := by
  have hs : (∑ k : Fin 1024, (rowsOf arg1 harg1 arg3 harg3 x0 x2 (ix2 r k) * ldWg arg2 harg2 x1 (ix2 k l) : EReal)) = tile x0 x1 x2 r ⟨6144 + l.val, by omega⟩ := by
    rw [tile]
    refine Finset.sum_congr rfl fun k _ => ?_
    rw [rowsOf_apply, ldWg_apply]
  rw [decays, decay, softplus, ← hs]
  pointwise [k0_pay2679]
  rw [ldVec_apply, ldVec_apply, lane_lt]
  split <;> rfl

/-- The carried rows as the convolution reads them: nothing before a sequence's first tile. -/
theorem halo_apply (o : ℕ) (h : o + 512 ≤ 4096) (H : Fin 8 → Fin 4096 → Ideal .f32)
    (hH : ∀ a c, H a c = if first i = 1#1 then 0 else rows8 xs0 a c) (a : Fin 8) (b : Fin 512) :
    Scalar.select (first i) (broadcast S8x512 (Scalar.ofBits .f32 0x00000000#32)) (ldHalo arg11 harg11 xs0 o h) (ix2 a b)
      = H a (col o h b) := by
  rw [hH]
  by_cases hf : first i = 1#1
  · rw [hf, if_pos rfl]
    show Ideal.ofBits .f32 0x00000000#32 = (0 : EReal)
    simp [Ideal.ofBits, Ideal.ieee]
  · rw [if_neg hf, rows8, ← ldHalo_apply arg11 harg11 xs0 o h a b]
    exact congrFun (show Scalar.select (first i) (broadcast S8x512 (Scalar.ofBits .f32 0x00000000#32)) (ldHalo arg11 harg11 xs0 o h) = _ from if_neg hf) (ix2 a b)

/-- What a point leaves in the convolution's block, -/
def convOut (x0 : FVec Ideal S512x1024 .f32) (x1 : FVec Ideal S1024x6272 .bf16) (x2 : FVec Ideal S1x1x3072 .f32) (x3 : FVec Ideal S4x4096 .f32)
    (H : Fin 8 → Fin 4096 → Ideal .f32) : FVec Ideal S512x4096 .f32 :=
  fun y => conv (tileX x0 x1 x2) H (tapsOf x3) (y 0) (y 1)

/-- in the gate's, -/
def zOut (x0 : FVec Ideal S512x1024 .f32) (x1 : FVec Ideal S1024x6272 .bf16) (x2 : FVec Ideal S1x1x3072 .f32) : FVec Ideal S512x2048 .f32 :=
  fun y => tile x0 x1 x2 (y 0) ⟨4096 + (y 1).val, Nat.lt_of_lt_of_le (Nat.add_lt_add_left (y 1).isLt 4096) (by decide)⟩

/-- in the decays', -/
def decayOut (x0 : FVec Ideal S512x1024 .f32) (x1 : FVec Ideal S1024x6272 .bf16) (x2 : FVec Ideal S1x1x3072 .f32)
    (x4 x5 : FVec Ideal S1x128 .f32) : FVec Ideal S512x128 .f32 :=
  fun y => decays x0 x1 x2 x4 x5 (y 0) (y 1)

/-- A tile's last eight rows. -/
abbrev lastRow (a : Fin 8) : Fin 512 := ⟨8 * 63 + a.val, by omega⟩

/-- in the carried rows, -/
def carriedOut (x0 : FVec Ideal S512x1024 .f32) (x1 : FVec Ideal S1024x6272 .bf16) (x2 : FVec Ideal S1x1x3072 .f32) : FVec Ideal S8x4096 .f32 :=
  fun y => tileX x0 x1 x2 (lastRow (y 0)) (y 1)

/-- and in the last rows' block. -/
def tailOut (x0 : FVec Ideal S512x1024 .f32) (x1 : FVec Ideal S1024x6272 .bf16) (x2 : FVec Ideal S1x1x3072 .f32) : FVec Ideal S1x8x4096 .f32 :=
  fun y => tileX x0 x1 x2 (lastRow (y 1)) (y 2)

/-- The stores into the convolution's block are the gated convolution of the tile. -/
theorem conv_value (H : Fin 8 → Fin 4096 → Ideal .f32)
    (hH : ∀ a c, H a c = if first i = 1#1 then 0 else rows8 xs0 a c) :
    ∀ p ∈ (kernelRun (F := Ideal) c i arg1 harg1 arg2 harg2 arg3 harg3 arg4 harg4 arg5 harg5 arg6 harg6 arg7 harg7 arg8 harg8 arg9 harg9 arg10 harg10 arg11 harg11 x0 x1 x2 x3 x4 x5 xs0).1, ∀ j, p.2 j = convOut x0 x1 x2 x3 H (p.1.emb j) := by
  rw [conv_stores]
  refine pieces_conv (tileX x0 x1 x2) H (tapsOf x3) _ 3584 (by decide) _ _ _ _ _ _
      (group_apply arg1 harg1 arg2 harg2 arg3 harg3 x0 x1 x2 3584 (by decide) (by decide)) (halo_apply i arg11 harg11 xs0 3584 (by decide) H hH)
      (ldTap_apply arg4 harg4 x3 0 3584 (by decide) (by decide)) (ldTap_apply arg4 harg4 x3 1 3584 (by decide) (by decide)) (ldTap_apply arg4 harg4 x3 2 3584 (by decide) (by decide)) (ldTap_apply arg4 harg4 x3 3 3584 (by decide) (by decide)) _ (?_) 64 (Nat.le_refl _)
  refine pieces_conv (tileX x0 x1 x2) H (tapsOf x3) _ 3072 (by decide) _ _ _ _ _ _
      (group_apply arg1 harg1 arg2 harg2 arg3 harg3 x0 x1 x2 3072 (by decide) (by decide)) (halo_apply i arg11 harg11 xs0 3072 (by decide) H hH)
      (ldTap_apply arg4 harg4 x3 0 3072 (by decide) (by decide)) (ldTap_apply arg4 harg4 x3 1 3072 (by decide) (by decide)) (ldTap_apply arg4 harg4 x3 2 3072 (by decide) (by decide)) (ldTap_apply arg4 harg4 x3 3 3072 (by decide) (by decide)) _ (?_) 64 (Nat.le_refl _)
  refine pieces_conv (tileX x0 x1 x2) H (tapsOf x3) _ 2560 (by decide) _ _ _ _ _ _
      (group_apply arg1 harg1 arg2 harg2 arg3 harg3 x0 x1 x2 2560 (by decide) (by decide)) (halo_apply i arg11 harg11 xs0 2560 (by decide) H hH)
      (ldTap_apply arg4 harg4 x3 0 2560 (by decide) (by decide)) (ldTap_apply arg4 harg4 x3 1 2560 (by decide) (by decide)) (ldTap_apply arg4 harg4 x3 2 2560 (by decide) (by decide)) (ldTap_apply arg4 harg4 x3 3 2560 (by decide) (by decide)) _ (?_) 64 (Nat.le_refl _)
  refine pieces_conv (tileX x0 x1 x2) H (tapsOf x3) _ 2048 (by decide) _ _ _ _ _ _
      (group_apply arg1 harg1 arg2 harg2 arg3 harg3 x0 x1 x2 2048 (by decide) (by decide)) (halo_apply i arg11 harg11 xs0 2048 (by decide) H hH)
      (ldTap_apply arg4 harg4 x3 0 2048 (by decide) (by decide)) (ldTap_apply arg4 harg4 x3 1 2048 (by decide) (by decide)) (ldTap_apply arg4 harg4 x3 2 2048 (by decide) (by decide)) (ldTap_apply arg4 harg4 x3 3 2048 (by decide) (by decide)) _ (?_) 64 (Nat.le_refl _)
  refine pieces_conv (tileX x0 x1 x2) H (tapsOf x3) _ 1536 (by decide) _ _ _ _ _ _
      (group_apply arg1 harg1 arg2 harg2 arg3 harg3 x0 x1 x2 1536 (by decide) (by decide)) (halo_apply i arg11 harg11 xs0 1536 (by decide) H hH)
      (ldTap_apply arg4 harg4 x3 0 1536 (by decide) (by decide)) (ldTap_apply arg4 harg4 x3 1 1536 (by decide) (by decide)) (ldTap_apply arg4 harg4 x3 2 1536 (by decide) (by decide)) (ldTap_apply arg4 harg4 x3 3 1536 (by decide) (by decide)) _ (?_) 64 (Nat.le_refl _)
  refine pieces_conv (tileX x0 x1 x2) H (tapsOf x3) _ 1024 (by decide) _ _ _ _ _ _
      (group_apply arg1 harg1 arg2 harg2 arg3 harg3 x0 x1 x2 1024 (by decide) (by decide)) (halo_apply i arg11 harg11 xs0 1024 (by decide) H hH)
      (ldTap_apply arg4 harg4 x3 0 1024 (by decide) (by decide)) (ldTap_apply arg4 harg4 x3 1 1024 (by decide) (by decide)) (ldTap_apply arg4 harg4 x3 2 1024 (by decide) (by decide)) (ldTap_apply arg4 harg4 x3 3 1024 (by decide) (by decide)) _ (?_) 64 (Nat.le_refl _)
  refine pieces_conv (tileX x0 x1 x2) H (tapsOf x3) _ 512 (by decide) _ _ _ _ _ _
      (group_apply arg1 harg1 arg2 harg2 arg3 harg3 x0 x1 x2 512 (by decide) (by decide)) (halo_apply i arg11 harg11 xs0 512 (by decide) H hH)
      (ldTap_apply arg4 harg4 x3 0 512 (by decide) (by decide)) (ldTap_apply arg4 harg4 x3 1 512 (by decide) (by decide)) (ldTap_apply arg4 harg4 x3 2 512 (by decide) (by decide)) (ldTap_apply arg4 harg4 x3 3 512 (by decide) (by decide)) _ (?_) 64 (Nat.le_refl _)
  refine pieces_conv (tileX x0 x1 x2) H (tapsOf x3) _ 0 (by decide) _ _ _ _ _ _
      (group_apply arg1 harg1 arg2 harg2 arg3 harg3 x0 x1 x2 0 (by decide) (by decide)) (halo_apply i arg11 harg11 xs0 0 (by decide) H hH)
      (ldTap_apply arg4 harg4 x3 0 0 (by decide) (by decide)) (ldTap_apply arg4 harg4 x3 1 0 (by decide) (by decide)) (ldTap_apply arg4 harg4 x3 2 0 (by decide) (by decide)) (ldTap_apply arg4 harg4 x3 3 0 (by decide) (by decide)) _ (?_) 64 (Nat.le_refl _)
  exact fun p hp => absurd hp (List.not_mem_nil)

/-- The store into the gate's block is the projection's columns. -/
theorem z_value : ∀ p ∈ (kernelRun (F := Ideal) c i arg1 harg1 arg2 harg2 arg3 harg3 arg4 harg4 arg5 harg5 arg6 harg6 arg7 harg7 arg8 harg8 arg9 harg9 arg10 harg10 arg11 harg11 x0 x1 x2 x3 x4 x5 xs0).2.1, ∀ j, p.2 j = zOut x0 x1 x2 (p.1.emb j) := by
  rw [z_stores]
  refine List.forall_mem_singleton.2 fun (j : S512x2048.Idx) => ?_
  have e := z_point arg1 harg1 arg2 harg2 arg3 harg3 x0 x1 x2 (j 0) (j 1)
  rw [← eq_ix2 j] at e
  exact e.trans (congrArg (zOut x0 x1 x2) (Rect.emb_unit_full (s := S512x2048) inb_S512x2048_S512x2048_0_0 j).symm)

/-- The store into the decays' block. -/
theorem decay_value : ∀ p ∈ (kernelRun (F := Ideal) c i arg1 harg1 arg2 harg2 arg3 harg3 arg4 harg4 arg5 harg5 arg6 harg6 arg7 harg7 arg8 harg8 arg9 harg9 arg10 harg10 arg11 harg11 x0 x1 x2 x3 x4 x5 xs0).2.2.1, ∀ j, p.2 j = decayOut x0 x1 x2 x4 x5 (p.1.emb j) := by
  rw [decay_stores]
  refine List.forall_mem_singleton.2 fun (j : S512x128.Idx) => ?_
  have e := decay_point arg1 harg1 arg2 harg2 arg3 harg3 arg5 harg5 arg6 harg6 x0 x1 x2 x4 x5 (j 0) (j 1)
  rw [← eq_ix2 j] at e
  exact e.trans (congrArg (decayOut x0 x1 x2 x4 x5) (Rect.emb_unit_full (s := S512x128) inb_S512x128_S512x128_0_0 j).symm)

/-- A store of the carried rows is the tile's last eight. -/
theorem carriedPiece_value (acc : FVec Ideal S512x512 .f32) (o : ℕ) (h : o + 512 ≤ 4096)
    (hacc : ∀ a b, acc (ix2 a b) = tileX x0 x1 x2 a (col o h b)) (j : S8x512.Idx) :
    (carriedPiece acc o h).2 j = carriedOut x0 x1 x2 ((carriedPiece acc o h).1.emb j) := by
  have e : (carriedPiece acc o h).2 j = acc (ix2 (lastRow (j 0)) (j 1)) := by
    refine Eq.trans ?_ (rowsAt_apply acc 63 (by decide) (j 0) (j 1))
    refine (congrArg _ (eq_ix2 j)).trans ?_
    show shapeCast S8x512 (rowsAt acc 63 (by decide)) shapeCasts_S8x512_S8x512 (ix2 (j 0) (j 1)) = _
    pointwise []
  refine e.trans ((hacc _ _).trans ?_)
  unfold carriedOut
  refine congrArg₂ (tileX x0 x1 x2) ?_ ?_
  · exact Fin.ext (show 8 * 63 + (j 0).val = 8 * 63 + (0 + 1 * (j 0).val) by omega)
  · exact Fin.ext (show o + (j 1).val = o + 1 * (j 1).val by omega)

/-- A store of the last rows is the tile's last eight. -/
theorem tailPiece_value (acc : FVec Ideal S512x512 .f32) (o : ℕ) (h : o + 512 ≤ 4096)
    (hacc : ∀ a b, acc (ix2 a b) = tileX x0 x1 x2 a (col o h b)) (j : S1x8x512.Idx) :
    (tailPiece acc o h).2 j = tailOut x0 x1 x2 ((tailPiece acc o h).1.emb j) := by
  have e : (tailPiece acc o h).2 j = acc (ix2 (lastRow (j 1)) (j 2)) := by
    refine Eq.trans ?_ (rowsAt_apply acc 63 (by decide) (j 1) (j 2))
    refine (congrArg _ (eq_ix3 j)).trans ?_
    show shapeCast S1x8x512 (rowsAt acc 63 (by decide)) shapeCasts_S8x512_S1x8x512 (ix3 (j 0) (j 1) (j 2)) = _
    rw [show j 0 = (0 : Fin 1) from Subsingleton.elim (α := Fin 1) _ _]
    pointwise []
  refine e.trans ((hacc _ _).trans ?_)
  unfold tailOut
  refine congrArg₂ (tileX x0 x1 x2) ?_ ?_
  · exact Fin.ext (show 8 * 63 + (j 1).val = 8 * 63 + (0 + 1 * (j 1).val) by omega)
  · exact Fin.ext (show o + (j 2).val = o + 1 * (j 2).val by omega)

/-- The stores of the carried rows. -/
theorem carried_value : ∀ p ∈ (kernelRun (F := Ideal) c i arg1 harg1 arg2 harg2 arg3 harg3 arg4 harg4 arg5 harg5 arg6 harg6 arg7 harg7 arg8 harg8 arg9 harg9 arg10 harg10 arg11 harg11 x0 x1 x2 x3 x4 x5 xs0).2.2.2.2.1, ∀ j, p.2 j = carriedOut x0 x1 x2 (p.1.emb j) := by
  rw [carried_stores]
  refine List.forall_mem_cons.2 ⟨carriedPiece_value x0 x1 x2 _ 3584 (by decide) (group_apply arg1 harg1 arg2 harg2 arg3 harg3 x0 x1 x2 3584 (by decide) (by decide)),
    (List.forall_mem_cons.2 ⟨carriedPiece_value x0 x1 x2 _ 3072 (by decide) (group_apply arg1 harg1 arg2 harg2 arg3 harg3 x0 x1 x2 3072 (by decide) (by decide)),
    (List.forall_mem_cons.2 ⟨carriedPiece_value x0 x1 x2 _ 2560 (by decide) (group_apply arg1 harg1 arg2 harg2 arg3 harg3 x0 x1 x2 2560 (by decide) (by decide)),
    (List.forall_mem_cons.2 ⟨carriedPiece_value x0 x1 x2 _ 2048 (by decide) (group_apply arg1 harg1 arg2 harg2 arg3 harg3 x0 x1 x2 2048 (by decide) (by decide)),
    (List.forall_mem_cons.2 ⟨carriedPiece_value x0 x1 x2 _ 1536 (by decide) (group_apply arg1 harg1 arg2 harg2 arg3 harg3 x0 x1 x2 1536 (by decide) (by decide)),
    (List.forall_mem_cons.2 ⟨carriedPiece_value x0 x1 x2 _ 1024 (by decide) (group_apply arg1 harg1 arg2 harg2 arg3 harg3 x0 x1 x2 1024 (by decide) (by decide)),
    (List.forall_mem_cons.2 ⟨carriedPiece_value x0 x1 x2 _ 512 (by decide) (group_apply arg1 harg1 arg2 harg2 arg3 harg3 x0 x1 x2 512 (by decide) (by decide)),
    (List.forall_mem_cons.2 ⟨carriedPiece_value x0 x1 x2 _ 0 (by decide) (group_apply arg1 harg1 arg2 harg2 arg3 harg3 x0 x1 x2 0 (by decide) (by decide)),
    (List.forall_mem_nil _)⟩)⟩)⟩)⟩)⟩)⟩)⟩)⟩

/-- The stores of the last rows. -/
theorem tail_value : ∀ p ∈ (kernelRun (F := Ideal) c i arg1 harg1 arg2 harg2 arg3 harg3 arg4 harg4 arg5 harg5 arg6 harg6 arg7 harg7 arg8 harg8 arg9 harg9 arg10 harg10 arg11 harg11 x0 x1 x2 x3 x4 x5 xs0).2.2.2.1, ∀ j, p.2 j = tailOut x0 x1 x2 (p.1.emb j) := by
  rw [tail_stores]
  refine List.forall_mem_cons.2 ⟨tailPiece_value x0 x1 x2 _ 3584 (by decide) (group_apply arg1 harg1 arg2 harg2 arg3 harg3 x0 x1 x2 3584 (by decide) (by decide)),
    (List.forall_mem_cons.2 ⟨tailPiece_value x0 x1 x2 _ 3072 (by decide) (group_apply arg1 harg1 arg2 harg2 arg3 harg3 x0 x1 x2 3072 (by decide) (by decide)),
    (List.forall_mem_cons.2 ⟨tailPiece_value x0 x1 x2 _ 2560 (by decide) (group_apply arg1 harg1 arg2 harg2 arg3 harg3 x0 x1 x2 2560 (by decide) (by decide)),
    (List.forall_mem_cons.2 ⟨tailPiece_value x0 x1 x2 _ 2048 (by decide) (group_apply arg1 harg1 arg2 harg2 arg3 harg3 x0 x1 x2 2048 (by decide) (by decide)),
    (List.forall_mem_cons.2 ⟨tailPiece_value x0 x1 x2 _ 1536 (by decide) (group_apply arg1 harg1 arg2 harg2 arg3 harg3 x0 x1 x2 1536 (by decide) (by decide)),
    (List.forall_mem_cons.2 ⟨tailPiece_value x0 x1 x2 _ 1024 (by decide) (group_apply arg1 harg1 arg2 harg2 arg3 harg3 x0 x1 x2 1024 (by decide) (by decide)),
    (List.forall_mem_cons.2 ⟨tailPiece_value x0 x1 x2 _ 512 (by decide) (group_apply arg1 harg1 arg2 harg2 arg3 harg3 x0 x1 x2 512 (by decide) (by decide)),
    (List.forall_mem_cons.2 ⟨tailPiece_value x0 x1 x2 _ 0 (by decide) (group_apply arg1 harg1 arg2 harg2 arg3 harg3 x0 x1 x2 0 (by decide) (by decide)),
    (List.forall_mem_nil _)⟩)⟩)⟩)⟩)⟩)⟩)⟩)⟩

end

end Cert.DnInTile

end
-- ==== Proof.DnInFrame.lean ====
/-
  The delta network's input projection with its convolution, over the extended reals: what every grid point leaves in
  the outputs' blocks and in the carried rows, the grid's run, and the frame.
-/
module

public import proofs.«01_k».proof.Proof.DnInTile
public import Idealize.ShloMosaic.Lib.Claim

@[expose] public section

set_option maxRecDepth 16384

noncomputable section

namespace Cert.DnInFrame

open Cert.DnInTile Cert.DnInPieces Cert.DnInRun Cert.DnInBlock Cert.DnInIdeal Cert.DnInIdeal.Gen Cert.DnInIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- A point's blocks of the activations, the weights and the modulation, as plain vectors. -/
abbrev bx (c : Dev nD) (t : Fin cfg0.N) : FVec Ideal S512x1024 .f32 := iblk m c 0 t
abbrev bw (c : Dev nD) (t : Fin cfg0.N) : FVec Ideal S1024x6272 .bf16 := iblk m c 1 t
abbrev bm (c : Dev nD) (t : Fin cfg0.N) : FVec Ideal S1x1x3072 .f32 := iblk m c 2 t
abbrev bt (c : Dev nD) (t : Fin cfg0.N) : FVec Ideal S4x4096 .f32 := iblk m c 3 t
abbrev ba (c : Dev nD) (t : Fin cfg0.N) : FVec Ideal S1x128 .f32 := iblk m c 4 t
abbrev bd (c : Dev nD) (t : Fin cfg0.N) : FVec Ideal S1x128 .f32 := iblk m c 5 t

/-- The rows a point carries to the next. -/
def carriedAt (c : Dev nD) (t : Fin cfg0.N) : FVec Ideal S8x4096 .f32 :=
  carriedOut (bx m c t) (bw m c t) (bm m c t)

/-- The point before. -/
def prev (t : Fin cfg0.N) : Fin cfg0.N := ⟨t.val - 1, Nat.lt_of_le_of_lt (Nat.sub_le _ _) t.isLt⟩

/-- The eight rows before a point's tile: zero before a sequence's first tile, the last rows of the tile before otherwise. -/
def halo (c : Dev nD) (t : Fin cfg0.N) (a : Fin 8) (k : Fin 4096) : Ideal .f32 :=
  if t.val % 8 = 0 then 0 else rows8 (carriedAt m c (prev t)) a k

/-- What is known of the carried rows before point `n`: inside a sequence they are the last rows of the tile before. -/
def Known (c : Dev nD) (n : ℕ) (d : FVec Ideal S8x4096 .f32) : Prop :=
  ∀ s : Fin cfg0.N, s.val + 1 = n → d = carriedAt m c s

/-- The first tile of a sequence is where the second grid coordinate is zero. -/
theorem first_iff : ∀ t : Fin cfg0.N, first (grid0.coords t) = 1#1 ↔ t.val % 8 = 0 :=
  (by decide +kernel : ∀ t : Fin grid0.N, first (grid0.coords t) = 1#1 ↔ t.val % 8 = 0)

/-- The carried rows as the body reads them at a point. -/
theorem halo_known (c : Dev nD) (t : Fin cfg0.N) (d : FVec Ideal S8x4096 .f32) (hd : Known m c t.val d) (a : Fin 8) (k : Fin 4096) :
    halo m c t a k = if first (grid0.coords t) = 1#1 then 0 else rows8 d a k := by
  unfold halo
  by_cases h : t.val % 8 = 0
  · rw [if_pos h, if_pos ((first_iff t).2 h)]
  · rw [if_neg h, if_neg (fun h' => h ((first_iff t).1 h')), hd (prev t) (by show t.val - 1 + 1 = t.val; omega)]

/-- The grid's proof data: the inputs' blocks unchanged, the outputs' at what a point computes, and the carried rows known. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => convOut (bx m c t) (bw m c t) (bm m c t) (bt m c t) (halo m c t)
    | ⟨7, _⟩ => zOut (bx m c t) (bw m c t) (bm m c t)
    | ⟨8, _⟩ => decayOut (bx m c t) (bw m c t) (bm m c t) (ba m c t) (bd m c t)
    | ⟨9, _⟩ => tailOut (bx m c t) (bw m c t) (bm m c t)
  Φ t := iprop((∃ d, ⌜Known m c t.val d⌝ ∗ owns (c : Thread nD τ) scM0_0 fullShare d) ∗ (∃ r, prngReg c r))
  q _ := fullShare
  owed _ := 0

/-- The arrays are what the grid finds. -/
theorem A_eq (c : Dev nD) (w : Fin cfg0.W) : (dats m 0 c).A w = V m c (Pipeline.arrRef spec0 w) := by
  dsimp only [dats]

/-- What a point leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = convOut (bx m c t) (bw m c t) (bm m c t) (bt m c t) (halo m c t) := by dsimp only [dats]
theorem after0_7 (c : Dev nD) (t : Fin cfg0.N) : (dats m 0 c).after 7 t = zOut (bx m c t) (bw m c t) (bm m c t) := by dsimp only [dats]
theorem after0_8 (c : Dev nD) (t : Fin cfg0.N) : (dats m 0 c).after 8 t = decayOut (bx m c t) (bw m c t) (bm m c t) (ba m c t) (bd m c t) := by dsimp only [dats]
theorem after0_9 (c : Dev nD) (t : Fin cfg0.N) : (dats m 0 c).after 9 t = tailOut (bx m c t) (bw m c t) (bm m c t) := by dsimp only [dats]

/-- The inputs' blocks as the body finds them. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

/-- After a point the carried rows are its tile's last. -/
theorem known_next (c : Dev nD) (t : Fin cfg0.N) (d : FVec Ideal S8x4096 .f32) (hd : d = carriedAt m c t) : Known m c (t.val + 1) d :=
  fun s hs => hd.trans (congrArg (carriedAt m c) (Fin.ext (by omega)))

set_option maxHeartbeats 8000000 in
/-- The body at any point: the kernel's run from the inputs' blocks and the carried rows, its stores read back. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8, after0_9]
  rw [show (dats m 0 c).Φ t.castSucc = iprop((∃ d, ⌜Known m c t.val d⌝ ∗ owns (c : Thread nD τ) scM0_0 fullShare d) ∗ (∃ r, prngReg c r)) from rfl,
    show (dats m 0 c).Φ t.succ = iprop((∃ d, ⌜Known m c (t.val + 1) d⌝ ∗ owns (c : Thread nD τ) scM0_0 fullShare d) ∗ (∃ r, prngReg c r)) from rfl]
  iintro ⟨⟨⟨%ds, %hds, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun (F := Ideal) c (grid0.coords t) _ _ _ _ _ _ _ _ _ _ _ _ _ _ _ _ _ _ _ _ _ _ (iblk m c 0 t) (iblk m c 1 t) (iblk m c 2 t) (iblk m c 3 t) (iblk m c 4 t) (iblk m c 5 t) ds).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  iintro ⟨H0, H1, H2, H3, H4, H5, ⟨%e6, H6⟩, ⟨%e7, H7⟩, ⟨%e8, H8⟩, ⟨%e9, H9⟩, ⟨%es0, HS0⟩⟩
  isplitl [HS0 Hg]
  · isplitl [HS0]
    · iexists _
      isplitr
      swap
      · unfold owns; iexists _; isplitr
        swap; · iexact HS0
        ipureintro; rfl
      ipureintro
      refine known_next m c t _ ?_
      exact (View.read_writes_eq_canon _ _ _ (carried_cover _ _ _ _ _ _ _ _ _ _ _ _ _ _ _ _ _ _ _ _ _ _ _ _ _ _ _ _ _ _ _)).trans
        (funext fun y => View.canon_apply_of_pieces _ _ (carried_value _ _ _ _ _ _ _ _ _ _ _ _ _ _ _ _ _ _ _ _ _ _ _ _ _ _ _ _ _ _ _) y (carried_cover _ _ _ _ _ _ _ _ _ _ _ _ _ _ _ _ _ _ _ _ _ _ _ _ _ _ _ _ _ _ _ y))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    exact (View.read_writes_eq_canon _ _ _ (conv_cover _ _ _ _ _ _ _ _ _ _ _ _ _ _ _ _ _ _ _ _ _ _ _ _ _ _ _ _ _ _ _)).trans
      (funext fun y => View.canon_apply_of_pieces _ _ (conv_value _ _ _ _ _ _ _ _ _ _ _ _ _ _ _ _ _ _ _ _ _ _ _ _ _ _ _ _ _ _ _ _ (halo_known m c t ds hds)) y (conv_cover _ _ _ _ _ _ _ _ _ _ _ _ _ _ _ _ _ _ _ _ _ _ _ _ _ _ _ _ _ _ _ y))
  isplitl [H7]
  · unfold owns; iexists _; isplitr
    swap; · iexact H7
    ipureintro
    exact (View.read_writes_eq_canon _ _ _ (z_cover _ _ _ _ _ _ _ _ _ _ _ _ _ _ _ _ _ _ _ _ _ _ _ _ _ _ _ _ _ _ _)).trans
      (funext fun y => View.canon_apply_of_pieces _ _ (z_value _ _ _ _ _ _ _ _ _ _ _ _ _ _ _ _ _ _ _ _ _ _ _ _ _ _ _ _ _ _ _) y (z_cover _ _ _ _ _ _ _ _ _ _ _ _ _ _ _ _ _ _ _ _ _ _ _ _ _ _ _ _ _ _ _ y))
  isplitl [H8]
  · unfold owns; iexists _; isplitr
    swap; · iexact H8
    ipureintro
    exact (View.read_writes_eq_canon _ _ _ (decay_cover _ _ _ _ _ _ _ _ _ _ _ _ _ _ _ _ _ _ _ _ _ _ _ _ _ _ _ _ _ _ _)).trans
      (funext fun y => View.canon_apply_of_pieces _ _ (decay_value _ _ _ _ _ _ _ _ _ _ _ _ _ _ _ _ _ _ _ _ _ _ _ _ _ _ _ _ _ _ _) y (decay_cover _ _ _ _ _ _ _ _ _ _ _ _ _ _ _ _ _ _ _ _ _ _ _ _ _ _ _ _ _ _ _ y))
  unfold owns; iexists _; isplitr
  swap; · iexact H9
  ipureintro
  exact (View.read_writes_eq_canon _ _ _ (tail_cover _ _ _ _ _ _ _ _ _ _ _ _ _ _ _ _ _ _ _ _ _ _ _ _ _ _ _ _ _ _ _)).trans
    (funext fun y => View.canon_apply_of_pieces _ _ (tail_value _ _ _ _ _ _ _ _ _ _ _ _ _ _ _ _ _ _ _ _ _ _ _ _ _ _ _ _ _ _ _) y (tail_cover _ _ _ _ _ _ _ _ _ _ _ _ _ _ _ _ _ _ _ _ _ _ _ _ _ _ _ _ _ _ _ y))

/-- The body table's row is the body. -/
theorem defs₀_row (t : Fin cfg0.N) :
    defs₀ (F := Ideal) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands over gives the invariant before the first point, -/
theorem hin (c : Dev nD) : Pipeline.ΦA spec0 c ⊢ (dats m 0 c).Φ 0 := by
  rw [show (dats m 0 c).Φ 0 = iprop((∃ d, ⌜Known m c 0 d⌝ ∗ owns (c : Thread nD τ) scM0_0 fullShare d) ∗ (∃ r, prngReg c r)) from rfl, PhiA_eq]
  iintro ⟨⟨%d, HS0⟩, Hg⟩
  isplitl [HS0]
  · iexists d
    isplitr
    · ipureintro; exact fun s hs => absurd hs (Nat.succ_ne_zero _)
    iexact HS0
  iexact Hg

/-- and the invariant after the last point gives it back. -/
theorem hout (c : Dev nD) : (dats m 0 c).Φ (Fin.last cfg0.N) ⊢ Pipeline.ΦA spec0 c := by
  rw [show (dats m 0 c).Φ (Fin.last cfg0.N) = iprop((∃ d, ⌜Known m c (Fin.last cfg0.N).val d⌝ ∗ owns (c : Thread nD τ) scM0_0 fullShare d) ∗ (∃ r, prngReg c r)) from rfl, PhiA_eq]
  iintro ⟨⟨%d, -, HS0⟩, Hg⟩
  isplitl [HS0]
  · iexists d; iexact HS0
  iexact Hg

set_option backward.isDefEq.respectTransparency.types false in
set_option maxHeartbeats 800000 in
/-- The whole program's run: every array at what the points computed, every counter at zero. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the arguments end unchanged, the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.DnInFrame

end
-- ==== Proof.DnInReference.lean ====
/-
  The delta network's input projection with its convolution, as the reference computes it: the modulated rows times the
  weights, three zero rows before every sequence, the four taps, the gate, and the decays; read entry by entry.
-/
module

public import proofs.«01_k».proof.Proof.Gen.DnInRefIdeal.Run
public import proofs.«01_k».proof.Proof.DnInTile
public import Idealize.ShloMosaic.Lib.Claim

@[expose] public section

set_option maxRecDepth 16384

noncomputable section

open Idealize.ShloMosaic Idealize.ShloMosaic.TcCoe Idealize.SL.Sem

namespace Cert.DnInReference

open Cert.DnInRefIdeal Cert.DnInRefIdeal.Gen Cert.DnInRefIdeal.Facts

variable (x : FVec Ideal S4x4096x1024 .f32) (mod : FVec Ideal S4x3072 .f32) (w : FVec Ideal S1024x6176 .f32)
  (cw : FVec Ideal S4x4096 .f32) (al db : FVec Ideal S16 .f32)

/-- The projection. -/
def proj : FVec Ideal S4x4096x6176 .f32 :=
  Host.dotGeneral dot_S4x4096x1024_S1024x6176_S4x4096x6176_2_0_01_1_n_n none (addf (mulf x (broadcastInDim S4x4096x1024 ![0, 1, 2] bcast_S4x1x1024_S4x4096x1024_0_1_2 (addf (broadcastInDim S4x1x1024 ![] bcast_S_S4x1x1024 (constant S_ .f32 0x3F800000#32)) (extractStridedSlice S4x1x1024 ![0, 0, 1024] (broadcastInDim S4x1x3072 ![0, 2] bcast_S4x3072_S4x1x3072_0_2 mod) slices_S4x1x3072_S4x1x1024_0_0_1024)))) (broadcastInDim S4x4096x1024 ![0, 1, 2] bcast_S4x1x1024_S4x4096x1024_0_1_2 (extractStridedSlice S4x1x1024 ![0, 0, 0] (broadcastInDim S4x1x3072 ![0, 2] bcast_S4x3072_S4x1x3072_0_2 mod) slices_S4x1x3072_S4x1x1024_0_0_0))) w

/-- The convolution's columns of it, three zero rows before them. -/
def padded : FVec Ideal S4x4099x4096 .f32 :=
  concatenate S4x4099x4096 1 [⟨S4x3x4096, (broadcastInDim S4x3x4096 ![] bcast_S_S4x3x4096 (constant S_ .f32 0x00000000#32))⟩, ⟨S4x4096x4096, (extractStridedSlice S4x4096x4096 ![0, 0, 0] (proj x mod w) slices_S4x4096x6176_S4x4096x4096_0_0_0)⟩] concatenates_S4x3x4096_S4x4096x4096_S4x4099x4096_d1

/-- The four taps' sum. -/
def summed : FVec Ideal S4x4096x4096 .f32 :=
  addf (addf (addf (mulf (extractStridedSlice S4x4096x4096 ![0, 0, 0] (padded x mod w) slices_S4x4099x4096_S4x4096x4096_0_0_0) (broadcastInDim S4x4096x4096 ![0, 1, 2] bcast_S1x1x4096_S4x4096x4096_0_1_2 (broadcastInDim S1x1x4096 ![2] bcast_S4096_S1x1x4096_2 (shapeCast _ (extractStridedSlice S1x4096 ![0, 0] cw slices_S4x4096_S1x4096_0_0) shapeCasts_S1x4096_S4096)))) (mulf (extractStridedSlice S4x4096x4096 ![0, 1, 0] (padded x mod w) slices_S4x4099x4096_S4x4096x4096_0_1_0) (broadcastInDim S4x4096x4096 ![0, 1, 2] bcast_S1x1x4096_S4x4096x4096_0_1_2 (broadcastInDim S1x1x4096 ![2] bcast_S4096_S1x1x4096_2 (shapeCast _ (extractStridedSlice S1x4096 ![1, 0] cw slices_S4x4096_S1x4096_1_0) shapeCasts_S1x4096_S4096))))) (mulf (extractStridedSlice S4x4096x4096 ![0, 2, 0] (padded x mod w) slices_S4x4099x4096_S4x4096x4096_0_2_0) (broadcastInDim S4x4096x4096 ![0, 1, 2] bcast_S1x1x4096_S4x4096x4096_0_1_2 (broadcastInDim S1x1x4096 ![2] bcast_S4096_S1x1x4096_2 (shapeCast _ (extractStridedSlice S1x4096 ![2, 0] cw slices_S4x4096_S1x4096_2_0) shapeCasts_S1x4096_S4096))))) (mulf (extractStridedSlice S4x4096x4096 ![0, 3, 0] (padded x mod w) slices_S4x4099x4096_S4x4096x4096_0_3_0) (broadcastInDim S4x4096x4096 ![0, 1, 2] bcast_S1x1x4096_S4x4096x4096_0_1_2 (broadcastInDim S1x1x4096 ![2] bcast_S4096_S1x1x4096_2 (shapeCast _ (extractStridedSlice S1x4096 ![3, 0] cw slices_S4x4096_S1x4096_3_0) shapeCasts_S1x4096_S4096))))

/-- The steps' columns with their offsets. -/
def steps : FVec Ideal S4x4096x16 .f32 :=
  addf (extractStridedSlice S4x4096x16 ![0, 0, 6144] (proj x mod w) slices_S4x4096x6176_S4x4096x16_0_0_6144) (broadcastInDim S4x4096x16 ![0, 1, 2] bcast_S1x1x16_S4x4096x16_0_1_2 (broadcastInDim S1x1x16 ![2] bcast_S16_S1x1x16_2 db))

/-- The logarithm of one plus the exponential. -/
def soft (t : FVec Ideal S4x4096x16 .f32) : FVec Ideal S4x4096x16 .f32 :=
  select (cmpf .une (subf t (broadcastInDim S4x4096x16 ![] bcast_S_S4x4096x16 (constant S_ .f32 0x00000000#32))) (subf t (broadcastInDim S4x4096x16 ![] bcast_S_S4x4096x16 (constant S_ .f32 0x00000000#32)))) (addf t (broadcastInDim S4x4096x16 ![] bcast_S_S4x4096x16 (constant S_ .f32 0x00000000#32))) (addf (maximumf t (broadcastInDim S4x4096x16 ![] bcast_S_S4x4096x16 (constant S_ .f32 0x00000000#32))) (Host.log1p (Host.exp (Host.negf (Host.absf (subf t (broadcastInDim S4x4096x16 ![] bcast_S_S4x4096x16 (constant S_ .f32 0x00000000#32))))))))

/-- The four results: the gated convolution, -/
def convRes : FVec Ideal S16384x4096 .f32 :=
  shapeCast _ (mulf (summed x mod w cw) (Host.divf (broadcastInDim S4x4096x4096 ![] bcast_S_S4x4096x4096 (constant S_ .f32 0x3F800000#32)) (addf (broadcastInDim S4x4096x4096 ![] bcast_S_S4x4096x4096 (constant S_ .f32 0x3F800000#32)) (Host.exp (Host.negf (summed x mod w cw)))))) shapeCasts_S4x4096x4096_S16384x4096

/-- the gate's columns, -/
def zRes : FVec Ideal S16384x2048 .f32 :=
  shapeCast _ (extractStridedSlice S4x4096x2048 ![0, 0, 4096] (proj x mod w) slices_S4x4096x6176_S4x4096x2048_0_0_4096) shapeCasts_S4x4096x2048_S16384x2048

/-- the decays and the steps, -/
def decayRes : FVec Ideal S16384x32 .f32 :=
  shapeCast _ (concatenate S4x4096x32 2 [⟨S4x4096x16, (mulf (broadcastInDim S4x4096x16 ![0, 1, 2] bcast_S1x1x16_S4x4096x16_0_1_2 (broadcastInDim S1x1x16 ![2] bcast_S16_S1x1x16_2 (Host.negf (Host.exp al)))) (soft (steps x mod w db)))⟩, ⟨S4x4096x16, (Host.divf (broadcastInDim S4x4096x16 ![] bcast_S_S4x4096x16 (constant S_ .f32 0x3F800000#32)) (addf (broadcastInDim S4x4096x16 ![] bcast_S_S4x4096x16 (constant S_ .f32 0x3F800000#32)) (Host.exp (Host.negf (extractStridedSlice S4x4096x16 ![0, 0, 6160] (proj x mod w) slices_S4x4096x6176_S4x4096x16_0_0_6160)))))⟩] concatenates_S4x4096x16_S4x4096x16_S4x4096x32_d2) shapeCasts_S4x4096x32_S16384x32

/-- and every sequence's last three rows. -/
def tailRes : FVec Ideal S4x3x4096 .f32 :=
  extractStridedSlice S4x3x4096 ![0, 4096, 0] (padded x mod w) slices_S4x4099x4096_S4x3x4096_0_4096_0

/-- The projection's entry. -/
def entry (b : Fin 4) (s : Fin 4096) (l : Fin 6176) : Ideal .f32 :=
  ∑ k : Fin 1024, (x (ix3 b s k) * (1 + mod (ix2 b ⟨1024 + k.val, by omega⟩)) + mod (ix2 b ⟨k.val, by omega⟩)) * w (ix2 k l)

/-- The rows the convolution reads: nothing before a sequence, its rows afterwards. -/
def before (b : Fin 4) (s d : ℕ) (hs : s < 4096) (l : Fin 4096) : Ideal .f32 :=
  if h : d ≤ s then entry x mod w b ⟨s - d, by omega⟩ ⟨l.val, by omega⟩ else 0

theorem proj_apply (b : Fin 4) (s : Fin 4096) (l : Fin 6176) : proj x mod w (ix3 b s l) = entry x mod w b s l := by
  rw [entry]
  pointwise [proj]

theorem padded_apply (b : Fin 4) (s : Fin 4099) (l : Fin 4096) :
    padded x mod w (ix3 b s l) = if h : s.val < 3 then 0 else entry x mod w b ⟨s.val - 3, by omega⟩ ⟨l.val, by omega⟩ := by
  pointwise [padded]
  split
  · rfl
  · exact proj_apply x mod w _ _ _

theorem summed_apply (b : Fin 4) (s l : Fin 4096) :
    summed x mod w cw (ix3 b s l)
      = before x mod w b s.val 3 s.isLt l * cw (ix2 0 l) + before x mod w b s.val 2 s.isLt l * cw (ix2 1 l)
        + before x mod w b s.val 1 s.isLt l * cw (ix2 2 l) + entry x mod w b s ⟨l.val, by omega⟩ * cw (ix2 3 l) := by
  have hb : ∀ (d : ℕ) (_ : d ≤ 3) (u : Fin 4099) (_ : u.val + d = s.val + 3),
      padded x mod w (ix3 b u l) = before x mod w b s.val d s.isLt l := fun d hd u hu => by
    rw [padded_apply, before]
    by_cases h : d ≤ s.val
    · rw [dif_pos h, dif_neg (by omega)]
      exact congrArg (fun v => entry x mod w b v _) (Fin.ext (by dsimp only; omega))
    · rw [dif_neg h, dif_pos (by omega)]
  have h0 : before x mod w b s.val 0 s.isLt l = entry x mod w b s ⟨l.val, by omega⟩ := by
    rw [before, dif_pos (Nat.zero_le _)]
    rfl
  have hs := s.isLt
  pointwise [summed]
  rw [hb 3 (by omega) _ (by dsimp only), hb 2 (by omega) _ (by dsimp only; omega), hb 1 (by omega) _ (by dsimp only; omega),
    hb 0 (by omega) _ (by dsimp only; omega), h0]

theorem convRes_apply (i : Fin 16384) (l : Fin 4096) :
    convRes x mod w cw (ix2 i l) = DnInBlock.silu (summed x mod w cw (ix3 ⟨i.val / 4096, by omega⟩ ⟨i.val % 4096, by omega⟩ l)) := by
  pointwise [convRes]
  rfl

theorem zRes_apply (i : Fin 16384) (l : Fin 2048) :
    zRes x mod w (ix2 i l) = entry x mod w ⟨i.val / 4096, by omega⟩ ⟨i.val % 4096, by omega⟩ ⟨4096 + l.val, by omega⟩ := by
  pointwise [zRes]
  exact proj_apply x mod w _ _ _

theorem soft_apply (t : FVec Ideal S4x4096x16 .f32) (b : Fin 4) (s : Fin 4096) (l : Fin 16) :
    soft t (ix3 b s l) = DnInTile.softplus (t (ix3 b s l)) := by
  pointwise [soft]
  rw [if_neg (fun h => h rfl), DnInTile.softplus, zero_sub]

theorem decayRes_apply (i : Fin 16384) (l : Fin 32) :
    decayRes x mod w al db (ix2 i l) = if h : l.val < 16 then (0 - Ideal.exp (al (ix1 ⟨l.val, h⟩))) * DnInTile.softplus (entry x mod w ⟨i.val / 4096, by omega⟩ ⟨i.val % 4096, by omega⟩ ⟨6144 + l.val, by omega⟩ + db (ix1 ⟨l.val, h⟩))
      else Ideal.logistic (entry x mod w ⟨i.val / 4096, by omega⟩ ⟨i.val % 4096, by omega⟩ ⟨6144 + l.val, by omega⟩) := by
  pointwise [decayRes]
  split
  · rename_i h
    rw [soft_apply, zero_sub]
    pointwise [steps]
    rw [proj_apply]
  · rename_i h
    rw [proj_apply]
    have e : (⟨6160 + (l.val - 16), by omega⟩ : Fin 6176) = ⟨6144 + l.val, by omega⟩ := Fin.ext (by dsimp only; omega)
    rw [e]
    rfl

theorem tailRes_apply (b : Fin 4) (j : Fin 3) (l : Fin 4096) :
    tailRes x mod w (ix3 b j l) = entry x mod w b ⟨4093 + j.val, by omega⟩ ⟨l.val, by omega⟩ := by
  pointwise [tailRes]
  rw [padded_apply, dif_neg (by dsimp only; omega)]
  exact congrArg (fun v => entry x mod w b v _) (Fin.ext (by dsimp only; omega))

end Cert.DnInReference

end
-- ==== Proof.DnInEntries.lean ====
/-
  The delta network's input projection with its convolution: every block the kernel reads, and what a grid point computes
  of them, in the reference's terms.
-/
module

public import proofs.«01_k».proof.Proof.DnInFrame
public import proofs.«01_k».proof.Proof.DnInReference
public import Idealize.ShloMosaic.Lib.Pipeline.ValueKit

@[expose] public section

set_option maxRecDepth 16384

noncomputable section

open Idealize.ShloMosaic Idealize.ShloMosaic.TcCoe Idealize.SL.Sem Idealize.ShloMosaic.Pipeline

namespace Cert.DnInEq

open Cert.DnInFrame Cert.DnInTile Cert.DnInBlock Cert.DnInIdeal Cert.DnInIdeal.Gen Cert.DnInIdeal.Facts

variable (m : (ℓ : Loc nD τ sig) → Buf (Elt Ideal) ℓ)

/-- Where each window's block lies at every grid point. -/
theorem idx : ∀ t : Fin cfg0.N,
    win0_0.index t = ![t.val, 0] ∧ win0_1.index t = ![0, 0] ∧ win0_2.index t = ![t.val / 8, 0, 0] ∧ win0_3.index t = ![0, 0]
    ∧ win0_4.index t = ![0, 0] ∧ win0_5.index t = ![0, 0] ∧ win0_6.index t = ![t.val, 0] ∧ win0_7.index t = ![t.val, 0]
    ∧ win0_8.index t = ![t.val, 0] ∧ win0_9.index t = ![t.val / 8, 0, 0] :=
  (by decide +kernel : ∀ t : Fin grid0.N, _)

/-- The array row that row `r` of grid point `t`'s blocks is. -/
abbrev arow (t : Fin cfg0.N) (r : Fin 512) : Fin 16384 := ⟨t.val * 512 + r.val, by have : t.val < 32 := t.isLt; omega⟩

/-- The sequence grid point `t` works on, -/
abbrev seq (t : Fin cfg0.N) : Fin 4 := ⟨t.val / 8, by have : t.val < 32 := t.isLt; omega⟩

/-- and the place in it of the tile's row `r`. -/
abbrev place (t : Fin cfg0.N) (r : Fin 512) : Fin 4096 := ⟨t.val % 8 * 512 + r.val, by omega⟩

theorem seq_eq (t : Fin cfg0.N) (r : Fin 512) (h) : (⟨(arow t r).val / 4096, h⟩ : Fin 4) = seq t :=
  Fin.ext (by dsimp only; omega)

theorem place_eq (t : Fin cfg0.N) (r : Fin 512) (h) : (⟨(arow t r).val % 4096, h⟩ : Fin 4096) = place t r :=
  Fin.ext (by dsimp only; omega)

/-- The arguments in memory. -/
abbrev aX (c : Dev nD) : FVec Ideal S4x4096x1024 .f32 := m ((c : Thread nD τ).loc main_arg0)
abbrev aMod (c : Dev nD) : FVec Ideal S4x3072 .f32 := m ((c : Thread nD τ).loc main_arg1)
abbrev aW (c : Dev nD) : FVec Ideal S1024x6176 .f32 := m ((c : Thread nD τ).loc main_arg2)
abbrev aTaps (c : Dev nD) : FVec Ideal S4x4096 .f32 := m ((c : Thread nD τ).loc main_arg3)
abbrev aLog (c : Dev nD) : FVec Ideal S16 .f32 := m ((c : Thread nD τ).loc main_arg4)
abbrev aBias (c : Dev nD) : FVec Ideal S16 .f32 := m ((c : Thread nD τ).loc main_arg5)

/-- The weights with columns of zeros after them. -/
theorem V_main_v1 (c : Dev nD) : V m c main_v1 = (truncf .bf16 (pad S1024x6272 ![0, 0] ![0, 96] ![0, 0] (aW m c) (sitofp .f32 (constantI S_ 32 0#32)) pads_S1024x6176_S1024x6272_000_0960 h_S_ : FVec Ideal S1024x6272 .f32) bitsLt_bf16_f32 : FVec Ideal S1024x6272 .bf16) := by
  show StableHlo.after (List.flatten [hostOps0, hostOps0_1, hostOps0_2, hostOps0_3, hostOps0_4, hostOps0_5, hostOps0_6]) (fun b => m (c, b)) (Proc.devRef .tc main_v1) = _
  simp only [List.flatten_cons, List.flatten_nil, List.append_nil, List.cons_append, List.nil_append, StableHlo.after_cons, StableHlo.after_nil]
  after_results_simp
  rfl

/-- The decays' logarithms with zeros after them. -/
theorem V_main_v3 (c : Dev nD) : V m c main_v3 = (shapeCast S1x128 (pad S128 ![0] ![112] ![0] (aLog m c) (sitofp .f32 (constantI S_ 32 0#32)) pads_S16_S128_01120 h_S_ : FVec Ideal S128 .f32) shapeCasts_S128_S1x128 : FVec Ideal S1x128 .f32) := by
  show StableHlo.after (List.flatten [hostOps0, hostOps0_1, hostOps0_2, hostOps0_3, hostOps0_4, hostOps0_5, hostOps0_6]) (fun b => m (c, b)) (Proc.devRef .tc main_v3) = _
  simp only [List.flatten_cons, List.flatten_nil, List.append_nil, List.cons_append, List.nil_append, StableHlo.after_cons, StableHlo.after_nil]
  after_results_simp
  rfl

/-- The steps' offsets with zeros after them. -/
theorem V_main_v5 (c : Dev nD) : V m c main_v5 = (shapeCast S1x128 (pad S128 ![0] ![112] ![0] (aBias m c) (sitofp .f32 (constantI S_ 32 0#32)) pads_S16_S128_01120 h_S_ : FVec Ideal S128 .f32) shapeCasts_S128_S1x128 : FVec Ideal S1x128 .f32) := by
  show StableHlo.after (List.flatten [hostOps0, hostOps0_1, hostOps0_2, hostOps0_3, hostOps0_4, hostOps0_5, hostOps0_6]) (fun b => m (c, b)) (Proc.devRef .tc main_v5) = _
  simp only [List.flatten_cons, List.flatten_nil, List.append_nil, List.cons_append, List.nil_append, StableHlo.after_cons, StableHlo.after_nil]
  after_results_simp
  rfl

/-- The rows, batch and time flattened. -/
theorem V_main_v6 (c : Dev nD) : V m c main_v6 = (shapeCast S16384x1024 (aX m c) shapeCasts_S4x4096x1024_S16384x1024 : FVec Ideal S16384x1024 .f32) := by
  show StableHlo.after (List.flatten [hostOps0, hostOps0_1, hostOps0_2, hostOps0_3, hostOps0_4, hostOps0_5, hostOps0_6]) (fun b => m (c, b)) (Proc.devRef .tc main_v6) = _
  simp only [List.flatten_cons, List.flatten_nil, List.append_nil, List.cons_append, List.nil_append, StableHlo.after_cons, StableHlo.after_nil]
  after_results_simp
  rfl

/-- The modulation with a row's axis. -/
theorem V_main_v7 (c : Dev nD) : V m c main_v7 = (shapeCast S4x1x3072 (aMod m c) shapeCasts_S4x3072_S4x1x3072 : FVec Ideal S4x1x3072 .f32) := by
  show StableHlo.after (List.flatten [hostOps0, hostOps0_1, hostOps0_2, hostOps0_3, hostOps0_4, hostOps0_5, hostOps0_6]) (fun b => m (c, b)) (Proc.devRef .tc main_v7) = _
  simp only [List.flatten_cons, List.flatten_nil, List.append_nil, List.cons_append, List.nil_append, StableHlo.after_cons, StableHlo.after_nil]
  after_results_simp
  rfl

/-- The block of rows is the rows of the flattened argument. -/
theorem block0 (c : Dev nD) (t : Fin cfg0.N) (r : Fin 512) (k : Fin 1024) :
    bx m c t (ix2 r k) = aX m c (ix3 (seq t) (place t r) k) := by
  have hN : t.val < 32 := t.isLt
  refine Eq.trans ?_ (congrArg₂ (fun a b => aX m c (ix3 a b k)) (seq_eq t r (by omega)) (place_eq t r (by omega)))
  blk_simp [bx, iblk]
  refine (congrFun (V_main_v6 m c) _).trans ?_
  pointwise []
  blk_ext [iblk, V, idx t]

/-- The block of weights is all of them, and columns after them. -/
theorem block1 (c : Dev nD) (t : Fin cfg0.N) (k : Fin 1024) (l : Fin 6272) (hl : l.val < 6176) :
    bw m c t (ix2 k l) = aW m c (ix2 k ⟨l.val, hl⟩) := by
  have e : ((cfg0.win 1).blk t).view.emb (ix2 k l) = ix2 k l := by
    blk_ext [idx t]
  refine (congrFun (V_main_v1 m c) _).trans ((congrArg _ e).trans ?_)
  pointwise []
  rw [dif_pos (by omega)]

/-- The block of modulation rows is the argument's. -/
theorem block2 (c : Dev nD) (t : Fin cfg0.N) (l : Fin 3072) :
    bm m c t (ix3 0 0 l) = aMod m c (ix2 (seq t) l) := by
  have hN : t.val < 32 := t.isLt
  blk_simp [bm, iblk]
  refine (congrFun (V_main_v7 m c) _).trans ?_
  pointwise []
  blk_ext [iblk, V, idx t]

/-- The block of taps is all of them. -/
theorem block3 (c : Dev nD) (t : Fin cfg0.N) (s : Fin 4) (l : Fin 4096) :
    bt m c t (ix2 s l) = aTaps m c (ix2 s l) := by
  blk_simp [bt, iblk]
  blk_ext [iblk, V, idx t]

/-- The blocks of the decays' logarithms and of the steps' offsets are the arguments, and lanes after them. -/
theorem block4 (c : Dev nD) (t : Fin cfg0.N) (l : Fin 128) (hl : l.val < 16) :
    ba m c t (ix2 0 l) = aLog m c (ix1 ⟨l.val, hl⟩) := by
  have e : ((cfg0.win 4).blk t).view.emb (ix2 0 l) = ix2 0 l := by
    blk_ext [idx t]
  refine (congrFun (V_main_v3 m c) _).trans ((congrArg _ e).trans ?_)
  pointwise []
  rw [dif_pos (by omega)]

theorem block5 (c : Dev nD) (t : Fin cfg0.N) (l : Fin 128) (hl : l.val < 16) :
    bd m c t (ix2 0 l) = aBias m c (ix1 ⟨l.val, hl⟩) := by
  have e : ((cfg0.win 5).blk t).view.emb (ix2 0 l) = ix2 0 l := by
    blk_ext [idx t]
  refine (congrFun (V_main_v5 m c) _).trans ((congrArg _ e).trans ?_)
  pointwise []
  rw [dif_pos (by omega)]

/-- A tile's product is the reference's entries. -/
theorem tile_eq (c : Dev nD) (t : Fin cfg0.N) (r : Fin 512) (l : Fin 6272) (hl : l.val < 6176) :
    tile (bx m c t) (bw m c t) (bm m c t) r l
      = DnInReference.entry (aX m c) (aMod m c) (aW m c) (seq t) (place t r) ⟨l.val, hl⟩ := by
  rw [tile, DnInReference.entry]
  refine Finset.sum_congr rfl fun k _ => ?_
  rw [block0, block1 m c t k l hl, block2, block2]

/-- The rows before a row of the tile are the reference's. -/
theorem back_eq (c : Dev nD) (t : Fin cfg0.N) (d : ℕ) (hd : d ≤ 3) (r : Fin 512) (l : Fin 4096) :
    backAt (tileX (bx m c t) (bw m c t) (bm m c t)) (halo m c t) d r l
      = DnInReference.before (aX m c) (aMod m c) (aW m c) (seq t) (place t r).val d (place t r).isLt l := by
  rw [backAt, DnInReference.before]
  by_cases h : d ≤ r.val
  · rw [if_pos h, dif_pos (by dsimp only; omega)]
    unfold tileX
    rw [tile_eq m c t _ _ (by dsimp only; omega)]
    exact congrArg (fun v => DnInReference.entry (aX m c) (aMod m c) (aW m c) (seq t) v _) (Fin.ext (by dsimp only; omega))
  · rw [if_neg h, halo]
    by_cases h0 : t.val % 8 = 0
    · rw [if_pos h0, dif_neg (by dsimp only; omega)]
    · rw [if_neg h0, dif_pos (by dsimp only; omega), rows8, carriedAt]
      unfold carriedOut tileX
      rw [tile_eq m c _ _ _ (by dsimp only; omega)]
      refine congrArg₂ (fun u v => DnInReference.entry (aX m c) (aMod m c) (aW m c) u v _) (Fin.ext ?_) (Fin.ext ?_)
      · dsimp only [prev]
        omega
      · show (t.val - 1) % 8 * 512 + (8 * 63 + (8 + r.val - d) % 8) = t.val % 8 * 512 + r.val - d
        have h1 : (t.val - 1) % 8 = t.val % 8 - 1 := by omega
        have h2 : (8 + r.val - d) % 8 = 8 + r.val - d := Nat.mod_eq_of_lt (by omega)
        rw [h1, h2]
        omega

end Cert.DnInEq

end
-- ==== Proof.DnInValue.lean ====
/-
  The delta network's input projection with its convolution: the arrays the kernel writes are the reference's, and so are
  the slices of them the program ends with.
-/
module

public import proofs.«01_k».proof.Proof.DnInEntries
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem Idealize.ShloMosaic.Pipeline

namespace Cert.DnInEq

open Cert.DnInFrame Cert.DnInTile Cert.DnInBlock Cert.DnInIdeal Cert.DnInIdeal.Gen Cert.DnInIdeal.Facts

variable (m : (ℓ : Loc nD τ sig) → Buf (Elt Ideal) ℓ)

/-- The reference's gated convolution, from the arguments in memory. -/
abbrev goal0 (c : Dev nD) : FVec Ideal S16384x4096 .f32 := DnInReference.convRes (aX m c) (aMod m c) (aW m c) (aTaps m c)

/-- The reference's gate columns. -/
abbrev goal1 (c : Dev nD) : FVec Ideal S16384x2048 .f32 := DnInReference.zRes (aX m c) (aMod m c) (aW m c)

/-- The reference's decays and steps. -/
abbrev goal2 (c : Dev nD) : FVec Ideal S16384x32 .f32 := DnInReference.decayRes (aX m c) (aMod m c) (aW m c) (aLog m c) (aBias m c)

/-- The reference's last rows of every sequence. -/
abbrev goal3 (c : Dev nD) : FVec Ideal S4x3x4096 .f32 := DnInReference.tailRes (aX m c) (aMod m c) (aW m c)

/-- What a grid point stores of the convolution, row by row. -/
theorem row0 (c : Dev nD) (t : Fin cfg0.N) (r : Fin 512) (l : Fin 4096) :
    convOut (bx m c t) (bw m c t) (bm m c t) (bt m c t) (halo m c t) (ix2 r l) = goal0 m c (ix2 (arow t r) l) := by
  rw [goal0, DnInReference.convRes_apply, DnInReference.summed_apply, seq_eq, place_eq]
  show conv (tileX (bx m c t) (bw m c t) (bm m c t)) (halo m c t) (tapsOf (bt m c t)) r l = _
  unfold conv tapsOf
  rw [back_eq m c t 3 (by omega), back_eq m c t 2 (by omega), back_eq m c t 1 (by omega), block3, block3, block3, block3]
  unfold tileX
  rw [tile_eq m c t r _ (by dsimp only; omega)]

theorem final0 (c : Dev nD) : (dats m 0 c).arrAt 6 cfg0.N = goal0 m c := by
  refine (dats m 0 c).arrAt_eq_of_covers 6 _ (by decide +kernel) fun t _ y => ?_
  blk_simp
  rw [after0_6]
  have e : ((cfg0.win 6).blk t).view.emb y = ix2 (arow t (y 0)) (y 1) := by
    blk_ext [idx t]
  exact (congrArg _ (eq_ix2 y)).trans ((row0 m c t (y 0) (y 1)).trans (congrArg _ e.symm))

/-- What a grid point stores of the gate columns, row by row. -/
theorem row1 (c : Dev nD) (t : Fin cfg0.N) (r : Fin 512) (l : Fin 2048) :
    zOut (bx m c t) (bw m c t) (bm m c t) (ix2 r l) = goal1 m c (ix2 (arow t r) l) := by
  rw [goal1, DnInReference.zRes_apply, seq_eq, place_eq]
  show tile (bx m c t) (bw m c t) (bm m c t) r ⟨4096 + l.val, by omega⟩ = _
  exact tile_eq m c t r _ (by dsimp only; omega)

theorem final1 (c : Dev nD) : (dats m 0 c).arrAt 7 cfg0.N = goal1 m c := by
  refine (dats m 0 c).arrAt_eq_of_covers 7 _ (by decide +kernel) fun t _ y => ?_
  blk_simp
  rw [after0_7]
  have e : ((cfg0.win 7).blk t).view.emb y = ix2 (arow t (y 0)) (y 1) := by
    blk_ext [idx t]
  exact (congrArg _ (eq_ix2 y)).trans ((row1 m c t (y 0) (y 1)).trans (congrArg _ e.symm))

/-- A grid point's row for each array row, and its row in that block. -/
abbrev pointOf (i : Fin 16384) : Fin cfg0.N := ⟨i.val / 512, by show _ < 32; omega⟩
abbrev rowOf (i : Fin 16384) : Fin 512 := ⟨i.val % 512, by omega⟩

/-- All the lanes the kernel stores of the decays. -/
def gates (c : Dev nD) : FVec Ideal S16384x128 .f32 := fun y =>
  decays (bx m c (pointOf (y 0))) (bw m c (pointOf (y 0))) (bm m c (pointOf (y 0))) (ba m c (pointOf (y 0))) (bd m c (pointOf (y 0)))
    (rowOf (y 0)) (y 1)

theorem pointOf_arow (t : Fin cfg0.N) (r : Fin 512) : pointOf (arow t r) = t := Fin.ext (by dsimp only; omega)
theorem rowOf_arow (t : Fin cfg0.N) (r : Fin 512) : rowOf (arow t r) = r := Fin.ext (by dsimp only; omega)

/-- What a grid point stores of the decays, row by row. -/
theorem row2 (c : Dev nD) (t : Fin cfg0.N) (r : Fin 512) (l : Fin 128) :
    decayOut (bx m c t) (bw m c t) (bm m c t) (ba m c t) (bd m c t) (ix2 r l) = gates m c (ix2 (arow t r) l) := by
  show decays (bx m c t) (bw m c t) (bm m c t) (ba m c t) (bd m c t) r l
    = decays (bx m c (pointOf (arow t r))) (bw m c (pointOf (arow t r))) (bm m c (pointOf (arow t r)))
      (ba m c (pointOf (arow t r))) (bd m c (pointOf (arow t r))) (rowOf (arow t r)) l
  rw [pointOf_arow, rowOf_arow]

theorem final2 (c : Dev nD) : (dats m 0 c).arrAt 8 cfg0.N = gates m c := by
  refine (dats m 0 c).arrAt_eq_of_covers 8 _ (by decide +kernel) fun t _ y => ?_
  blk_simp
  rw [after0_8]
  have e : ((cfg0.win 8).blk t).view.emb y = ix2 (arow t (y 0)) (y 1) := by
    blk_ext [idx t]
  exact (congrArg _ (eq_ix2 y)).trans ((row2 m c t (y 0) (y 1)).trans (congrArg _ e.symm))

/-- The lanes the program keeps are the reference's. -/
theorem gates_eq (c : Dev nD) (i : Fin 16384) (l : Fin 32) :
    gates m c (ix2 i ⟨l.val, by omega⟩) = goal2 m c (ix2 i l) := by
  rw [goal2, DnInReference.decayRes_apply]
  have es : seq (pointOf i) = ⟨i.val / 4096, by omega⟩ := Fin.ext (by dsimp only; omega)
  have ep : place (pointOf i) (rowOf i) = ⟨i.val % 4096, by omega⟩ := Fin.ext (by dsimp only; omega)
  show decays (bx m c (pointOf i)) (bw m c (pointOf i)) (bm m c (pointOf i)) (ba m c (pointOf i)) (bd m c (pointOf i)) (rowOf i) ⟨l.val, _⟩ = _
  unfold decays decay
  rw [tile_eq m c _ _ _ (by dsimp only; omega), es, ep]
  by_cases h : l.val < 16
  · rw [if_pos h, dif_pos h, block4 m c _ _ h, block5 m c _ _ h]
  · rw [if_neg h, dif_neg h]

/-- The last eight rows of every sequence, before the convolution. -/
def tails (c : Dev nD) : FVec Ideal S4x8x4096 .f32 := fun y =>
  DnInReference.entry (aX m c) (aMod m c) (aW m c) (y 0) ⟨4088 + (y 1).val, by have : (y 1).val < 8 := (y 1).isLt; omega⟩
    ⟨(y 2).val, by have : (y 2).val < 4096 := (y 2).isLt; omega⟩

/-- The last rows' blocks are written back after a sequence's last tile. -/
theorem wb9 : ∀ t : Fin cfg0.N, (cfg0.win 9).flush t = true → t.val % 8 = 7 :=
  (by decide +kernel : ∀ t : Fin grid0.N, _)

/-- What a sequence's last grid point stores of its last rows. -/
theorem row3 (c : Dev nD) (t : Fin cfg0.N) (ht : t.val % 8 = 7) (q : Fin 1) (j : Fin 8) (l : Fin 4096) :
    tailOut (bx m c t) (bw m c t) (bm m c t) (ix3 q j l) = tails m c (ix3 (seq t) j l) := by
  show tile (bx m c t) (bw m c t) (bm m c t) (lastRow j) ⟨l.val, by omega⟩
    = DnInReference.entry (aX m c) (aMod m c) (aW m c) (seq t) ⟨4088 + j.val, by omega⟩ ⟨l.val, by omega⟩
  rw [tile_eq m c t _ _ (by dsimp only; omega)]
  refine congrArg (fun v => DnInReference.entry (aX m c) (aMod m c) (aW m c) (seq t) v _) (Fin.ext ?_)
  show t.val % 8 * 512 + (8 * 63 + j.val) = 4088 + j.val
  omega

theorem final3 (c : Dev nD) : (dats m 0 c).arrAt 9 cfg0.N = tails m c := by
  refine (dats m 0 c).arrAt_eq_of_covers 9 _ (by decide +kernel) fun t ht y => ?_
  have h7 := wb9 t ht
  blk_simp
  rw [after0_9]
  have e : ((cfg0.win 9).blk t).view.emb y = ix3 (seq t) (y 1) (y 2) := by
    blk_ext [idx t]
  exact (congrArg _ (eq_ix3 y)).trans ((row3 m c t h7 (y 0) (y 1) (y 2)).trans (congrArg _ e.symm))

/-- The lanes kept of the decays, after the run. -/
theorem kept2 (c : Dev nD) : Pipeline.afterTail₀ cfgs (dats m) 0 (V0 m) [hostOps1] c main_v9 = goal2 m c := by
  unfold Pipeline.afterTail₀
  simp only [List.flatten_cons, List.flatten_nil, List.append_nil, List.cons_append, List.nil_append, StableHlo.after_cons, StableHlo.after_nil]
  after_results_simp
  have e : Pipeline.withArrays (cfgs 0).spec c (V0 m c) (fun w => (dats m 0 c).arrAt w (cfgs 0).N) (Proc.tc.devRef main_v8_2) = gates m c :=
    (Pipeline.withArrays_arr spec0 (by decide) c (V0 m c) (fun w => (dats m 0 c).arrAt w cfg0.N) 8).trans (final2 m c)
  refine (congrArg (fun v => extractStridedSlice S16384x32 ![0, 0] v slices_S16384x128_S16384x32_0_0) e).trans ?_
  refine funext fun y => ?_
  rw [eq_ix2 y]
  refine Eq.trans ?_ (gates_eq m c (y 0) (y 1))
  pointwise []

/-- The last rows kept, after the run. -/
theorem kept3 (c : Dev nD) : Pipeline.afterTail₀ cfgs (dats m) 0 (V0 m) [hostOps1] c main_v10 = goal3 m c := by
  unfold Pipeline.afterTail₀
  simp only [List.flatten_cons, List.flatten_nil, List.append_nil, List.cons_append, List.nil_append, StableHlo.after_cons, StableHlo.after_nil]
  after_results_simp
  have e : Pipeline.withArrays (cfgs 0).spec c (V0 m c) (fun w => (dats m 0 c).arrAt w (cfgs 0).N) (Proc.tc.devRef main_v8_3) = tails m c :=
    (Pipeline.withArrays_arr spec0 (by decide) c (V0 m c) (fun w => (dats m 0 c).arrAt w cfg0.N) 9).trans (final3 m c)
  refine (congrArg (fun v => extractStridedSlice S4x3x4096 ![0, 5, 0] v slices_S4x8x4096_S4x3x4096_0_5_0) e).trans ?_
  refine funext fun y => ?_
  rw [eq_ix3 y]
  refine Eq.trans ?_ (DnInReference.tailRes_apply (aX m c) (aMod m c) (aW m c) (y 0) (y 1) (y 2)).symm
  pointwise []
  refine congrArg (fun v => DnInReference.entry (aX m c) (aMod m c) (aW m c) (y 0) v _) (Fin.ext ?_)
  show 4088 + (5 + (y 1).val) = 4093 + (y 1).val
  omega

/-- The reference program ends with its counters at zero and its arguments unchanged. -/
theorem quiescent_ref : Cert.quiescent_DnInRefIdeal (hDnInRefIdeal := Cert.DnInRefIdeal.Gen.facts) :=
  fun m ρ _ => (θ_run Cert.DnInRefIdeal.defs _ _).mono
    (fun r h => ⟨fun c => (h c).2.2.2.2, Idealize.ShloMosaic.sem_eq_zero_of_no_sems (by decide) r.2⟩)
    (Cert.DnInRefIdeal.Value.run (F := Ideal) m ρ)

/-- Kernel and reference end with the same four arrays. -/
theorem algebraic : Cert.algebraic_DnInIdeal_DnInRefIdeal (hDnInIdeal := Cert.DnInIdeal.Gen.facts)
    (hDnInRefIdeal := Cert.DnInRefIdeal.Gen.facts) := by
  intro m ρ m' ρ' hpre hag
  refine ⟨fun c => goal0 m c, fun c => goal1 m c, fun c => goal2 m c, fun c => goal3 m c,
    (θ_run _ _ _).mono (fun r h c => ⟨((h.1 c).1 6).trans (final0 m c), ((h.1 c).1 7).trans (final1 m c),
      ((h.1 c).2 main_v9 (Pipeline.mem_restRefs_of main_v9 (by decide) (by decide))).trans (kept2 m c),
      ((h.1 c).2 main_v10 (Pipeline.mem_restRefs_of main_v10 (by decide) (by decide))).trans (kept3 m c), h.2.1 c⟩)
      (θ_run_and (run_main m ρ) (frame m ρ)),
    (θ_run _ _ _).mono (fun r h c => ?_) (Cert.DnInRefIdeal.Value.run (F := Ideal) m' ρ')⟩
  obtain ⟨e0, e1, e2, e3, e4, e5⟩ := hag c
  refine ⟨(h c).1.trans ?_, (h c).2.1.trans ?_, (h c).2.2.1.trans ?_, (h c).2.2.2.1.trans ?_, (h c).2.2.2.2⟩
  · unfold Cert.DnInRefIdeal.Value.res_main_v60
    rw [e0, e1, e2, e3]
    rfl
  · rw [e0, e1, e2]
    rfl
  · unfold Cert.DnInRefIdeal.Value.res_main_v63
    rw [e0, e1, e2, e4, e5]
    rfl
  · rw [e0, e1, e2]
    rfl

end Cert.DnInEq

end
-- ==== Proof.RowNorm.lean ====
/-
  The output projections' last step, on one row: the residual's entry, and the row normalised to mean zero and variance one.
-/
module

public import Idealize.ShloMosaic.Lib.Pointwise

@[expose] public section

noncomputable section

open Idealize.ShloMosaic

namespace Cert.RowNorm

/-- The product of a row and a column. -/
def product {n : Nat} (a b : Fin n → Ideal .f32) : Ideal .f32 := ∑ k, a k * b k

/-- The scaled input and the gated projection. -/
def gated (x gate y : Ideal .f32) : Ideal .f32 := Ideal.ofBits .f32 0x3FD744FD#32 * x + (1 + gate) * y

/-- A row's mean. -/
def mean (h : Fin 1024 → Ideal .f32) : Ideal .f32 := Ideal.div (∑ k, h k) (Ideal.ofBits .f32 0x44800000#32)

/-- A row, less its mean, over the square root of its variance, with gains and offsets. -/
def rowNorm (h g b : Fin 1024 → Ideal .f32) (c : Fin 1024) : Ideal .f32 :=
  (h c - mean h) * Ideal.rsqrt (mean (fun k => (h k - mean h) * (h k - mean h)) + Ideal.ofBits .f32 0x3727C5AC#32) * g c + b c

end Cert.RowNorm

end
-- ==== Proof.DnOutValue.lean ====
/-
  The output projection after the recurrence over the prompt: the residual with its gate, normalised over each row.
  Every block of rows the kernel writes is the reference's rows, so its array is the reference's.
-/
module

public import proofs.«01_k».proof.Proof.Gen.DnOutIdeal.Value
public import proofs.«01_k».proof.Proof.Gen.DnOutRefIdeal.Run
public import proofs.«01_k».proof.Defs
public import Idealize.ShloMosaic.Lib.Pipeline.ValueKit
public import Idealize.ShloMosaic.Adequacy
public import Idealize.ShloMosaic.Init
public import proofs.«01_k».proof.Proof.RowNorm

@[expose] public section

set_option maxRecDepth 16384

noncomputable section

open Idealize.ShloMosaic Idealize.ShloMosaic.TcCoe Idealize.SL.Sem Idealize.ShloMosaic.Pipeline

namespace Cert.DnOutEq

open Cert.RowNorm

namespace Ref

open Cert.DnOutRefIdeal Cert.DnOutRefIdeal.Gen Cert.DnOutRefIdeal.Facts

variable (o : FVec Ideal S4x4096x2048 .bf16) (w : FVec Ideal S2048x1024 .f32) (x : FVec Ideal S4x4096x1024 .f32)
  (mod : FVec Ideal S4x3072 .f32) (g b : FVec Ideal S1024 .f32)

/-- The residual: the scaled input and the gated projection. -/
def resid : FVec Ideal S4x4096x1024 .f32 :=
  addf (mulf (broadcastInDim S4x4096x1024 ![] bcast_S_S4x4096x1024 (constant S_ .f32 0x3FD744FD#32)) x) (mulf (broadcastInDim S4x4096x1024 ![0, 1, 2] bcast_S4x1x1024_S4x4096x1024_0_1_2 (addf (broadcastInDim S4x1x1024 ![] bcast_S_S4x1x1024 (constant S_ .f32 0x3F800000#32)) (extractStridedSlice S4x1x1024 ![0, 0, 2048] (broadcastInDim S4x1x3072 ![0, 2] bcast_S4x3072_S4x1x3072_0_2 mod) slices_S4x1x3072_S4x1x1024_0_0_2048))) (Host.dotGeneral dot_S4x4096x2048_S2048x1024_S4x4096x1024_2_0_01_1_n_n none (extf .f32 o bitsLt_bf16_f32) w))

/-- A row less its mean. -/
def centred (h : FVec Ideal S4x4096x1024 .f32) : FVec Ideal S4x4096x1024 .f32 :=
  subf h (broadcastInDim S4x4096x1024 ![0, 1, 2] bcast_S4x4096x1_S4x4096x1024_0_1_2 (Host.divf (broadcastInDim S4x4096x1 ![0, 1] bcast_S4x4096_S4x4096x1_0_1 (Host.reduceAdd h (constant S_ .f32 0x00000000#32) reducesTo_S4x4096x1024_S4x4096_d2 h_S_)) (broadcastInDim S4x4096x1 ![] bcast_S_S4x4096x1 (constant S_ .f32 0x44800000#32))))

/-- The reference's result, batch and time flattened. -/
def res : FVec Ideal S16384x1024 .f32 :=
  shapeCast _ (addf (mulf (mulf (centred (resid o w x mod)) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (centred (resid o w x mod)) (centred (resid o w x mod))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S1x1x1024_S4x4096x1024_0_1_2 (broadcastInDim S1x1x1024 ![2] bcast_S1024_S1x1x1024_2 b))) shapeCasts_S4x4096x1024_S16384x1024

/-- Entry `c` of the residual's row `i`. -/
def entry (i : Fin 16384) (c : Fin 1024) : Ideal .f32 :=
  gated (x (ix3 ⟨i.val / 4096, by omega⟩ ⟨i.val % 4096, by omega⟩ c)) (mod (ix2 ⟨i.val / 4096, by omega⟩ ⟨2048 + c.val, by omega⟩))
    (product (n := 2048) (fun k => o (ix3 ⟨i.val / 4096, by omega⟩ ⟨i.val % 4096, by omega⟩ k)) (fun k => w (ix2 k c)))

theorem res_apply (i : Fin 16384) (c : Fin 1024) :
    res o w x mod g b (ix2 i c) = rowNorm (entry o w x mod i) (fun k => g (ix1 k)) (fun k => b (ix1 k)) c := by
  pointwise [res, centred, resid]
  rfl

end Ref

open Cert.DnOutIdeal Cert.DnOutIdeal.Gen Cert.DnOutIdeal.Facts

variable (m : (ℓ : Loc nD τ sig) → Buf (Elt Ideal) ℓ)

/-- Where each window's block lies at every grid point. -/
theorem idx : ∀ t : Fin cfg0.N,
    win0_0.index t = ![t.val, 0] ∧ win0_1.index t = ![0, 0] ∧ win0_2.index t = ![t.val, 0] ∧ win0_3.index t = ![t.val / 8, 0, 0]
    ∧ win0_4.index t = ![0, 0] ∧ win0_5.index t = ![0, 0] ∧ win0_6.index t = ![t.val, 0] :=
  (by decide +kernel : ∀ t : Fin grid0.N, _)

/-- The array row that row `r` of grid point `t`'s blocks is. -/
abbrev arow (t : Fin cfg0.N) (r : Fin 512) : Fin 16384 := ⟨t.val * 512 + r.val, by have : t.val < 32 := t.isLt; omega⟩

/-- Every row of grid point `t`'s blocks is of batch `t / 8`. -/
theorem batch_eq (t : Fin cfg0.N) (r : Fin 512) (h h') : (⟨(arow t r).val / 4096, h⟩ : Fin 4) = ⟨t.val / 8, h'⟩ :=
  Fin.ext (by dsimp only; omega)

/-- The block of the attention's rows is the rows of the flattened argument. -/
theorem block0 (c : Dev nD) (t : Fin cfg0.N) (r : Fin 512) (k : Fin 2048) :
    iblk m c 0 t (ix2 r k) = m ((c : Thread nD τ).loc main_arg0) (ix3 ⟨(arow t r).val / 4096, by omega⟩ ⟨(arow t r).val % 4096, by omega⟩ k) := by
  have hN : t.val < 32 := t.isLt
  blk_simp [iblk]
  entry_read
  pointwise []
  blk_ext [iblk, V, idx t]

/-- The block of weights is all of them. -/
theorem block1 (c : Dev nD) (t : Fin cfg0.N) (k : Fin 2048) (l : Fin 1024) :
    iblk m c 1 t (ix2 k l) = m ((c : Thread nD τ).loc main_arg1) (ix2 k l) := by
  have hN : t.val < 32 := t.isLt
  blk_simp [iblk]
  entry_read
  pointwise []
  blk_ext [iblk, V, idx t]

/-- The block of the layer's input is the rows of the flattened argument. -/
theorem block2 (c : Dev nD) (t : Fin cfg0.N) (r : Fin 512) (k : Fin 1024) :
    iblk m c 2 t (ix2 r k) = m ((c : Thread nD τ).loc main_arg2) (ix3 ⟨(arow t r).val / 4096, by omega⟩ ⟨(arow t r).val % 4096, by omega⟩ k) := by
  have hN : t.val < 32 := t.isLt
  blk_simp [iblk]
  entry_read
  pointwise []
  blk_ext [iblk, V, idx t]

/-- The block of modulation rows is the argument's. -/
theorem block3 (c : Dev nD) (t : Fin cfg0.N) (l : Fin 3072) :
    iblk m c 3 t (ix3 0 0 l) = m ((c : Thread nD τ).loc main_arg3) (ix2 ⟨t.val / 8, by have : t.val < 32 := t.isLt; omega⟩ l) := by
  have hN : t.val < 32 := t.isLt
  blk_simp [iblk]
  entry_read
  pointwise []
  blk_ext [iblk, V, idx t]

/-- The norm's gains. -/
theorem block4 (c : Dev nD) (t : Fin cfg0.N) (l : Fin 1024) :
    iblk m c 4 t (ix2 0 l) = m ((c : Thread nD τ).loc main_arg4) (ix1 l) := by
  have hN : t.val < 32 := t.isLt
  blk_simp [iblk]
  entry_read
  pointwise []
  blk_ext [iblk, V, idx t]

/-- The norm's offsets. -/
theorem block5 (c : Dev nD) (t : Fin cfg0.N) (l : Fin 1024) :
    iblk m c 5 t (ix2 0 l) = m ((c : Thread nD τ).loc main_arg5) (ix1 l) := by
  have hN : t.val < 32 := t.isLt
  blk_simp [iblk]
  entry_read
  pointwise []
  blk_ext [iblk, V, idx t]

/-- The reference's result, from the arguments in memory. -/
abbrev goal (c : Dev nD) : FVec Ideal S16384x1024 .f32 :=
  Ref.res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The residual a grid point computes, entry by entry. -/
theorem resid_row (c : Dev nD) (t : Fin cfg0.N) (r : Fin 512) (l : Fin 1024) :
    gated (iblk m c 2 t (ix2 r l)) (iblk m c 3 t (ix3 0 0 ⟨2048 + l.val, by omega⟩)) (product (n := 2048) (fun k => iblk m c 0 t (ix2 r k)) (fun k => iblk m c 1 t (ix2 k l)))
      = Ref.entry (m ((c : Thread nD τ).loc main_arg0)) (m ((c : Thread nD τ).loc main_arg1)) (m ((c : Thread nD τ).loc main_arg2)) (m ((c : Thread nD τ).loc main_arg3)) (arow t r) l := by
  rw [Ref.entry, block2, block3, batch_eq]
  refine congrArg _ (congrArg₂ product (funext fun k => ?_) (funext fun k => block1 m c t k l))
  rw [block0, batch_eq]

/-- What a grid point stores, row by row. -/
theorem row (c : Dev nD) (t : Fin cfg0.N) (r : Fin 512) (l : Fin 1024) :
    k0_pay1 (k0_pay2 (iblk m c 0 t) (iblk m c 1 t) (iblk m c 2 t) (View.ld (iblk m c 3 t) r0_3) (iblk m c 4 t)) (k0_pay3 (iblk m c 5 t)) (ix2 r l)
      = goal m c (ix2 (arow t r) l) := by
  refine Eq.trans ?_ (Ref.res_apply _ _ _ _ _ _ _ _).symm
  rw [← funext (resid_row m c t r)]
  pointwise [k0_pay1, k0_pay2, k0_pay3]
  rw [block4, block5]
  rfl

theorem point (c : Dev nD) (t : Fin cfg0.N) (y : S512x1024.Idx) :
    k0_pay1 (k0_pay2 (iblk m c 0 t) (iblk m c 1 t) (iblk m c 2 t) (View.ld (iblk m c 3 t) r0_3) (iblk m c 4 t)) (k0_pay3 (iblk m c 5 t)) y
      = goal m c (((cfg0.win 6).blk t).view.emb y) := by
  have e : ((cfg0.win 6).blk t).view.emb y = ix2 (arow t (y 0)) (y 1) := by
    blk_ext [idx t]
  exact (congrArg _ (eq_ix2 y)).trans ((row m c t (y 0) (y 1)).trans (congrArg _ e.symm))

/-- The kernel's array is the reference's. -/
theorem final (c : Dev nD) : (dats m 0 c).arrAt 6 cfg0.N = goal m c := by
  refine (dats m 0 c).arrAt_eq_of_covers 6 _ (by decide +kernel) fun t _ y => ?_
  blk_simp
  rw [after0_6]
  frame_out
  exact point m c t y

/-- The reference program ends with its counters at zero and its arguments unchanged. -/
theorem quiescent_ref : Cert.quiescent_DnOutRefIdeal (hDnOutRefIdeal := Cert.DnOutRefIdeal.Gen.facts) :=
  fun m ρ _ => (θ_run Cert.DnOutRefIdeal.defs _ _).mono
    (fun r h => ⟨fun c => (h c).2, Idealize.ShloMosaic.sem_eq_zero_of_no_sems (by decide) r.2⟩)
    (Cert.DnOutRefIdeal.Value.run (F := Ideal) m ρ)

/-- Kernel and reference end with the same array. -/
theorem algebraic : Cert.algebraic_DnOutIdeal_DnOutRefIdeal (hDnOutIdeal := Cert.DnOutIdeal.Gen.facts)
    (hDnOutRefIdeal := Cert.DnOutRefIdeal.Gen.facts) := by
  intro m ρ m' ρ' hpre hag
  refine ⟨fun c => goal m c,
    (θ_run _ _ _).mono (fun r h c => ⟨(h c).1.trans (final m c), (h c).2⟩)
      (Cert.DnOutIdeal.Value.run_blocks (F := Ideal) m ρ),
    (θ_run _ _ _).mono (fun r h c => ⟨(h c).1.trans ?_, (h c).2⟩) (Cert.DnOutRefIdeal.Value.run (F := Ideal) m' ρ')⟩
  obtain ⟨e0, e1, e2, e3, e4, e5⟩ := hag c
  change Ref.res (m' ((c.tc : Thread Cert.DnOutRefIdeal.nD Cert.DnOutRefIdeal.τ).loc Cert.DnOutRefIdeal.main_arg0)) (m' ((c.tc : Thread Cert.DnOutRefIdeal.nD Cert.DnOutRefIdeal.τ).loc Cert.DnOutRefIdeal.main_arg1)) (m' ((c.tc : Thread Cert.DnOutRefIdeal.nD Cert.DnOutRefIdeal.τ).loc Cert.DnOutRefIdeal.main_arg2)) (m' ((c.tc : Thread Cert.DnOutRefIdeal.nD Cert.DnOutRefIdeal.τ).loc Cert.DnOutRefIdeal.main_arg3)) (m' ((c.tc : Thread Cert.DnOutRefIdeal.nD Cert.DnOutRefIdeal.τ).loc Cert.DnOutRefIdeal.main_arg4)) (m' ((c.tc : Thread Cert.DnOutRefIdeal.nD Cert.DnOutRefIdeal.τ).loc Cert.DnOutRefIdeal.main_arg5)) = goal m c
  rw [e0, e1, e2, e3, e4, e5]

end Cert.DnOutEq

end
-- ==== Proof.DnOutSValue.lean ====
/-
  The output projection after the recurrence over the sample: the residual with its gate, normalised over each row.
  Every block of rows the kernel writes is the reference's rows, so its array is the reference's.
-/
module

public import proofs.«01_k».proof.Proof.Gen.DnOutSIdeal.Value
public import proofs.«01_k».proof.Proof.Gen.DnOutSRefIdeal.Run
public import proofs.«01_k».proof.Defs
public import Idealize.ShloMosaic.Lib.Pipeline.ValueKit
public import Idealize.ShloMosaic.Adequacy
public import Idealize.ShloMosaic.Init
public import proofs.«01_k».proof.Proof.RowNorm

@[expose] public section

set_option maxRecDepth 16384

noncomputable section

open Idealize.ShloMosaic Idealize.ShloMosaic.TcCoe Idealize.SL.Sem Idealize.ShloMosaic.Pipeline

namespace Cert.DnOutSEq

open Cert.RowNorm

namespace Ref

open Cert.DnOutSRefIdeal Cert.DnOutSRefIdeal.Gen Cert.DnOutSRefIdeal.Facts

variable (o : FVec Ideal S128x1x2048 .f32) (w : FVec Ideal S2048x1024 .f32) (x : FVec Ideal S128x1x1024 .f32)
  (mod : FVec Ideal S128x3072 .f32) (g b : FVec Ideal S1024 .f32)

/-- The residual: the scaled input and the gated projection. -/
def resid : FVec Ideal S128x1x1024 .f32 :=
  addf (mulf (broadcastInDim S128x1x1024 ![] bcast_S_S128x1x1024 (constant S_ .f32 0x3FD744FD#32)) x) (mulf (addf (broadcastInDim S128x1x1024 ![] bcast_S_S128x1x1024 (constant S_ .f32 0x3F800000#32)) (extractStridedSlice S128x1x1024 ![0, 0, 2048] (broadcastInDim S128x1x3072 ![0, 2] bcast_S128x3072_S128x1x3072_0_2 mod) slices_S128x1x3072_S128x1x1024_0_0_2048)) (Host.dotGeneral dot_S128x1x2048_S2048x1024_S128x1x1024_2_0_01_1_n_n none o w))

/-- A row less its mean. -/
def centred (h : FVec Ideal S128x1x1024 .f32) : FVec Ideal S128x1x1024 .f32 :=
  subf h (broadcastInDim S128x1x1024 ![0, 1, 2] bcast_S128x1x1_S128x1x1024_0_1_2 (Host.divf (broadcastInDim S128x1x1 ![0, 1] bcast_S128x1_S128x1x1_0_1 (Host.reduceAdd h (constant S_ .f32 0x00000000#32) reducesTo_S128x1x1024_S128x1_d2 h_S_)) (broadcastInDim S128x1x1 ![] bcast_S_S128x1x1 (constant S_ .f32 0x44800000#32))))

/-- The reference's result, batch and time flattened. -/
def res : FVec Ideal S128x1024 .f32 :=
  shapeCast _ (addf (mulf (mulf (centred (resid o w x mod)) (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf (centred (resid o w x mod)) (centred (resid o w x mod))) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x3727C5AC#32)))))) (broadcastInDim S128x1x1024 ![0, 1, 2] bcast_S1x1x1024_S128x1x1024_0_1_2 (broadcastInDim S1x1x1024 ![2] bcast_S1024_S1x1x1024_2 g))) (broadcastInDim S128x1x1024 ![0, 1, 2] bcast_S1x1x1024_S128x1x1024_0_1_2 (broadcastInDim S1x1x1024 ![2] bcast_S1024_S1x1x1024_2 b))) shapeCasts_S128x1x1024_S128x1024

/-- Entry `c` of the residual's row `i`. -/
def entry (i : Fin 128) (c : Fin 1024) : Ideal .f32 :=
  gated (x (ix3 i 0 c)) (mod (ix2 i ⟨2048 + c.val, by omega⟩))
    (product (n := 2048) (fun k => o (ix3 i 0 k)) (fun k => w (ix2 k c)))

theorem res_apply (i : Fin 128) (c : Fin 1024) :
    res o w x mod g b (ix2 i c) = rowNorm (entry o w x mod i) (fun k => g (ix1 k)) (fun k => b (ix1 k)) c := by
  pointwise [res, centred, resid]
  rfl

end Ref

open Cert.DnOutSIdeal Cert.DnOutSIdeal.Gen Cert.DnOutSIdeal.Facts

variable (m : (ℓ : Loc nD τ sig) → Buf (Elt Ideal) ℓ)

/-- Where each window's block lies at every grid point. -/
theorem idx : ∀ t : Fin cfg0.N,
    win0_0.index t = ![t.val, 0] ∧ win0_1.index t = ![0, 0] ∧ win0_2.index t = ![t.val, 0] ∧ win0_3.index t = ![0, 0]
    ∧ win0_4.index t = ![0, 0] ∧ win0_5.index t = ![0, 0] ∧ win0_6.index t = ![t.val, 0] :=
  (by decide +kernel : ∀ t : Fin grid0.N, _)

/-- The block of the attention's rows is the rows of the flattened argument. -/
theorem block0 (c : Dev nD) (t : Fin cfg0.N) (r : Fin 128) (k : Fin 2048) :
    iblk m c 0 t (ix2 r k) = m ((c : Thread nD τ).loc main_arg0) (ix3 r 0 k) := by
  have hN : t.val < 1 := t.isLt
  blk_simp [iblk]
  entry_read
  pointwise []
  blk_ext [iblk, V, idx t]

/-- The block of weights is all of them. -/
theorem block1 (c : Dev nD) (t : Fin cfg0.N) (k : Fin 2048) (l : Fin 1024) :
    iblk m c 1 t (ix2 k l) = m ((c : Thread nD τ).loc main_arg1) (ix2 k l) := by
  have hN : t.val < 1 := t.isLt
  blk_simp [iblk]
  entry_read
  pointwise []
  blk_ext [iblk, V, idx t]

/-- The block of the layer's input is the rows of the flattened argument. -/
theorem block2 (c : Dev nD) (t : Fin cfg0.N) (r : Fin 128) (k : Fin 1024) :
    iblk m c 2 t (ix2 r k) = m ((c : Thread nD τ).loc main_arg2) (ix3 r 0 k) := by
  have hN : t.val < 1 := t.isLt
  blk_simp [iblk]
  entry_read
  pointwise []
  blk_ext [iblk, V, idx t]

/-- The block of modulation rows is the argument's. -/
theorem block3 (c : Dev nD) (t : Fin cfg0.N) (r : Fin 128) (l : Fin 3072) :
    iblk m c 3 t (ix2 r l) = m ((c : Thread nD τ).loc main_arg3) (ix2 r l) := by
  have hN : t.val < 1 := t.isLt
  blk_simp [iblk]
  entry_read
  pointwise []
  blk_ext [iblk, V, idx t]

/-- The norm's gains. -/
theorem block4 (c : Dev nD) (t : Fin cfg0.N) (l : Fin 1024) :
    iblk m c 4 t (ix2 0 l) = m ((c : Thread nD τ).loc main_arg4) (ix1 l) := by
  have hN : t.val < 1 := t.isLt
  blk_simp [iblk]
  entry_read
  pointwise []
  blk_ext [iblk, V, idx t]

/-- The norm's offsets. -/
theorem block5 (c : Dev nD) (t : Fin cfg0.N) (l : Fin 1024) :
    iblk m c 5 t (ix2 0 l) = m ((c : Thread nD τ).loc main_arg5) (ix1 l) := by
  have hN : t.val < 1 := t.isLt
  blk_simp [iblk]
  entry_read
  pointwise []
  blk_ext [iblk, V, idx t]

/-- The reference's result, from the arguments in memory. -/
abbrev goal (c : Dev nD) : FVec Ideal S128x1024 .f32 :=
  Ref.res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The residual a grid point computes, entry by entry. -/
theorem resid_row (c : Dev nD) (t : Fin cfg0.N) (r : Fin 128) (l : Fin 1024) :
    gated (iblk m c 2 t (ix2 r l)) (iblk m c 3 t (ix2 r ⟨2048 + l.val, by omega⟩)) (product (n := 2048) (fun k => iblk m c 0 t (ix2 r k)) (fun k => iblk m c 1 t (ix2 k l)))
      = Ref.entry (m ((c : Thread nD τ).loc main_arg0)) (m ((c : Thread nD τ).loc main_arg1)) (m ((c : Thread nD τ).loc main_arg2)) (m ((c : Thread nD τ).loc main_arg3)) r l := by
  rw [Ref.entry, block2, block3]
  refine congrArg _ (congrArg₂ product (funext fun k => ?_) (funext fun k => block1 m c t k l))
  rw [block0]

/-- What a grid point stores, row by row. -/
theorem row (c : Dev nD) (t : Fin cfg0.N) (r : Fin 128) (l : Fin 1024) :
    k0_pay1 (iblk m c 0 t) (iblk m c 1 t) (iblk m c 2 t) (View.ld (iblk m c 3 t) r0_3) (iblk m c 4 t) (iblk m c 5 t) (ix2 r l)
      = goal m c (ix2 r l) := by
  refine Eq.trans ?_ (Ref.res_apply _ _ _ _ _ _ _ _).symm
  rw [← funext (resid_row m c t r)]
  pointwise [k0_pay1]
  rw [block4, block5]
  rfl

theorem point (c : Dev nD) (t : Fin cfg0.N) (y : S128x1024.Idx) :
    k0_pay1 (iblk m c 0 t) (iblk m c 1 t) (iblk m c 2 t) (View.ld (iblk m c 3 t) r0_3) (iblk m c 4 t) (iblk m c 5 t) y
      = goal m c (((cfg0.win 6).blk t).view.emb y) := by
  have e : ((cfg0.win 6).blk t).view.emb y = ix2 (y 0) (y 1) := by
    blk_ext [idx t]
  exact (congrArg _ (eq_ix2 y)).trans ((row m c t (y 0) (y 1)).trans (congrArg _ e.symm))

/-- The kernel's array is the reference's. -/
theorem final (c : Dev nD) : (dats m 0 c).arrAt 6 cfg0.N = goal m c := by
  refine (dats m 0 c).arrAt_eq_of_covers 6 _ (by decide +kernel) fun t _ y => ?_
  blk_simp
  rw [after0_6]
  frame_out
  exact point m c t y

/-- The reference program ends with its counters at zero and its arguments unchanged. -/
theorem quiescent_ref : Cert.quiescent_DnOutSRefIdeal (hDnOutSRefIdeal := Cert.DnOutSRefIdeal.Gen.facts) :=
  fun m ρ _ => (θ_run Cert.DnOutSRefIdeal.defs _ _).mono
    (fun r h => ⟨fun c => (h c).2, Idealize.ShloMosaic.sem_eq_zero_of_no_sems (by decide) r.2⟩)
    (Cert.DnOutSRefIdeal.Value.run (F := Ideal) m ρ)

/-- Kernel and reference end with the same array. -/
theorem algebraic : Cert.algebraic_DnOutSIdeal_DnOutSRefIdeal (hDnOutSIdeal := Cert.DnOutSIdeal.Gen.facts)
    (hDnOutSRefIdeal := Cert.DnOutSRefIdeal.Gen.facts) := by
  intro m ρ m' ρ' hpre hag
  refine ⟨fun c => goal m c,
    (θ_run _ _ _).mono (fun r h c => ⟨(h c).1.trans (final m c), (h c).2⟩)
      (Cert.DnOutSIdeal.Value.run_blocks (F := Ideal) m ρ),
    (θ_run _ _ _).mono (fun r h c => ⟨(h c).1.trans ?_, (h c).2⟩) (Cert.DnOutSRefIdeal.Value.run (F := Ideal) m' ρ')⟩
  obtain ⟨e0, e1, e2, e3, e4, e5⟩ := hag c
  change Ref.res (m' ((c.tc : Thread Cert.DnOutSRefIdeal.nD Cert.DnOutSRefIdeal.τ).loc Cert.DnOutSRefIdeal.main_arg0)) (m' ((c.tc : Thread Cert.DnOutSRefIdeal.nD Cert.DnOutSRefIdeal.τ).loc Cert.DnOutSRefIdeal.main_arg1)) (m' ((c.tc : Thread Cert.DnOutSRefIdeal.nD Cert.DnOutSRefIdeal.τ).loc Cert.DnOutSRefIdeal.main_arg2)) (m' ((c.tc : Thread Cert.DnOutSRefIdeal.nD Cert.DnOutSRefIdeal.τ).loc Cert.DnOutSRefIdeal.main_arg3)) (m' ((c.tc : Thread Cert.DnOutSRefIdeal.nD Cert.DnOutSRefIdeal.τ).loc Cert.DnOutSRefIdeal.main_arg4)) (m' ((c.tc : Thread Cert.DnOutSRefIdeal.nD Cert.DnOutSRefIdeal.τ).loc Cert.DnOutSRefIdeal.main_arg5)) = goal m c
  rw [e0, e1, e2, e3, e4, e5]

end Cert.DnOutSEq

end
-- ==== Proof.DnPrepBlock.lean ====
/-
  The delta network's sample step before its recurrence, as a grid point computes it: 512 columns of the four taps' sum,
  gated; the columns of queries and keys divided by their head's length.
-/
module

public import proofs.«01_k».proof.Proof.Gen.DnPrepIdeal.Frame
public import Idealize.ShloMosaic.Lib.Pipeline.ValueKit
public import Idealize.ShloMosaic.Lib.Pointwise
public import proofs.«01_k».proof.Proof.Softmax

@[expose] public section

set_option maxRecDepth 16384

noncomputable section

open Idealize.ShloMosaic Idealize.ShloMosaic.TcCoe Idealize.SL.Sem
open Cert.DnPrepIdeal Cert.DnPrepIdeal.Gen Cert.DnPrepIdeal.Facts

namespace Cert.DnPrepBlock

/-- A number times its logistic function. -/
def silu (s : EReal) : EReal := s * Ideal.div 1 (1 + Ideal.exp (-s))

/-- The small number under the root, and the queries' scale. -/
abbrev eps : EReal := Ideal.ofBits .f32 0x358637BD#32
abbrev scale : EReal := Ideal.ofBits .f32 0x3DB504F3#32

/-- An entry of a row divided by the length of the 128 entries of its head. -/
def norm {n : ℕ} (f : Fin n → EReal) (hn : n % 128 = 0) (l : Fin n) : EReal :=
  f l * Ideal.rsqrt ((∑ k : Fin 128, f ⟨l.val / 128 * 128 + k.val, by omega⟩ * f ⟨l.val / 128 * 128 + k.val, by omega⟩) + eps)

/-- A row of queries, keys and values: the queries divided by their heads' lengths and scaled, the keys divided by
    theirs, the values as they are. -/
def prep (f : Fin 4096 → EReal) (l : Fin 4096) : EReal :=
  if l.val < 1024 then norm f rfl l * scale else if l.val < 2048 then norm f rfl l else f l

theorem norm_eq {n : ℕ} (f : Fin n → EReal) (hn : n % 128 = 0) (l : Fin n) (b : ℕ) (hb : l.val / 128 * 128 = b) :
    norm f hn l = f l * Ideal.rsqrt ((∑ k : Fin 128, f ⟨b + k.val, by omega⟩ * f ⟨b + k.val, by omega⟩) + eps) := by
  subst hb
  rfl

/-- What a grid point finds of the taps' sum, gated. -/
def gated (x : Vec Ideal S128x512 .f32) (p : Vec Ideal S3x128x512 .f32) (w : Vec Ideal S4x512 .f32) : FVec Ideal S128x512 .f32 :=
  k0_pay10 x w (View.ld p (Rect.unit ![0, 0, 0] ![1, 128, 512] inb_S3x128x512_S1x128x512_0_0_0))
    (View.ld p (Rect.unit ![1, 0, 0] ![1, 128, 512] inb_S3x128x512_S1x128x512_1_0_0))
    (View.ld p (Rect.unit ![2, 0, 0] ![1, 128, 512] inb_S3x128x512_S1x128x512_2_0_0))

theorem gated_apply (x : Vec Ideal S128x512 .f32) (p : Vec Ideal S3x128x512 .f32) (w : Vec Ideal S4x512 .f32)
    (r : Fin 128) (l : Fin 512) :
    gated x p w (ix2 r l) = silu (p (ix3 0 r l) * w (ix2 0 l) + p (ix3 1 r l) * w (ix2 1 l) + p (ix3 2 r l) * w (ix2 2 l)
      + x (ix2 r l) * w (ix2 3 l)) := by
  rw [silu, ← Cert.Num.silu_eq]
  pointwise [gated, k0_pay10]
  rw [show Ideal.ofBits .f32 0x3F000000#32 = ((1 / 2 : ℝ) : EReal) from by
    simp [Ideal.ofBits, Ideal.ieee]
    rw [← EReal.coe_mul]
    norm_num]

/-- The factor of a grid point's heads. -/
theorem factor : ∀ t : Fin cfg0.N, t.val < 4 →
    k0_pay4 (F := Ideal) (BitVec.ofNat 32 (grid0.coords t 0).val) = if t.val < 2 then scale else 1 := by
  intro t h
  have e : (grid0.coords t 0).val = t.val := (by decide +kernel : ∀ t : Fin grid0.N, (grid0.coords t 0).val = t.val) t
  have hb : Ideal.ofBits .f32 0x3F800000#32 = 1 := by
    simp [Ideal.ofBits, Ideal.ieee]
    rw [← EReal.coe_mul]
    norm_num
  rw [e]
  have hc : Scalar.cmpi .slt (BitVec.ofNat 32 t.val) 2#32 = if t.val < 2 then 1#1 else 0#1 := by
    have : t.val < 8 := t.isLt
    generalize t.val = n at *
    interval_cases n <;> rfl
  unfold k0_pay4
  dsimp only
  rw [hc]
  by_cases h2 : t.val < 2
  · rw [if_pos h2, if_pos h2]; rfl
  · rw [if_neg h2, if_neg h2]; exact hb

theorem head0 (a : BitVec 32) (v : FVec Ideal S128x512 .f32) (r e : Fin 128) :
    k0_pay5 a v (ix2 r e) = norm (fun l => v (ix2 r l)) rfl ⟨e.val, by omega⟩ * k0_pay4 (F := Ideal) a := by
  rw [norm_eq _ _ _ 0 (by dsimp only; omega)]
  pointwise [k0_pay5]

theorem head1 (a : BitVec 32) (v : FVec Ideal S128x512 .f32) (r e : Fin 128) :
    k0_pay6 a v (ix2 r e) = norm (fun l => v (ix2 r l)) rfl ⟨128 + e.val, by omega⟩ * k0_pay4 (F := Ideal) a := by
  rw [norm_eq _ _ _ 128 (by dsimp only; omega)]
  pointwise [k0_pay6]

theorem head2 (a : BitVec 32) (v : FVec Ideal S128x512 .f32) (r e : Fin 128) :
    k0_pay7 a v (ix2 r e) = norm (fun l => v (ix2 r l)) rfl ⟨256 + e.val, by omega⟩ * k0_pay4 (F := Ideal) a := by
  rw [norm_eq _ _ _ 256 (by dsimp only; omega)]
  pointwise [k0_pay7]

theorem head3 (a : BitVec 32) (v : FVec Ideal S128x512 .f32) (r e : Fin 128) :
    k0_pay3 (k0_pay4 (F := Ideal) a) (k0_pay8 v) (k0_pay9 v) (ix2 r e)
      = norm (fun l => v (ix2 r l)) rfl ⟨384 + e.val, by omega⟩ * k0_pay4 (F := Ideal) a := by
  rw [norm_eq _ _ _ 384 (by dsimp only; omega)]
  pointwise [k0_pay3, k0_pay8, k0_pay9]

variable (m : (ℓ : Loc nD τ sig) → Buf (Elt Ideal) ℓ)

/-- The blocks a grid point reads. -/
abbrev bx (c : Dev nD) (t : Fin cfg0.N) : Vec Ideal S128x512 .f32 := iblk m c 0 t
abbrev bp (c : Dev nD) (t : Fin cfg0.N) : Vec Ideal S3x128x512 .f32 := iblk m c 1 t
abbrev bw (c : Dev nD) (t : Fin cfg0.N) : Vec Ideal S4x512 .f32 := iblk m c 2 t

/-- A grid point of the queries and keys stores the gated sum divided by the heads' lengths, times its factor. -/
theorem after_heads (c : Dev nD) (t : Fin cfg0.N) (h : t.val < 4) (r : Fin 128) (l : Fin 512) :
    (dats m 0 c).after 3 t (ix2 r l)
      = norm (fun l => gated (bx m c t) (bp m c t) (bw m c t) (ix2 r l)) rfl l * (if t.val < 2 then scale else 1) := by
  rw [after0_3, outsAt0_A m c t (by omega) h, ← factor t h]
  frame_out
  canon_tiles x hx
  · rw [eq_ix2 x]
    refine (head3 _ (gated (bx m c t) (bp m c t) (bw m c t)) (x 0) (x 1)).trans ?_
    rw [show x 0 = r from Fin.ext hx0.symm, show (⟨384 + (x 1).val, _⟩ : Fin 512) = l from Fin.ext hx1.symm]
  · rw [eq_ix2 x]
    refine (head2 _ (gated (bx m c t) (bp m c t) (bw m c t)) (x 0) (x 1)).trans ?_
    rw [show x 0 = r from Fin.ext hx0.symm, show (⟨256 + (x 1).val, _⟩ : Fin 512) = l from Fin.ext hx1.symm]
  · rw [eq_ix2 x]
    refine (head1 _ (gated (bx m c t) (bp m c t) (bw m c t)) (x 0) (x 1)).trans ?_
    rw [show x 0 = r from Fin.ext hx0.symm, show (⟨128 + (x 1).val, _⟩ : Fin 512) = l from Fin.ext hx1.symm]
  · rw [eq_ix2 x]
    refine (head0 _ (gated (bx m c t) (bp m c t) (bw m c t)) (x 0) (x 1)).trans ?_
    rw [show x 0 = r from Fin.ext hx0.symm, show (⟨(x 1).val, _⟩ : Fin 512) = l from Fin.ext hx1.symm]

/-- A grid point of the values stores the gated sum. -/
theorem after_values (c : Dev nD) (t : Fin cfg0.N) (h : ¬t.val < 4) (r : Fin 128) (l : Fin 512) :
    (dats m 0 c).after 3 t (ix2 r l) = gated (bx m c t) (bp m c t) (bw m c t) (ix2 r l) := by
  rw [after0_3, outsAt0_B m c t (by omega) h]
  frame_out
  rfl

/-- Every grid point keeps the last two of the three rows, and the new one. -/
def kept (x : Vec Ideal S128x512 .f32) (p : Vec Ideal S3x128x512 .f32) (j : Fin 3) (r : Fin 128) (l : Fin 512) : EReal :=
  if h : j.val < 2 then p (ix3 ⟨1 + j.val, by omega⟩ r l) else x (ix2 r l)

theorem keep2 (x : Vec Ideal S128x512 .f32) (q : Fin 1) (r : Fin 128) (l : Fin 512) :
    k0_pay2 x (ix3 q r l) = x (ix2 r l) := by
  pointwise [k0_pay2]

theorem keep1 (p : Vec Ideal S3x128x512 .f32) (q : Fin 1) (r : Fin 128) (l : Fin 512) :
    k0_pay1 (View.ld p (Rect.unit ![2, 0, 0] ![1, 128, 512] inb_S3x128x512_S1x128x512_2_0_0)) (ix3 q r l) = p (ix3 2 r l) := by
  pointwise [k0_pay1]

theorem keep0 (p : Vec Ideal S3x128x512 .f32) (q : Fin 1) (r : Fin 128) (l : Fin 512) :
    k0_pay11 (View.ld p (Rect.unit ![1, 0, 0] ![1, 128, 512] inb_S3x128x512_S1x128x512_1_0_0)) (ix3 q r l) = p (ix3 1 r l) := by
  pointwise [k0_pay11]

theorem after_kept (c : Dev nD) (t : Fin cfg0.N) (j : Fin 3) (r : Fin 128) (l : Fin 512) :
    (dats m 0 c).after 4 t (ix3 j r l) = kept (bx m c t) (bp m c t) j r l := by
  rw [after0_4]
  by_cases h : t.val < 4
  · rw [outsAt0_A m c t (by omega) h]
    frame_out
    canon_tiles x hx
    · rw [eq_ix3 x]
      refine (keep2 (bx m c t) (x 0) (x 1) (x 2)).trans ?_
      rw [kept, dif_neg (by have : j.val = 2 + (x 0).val := hx0; omega), show x 1 = r from Fin.ext hx1.symm, show x 2 = l from Fin.ext hx2.symm]
    · rw [eq_ix3 x]
      refine (keep1 (bp m c t) (x 0) (x 1) (x 2)).trans ?_
      have hj : j.val = 1 + (x 0).val := hx0
      rw [kept, dif_pos (by omega), show x 1 = r from Fin.ext hx1.symm, show x 2 = l from Fin.ext hx2.symm]
      exact congrArg (fun v => bp m c t (ix3 v r l)) (Fin.ext (by show 2 = 1 + j.val; omega))
    · rw [eq_ix3 x]
      refine (keep0 (bp m c t) (x 0) (x 1) (x 2)).trans ?_
      have hj : j.val = (x 0).val := hx0
      rw [kept, dif_pos (by omega), show x 1 = r from Fin.ext hx1.symm, show x 2 = l from Fin.ext hx2.symm]
      exact congrArg (fun v => bp m c t (ix3 v r l)) (Fin.ext (by show 1 = 1 + j.val; omega))
  · rw [outsAt0_B m c t (by omega) h]
    frame_out
    canon_tiles x hx
    · rw [eq_ix3 x]
      refine (keep2 (bx m c t) (x 0) (x 1) (x 2)).trans ?_
      rw [kept, dif_neg (by have : j.val = 2 + (x 0).val := hx0; omega), show x 1 = r from Fin.ext hx1.symm, show x 2 = l from Fin.ext hx2.symm]
    · rw [eq_ix3 x]
      refine (keep1 (bp m c t) (x 0) (x 1) (x 2)).trans ?_
      have hj : j.val = 1 + (x 0).val := hx0
      rw [kept, dif_pos (by omega), show x 1 = r from Fin.ext hx1.symm, show x 2 = l from Fin.ext hx2.symm]
      exact congrArg (fun v => bp m c t (ix3 v r l)) (Fin.ext (by show 2 = 1 + j.val; omega))
    · rw [eq_ix3 x]
      refine (keep0 (bp m c t) (x 0) (x 1) (x 2)).trans ?_
      have hj : j.val = (x 0).val := hx0
      rw [kept, dif_pos (by omega), show x 1 = r from Fin.ext hx1.symm, show x 2 = l from Fin.ext hx2.symm]
      exact congrArg (fun v => bp m c t (ix3 v r l)) (Fin.ext (by show 1 = 1 + j.val; omega))

end Cert.DnPrepBlock

end
-- ==== Proof.DnPrepReference.lean ====
/-
  The delta network's sample step before its recurrence, as the reference computes it: the three rows kept and the new
  one, the four taps, the gate, the queries and keys divided by their lengths; read entry by entry.
-/
module

public import proofs.«01_k».proof.Proof.Gen.DnPrepRefIdeal.Run
public import proofs.«01_k».proof.Proof.DnPrepBlock
public import Idealize.ShloMosaic.Lib.Claim

@[expose] public section

set_option maxRecDepth 16384

noncomputable section

open Idealize.ShloMosaic Idealize.ShloMosaic.TcCoe Idealize.SL.Sem

namespace Cert.DnPrepReference

open Cert.DnPrepRefIdeal Cert.DnPrepRefIdeal.Gen Cert.DnPrepRefIdeal.Facts Cert.DnPrepBlock

variable (x : FVec Ideal S128x4096 .f32) (prev : FVec Ideal S128x3x4096 .f32) (cw : FVec Ideal S4x4096 .f32)

/-- The three rows kept of every sample and the new one after them. -/
def rows4 : FVec Ideal S128x4x4096 .f32 :=
  concatenate S128x4x4096 1 [⟨S128x3x4096, prev⟩, ⟨S128x1x4096, (shapeCast _ x shapeCasts_S128x4096_S128x1x4096)⟩] concatenates_S128x3x4096_S128x1x4096_S128x4x4096_d1

/-- The four taps' sum. -/
def summed : FVec Ideal S128x1x4096 .f32 :=
  addf (addf (addf (mulf (extractStridedSlice S128x1x4096 ![0, 0, 0] (rows4 x prev) slices_S128x4x4096_S128x1x4096_0_0_0) (broadcastInDim S128x1x4096 ![0, 1, 2] bcast_S1x1x4096_S128x1x4096_0_1_2 (broadcastInDim S1x1x4096 ![2] bcast_S4096_S1x1x4096_2 (shapeCast _ (extractStridedSlice S1x4096 ![0, 0] cw slices_S4x4096_S1x4096_0_0) shapeCasts_S1x4096_S4096)))) (mulf (extractStridedSlice S128x1x4096 ![0, 1, 0] (rows4 x prev) slices_S128x4x4096_S128x1x4096_0_1_0) (broadcastInDim S128x1x4096 ![0, 1, 2] bcast_S1x1x4096_S128x1x4096_0_1_2 (broadcastInDim S1x1x4096 ![2] bcast_S4096_S1x1x4096_2 (shapeCast _ (extractStridedSlice S1x4096 ![1, 0] cw slices_S4x4096_S1x4096_1_0) shapeCasts_S1x4096_S4096))))) (mulf (extractStridedSlice S128x1x4096 ![0, 2, 0] (rows4 x prev) slices_S128x4x4096_S128x1x4096_0_2_0) (broadcastInDim S128x1x4096 ![0, 1, 2] bcast_S1x1x4096_S128x1x4096_0_1_2 (broadcastInDim S1x1x4096 ![2] bcast_S4096_S1x1x4096_2 (shapeCast _ (extractStridedSlice S1x4096 ![2, 0] cw slices_S4x4096_S1x4096_2_0) shapeCasts_S1x4096_S4096))))) (mulf (extractStridedSlice S128x1x4096 ![0, 3, 0] (rows4 x prev) slices_S128x4x4096_S128x1x4096_0_3_0) (broadcastInDim S128x1x4096 ![0, 1, 2] bcast_S1x1x4096_S128x1x4096_0_1_2 (broadcastInDim S1x1x4096 ![2] bcast_S4096_S1x1x4096_2 (shapeCast _ (extractStridedSlice S1x4096 ![3, 0] cw slices_S4x4096_S1x4096_3_0) shapeCasts_S1x4096_S4096))))

/-- The gated sum. -/
def act : FVec Ideal S128x1x4096 .f32 :=
  mulf (summed x prev cw) (Host.divf (broadcastInDim S128x1x4096 ![] bcast_S_S128x1x4096 (constant S_ .f32 0x3F800000#32)) (addf (broadcastInDim S128x1x4096 ![] bcast_S_S128x1x4096 (constant S_ .f32 0x3F800000#32)) (Host.exp (Host.negf (summed x prev cw)))))

/-- Its queries and its keys, head by head. -/
def queries : FVec Ideal S128x1x8x128 .f32 :=
  shapeCast _ (extractStridedSlice S128x1x1024 ![0, 0, 0] (act x prev cw) slices_S128x1x4096_S128x1x1024_0_0_0) shapeCasts_S128x1x1024_S128x1x8x128

def keys : FVec Ideal S128x1x8x128 .f32 :=
  shapeCast _ (extractStridedSlice S128x1x1024 ![0, 0, 1024] (act x prev cw) slices_S128x1x4096_S128x1x1024_0_0_1024) shapeCasts_S128x1x1024_S128x1x8x128

/-- Every head divided by its length. -/
def unit (h : FVec Ideal S128x1x8x128 .f32) : FVec Ideal S128x1x8x128 .f32 :=
  mulf h (broadcastInDim S128x1x8x128 ![0, 1, 2, 3] bcast_S128x1x8x1_S128x1x8x128_0_1_2_3 (Host.rsqrt (addf (broadcastInDim S128x1x8x1 ![0, 1, 2] bcast_S128x1x8_S128x1x8x1_0_1_2 (Host.reduceAdd (mulf h h) (constant S_ .f32 0x00000000#32) reducesTo_S128x1x8x128_S128x1x8_d3 h_S_)) (broadcastInDim S128x1x8x1 ![] bcast_S_S128x1x8x1 (constant S_ .f32 0x358637BD#32)))))

/-- The two results: the rows of queries, keys and values, -/
def prepRes : FVec Ideal S128x4096 .f32 :=
  shapeCast _ ((concatenate S128x1x4096 2 [⟨S128x1x1024, ((shapeCast _ (mulf (unit (queries x prev cw)) (broadcastInDim S128x1x8x128 ![] bcast_S_S128x1x8x128 (constant S_ .f32 0x3DB504F3#32))) shapeCasts_S128x1x8x128_S128x1x1024) : (⟨S128x1x1024, .f32⟩ : BufTy).Contents (Elt Ideal))⟩, ⟨S128x1x1024, ((shapeCast _ (unit (keys x prev cw)) shapeCasts_S128x1x8x128_S128x1x1024) : (⟨S128x1x1024, .f32⟩ : BufTy).Contents (Elt Ideal))⟩, ⟨S128x1x2048, ((extractStridedSlice S128x1x2048 ![0, 0, 2048] (act x prev cw) slices_S128x1x4096_S128x1x2048_0_0_2048) : (⟨S128x1x2048, .f32⟩ : BufTy).Contents (Elt Ideal))⟩] concatenates_S128x1x1024_S128x1x1024_S128x1x2048_S128x1x4096_d2 : (⟨S128x1x4096, .f32⟩ : BufTy).Contents (Elt Ideal))) shapeCasts_S128x1x4096_S128x4096

/-- and the three rows kept. -/
def tailRes : FVec Ideal S128x3x4096 .f32 :=
  extractStridedSlice S128x3x4096 ![0, 1, 0] (rows4 x prev) slices_S128x4x4096_S128x3x4096_0_1_0

/-- The taps' sum at an entry. -/
abbrev total (r : Fin 128) (l : Fin 4096) : EReal :=
  prev (ix3 r 0 l) * cw (ix2 0 l) + prev (ix3 r 1 l) * cw (ix2 1 l) + prev (ix3 r 2 l) * cw (ix2 2 l) + x (ix2 r l) * cw (ix2 3 l)

theorem rows4_apply (r : Fin 128) (j : Fin 4) (l : Fin 4096) :
    rows4 x prev (ix3 r j l) = if h : j.val < 3 then prev (ix3 r ⟨j.val, h⟩ l) else x (ix2 r l) := by
  pointwise [rows4]

theorem summed_apply (r : Fin 128) (q : Fin 1) (l : Fin 4096) : summed x prev cw (ix3 r q l) = total x prev cw r l := by
  pointwise [summed]
  rw [rows4_apply, rows4_apply, rows4_apply, rows4_apply]
  rfl

theorem act_apply (r : Fin 128) (q : Fin 1) (l : Fin 4096) : act x prev cw (ix3 r q l) = silu (total x prev cw r l) := by
  pointwise [act]
  rw [summed_apply]
  rfl

theorem queries_apply (r : Fin 128) (q : Fin 1) (h : Fin 8) (e : Fin 128) :
    queries x prev cw (ix4 r q h e) = silu (total x prev cw r ⟨h.val * 128 + e.val, by omega⟩) := by
  pointwise [queries]
  exact act_apply x prev cw r _ _

theorem keys_apply (r : Fin 128) (q : Fin 1) (h : Fin 8) (e : Fin 128) :
    keys x prev cw (ix4 r q h e) = silu (total x prev cw r ⟨1024 + (h.val * 128 + e.val), by omega⟩) := by
  pointwise [keys]
  exact act_apply x prev cw r _ _

theorem unit_apply (h : FVec Ideal S128x1x8x128 .f32) (r : Fin 128) (q : Fin 1) (i : Fin 8) (e : Fin 128) :
    unit h (ix4 r q i e) = h (ix4 r q i e) * Ideal.rsqrt ((∑ k : Fin 128, h (ix4 r q i k) * h (ix4 r q i k)) + eps) := by
  obtain rfl : q = 0 := Fin.ext (by omega)
  pointwise [unit]

theorem unit_query (r : Fin 128) (l : Fin 4096) (h : l.val < 1024) :
    unit (queries x prev cw) (ix4 r 0 ⟨l.val / 128, by omega⟩ ⟨l.val % 128, by omega⟩)
      = DnPrepBlock.norm (fun l : Fin 4096 => silu (total x prev cw r l)) rfl l := by
  rw [unit_apply, queries_apply, DnPrepBlock.norm]
  have e : ∀ k, (⟨l.val / 128 * 128 + l.val % 128, k⟩ : Fin 4096) = l := fun k => Fin.ext (by dsimp only; omega)
  rw [e]
  simp only [queries_apply]

theorem unit_key (r : Fin 128) (l : Fin 4096) (h : ¬l.val < 1024) (h' : l.val < 2048) :
    unit (keys x prev cw) (ix4 r 0 ⟨(l.val - 1024) / 128, by omega⟩ ⟨(l.val - 1024) % 128, by omega⟩)
      = DnPrepBlock.norm (fun l : Fin 4096 => silu (total x prev cw r l)) rfl l := by
  rw [unit_apply, keys_apply, DnPrepBlock.norm]
  have e : ∀ k, (⟨1024 + ((l.val - 1024) / 128 * 128 + (l.val - 1024) % 128), k⟩ : Fin 4096) = l :=
    fun k => Fin.ext (by dsimp only; omega)
  have e' : ∀ (i : Fin 128) k k', (⟨1024 + ((l.val - 1024) / 128 * 128 + i.val), k⟩ : Fin 4096) = ⟨l.val / 128 * 128 + i.val, k'⟩ :=
    fun i k k' => Fin.ext (by dsimp only; omega)
  rw [e]
  simp only [keys_apply]
  refine congrArg (fun v => _ * Ideal.rsqrt (v + eps)) (Finset.sum_congr rfl fun i _ => ?_)
  rw [e' i _ (by omega)]

theorem prepRes_apply (r : Fin 128) (l : Fin 4096) :
    prepRes x prev cw (ix2 r l) = prep (fun l : Fin 4096 => silu (total x prev cw r l)) l := by
  unfold prep
  pointwise [prepRes]
  by_cases h : l.val < 1024
  · rw [dif_pos h, if_pos h, unit_query x prev cw r l h]
  · rw [dif_neg h, if_neg h]
    by_cases h' : l.val < 2048
    · rw [dif_pos (by omega), if_pos h', unit_key x prev cw r l h h']
    · rw [dif_neg (by omega), if_neg h', act_apply]
      exact congrArg (fun v => silu (total x prev cw r v)) (Fin.ext (by dsimp only; omega))

theorem tailRes_apply (r : Fin 128) (j : Fin 3) (l : Fin 4096) :
    tailRes x prev (ix3 r j l) = if h : j.val < 2 then prev (ix3 r ⟨1 + j.val, by omega⟩ l) else x (ix2 r l) := by
  pointwise [tailRes]
  rw [rows4_apply]
  by_cases h : j.val < 2
  · rw [dif_pos h, dif_pos (by dsimp only; omega)]
  · rw [dif_neg h, dif_neg (by dsimp only; omega)]

end Cert.DnPrepReference

end
-- ==== Proof.DnPrepValue.lean ====
/-
  The delta network's sample step before its recurrence: the arrays the kernel's program ends with are the reference's.
-/
module

public import proofs.«01_k».proof.Proof.DnPrepReference
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem Idealize.ShloMosaic.Pipeline

namespace Cert.DnPrepEq

open Cert.DnPrepBlock Cert.DnPrepIdeal Cert.DnPrepIdeal.Gen Cert.DnPrepIdeal.Facts

variable (m : (ℓ : Loc nD τ sig) → Buf (Elt Ideal) ℓ)

/-- Where each window's block lies at every grid point. -/
theorem idx : ∀ t : Fin cfg0.N,
    win0_0.index t = ![0, t.val] ∧ win0_1.index t = ![0, 0, t.val] ∧ win0_2.index t = ![0, t.val] ∧ win0_3.index t = ![0, t.val]
    ∧ win0_4.index t = ![0, 0, t.val] :=
  (by decide +kernel : ∀ t : Fin grid0.N, _)

/-- The array column that column `l` of grid point `t`'s blocks is. -/
abbrev acol (t : Fin cfg0.N) (l : Fin 512) : Fin 4096 := ⟨t.val * 512 + l.val, by have : t.val < 8 := t.isLt; omega⟩

/-- The arguments in memory. -/
abbrev aX (c : Dev nD) : FVec Ideal S128x4096 .f32 := m ((c : Thread nD τ).loc main_arg0)
abbrev aPrev (c : Dev nD) : FVec Ideal S128x3x4096 .f32 := m ((c : Thread nD τ).loc main_arg1)
abbrev aTaps (c : Dev nD) : FVec Ideal S4x4096 .f32 := m ((c : Thread nD τ).loc main_arg2)

theorem block0 (c : Dev nD) (t : Fin cfg0.N) (r : Fin 128) (l : Fin 512) : bx m c t (ix2 r l) = aX m c (ix2 r (acol t l)) := by
  blk_simp [bx, iblk]
  entry_read
  blk_ext [iblk, V, idx t]

/-- The rows kept, samples along the second axis. -/
theorem V_main_v0 (c : Dev nD) :
    V m c main_v0 = transpose S3x128x4096 [1, 0, 2] (aPrev m c) transposes_S128x3x4096_S3x128x4096_1_0_2 := by
  show StableHlo.after (List.flatten [hostOps0]) (fun b => m (c, b)) (Proc.devRef .tc main_v0) = _
  simp only [List.flatten_cons, List.flatten_nil, List.append_nil, List.cons_append, List.nil_append, StableHlo.after_cons, StableHlo.after_nil]
  after_results_simp

theorem block1 (c : Dev nD) (t : Fin cfg0.N) (j : Fin 3) (r : Fin 128) (l : Fin 512) :
    bp m c t (ix3 j r l) = aPrev m c (ix3 r j (acol t l)) := by
  have e : (win0_1.blk t).view.emb (ix3 j r l) = ix3 j r (acol t l) := by
    blk_ext [idx t]
  blk_simp [bp, iblk]
  refine (congrFun (V_main_v0 m c) _).trans ((congrArg _ e).trans ?_)
  pointwise []

theorem block2 (c : Dev nD) (t : Fin cfg0.N) (j : Fin 4) (l : Fin 512) : bw m c t (ix2 j l) = aTaps m c (ix2 j (acol t l)) := by
  blk_simp [bw, iblk]
  entry_read
  blk_ext [iblk, V, idx t]

/-- The reference's two results, from the arguments in memory. -/
abbrev goal0 (c : Dev nD) : FVec Ideal S128x4096 .f32 := DnPrepReference.prepRes (aX m c) (aPrev m c) (aTaps m c)
abbrev goal1 (c : Dev nD) : FVec Ideal S128x3x4096 .f32 := DnPrepReference.tailRes (aX m c) (aPrev m c)

/-- A row of the gated sums. -/
abbrev row (c : Dev nD) (r : Fin 128) (l : Fin 4096) : EReal := silu (DnPrepReference.total (aX m c) (aPrev m c) (aTaps m c) r l)

theorem gated_eq (c : Dev nD) (t : Fin cfg0.N) (r : Fin 128) (l : Fin 512) :
    gated (bx m c t) (bp m c t) (bw m c t) (ix2 r l) = row m c r (acol t l) := by
  rw [gated_apply]
  simp only [block0, block1, block2]

theorem norm_col (c : Dev nD) (t : Fin cfg0.N) (r : Fin 128) (l : Fin 512) :
    DnPrepBlock.norm (fun l => gated (bx m c t) (bp m c t) (bw m c t) (ix2 r l)) rfl l = DnPrepBlock.norm (row m c r) rfl (acol t l) := by
  rw [norm_eq (row m c r) rfl (acol t l) (t.val * 512 + l.val / 128 * 128) (by dsimp only; omega), DnPrepBlock.norm]
  simp only [gated_eq]
  refine congrArg (fun v => _ * Ideal.rsqrt (v + eps)) (Finset.sum_congr rfl fun k _ => ?_)
  have e : ∀ h h', (acol t ⟨l.val / 128 * 128 + k.val, h⟩ : Fin 4096) = ⟨t.val * 512 + l.val / 128 * 128 + k.val, h'⟩ :=
    fun h h' => Fin.ext (by dsimp only; omega)
  rw [e _ (by have : t.val < 8 := t.isLt; omega)]

/-- What a grid point stores of the rows. -/
theorem row0 (c : Dev nD) (t : Fin cfg0.N) (r : Fin 128) (l : Fin 512) :
    (dats m 0 c).after 3 t (ix2 r l) = goal0 m c (ix2 r (acol t l)) := by
  rw [goal0, DnPrepReference.prepRes_apply, prep]
  by_cases h : t.val < 4
  · rw [after_heads m c t h, norm_col]
    by_cases h2 : t.val < 2
    · rw [if_pos h2, if_pos (by dsimp only; omega)]
    · rw [if_neg h2, if_neg (by dsimp only; omega), if_pos (by dsimp only; omega), mul_one]
  · rw [after_values m c t h, gated_eq, if_neg (by dsimp only; omega), if_neg (by dsimp only; omega)]

theorem final0 (c : Dev nD) : (dats m 0 c).arrAt 3 cfg0.N = goal0 m c := by
  refine (dats m 0 c).arrAt_eq_of_covers 3 _ (by decide +kernel) fun t _ y => ?_
  blk_simp
  have e : ((cfg0.win 3).blk t).view.emb y = ix2 (y 0) (acol t (y 1)) := by
    blk_ext [idx t]
  exact (congrArg _ (eq_ix2 y)).trans ((row0 m c t (y 0) (y 1)).trans (congrArg _ e.symm))

/-- The three rows kept, before the program swaps their first two axes. -/
def rows (c : Dev nD) : FVec Ideal S3x128x4096 .f32 := fun y =>
  goal1 m c (ix3 ⟨(y 1).val, (y 1).isLt⟩ ⟨(y 0).val, (y 0).isLt⟩ ⟨(y 2).val, (y 2).isLt⟩)

theorem row1 (c : Dev nD) (t : Fin cfg0.N) (j : Fin 3) (r : Fin 128) (l : Fin 512) :
    (dats m 0 c).after 4 t (ix3 j r l) = rows m c (ix3 j r (acol t l)) := by
  rw [after_kept]
  show _ = goal1 m c (ix3 r j (acol t l))
  rw [goal1, DnPrepReference.tailRes_apply, kept]
  by_cases h : j.val < 2
  · rw [dif_pos h, dif_pos h, block1]
  · rw [dif_neg h, dif_neg h, block0]

theorem final1 (c : Dev nD) : (dats m 0 c).arrAt 4 cfg0.N = rows m c := by
  refine (dats m 0 c).arrAt_eq_of_covers 4 _ (by decide +kernel) fun t _ y => ?_
  blk_simp
  have e : ((cfg0.win 4).blk t).view.emb y = ix3 (y 0) (y 1) (acol t (y 2)) := by
    blk_ext [idx t]
  exact (congrArg _ (eq_ix3 y)).trans ((row1 m c t (y 0) (y 1) (y 2)).trans (congrArg _ e.symm))

/-- The rows kept, after the run. -/
theorem kept1 (c : Dev nD) : Pipeline.afterTail₀ cfgs (dats m) 0 (V0 m) [hostOps1] c main_v2 = goal1 m c := by
  unfold Pipeline.afterTail₀
  simp only [List.flatten_cons, List.flatten_nil, List.append_nil, List.cons_append, List.nil_append, StableHlo.after_cons, StableHlo.after_nil]
  after_results_simp
  have e : Pipeline.withArrays (cfgs 0).spec c (V0 m c) (fun w => (dats m 0 c).arrAt w (cfgs 0).N) (Proc.tc.devRef main_v1_1) = rows m c :=
    (Pipeline.withArrays_arr spec0 (by decide) c (V0 m c) (fun w => (dats m 0 c).arrAt w cfg0.N) 4).trans (final1 m c)
  refine (congrArg (fun v => transpose S128x3x4096 [1, 0, 2] v transposes_S3x128x4096_S128x3x4096_1_0_2) e).trans ?_
  refine funext fun y => ?_
  rw [eq_ix3 y]
  pointwise []
  exact congrArg (goal1 m c) (eq_ix3 y).symm

/-- The reference program ends with its counters at zero and its arguments unchanged. -/
theorem quiescent_ref : Cert.quiescent_DnPrepRefIdeal (hDnPrepRefIdeal := Cert.DnPrepRefIdeal.Gen.facts) :=
  fun m ρ _ => (θ_run Cert.DnPrepRefIdeal.defs _ _).mono
    (fun r h => ⟨fun c => (h c).2.2, Idealize.ShloMosaic.sem_eq_zero_of_no_sems (by decide) r.2⟩)
    (Cert.DnPrepRefIdeal.Value.run (F := Ideal) m ρ)

/-- Kernel and reference end with the same two arrays. -/
theorem algebraic : Cert.algebraic_DnPrepIdeal_DnPrepRefIdeal (hDnPrepIdeal := Cert.DnPrepIdeal.Gen.facts)
    (hDnPrepRefIdeal := Cert.DnPrepRefIdeal.Gen.facts) := by
  intro m ρ m' ρ' hpre hag
  refine ⟨fun c => goal0 m c, fun c => goal1 m c,
    (θ_run _ _ _).mono (fun r h c => ⟨((h.1 c).1 3).trans (final0 m c),
      ((h.1 c).2 main_v2 (Pipeline.mem_restRefs_of main_v2 (by decide) (by decide))).trans (kept1 m c), h.2.1 c⟩)
      (θ_run_and (run_main m ρ) (frame m ρ)),
    (θ_run _ _ _).mono (fun r h c => ?_) (Cert.DnPrepRefIdeal.Value.run (F := Ideal) m' ρ')⟩
  obtain ⟨e0, e1, e2⟩ := hag c
  refine ⟨(h c).1.trans ?_, (h c).2.1.trans ?_, (h c).2.2⟩
  · unfold Cert.DnPrepRefIdeal.Value.res_main_v56
    rw [e0, e1, e2]
    rfl
  · rw [e0, e1]
    rfl

end Cert.DnPrepEq

end
-- ==== Proof.DnStepMath.lean ====
/-
  The arithmetic of one step of the gated delta rule: what the kernel and the reference compute differs by the
  order of sums and products.
-/
module

public import proofs.«01_k».proof.Proof.Softmax

@[expose] public section

noncomputable section

open Idealize.ShloMosaic

namespace Cert.DnStepMath

/-- What is written for a key: strength times the value less what the decayed state gives for the key. -/
def writeAt (k S : Fin 128 → EReal) (v g b : EReal) : EReal := b * (v - Ideal.exp g * ∑ d : Fin 128, k d * S d)

/-- What is read for a query. -/
def readAt (q k S : Fin 128 → EReal) (v g b : EReal) : EReal :=
  Ideal.exp g * (∑ d : Fin 128, q d * S d) + (∑ d : Fin 128, q d * k d) * writeAt k S v g b

/-- A row divided by its root mean square, scaled and gated. -/
def normGate (o : Fin 128 → EReal) (n z : EReal) (e : Fin 128) : EReal :=
  o e * Ideal.rsqrt (Ideal.div (∑ e : Fin 128, o e * o e) (Ideal.ofBits .f32 0x43000000#32) + Ideal.ofBits .f32 0x358637BD#32) * n
    * (z * Ideal.div 1 (1 + Ideal.exp (-z)))

/-- The exponential of a real number is a real number. -/
theorem exp_real {g : EReal} (hg : ∃ r : ℝ, g = r) : ∃ r : ℝ, Ideal.exp g = r := by
  obtain ⟨r, rfl⟩ := hg
  exact ⟨Real.exp r, rfl⟩

/-- A real number less itself has exponential one. -/
theorem exp_sub_self {g : EReal} (hg : ∃ r : ℝ, g = r) : Ideal.exp (g - g) = 1 := by
  obtain ⟨r, rfl⟩ := hg
  rw [← EReal.coe_sub, sub_self]
  show ((Real.exp 0 : ℝ) : EReal) = 1
  rw [Real.exp_zero]
  rfl

/-- A sum of real numbers is the real sum. -/
theorem coe_sum (f : Fin 128 → ℝ) : (∑ d : Fin 128, (f d : EReal)) = ((∑ d : Fin 128, f d : ℝ) : EReal) := by
  refine Finset.induction_on (motive := fun s => (∑ d ∈ s, (f d : EReal)) = ((∑ d ∈ s, f d : ℝ) : EReal)) Finset.univ ?_ fun a s ha ih => ?_
  · simp
  · rw [Finset.sum_insert ha, Finset.sum_insert ha, ih, EReal.coe_add]

/-- The product of a strength with a sum of real numbers, taken inside. -/
theorem write_eq (k S : Fin 128 → EReal) (v g b : EReal) (hk : ∀ d, ∃ r : ℝ, k d = r) (hS : ∀ d, ∃ r : ℝ, S d = r)
    (hv : ∃ r : ℝ, v = r) (hg : ∃ r : ℝ, g = r) (hb : ∃ r : ℝ, b = r) :
    v * b - ∑ d : Fin 128, k d * b * Ideal.exp g * S d = writeAt k S v g b := by
  obtain ⟨E, hE⟩ := exp_real hg
  unfold writeAt
  rw [hE]
  choose k' hk using hk
  choose S' hS using hS
  obtain ⟨v', rfl⟩ := hv
  obtain ⟨b', rfl⟩ := hb
  simp only [hk, hS, ← EReal.coe_mul]
  rw [coe_sum, coe_sum]
  simp only [← EReal.coe_mul, ← EReal.coe_sub]
  refine congrArg _ ?_
  rw [mul_sub, Finset.mul_sum, Finset.mul_sum, mul_comm v']
  refine congrArg _ (Finset.sum_congr rfl fun d _ => ?_)
  ring

/-- The decay of a query taken out of its product with the state. -/
theorem read_eq (q S : Fin 128 → EReal) (g : EReal) (hg : ∃ r : ℝ, g = r) :
    (∑ d : Fin 128, q d * Ideal.exp g * S d) = Ideal.exp g * ∑ d : Fin 128, q d * S d := by
  have ht : Ideal.exp g ≠ ⊤ := by
    obtain ⟨r, hr⟩ := exp_real hg
    rw [hr]
    exact EReal.coe_ne_top r
  rw [mul_comm (Ideal.exp g), ← Cert.Num.sum_mul_real _ _ (Cert.Num.exp_nonneg g) ht]
  exact Finset.sum_congr rfl fun d _ => mul_right_comm _ _ _

end Cert.DnStepMath
end
-- ==== Proof.DnStepBlock.lean ====
/-
  One head's step of the gated delta rule as the kernel computes it, read entry by entry.
-/
module

public import proofs.«01_k».proof.Proof.Gen.DnStepIdeal.Skeleton
public import proofs.«01_k».proof.Proof.DnStepMath
public import Idealize.ShloMosaic.Lib.Pointwise

@[expose] public section

set_option maxRecDepth 16384

noncomputable section

open Idealize.ShloMosaic Idealize.ShloMosaic.TcCoe Idealize.SL.Sem

namespace Cert.DnStepBlock

open Cert.DnStepIdeal Cert.DnStepIdeal.Gen Cert.DnStepIdeal.Facts Cert.DnStepMath

/-- The row numbers of an eight-row tile. -/
abbrev rows8 : IVec S8x128 32 := iota .tc S8x128 32 [0] iota_S8x128_d0_w32

variable (S : Vec Ideal S1x1x1x128x128 .f32) (k q v z : Vec Ideal S1x1x128 .f32) (g b : Vec Ideal S1x1x1 .f32) (ng : Vec Ideal S1x128 .f32)

/-- The key's and the query's products with the state, in the first two of eight rows. -/
def reads : FVec Ideal S8x128 .f32 := k0_pay196 rows8 (k0_pay4 S) (k0_pay68 k) (k0_pay132 q)

/-- What is written. -/
def written : FVec Ideal S1x128 .f32 := k0_pay349 (reads S k q) (k0_pay285 g) b v

/-- The key times what is written. -/
def outer : FVec Ideal S128x128 .f32 := k0_pay442 rows8 (k0_pay68 k) (written S k q v g b)

/-- One head's new state, -/
def headState : FVec Ideal S1x1x1x128x128 .f32 := k0_pay542 (k0_pay541 (k0_pay4 S) (k0_pay285 g) (outer S k q v g b))

/-- and its row of the result. -/
def headRow : FVec Ideal S1x1x128 .f32 :=
  k0_pay543 (k0_pay3 ng) (k0_pay68 k) (k0_pay132 q) (reads S k q) (k0_pay285 g) (written S k q v g b) z

theorem reads_key (e : Fin 128) : reads S k q (ix2 0 e) = ∑ d : Fin 128, k (ix3 0 0 d) * S (ix5 0 0 0 d e) := by
  pointwise [reads, k0_pay196, k0_pay4, k0_pay68, k0_pay132, rows8]

theorem reads_query (e : Fin 128) : reads S k q (ix2 1 e) = ∑ d : Fin 128, q (ix3 0 0 d) * S (ix5 0 0 0 d e) := by
  pointwise [reads, k0_pay196, k0_pay4, k0_pay68, k0_pay132, rows8]
  exact Finset.sum_congr rfl fun d _ => rfl

theorem written_apply (e : Fin 128) : written S k q v g b (ix2 0 e)
    = writeAt (fun d => k (ix3 0 0 d)) (fun d => S (ix5 0 0 0 d e)) (v (ix3 0 0 e)) (g (ix3 0 0 0)) (b (ix3 0 0 0)) := by
  rw [writeAt, ← reads_key S k q]
  unfold written
  generalize reads S k q = R
  pointwise [k0_pay349, k0_pay285]

theorem outer_apply (d e : Fin 128) : outer S k q v g b (ix2 d e) = k (ix3 0 0 d) * written S k q v g b (ix2 0 e) := by
  unfold outer
  generalize written S k q v g b = W
  pointwise [k0_pay442, k0_pay68, rows8]
  rw [Fin.sum_univ_eight]
  refine (show _ = k (ix3 0 0 d) * W (ix2 0 e) + 0 + 0 + 0 + 0 + 0 + 0 + 0 from rfl).trans ?_
  simp only [add_zero]

theorem headState_apply (d e : Fin 128) : headState S k q v g b (ix5 0 0 0 d e)
    = S (ix5 0 0 0 d e) * Ideal.exp (g (ix3 0 0 0)) + k (ix3 0 0 d) * written S k q v g b (ix2 0 e) := by
  rw [← outer_apply]
  unfold headState
  generalize outer S k q v g b = O
  pointwise [k0_pay542, k0_pay541, k0_pay4, k0_pay285]

theorem headRow_apply (e : Fin 128) : headRow S k q v z g b ng (ix3 0 0 e)
    = normGate (fun e => readAt (fun d => q (ix3 0 0 d)) (fun d => k (ix3 0 0 d)) (fun d => S (ix5 0 0 0 d e)) (v (ix3 0 0 e)) (g (ix3 0 0 0)) (b (ix3 0 0 0)))
        (ng (ix2 0 e)) (z (ix3 0 0 e)) e := by
  simp only [readAt, ← reads_query S k q, ← written_apply S k q]
  rw [normGate, ← Cert.Num.silu_eq]
  unfold headRow
  generalize reads S k q = R
  generalize written S k q v g b = W
  pointwise [k0_pay543, k0_pay3, k0_pay68, k0_pay132, k0_pay285]
  rw [show Ideal.ofBits .f32 0x3F000000#32 = ((1 / 2 : ℝ) : EReal) by
    simp [Ideal.ofBits, Ideal.ieee]; rw [← EReal.coe_mul]; norm_num]

end Cert.DnStepBlock
end
-- ==== Proof.DnStepReference.lean ====
/-
  The sample's step of the gated delta rule as the reference computes it: one chunk of one row, read entry by entry.
-/
module

public import proofs.«01_k».proof.Proof.Gen.DnStepRefIdeal.Run
public import proofs.«01_k».proof.Proof.DnStepMath
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DnStepReference

open Cert.DnStepRefIdeal Cert.DnStepRefIdeal.Gen Cert.DnStepRefIdeal.Facts Cert.DnStepMath

/-- The key rows, one for each of the sixteen heads, as one chunk of one row. -/
def kT (qkv : FVec Ideal S128x4096 .f32) : FVec Ideal S1x128x16x1x128 .f32 :=
  transpose S1x128x16x1x128 [0, 1, 3, 2, 4] (transpose S1x128x1x16x128 [1, 0, 2, 3, 4] (shapeCast _ (shapeCast _ (broadcastInDim S128x1x8x2x128 ![0, 1, 2, 4] bcast_S128x1x8x128_S128x1x8x2x128_0_1_2_4 (shapeCast _ (extractStridedSlice S128x1x1024 ![0, 0, 1024] (shapeCast _ qkv shapeCasts_S128x4096_S128x1x4096) slices_S128x1x4096_S128x1x1024_0_0_1024) shapeCasts_S128x1x1024_S128x1x8x128)) shapeCasts_S128x1x8x2x128_S128x1x16x128) shapeCasts_S128x1x16x128_S128x1x1x16x128) transposes_S128x1x1x16x128_S1x128x1x16x128_1_0_2_3_4) transposes_S1x128x1x16x128_S1x128x16x1x128_0_1_3_2_4

/-- The query rows. -/
def qT (qkv : FVec Ideal S128x4096 .f32) : FVec Ideal S1x128x16x1x128 .f32 :=
  transpose S1x128x16x1x128 [0, 1, 3, 2, 4] (transpose S1x128x1x16x128 [1, 0, 2, 3, 4] (shapeCast _ (shapeCast _ (broadcastInDim S128x1x8x2x128 ![0, 1, 2, 4] bcast_S128x1x8x128_S128x1x8x2x128_0_1_2_4 (shapeCast _ (extractStridedSlice S128x1x1024 ![0, 0, 0] (shapeCast _ qkv shapeCasts_S128x4096_S128x1x4096) slices_S128x1x4096_S128x1x1024_0_0_0) shapeCasts_S128x1x1024_S128x1x8x128)) shapeCasts_S128x1x8x2x128_S128x1x16x128) shapeCasts_S128x1x16x128_S128x1x1x16x128) transposes_S128x1x1x16x128_S1x128x1x16x128_1_0_2_3_4) transposes_S1x128x1x16x128_S1x128x16x1x128_0_1_3_2_4

/-- The value rows. -/
def vT (qkv : FVec Ideal S128x4096 .f32) : FVec Ideal S1x128x16x1x128 .f32 :=
  transpose S1x128x16x1x128 [0, 1, 3, 2, 4] (transpose S1x128x1x16x128 [1, 0, 2, 3, 4] (shapeCast _ (shapeCast _ (extractStridedSlice S128x1x2048 ![0, 0, 2048] (shapeCast _ qkv shapeCasts_S128x4096_S128x1x4096) slices_S128x1x4096_S128x1x2048_0_0_2048) shapeCasts_S128x1x2048_S128x1x16x128) shapeCasts_S128x1x16x128_S128x1x1x16x128) transposes_S128x1x1x16x128_S1x128x1x16x128_1_0_2_3_4) transposes_S1x128x1x16x128_S1x128x16x1x128_0_1_3_2_4

/-- The logarithms of the decays. -/
def gT (gates : FVec Ideal S128x32 .f32) : FVec Ideal S1x128x16x1 .f32 :=
  transpose S1x128x16x1 [0, 1, 3, 2] (transpose S1x128x1x16 [1, 0, 2, 3] (shapeCast _ (extractStridedSlice S128x1x16 ![0, 0, 0] (shapeCast _ gates shapeCasts_S128x32_S128x1x32) slices_S128x1x32_S128x1x16_0_0_0) shapeCasts_S128x1x16_S128x1x1x16) transposes_S128x1x1x16_S1x128x1x16_1_0_2_3) transposes_S1x128x1x16_S1x128x16x1_0_1_3_2

/-- The strengths of the writes. -/
def bT (gates : FVec Ideal S128x32 .f32) : FVec Ideal S1x128x16x1 .f32 :=
  transpose S1x128x16x1 [0, 1, 3, 2] (transpose S1x128x1x16 [1, 0, 2, 3] (shapeCast _ (extractStridedSlice S128x1x16 ![0, 0, 16] (shapeCast _ gates shapeCasts_S128x32_S128x1x32) slices_S128x1x32_S128x1x16_0_0_16) shapeCasts_S128x1x16_S128x1x1x16) transposes_S128x1x1x16_S1x128x1x16_1_0_2_3) transposes_S1x128x1x16_S1x128x16x1_0_1_3_2

/-- The running sum of the logarithms over the one row. -/
def gcOf (gates : FVec Ideal S128x32 .f32) : FVec Ideal S1x128x16x1 .f32 :=
  Host.reduceWindowAdd ![1, 1, 1, 1] ![1, 1, 1, 1] ![0, 0, 0, 0] ![0, 0, 0, 0] (gT gates) (broadcastInDim S_ ![] bcast_S_S_ (constant S_ .f32 0x00000000#32)) reduceWindows_S1x128x16x1_S1x128x16x1_w1s1p0_0_w1s1p0_0_w1s1p0_0_w1s1p0_0 h_S_

/-- The first layer's state. -/
def st (s : FVec Ideal S2x128x16x128x128 .f32) : FVec Ideal S128x16x128x128 .f32 :=
  shapeCast _ (extractStridedSlice S1x128x16x128x128 ![0, 0, 0, 0, 0] s slices_S2x128x16x128x128_S1x128x16x128x128_0_0_0_0_0) shapeCasts_S1x128x16x128x128_S128x16x128x128

/-- The key rows times strength and decay. -/
def wd (qkv : FVec Ideal S128x4096 .f32) (gates : FVec Ideal S128x32 .f32) : FVec Ideal S128x16x1x128 .f32 :=
  shapeCast _ (mulf (mulf (kT qkv) (broadcastInDim S1x128x16x1x128 ![0, 1, 2, 3, 4] bcast_S1x128x16x1x1_S1x128x16x1x128_0_1_2_3_4 (broadcastInDim S1x128x16x1x1 ![0, 1, 2, 3] bcast_S1x128x16x1_S1x128x16x1x1_0_1_2_3 (bT gates)))) (broadcastInDim S1x128x16x1x128 ![0, 1, 2, 3, 4] bcast_S1x128x16x1x1_S1x128x16x1x128_0_1_2_3_4 (broadcastInDim S1x128x16x1x1 ![0, 1, 2, 3] bcast_S1x128x16x1_S1x128x16x1x1_0_1_2_3 (Host.exp (gcOf gates))))) shapeCasts_S1x128x16x1x128_S128x16x1x128

/-- The values to write: what the state does not yet give for the key. -/
def vNew (qkv : FVec Ideal S128x4096 .f32) (gates : FVec Ideal S128x32 .f32) (s : FVec Ideal S2x128x16x128x128 .f32) : FVec Ideal S128x16x1x128 .f32 :=
  subf (shapeCast _ (mulf (vT qkv) (broadcastInDim S1x128x16x1x128 ![0, 1, 2, 3, 4] bcast_S1x128x16x1x1_S1x128x16x1x128_0_1_2_3_4 (broadcastInDim S1x128x16x1x1 ![0, 1, 2, 3] bcast_S1x128x16x1_S1x128x16x1x1_0_1_2_3 (bT gates)))) shapeCasts_S1x128x16x1x128_S128x16x1x128) (Host.dotGeneral dot_S128x16x1x128_S128x16x128x128_S128x16x1x128_3_2_2_3_01_01 none (wd qkv gates) (st s))

/-- The key rows times the decay behind them, which is one. -/
def kd (qkv : FVec Ideal S128x4096 .f32) (gates : FVec Ideal S128x32 .f32) : FVec Ideal S128x16x1x128 .f32 :=
  shapeCast _ (mulf (kT qkv) (broadcastInDim S1x128x16x1x128 ![0, 1, 2, 3, 4] bcast_S1x128x16x1x1_S1x128x16x1x128_0_1_2_3_4 (broadcastInDim S1x128x16x1x1 ![0, 1, 2, 3] bcast_S1x128x16x1_S1x128x16x1x1_0_1_2_3 (Host.exp (subf (broadcastInDim S1x128x16x1 ![0, 1, 2] bcast_S1x128x16_S1x128x16x1_0_1_2 (shapeCast _ (gcOf gates) shapeCasts_S1x128x16x1_S1x128x16)) (gcOf gates)))))) shapeCasts_S1x128x16x1x128_S128x16x1x128

/-- The decayed state and what is written. -/
def newState (qkv : FVec Ideal S128x4096 .f32) (gates : FVec Ideal S128x32 .f32) (s : FVec Ideal S2x128x16x128x128 .f32) : FVec Ideal S128x16x128x128 .f32 :=
  addf (mulf (st s) (broadcastInDim S128x16x128x128 ![0, 1, 2, 3] bcast_S128x16x1x1_S128x16x128x128_0_1_2_3 (broadcastInDim S128x16x1x1 ![0, 1] bcast_S128x16_S128x16x1x1_0_1 (Host.exp (shapeCast _ (shapeCast _ (gcOf gates) shapeCasts_S1x128x16x1_S1x128x16) shapeCasts_S1x128x16_S128x16))))) (Host.dotGeneral dot_S128x16x1x128_S128x16x1x128_S128x16x128x128_2_2_3_3_01_01 none (kd qkv gates) (vNew qkv gates s))

/-- The decay between the row and itself. -/
def decay (gates : FVec Ideal S128x32 .f32) : FVec Ideal S1x128x16x1x1 .f32 :=
  select (broadcastInDim S1x128x16x1x1 ![3, 4] bcast_S1x1_S1x128x16x1x1_3_4 (select (cmpi .sge (addi (iotaInDim S1x1 32 0) (broadcastInDim S1x1 ![] bcast_S_S1x1 (constantI S_ 32 0#32))) (iotaInDim S1x1 32 1)) (broadcastInDim S1x1 ![] bcast_S_S1x1 (constantI S_ 1 1#1)) (broadcastInDim S1x1 ![] bcast_S_S1x1 (constantI S_ 1 0#1)))) (Host.exp (select (broadcastInDim S1x128x16x1x1 ![3, 4] bcast_S1x1_S1x128x16x1x1_3_4 (select (cmpi .sge (addi (iotaInDim S1x1 32 0) (broadcastInDim S1x1 ![] bcast_S_S1x1 (constantI S_ 32 0#32))) (iotaInDim S1x1 32 1)) (broadcastInDim S1x1 ![] bcast_S_S1x1 (constantI S_ 1 1#1)) (broadcastInDim S1x1 ![] bcast_S_S1x1 (constantI S_ 1 0#1)))) (subf (broadcastInDim S1x128x16x1x1 ![0, 1, 2, 3] bcast_S1x128x16x1_S1x128x16x1x1_0_1_2_3 (gcOf gates)) (broadcastInDim S1x128x16x1x1 ![0, 1, 2, 4] bcast_S1x128x16x1_S1x128x16x1x1_0_1_2_4 (gcOf gates))) (broadcastInDim S1x128x16x1x1 ![] bcast_S_S1x128x16x1x1 (id (constant S_ .f32 0x00000000#32))))) (broadcastInDim S1x128x16x1x1 ![] bcast_S_S1x128x16x1x1 (id (constant S_ .f32 0x00000000#32)))

/-- The query row times the key row. -/
def qk (qkv : FVec Ideal S128x4096 .f32) (gates : FVec Ideal S128x32 .f32) : FVec Ideal S128x16x1x1 .f32 :=
  shapeCast _ (mulf (Host.dotGeneral dot_S1x128x16x1x128_S1x128x16x1x128_S1x128x16x1x1_4_4_3_3_012_012 none (qT qkv) (kT qkv)) (decay gates)) shapeCasts_S1x128x16x1x1_S128x16x1x1

/-- The query rows times the decay. -/
def qg (qkv : FVec Ideal S128x4096 .f32) (gates : FVec Ideal S128x32 .f32) : FVec Ideal S128x16x1x128 .f32 :=
  shapeCast _ (mulf (qT qkv) (broadcastInDim S1x128x16x1x128 ![0, 1, 2, 3, 4] bcast_S1x128x16x1x1_S1x128x16x1x128_0_1_2_3_4 (broadcastInDim S1x128x16x1x1 ![0, 1, 2, 3] bcast_S1x128x16x1_S1x128x16x1x1_0_1_2_3 (Host.exp (gcOf gates))))) shapeCasts_S1x128x16x1x128_S128x16x1x128

/-- The rows read from the state. -/
def oRow (qkv : FVec Ideal S128x4096 .f32) (gates : FVec Ideal S128x32 .f32) (s : FVec Ideal S2x128x16x128x128 .f32) : FVec Ideal S128x1x16x128 .f32 :=
  transpose S128x1x16x128 [0, 2, 1, 3] (addf (Host.dotGeneral dot_S128x16x1x128_S128x16x128x128_S128x16x1x128_3_2_2_3_01_01 none (qg qkv gates) (st s)) (Host.dotGeneral dot_S128x16x1x1_S128x16x1x128_S128x16x1x128_3_2_2_3_01_01 none (qk qkv gates) (vNew qkv gates s))) transposes_S128x16x1x128_S128x1x16x128_0_2_1_3

/-- The two results: the normalised gated rows, -/
def res (qkv : FVec Ideal S128x4096 .f32) (z : FVec Ideal S128x2048 .f32) (gates : FVec Ideal S128x32 .f32) (ng : FVec Ideal S128 .f32) (s : FVec Ideal S2x128x16x128x128 .f32) : FVec Ideal S128x16x128 .f32 :=
  shapeCast _ (mulf (mulf (mulf (oRow qkv gates s) (broadcastInDim S128x1x16x128 ![0, 1, 2, 3] bcast_S128x1x16x1_S128x1x16x128_0_1_2_3 (Host.rsqrt (addf (Host.divf (broadcastInDim S128x1x16x1 ![0, 1, 2] bcast_S128x1x16_S128x1x16x1_0_1_2 (Host.reduceAdd (mulf (oRow qkv gates s) (oRow qkv gates s)) (constant S_ .f32 0x00000000#32) reducesTo_S128x1x16x128_S128x1x16_d3 h_S_)) (broadcastInDim S128x1x16x1 ![] bcast_S_S128x1x16x1 (constant S_ .f32 0x43000000#32))) (broadcastInDim S128x1x16x1 ![] bcast_S_S128x1x16x1 (constant S_ .f32 0x358637BD#32)))))) (broadcastInDim S128x1x16x128 ![0, 1, 2, 3] bcast_S1x1x1x128_S128x1x16x128_0_1_2_3 (broadcastInDim S1x1x1x128 ![3] bcast_S128_S1x1x1x128_3 ng))) (mulf (shapeCast _ z shapeCasts_S128x2048_S128x1x16x128) (Host.divf (broadcastInDim S128x1x16x128 ![] bcast_S_S128x1x16x128 (constant S_ .f32 0x3F800000#32)) (addf (broadcastInDim S128x1x16x128 ![] bcast_S_S128x1x16x128 (constant S_ .f32 0x3F800000#32)) (Host.exp (Host.negf (shapeCast _ z shapeCasts_S128x2048_S128x1x16x128))))))) shapeCasts_S128x1x16x128_S128x16x128

/-- and the states, the first layer's new and the second's as it was. -/
def states (qkv : FVec Ideal S128x4096 .f32) (gates : FVec Ideal S128x32 .f32) (s : FVec Ideal S2x128x16x128x128 .f32) : FVec Ideal S2x128x16x128x128 .f32 :=
  concatenate S2x128x16x128x128 0 [⟨S1x128x16x128x128, (broadcastInDim S1x128x16x128x128 ![1, 2, 3, 4] bcast_S128x16x128x128_S1x128x16x128x128_1_2_3_4 (newState qkv gates s))⟩, ⟨S1x128x16x128x128, (extractStridedSlice S1x128x16x128x128 ![1, 0, 0, 0, 0] s slices_S2x128x16x128x128_S1x128x16x128x128_1_0_0_0_0)⟩] concatenates_S1x128x16x128x128_S1x128x16x128x128_S2x128x16x128x128_d0

/-- The program's first result is `res` of its arguments, -/
theorem res_eq (m : (ℓ : Loc nD τ sig) → Buf (Elt Ideal) ℓ) (c : Dev nD) :
    Cert.DnStepRefIdeal.Value.res_main_v97 m c = res (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- and its second is `states`. -/
theorem states_eq (m : (ℓ : Loc nD τ sig) → Buf (Elt Ideal) ℓ) (c : Dev nD) :
    Cert.DnStepRefIdeal.Value.res_main_v100 m c = states (m ((c.tc : Thread nD τ).loc main_arg0))
      (m ((c.tc : Thread nD τ).loc main_arg2)) (m ((c.tc : Thread nD τ).loc main_arg4)) := rfl

section
variable (qkv : FVec Ideal S128x4096 .f32) (gates : FVec Ideal S128x32 .f32) (s : FVec Ideal S2x128x16x128x128 .f32) (b : Fin 128) (h : Fin 16) (d e : Fin 128)

theorem kT_apply : kT qkv (ix5 0 b h 0 d) = qkv (ix2 b ⟨1024 + h.val / 2 * 128 + d.val, by omega⟩) := by
  pointwise [kT]
  exact congrArg (fun i => qkv (ix2 b i)) (Fin.ext (Nat.add_assoc _ _ _).symm)

theorem qT_apply : qT qkv (ix5 0 b h 0 d) = qkv (ix2 b ⟨h.val / 2 * 128 + d.val, by omega⟩) := by
  pointwise [qT]

theorem vT_apply : vT qkv (ix5 0 b h 0 d) = qkv (ix2 b ⟨2048 + h.val * 128 + d.val, by omega⟩) := by
  pointwise [vT]
  exact congrArg (fun i => qkv (ix2 b i)) (Fin.ext (Nat.add_assoc _ _ _).symm)

theorem gT_apply : gT gates (ix4 0 b h 0) = gates (ix2 b ⟨h.val, by omega⟩) := by
  pointwise [gT]

theorem bT_apply : bT gates (ix4 0 b h 0) = gates (ix2 b ⟨16 + h.val, by omega⟩) := by
  pointwise [bT]

/-- A sum over windows of one entry is the entry. -/
theorem window_one (x : FVec Ideal S1x128x16x1 .f32) (i : FVec Ideal S_ .f32) (hi : i (Shape.Idx.first h_S_) = (0 : EReal))
    (b : Fin 128) (h : Fin 16) :
    Host.reduceWindowAdd ![1, 1, 1, 1] ![1, 1, 1, 1] ![0, 0, 0, 0] ![0, 0, 0, 0] x i
      reduceWindows_S1x128x16x1_S1x128x16x1_w1s1p0_0_w1s1p0_0_w1s1p0_0_w1s1p0_0 h_S_ (ix4 0 b h 0) = x (ix4 0 b h 0) := by
  have e : List.finRange (⟨4, ![1, 1, 1, 1]⟩ : Shape).numel = [⟨0, by decide⟩] := by decide
  show Ideal.hostReduceWindowAdd ![1, 1, 1, 1] ![1, 1, 1, 1] ![0, 0, 0, 0] ![0, 0, 0, 0]
    reduceWindows_S1x128x16x1_S1x128x16x1_w1s1p0_0_w1s1p0_0_w1s1p0_0_w1s1p0_0 x (i (Shape.Idx.first h_S_)) (ix4 0 b h 0) = _
  unfold Ideal.hostReduceWindowAdd Host.reduceWindow
  dsimp only
  erw [e]
  rw [List.foldl_cons, List.foldl_nil, hi]
  have z (a : Fin 4) : ((⟨4, ![1, 1, 1, 1]⟩ : Shape).rowMajor.symm ⟨0, by decide⟩ a).val = 0 := by
    have := ((⟨4, ![1, 1, 1, 1]⟩ : Shape).rowMajor.symm ⟨0, by decide⟩ a).isLt
    revert this
    fin_cases a <;> exact Nat.lt_one_iff.1
  refine (zero_add _).trans ?_
  rw [dif_pos (fun a => ?_)]
  · refine congrArg x (funext fun a => Fin.ext ?_)
    dsimp only
    rw [z a]
    fin_cases a <;> simp
  · rw [z a]
    fin_cases a
    · exact ⟨Nat.zero_le _, Nat.zero_lt_one⟩
    · exact ⟨Nat.zero_le _, by simpa using b.isLt⟩
    · exact ⟨Nat.zero_le _, by simpa using h.isLt⟩
    · exact ⟨Nat.zero_le _, Nat.zero_lt_one⟩

theorem gcOf_apply : gcOf gates (ix4 0 b h 0) = gates (ix2 b ⟨h.val, by omega⟩) := by
  rw [← gT_apply gates]
  unfold gcOf
  exact window_one _ _ (show Ideal.ofBits .f32 0x00000000#32 = 0 by simp [Ideal.ofBits, Ideal.ieee]) _ _

theorem st_apply : st s (ix4 b h d e) = s (ix5 0 b h d e) := by
  pointwise [st]

theorem wd_apply : wd qkv gates (ix4 b h 0 d) = kT qkv (ix5 0 b h 0 d) * bT gates (ix4 0 b h 0) * Ideal.exp (gcOf gates (ix4 0 b h 0)) := by
  pointwise [wd]

theorem kd_apply : kd qkv gates (ix4 b h 0 d) = kT qkv (ix5 0 b h 0 d) * Ideal.exp (gcOf gates (ix4 0 b h 0) - gcOf gates (ix4 0 b h 0)) := by
  pointwise [kd]

theorem qg_apply : qg qkv gates (ix4 b h 0 d) = qT qkv (ix5 0 b h 0 d) * Ideal.exp (gcOf gates (ix4 0 b h 0)) := by
  pointwise [qg]

theorem vNew_apply : vNew qkv gates s (ix4 b h 0 e) = vT qkv (ix5 0 b h 0 e) * bT gates (ix4 0 b h 0)
    - ∑ d : Fin 128, wd qkv gates (ix4 b h 0 d) * st s (ix4 b h d e) := by
  pointwise [vNew]

theorem newState_apply : newState qkv gates s (ix4 b h d e) = st s (ix4 b h d e) * Ideal.exp (gcOf gates (ix4 0 b h 0))
    + kd qkv gates (ix4 b h 0 d) * vNew qkv gates s (ix4 b h 0 e) := by
  pointwise [newState]
  rw [Fin.sum_univ_one]

theorem decay_apply : decay gates (ix5 0 b h 0 0) = Ideal.exp (gcOf gates (ix4 0 b h 0) - gcOf gates (ix4 0 b h 0)) := by
  pointwise [decay]
  rfl

theorem qk_apply : qk qkv gates (ix4 b h 0 0) = (∑ d : Fin 128, qT qkv (ix5 0 b h 0 d) * kT qkv (ix5 0 b h 0 d)) * decay gates (ix5 0 b h 0 0) := by
  pointwise [qk]

theorem oRow_apply : oRow qkv gates s (ix4 b 0 h e) = (∑ d : Fin 128, qg qkv gates (ix4 b h 0 d) * st s (ix4 b h d e))
    + qk qkv gates (ix4 b h 0 0) * vNew qkv gates s (ix4 b h 0 e) := by
  pointwise [oRow]
  rw [Fin.sum_univ_one]

theorem res_apply (z : FVec Ideal S128x2048 .f32) (ng : FVec Ideal S128 .f32) : res qkv z gates ng s (ix3 b h e) =
    oRow qkv gates s (ix4 b 0 h e) * Ideal.rsqrt (Ideal.div (∑ e : Fin 128, oRow qkv gates s (ix4 b 0 h e) * oRow qkv gates s (ix4 b 0 h e))
      (Ideal.ofBits .f32 0x43000000#32) + Ideal.ofBits .f32 0x358637BD#32) * ng (ix1 e)
      * (z (ix2 b ⟨h.val * 128 + e.val, by omega⟩) * Ideal.div 1 (1 + Ideal.exp (-z (ix2 b ⟨h.val * 128 + e.val, by omega⟩)))) := by
  pointwise [res]

theorem states_first : states qkv gates s (ix5 0 b h d e) = newState qkv gates s (ix4 b h d e) := by
  pointwise [states]

theorem states_second : states qkv gates s (ix5 1 b h d e) = s (ix5 1 b h d e) := by
  pointwise [states]

/-! With keys, values, gates and states real, the values written and the rows read are the kernel's. -/

variable (hkv : ∀ (b : Fin 128) (i : Fin 4096), 1024 ≤ i.val → ∃ r : ℝ, qkv (ix2 b i) = r) (hg : ∀ i, ∃ r : ℝ, gates i = r)
  (hs : ∀ (b : Fin 128) (h : Fin 16) (d e : Fin 128), ∃ r : ℝ, s (ix5 0 b h d e) = r)
include hkv hg hs

theorem vNew_eq : vNew qkv gates s (ix4 b h 0 e)
    = writeAt (fun d => qkv (ix2 b ⟨1024 + h.val / 2 * 128 + d.val, by omega⟩)) (fun d => s (ix5 0 b h d e))
        (qkv (ix2 b ⟨2048 + h.val * 128 + e.val, by omega⟩)) (gates (ix2 b ⟨h.val, by omega⟩)) (gates (ix2 b ⟨16 + h.val, by omega⟩)) := by
  rw [vNew_apply]
  simp only [wd_apply, st_apply, kT_apply, vT_apply, bT_apply, gcOf_apply]
  exact write_eq _ _ _ _ _ (fun d => hkv _ _ (by dsimp only; omega)) (fun d => hs _ _ _ _) (hkv _ _ (by dsimp only; omega)) (hg _) (hg _)

theorem newState_eq : newState qkv gates s (ix4 b h d e) = s (ix5 0 b h d e) * Ideal.exp (gates (ix2 b ⟨h.val, by omega⟩))
    + qkv (ix2 b ⟨1024 + h.val / 2 * 128 + d.val, by omega⟩)
      * writeAt (fun d => qkv (ix2 b ⟨1024 + h.val / 2 * 128 + d.val, by omega⟩)) (fun d => s (ix5 0 b h d e))
        (qkv (ix2 b ⟨2048 + h.val * 128 + e.val, by omega⟩)) (gates (ix2 b ⟨h.val, by omega⟩)) (gates (ix2 b ⟨16 + h.val, by omega⟩)) := by
  rw [newState_apply, vNew_eq _ _ _ b h e hkv hg hs, kd_apply, st_apply, kT_apply, gcOf_apply, exp_sub_self (hg _), mul_one]

theorem oRow_eq : oRow qkv gates s (ix4 b 0 h e)
    = readAt (fun d => qkv (ix2 b ⟨h.val / 2 * 128 + d.val, by omega⟩)) (fun d => qkv (ix2 b ⟨1024 + h.val / 2 * 128 + d.val, by omega⟩))
        (fun d => s (ix5 0 b h d e)) (qkv (ix2 b ⟨2048 + h.val * 128 + e.val, by omega⟩)) (gates (ix2 b ⟨h.val, by omega⟩))
        (gates (ix2 b ⟨16 + h.val, by omega⟩)) := by
  rw [oRow_apply, vNew_eq _ _ _ b h e hkv hg hs, qk_apply, decay_apply, gcOf_apply, exp_sub_self (hg _), mul_one, readAt]
  simp only [qg_apply, st_apply, qT_apply, kT_apply, gcOf_apply]
  rw [read_eq _ _ _ (hg _)]

theorem res_eq_normGate (z : FVec Ideal S128x2048 .f32) (ng : FVec Ideal S128 .f32) : res qkv z gates ng s (ix3 b h e) =
    normGate (fun e => readAt (fun d => qkv (ix2 b ⟨h.val / 2 * 128 + d.val, by omega⟩)) (fun d => qkv (ix2 b ⟨1024 + h.val / 2 * 128 + d.val, by omega⟩))
        (fun d => s (ix5 0 b h d e)) (qkv (ix2 b ⟨2048 + h.val * 128 + e.val, by omega⟩)) (gates (ix2 b ⟨h.val, by omega⟩))
        (gates (ix2 b ⟨16 + h.val, by omega⟩))) (ng (ix1 e)) (z (ix2 b ⟨h.val * 128 + e.val, by omega⟩)) e := by
  rw [res_apply, normGate]
  simp only [oRow_eq _ _ _ b h _ hkv hg hs]

end

end Cert.DnStepReference
end
-- ==== Proof.DnStepPoint.lean ====
/-
  One decode step of the delta net on a first layer: the blocks the grid points read, and what one head of one sample stores of them.
-/
module

public import proofs.«01_k».proof.Proof.Gen.DnStepIdeal.Value
public import proofs.«01_k».proof.Proof.DnStepBlock
public import proofs.«01_k».proof.Proof.DnStepReference
public import Idealize.ShloMosaic.Lib.Pipeline.ValueKit

@[expose] public section

set_option maxRecDepth 16384

noncomputable section

open Idealize.ShloMosaic Idealize.ShloMosaic.TcCoe Idealize.SL.Sem
open Cert.DnStepIdeal Cert.DnStepIdeal.Gen Cert.DnStepIdeal.Facts Cert.DnStepMath Cert.DnStepBlock

namespace Cert.DnStepEq

variable (m : (ℓ : Loc nD τ sig) → Buf (Elt Ideal) ℓ)

/-- Where each window's block lies at every grid point: the first half of the grid works on layer 1's states, the second on layer 0's. -/
theorem idx : ∀ t : Fin cfg0.N,
    win0_0.index t = ![t.val - 32, 0, 0] ∧ win0_1.index t = ![t.val - 32, 0, 0] ∧ win0_2.index t = ![t.val - 32, 0, 0]
    ∧ win0_3.index t = ![t.val - 32, 0, 0] ∧ win0_4.index t = ![t.val - 32, 0, 0] ∧ win0_5.index t = ![0, 0]
    ∧ win0_6.index t = ![1 - t.val / 32, t.val % 32, 0, 0, 0] ∧ win0_7.index t = ![t.val - 32, 0, 0]
    ∧ win0_8.index t = ![1 - t.val / 32, t.val % 32, 0, 0, 0] :=
  (by decide +kernel : ∀ t : Fin grid0.N, _)

/-- The sample that row `r` of grid point `t`'s blocks is. -/
abbrev smp (t : Fin cfg0.N) (r : Fin 4) : Fin 128 := ⟨(t.val - 32) * 4 + r.val, by have : t.val < 64 := t.isLt; omega⟩

/-- The arguments in memory. -/
abbrev aX (c : Dev nD) : FVec Ideal S128x4096 .f32 := m ((c : Thread nD τ).loc main_arg0)
abbrev aZ (c : Dev nD) : FVec Ideal S128x2048 .f32 := m ((c : Thread nD τ).loc main_arg1)
abbrev aG (c : Dev nD) : FVec Ideal S128x32 .f32 := m ((c : Thread nD τ).loc main_arg2)
abbrev aN (c : Dev nD) : FVec Ideal S128 .f32 := m ((c : Thread nD τ).loc main_arg3)
abbrev aS (c : Dev nD) : FVec Ideal S2x128x16x128x128 .f32 := m ((c : Thread nD τ).loc main_arg4)

/-- The blocks a grid point reads. -/
abbrev bq (c : Dev nD) (t : Fin cfg0.N) : Vec Ideal S4x8x128 .f32 := iblk m c 0 t
abbrev bk (c : Dev nD) (t : Fin cfg0.N) : Vec Ideal S4x8x128 .f32 := iblk m c 1 t
abbrev bv (c : Dev nD) (t : Fin cfg0.N) : Vec Ideal S4x16x128 .f32 := iblk m c 2 t
abbrev bz (c : Dev nD) (t : Fin cfg0.N) : Vec Ideal S4x16x128 .f32 := iblk m c 3 t
abbrev bg (c : Dev nD) (t : Fin cfg0.N) : Vec Ideal S4x1x128 .f32 := iblk m c 4 t
abbrev bn (c : Dev nD) (t : Fin cfg0.N) : Vec Ideal S1x128 .f32 := iblk m c 5 t
abbrev bS (c : Dev nD) (t : Fin cfg0.N) : Vec Ideal S1x4x16x128x128 .f32 := iblk m c 6 t

/-- The arguments as the program prepares them before the call. -/
theorem V_main_v2 (c : Dev nD) : V m c main_v2 = shapeCast S128x8x128 (extractStridedSlice S128x1024 ![0, 0] (aX m c) slices_S128x4096_S128x1024_0_0) shapeCasts_S128x1024_S128x8x128 := by
  show StableHlo.after (List.flatten [hostOps0, hostOps0_1, hostOps0_2]) (fun b => m (c, b)) (Proc.devRef .tc main_v2) = _
  simp only [List.flatten_cons, List.flatten_nil, List.append_nil, List.cons_append, List.nil_append, StableHlo.after_cons, StableHlo.after_nil]
  after_results_simp
  rfl

theorem V_main_v4 (c : Dev nD) : V m c main_v4 = shapeCast S128x8x128 (extractStridedSlice S128x1024 ![0, 1024] (aX m c) slices_S128x4096_S128x1024_0_1024) shapeCasts_S128x1024_S128x8x128 := by
  show StableHlo.after (List.flatten [hostOps0, hostOps0_1, hostOps0_2]) (fun b => m (c, b)) (Proc.devRef .tc main_v4) = _
  simp only [List.flatten_cons, List.flatten_nil, List.append_nil, List.cons_append, List.nil_append, StableHlo.after_cons, StableHlo.after_nil]
  after_results_simp
  rfl

theorem V_main_v6 (c : Dev nD) : V m c main_v6 = shapeCast S128x16x128 (extractStridedSlice S128x2048 ![0, 2048] (aX m c) slices_S128x4096_S128x2048_0_2048) shapeCasts_S128x2048_S128x16x128 := by
  show StableHlo.after (List.flatten [hostOps0, hostOps0_1, hostOps0_2]) (fun b => m (c, b)) (Proc.devRef .tc main_v6) = _
  simp only [List.flatten_cons, List.flatten_nil, List.append_nil, List.cons_append, List.nil_append, StableHlo.after_cons, StableHlo.after_nil]
  after_results_simp
  rfl

theorem V_main_v7 (c : Dev nD) : V m c main_v7 = shapeCast S128x16x128 (aZ m c) shapeCasts_S128x2048_S128x16x128 := by
  show StableHlo.after (List.flatten [hostOps0, hostOps0_1, hostOps0_2]) (fun b => m (c, b)) (Proc.devRef .tc main_v7) = _
  simp only [List.flatten_cons, List.flatten_nil, List.append_nil, List.cons_append, List.nil_append, StableHlo.after_cons, StableHlo.after_nil]
  after_results_simp
  rfl

theorem V_main_v8 (c : Dev nD) : V m c main_v8 = shapeCast S128x1x128 (pad S128x128 ![0, 0] ![0, 96] ![0, 0] (aG m c) (sitofp .f32 (constantI S_ 32 0#32)) pads_S128x32_S128x128_000_0960 h_S_) shapeCasts_S128x128_S128x1x128 := by
  show StableHlo.after (List.flatten [hostOps0, hostOps0_1, hostOps0_2]) (fun b => m (c, b)) (Proc.devRef .tc main_v8) = _
  simp only [List.flatten_cons, List.flatten_nil, List.append_nil, List.cons_append, List.nil_append, StableHlo.after_cons, StableHlo.after_nil]
  after_results_simp
  rfl

theorem V_main_v9 (c : Dev nD) : V m c main_v9 = shapeCast S1x128 (aN m c) shapeCasts_S128_S1x128 := by
  show StableHlo.after (List.flatten [hostOps0, hostOps0_1, hostOps0_2]) (fun b => m (c, b)) (Proc.devRef .tc main_v9) = _
  simp only [List.flatten_cons, List.flatten_nil, List.append_nil, List.cons_append, List.nil_append, StableHlo.after_cons, StableHlo.after_nil]
  after_results_simp
  rfl

theorem V_main_arg4 (c : Dev nD) : V m c main_arg4 = aS m c := by
  show StableHlo.after (List.flatten [hostOps0, hostOps0_1, hostOps0_2]) (fun b => m (c, b)) (Proc.devRef .tc main_arg4) = _
  simp only [List.flatten_cons, List.flatten_nil, List.append_nil, List.cons_append, List.nil_append, StableHlo.after_cons, StableHlo.after_nil]
  after_results_simp

/-- The blocks at an entry. -/
theorem bq_apply (c : Dev nD) (t : Fin cfg0.N) (r : Fin 4) (a : Fin 8) (d : Fin 128) : bq m c t (ix3 r a d) = aX m c (ix2 (smp t r) ⟨a.val * 128 + d.val, by omega⟩) := by
  have e : (win0_0.blk t).view.emb (ix3 r a d) = ix3 (smp t r) a d := by
    blk_ext [idx t]
  blk_simp [bq, iblk]
  refine (congrFun (V_main_v2 m c) _).trans ((congrArg _ e).trans ?_)
  pointwise []

theorem bk_apply (c : Dev nD) (t : Fin cfg0.N) (r : Fin 4) (a : Fin 8) (d : Fin 128) : bk m c t (ix3 r a d) = aX m c (ix2 (smp t r) ⟨1024 + a.val * 128 + d.val, by omega⟩) := by
  have e : (win0_1.blk t).view.emb (ix3 r a d) = ix3 (smp t r) a d := by
    blk_ext [idx t]
  blk_simp [bk, iblk]
  refine (congrFun (V_main_v4 m c) _).trans ((congrArg _ e).trans ?_)
  pointwise []
  exact congrArg (fun i => aX m c (ix2 _ i)) (Fin.ext (Nat.add_assoc _ _ _).symm)

theorem bv_apply (c : Dev nD) (t : Fin cfg0.N) (r : Fin 4) (a : Fin 16) (d : Fin 128) : bv m c t (ix3 r a d) = aX m c (ix2 (smp t r) ⟨2048 + a.val * 128 + d.val, by omega⟩) := by
  have e : (win0_2.blk t).view.emb (ix3 r a d) = ix3 (smp t r) a d := by
    blk_ext [idx t]
  blk_simp [bv, iblk]
  refine (congrFun (V_main_v6 m c) _).trans ((congrArg _ e).trans ?_)
  pointwise []
  exact congrArg (fun i => aX m c (ix2 _ i)) (Fin.ext (Nat.add_assoc _ _ _).symm)

theorem bz_apply (c : Dev nD) (t : Fin cfg0.N) (r : Fin 4) (a : Fin 16) (d : Fin 128) : bz m c t (ix3 r a d) = aZ m c (ix2 (smp t r) ⟨a.val * 128 + d.val, by omega⟩) := by
  have e : (win0_3.blk t).view.emb (ix3 r a d) = ix3 (smp t r) a d := by
    blk_ext [idx t]
  blk_simp [bz, iblk]
  refine (congrFun (V_main_v7 m c) _).trans ((congrArg _ e).trans ?_)
  pointwise []

theorem bg_apply (c : Dev nD) (t : Fin cfg0.N) (r : Fin 4) (j : Fin 32) : bg m c t (ix3 r 0 ⟨j.val, by omega⟩) = aG m c (ix2 (smp t r) j) := by
  have e : (win0_4.blk t).view.emb (ix3 r 0 ⟨j.val, by omega⟩) = ix3 (smp t r) 0 ⟨j.val, by omega⟩ := by
    blk_ext [idx t]
  blk_simp [bg, iblk]
  refine (congrFun (V_main_v8 m c) _).trans ((congrArg _ e).trans ?_)
  pointwise []
  exact dif_pos (smp t r).isLt

theorem bn_apply (c : Dev nD) (t : Fin cfg0.N) (d : Fin 128) : bn m c t (ix2 0 d) = aN m c (ix1 d) := by
  have e : (win0_5.blk t).view.emb (ix2 0 d) = ix2 0 d := by
    blk_ext [idx t]
  blk_simp [bn, iblk]
  refine (congrFun (V_main_v9 m c) _).trans ((congrArg _ e).trans ?_)
  pointwise []

theorem bS_apply (c : Dev nD) (t : Fin cfg0.N) (r : Fin 4) (h : Fin 16) (d e : Fin 128) : bS m c t (ix5 0 r h d e)
    = aS m c (ix5 ⟨1 - t.val / 32, by omega⟩ ⟨t.val % 32 * 4 + r.val, by omega⟩ h d e) := by
  have e' : (win0_6.blk t).view.emb (ix5 0 r h d e) = ix5 ⟨1 - t.val / 32, by omega⟩ ⟨t.val % 32 * 4 + r.val, by omega⟩ h d e := by
    blk_ext [idx t]
  blk_simp [bS, iblk]
  exact (congrFun (V_main_arg4 m c) _).trans (congrArg _ e')

/-- A load of one row of one sample's block. -/
theorem ld_row {A B : Nat} (x : Vec Ideal ⟨3, ![A, B, 128]⟩ .f32) (p q : Nat) (inb) (i : Fin A) (j : Fin B) (hi : p = i.val) (hj : q = j.val) (e : Fin 128) :
    View.ld x (Rect.unit (s := ⟨3, ![A, B, 128]⟩) ![p, q, 0] S1x1x128.size inb) (ix3 0 0 e) = x (ix3 i j e) := by
  refine View.ld_unit_apply_of _ _ _ inb _ _ fun a => ?_
  match a with
  | ⟨0, _⟩ => exact hi.symm
  | ⟨1, _⟩ => exact hj.symm
  | ⟨2, _⟩ => exact (Nat.zero_add _).symm

/-- A load of one head's gate. -/
theorem ld_gate (x : Vec Ideal S4x1x128 .f32) (p q : Nat) (inb) (i : Fin 4) (j : Fin 128) (hi : p = i.val) (hj : q = j.val) :
    View.ld x (Rect.unit (s := S4x1x128) ![p, 0, q] S1x1x1.size inb) (ix3 0 0 0) = x (ix3 i 0 j) := by
  refine View.ld_unit_apply_of _ _ _ inb _ _ fun a => ?_
  match a with
  | ⟨0, _⟩ => exact hi.symm
  | ⟨1, _⟩ => rfl
  | ⟨2, _⟩ => exact hj.symm

/-- A load of one head's state. -/
theorem ld_state (x : Vec Ideal S1x4x16x128x128 .f32) (p q : Nat) (inb) (i : Fin 4) (j : Fin 16) (hi : p = i.val) (hj : q = j.val) (d e : Fin 128) :
    View.ld x (Rect.unit (s := S1x4x16x128x128) ![0, p, q, 0, 0] S1x1x1x128x128.size inb) (ix5 0 0 0 d e) = x (ix5 0 i j d e) := by
  refine View.ld_unit_apply_of _ _ _ inb _ _ fun a => ?_
  match a with
  | ⟨0, _⟩ => rfl
  | ⟨1, _⟩ => exact hi.symm
  | ⟨2, _⟩ => exact hj.symm
  | ⟨3, _⟩ => exact (Nat.zero_add _).symm
  | ⟨4, _⟩ => exact (Nat.zero_add _).symm

/-- The reference's two results, from the arguments in memory. -/
abbrev goal0 (c : Dev nD) : FVec Ideal S128x16x128 .f32 := DnStepReference.res (aX m c) (aZ m c) (aG m c) (aN m c) (aS m c)
abbrev goal1 (c : Dev nD) : FVec Ideal S2x128x16x128x128 .f32 := DnStepReference.states (aX m c) (aG m c) (aS m c)

/-- The keys, the values, the gates and the first layer's states are real numbers. -/
structure Finite (c : Dev nD) : Prop where
  kv : ∀ (b : Fin 128) (i : Fin 4096), 1024 ≤ i.val → ∃ r : ℝ, aX m c (ix2 b i) = r
  g : ∀ i, ∃ r : ℝ, aG m c i = r
  s : ∀ (b : Fin 128) (h : Fin 16) (d e : Fin 128), ∃ r : ℝ, aS m c (ix5 0 b h d e) = r

section

variable (c : Dev nD) (hf : Finite m c) (t : Fin cfg0.N) (ht : 32 ≤ t.val) (r : Fin 4) (h : Fin 16)
  (nr nh nk nb : Nat) (hr : nr = r.val) (hh : nh = h.val) (hk : nk = h.val / 2) (hb : nb = 16 + h.val)
include ht hr hh hk hb

theorem key_eq (i) (d : Fin 128) : View.ld (bk m c t) (Rect.unit (s := S4x8x128) ![nr, nk, 0] S1x1x128.size i) (ix3 0 0 d)
    = aX m c (ix2 (smp t r) ⟨1024 + h.val / 2 * 128 + d.val, by omega⟩) :=
  (ld_row (bk m c t) nr nk i r ⟨h.val / 2, by omega⟩ hr hk d).trans (bk_apply m c t r _ d)

theorem query_eq (i) (d : Fin 128) : View.ld (bq m c t) (Rect.unit (s := S4x8x128) ![nr, nk, 0] S1x1x128.size i) (ix3 0 0 d)
    = aX m c (ix2 (smp t r) ⟨h.val / 2 * 128 + d.val, by omega⟩) :=
  (ld_row (bq m c t) nr nk i r ⟨h.val / 2, by omega⟩ hr hk d).trans (bq_apply m c t r _ d)

theorem value_eq (i) (e : Fin 128) : View.ld (bv m c t) (Rect.unit (s := S4x16x128) ![nr, nh, 0] S1x1x128.size i) (ix3 0 0 e)
    = aX m c (ix2 (smp t r) ⟨2048 + h.val * 128 + e.val, by omega⟩) :=
  (ld_row (bv m c t) nr nh i r h hr hh e).trans (bv_apply m c t r h e)

theorem gated_eq (i) (e : Fin 128) : View.ld (bz m c t) (Rect.unit (s := S4x16x128) ![nr, nh, 0] S1x1x128.size i) (ix3 0 0 e)
    = aZ m c (ix2 (smp t r) ⟨h.val * 128 + e.val, by omega⟩) :=
  (ld_row (bz m c t) nr nh i r h hr hh e).trans (bz_apply m c t r h e)

theorem gate_eq (i) : View.ld (bg m c t) (Rect.unit (s := S4x1x128) ![nr, 0, nh] S1x1x1.size i) (ix3 0 0 0)
    = aG m c (ix2 (smp t r) ⟨h.val, by omega⟩) :=
  (ld_gate (bg m c t) nr nh i r ⟨h.val, by omega⟩ hr hh).trans (bg_apply m c t r ⟨h.val, by omega⟩)

theorem beta_eq (i) : View.ld (bg m c t) (Rect.unit (s := S4x1x128) ![nr, 0, nb] S1x1x1.size i) (ix3 0 0 0)
    = aG m c (ix2 (smp t r) ⟨16 + h.val, by omega⟩) :=
  (ld_gate (bg m c t) nr nb i r ⟨16 + h.val, by omega⟩ hr hb).trans (bg_apply m c t r ⟨16 + h.val, by omega⟩)

theorem stateOf_eq (i) (d e : Fin 128) : View.ld (bS m c t) (Rect.unit (s := S1x4x16x128x128) ![0, nr, nh, 0, 0] S1x1x1x128x128.size i) (ix5 0 0 0 d e)
    = aS m c (ix5 0 (smp t r) h d e) := by
  refine (ld_state (bS m c t) nr nh i r h hr hh d e).trans ((bS_apply m c t r h d e).trans ?_)
  have hN : t.val < 64 := t.isLt
  rw [show (⟨1 - t.val / 32, by omega⟩ : Fin 2) = 0 from Fin.ext (by dsimp only; omega),
    show (⟨t.val % 32 * 4 + r.val, by omega⟩ : Fin 128) = smp t r from Fin.ext (by dsimp only; omega)]

include hf

/-- One head's new state of one sample is the reference's. -/
theorem state_eq (i1 i2 i6 i3 i4 i5) (d e : Fin 128) :
    headState (View.ld (bS m c t) (Rect.unit (s := S1x4x16x128x128) ![0, nr, nh, 0, 0] S1x1x1x128x128.size i1))
      (View.ld (bk m c t) (Rect.unit (s := S4x8x128) ![nr, nk, 0] S1x1x128.size i2))
      (View.ld (bq m c t) (Rect.unit (s := S4x8x128) ![nr, nk, 0] S1x1x128.size i6))
      (View.ld (bv m c t) (Rect.unit (s := S4x16x128) ![nr, nh, 0] S1x1x128.size i3))
      (View.ld (bg m c t) (Rect.unit (s := S4x1x128) ![nr, 0, nh] S1x1x1.size i4))
      (View.ld (bg m c t) (Rect.unit (s := S4x1x128) ![nr, 0, nb] S1x1x1.size i5)) (ix5 0 0 0 d e)
      = goal1 m c (ix5 0 (smp t r) h d e) := by
  rw [goal1, DnStepReference.states_first, DnStepReference.newState_eq _ _ _ _ _ _ _ hf.kv hf.g hf.s, headState_apply, written_apply]
  simp only [key_eq m c t ht r h nr nh nk nb hr hh hk hb, value_eq m c t ht r h nr nh nk nb hr hh hk hb, gate_eq m c t ht r h nr nh nk nb hr hh hk hb,
    beta_eq m c t ht r h nr nh nk nb hr hh hk hb, stateOf_eq m c t ht r h nr nh nk nb hr hh hk hb]

/-- One head's row of one sample is the reference's. -/
theorem row_eq (i1 i2 i3 i4 i5 i6 i7) (e : Fin 128) :
    headRow (View.ld (bS m c t) (Rect.unit (s := S1x4x16x128x128) ![0, nr, nh, 0, 0] S1x1x1x128x128.size i1))
      (View.ld (bk m c t) (Rect.unit (s := S4x8x128) ![nr, nk, 0] S1x1x128.size i2))
      (View.ld (bq m c t) (Rect.unit (s := S4x8x128) ![nr, nk, 0] S1x1x128.size i3))
      (View.ld (bv m c t) (Rect.unit (s := S4x16x128) ![nr, nh, 0] S1x1x128.size i4))
      (View.ld (bz m c t) (Rect.unit (s := S4x16x128) ![nr, nh, 0] S1x1x128.size i5))
      (View.ld (bg m c t) (Rect.unit (s := S4x1x128) ![nr, 0, nh] S1x1x1.size i6))
      (View.ld (bg m c t) (Rect.unit (s := S4x1x128) ![nr, 0, nb] S1x1x1.size i7))
      (bn m c t) (ix3 0 0 e)
      = goal0 m c (ix3 (smp t r) h e) := by
  rw [goal0, DnStepReference.res_eq_normGate _ _ _ _ _ _ hf.kv hf.g hf.s, headRow_apply]
  simp only [key_eq m c t ht r h nr nh nk nb hr hh hk hb, query_eq m c t ht r h nr nh nk nb hr hh hk hb, value_eq m c t ht r h nr nh nk nb hr hh hk hb,
    gated_eq m c t ht r h nr nh nk nb hr hh hk hb, gate_eq m c t ht r h nr nh nk nb hr hh hk hb,
    beta_eq m c t ht r h nr nh nk nb hr hh hk hb, stateOf_eq m c t ht r h nr nh nk nb hr hh hk hb]
  exact congrArg (fun n => normGate _ n _ e) (bn_apply m c t e)

end

end Cert.DnStepEq

end
-- ==== Proof.DnStepStates.lean ====
/-
  One decode step of the delta net on a first layer: what a grid point of the second half stores of the states.
-/
module

public import proofs.«01_k».proof.Proof.DnStepPoint

@[expose] public section

set_option maxRecDepth 16384
set_option maxHeartbeats 8000000

noncomputable section

open Idealize.ShloMosaic Idealize.ShloMosaic.TcCoe Idealize.SL.Sem
open Cert.DnStepIdeal Cert.DnStepIdeal.Gen Cert.DnStepIdeal.Facts Cert.DnStepMath Cert.DnStepBlock

namespace Cert.DnStepEq

variable (m : (ℓ : Loc nD τ sig) → Buf (Elt Ideal) ℓ)

/-- A stored piece that is one head's new state holds the reference's entries. -/
theorem state_piece (c : Dev nD) (hf : Finite m c) (t : Fin cfg0.N) (ht : 32 ≤ t.val) (nr nh nk nb : Nat) (hk : nk = nh / 2) (hb : nb = 16 + nh)
    (i1 i2 i3 i4 i5) (P : Vec Ideal S1x1x1x128x128 .f32)
    (hP : P = headState (View.ld (bS m c t) (Rect.unit (s := S1x4x16x128x128) ![0, nr, nh, 0, 0] S1x1x1x128x128.size i1))
      (View.ld (bk m c t) (Rect.unit (s := S4x8x128) ![nr, nk, 0] S1x1x128.size i2))
      (View.ld (bq m c t) (Rect.unit (s := S4x8x128) ![nr, nk, 0] S1x1x128.size i2))
      (View.ld (bv m c t) (Rect.unit (s := S4x16x128) ![nr, nh, 0] S1x1x128.size i3))
      (View.ld (bg m c t) (Rect.unit (s := S4x1x128) ![nr, 0, nh] S1x1x1.size i4))
      (View.ld (bg m c t) (Rect.unit (s := S4x1x128) ![nr, 0, nb] S1x1x1.size i5)))
    (x : S1x1x1x128x128.Idx) (r : Fin 4) (h : Fin 16) (d e : Fin 128)
    (h1 : r.val = nr + (x 1).val) (h2 : h.val = nh + (x 2).val) (h3 : d.val = (x 3).val) (h4 : e.val = (x 4).val) :
    P x = goal1 m c (ix5 0 (smp t r) h d e) := by
  have e0 : x 0 = (0 : Fin 1) := Subsingleton.elim (α := Fin 1) _ _
  have e1 : x 1 = (0 : Fin 1) := Subsingleton.elim (α := Fin 1) _ _
  have e2 : x 2 = (0 : Fin 1) := Subsingleton.elim (α := Fin 1) _ _
  have z1 : (x 1).val = 0 := congrArg Fin.val e1
  have z2 : (x 2).val = 0 := congrArg Fin.val e2
  have e3 : x 3 = d := Fin.ext h3.symm
  have e4 : x 4 = e := Fin.ext h4.symm
  refine (congrArg P (eq_ix5 x)).trans ?_
  rw [e0, e1, e2, e3, e4, hP]
  exact state_eq m c hf t ht r h nr nh nk nb (by omega) (by omega) (by omega) (by omega) _ _ _ _ _ _ d e

/-- What a grid point of the second half stores of the states: the reference's new states of its samples. -/
theorem stored_states (c : Dev nD) (hf : Finite m c) (t : Fin cfg0.N) (ht : 32 ≤ t.val) (r : Fin 4) (h : Fin 16) (d e : Fin 128) :
    (dats m 0 c).after 8 t (ix5 0 r h d e) = goal1 m c (ix5 0 (smp t r) h d e) := by
  rw [after0_8, outsAt0_B m c t (by omega) ht]
  frame_out
  canon_tiles x hx
  · refine state_piece m c hf t ht 3 15 7 31 rfl rfl inb_S1x4x16x128x128_S1x1x1x128x128_0_3_15_0_0 inb_S4x8x128_S1x1x128_3_7_0 inb_S4x16x128_S1x1x128_3_15_0 inb_S4x1x128_S1x1x1_3_0_15 inb_S4x1x128_S1x1x1_3_0_31 _ ?_ x r h d e hx1 hx2 hx3 hx4
    rfl
  · refine state_piece m c hf t ht 3 14 7 30 rfl rfl inb_S1x4x16x128x128_S1x1x1x128x128_0_3_14_0_0 inb_S4x8x128_S1x1x128_3_7_0 inb_S4x16x128_S1x1x128_3_14_0 inb_S4x1x128_S1x1x1_3_0_14 inb_S4x1x128_S1x1x1_3_0_30 _ ?_ x r h d e hx1 hx2 hx3 hx4
    rfl
  · refine state_piece m c hf t ht 3 13 6 29 rfl rfl inb_S1x4x16x128x128_S1x1x1x128x128_0_3_13_0_0 inb_S4x8x128_S1x1x128_3_6_0 inb_S4x16x128_S1x1x128_3_13_0 inb_S4x1x128_S1x1x1_3_0_13 inb_S4x1x128_S1x1x1_3_0_29 _ ?_ x r h d e hx1 hx2 hx3 hx4
    rfl
  · refine state_piece m c hf t ht 3 12 6 28 rfl rfl inb_S1x4x16x128x128_S1x1x1x128x128_0_3_12_0_0 inb_S4x8x128_S1x1x128_3_6_0 inb_S4x16x128_S1x1x128_3_12_0 inb_S4x1x128_S1x1x1_3_0_12 inb_S4x1x128_S1x1x1_3_0_28 _ ?_ x r h d e hx1 hx2 hx3 hx4
    rfl
  · refine state_piece m c hf t ht 3 11 5 27 rfl rfl inb_S1x4x16x128x128_S1x1x1x128x128_0_3_11_0_0 inb_S4x8x128_S1x1x128_3_5_0 inb_S4x16x128_S1x1x128_3_11_0 inb_S4x1x128_S1x1x1_3_0_11 inb_S4x1x128_S1x1x1_3_0_27 _ ?_ x r h d e hx1 hx2 hx3 hx4
    rfl
  · refine state_piece m c hf t ht 3 10 5 26 rfl rfl inb_S1x4x16x128x128_S1x1x1x128x128_0_3_10_0_0 inb_S4x8x128_S1x1x128_3_5_0 inb_S4x16x128_S1x1x128_3_10_0 inb_S4x1x128_S1x1x1_3_0_10 inb_S4x1x128_S1x1x1_3_0_26 _ ?_ x r h d e hx1 hx2 hx3 hx4
    rfl
  · refine state_piece m c hf t ht 3 9 4 25 rfl rfl inb_S1x4x16x128x128_S1x1x1x128x128_0_3_9_0_0 inb_S4x8x128_S1x1x128_3_4_0 inb_S4x16x128_S1x1x128_3_9_0 inb_S4x1x128_S1x1x1_3_0_9 inb_S4x1x128_S1x1x1_3_0_25 _ ?_ x r h d e hx1 hx2 hx3 hx4
    rfl
  · refine state_piece m c hf t ht 3 8 4 24 rfl rfl inb_S1x4x16x128x128_S1x1x1x128x128_0_3_8_0_0 inb_S4x8x128_S1x1x128_3_4_0 inb_S4x16x128_S1x1x128_3_8_0 inb_S4x1x128_S1x1x1_3_0_8 inb_S4x1x128_S1x1x1_3_0_24 _ ?_ x r h d e hx1 hx2 hx3 hx4
    rfl
  · refine state_piece m c hf t ht 3 7 3 23 rfl rfl inb_S1x4x16x128x128_S1x1x1x128x128_0_3_7_0_0 inb_S4x8x128_S1x1x128_3_3_0 inb_S4x16x128_S1x1x128_3_7_0 inb_S4x1x128_S1x1x1_3_0_7 inb_S4x1x128_S1x1x1_3_0_23 _ ?_ x r h d e hx1 hx2 hx3 hx4
    rfl
  · refine state_piece m c hf t ht 3 6 3 22 rfl rfl inb_S1x4x16x128x128_S1x1x1x128x128_0_3_6_0_0 inb_S4x8x128_S1x1x128_3_3_0 inb_S4x16x128_S1x1x128_3_6_0 inb_S4x1x128_S1x1x1_3_0_6 inb_S4x1x128_S1x1x1_3_0_22 _ ?_ x r h d e hx1 hx2 hx3 hx4
    rfl
  · refine state_piece m c hf t ht 3 5 2 21 rfl rfl inb_S1x4x16x128x128_S1x1x1x128x128_0_3_5_0_0 inb_S4x8x128_S1x1x128_3_2_0 inb_S4x16x128_S1x1x128_3_5_0 inb_S4x1x128_S1x1x1_3_0_5 inb_S4x1x128_S1x1x1_3_0_21 _ ?_ x r h d e hx1 hx2 hx3 hx4
    rfl
  · refine state_piece m c hf t ht 3 4 2 20 rfl rfl inb_S1x4x16x128x128_S1x1x1x128x128_0_3_4_0_0 inb_S4x8x128_S1x1x128_3_2_0 inb_S4x16x128_S1x1x128_3_4_0 inb_S4x1x128_S1x1x1_3_0_4 inb_S4x1x128_S1x1x1_3_0_20 _ ?_ x r h d e hx1 hx2 hx3 hx4
    rfl
  · refine state_piece m c hf t ht 3 3 1 19 rfl rfl inb_S1x4x16x128x128_S1x1x1x128x128_0_3_3_0_0 inb_S4x8x128_S1x1x128_3_1_0 inb_S4x16x128_S1x1x128_3_3_0 inb_S4x1x128_S1x1x1_3_0_3 inb_S4x1x128_S1x1x1_3_0_19 _ ?_ x r h d e hx1 hx2 hx3 hx4
    rfl
  · refine state_piece m c hf t ht 3 2 1 18 rfl rfl inb_S1x4x16x128x128_S1x1x1x128x128_0_3_2_0_0 inb_S4x8x128_S1x1x128_3_1_0 inb_S4x16x128_S1x1x128_3_2_0 inb_S4x1x128_S1x1x1_3_0_2 inb_S4x1x128_S1x1x1_3_0_18 _ ?_ x r h d e hx1 hx2 hx3 hx4
    rfl
  · refine state_piece m c hf t ht 3 1 0 17 rfl rfl inb_S1x4x16x128x128_S1x1x1x128x128_0_3_1_0_0 inb_S4x8x128_S1x1x128_3_0_0 inb_S4x16x128_S1x1x128_3_1_0 inb_S4x1x128_S1x1x1_3_0_1 inb_S4x1x128_S1x1x1_3_0_17 _ ?_ x r h d e hx1 hx2 hx3 hx4
    rfl
  · refine state_piece m c hf t ht 3 0 0 16 rfl rfl inb_S1x4x16x128x128_S1x1x1x128x128_0_3_0_0_0 inb_S4x8x128_S1x1x128_3_0_0 inb_S4x16x128_S1x1x128_3_0_0 inb_S4x1x128_S1x1x1_3_0_0 inb_S4x1x128_S1x1x1_3_0_16 _ ?_ x r h d e hx1 (hx2.trans (Nat.zero_add _).symm) hx3 hx4
    rfl
  · refine state_piece m c hf t ht 2 15 7 31 rfl rfl inb_S1x4x16x128x128_S1x1x1x128x128_0_2_15_0_0 inb_S4x8x128_S1x1x128_2_7_0 inb_S4x16x128_S1x1x128_2_15_0 inb_S4x1x128_S1x1x1_2_0_15 inb_S4x1x128_S1x1x1_2_0_31 _ ?_ x r h d e hx1 hx2 hx3 hx4
    rfl
  · refine state_piece m c hf t ht 2 14 7 30 rfl rfl inb_S1x4x16x128x128_S1x1x1x128x128_0_2_14_0_0 inb_S4x8x128_S1x1x128_2_7_0 inb_S4x16x128_S1x1x128_2_14_0 inb_S4x1x128_S1x1x1_2_0_14 inb_S4x1x128_S1x1x1_2_0_30 _ ?_ x r h d e hx1 hx2 hx3 hx4
    rfl
  · refine state_piece m c hf t ht 2 13 6 29 rfl rfl inb_S1x4x16x128x128_S1x1x1x128x128_0_2_13_0_0 inb_S4x8x128_S1x1x128_2_6_0 inb_S4x16x128_S1x1x128_2_13_0 inb_S4x1x128_S1x1x1_2_0_13 inb_S4x1x128_S1x1x1_2_0_29 _ ?_ x r h d e hx1 hx2 hx3 hx4
    rfl
  · refine state_piece m c hf t ht 2 12 6 28 rfl rfl inb_S1x4x16x128x128_S1x1x1x128x128_0_2_12_0_0 inb_S4x8x128_S1x1x128_2_6_0 inb_S4x16x128_S1x1x128_2_12_0 inb_S4x1x128_S1x1x1_2_0_12 inb_S4x1x128_S1x1x1_2_0_28 _ ?_ x r h d e hx1 hx2 hx3 hx4
    rfl
  · refine state_piece m c hf t ht 2 11 5 27 rfl rfl inb_S1x4x16x128x128_S1x1x1x128x128_0_2_11_0_0 inb_S4x8x128_S1x1x128_2_5_0 inb_S4x16x128_S1x1x128_2_11_0 inb_S4x1x128_S1x1x1_2_0_11 inb_S4x1x128_S1x1x1_2_0_27 _ ?_ x r h d e hx1 hx2 hx3 hx4
    rfl
  · refine state_piece m c hf t ht 2 10 5 26 rfl rfl inb_S1x4x16x128x128_S1x1x1x128x128_0_2_10_0_0 inb_S4x8x128_S1x1x128_2_5_0 inb_S4x16x128_S1x1x128_2_10_0 inb_S4x1x128_S1x1x1_2_0_10 inb_S4x1x128_S1x1x1_2_0_26 _ ?_ x r h d e hx1 hx2 hx3 hx4
    rfl
  · refine state_piece m c hf t ht 2 9 4 25 rfl rfl inb_S1x4x16x128x128_S1x1x1x128x128_0_2_9_0_0 inb_S4x8x128_S1x1x128_2_4_0 inb_S4x16x128_S1x1x128_2_9_0 inb_S4x1x128_S1x1x1_2_0_9 inb_S4x1x128_S1x1x1_2_0_25 _ ?_ x r h d e hx1 hx2 hx3 hx4
    rfl
  · refine state_piece m c hf t ht 2 8 4 24 rfl rfl inb_S1x4x16x128x128_S1x1x1x128x128_0_2_8_0_0 inb_S4x8x128_S1x1x128_2_4_0 inb_S4x16x128_S1x1x128_2_8_0 inb_S4x1x128_S1x1x1_2_0_8 inb_S4x1x128_S1x1x1_2_0_24 _ ?_ x r h d e hx1 hx2 hx3 hx4
    rfl
  · refine state_piece m c hf t ht 2 7 3 23 rfl rfl inb_S1x4x16x128x128_S1x1x1x128x128_0_2_7_0_0 inb_S4x8x128_S1x1x128_2_3_0 inb_S4x16x128_S1x1x128_2_7_0 inb_S4x1x128_S1x1x1_2_0_7 inb_S4x1x128_S1x1x1_2_0_23 _ ?_ x r h d e hx1 hx2 hx3 hx4
    rfl
  · refine state_piece m c hf t ht 2 6 3 22 rfl rfl inb_S1x4x16x128x128_S1x1x1x128x128_0_2_6_0_0 inb_S4x8x128_S1x1x128_2_3_0 inb_S4x16x128_S1x1x128_2_6_0 inb_S4x1x128_S1x1x1_2_0_6 inb_S4x1x128_S1x1x1_2_0_22 _ ?_ x r h d e hx1 hx2 hx3 hx4
    rfl
  · refine state_piece m c hf t ht 2 5 2 21 rfl rfl inb_S1x4x16x128x128_S1x1x1x128x128_0_2_5_0_0 inb_S4x8x128_S1x1x128_2_2_0 inb_S4x16x128_S1x1x128_2_5_0 inb_S4x1x128_S1x1x1_2_0_5 inb_S4x1x128_S1x1x1_2_0_21 _ ?_ x r h d e hx1 hx2 hx3 hx4
    rfl
  · refine state_piece m c hf t ht 2 4 2 20 rfl rfl inb_S1x4x16x128x128_S1x1x1x128x128_0_2_4_0_0 inb_S4x8x128_S1x1x128_2_2_0 inb_S4x16x128_S1x1x128_2_4_0 inb_S4x1x128_S1x1x1_2_0_4 inb_S4x1x128_S1x1x1_2_0_20 _ ?_ x r h d e hx1 hx2 hx3 hx4
    rfl
  · refine state_piece m c hf t ht 2 3 1 19 rfl rfl inb_S1x4x16x128x128_S1x1x1x128x128_0_2_3_0_0 inb_S4x8x128_S1x1x128_2_1_0 inb_S4x16x128_S1x1x128_2_3_0 inb_S4x1x128_S1x1x1_2_0_3 inb_S4x1x128_S1x1x1_2_0_19 _ ?_ x r h d e hx1 hx2 hx3 hx4
    rfl
  · refine state_piece m c hf t ht 2 2 1 18 rfl rfl inb_S1x4x16x128x128_S1x1x1x128x128_0_2_2_0_0 inb_S4x8x128_S1x1x128_2_1_0 inb_S4x16x128_S1x1x128_2_2_0 inb_S4x1x128_S1x1x1_2_0_2 inb_S4x1x128_S1x1x1_2_0_18 _ ?_ x r h d e hx1 hx2 hx3 hx4
    rfl
  · refine state_piece m c hf t ht 2 1 0 17 rfl rfl inb_S1x4x16x128x128_S1x1x1x128x128_0_2_1_0_0 inb_S4x8x128_S1x1x128_2_0_0 inb_S4x16x128_S1x1x128_2_1_0 inb_S4x1x128_S1x1x1_2_0_1 inb_S4x1x128_S1x1x1_2_0_17 _ ?_ x r h d e hx1 hx2 hx3 hx4
    rfl
  · refine state_piece m c hf t ht 2 0 0 16 rfl rfl inb_S1x4x16x128x128_S1x1x1x128x128_0_2_0_0_0 inb_S4x8x128_S1x1x128_2_0_0 inb_S4x16x128_S1x1x128_2_0_0 inb_S4x1x128_S1x1x1_2_0_0 inb_S4x1x128_S1x1x1_2_0_16 _ ?_ x r h d e hx1 (hx2.trans (Nat.zero_add _).symm) hx3 hx4
    rfl
  · refine state_piece m c hf t ht 1 15 7 31 rfl rfl inb_S1x4x16x128x128_S1x1x1x128x128_0_1_15_0_0 inb_S4x8x128_S1x1x128_1_7_0 inb_S4x16x128_S1x1x128_1_15_0 inb_S4x1x128_S1x1x1_1_0_15 inb_S4x1x128_S1x1x1_1_0_31 _ ?_ x r h d e hx1 hx2 hx3 hx4
    rfl
  · refine state_piece m c hf t ht 1 14 7 30 rfl rfl inb_S1x4x16x128x128_S1x1x1x128x128_0_1_14_0_0 inb_S4x8x128_S1x1x128_1_7_0 inb_S4x16x128_S1x1x128_1_14_0 inb_S4x1x128_S1x1x1_1_0_14 inb_S4x1x128_S1x1x1_1_0_30 _ ?_ x r h d e hx1 hx2 hx3 hx4
    rfl
  · refine state_piece m c hf t ht 1 13 6 29 rfl rfl inb_S1x4x16x128x128_S1x1x1x128x128_0_1_13_0_0 inb_S4x8x128_S1x1x128_1_6_0 inb_S4x16x128_S1x1x128_1_13_0 inb_S4x1x128_S1x1x1_1_0_13 inb_S4x1x128_S1x1x1_1_0_29 _ ?_ x r h d e hx1 hx2 hx3 hx4
    rfl
  · refine state_piece m c hf t ht 1 12 6 28 rfl rfl inb_S1x4x16x128x128_S1x1x1x128x128_0_1_12_0_0 inb_S4x8x128_S1x1x128_1_6_0 inb_S4x16x128_S1x1x128_1_12_0 inb_S4x1x128_S1x1x1_1_0_12 inb_S4x1x128_S1x1x1_1_0_28 _ ?_ x r h d e hx1 hx2 hx3 hx4
    rfl
  · refine state_piece m c hf t ht 1 11 5 27 rfl rfl inb_S1x4x16x128x128_S1x1x1x128x128_0_1_11_0_0 inb_S4x8x128_S1x1x128_1_5_0 inb_S4x16x128_S1x1x128_1_11_0 inb_S4x1x128_S1x1x1_1_0_11 inb_S4x1x128_S1x1x1_1_0_27 _ ?_ x r h d e hx1 hx2 hx3 hx4
    rfl
  · refine state_piece m c hf t ht 1 10 5 26 rfl rfl inb_S1x4x16x128x128_S1x1x1x128x128_0_1_10_0_0 inb_S4x8x128_S1x1x128_1_5_0 inb_S4x16x128_S1x1x128_1_10_0 inb_S4x1x128_S1x1x1_1_0_10 inb_S4x1x128_S1x1x1_1_0_26 _ ?_ x r h d e hx1 hx2 hx3 hx4
    rfl
  · refine state_piece m c hf t ht 1 9 4 25 rfl rfl inb_S1x4x16x128x128_S1x1x1x128x128_0_1_9_0_0 inb_S4x8x128_S1x1x128_1_4_0 inb_S4x16x128_S1x1x128_1_9_0 inb_S4x1x128_S1x1x1_1_0_9 inb_S4x1x128_S1x1x1_1_0_25 _ ?_ x r h d e hx1 hx2 hx3 hx4
    rfl
  · refine state_piece m c hf t ht 1 8 4 24 rfl rfl inb_S1x4x16x128x128_S1x1x1x128x128_0_1_8_0_0 inb_S4x8x128_S1x1x128_1_4_0 inb_S4x16x128_S1x1x128_1_8_0 inb_S4x1x128_S1x1x1_1_0_8 inb_S4x1x128_S1x1x1_1_0_24 _ ?_ x r h d e hx1 hx2 hx3 hx4
    rfl
  · refine state_piece m c hf t ht 1 7 3 23 rfl rfl inb_S1x4x16x128x128_S1x1x1x128x128_0_1_7_0_0 inb_S4x8x128_S1x1x128_1_3_0 inb_S4x16x128_S1x1x128_1_7_0 inb_S4x1x128_S1x1x1_1_0_7 inb_S4x1x128_S1x1x1_1_0_23 _ ?_ x r h d e hx1 hx2 hx3 hx4
    rfl
  · refine state_piece m c hf t ht 1 6 3 22 rfl rfl inb_S1x4x16x128x128_S1x1x1x128x128_0_1_6_0_0 inb_S4x8x128_S1x1x128_1_3_0 inb_S4x16x128_S1x1x128_1_6_0 inb_S4x1x128_S1x1x1_1_0_6 inb_S4x1x128_S1x1x1_1_0_22 _ ?_ x r h d e hx1 hx2 hx3 hx4
    rfl
  · refine state_piece m c hf t ht 1 5 2 21 rfl rfl inb_S1x4x16x128x128_S1x1x1x128x128_0_1_5_0_0 inb_S4x8x128_S1x1x128_1_2_0 inb_S4x16x128_S1x1x128_1_5_0 inb_S4x1x128_S1x1x1_1_0_5 inb_S4x1x128_S1x1x1_1_0_21 _ ?_ x r h d e hx1 hx2 hx3 hx4
    rfl
  · refine state_piece m c hf t ht 1 4 2 20 rfl rfl inb_S1x4x16x128x128_S1x1x1x128x128_0_1_4_0_0 inb_S4x8x128_S1x1x128_1_2_0 inb_S4x16x128_S1x1x128_1_4_0 inb_S4x1x128_S1x1x1_1_0_4 inb_S4x1x128_S1x1x1_1_0_20 _ ?_ x r h d e hx1 hx2 hx3 hx4
    rfl
  · refine state_piece m c hf t ht 1 3 1 19 rfl rfl inb_S1x4x16x128x128_S1x1x1x128x128_0_1_3_0_0 inb_S4x8x128_S1x1x128_1_1_0 inb_S4x16x128_S1x1x128_1_3_0 inb_S4x1x128_S1x1x1_1_0_3 inb_S4x1x128_S1x1x1_1_0_19 _ ?_ x r h d e hx1 hx2 hx3 hx4
    rfl
  · refine state_piece m c hf t ht 1 2 1 18 rfl rfl inb_S1x4x16x128x128_S1x1x1x128x128_0_1_2_0_0 inb_S4x8x128_S1x1x128_1_1_0 inb_S4x16x128_S1x1x128_1_2_0 inb_S4x1x128_S1x1x1_1_0_2 inb_S4x1x128_S1x1x1_1_0_18 _ ?_ x r h d e hx1 hx2 hx3 hx4
    rfl
  · refine state_piece m c hf t ht 1 1 0 17 rfl rfl inb_S1x4x16x128x128_S1x1x1x128x128_0_1_1_0_0 inb_S4x8x128_S1x1x128_1_0_0 inb_S4x16x128_S1x1x128_1_1_0 inb_S4x1x128_S1x1x1_1_0_1 inb_S4x1x128_S1x1x1_1_0_17 _ ?_ x r h d e hx1 hx2 hx3 hx4
    rfl
  · refine state_piece m c hf t ht 1 0 0 16 rfl rfl inb_S1x4x16x128x128_S1x1x1x128x128_0_1_0_0_0 inb_S4x8x128_S1x1x128_1_0_0 inb_S4x16x128_S1x1x128_1_0_0 inb_S4x1x128_S1x1x1_1_0_0 inb_S4x1x128_S1x1x1_1_0_16 _ ?_ x r h d e hx1 (hx2.trans (Nat.zero_add _).symm) hx3 hx4
    rfl
  · refine state_piece m c hf t ht 0 15 7 31 rfl rfl inb_S1x4x16x128x128_S1x1x1x128x128_0_0_15_0_0 inb_S4x8x128_S1x1x128_0_7_0 inb_S4x16x128_S1x1x128_0_15_0 inb_S4x1x128_S1x1x1_0_0_15 inb_S4x1x128_S1x1x1_0_0_31 _ ?_ x r h d e (hx1.trans (Nat.zero_add _).symm) hx2 hx3 hx4
    rfl
  · refine state_piece m c hf t ht 0 14 7 30 rfl rfl inb_S1x4x16x128x128_S1x1x1x128x128_0_0_14_0_0 inb_S4x8x128_S1x1x128_0_7_0 inb_S4x16x128_S1x1x128_0_14_0 inb_S4x1x128_S1x1x1_0_0_14 inb_S4x1x128_S1x1x1_0_0_30 _ ?_ x r h d e (hx1.trans (Nat.zero_add _).symm) hx2 hx3 hx4
    rfl
  · refine state_piece m c hf t ht 0 13 6 29 rfl rfl inb_S1x4x16x128x128_S1x1x1x128x128_0_0_13_0_0 inb_S4x8x128_S1x1x128_0_6_0 inb_S4x16x128_S1x1x128_0_13_0 inb_S4x1x128_S1x1x1_0_0_13 inb_S4x1x128_S1x1x1_0_0_29 _ ?_ x r h d e (hx1.trans (Nat.zero_add _).symm) hx2 hx3 hx4
    rfl
  · refine state_piece m c hf t ht 0 12 6 28 rfl rfl inb_S1x4x16x128x128_S1x1x1x128x128_0_0_12_0_0 inb_S4x8x128_S1x1x128_0_6_0 inb_S4x16x128_S1x1x128_0_12_0 inb_S4x1x128_S1x1x1_0_0_12 inb_S4x1x128_S1x1x1_0_0_28 _ ?_ x r h d e (hx1.trans (Nat.zero_add _).symm) hx2 hx3 hx4
    rfl
  · refine state_piece m c hf t ht 0 11 5 27 rfl rfl inb_S1x4x16x128x128_S1x1x1x128x128_0_0_11_0_0 inb_S4x8x128_S1x1x128_0_5_0 inb_S4x16x128_S1x1x128_0_11_0 inb_S4x1x128_S1x1x1_0_0_11 inb_S4x1x128_S1x1x1_0_0_27 _ ?_ x r h d e (hx1.trans (Nat.zero_add _).symm) hx2 hx3 hx4
    rfl
  · refine state_piece m c hf t ht 0 10 5 26 rfl rfl inb_S1x4x16x128x128_S1x1x1x128x128_0_0_10_0_0 inb_S4x8x128_S1x1x128_0_5_0 inb_S4x16x128_S1x1x128_0_10_0 inb_S4x1x128_S1x1x1_0_0_10 inb_S4x1x128_S1x1x1_0_0_26 _ ?_ x r h d e (hx1.trans (Nat.zero_add _).symm) hx2 hx3 hx4
    rfl
  · refine state_piece m c hf t ht 0 9 4 25 rfl rfl inb_S1x4x16x128x128_S1x1x1x128x128_0_0_9_0_0 inb_S4x8x128_S1x1x128_0_4_0 inb_S4x16x128_S1x1x128_0_9_0 inb_S4x1x128_S1x1x1_0_0_9 inb_S4x1x128_S1x1x1_0_0_25 _ ?_ x r h d e (hx1.trans (Nat.zero_add _).symm) hx2 hx3 hx4
    rfl
  · refine state_piece m c hf t ht 0 8 4 24 rfl rfl inb_S1x4x16x128x128_S1x1x1x128x128_0_0_8_0_0 inb_S4x8x128_S1x1x128_0_4_0 inb_S4x16x128_S1x1x128_0_8_0 inb_S4x1x128_S1x1x1_0_0_8 inb_S4x1x128_S1x1x1_0_0_24 _ ?_ x r h d e (hx1.trans (Nat.zero_add _).symm) hx2 hx3 hx4
    rfl
  · refine state_piece m c hf t ht 0 7 3 23 rfl rfl inb_S1x4x16x128x128_S1x1x1x128x128_0_0_7_0_0 inb_S4x8x128_S1x1x128_0_3_0 inb_S4x16x128_S1x1x128_0_7_0 inb_S4x1x128_S1x1x1_0_0_7 inb_S4x1x128_S1x1x1_0_0_23 _ ?_ x r h d e (hx1.trans (Nat.zero_add _).symm) hx2 hx3 hx4
    rfl
  · refine state_piece m c hf t ht 0 6 3 22 rfl rfl inb_S1x4x16x128x128_S1x1x1x128x128_0_0_6_0_0 inb_S4x8x128_S1x1x128_0_3_0 inb_S4x16x128_S1x1x128_0_6_0 inb_S4x1x128_S1x1x1_0_0_6 inb_S4x1x128_S1x1x1_0_0_22 _ ?_ x r h d e (hx1.trans (Nat.zero_add _).symm) hx2 hx3 hx4
    rfl
  · refine state_piece m c hf t ht 0 5 2 21 rfl rfl inb_S1x4x16x128x128_S1x1x1x128x128_0_0_5_0_0 inb_S4x8x128_S1x1x128_0_2_0 inb_S4x16x128_S1x1x128_0_5_0 inb_S4x1x128_S1x1x1_0_0_5 inb_S4x1x128_S1x1x1_0_0_21 _ ?_ x r h d e (hx1.trans (Nat.zero_add _).symm) hx2 hx3 hx4
    rfl
  · refine state_piece m c hf t ht 0 4 2 20 rfl rfl inb_S1x4x16x128x128_S1x1x1x128x128_0_0_4_0_0 inb_S4x8x128_S1x1x128_0_2_0 inb_S4x16x128_S1x1x128_0_4_0 inb_S4x1x128_S1x1x1_0_0_4 inb_S4x1x128_S1x1x1_0_0_20 _ ?_ x r h d e (hx1.trans (Nat.zero_add _).symm) hx2 hx3 hx4
    rfl
  · refine state_piece m c hf t ht 0 3 1 19 rfl rfl inb_S1x4x16x128x128_S1x1x1x128x128_0_0_3_0_0 inb_S4x8x128_S1x1x128_0_1_0 inb_S4x16x128_S1x1x128_0_3_0 inb_S4x1x128_S1x1x1_0_0_3 inb_S4x1x128_S1x1x1_0_0_19 _ ?_ x r h d e (hx1.trans (Nat.zero_add _).symm) hx2 hx3 hx4
    rfl
  · refine state_piece m c hf t ht 0 2 1 18 rfl rfl inb_S1x4x16x128x128_S1x1x1x128x128_0_0_2_0_0 inb_S4x8x128_S1x1x128_0_1_0 inb_S4x16x128_S1x1x128_0_2_0 inb_S4x1x128_S1x1x1_0_0_2 inb_S4x1x128_S1x1x1_0_0_18 _ ?_ x r h d e (hx1.trans (Nat.zero_add _).symm) hx2 hx3 hx4
    rfl
  · refine state_piece m c hf t ht 0 1 0 17 rfl rfl inb_S1x4x16x128x128_S1x1x1x128x128_0_0_1_0_0 inb_S4x8x128_S1x1x128_0_0_0 inb_S4x16x128_S1x1x128_0_1_0 inb_S4x1x128_S1x1x1_0_0_1 inb_S4x1x128_S1x1x1_0_0_17 _ ?_ x r h d e (hx1.trans (Nat.zero_add _).symm) hx2 hx3 hx4
    rfl
  · refine state_piece m c hf t ht 0 0 0 16 rfl rfl inb_S1x4x16x128x128_S1x1x1x128x128_0_0_0_0_0 inb_S4x8x128_S1x1x128_0_0_0 inb_S4x16x128_S1x1x128_0_0_0 inb_S4x1x128_S1x1x1_0_0_0 inb_S4x1x128_S1x1x1_0_0_16 _ ?_ x r h d e (hx1.trans (Nat.zero_add _).symm) (hx2.trans (Nat.zero_add _).symm) hx3 hx4
    rfl

end Cert.DnStepEq

end
-- ==== Proof.DnStepRows.lean ====
/-
  One decode step of the delta net on a first layer: what a grid point of the second half stores of the rows.
-/
module

public import proofs.«01_k».proof.Proof.DnStepPoint

@[expose] public section

set_option maxRecDepth 16384
set_option maxHeartbeats 8000000

noncomputable section

open Idealize.ShloMosaic Idealize.ShloMosaic.TcCoe Idealize.SL.Sem
open Cert.DnStepIdeal Cert.DnStepIdeal.Gen Cert.DnStepIdeal.Facts Cert.DnStepMath Cert.DnStepBlock

namespace Cert.DnStepEq

variable (m : (ℓ : Loc nD τ sig) → Buf (Elt Ideal) ℓ)

/-- A stored piece that is one head's row holds the reference's entries. -/
theorem row_piece (c : Dev nD) (hf : Finite m c) (t : Fin cfg0.N) (ht : 32 ≤ t.val) (nr nh nk nb : Nat) (hk : nk = nh / 2) (hb : nb = 16 + nh)
    (i1 i2 i3 i4 i5) (P : Vec Ideal S1x1x128 .f32)
    (hP : P = headRow (View.ld (bS m c t) (Rect.unit (s := S1x4x16x128x128) ![0, nr, nh, 0, 0] S1x1x1x128x128.size i1))
      (View.ld (bk m c t) (Rect.unit (s := S4x8x128) ![nr, nk, 0] S1x1x128.size i2))
      (View.ld (bq m c t) (Rect.unit (s := S4x8x128) ![nr, nk, 0] S1x1x128.size i2))
      (View.ld (bv m c t) (Rect.unit (s := S4x16x128) ![nr, nh, 0] S1x1x128.size i3))
      (View.ld (bz m c t) (Rect.unit (s := S4x16x128) ![nr, nh, 0] S1x1x128.size i3))
      (View.ld (bg m c t) (Rect.unit (s := S4x1x128) ![nr, 0, nh] S1x1x1.size i4))
      (View.ld (bg m c t) (Rect.unit (s := S4x1x128) ![nr, 0, nb] S1x1x1.size i5))
      (bn m c t))
    (x : S1x1x128.Idx) (r : Fin 4) (h : Fin 16) (e : Fin 128)
    (h0 : r.val = nr + (x 0).val) (h1 : h.val = nh + (x 1).val) (h2 : e.val = (x 2).val) :
    P x = goal0 m c (ix3 (smp t r) h e) := by
  have e0 : x 0 = (0 : Fin 1) := Subsingleton.elim (α := Fin 1) _ _
  have e1 : x 1 = (0 : Fin 1) := Subsingleton.elim (α := Fin 1) _ _
  have z0 : (x 0).val = 0 := congrArg Fin.val e0
  have z1 : (x 1).val = 0 := congrArg Fin.val e1
  have e2 : x 2 = e := Fin.ext h2.symm
  refine (congrArg P (eq_ix3 x)).trans ?_
  rw [e0, e1, e2, hP]
  exact row_eq m c hf t ht r h nr nh nk nb (by omega) (by omega) (by omega) (by omega) _ _ _ _ _ _ _ e

/-- What a grid point of the second half stores of the rows: the reference's rows of its samples. -/
theorem stored_rows (c : Dev nD) (hf : Finite m c) (t : Fin cfg0.N) (ht : 32 ≤ t.val) (r : Fin 4) (h : Fin 16) (e : Fin 128) :
    (dats m 0 c).after 7 t (ix3 r h e) = goal0 m c (ix3 (smp t r) h e) := by
  rw [after0_7, outsAt0_B m c t (by omega) ht]
  frame_out
  canon_tiles x hx
  · refine row_piece m c hf t ht 3 15 7 31 rfl rfl inb_S1x4x16x128x128_S1x1x1x128x128_0_3_15_0_0 inb_S4x8x128_S1x1x128_3_7_0 inb_S4x16x128_S1x1x128_3_15_0 inb_S4x1x128_S1x1x1_3_0_15 inb_S4x1x128_S1x1x1_3_0_31 _ ?_ x r h e hx0 hx1 hx2
    rfl
  · refine row_piece m c hf t ht 3 14 7 30 rfl rfl inb_S1x4x16x128x128_S1x1x1x128x128_0_3_14_0_0 inb_S4x8x128_S1x1x128_3_7_0 inb_S4x16x128_S1x1x128_3_14_0 inb_S4x1x128_S1x1x1_3_0_14 inb_S4x1x128_S1x1x1_3_0_30 _ ?_ x r h e hx0 hx1 hx2
    rfl
  · refine row_piece m c hf t ht 3 13 6 29 rfl rfl inb_S1x4x16x128x128_S1x1x1x128x128_0_3_13_0_0 inb_S4x8x128_S1x1x128_3_6_0 inb_S4x16x128_S1x1x128_3_13_0 inb_S4x1x128_S1x1x1_3_0_13 inb_S4x1x128_S1x1x1_3_0_29 _ ?_ x r h e hx0 hx1 hx2
    rfl
  · refine row_piece m c hf t ht 3 12 6 28 rfl rfl inb_S1x4x16x128x128_S1x1x1x128x128_0_3_12_0_0 inb_S4x8x128_S1x1x128_3_6_0 inb_S4x16x128_S1x1x128_3_12_0 inb_S4x1x128_S1x1x1_3_0_12 inb_S4x1x128_S1x1x1_3_0_28 _ ?_ x r h e hx0 hx1 hx2
    rfl
  · refine row_piece m c hf t ht 3 11 5 27 rfl rfl inb_S1x4x16x128x128_S1x1x1x128x128_0_3_11_0_0 inb_S4x8x128_S1x1x128_3_5_0 inb_S4x16x128_S1x1x128_3_11_0 inb_S4x1x128_S1x1x1_3_0_11 inb_S4x1x128_S1x1x1_3_0_27 _ ?_ x r h e hx0 hx1 hx2
    rfl
  · refine row_piece m c hf t ht 3 10 5 26 rfl rfl inb_S1x4x16x128x128_S1x1x1x128x128_0_3_10_0_0 inb_S4x8x128_S1x1x128_3_5_0 inb_S4x16x128_S1x1x128_3_10_0 inb_S4x1x128_S1x1x1_3_0_10 inb_S4x1x128_S1x1x1_3_0_26 _ ?_ x r h e hx0 hx1 hx2
    rfl
  · refine row_piece m c hf t ht 3 9 4 25 rfl rfl inb_S1x4x16x128x128_S1x1x1x128x128_0_3_9_0_0 inb_S4x8x128_S1x1x128_3_4_0 inb_S4x16x128_S1x1x128_3_9_0 inb_S4x1x128_S1x1x1_3_0_9 inb_S4x1x128_S1x1x1_3_0_25 _ ?_ x r h e hx0 hx1 hx2
    rfl
  · refine row_piece m c hf t ht 3 8 4 24 rfl rfl inb_S1x4x16x128x128_S1x1x1x128x128_0_3_8_0_0 inb_S4x8x128_S1x1x128_3_4_0 inb_S4x16x128_S1x1x128_3_8_0 inb_S4x1x128_S1x1x1_3_0_8 inb_S4x1x128_S1x1x1_3_0_24 _ ?_ x r h e hx0 hx1 hx2
    rfl
  · refine row_piece m c hf t ht 3 7 3 23 rfl rfl inb_S1x4x16x128x128_S1x1x1x128x128_0_3_7_0_0 inb_S4x8x128_S1x1x128_3_3_0 inb_S4x16x128_S1x1x128_3_7_0 inb_S4x1x128_S1x1x1_3_0_7 inb_S4x1x128_S1x1x1_3_0_23 _ ?_ x r h e hx0 hx1 hx2
    rfl
  · refine row_piece m c hf t ht 3 6 3 22 rfl rfl inb_S1x4x16x128x128_S1x1x1x128x128_0_3_6_0_0 inb_S4x8x128_S1x1x128_3_3_0 inb_S4x16x128_S1x1x128_3_6_0 inb_S4x1x128_S1x1x1_3_0_6 inb_S4x1x128_S1x1x1_3_0_22 _ ?_ x r h e hx0 hx1 hx2
    rfl
  · refine row_piece m c hf t ht 3 5 2 21 rfl rfl inb_S1x4x16x128x128_S1x1x1x128x128_0_3_5_0_0 inb_S4x8x128_S1x1x128_3_2_0 inb_S4x16x128_S1x1x128_3_5_0 inb_S4x1x128_S1x1x1_3_0_5 inb_S4x1x128_S1x1x1_3_0_21 _ ?_ x r h e hx0 hx1 hx2
    rfl
  · refine row_piece m c hf t ht 3 4 2 20 rfl rfl inb_S1x4x16x128x128_S1x1x1x128x128_0_3_4_0_0 inb_S4x8x128_S1x1x128_3_2_0 inb_S4x16x128_S1x1x128_3_4_0 inb_S4x1x128_S1x1x1_3_0_4 inb_S4x1x128_S1x1x1_3_0_20 _ ?_ x r h e hx0 hx1 hx2
    rfl
  · refine row_piece m c hf t ht 3 3 1 19 rfl rfl inb_S1x4x16x128x128_S1x1x1x128x128_0_3_3_0_0 inb_S4x8x128_S1x1x128_3_1_0 inb_S4x16x128_S1x1x128_3_3_0 inb_S4x1x128_S1x1x1_3_0_3 inb_S4x1x128_S1x1x1_3_0_19 _ ?_ x r h e hx0 hx1 hx2
    rfl
  · refine row_piece m c hf t ht 3 2 1 18 rfl rfl inb_S1x4x16x128x128_S1x1x1x128x128_0_3_2_0_0 inb_S4x8x128_S1x1x128_3_1_0 inb_S4x16x128_S1x1x128_3_2_0 inb_S4x1x128_S1x1x1_3_0_2 inb_S4x1x128_S1x1x1_3_0_18 _ ?_ x r h e hx0 hx1 hx2
    rfl
  · refine row_piece m c hf t ht 3 1 0 17 rfl rfl inb_S1x4x16x128x128_S1x1x1x128x128_0_3_1_0_0 inb_S4x8x128_S1x1x128_3_0_0 inb_S4x16x128_S1x1x128_3_1_0 inb_S4x1x128_S1x1x1_3_0_1 inb_S4x1x128_S1x1x1_3_0_17 _ ?_ x r h e hx0 hx1 hx2
    rfl
  · refine row_piece m c hf t ht 3 0 0 16 rfl rfl inb_S1x4x16x128x128_S1x1x1x128x128_0_3_0_0_0 inb_S4x8x128_S1x1x128_3_0_0 inb_S4x16x128_S1x1x128_3_0_0 inb_S4x1x128_S1x1x1_3_0_0 inb_S4x1x128_S1x1x1_3_0_16 _ ?_ x r h e hx0 (hx1.trans (Nat.zero_add _).symm) hx2
    rfl
  · refine row_piece m c hf t ht 2 15 7 31 rfl rfl inb_S1x4x16x128x128_S1x1x1x128x128_0_2_15_0_0 inb_S4x8x128_S1x1x128_2_7_0 inb_S4x16x128_S1x1x128_2_15_0 inb_S4x1x128_S1x1x1_2_0_15 inb_S4x1x128_S1x1x1_2_0_31 _ ?_ x r h e hx0 hx1 hx2
    rfl
  · refine row_piece m c hf t ht 2 14 7 30 rfl rfl inb_S1x4x16x128x128_S1x1x1x128x128_0_2_14_0_0 inb_S4x8x128_S1x1x128_2_7_0 inb_S4x16x128_S1x1x128_2_14_0 inb_S4x1x128_S1x1x1_2_0_14 inb_S4x1x128_S1x1x1_2_0_30 _ ?_ x r h e hx0 hx1 hx2
    rfl
  · refine row_piece m c hf t ht 2 13 6 29 rfl rfl inb_S1x4x16x128x128_S1x1x1x128x128_0_2_13_0_0 inb_S4x8x128_S1x1x128_2_6_0 inb_S4x16x128_S1x1x128_2_13_0 inb_S4x1x128_S1x1x1_2_0_13 inb_S4x1x128_S1x1x1_2_0_29 _ ?_ x r h e hx0 hx1 hx2
    rfl
  · refine row_piece m c hf t ht 2 12 6 28 rfl rfl inb_S1x4x16x128x128_S1x1x1x128x128_0_2_12_0_0 inb_S4x8x128_S1x1x128_2_6_0 inb_S4x16x128_S1x1x128_2_12_0 inb_S4x1x128_S1x1x1_2_0_12 inb_S4x1x128_S1x1x1_2_0_28 _ ?_ x r h e hx0 hx1 hx2
    rfl
  · refine row_piece m c hf t ht 2 11 5 27 rfl rfl inb_S1x4x16x128x128_S1x1x1x128x128_0_2_11_0_0 inb_S4x8x128_S1x1x128_2_5_0 inb_S4x16x128_S1x1x128_2_11_0 inb_S4x1x128_S1x1x1_2_0_11 inb_S4x1x128_S1x1x1_2_0_27 _ ?_ x r h e hx0 hx1 hx2
    rfl
  · refine row_piece m c hf t ht 2 10 5 26 rfl rfl inb_S1x4x16x128x128_S1x1x1x128x128_0_2_10_0_0 inb_S4x8x128_S1x1x128_2_5_0 inb_S4x16x128_S1x1x128_2_10_0 inb_S4x1x128_S1x1x1_2_0_10 inb_S4x1x128_S1x1x1_2_0_26 _ ?_ x r h e hx0 hx1 hx2
    rfl
  · refine row_piece m c hf t ht 2 9 4 25 rfl rfl inb_S1x4x16x128x128_S1x1x1x128x128_0_2_9_0_0 inb_S4x8x128_S1x1x128_2_4_0 inb_S4x16x128_S1x1x128_2_9_0 inb_S4x1x128_S1x1x1_2_0_9 inb_S4x1x128_S1x1x1_2_0_25 _ ?_ x r h e hx0 hx1 hx2
    rfl
  · refine row_piece m c hf t ht 2 8 4 24 rfl rfl inb_S1x4x16x128x128_S1x1x1x128x128_0_2_8_0_0 inb_S4x8x128_S1x1x128_2_4_0 inb_S4x16x128_S1x1x128_2_8_0 inb_S4x1x128_S1x1x1_2_0_8 inb_S4x1x128_S1x1x1_2_0_24 _ ?_ x r h e hx0 hx1 hx2
    rfl
  · refine row_piece m c hf t ht 2 7 3 23 rfl rfl inb_S1x4x16x128x128_S1x1x1x128x128_0_2_7_0_0 inb_S4x8x128_S1x1x128_2_3_0 inb_S4x16x128_S1x1x128_2_7_0 inb_S4x1x128_S1x1x1_2_0_7 inb_S4x1x128_S1x1x1_2_0_23 _ ?_ x r h e hx0 hx1 hx2
    rfl
  · refine row_piece m c hf t ht 2 6 3 22 rfl rfl inb_S1x4x16x128x128_S1x1x1x128x128_0_2_6_0_0 inb_S4x8x128_S1x1x128_2_3_0 inb_S4x16x128_S1x1x128_2_6_0 inb_S4x1x128_S1x1x1_2_0_6 inb_S4x1x128_S1x1x1_2_0_22 _ ?_ x r h e hx0 hx1 hx2
    rfl
  · refine row_piece m c hf t ht 2 5 2 21 rfl rfl inb_S1x4x16x128x128_S1x1x1x128x128_0_2_5_0_0 inb_S4x8x128_S1x1x128_2_2_0 inb_S4x16x128_S1x1x128_2_5_0 inb_S4x1x128_S1x1x1_2_0_5 inb_S4x1x128_S1x1x1_2_0_21 _ ?_ x r h e hx0 hx1 hx2
    rfl
  · refine row_piece m c hf t ht 2 4 2 20 rfl rfl inb_S1x4x16x128x128_S1x1x1x128x128_0_2_4_0_0 inb_S4x8x128_S1x1x128_2_2_0 inb_S4x16x128_S1x1x128_2_4_0 inb_S4x1x128_S1x1x1_2_0_4 inb_S4x1x128_S1x1x1_2_0_20 _ ?_ x r h e hx0 hx1 hx2
    rfl
  · refine row_piece m c hf t ht 2 3 1 19 rfl rfl inb_S1x4x16x128x128_S1x1x1x128x128_0_2_3_0_0 inb_S4x8x128_S1x1x128_2_1_0 inb_S4x16x128_S1x1x128_2_3_0 inb_S4x1x128_S1x1x1_2_0_3 inb_S4x1x128_S1x1x1_2_0_19 _ ?_ x r h e hx0 hx1 hx2
    rfl
  · refine row_piece m c hf t ht 2 2 1 18 rfl rfl inb_S1x4x16x128x128_S1x1x1x128x128_0_2_2_0_0 inb_S4x8x128_S1x1x128_2_1_0 inb_S4x16x128_S1x1x128_2_2_0 inb_S4x1x128_S1x1x1_2_0_2 inb_S4x1x128_S1x1x1_2_0_18 _ ?_ x r h e hx0 hx1 hx2
    rfl
  · refine row_piece m c hf t ht 2 1 0 17 rfl rfl inb_S1x4x16x128x128_S1x1x1x128x128_0_2_1_0_0 inb_S4x8x128_S1x1x128_2_0_0 inb_S4x16x128_S1x1x128_2_1_0 inb_S4x1x128_S1x1x1_2_0_1 inb_S4x1x128_S1x1x1_2_0_17 _ ?_ x r h e hx0 hx1 hx2
    rfl
  · refine row_piece m c hf t ht 2 0 0 16 rfl rfl inb_S1x4x16x128x128_S1x1x1x128x128_0_2_0_0_0 inb_S4x8x128_S1x1x128_2_0_0 inb_S4x16x128_S1x1x128_2_0_0 inb_S4x1x128_S1x1x1_2_0_0 inb_S4x1x128_S1x1x1_2_0_16 _ ?_ x r h e hx0 (hx1.trans (Nat.zero_add _).symm) hx2
    rfl
  · refine row_piece m c hf t ht 1 15 7 31 rfl rfl inb_S1x4x16x128x128_S1x1x1x128x128_0_1_15_0_0 inb_S4x8x128_S1x1x128_1_7_0 inb_S4x16x128_S1x1x128_1_15_0 inb_S4x1x128_S1x1x1_1_0_15 inb_S4x1x128_S1x1x1_1_0_31 _ ?_ x r h e hx0 hx1 hx2
    rfl
  · refine row_piece m c hf t ht 1 14 7 30 rfl rfl inb_S1x4x16x128x128_S1x1x1x128x128_0_1_14_0_0 inb_S4x8x128_S1x1x128_1_7_0 inb_S4x16x128_S1x1x128_1_14_0 inb_S4x1x128_S1x1x1_1_0_14 inb_S4x1x128_S1x1x1_1_0_30 _ ?_ x r h e hx0 hx1 hx2
    rfl
  · refine row_piece m c hf t ht 1 13 6 29 rfl rfl inb_S1x4x16x128x128_S1x1x1x128x128_0_1_13_0_0 inb_S4x8x128_S1x1x128_1_6_0 inb_S4x16x128_S1x1x128_1_13_0 inb_S4x1x128_S1x1x1_1_0_13 inb_S4x1x128_S1x1x1_1_0_29 _ ?_ x r h e hx0 hx1 hx2
    rfl
  · refine row_piece m c hf t ht 1 12 6 28 rfl rfl inb_S1x4x16x128x128_S1x1x1x128x128_0_1_12_0_0 inb_S4x8x128_S1x1x128_1_6_0 inb_S4x16x128_S1x1x128_1_12_0 inb_S4x1x128_S1x1x1_1_0_12 inb_S4x1x128_S1x1x1_1_0_28 _ ?_ x r h e hx0 hx1 hx2
    rfl
  · refine row_piece m c hf t ht 1 11 5 27 rfl rfl inb_S1x4x16x128x128_S1x1x1x128x128_0_1_11_0_0 inb_S4x8x128_S1x1x128_1_5_0 inb_S4x16x128_S1x1x128_1_11_0 inb_S4x1x128_S1x1x1_1_0_11 inb_S4x1x128_S1x1x1_1_0_27 _ ?_ x r h e hx0 hx1 hx2
    rfl
  · refine row_piece m c hf t ht 1 10 5 26 rfl rfl inb_S1x4x16x128x128_S1x1x1x128x128_0_1_10_0_0 inb_S4x8x128_S1x1x128_1_5_0 inb_S4x16x128_S1x1x128_1_10_0 inb_S4x1x128_S1x1x1_1_0_10 inb_S4x1x128_S1x1x1_1_0_26 _ ?_ x r h e hx0 hx1 hx2
    rfl
  · refine row_piece m c hf t ht 1 9 4 25 rfl rfl inb_S1x4x16x128x128_S1x1x1x128x128_0_1_9_0_0 inb_S4x8x128_S1x1x128_1_4_0 inb_S4x16x128_S1x1x128_1_9_0 inb_S4x1x128_S1x1x1_1_0_9 inb_S4x1x128_S1x1x1_1_0_25 _ ?_ x r h e hx0 hx1 hx2
    rfl
  · refine row_piece m c hf t ht 1 8 4 24 rfl rfl inb_S1x4x16x128x128_S1x1x1x128x128_0_1_8_0_0 inb_S4x8x128_S1x1x128_1_4_0 inb_S4x16x128_S1x1x128_1_8_0 inb_S4x1x128_S1x1x1_1_0_8 inb_S4x1x128_S1x1x1_1_0_24 _ ?_ x r h e hx0 hx1 hx2
    rfl
  · refine row_piece m c hf t ht 1 7 3 23 rfl rfl inb_S1x4x16x128x128_S1x1x1x128x128_0_1_7_0_0 inb_S4x8x128_S1x1x128_1_3_0 inb_S4x16x128_S1x1x128_1_7_0 inb_S4x1x128_S1x1x1_1_0_7 inb_S4x1x128_S1x1x1_1_0_23 _ ?_ x r h e hx0 hx1 hx2
    rfl
  · refine row_piece m c hf t ht 1 6 3 22 rfl rfl inb_S1x4x16x128x128_S1x1x1x128x128_0_1_6_0_0 inb_S4x8x128_S1x1x128_1_3_0 inb_S4x16x128_S1x1x128_1_6_0 inb_S4x1x128_S1x1x1_1_0_6 inb_S4x1x128_S1x1x1_1_0_22 _ ?_ x r h e hx0 hx1 hx2
    rfl
  · refine row_piece m c hf t ht 1 5 2 21 rfl rfl inb_S1x4x16x128x128_S1x1x1x128x128_0_1_5_0_0 inb_S4x8x128_S1x1x128_1_2_0 inb_S4x16x128_S1x1x128_1_5_0 inb_S4x1x128_S1x1x1_1_0_5 inb_S4x1x128_S1x1x1_1_0_21 _ ?_ x r h e hx0 hx1 hx2
    rfl
  · refine row_piece m c hf t ht 1 4 2 20 rfl rfl inb_S1x4x16x128x128_S1x1x1x128x128_0_1_4_0_0 inb_S4x8x128_S1x1x128_1_2_0 inb_S4x16x128_S1x1x128_1_4_0 inb_S4x1x128_S1x1x1_1_0_4 inb_S4x1x128_S1x1x1_1_0_20 _ ?_ x r h e hx0 hx1 hx2
    rfl
  · refine row_piece m c hf t ht 1 3 1 19 rfl rfl inb_S1x4x16x128x128_S1x1x1x128x128_0_1_3_0_0 inb_S4x8x128_S1x1x128_1_1_0 inb_S4x16x128_S1x1x128_1_3_0 inb_S4x1x128_S1x1x1_1_0_3 inb_S4x1x128_S1x1x1_1_0_19 _ ?_ x r h e hx0 hx1 hx2
    rfl
  · refine row_piece m c hf t ht 1 2 1 18 rfl rfl inb_S1x4x16x128x128_S1x1x1x128x128_0_1_2_0_0 inb_S4x8x128_S1x1x128_1_1_0 inb_S4x16x128_S1x1x128_1_2_0 inb_S4x1x128_S1x1x1_1_0_2 inb_S4x1x128_S1x1x1_1_0_18 _ ?_ x r h e hx0 hx1 hx2
    rfl
  · refine row_piece m c hf t ht 1 1 0 17 rfl rfl inb_S1x4x16x128x128_S1x1x1x128x128_0_1_1_0_0 inb_S4x8x128_S1x1x128_1_0_0 inb_S4x16x128_S1x1x128_1_1_0 inb_S4x1x128_S1x1x1_1_0_1 inb_S4x1x128_S1x1x1_1_0_17 _ ?_ x r h e hx0 hx1 hx2
    rfl
  · refine row_piece m c hf t ht 1 0 0 16 rfl rfl inb_S1x4x16x128x128_S1x1x1x128x128_0_1_0_0_0 inb_S4x8x128_S1x1x128_1_0_0 inb_S4x16x128_S1x1x128_1_0_0 inb_S4x1x128_S1x1x1_1_0_0 inb_S4x1x128_S1x1x1_1_0_16 _ ?_ x r h e hx0 (hx1.trans (Nat.zero_add _).symm) hx2
    rfl
  · refine row_piece m c hf t ht 0 15 7 31 rfl rfl inb_S1x4x16x128x128_S1x1x1x128x128_0_0_15_0_0 inb_S4x8x128_S1x1x128_0_7_0 inb_S4x16x128_S1x1x128_0_15_0 inb_S4x1x128_S1x1x1_0_0_15 inb_S4x1x128_S1x1x1_0_0_31 _ ?_ x r h e (hx0.trans (Nat.zero_add _).symm) hx1 hx2
    rfl
  · refine row_piece m c hf t ht 0 14 7 30 rfl rfl inb_S1x4x16x128x128_S1x1x1x128x128_0_0_14_0_0 inb_S4x8x128_S1x1x128_0_7_0 inb_S4x16x128_S1x1x128_0_14_0 inb_S4x1x128_S1x1x1_0_0_14 inb_S4x1x128_S1x1x1_0_0_30 _ ?_ x r h e (hx0.trans (Nat.zero_add _).symm) hx1 hx2
    rfl
  · refine row_piece m c hf t ht 0 13 6 29 rfl rfl inb_S1x4x16x128x128_S1x1x1x128x128_0_0_13_0_0 inb_S4x8x128_S1x1x128_0_6_0 inb_S4x16x128_S1x1x128_0_13_0 inb_S4x1x128_S1x1x1_0_0_13 inb_S4x1x128_S1x1x1_0_0_29 _ ?_ x r h e (hx0.trans (Nat.zero_add _).symm) hx1 hx2
    rfl
  · refine row_piece m c hf t ht 0 12 6 28 rfl rfl inb_S1x4x16x128x128_S1x1x1x128x128_0_0_12_0_0 inb_S4x8x128_S1x1x128_0_6_0 inb_S4x16x128_S1x1x128_0_12_0 inb_S4x1x128_S1x1x1_0_0_12 inb_S4x1x128_S1x1x1_0_0_28 _ ?_ x r h e (hx0.trans (Nat.zero_add _).symm) hx1 hx2
    rfl
  · refine row_piece m c hf t ht 0 11 5 27 rfl rfl inb_S1x4x16x128x128_S1x1x1x128x128_0_0_11_0_0 inb_S4x8x128_S1x1x128_0_5_0 inb_S4x16x128_S1x1x128_0_11_0 inb_S4x1x128_S1x1x1_0_0_11 inb_S4x1x128_S1x1x1_0_0_27 _ ?_ x r h e (hx0.trans (Nat.zero_add _).symm) hx1 hx2
    rfl
  · refine row_piece m c hf t ht 0 10 5 26 rfl rfl inb_S1x4x16x128x128_S1x1x1x128x128_0_0_10_0_0 inb_S4x8x128_S1x1x128_0_5_0 inb_S4x16x128_S1x1x128_0_10_0 inb_S4x1x128_S1x1x1_0_0_10 inb_S4x1x128_S1x1x1_0_0_26 _ ?_ x r h e (hx0.trans (Nat.zero_add _).symm) hx1 hx2
    rfl
  · refine row_piece m c hf t ht 0 9 4 25 rfl rfl inb_S1x4x16x128x128_S1x1x1x128x128_0_0_9_0_0 inb_S4x8x128_S1x1x128_0_4_0 inb_S4x16x128_S1x1x128_0_9_0 inb_S4x1x128_S1x1x1_0_0_9 inb_S4x1x128_S1x1x1_0_0_25 _ ?_ x r h e (hx0.trans (Nat.zero_add _).symm) hx1 hx2
    rfl
  · refine row_piece m c hf t ht 0 8 4 24 rfl rfl inb_S1x4x16x128x128_S1x1x1x128x128_0_0_8_0_0 inb_S4x8x128_S1x1x128_0_4_0 inb_S4x16x128_S1x1x128_0_8_0 inb_S4x1x128_S1x1x1_0_0_8 inb_S4x1x128_S1x1x1_0_0_24 _ ?_ x r h e (hx0.trans (Nat.zero_add _).symm) hx1 hx2
    rfl
  · refine row_piece m c hf t ht 0 7 3 23 rfl rfl inb_S1x4x16x128x128_S1x1x1x128x128_0_0_7_0_0 inb_S4x8x128_S1x1x128_0_3_0 inb_S4x16x128_S1x1x128_0_7_0 inb_S4x1x128_S1x1x1_0_0_7 inb_S4x1x128_S1x1x1_0_0_23 _ ?_ x r h e (hx0.trans (Nat.zero_add _).symm) hx1 hx2
    rfl
  · refine row_piece m c hf t ht 0 6 3 22 rfl rfl inb_S1x4x16x128x128_S1x1x1x128x128_0_0_6_0_0 inb_S4x8x128_S1x1x128_0_3_0 inb_S4x16x128_S1x1x128_0_6_0 inb_S4x1x128_S1x1x1_0_0_6 inb_S4x1x128_S1x1x1_0_0_22 _ ?_ x r h e (hx0.trans (Nat.zero_add _).symm) hx1 hx2
    rfl
  · refine row_piece m c hf t ht 0 5 2 21 rfl rfl inb_S1x4x16x128x128_S1x1x1x128x128_0_0_5_0_0 inb_S4x8x128_S1x1x128_0_2_0 inb_S4x16x128_S1x1x128_0_5_0 inb_S4x1x128_S1x1x1_0_0_5 inb_S4x1x128_S1x1x1_0_0_21 _ ?_ x r h e (hx0.trans (Nat.zero_add _).symm) hx1 hx2
    rfl
  · refine row_piece m c hf t ht 0 4 2 20 rfl rfl inb_S1x4x16x128x128_S1x1x1x128x128_0_0_4_0_0 inb_S4x8x128_S1x1x128_0_2_0 inb_S4x16x128_S1x1x128_0_4_0 inb_S4x1x128_S1x1x1_0_0_4 inb_S4x1x128_S1x1x1_0_0_20 _ ?_ x r h e (hx0.trans (Nat.zero_add _).symm) hx1 hx2
    rfl
  · refine row_piece m c hf t ht 0 3 1 19 rfl rfl inb_S1x4x16x128x128_S1x1x1x128x128_0_0_3_0_0 inb_S4x8x128_S1x1x128_0_1_0 inb_S4x16x128_S1x1x128_0_3_0 inb_S4x1x128_S1x1x1_0_0_3 inb_S4x1x128_S1x1x1_0_0_19 _ ?_ x r h e (hx0.trans (Nat.zero_add _).symm) hx1 hx2
    rfl
  · refine row_piece m c hf t ht 0 2 1 18 rfl rfl inb_S1x4x16x128x128_S1x1x1x128x128_0_0_2_0_0 inb_S4x8x128_S1x1x128_0_1_0 inb_S4x16x128_S1x1x128_0_2_0 inb_S4x1x128_S1x1x1_0_0_2 inb_S4x1x128_S1x1x1_0_0_18 _ ?_ x r h e (hx0.trans (Nat.zero_add _).symm) hx1 hx2
    rfl
  · refine row_piece m c hf t ht 0 1 0 17 rfl rfl inb_S1x4x16x128x128_S1x1x1x128x128_0_0_1_0_0 inb_S4x8x128_S1x1x128_0_0_0 inb_S4x16x128_S1x1x128_0_1_0 inb_S4x1x128_S1x1x1_0_0_1 inb_S4x1x128_S1x1x1_0_0_17 _ ?_ x r h e (hx0.trans (Nat.zero_add _).symm) hx1 hx2
    rfl
  · refine row_piece m c hf t ht 0 0 0 16 rfl rfl inb_S1x4x16x128x128_S1x1x1x128x128_0_0_0_0_0 inb_S4x8x128_S1x1x128_0_0_0 inb_S4x16x128_S1x1x128_0_0_0 inb_S4x1x128_S1x1x1_0_0_0 inb_S4x1x128_S1x1x1_0_0_16 _ ?_ x r h e (hx0.trans (Nat.zero_add _).symm) (hx1.trans (Nat.zero_add _).symm) hx2
    rfl

end Cert.DnStepEq

end
-- ==== Proof.DnStepValue.lean ====
/-
  One decode step of the delta net on a first layer: kernel and reference end with the same two arrays.
-/
module

public import proofs.«01_k».proof.Proof.DnStepStates
public import proofs.«01_k».proof.Proof.DnStepRows
public import proofs.«01_k».proof.Proof.BandProof
public import proofs.«01_k».proof.Defs
public import Idealize.ShloMosaic.Adequacy
public import Idealize.ShloMosaic.Init

@[expose] public section

set_option maxRecDepth 16384
set_option maxHeartbeats 8000000

noncomputable section

open Idealize.ShloMosaic Idealize.ShloMosaic.TcCoe Idealize.SL.Sem
open Cert.DnStepIdeal Cert.DnStepIdeal.Gen Cert.DnStepIdeal.Facts Cert.DnStepMath Cert.DnStepBlock

namespace Cert.DnStepEq

variable (m : (ℓ : Loc nD τ sig) → Buf (Elt Ideal) ℓ)

/-- A grid point of the first half stores its block of layer 1's states as it was. -/
theorem stored_copy (c : Dev nD) (t : Fin cfg0.N) (ht : t.val < 32) (r : Fin 4) (h : Fin 16) (d e : Fin 128) :
    (dats m 0 c).after 8 t (ix5 0 r h d e) = bS m c t (ix5 0 r h d e) := by
  rw [after0_8, outsAt0_A m c t ht (by omega)]
  frame_out
  pointwise [k0_pay1]

/-- Every grid point's block of the final states is the reference's. -/
theorem states_at (c : Dev nD) (hf : Finite m c) (t : Fin cfg0.N) (r : Fin 4) (h : Fin 16) (d e : Fin 128) :
    (dats m 0 c).after 8 t (ix5 0 r h d e) = goal1 m c (ix5 ⟨1 - t.val / 32, by omega⟩ ⟨t.val % 32 * 4 + r.val, by omega⟩ h d e) := by
  have hN : t.val < 64 := t.isLt
  by_cases ht : t.val < 32
  · rw [stored_copy m c t ht, bS_apply, show (⟨1 - t.val / 32, by omega⟩ : Fin 2) = 1 from Fin.ext (by dsimp only; omega)]
    exact (DnStepReference.states_second _ _ _ _ _ _ _).symm
  · rw [stored_states m c hf t (by omega), show (⟨1 - t.val / 32, by omega⟩ : Fin 2) = 0 from Fin.ext (by dsimp only; omega),
      show (⟨t.val % 32 * 4 + r.val, by omega⟩ : Fin 128) = smp t r from Fin.ext (by dsimp only; omega)]

/-- The final states are the reference's. -/
theorem final1 (c : Dev nD) (hf : Finite m c) : (dats m 0 c).arrAt 8 cfg0.N = goal1 m c := by
  refine (dats m 0 c).arrAt_eq_of_covers 8 _ (by decide +kernel) fun t _ y => ?_
  blk_simp
  have e0 : y 0 = (0 : Fin 1) := Subsingleton.elim (α := Fin 1) _ _
  have e : ((cfg0.win 8).blk t).view.emb (ix5 0 (y 1) (y 2) (y 3) (y 4) : S1x4x16x128x128.Idx)
      = ix5 (⟨1 - t.val / 32, by omega⟩ : Fin 2) ⟨t.val % 32 * 4 + (y 1).val, by have : (y 1).val < 4 := (y 1).isLt; omega⟩ (y 2) (y 3) (y 4) := by
    blk_ext [idx t]
  have hy : y = (ix5 (0 : Fin 1) (y 1) (y 2) (y 3) (y 4) : S1x4x16x128x128.Idx) :=
    (eq_ix5 y).trans (congrArg (fun a : Fin 1 => (ix5 a (y 1) (y 2) (y 3) (y 4) : S1x4x16x128x128.Idx)) e0)
  rw [hy]
  exact (states_at m c hf t (y 1) (y 2) (y 3) (y 4)).trans (congrArg _ e.symm)

/-- The rows are written back in the second half of the grid only. -/
theorem flush_rows : ∀ t : Fin cfg0.N, (cfg0.win 7).flush t = true → 32 ≤ t.val :=
  (by decide +kernel : ∀ t : Fin grid0.N, win0_7.flush t = true → 32 ≤ t.val)

/-- The final rows are the reference's. -/
theorem final0 (c : Dev nD) (hf : Finite m c) : (dats m 0 c).arrAt 7 cfg0.N = goal0 m c := by
  refine (dats m 0 c).arrAt_eq_of_covers 7 _ (by decide +kernel) fun t hflush y => ?_
  blk_simp
  have e : ((cfg0.win 7).blk t).view.emb y = ix3 (smp t (y 0)) (y 1) (y 2) := by
    blk_ext [idx t]
  exact (congrArg _ (eq_ix3 y)).trans ((stored_rows m c hf t (flush_rows t hflush) (y 0) (y 1) (y 2)).trans (congrArg _ e.symm))

/-- The side conditions of the precondition's function. -/
instance preFacts : Cert.Pre_step_finite.Facts where
  slices_S128x4096_S128x3072_0_1024 := by decide
  bcast_S_S128x3072 := by decide
  bcast_S_S128x32 := by decide
  slices_S2x128x16x128x128_S1x128x16x128x128_0_0_0_0_0 := by decide
  shapeCasts_S1x128x16x128x128_S128x16x128x128 := by decide
  bcast_S_S128x16x128x128 := by decide

/-- An array whose last 3072 columns are real is real there. -/
theorem real_of_cols (x : FVec Ideal S128x4096 .f32) (hs : S128x4096.Slices ![0, 1024] Cert.Pre_step_finite.S128x3072)
    (hx : Cert.Band.AllReal (extractStridedSlice Cert.Pre_step_finite.S128x3072 ![0, 1024] x hs)) (b : Fin 128) (i : Fin 4096) (hi : 1024 ≤ i.val) :
    ∃ r : ℝ, x (ix2 b i) = r := by
  obtain ⟨r, hr⟩ := hx (ix2 b ⟨i.val - 1024, by omega⟩)
  refine ⟨r, Eq.trans ?_ hr⟩
  symm
  pointwise []
  exact congrArg (fun j => x (ix2 b j)) (Fin.ext (by dsimp only; omega))

/-- An array of two layers whose first is real is real there. -/
theorem real_of_first (x : FVec Ideal S2x128x16x128x128 .f32)
    (hs : S2x128x16x128x128.Slices ![0, 0, 0, 0, 0] Cert.Pre_step_finite.S1x128x16x128x128)
    (hc : Cert.Pre_step_finite.S1x128x16x128x128.ShapeCasts Cert.Pre_step_finite.S128x16x128x128)
    (hx : Cert.Band.AllReal (shapeCast Cert.Pre_step_finite.S128x16x128x128
      (extractStridedSlice Cert.Pre_step_finite.S1x128x16x128x128 ![0, 0, 0, 0, 0] x hs) hc)) (b : Fin 128) (h : Fin 16) (d e : Fin 128) :
    ∃ r : ℝ, x (ix5 0 b h d e) = r := by
  obtain ⟨r, hr⟩ := hx (ix4 b h d e)
  refine ⟨r, Eq.trans ?_ hr⟩
  symm
  pointwise []

/-- The reference program ends with its counters at zero and its arguments unchanged. -/
theorem quiescent_ref : Cert.quiescent_DnStepRefIdeal (hDnStepRefIdeal := Cert.DnStepRefIdeal.Gen.facts) :=
  fun m ρ _ => (θ_run Cert.DnStepRefIdeal.defs _ _).mono
    (fun r h => ⟨fun c => (h c).2.2, Idealize.ShloMosaic.sem_eq_zero_of_no_sems (by decide) r.2⟩)
    (Cert.DnStepRefIdeal.Value.run (F := Ideal) m ρ)

/-- Kernel and reference end with the same two arrays. -/
theorem algebraic : Cert.algebraic_DnStepIdeal_DnStepRefIdeal_pre_step_finite (hDnStepIdeal := Cert.DnStepIdeal.Gen.facts)
    (hDnStepRefIdeal := Cert.DnStepRefIdeal.Gen.facts) (hPre_step_finite := preFacts) := by
  intro m ρ m' ρ' hpre hag
  have hf (c : Dev nD) : Finite m c := ⟨real_of_cols _ _ (Cert.Band.real_of_lt _ _ (hpre c).1), Cert.Band.real_of_lt _ _ (hpre c).2.1,
    real_of_first _ _ _ (Cert.Band.real_of_lt _ _ (hpre c).2.2)⟩
  refine ⟨fun c => goal0 m c, fun c => goal1 m c,
    (θ_run _ _ _).mono (fun r h c => ⟨(h c).1.trans (final0 m c (hf c)), (h c).2.1.trans (final1 m c (hf c)), (h c).2.2⟩)
      (Cert.DnStepIdeal.Value.run_blocks (F := Ideal) m ρ),
    (θ_run _ _ _).mono (fun r h c => ?_) (Cert.DnStepRefIdeal.Value.run (F := Ideal) m' ρ')⟩
  obtain ⟨e0, e1, e2, e3, e4⟩ := hag c
  refine ⟨(h c).1.trans ?_, (h c).2.1.trans ?_, (h c).2.2⟩
  · rw [DnStepReference.res_eq, e0, e1, e2, e3, e4]
  · rw [DnStepReference.states_eq, e0, e2, e4]

end Cert.DnStepEq

end
-- ==== Proof.MixOutValue.lean ====
/-
  The output projection after either attention over the prompt: the residual with its gate, normalised over each row.
  Every block of rows the kernel writes is the reference's rows, so its array is the reference's.
-/
module

public import proofs.«01_k».proof.Proof.Gen.MixOutIdeal.Value
public import proofs.«01_k».proof.Proof.Gen.MixOutRefIdeal.Run
public import proofs.«01_k».proof.Defs
public import Idealize.ShloMosaic.Lib.Pipeline.ValueKit
public import Idealize.ShloMosaic.Adequacy
public import Idealize.ShloMosaic.Init
public import proofs.«01_k».proof.Proof.RowNorm

@[expose] public section

set_option maxRecDepth 16384

noncomputable section

open Idealize.ShloMosaic Idealize.ShloMosaic.TcCoe Idealize.SL.Sem Idealize.ShloMosaic.Pipeline

namespace Cert.MixOutEq

open Cert.RowNorm

namespace Ref

open Cert.MixOutRefIdeal Cert.MixOutRefIdeal.Gen Cert.MixOutRefIdeal.Facts

variable (o : FVec Ideal S4x4096x1024 .bf16) (w : FVec Ideal S1024x1024 .f32) (x : FVec Ideal S4x4096x1024 .f32)
  (mod : FVec Ideal S4x3072 .f32) (g b : FVec Ideal S1024 .f32)

/-- The residual: the scaled input and the gated projection. -/
def resid : FVec Ideal S4x4096x1024 .f32 :=
  addf (mulf (broadcastInDim S4x4096x1024 ![] bcast_S_S4x4096x1024 (constant S_ .f32 0x3FD744FD#32)) x) (mulf (broadcastInDim S4x4096x1024 ![0, 1, 2] bcast_S4x1x1024_S4x4096x1024_0_1_2 (addf (broadcastInDim S4x1x1024 ![] bcast_S_S4x1x1024 (constant S_ .f32 0x3F800000#32)) (extractStridedSlice S4x1x1024 ![0, 0, 2048] (broadcastInDim S4x1x3072 ![0, 2] bcast_S4x3072_S4x1x3072_0_2 mod) slices_S4x1x3072_S4x1x1024_0_0_2048))) (Host.dotGeneral dot_S4x4096x1024_S1024x1024_S4x4096x1024_2_0_01_1_n_n none (extf .f32 o bitsLt_bf16_f32) w))

/-- A row less its mean. -/
def centred (h : FVec Ideal S4x4096x1024 .f32) : FVec Ideal S4x4096x1024 .f32 :=
  subf h (broadcastInDim S4x4096x1024 ![0, 1, 2] bcast_S4x4096x1_S4x4096x1024_0_1_2 (Host.divf (broadcastInDim S4x4096x1 ![0, 1] bcast_S4x4096_S4x4096x1_0_1 (Host.reduceAdd h (constant S_ .f32 0x00000000#32) reducesTo_S4x4096x1024_S4x4096_d2 h_S_)) (broadcastInDim S4x4096x1 ![] bcast_S_S4x4096x1 (constant S_ .f32 0x44800000#32))))

/-- The reference's result, batch and time flattened. -/
def res : FVec Ideal S16384x1024 .f32 :=
  shapeCast _ (addf (mulf (mulf (centred (resid o w x mod)) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (centred (resid o w x mod)) (centred (resid o w x mod))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S1x1x1024_S4x4096x1024_0_1_2 (broadcastInDim S1x1x1024 ![2] bcast_S1024_S1x1x1024_2 b))) shapeCasts_S4x4096x1024_S16384x1024

/-- Entry `c` of the residual's row `i`. -/
def entry (i : Fin 16384) (c : Fin 1024) : Ideal .f32 :=
  gated (x (ix3 ⟨i.val / 4096, by omega⟩ ⟨i.val % 4096, by omega⟩ c)) (mod (ix2 ⟨i.val / 4096, by omega⟩ ⟨2048 + c.val, by omega⟩))
    (product (n := 1024) (fun k => o (ix3 ⟨i.val / 4096, by omega⟩ ⟨i.val % 4096, by omega⟩ k)) (fun k => w (ix2 k c)))

theorem res_apply (i : Fin 16384) (c : Fin 1024) :
    res o w x mod g b (ix2 i c) = rowNorm (entry o w x mod i) (fun k => g (ix1 k)) (fun k => b (ix1 k)) c := by
  pointwise [res, centred, resid]
  rfl

end Ref

open Cert.MixOutIdeal Cert.MixOutIdeal.Gen Cert.MixOutIdeal.Facts

variable (m : (ℓ : Loc nD τ sig) → Buf (Elt Ideal) ℓ)

/-- Where each window's block lies at every grid point. -/
theorem idx : ∀ t : Fin cfg0.N,
    win0_0.index t = ![t.val, 0] ∧ win0_1.index t = ![0, 0] ∧ win0_2.index t = ![t.val, 0] ∧ win0_3.index t = ![t.val / 8, 0, 0]
    ∧ win0_4.index t = ![0, 0] ∧ win0_5.index t = ![0, 0] ∧ win0_6.index t = ![t.val, 0] :=
  (by decide +kernel : ∀ t : Fin grid0.N, _)

/-- The array row that row `r` of grid point `t`'s blocks is. -/
abbrev arow (t : Fin cfg0.N) (r : Fin 512) : Fin 16384 := ⟨t.val * 512 + r.val, by have : t.val < 32 := t.isLt; omega⟩

/-- Every row of grid point `t`'s blocks is of batch `t / 8`. -/
theorem batch_eq (t : Fin cfg0.N) (r : Fin 512) (h h') : (⟨(arow t r).val / 4096, h⟩ : Fin 4) = ⟨t.val / 8, h'⟩ :=
  Fin.ext (by dsimp only; omega)

/-- The block of the attention's rows is the rows of the flattened argument. -/
theorem block0 (c : Dev nD) (t : Fin cfg0.N) (r : Fin 512) (k : Fin 1024) :
    iblk m c 0 t (ix2 r k) = m ((c : Thread nD τ).loc main_arg0) (ix3 ⟨(arow t r).val / 4096, by omega⟩ ⟨(arow t r).val % 4096, by omega⟩ k) := by
  have hN : t.val < 32 := t.isLt
  blk_simp [iblk]
  entry_read
  pointwise []
  blk_ext [iblk, V, idx t]

/-- The block of weights is all of them. -/
theorem block1 (c : Dev nD) (t : Fin cfg0.N) (k : Fin 1024) (l : Fin 1024) :
    iblk m c 1 t (ix2 k l) = m ((c : Thread nD τ).loc main_arg1) (ix2 k l) := by
  have hN : t.val < 32 := t.isLt
  blk_simp [iblk]
  entry_read
  pointwise []
  blk_ext [iblk, V, idx t]

/-- The block of the layer's input is the rows of the flattened argument. -/
theorem block2 (c : Dev nD) (t : Fin cfg0.N) (r : Fin 512) (k : Fin 1024) :
    iblk m c 2 t (ix2 r k) = m ((c : Thread nD τ).loc main_arg2) (ix3 ⟨(arow t r).val / 4096, by omega⟩ ⟨(arow t r).val % 4096, by omega⟩ k) := by
  have hN : t.val < 32 := t.isLt
  blk_simp [iblk]
  entry_read
  pointwise []
  blk_ext [iblk, V, idx t]

/-- The block of modulation rows is the argument's. -/
theorem block3 (c : Dev nD) (t : Fin cfg0.N) (l : Fin 3072) :
    iblk m c 3 t (ix3 0 0 l) = m ((c : Thread nD τ).loc main_arg3) (ix2 ⟨t.val / 8, by have : t.val < 32 := t.isLt; omega⟩ l) := by
  have hN : t.val < 32 := t.isLt
  blk_simp [iblk]
  entry_read
  pointwise []
  blk_ext [iblk, V, idx t]

/-- The norm's gains. -/
theorem block4 (c : Dev nD) (t : Fin cfg0.N) (l : Fin 1024) :
    iblk m c 4 t (ix2 0 l) = m ((c : Thread nD τ).loc main_arg4) (ix1 l) := by
  have hN : t.val < 32 := t.isLt
  blk_simp [iblk]
  entry_read
  pointwise []
  blk_ext [iblk, V, idx t]

/-- The norm's offsets. -/
theorem block5 (c : Dev nD) (t : Fin cfg0.N) (l : Fin 1024) :
    iblk m c 5 t (ix2 0 l) = m ((c : Thread nD τ).loc main_arg5) (ix1 l) := by
  have hN : t.val < 32 := t.isLt
  blk_simp [iblk]
  entry_read
  pointwise []
  blk_ext [iblk, V, idx t]

/-- The reference's result, from the arguments in memory. -/
abbrev goal (c : Dev nD) : FVec Ideal S16384x1024 .f32 :=
  Ref.res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The residual a grid point computes, entry by entry. -/
theorem resid_row (c : Dev nD) (t : Fin cfg0.N) (r : Fin 512) (l : Fin 1024) :
    gated (iblk m c 2 t (ix2 r l)) (iblk m c 3 t (ix3 0 0 ⟨2048 + l.val, by omega⟩)) (product (n := 1024) (fun k => iblk m c 0 t (ix2 r k)) (fun k => iblk m c 1 t (ix2 k l)))
      = Ref.entry (m ((c : Thread nD τ).loc main_arg0)) (m ((c : Thread nD τ).loc main_arg1)) (m ((c : Thread nD τ).loc main_arg2)) (m ((c : Thread nD τ).loc main_arg3)) (arow t r) l := by
  rw [Ref.entry, block2, block3, batch_eq]
  refine congrArg _ (congrArg₂ product (funext fun k => ?_) (funext fun k => block1 m c t k l))
  rw [block0, batch_eq]

/-- What a grid point stores, row by row. -/
theorem row (c : Dev nD) (t : Fin cfg0.N) (r : Fin 512) (l : Fin 1024) :
    k0_pay1 (k0_pay2 (iblk m c 0 t) (iblk m c 1 t) (iblk m c 2 t) (View.ld (iblk m c 3 t) r0_2) (iblk m c 4 t)) (k0_pay3 (iblk m c 5 t)) (ix2 r l)
      = goal m c (ix2 (arow t r) l) := by
  refine Eq.trans ?_ (Ref.res_apply _ _ _ _ _ _ _ _).symm
  rw [← funext (resid_row m c t r)]
  pointwise [k0_pay1, k0_pay2, k0_pay3]
  rw [block4, block5]
  rfl

theorem point (c : Dev nD) (t : Fin cfg0.N) (y : S512x1024.Idx) :
    k0_pay1 (k0_pay2 (iblk m c 0 t) (iblk m c 1 t) (iblk m c 2 t) (View.ld (iblk m c 3 t) r0_2) (iblk m c 4 t)) (k0_pay3 (iblk m c 5 t)) y
      = goal m c (((cfg0.win 6).blk t).view.emb y) := by
  have e : ((cfg0.win 6).blk t).view.emb y = ix2 (arow t (y 0)) (y 1) := by
    blk_ext [idx t]
  exact (congrArg _ (eq_ix2 y)).trans ((row m c t (y 0) (y 1)).trans (congrArg _ e.symm))

/-- The kernel's array is the reference's. -/
theorem final (c : Dev nD) : (dats m 0 c).arrAt 6 cfg0.N = goal m c := by
  refine (dats m 0 c).arrAt_eq_of_covers 6 _ (by decide +kernel) fun t _ y => ?_
  blk_simp
  rw [after0_6]
  frame_out
  exact point m c t y

/-- The reference program ends with its counters at zero and its arguments unchanged. -/
theorem quiescent_ref : Cert.quiescent_MixOutRefIdeal (hMixOutRefIdeal := Cert.MixOutRefIdeal.Gen.facts) :=
  fun m ρ _ => (θ_run Cert.MixOutRefIdeal.defs _ _).mono
    (fun r h => ⟨fun c => (h c).2, Idealize.ShloMosaic.sem_eq_zero_of_no_sems (by decide) r.2⟩)
    (Cert.MixOutRefIdeal.Value.run (F := Ideal) m ρ)

/-- Kernel and reference end with the same array. -/
theorem algebraic : Cert.algebraic_MixOutIdeal_MixOutRefIdeal (hMixOutIdeal := Cert.MixOutIdeal.Gen.facts)
    (hMixOutRefIdeal := Cert.MixOutRefIdeal.Gen.facts) := by
  intro m ρ m' ρ' hpre hag
  refine ⟨fun c => goal m c,
    (θ_run _ _ _).mono (fun r h c => ⟨(h c).1.trans (final m c), (h c).2⟩)
      (Cert.MixOutIdeal.Value.run_blocks (F := Ideal) m ρ),
    (θ_run _ _ _).mono (fun r h c => ⟨(h c).1.trans ?_, (h c).2⟩) (Cert.MixOutRefIdeal.Value.run (F := Ideal) m' ρ')⟩
  obtain ⟨e0, e1, e2, e3, e4, e5⟩ := hag c
  change Ref.res (m' ((c.tc : Thread Cert.MixOutRefIdeal.nD Cert.MixOutRefIdeal.τ).loc Cert.MixOutRefIdeal.main_arg0)) (m' ((c.tc : Thread Cert.MixOutRefIdeal.nD Cert.MixOutRefIdeal.τ).loc Cert.MixOutRefIdeal.main_arg1)) (m' ((c.tc : Thread Cert.MixOutRefIdeal.nD Cert.MixOutRefIdeal.τ).loc Cert.MixOutRefIdeal.main_arg2)) (m' ((c.tc : Thread Cert.MixOutRefIdeal.nD Cert.MixOutRefIdeal.τ).loc Cert.MixOutRefIdeal.main_arg3)) (m' ((c.tc : Thread Cert.MixOutRefIdeal.nD Cert.MixOutRefIdeal.τ).loc Cert.MixOutRefIdeal.main_arg4)) (m' ((c.tc : Thread Cert.MixOutRefIdeal.nD Cert.MixOutRefIdeal.τ).loc Cert.MixOutRefIdeal.main_arg5)) = goal m c
  rw [e0, e1, e2, e3, e4, e5]

end Cert.MixOutEq

end
-- ==== Proof.SwaDecAttend.lean ====
/-
  The softmax with a sink over 128 kept rows and one new row: weight by weight over the 130 scores, or divided once.
-/
module

public import proofs.«01_k».proof.Proof.BandEq

@[expose] public section

noncomputable section

open Idealize.ShloMosaic

namespace Cert.SwaDecAttend

/-- A maximum over `n + 1` entries is the maximum of that over the first `n` and the last one. -/
theorem fold_max_castSucc {n : ℕ} (f : Fin (n + 1) → EReal) :
    (Finset.univ : Finset (Fin (n + 1))).fold max ⊥ f
      = max ((Finset.univ : Finset (Fin n)).fold max ⊥ fun k => f k.castSucc) (f (Fin.last n)) := by
  show (Finset.univ : Finset (Fin (n + 1))).sup f = max ((Finset.univ : Finset (Fin n)).sup fun k => f k.castSucc) _
  rw [Fin.univ_castSuccEmb, Finset.sup_cons, Finset.sup_map, max_comm]
  rfl

/-- A maximum of entries none of which is `⊤` is not `⊤`. -/
theorem fold_max_ne_top {n : ℕ} (s : Fin n → EReal) (hs : ∀ k, s k ≠ ⊤) :
    (Finset.univ : Finset (Fin n)).fold max ⊥ s ≠ ⊤ := by
  refine ne_of_lt ?_
  show Finset.univ.sup s < ⊤
  exact (Finset.sup_lt_iff (by exact bot_lt_top)).2 fun k _ => lt_top_iff_ne_top.2 (hs k)

/-- The largest of the kept rows' scores, the new row's score and the sink. -/
def top (s : Fin 128 → EReal) (sn snk : EReal) : EReal := max (max (Finset.univ.fold max ⊥ s) sn) snk

/-- The values weighted by the exponentials, divided once by the exponentials' sum. -/
def attend (s v : Fin 128 → EReal) (sn vn snk : EReal) : EReal :=
  Ideal.div ((∑ k : Fin 128, Ideal.exp (s k - top s sn snk) * v k) + Ideal.exp (sn - top s sn snk) * vn)
    ((∑ k : Fin 128, Ideal.exp (s k - top s sn snk)) + Ideal.exp (sn - top s sn snk) + Ideal.exp (snk - top s sn snk))

/-- A query row's scaled product with a key row. -/
def dot (q y : Fin 64 → EReal) : EReal := (∑ e : Fin 64, q e * y e) * Ideal.ofBits .f32 0x3E000000#32

/-- A number times its logistic function. -/
def silu (x : EReal) : EReal := x * Ideal.div 1 (1 + Ideal.exp (-x))

/-- The softmax over the 130 scores, divided weight by weight, is `attend`. -/
theorem softmax_eq (l : Fin 130 → EReal) (p w : Fin 129 → EReal) (snk : EReal)
    (hl : ∀ k : Fin 129, l k.castSucc = p k) (hl' : l (Fin.last 129) = snk)
    (hs : ∀ k, p k ≠ ⊤) (h1 : snk ≠ ⊥) (h2 : snk ≠ ⊤) :
    (∑ k : Fin 129, w k * Ideal.div (Ideal.exp (l k.castSucc - (Finset.univ : Finset (Fin 130)).fold max ⊥ l))
        (∑ k' : Fin 130, Ideal.exp (l k' - (Finset.univ : Finset (Fin 130)).fold max ⊥ l)))
      = attend (fun k => p k.castSucc) (fun k => w k.castSucc) (p (Fin.last 128)) (w (Fin.last 128)) snk := by
  have e : (Finset.univ : Finset (Fin 130)).fold max ⊥ l
      = top (fun k => p k.castSucc) (p (Fin.last 128)) snk := by
    rw [fold_max_castSucc, hl', funext hl, fold_max_castSucc]
    rfl
  rw [e, Fin.sum_univ_castSucc (n := 129), hl']
  simp only [hl]
  unfold attend
  have hM : top (fun k => p k.castSucc) (p (Fin.last 128)) snk ≠ ⊤ := by
    unfold top
    have ht := fold_max_ne_top (fun k : Fin 128 => p k.castSucc) fun k => hs _
    rcases max_choice (max ((Finset.univ : Finset (Fin 128)).fold max ⊥ fun k => p k.castSucc) (p (Fin.last 128))) snk with h | h
    · rw [h]
      rcases max_choice ((Finset.univ : Finset (Fin 128)).fold max ⊥ fun k => p k.castSucc) (p (Fin.last 128)) with h | h
      · rw [h]; exact ht
      · rw [h]; exact hs _
    · rw [h]; exact h2
  generalize top (fun k => p k.castSucc) (p (Fin.last 128)) snk = M at hM
  have hpos : 0 < (∑ k : Fin 129, Ideal.exp (p k - M)) + Ideal.exp (snk - M) := by
    refine lt_of_lt_of_le (Cert.Band.exp_pos (x := snk - M) ?_) (le_add_of_nonneg_left (Finset.sum_nonneg fun k _ => Cert.Num.exp_nonneg _))
    rw [sub_eq_add_neg, Ne, EReal.add_eq_bot_iff]
    rintro (h | h)
    · exact h1 h
    · exact hM (by simpa using h)
  have hd (x : EReal) : Ideal.div x ((∑ k : Fin 129, Ideal.exp (p k - M)) + Ideal.exp (snk - M))
      = x * Ideal.div 1 ((∑ k : Fin 129, Ideal.exp (p k - M)) + Ideal.exp (snk - M)) := by
    rw [Ideal.div, if_neg hpos.ne', Ideal.div, if_neg hpos.ne', one_mul]
  rw [← Cert.Num.sum_div _ _ _ hpos, ← hd]
  rw [Fin.sum_univ_castSucc (n := 128), Fin.sum_univ_castSucc (n := 128)]
  simp only [mul_comm (w _)]

end Cert.SwaDecAttend
end
-- ==== Proof.SwaDecBlock.lean ====
/-
  The sample step of the window attention as a grid point computes it for one key head of eight samples: read entry by
  entry.
-/
module

public import proofs.«01_k».proof.Proof.Gen.SwaDecIdeal.Frame
public import Idealize.ShloMosaic.Lib.Pipeline.ValueKit
public import Idealize.ShloMosaic.Lib.Pointwise
public import proofs.«01_k».proof.Proof.SwaDecAttend

@[expose] public section

set_option maxRecDepth 16384

noncomputable section

open Idealize.ShloMosaic Idealize.ShloMosaic.TcCoe Idealize.SL.Sem
open Cert.SwaDecIdeal Cert.SwaDecIdeal.Gen Cert.SwaDecIdeal.Facts Cert.SwaDecAttend

namespace Cert.SwaDecBlock

variable (q : Vec Ideal S8x8x64 .f32) (kb : Vec Ideal S8x128x64 .f32) (kn : Vec Ideal S8x1x64 .f32) (sk : Vec Ideal S8x1 .f32)
  (vb : Vec Ideal S8x128x64 .f32) (vn : Vec Ideal S8x1x64 .f32) (z : Vec Ideal S8x8x64 .f32)

/-- What a grid point computes for the first key head, -/
def head0 : FVec Ideal S8x8x64 .f32 :=
  k0_pay14 (k0_pay11 q kb kn sk) (k0_pay12 q kb kn sk) (k0_pay13 q kb kn sk vb) vn z

/-- and for the second, which is the same. -/
theorem head1_eq : k0_pay19 (k0_pay16 q kb) (k0_pay17 q kn) k0_pay18 sk vb vn z = head0 q kb kn sk vb vn z := rfl

/-- The kept rows' scores, the new row's, and the largest with the sink. -/
theorem old_apply (r g : Fin 8) (j : Fin 128) :
    k0_pay6 q kb (ix3 r g j) = dot (fun e => q (ix3 r g e)) fun e => kb (ix3 r j e) := by
  pointwise [k0_pay6, k0_pay5, dot]

theorem new_apply (r g : Fin 8) :
    k0_pay7 q kn (ix3 r g 0) = dot (fun e => q (ix3 r g e)) fun e => kn (ix3 r 0 e) := by
  pointwise [k0_pay7, k0_pay5, dot]

theorem top_apply (r g : Fin 8) :
    k0_pay9 q kb kn sk (ix3 r g 0) = top (fun j => k0_pay6 q kb (ix3 r g j)) (k0_pay7 q kn (ix3 r g 0)) (sk (ix2 g 0)) := by
  pointwise [k0_pay9, k0_pay8, top]
  rw [show Ideal.ofBits .f32 0xFF800000#32 = ⊥ from by simp [Ideal.ofBits, Ideal.ieee]]

/-- The exponentials and their sum. -/
theorem exp_apply (r g : Fin 8) (j : Fin 128) :
    k0_pay10 q kb kn sk (ix3 r g j) = Ideal.exp (k0_pay6 q kb (ix3 r g j) - k0_pay9 q kb kn sk (ix3 r g 0)) := by
  pointwise [k0_pay10]

theorem exp_new_apply (r g : Fin 8) :
    k0_pay11 q kb kn sk (ix3 r g 0) = Ideal.exp (k0_pay7 q kn (ix3 r g 0) - k0_pay9 q kb kn sk (ix3 r g 0)) := by
  pointwise [k0_pay11]

theorem sum_apply (r g : Fin 8) :
    k0_pay12 q kb kn sk (ix3 r g 0) = (∑ j : Fin 128, k0_pay10 q kb kn sk (ix3 r g j)) + k0_pay11 q kb kn sk (ix3 r g 0)
      + Ideal.exp (sk (ix2 g 0) - k0_pay9 q kb kn sk (ix3 r g 0)) := by
  pointwise [k0_pay12, k0_pay8]

theorem values_apply (r g : Fin 8) (d : Fin 64) :
    k0_pay13 q kb kn sk vb (ix3 r g d) = ∑ j : Fin 128, k0_pay10 q kb kn sk (ix3 r g j) * vb (ix3 r j d) := by
  pointwise [k0_pay13]

/-- A head's rows at an entry. -/
theorem head0_apply (r g : Fin 8) (d : Fin 64) :
    head0 q kb kn sk vb vn z (ix3 r g d)
      = attend (fun j => dot (fun e => q (ix3 r g e)) fun e => kb (ix3 r j e)) (fun j => vb (ix3 r j d))
          (dot (fun e => q (ix3 r g e)) fun e => kn (ix3 r 0 e)) (vn (ix3 r 0 d)) (sk (ix2 g 0))
        * silu (z (ix3 r g d)) := by
  have h : head0 q kb kn sk vb vn z (ix3 r g d)
      = Ideal.div (k0_pay13 q kb kn sk vb (ix3 r g d) + k0_pay11 q kb kn sk (ix3 r g 0) * vn (ix3 r 0 d)) (k0_pay12 q kb kn sk (ix3 r g 0))
        * silu (z (ix3 r g d)) := by
    rw [silu, ← Cert.Num.silu_eq]
    unfold head0
    generalize k0_pay11 q kb kn sk = a
    generalize k0_pay12 q kb kn sk = b
    generalize k0_pay13 q kb kn sk vb = c
    pointwise [k0_pay14]
    rw [show Ideal.ofBits .f32 0x3F000000#32 = ((1 / 2 : ℝ) : EReal) from by
      simp [Ideal.ofBits, Ideal.ieee]; rw [← EReal.coe_mul]; norm_num]
  rw [h, values_apply, sum_apply]
  simp only [exp_apply, exp_new_apply, top_apply, old_apply, new_apply]
  rfl

end Cert.SwaDecBlock
end
-- ==== Proof.SwaDecReference.lean ====
/-
  The sample step of the window attention as the reference computes it: the kept rows and the new one, the scores with a
  sink behind them, the softmax, the gated result and the rows kept for the next step; read entry by entry.
-/
module

public import proofs.«01_k».proof.Proof.Gen.SwaDecRefIdeal.Run
public import proofs.«01_k».proof.Proof.SwaDecAttend
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.SwaDecReference

open Cert.SwaDecRefIdeal Cert.SwaDecRefIdeal.Gen Cert.SwaDecRefIdeal.Facts Cert.SwaDecAttend

/-- The 128 rows kept of every sample and the new one after them. -/
def rowsOf (buf : FVec Ideal S128x128x2x64 .f32) (x : FVec Ideal S128x128 .f32) : FVec Ideal S128x129x2x64 .f32 :=
  concatenate S128x129x2x64 1 [⟨S128x128x2x64, buf⟩, ⟨S128x1x2x64, (shapeCast _ x shapeCasts_S128x128_S128x1x2x64)⟩] concatenates_S128x128x2x64_S128x1x2x64_S128x129x2x64_d1

/-- The rows the one query sees: the last 128 and itself, which are all. -/
def mask : IVec S1x129 1 :=
  andi (cmpi .sge (subi (broadcastInDim S1x129 ![0, 1] bcast_S1x1_S1x129_0_1 (addi (broadcastInDim S1x1 ![0] bcast_S1_S1x1_0 (iotaInDim S1 32 0)) (broadcastInDim S1x1 ![] bcast_S_S1x1 (constantI S_ 32 128#32)))) (broadcastInDim S1x129 ![1] bcast_S129_S1x129_1 (iotaInDim S129 32 0))) (broadcastInDim S1x129 ![] bcast_S_S1x129 (constantI S_ 32 0#32))) (cmpi .sle (subi (broadcastInDim S1x129 ![0, 1] bcast_S1x1_S1x129_0_1 (addi (broadcastInDim S1x1 ![0] bcast_S1_S1x1_0 (iotaInDim S1 32 0)) (broadcastInDim S1x1 ![] bcast_S_S1x1 (constantI S_ 32 128#32)))) (broadcastInDim S1x129 ![1] bcast_S129_S1x129_1 (iotaInDim S129 32 0))) (broadcastInDim S1x129 ![] bcast_S_S1x129 (constantI S_ 32 128#32)))

/-- The scaled scores of the query rows over the key rows. -/
def score (q : FVec Ideal S128x1024 .f32) (rows : FVec Ideal S128x129x2x64 .f32) (mask : IVec S1x129 1) : FVec Ideal S128x2x8x1x129 .f32 :=
  select (broadcastInDim S128x2x8x1x129 ![1, 2, 3, 4] bcast_S1x1x1x129_S128x2x8x1x129_1_2_3_4 (broadcastInDim S1x1x1x129 ![2, 3] bcast_S1x129_S1x1x1x129_2_3 mask)) (mulf (transpose S128x2x8x1x129 [0, 1, 4, 3, 2] (Host.dotGeneral dot_S128x129x2x64_S128x1x2x8x64_S128x2x129x1x8_3_4_1_13_02_02 none rows (shapeCast _ q shapeCasts_S128x1024_S128x1x2x8x64)) transposes_S128x2x129x1x8_S128x2x8x1x129_0_1_4_3_2) (broadcastInDim S128x2x8x1x129 ![] bcast_S_S128x2x8x1x129 (constant S_ .f32 0x3E000000#32))) (broadcastInDim S128x2x8x1x129 ![] bcast_S_S128x2x8x1x129 (id (constant S_ .f32 0xFF800000#32)))

/-- The scores with the head's sink behind them. -/
def withSink (p : FVec Ideal S128x2x8x1x129 .f32) (sinks : FVec Ideal S16 .f32) : FVec Ideal S128x2x8x1x130 .f32 :=
  concatenate S128x2x8x1x130 4 [⟨S128x2x8x1x129, p⟩, ⟨S128x2x8x1x1, (broadcastInDim S128x2x8x1x1 ![1, 2, 3, 4] bcast_S2x8x1x1_S128x2x8x1x1_1_2_3_4 (shapeCast _ sinks shapeCasts_S16_S2x8x1x1))⟩] concatenates_S128x2x8x1x129_S128x2x8x1x1_S128x2x8x1x130_d4

/-- Each head's largest score. -/
def tops (l : FVec Ideal S128x2x8x1x130 .f32) : FVec Ideal S128x2x8x1 .f32 :=
  Host.reduce FloatOps.maximumf l (constant S_ .f32 0xFF800000#32) reducesTo_S128x2x8x1x130_S128x2x8x1_d4 h_S_

/-- The exponentials of the scores less the largest. -/
def weight (l : FVec Ideal S128x2x8x1x130 .f32) : FVec Ideal S128x2x8x1x130 .f32 :=
  Host.exp (subf l (broadcastInDim S128x2x8x1x130 ![0, 1, 2, 3, 4] bcast_S128x2x8x1x1_S128x2x8x1x130_0_1_2_3_4 (broadcastInDim S128x2x8x1x1 ![0, 1, 2, 3] bcast_S128x2x8x1_S128x2x8x1x1_0_1_2_3 (maximumf (broadcastInDim S128x2x8x1 ![] bcast_S_S128x2x8x1 (constant S_ .f32 0xFF800000#32)) (tops l)))))

/-- Each head's sum of exponentials. -/
def sums (w : FVec Ideal S128x2x8x1x130 .f32) : FVec Ideal S128x2x8x1 .f32 :=
  Host.reduceAdd w (constant S_ .f32 0x00000000#32) reducesTo_S128x2x8x1x130_S128x2x8x1_d4 h_S_

/-- The rows' weights: the exponentials over their sum, without the sink's. -/
def prob (w : FVec Ideal S128x2x8x1x130 .f32) : FVec Ideal S128x2x8x1x129 .f32 :=
  extractStridedSlice S128x2x8x1x129 ![0, 0, 0, 0, 0] (Host.divf w (broadcastInDim S128x2x8x1x130 ![0, 1, 2, 3, 4] bcast_S128x2x8x1x1_S128x2x8x1x130_0_1_2_3_4 (broadcastInDim S128x2x8x1x1 ![0, 1, 2, 3] bcast_S128x2x8x1_S128x2x8x1x1_0_1_2_3 (sums w)))) slices_S128x2x8x1x130_S128x2x8x1x129_0_0_0_0_0

/-- The weighted values times the gate. -/
def out (p : FVec Ideal S128x2x8x1x129 .f32) (rows : FVec Ideal S128x129x2x64 .f32) (z : FVec Ideal S128x1024 .f32) : FVec Ideal S128x16x64 .f32 :=
  shapeCast _ (mulf (shapeCast _ (transpose S128x1x2x8x64 [0, 4, 1, 3, 2] (Host.dotGeneral dot_S128x129x2x64_S128x2x8x1x129_S128x2x64x8x1_1_4_3_23_02_01 none rows p) transposes_S128x2x64x8x1_S128x1x2x8x64_0_4_1_3_2) shapeCasts_S128x1x2x8x64_S128x1x1024) (mulf (shapeCast _ z shapeCasts_S128x1024_S128x1x1024) (Host.divf (broadcastInDim S128x1x1024 ![] bcast_S_S128x1x1024 (constant S_ .f32 0x3F800000#32)) (addf (broadcastInDim S128x1x1024 ![] bcast_S_S128x1x1024 (constant S_ .f32 0x3F800000#32)) (Host.exp (Host.negf (shapeCast _ z shapeCasts_S128x1024_S128x1x1024))))))) shapeCasts_S128x1x1024_S128x16x64

/-- The three results: the gated rows, -/
def res (q : FVec Ideal S128x1024 .f32) (k v : FVec Ideal S128x128 .f32) (z : FVec Ideal S128x1024 .f32)
    (bk bv : FVec Ideal S128x128x2x64 .f32) (sinks : FVec Ideal S16 .f32) : FVec Ideal S128x16x64 .f32 :=
  out (prob (weight (withSink (score q (rowsOf bk k) mask) sinks))) (rowsOf bv v) z

/-- and the rows kept of the keys and of the values. -/
def kept (buf : FVec Ideal S128x128x2x64 .f32) (x : FVec Ideal S128x128 .f32) : FVec Ideal S128x128x128 .f32 :=
  shapeCast _ (extractStridedSlice S128x128x2x64 ![0, 1, 0, 0] (rowsOf buf x) slices_S128x129x2x64_S128x128x2x64_0_1_0_0) shapeCasts_S128x128x2x64_S128x128x128

/-- The program's first result is `res` of its arguments. -/
theorem res_eq (m : (ℓ : Loc nD τ sig) → Buf (Elt Ideal) ℓ) (c : Dev nD) :
    Cert.SwaDecRefIdeal.Value.res_main_v47 m c = res (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := rfl

/-- The gathered rows, the mask, the scores, the softmax's parts and the results, each at an entry. -/
theorem rowsOf_apply (buf : FVec Ideal S128x128x2x64 .f32) (x : FVec Ideal S128x128 .f32) (b : Fin 128) (k : Fin 129) (h : Fin 2) (d : Fin 64) :
    rowsOf buf x (ix4 b k h d) = if hk : k.val < 128 then buf (ix4 b ⟨k.val, hk⟩ h d)
      else x (ix2 b ⟨h.val * 64 + d.val, by omega⟩) := by
  pointwise [rowsOf]

theorem mask_apply (k : Fin 129) : mask (ix2 0 k) = 1#1 := by
  pointwise [mask]
  revert k
  decide +kernel

theorem score_apply (q : FVec Ideal S128x1024 .f32) (rows : FVec Ideal S128x129x2x64 .f32) (b : Fin 128) (h : Fin 2) (g : Fin 8) (k : Fin 129) :
    score q rows mask (ix5 b h g 0 k) = (∑ e : Fin 64, rows (ix4 b k h e)
        * q (ix2 b ⟨h.val * 512 + g.val * 64 + e.val, by omega⟩)) * Ideal.ofBits .f32 0x3E000000#32 := by
  have e := mask_apply k
  generalize mask = M at e
  pointwise [score]
  rw [e]
  rfl

theorem withSink_apply (p : FVec Ideal S128x2x8x1x129 .f32) (sinks : FVec Ideal S16 .f32) (b : Fin 128) (h : Fin 2) (g : Fin 8) (k : Fin 130) :
    withSink p sinks (ix5 b h g 0 k) = if hk : k.val < 129 then p (ix5 b h g 0 ⟨k.val, hk⟩) else sinks (ix1 ⟨h.val * 8 + g.val, by omega⟩) := by
  pointwise [withSink]

theorem tops_apply (l : FVec Ideal S128x2x8x1x130 .f32) (b : Fin 128) (h : Fin 2) (g : Fin 8) :
    tops l (ix4 b h g 0) = Finset.univ.fold max ⊥ fun k : Fin 130 => l (ix5 b h g 0 k) := by
  pointwise [tops]
  rw [show Ideal.ofBits .f32 0xFF800000#32 = ⊥ from by simp [Ideal.ofBits, Ideal.ieee]]

theorem sums_apply (w : FVec Ideal S128x2x8x1x130 .f32) (b : Fin 128) (h : Fin 2) (g : Fin 8) :
    sums w (ix4 b h g 0) = ∑ k : Fin 130, w (ix5 b h g 0 k) := by
  pointwise [sums]

theorem weight_apply (l : FVec Ideal S128x2x8x1x130 .f32) (b : Fin 128) (h : Fin 2) (g : Fin 8) (k : Fin 130) :
    weight l (ix5 b h g 0 k) = Ideal.exp (l (ix5 b h g 0 k) - Finset.univ.fold max ⊥ fun k : Fin 130 => l (ix5 b h g 0 k)) := by
  rw [← tops_apply]
  pointwise [weight]
  rw [show Ideal.ofBits .f32 0xFF800000#32 = ⊥ from by simp [Ideal.ofBits, Ideal.ieee], max_eq_right bot_le]

theorem prob_apply (w : FVec Ideal S128x2x8x1x130 .f32) (b : Fin 128) (h : Fin 2) (g : Fin 8) (k : Fin 129) :
    prob w (ix5 b h g 0 k) = Ideal.div (w (ix5 b h g 0 k.castSucc)) (∑ k : Fin 130, w (ix5 b h g 0 k)) := by
  rw [← sums_apply]
  pointwise [prob]
  rfl

theorem out_apply (p : FVec Ideal S128x2x8x1x129 .f32) (rows : FVec Ideal S128x129x2x64 .f32) (z : FVec Ideal S128x1024 .f32)
    (b : Fin 128) (h : Fin 2) (g : Fin 8) (d : Fin 64) :
    out p rows z (ix3 b ⟨h.val * 8 + g.val, by omega⟩ d) = (∑ k : Fin 129, rows (ix4 b k h d) * p (ix5 b h g 0 k))
      * (z (ix2 b ⟨h.val * 512 + g.val * 64 + d.val, by omega⟩)
        * Ideal.div 1 (1 + Ideal.exp (-z (ix2 b ⟨h.val * 512 + g.val * 64 + d.val, by omega⟩)))) := by
  pointwise [out]
  have e : (⟨(h.val * 8 + g.val) * 64 + d.val, by omega⟩ : Fin 1024) = ⟨h.val * 512 + g.val * 64 + d.val, by omega⟩ :=
    Fin.ext (by dsimp only; omega)
  rw [e]

theorem kept_apply (buf : FVec Ideal S128x128x2x64 .f32) (x : FVec Ideal S128x128 .f32) (b k : Fin 128) (c : Fin 128) :
    kept buf x (ix3 b k c) = if hk : k.val + 1 < 128 then buf (ix4 b ⟨k.val + 1, hk⟩ ⟨c.val / 64, by omega⟩ ⟨c.val % 64, by omega⟩)
      else x (ix2 b c) := by
  pointwise [kept]
  rw [rowsOf_apply]
  dsimp only
  split
  · rw [dif_pos (by omega)]
    exact congrArg (fun i => buf (ix4 b i _ _)) (Fin.ext (Nat.add_comm _ _))
  · rw [dif_neg (by omega)]
    exact congrArg (fun i => x (ix2 b i)) (Fin.ext (by dsimp only; omega))

/-- The scores at an entry, where every entry is a real number, are not `⊤`. -/
theorem score_ne_top (q : FVec Ideal S128x1024 .f32) (k : FVec Ideal S128x128 .f32) (bk : FVec Ideal S128x128x2x64 .f32)
    (hq : ∀ i, ∃ r : ℝ, q i = r) (hk : ∀ i, ∃ r : ℝ, k i = r) (hb : ∀ i, ∃ r : ℝ, bk i = r)
    (b : Fin 128) (h : Fin 2) (g : Fin 8) (j : Fin 129) : score q (rowsOf bk k) mask (ix5 b h g 0 j) ≠ ⊤ := by
  have hr (e : Fin 64) : ∃ r : ℝ, rowsOf bk k (ix4 b j h e) = r := by
    rw [rowsOf_apply]
    split
    · exact hb _
    · exact hk _
  rw [score_apply]
  have : ∃ x : ℝ, (∑ e : Fin 64, rowsOf bk k (ix4 b j h e) * q (ix2 b ⟨h.val * 512 + g.val * 64 + e.val, by omega⟩)) = (x : EReal) := by
    refine Cert.Num.sum_exists_real _ _ fun e => ?_
    obtain ⟨x, hx⟩ := hr e
    obtain ⟨y, hy⟩ := hq (ix2 b ⟨h.val * 512 + g.val * 64 + e.val, by omega⟩)
    exact ⟨x * y, by rw [hx, hy, EReal.coe_mul]⟩
  obtain ⟨x, hx⟩ := this
  rw [hx, show Ideal.ofBits .f32 0x3E000000#32 = ((1 / 8 : ℝ) : EReal) from by
    simp [Ideal.ofBits, Ideal.ieee]; rw [← EReal.coe_mul]; norm_num, ← EReal.coe_mul]
  exact EReal.coe_ne_top _

/-- The first result at an entry: the kept rows and the new one weighted, divided once, times the gate. -/
theorem res_apply (q : FVec Ideal S128x1024 .f32) (k v : FVec Ideal S128x128 .f32) (z : FVec Ideal S128x1024 .f32)
    (bk bv : FVec Ideal S128x128x2x64 .f32) (sinks : FVec Ideal S16 .f32)
    (hq : ∀ i, ∃ r : ℝ, q i = r) (hk : ∀ i, ∃ r : ℝ, k i = r) (hb : ∀ i, ∃ r : ℝ, bk i = r) (hs : ∀ i, ∃ r : ℝ, sinks i = r)
    (b : Fin 128) (h : Fin 2) (g : Fin 8) (d : Fin 64) :
    res q k v z bk bv sinks (ix3 b ⟨h.val * 8 + g.val, by omega⟩ d)
      = attend (fun j => dot (fun e => q (ix2 b ⟨h.val * 512 + g.val * 64 + e.val, by omega⟩)) fun e => bk (ix4 b j h e))
          (fun j => bv (ix4 b j h d))
          (dot (fun e => q (ix2 b ⟨h.val * 512 + g.val * 64 + e.val, by omega⟩)) fun e => k (ix2 b ⟨h.val * 64 + e.val, by omega⟩))
          (v (ix2 b ⟨h.val * 64 + d.val, by omega⟩)) (sinks (ix1 ⟨h.val * 8 + g.val, by omega⟩))
        * silu (z (ix2 b ⟨h.val * 512 + g.val * 64 + d.val, by omega⟩)) := by
  obtain ⟨x, hx⟩ := hs (ix1 ⟨h.val * 8 + g.val, by omega⟩)
  unfold res
  rw [out_apply]
  refine congrArg (· * _) ?_
  have hold (j : Fin 128) : score q (rowsOf bk k) mask (ix5 b h g 0 j.castSucc)
      = dot (fun e => q (ix2 b ⟨h.val * 512 + g.val * 64 + e.val, by omega⟩)) fun e => bk (ix4 b j h e) := by
    rw [score_apply, dot]
    refine congrArg (· * _) (Finset.sum_congr rfl fun e _ => ?_)
    rw [rowsOf_apply, dif_pos (by exact j.isLt), mul_comm]
    rfl
  have hnew : score q (rowsOf bk k) mask (ix5 b h g 0 (Fin.last 128))
      = dot (fun e => q (ix2 b ⟨h.val * 512 + g.val * 64 + e.val, by omega⟩)) fun e => k (ix2 b ⟨h.val * 64 + e.val, by omega⟩) := by
    rw [score_apply, dot]
    refine congrArg (· * _) (Finset.sum_congr rfl fun e _ => ?_)
    rw [rowsOf_apply, dif_neg (by decide), mul_comm]
  have hv (j : Fin 128) : rowsOf bv v (ix4 b j.castSucc h d) = bv (ix4 b j h d) := by
    rw [rowsOf_apply, dif_pos (by exact j.isLt)]
    rfl
  have hvn : rowsOf bv v (ix4 b (Fin.last 128) h d) = v (ix2 b ⟨h.val * 64 + d.val, by omega⟩) := by
    rw [rowsOf_apply, dif_neg (by decide)]
  have key := softmax_eq (fun j => withSink (score q (rowsOf bk k) mask) sinks (ix5 b h g 0 j))
    (fun j => score q (rowsOf bk k) mask (ix5 b h g 0 j)) (fun j => rowsOf bv v (ix4 b j h d))
    (sinks (ix1 ⟨h.val * 8 + g.val, by omega⟩))
    (fun j => by rw [withSink_apply, dif_pos (by exact j.isLt)]; rfl)
    (by rw [withSink_apply, dif_neg (by decide)])
    (fun j => score_ne_top q k bk hq hk hb b h g j) (by rw [hx]; exact EReal.coe_ne_bot _) (by rw [hx]; exact EReal.coe_ne_top _)
  simp only [hold, hnew, hv, hvn] at key
  rw [← key]
  refine Finset.sum_congr rfl fun j _ => ?_
  rw [prob_apply]
  simp only [weight_apply]

end Cert.SwaDecReference
end
-- ==== Proof.SwaDecValue.lean ====
/-
  The sample step of the window attention: kernel and reference end with the same three arrays.
-/
module

public import proofs.«01_k».proof.Proof.Gen.SwaDecIdeal.Value
public import proofs.«01_k».proof.Proof.SwaDecBlock
public import proofs.«01_k».proof.Proof.SwaDecReference
public import proofs.«01_k».proof.Proof.BandProof
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem
open Cert.SwaDecIdeal Cert.SwaDecIdeal.Gen Cert.SwaDecIdeal.Facts Cert.SwaDecAttend Cert.SwaDecBlock

namespace Cert.SwaDecEq

variable (m : (ℓ : Loc nD τ sig) → Buf (Elt Ideal) ℓ)

/-- Where each window's block lies at every grid point. -/
theorem idx : ∀ t : Fin cfg0.N,
    win0_0.index t = ![t.val, 0, 0] ∧ win0_1.index t = ![t.val, 0, 0] ∧ win0_2.index t = ![t.val, 0, 0] ∧ win0_3.index t = ![t.val, 0, 0]
    ∧ win0_4.index t = ![t.val, 0, 0] ∧ win0_5.index t = ![t.val, 0, 0] ∧ win0_6.index t = ![0, 0] ∧ win0_7.index t = ![t.val, 0, 0]
    ∧ win0_8.index t = ![t.val, 0, 0] ∧ win0_9.index t = ![t.val, 0, 0] :=
  (by decide +kernel : ∀ t : Fin grid0.N, _)

/-- The sample that row `r` of grid point `t`'s blocks is. -/
abbrev smp (t : Fin cfg0.N) (r : Fin 8) : Fin 128 := ⟨t.val * 8 + r.val, by have : t.val < 16 := t.isLt; omega⟩

/-- The arguments in memory. -/
abbrev aQ (c : Dev nD) : FVec Ideal S128x1024 .f32 := m ((c : Thread nD τ).loc main_arg0)
abbrev aK (c : Dev nD) : FVec Ideal S128x128 .f32 := m ((c : Thread nD τ).loc main_arg1)
abbrev aV (c : Dev nD) : FVec Ideal S128x128 .f32 := m ((c : Thread nD τ).loc main_arg2)
abbrev aZ (c : Dev nD) : FVec Ideal S128x1024 .f32 := m ((c : Thread nD τ).loc main_arg3)
abbrev aBk (c : Dev nD) : FVec Ideal S128x128x2x64 .f32 := m ((c : Thread nD τ).loc main_arg4)
abbrev aBv (c : Dev nD) : FVec Ideal S128x128x2x64 .f32 := m ((c : Thread nD τ).loc main_arg5)
abbrev aSk (c : Dev nD) : FVec Ideal S16 .f32 := m ((c : Thread nD τ).loc main_arg6)

/-- The blocks a grid point reads. -/
abbrev bq (c : Dev nD) (t : Fin cfg0.N) : Vec Ideal S8x16x64 .f32 := iblk m c 0 t
abbrev bk (c : Dev nD) (t : Fin cfg0.N) : Vec Ideal S8x128x128 .f32 := iblk m c 1 t
abbrev bv (c : Dev nD) (t : Fin cfg0.N) : Vec Ideal S8x128x128 .f32 := iblk m c 2 t
abbrev kn (c : Dev nD) (t : Fin cfg0.N) : Vec Ideal S8x1x128 .f32 := iblk m c 3 t
abbrev vn (c : Dev nD) (t : Fin cfg0.N) : Vec Ideal S8x1x128 .f32 := iblk m c 4 t
abbrev bz (c : Dev nD) (t : Fin cfg0.N) : Vec Ideal S8x16x64 .f32 := iblk m c 5 t
abbrev bs (c : Dev nD) (t : Fin cfg0.N) : Vec Ideal S16x1 .f32 := iblk m c 6 t

/-- The arguments as the program reshapes them before the call. -/
theorem V_main_v0 (c : Dev nD) : V m c main_v0 = shapeCast S128x16x64 (aQ m c) shapeCasts_S128x1024_S128x16x64 := by
  show StableHlo.after (List.flatten [hostOps0]) (fun b => m (c, b)) (Proc.devRef .tc main_v0) = _
  simp only [List.flatten_cons, List.flatten_nil, List.append_nil, List.cons_append, List.nil_append, StableHlo.after_cons, StableHlo.after_nil]
  after_results_simp
  rfl

theorem V_main_v1 (c : Dev nD) : V m c main_v1 = shapeCast S128x1x128 (aK m c) shapeCasts_S128x128_S128x1x128 := by
  show StableHlo.after (List.flatten [hostOps0]) (fun b => m (c, b)) (Proc.devRef .tc main_v1) = _
  simp only [List.flatten_cons, List.flatten_nil, List.append_nil, List.cons_append, List.nil_append, StableHlo.after_cons, StableHlo.after_nil]
  after_results_simp
  rfl

theorem V_main_v2 (c : Dev nD) : V m c main_v2 = shapeCast S128x1x128 (aV m c) shapeCasts_S128x128_S128x1x128 := by
  show StableHlo.after (List.flatten [hostOps0]) (fun b => m (c, b)) (Proc.devRef .tc main_v2) = _
  simp only [List.flatten_cons, List.flatten_nil, List.append_nil, List.cons_append, List.nil_append, StableHlo.after_cons, StableHlo.after_nil]
  after_results_simp
  rfl

theorem V_main_v3 (c : Dev nD) : V m c main_v3 = shapeCast S128x16x64 (aZ m c) shapeCasts_S128x1024_S128x16x64 := by
  show StableHlo.after (List.flatten [hostOps0]) (fun b => m (c, b)) (Proc.devRef .tc main_v3) = _
  simp only [List.flatten_cons, List.flatten_nil, List.append_nil, List.cons_append, List.nil_append, StableHlo.after_cons, StableHlo.after_nil]
  after_results_simp
  rfl

theorem V_main_v4 (c : Dev nD) : V m c main_v4 = shapeCast S128x128x128 (aBk m c) shapeCasts_S128x128x2x64_S128x128x128 := by
  show StableHlo.after (List.flatten [hostOps0]) (fun b => m (c, b)) (Proc.devRef .tc main_v4) = _
  simp only [List.flatten_cons, List.flatten_nil, List.append_nil, List.cons_append, List.nil_append, StableHlo.after_cons, StableHlo.after_nil]
  after_results_simp
  rfl

theorem V_main_v5 (c : Dev nD) : V m c main_v5 = shapeCast S128x128x128 (aBv m c) shapeCasts_S128x128x2x64_S128x128x128 := by
  show StableHlo.after (List.flatten [hostOps0]) (fun b => m (c, b)) (Proc.devRef .tc main_v5) = _
  simp only [List.flatten_cons, List.flatten_nil, List.append_nil, List.cons_append, List.nil_append, StableHlo.after_cons, StableHlo.after_nil]
  after_results_simp
  rfl

theorem V_main_v6 (c : Dev nD) : V m c main_v6 = shapeCast S16x1 (aSk m c) shapeCasts_S16_S16x1 := by
  show StableHlo.after (List.flatten [hostOps0]) (fun b => m (c, b)) (Proc.devRef .tc main_v6) = _
  simp only [List.flatten_cons, List.flatten_nil, List.append_nil, List.cons_append, List.nil_append, StableHlo.after_cons, StableHlo.after_nil]
  after_results_simp
  rfl

/-- The blocks at an entry. -/
theorem bq_apply (c : Dev nD) (t : Fin cfg0.N) (r : Fin 8) (a : Fin 16) (d : Fin 64) : bq m c t (ix3 r a d) = aQ m c (ix2 (smp t r) ⟨a.val * 64 + d.val, by omega⟩) := by
  have e : (win0_0.blk t).view.emb (ix3 r a d) = ix3 (smp t r) a d := by
    blk_ext [idx t]
  blk_simp [bq, iblk]
  refine (congrFun (V_main_v0 m c) _).trans ((congrArg _ e).trans ?_)
  pointwise []

theorem bk_apply (c : Dev nD) (t : Fin cfg0.N) (r : Fin 8) (j l : Fin 128) : bk m c t (ix3 r j l) = aBk m c (ix4 (smp t r) j ⟨l.val / 64, by omega⟩ ⟨l.val % 64, by omega⟩) := by
  have e : (win0_1.blk t).view.emb (ix3 r j l) = ix3 (smp t r) j l := by
    blk_ext [idx t]
  blk_simp [bk, iblk]
  refine (congrFun (V_main_v4 m c) _).trans ((congrArg _ e).trans ?_)
  pointwise []

theorem bv_apply (c : Dev nD) (t : Fin cfg0.N) (r : Fin 8) (j l : Fin 128) : bv m c t (ix3 r j l) = aBv m c (ix4 (smp t r) j ⟨l.val / 64, by omega⟩ ⟨l.val % 64, by omega⟩) := by
  have e : (win0_2.blk t).view.emb (ix3 r j l) = ix3 (smp t r) j l := by
    blk_ext [idx t]
  blk_simp [bv, iblk]
  refine (congrFun (V_main_v5 m c) _).trans ((congrArg _ e).trans ?_)
  pointwise []

theorem kn_apply (c : Dev nD) (t : Fin cfg0.N) (r : Fin 8) (l : Fin 128) : kn m c t (ix3 r 0 l) = aK m c (ix2 (smp t r) l) := by
  have e : (win0_3.blk t).view.emb (ix3 r 0 l) = ix3 (smp t r) 0 l := by
    blk_ext [idx t]
  blk_simp [kn, iblk]
  refine (congrFun (V_main_v1 m c) _).trans ((congrArg _ e).trans ?_)
  pointwise []

theorem vn_apply (c : Dev nD) (t : Fin cfg0.N) (r : Fin 8) (l : Fin 128) : vn m c t (ix3 r 0 l) = aV m c (ix2 (smp t r) l) := by
  have e : (win0_4.blk t).view.emb (ix3 r 0 l) = ix3 (smp t r) 0 l := by
    blk_ext [idx t]
  blk_simp [vn, iblk]
  refine (congrFun (V_main_v2 m c) _).trans ((congrArg _ e).trans ?_)
  pointwise []

theorem bz_apply (c : Dev nD) (t : Fin cfg0.N) (r : Fin 8) (a : Fin 16) (d : Fin 64) : bz m c t (ix3 r a d) = aZ m c (ix2 (smp t r) ⟨a.val * 64 + d.val, by omega⟩) := by
  have e : (win0_5.blk t).view.emb (ix3 r a d) = ix3 (smp t r) a d := by
    blk_ext [idx t]
  blk_simp [bz, iblk]
  refine (congrFun (V_main_v3 m c) _).trans ((congrArg _ e).trans ?_)
  pointwise []

theorem bs_apply (c : Dev nD) (t : Fin cfg0.N) (a : Fin 16) : bs m c t (ix2 a 0) = aSk m c (ix1 a) := by
  have e : (win0_6.blk t).view.emb (ix2 a 0) = ix2 a 0 := by
    blk_ext [idx t]
  blk_simp [bs, iblk]
  refine (congrFun (V_main_v6 m c) _).trans ((congrArg _ e).trans ?_)
  pointwise []

/-- A load of a rectangle over all samples. -/
theorem ld_rect {A B C b w : Nat} (x : Vec Ideal ⟨3, ![A, B, C]⟩ .f32) (o p : Nat) (inb) (r : Fin A) (j : Fin b) (e : Fin w)
    (i : Fin B) (l : Fin C) (hi : i.val = o + j.val) (hl : l.val = p + e.val) :
    View.ld x (Rect.unit (s := ⟨3, ![A, B, C]⟩) ![0, o, p] (⟨3, ![A, b, w]⟩ : Shape).size inb) (ix3 r j e) = x (ix3 r i l) := by
  refine View.ld_unit_apply_of _ _ _ inb _ _ fun a => ?_
  match a with
  | ⟨0, _⟩ => exact (Nat.zero_add _).symm
  | ⟨1, _⟩ => exact hi
  | ⟨2, _⟩ => exact hl

/-- A load of the sinks of eight heads. -/
theorem ld_sinks (x : Vec Ideal S16x1 .f32) (o : Nat) (inb) (g : Fin 8) (i : Fin 16) (hi : i.val = o + g.val) :
    View.ld x (Rect.unit (s := S16x1) ![o, 0] S8x1.size inb) (ix2 g 0) = x (ix2 i 0) := by
  refine View.ld_unit_apply_of _ _ _ inb _ _ fun a => ?_
  match a with
  | ⟨0, _⟩ => exact hi
  | ⟨1, _⟩ => rfl

/-- The reference's three results, from the arguments in memory. -/
abbrev goal0 (c : Dev nD) : FVec Ideal S128x16x64 .f32 :=
  SwaDecReference.res (aQ m c) (aK m c) (aV m c) (aZ m c) (aBk m c) (aBv m c) (aSk m c)
abbrev goal1 (c : Dev nD) : FVec Ideal S128x128x128 .f32 := SwaDecReference.kept (aBk m c) (aK m c)
abbrev goal2 (c : Dev nD) : FVec Ideal S128x128x128 .f32 := SwaDecReference.kept (aBv m c) (aV m c)

/-- The arguments the softmax needs are real numbers. -/
structure Finite (c : Dev nD) : Prop where
  q : ∀ i, ∃ r : ℝ, aQ m c i = r
  k : ∀ i, ∃ r : ℝ, aK m c i = r
  bk : ∀ i, ∃ r : ℝ, aBk m c i = r
  sk : ∀ i, ∃ r : ℝ, aSk m c i = r

/-- One key head's rows are the reference's. -/
theorem head_eq (c : Dev nD) (hf : Finite m c) (t : Fin cfg0.N) (h : Fin 2) (o p : Nat) (ho : o = h.val * 8) (hp : p = h.val * 64)
    (i1 i2 i3 i4 i5 i6 i7) (r g : Fin 8) (d : Fin 64) :
    head0 (View.ld (bq m c t) (Rect.unit (s := S8x16x64) ![0, o, 0] S8x8x64.size i1))
      (View.ld (bk m c t) (Rect.unit (s := S8x128x128) ![0, 0, p] S8x128x64.size i2))
      (View.ld (kn m c t) (Rect.unit (s := S8x1x128) ![0, 0, p] S8x1x64.size i3))
      (View.ld (bs m c t) (Rect.unit (s := S16x1) ![o, 0] S8x1.size i4))
      (View.ld (bv m c t) (Rect.unit (s := S8x128x128) ![0, 0, p] S8x128x64.size i5))
      (View.ld (vn m c t) (Rect.unit (s := S8x1x128) ![0, 0, p] S8x1x64.size i6))
      (View.ld (bz m c t) (Rect.unit (s := S8x16x64) ![0, o, 0] S8x8x64.size i7)) (ix3 r g d)
      = goal0 m c (ix3 (smp t r) ⟨h.val * 8 + g.val, by omega⟩ d) := by
  subst ho hp
  rw [goal0, SwaDecReference.res_apply _ _ _ _ _ _ _ hf.q hf.k hf.bk hf.sk, head0_apply]
  have hq (e : Fin 64) : View.ld (bq m c t) (Rect.unit (s := S8x16x64) ![0, h.val * 8, 0] S8x8x64.size i1) (ix3 r g e)
      = aQ m c (ix2 (smp t r) ⟨h.val * 512 + g.val * 64 + e.val, by omega⟩) := by
    refine (ld_rect (bq m c t) _ _ i1 r g e ⟨h.val * 8 + g.val, by omega⟩ e rfl (Nat.zero_add _).symm).trans ((bq_apply m c t _ _ _).trans ?_)
    exact congrArg (fun i => aQ m c (ix2 _ i)) (Fin.ext (by dsimp only; omega))
  have hz : View.ld (bz m c t) (Rect.unit (s := S8x16x64) ![0, h.val * 8, 0] S8x8x64.size i7) (ix3 r g d)
      = aZ m c (ix2 (smp t r) ⟨h.val * 512 + g.val * 64 + d.val, by omega⟩) := by
    refine (ld_rect (bz m c t) _ _ i7 r g d ⟨h.val * 8 + g.val, by omega⟩ d rfl (Nat.zero_add _).symm).trans ((bz_apply m c t _ _ _).trans ?_)
    exact congrArg (fun i => aZ m c (ix2 _ i)) (Fin.ext (by dsimp only; omega))
  have hk (j : Fin 128) (e : Fin 64) : View.ld (bk m c t) (Rect.unit (s := S8x128x128) ![0, 0, h.val * 64] S8x128x64.size i2) (ix3 r j e)
      = aBk m c (ix4 (smp t r) j h e) := by
    refine (ld_rect (bk m c t) _ _ i2 r j e j ⟨h.val * 64 + e.val, by omega⟩ (Nat.zero_add _).symm rfl).trans ((bk_apply m c t _ _ _).trans ?_)
    exact congrArg₂ (fun i i' => aBk m c (ix4 _ j i i')) (Fin.ext (by dsimp only; omega)) (Fin.ext (by dsimp only; omega))
  have hv (j : Fin 128) : View.ld (bv m c t) (Rect.unit (s := S8x128x128) ![0, 0, h.val * 64] S8x128x64.size i5) (ix3 r j d)
      = aBv m c (ix4 (smp t r) j h d) := by
    refine (ld_rect (bv m c t) _ _ i5 r j d j ⟨h.val * 64 + d.val, by omega⟩ (Nat.zero_add _).symm rfl).trans ((bv_apply m c t _ _ _).trans ?_)
    exact congrArg₂ (fun i i' => aBv m c (ix4 _ j i i')) (Fin.ext (by dsimp only; omega)) (Fin.ext (by dsimp only; omega))
  have hkn (e : Fin 64) : View.ld (kn m c t) (Rect.unit (s := S8x1x128) ![0, 0, h.val * 64] S8x1x64.size i3) (ix3 r 0 e)
      = aK m c (ix2 (smp t r) ⟨h.val * 64 + e.val, by omega⟩) :=
    (ld_rect (kn m c t) _ _ i3 r 0 e 0 ⟨h.val * 64 + e.val, by omega⟩ rfl rfl).trans (kn_apply m c t _ _)
  have hvn : View.ld (vn m c t) (Rect.unit (s := S8x1x128) ![0, 0, h.val * 64] S8x1x64.size i6) (ix3 r 0 d)
      = aV m c (ix2 (smp t r) ⟨h.val * 64 + d.val, by omega⟩) :=
    (ld_rect (vn m c t) _ _ i6 r 0 d 0 ⟨h.val * 64 + d.val, by omega⟩ rfl rfl).trans (vn_apply m c t _ _)
  have hs : View.ld (bs m c t) (Rect.unit (s := S16x1) ![h.val * 8, 0] S8x1.size i4) (ix2 g 0)
      = aSk m c (ix1 ⟨h.val * 8 + g.val, by omega⟩) :=
    (ld_sinks (bs m c t) _ i4 g ⟨h.val * 8 + g.val, by omega⟩ rfl).trans (bs_apply m c t _)
  rw [hz, hvn, hs]
  simp only [hq, hk, hv, hkn]

/-- What a grid point stores of the gated rows. -/
theorem row0 (c : Dev nD) (hf : Finite m c) (t : Fin cfg0.N) (r : Fin 8) (a : Fin 16) (d : Fin 64) :
    (dats m 0 c).after 7 t (ix3 r a d) = goal0 m c (ix3 (smp t r) a d) := by
  rw [after0_7]
  unfold outsAt0
  frame_out
  canon_tiles x hx
  · rw [eq_ix3 x]
    rw [head1_eq]
    refine (head_eq m c hf t 1 8 64 rfl rfl _ _ _ _ _ _ _ (x 0) (x 1) (x 2)).trans ?_
    refine congrArg (goal0 m c) ?_
    rw [show x 0 = r from Fin.ext hx0.symm, show x 2 = d from Fin.ext hx2.symm,
      show (⟨(1 : Fin 2).val * 8 + (x 1).val, by have := (x 1).isLt; exact (by omega : 1 * 8 + (x 1).val < 16)⟩ : Fin 16) = a from Fin.ext hx1.symm]
  · rw [eq_ix3 x]
    refine (head_eq m c hf t 0 0 0 rfl rfl _ _ _ _ _ _ _ (x 0) (x 1) (x 2)).trans ?_
    refine congrArg (goal0 m c) ?_
    rw [show x 0 = r from Fin.ext hx0.symm, show x 2 = d from Fin.ext hx2.symm,
      show (⟨(0 : Fin 2).val * 8 + (x 1).val, by have := (x 1).isLt; exact (by omega : 0 * 8 + (x 1).val < 16)⟩ : Fin 16) = a from
        Fin.ext (by have : a.val = (x 1).val := hx1; dsimp only; omega)]

theorem final0 (c : Dev nD) (hf : Finite m c) : (dats m 0 c).arrAt 7 cfg0.N = goal0 m c := by
  refine (dats m 0 c).arrAt_eq_of_covers 7 _ (by decide +kernel) fun t _ y => ?_
  blk_simp
  have e : ((cfg0.win 7).blk t).view.emb y = ix3 (smp t (y 0)) (y 1) (y 2) := by
    blk_ext [idx t]
  exact (congrArg _ (eq_ix3 y)).trans ((row0 m c hf t (y 0) (y 1) (y 2)).trans (congrArg _ e.symm))

/-- What a grid point stores of the keys kept: all rows but the oldest, and the new one behind them. -/
theorem row1 (c : Dev nD) (t : Fin cfg0.N) (r : Fin 8) (j l : Fin 128) :
    (dats m 0 c).after 8 t (ix3 r j l) = goal1 m c (ix3 (smp t r) j l) := by
  rw [goal1, SwaDecReference.kept_apply, after0_8]
  unfold outsAt0
  frame_out
  canon_tiles x hx using (View.cover_of_tiledBy _ ![8, 1, 128] (by sl_kernel_rfl) _)
  · have h1 : j.val = 127 + (x 1).val := hx1
    rw [dif_neg (by omega)]
    refine (congrArg _ (eq_ix3 x)).trans ?_
    rw [show x 0 = r from Fin.ext hx0.symm, show x 2 = l from Fin.ext hx2.symm, show x 1 = (0 : Fin 1) from Fin.ext (Nat.lt_one_iff.1 x1_lt)]
    refine Eq.trans ?_ (kn_apply m c t r l)
    pointwise [k0_pay2]
  · have h1 : j.val = (x 1).val := hx1
    rw [dif_pos (by omega)]
    refine (congrArg _ (eq_ix3 x)).trans ?_
    rw [show x 0 = r from Fin.ext hx0.symm, show x 2 = l from Fin.ext hx2.symm]
    refine Eq.trans (b := View.ld (bk m c t) (Rect.unit (s := S8x128x128) ![0, 1, 0] S8x127x128.size inb_S8x128x128_S8x127x128_0_1_0) (ix3 r (x 1) l)) ?_ ?_
    · pointwise [k0_pay1]
    · exact (ld_rect (bk m c t) 1 0 inb_S8x128x128_S8x127x128_0_1_0 r (x 1) l ⟨j.val + 1, by omega⟩ l (by dsimp only; omega) (Nat.zero_add _).symm).trans
        (bk_apply m c t _ _ _)

theorem final1 (c : Dev nD) : (dats m 0 c).arrAt 8 cfg0.N = goal1 m c := by
  refine (dats m 0 c).arrAt_eq_of_covers 8 _ (by decide +kernel) fun t _ y => ?_
  blk_simp
  have e : ((cfg0.win 8).blk t).view.emb y = ix3 (smp t (y 0)) (y 1) (y 2) := by
    blk_ext [idx t]
  exact (congrArg _ (eq_ix3 y)).trans ((row1 m c t (y 0) (y 1) (y 2)).trans (congrArg _ e.symm))

/-- What a grid point stores of the values kept: all rows but the oldest, and the new one behind them. -/
theorem row2 (c : Dev nD) (t : Fin cfg0.N) (r : Fin 8) (j l : Fin 128) :
    (dats m 0 c).after 9 t (ix3 r j l) = goal2 m c (ix3 (smp t r) j l) := by
  rw [goal2, SwaDecReference.kept_apply, after0_9]
  unfold outsAt0
  frame_out
  canon_tiles x hx using (View.cover_of_tiledBy _ ![8, 1, 128] (by sl_kernel_rfl) _)
  · have h1 : j.val = 127 + (x 1).val := hx1
    rw [dif_neg (by omega)]
    refine (congrArg _ (eq_ix3 x)).trans ?_
    rw [show x 0 = r from Fin.ext hx0.symm, show x 2 = l from Fin.ext hx2.symm, show x 1 = (0 : Fin 1) from Fin.ext (Nat.lt_one_iff.1 x1_lt)]
    refine Eq.trans ?_ (vn_apply m c t r l)
    pointwise [k0_pay4]
  · have h1 : j.val = (x 1).val := hx1
    rw [dif_pos (by omega)]
    refine (congrArg _ (eq_ix3 x)).trans ?_
    rw [show x 0 = r from Fin.ext hx0.symm, show x 2 = l from Fin.ext hx2.symm]
    refine Eq.trans (b := View.ld (bv m c t) (Rect.unit (s := S8x128x128) ![0, 1, 0] S8x127x128.size inb_S8x128x128_S8x127x128_0_1_0) (ix3 r (x 1) l)) ?_ ?_
    · pointwise [k0_pay3]
    · exact (ld_rect (bv m c t) 1 0 inb_S8x128x128_S8x127x128_0_1_0 r (x 1) l ⟨j.val + 1, by omega⟩ l (by dsimp only; omega) (Nat.zero_add _).symm).trans
        (bv_apply m c t _ _ _)

theorem final2 (c : Dev nD) : (dats m 0 c).arrAt 9 cfg0.N = goal2 m c := by
  refine (dats m 0 c).arrAt_eq_of_covers 9 _ (by decide +kernel) fun t _ y => ?_
  blk_simp
  have e : ((cfg0.win 9).blk t).view.emb y = ix3 (smp t (y 0)) (y 1) (y 2) := by
    blk_ext [idx t]
  exact (congrArg _ (eq_ix3 y)).trans ((row2 m c t (y 0) (y 1) (y 2)).trans (congrArg _ e.symm))

/-- The side conditions of the precondition's function. -/
instance preFacts : Cert.Pre_decode_finite.Facts where
  bcast_S_S128x1024 := by decide
  bcast_S_S128x128 := by decide
  bcast_S_S128x128x2x64 := by decide
  bcast_S_S16 := by decide

/-- The reference program ends with its counters at zero and its arguments unchanged. -/
theorem quiescent_ref : Cert.quiescent_SwaDecRefIdeal (hSwaDecRefIdeal := Cert.SwaDecRefIdeal.Gen.facts) :=
  fun m ρ _ => (θ_run Cert.SwaDecRefIdeal.defs _ _).mono
    (fun r h => ⟨fun c => (h c).2.2.2, Idealize.ShloMosaic.sem_eq_zero_of_no_sems (by decide) r.2⟩)
    (Cert.SwaDecRefIdeal.Value.run (F := Ideal) m ρ)

/-- Kernel and reference end with the same three arrays. -/
theorem algebraic : Cert.algebraic_SwaDecIdeal_SwaDecRefIdeal_pre_decode_finite (hSwaDecIdeal := Cert.SwaDecIdeal.Gen.facts)
    (hSwaDecRefIdeal := Cert.SwaDecRefIdeal.Gen.facts) (hPre_decode_finite := preFacts) := by
  intro m ρ m' ρ' hpre hag
  refine ⟨fun c => goal0 m c, fun c => goal1 m c, fun c => goal2 m c,
    (θ_run _ _ _).mono (fun r h c => ⟨(h c).1.trans (final0 m c ?_), (h c).2.1.trans (final1 m c), (h c).2.2.1.trans (final2 m c), (h c).2.2.2⟩)
      (Cert.SwaDecIdeal.Value.run_blocks (F := Ideal) m ρ),
    (θ_run _ _ _).mono (fun r h c => ?_) (Cert.SwaDecRefIdeal.Value.run (F := Ideal) m' ρ')⟩
  · obtain ⟨e0, e1, e2, e3, e4, e5, e6⟩ := hag c
    refine ⟨(h c).1.trans ?_, (h c).2.1.trans ?_, (h c).2.2.1.trans ?_, (h c).2.2.2⟩
    · rw [SwaDecReference.res_eq, e0, e1, e2, e3, e4, e5, e6]
    · rw [e1, e4]
      rfl
    · rw [e2, e5]
      rfl
  · exact ⟨Cert.Band.real_of_lt _ _ (hpre c).1, Cert.Band.real_of_lt _ _ (hpre c).2.1, Cert.Band.real_of_lt _ _ (hpre c).2.2.1,
      Cert.Band.real_of_lt _ _ (hpre c).2.2.2⟩

end Cert.SwaDecEq

end
-- ==== Proof.SwaInValue.lean ====
/-
  The banded attention's input projection over the prompt: every block of rows the kernel writes is the reference's
  modulated rows times the weights, so each of its four arrays is the reference's.
-/
module

public import proofs.«01_k».proof.Proof.Gen.SwaInIdeal.Value
public import proofs.«01_k».proof.Proof.Gen.SwaInRefIdeal.Run
public import proofs.«01_k».proof.Defs
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem Idealize.ShloMosaic.Pipeline

namespace Cert.SwaInEq

namespace Ref

open Cert.SwaInRefIdeal Cert.SwaInRefIdeal.Gen Cert.SwaInRefIdeal.Facts

variable (x : FVec Ideal S4x4096x1024 .f32) (mod : FVec Ideal S4x3072 .f32) (w : FVec Ideal S1024x2304 .f32)

/-- The reference's product of the modulated rows with all the weights. -/
def prod : FVec Ideal S4x4096x2304 .f32 :=
  Host.dotGeneral dot_S4x4096x1024_S1024x2304_S4x4096x2304_2_0_01_1_n_n none (addf (mulf x (broadcastInDim S4x4096x1024 ![0, 1, 2] bcast_S4x1x1024_S4x4096x1024_0_1_2 (addf (broadcastInDim S4x1x1024 ![] bcast_S_S4x1x1024 (constant S_ .f32 0x3F800000#32)) (extractStridedSlice S4x1x1024 ![0, 0, 1024] (broadcastInDim S4x1x3072 ![0, 2] bcast_S4x3072_S4x1x3072_0_2 mod) slices_S4x1x3072_S4x1x1024_0_0_1024)))) (broadcastInDim S4x4096x1024 ![0, 1, 2] bcast_S4x1x1024_S4x4096x1024_0_1_2 (extractStridedSlice S4x1x1024 ![0, 0, 0] (broadcastInDim S4x1x3072 ![0, 2] bcast_S4x3072_S4x1x3072_0_2 mod) slices_S4x1x3072_S4x1x1024_0_0_0))) w

/-- One entry of that product: row `i` of the flattened batch and time, column `j` of the weights. -/
def entry (i : Fin 16384) (j : Fin 2304) : Ideal .f32 :=
  ∑ k : Fin 1024, (x (ix3 ⟨i.val / 4096, by omega⟩ ⟨i.val % 4096, by omega⟩ k)
    * (1 + mod (ix2 ⟨i.val / 4096, by omega⟩ ⟨1024 + k.val, by omega⟩)) + mod (ix2 ⟨i.val / 4096, by omega⟩ ⟨k.val, by omega⟩))
    * w (ix2 k j)

/-- The reference's result 0: columns 0 to 1023 of the product, batch and time flattened. -/
def res0 : FVec Ideal S16384x1024 .f32 :=
  shapeCast _ (extractStridedSlice S4x4096x1024 ![0, 0, 0] (prod x mod w) slices_S4x4096x2304_S4x4096x1024_0_0_0) shapeCasts_S4x4096x1024_S16384x1024

theorem res0_apply (i : Fin 16384) (c : Fin 1024) : res0 x mod w (ix2 i c) = entry x mod w i ⟨c.val, by omega⟩ := by
  pointwise [res0, prod, entry]

/-- The reference's result 1: columns 1024 to 1151 of the product, batch and time flattened. -/
def res1 : FVec Ideal S16384x128 .f32 :=
  shapeCast _ (extractStridedSlice S4x4096x128 ![0, 0, 1024] (prod x mod w) slices_S4x4096x2304_S4x4096x128_0_0_1024) shapeCasts_S4x4096x128_S16384x128

theorem res1_apply (i : Fin 16384) (c : Fin 128) : res1 x mod w (ix2 i c) = entry x mod w i ⟨1024 + c.val, by omega⟩ := by
  pointwise [res1, prod, entry]

/-- The reference's result 2: columns 1152 to 1279 of the product, batch and time flattened. -/
def res2 : FVec Ideal S16384x128 .f32 :=
  shapeCast _ (extractStridedSlice S4x4096x128 ![0, 0, 1152] (prod x mod w) slices_S4x4096x2304_S4x4096x128_0_0_1152) shapeCasts_S4x4096x128_S16384x128

theorem res2_apply (i : Fin 16384) (c : Fin 128) : res2 x mod w (ix2 i c) = entry x mod w i ⟨1152 + c.val, by omega⟩ := by
  pointwise [res2, prod, entry]

/-- The reference's result 3: columns 1280 to 2303 of the product, batch and time flattened. -/
def res3 : FVec Ideal S16384x1024 .f32 :=
  shapeCast _ (extractStridedSlice S4x4096x1024 ![0, 0, 1280] (prod x mod w) slices_S4x4096x2304_S4x4096x1024_0_0_1280) shapeCasts_S4x4096x1024_S16384x1024

theorem res3_apply (i : Fin 16384) (c : Fin 1024) : res3 x mod w (ix2 i c) = entry x mod w i ⟨1280 + c.val, by omega⟩ := by
  pointwise [res3, prod, entry]

end Ref

open Cert.SwaInIdeal Cert.SwaInIdeal.Gen Cert.SwaInIdeal.Facts

variable (m : (ℓ : Loc nD τ sig) → Buf (Elt Ideal) ℓ)

/-- Where each window's block lies at every grid point. -/
theorem idx : ∀ t : Fin cfg0.N,
    win0_0.index t = ![t.val, 0] ∧ win0_1.index t = ![0, 0] ∧ win0_2.index t = ![t.val / 8, 0, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The array row that row `r` of grid point `t`'s blocks is. -/
abbrev arow (t : Fin cfg0.N) (r : Fin 512) : Fin 16384 := ⟨t.val * 512 + r.val, by have : t.val < 32 := t.isLt; omega⟩

/-- Every row of grid point `t`'s blocks is of batch `t / 8`. -/
theorem batch_eq (t : Fin cfg0.N) (r : Fin 512) (h h') : (⟨(arow t r).val / 4096, h⟩ : Fin 4) = ⟨t.val / 8, h'⟩ :=
  Fin.ext (by dsimp only; omega)

/-- The block of rows is the rows of the flattened argument. -/
theorem block0 (c : Dev nD) (t : Fin cfg0.N) (r : Fin 512) (k : Fin 1024) :
    iblk m c 0 t (ix2 r k) = m ((c : Thread nD τ).loc main_arg0)
      (ix3 ⟨(arow t r).val / 4096, by omega⟩ ⟨(arow t r).val % 4096, by omega⟩ k) := by
  have hN : t.val < 32 := t.isLt
  blk_simp [iblk]
  entry_read
  pointwise []
  blk_ext [iblk, V, idx t]

/-- The block of weights is all of them. -/
theorem block1 (c : Dev nD) (t : Fin cfg0.N) (k : Fin 1024) (l : Fin 2304) :
    iblk m c 1 t (ix2 k l) = m ((c : Thread nD τ).loc main_arg2) (ix2 k l) := by
  blk_simp [iblk]
  entry_read
  pointwise []
  blk_ext [iblk, V, idx t]

/-- The block of modulation rows is the argument's. -/
theorem block2 (c : Dev nD) (t : Fin cfg0.N) (l : Fin 3072) :
    iblk m c 2 t (ix3 0 0 l) = m ((c : Thread nD τ).loc main_arg1) (ix2 ⟨t.val / 8, by have : t.val < 32 := t.isLt; omega⟩ l) := by
  have hN : t.val < 32 := t.isLt
  blk_simp [iblk]
  entry_read
  pointwise []
  blk_ext [iblk, V, idx t]

/-- The reference's result 0, from the arguments in memory. -/
abbrev goal0 (c : Dev nD) : FVec Ideal S16384x1024 .f32 :=
  Ref.res0 (m ((c : Thread nD τ).loc main_arg0)) (m ((c : Thread nD τ).loc main_arg1)) (m ((c : Thread nD τ).loc main_arg2))

/-- What a grid point stores for it, row by row. -/
theorem row0 (c : Dev nD) (t : Fin cfg0.N) (r : Fin 512) (l : Fin 1024) :
    k0_pay2 (iblk m c 0 t) (View.ld (iblk m c 2 t) r0_1) (View.ld (iblk m c 2 t) r0_2) (View.ld (iblk m c 1 t) r0_3) (ix2 r l)
      = goal0 m c (ix2 (arow t r) l) := by
  rw [goal0, Ref.res0_apply, Ref.entry]
  pointwise [k0_pay2, k0_pay1]
  refine Finset.sum_congr rfl fun k _ => ?_
  rw [block0, block1, block2, block2, batch_eq]

theorem point0 (c : Dev nD) (t : Fin cfg0.N) (y : S512x1024.Idx) :
    k0_pay2 (iblk m c 0 t) (View.ld (iblk m c 2 t) r0_1) (View.ld (iblk m c 2 t) r0_2) (View.ld (iblk m c 1 t) r0_3) y
      = goal0 m c (((cfg0.win 3).blk t).view.emb y) := by
  have e : ((cfg0.win 3).blk t).view.emb y = ix2 (arow t (y 0)) (y 1) := by
    blk_ext [idx t]
  exact (congrArg _ (eq_ix2 y)).trans ((row0 m c t (y 0) (y 1)).trans (congrArg _ e.symm))

/-- The kernel's array 0 is the reference's. -/
theorem final0 (c : Dev nD) : (dats m 0 c).arrAt 3 cfg0.N = goal0 m c := by
  refine (dats m 0 c).arrAt_eq_of_covers 3 _ (by decide +kernel) fun t _ y => ?_
  blk_simp
  rw [after0_3]
  frame_out
  exact point0 m c t y

/-- The reference's result 1, from the arguments in memory. -/
abbrev goal1 (c : Dev nD) : FVec Ideal S16384x128 .f32 :=
  Ref.res1 (m ((c : Thread nD τ).loc main_arg0)) (m ((c : Thread nD τ).loc main_arg1)) (m ((c : Thread nD τ).loc main_arg2))

/-- What a grid point stores for it, row by row. -/
theorem row1 (c : Dev nD) (t : Fin cfg0.N) (r : Fin 512) (l : Fin 128) :
    k0_pay3 (iblk m c 0 t) (View.ld (iblk m c 2 t) r0_1) (View.ld (iblk m c 2 t) r0_2) (View.ld (iblk m c 1 t) r0_4) (ix2 r l)
      = goal1 m c (ix2 (arow t r) l) := by
  rw [goal1, Ref.res1_apply, Ref.entry]
  pointwise [k0_pay3, k0_pay1]
  refine Finset.sum_congr rfl fun k _ => ?_
  rw [block0, block1, block2, block2, batch_eq]

theorem point1 (c : Dev nD) (t : Fin cfg0.N) (y : S512x128.Idx) :
    k0_pay3 (iblk m c 0 t) (View.ld (iblk m c 2 t) r0_1) (View.ld (iblk m c 2 t) r0_2) (View.ld (iblk m c 1 t) r0_4) y
      = goal1 m c (((cfg0.win 4).blk t).view.emb y) := by
  have e : ((cfg0.win 4).blk t).view.emb y = ix2 (arow t (y 0)) (y 1) := by
    blk_ext [idx t]
  exact (congrArg _ (eq_ix2 y)).trans ((row1 m c t (y 0) (y 1)).trans (congrArg _ e.symm))

/-- The kernel's array 1 is the reference's. -/
theorem final1 (c : Dev nD) : (dats m 0 c).arrAt 4 cfg0.N = goal1 m c := by
  refine (dats m 0 c).arrAt_eq_of_covers 4 _ (by decide +kernel) fun t _ y => ?_
  blk_simp
  rw [after0_4]
  frame_out
  exact point1 m c t y

/-- The reference's result 2, from the arguments in memory. -/
abbrev goal2 (c : Dev nD) : FVec Ideal S16384x128 .f32 :=
  Ref.res2 (m ((c : Thread nD τ).loc main_arg0)) (m ((c : Thread nD τ).loc main_arg1)) (m ((c : Thread nD τ).loc main_arg2))

/-- What a grid point stores for it, row by row. -/
theorem row2 (c : Dev nD) (t : Fin cfg0.N) (r : Fin 512) (l : Fin 128) :
    k0_pay4 (iblk m c 0 t) (View.ld (iblk m c 2 t) r0_1) (View.ld (iblk m c 2 t) r0_2) (View.ld (iblk m c 1 t) r0_6) (ix2 r l)
      = goal2 m c (ix2 (arow t r) l) := by
  rw [goal2, Ref.res2_apply, Ref.entry]
  pointwise [k0_pay4, k0_pay1]
  refine Finset.sum_congr rfl fun k _ => ?_
  rw [block0, block1, block2, block2, batch_eq]

theorem point2 (c : Dev nD) (t : Fin cfg0.N) (y : S512x128.Idx) :
    k0_pay4 (iblk m c 0 t) (View.ld (iblk m c 2 t) r0_1) (View.ld (iblk m c 2 t) r0_2) (View.ld (iblk m c 1 t) r0_6) y
      = goal2 m c (((cfg0.win 5).blk t).view.emb y) := by
  have e : ((cfg0.win 5).blk t).view.emb y = ix2 (arow t (y 0)) (y 1) := by
    blk_ext [idx t]
  exact (congrArg _ (eq_ix2 y)).trans ((row2 m c t (y 0) (y 1)).trans (congrArg _ e.symm))

/-- The kernel's array 2 is the reference's. -/
theorem final2 (c : Dev nD) : (dats m 0 c).arrAt 5 cfg0.N = goal2 m c := by
  refine (dats m 0 c).arrAt_eq_of_covers 5 _ (by decide +kernel) fun t _ y => ?_
  blk_simp
  rw [after0_5]
  frame_out
  exact point2 m c t y

/-- The reference's result 3, from the arguments in memory. -/
abbrev goal3 (c : Dev nD) : FVec Ideal S16384x1024 .f32 :=
  Ref.res3 (m ((c : Thread nD τ).loc main_arg0)) (m ((c : Thread nD τ).loc main_arg1)) (m ((c : Thread nD τ).loc main_arg2))

/-- What a grid point stores for it, row by row. -/
theorem row3 (c : Dev nD) (t : Fin cfg0.N) (r : Fin 512) (l : Fin 1024) :
    k0_pay5 (iblk m c 0 t) (View.ld (iblk m c 2 t) r0_1) (View.ld (iblk m c 2 t) r0_2) (View.ld (iblk m c 1 t) r0_7) (ix2 r l)
      = goal3 m c (ix2 (arow t r) l) := by
  rw [goal3, Ref.res3_apply, Ref.entry]
  pointwise [k0_pay5, k0_pay1]
  refine Finset.sum_congr rfl fun k _ => ?_
  rw [block0, block1, block2, block2, batch_eq]

theorem point3 (c : Dev nD) (t : Fin cfg0.N) (y : S512x1024.Idx) :
    k0_pay5 (iblk m c 0 t) (View.ld (iblk m c 2 t) r0_1) (View.ld (iblk m c 2 t) r0_2) (View.ld (iblk m c 1 t) r0_7) y
      = goal3 m c (((cfg0.win 6).blk t).view.emb y) := by
  have e : ((cfg0.win 6).blk t).view.emb y = ix2 (arow t (y 0)) (y 1) := by
    blk_ext [idx t]
  exact (congrArg _ (eq_ix2 y)).trans ((row3 m c t (y 0) (y 1)).trans (congrArg _ e.symm))

/-- The kernel's array 3 is the reference's. -/
theorem final3 (c : Dev nD) : (dats m 0 c).arrAt 6 cfg0.N = goal3 m c := by
  refine (dats m 0 c).arrAt_eq_of_covers 6 _ (by decide +kernel) fun t _ y => ?_
  blk_simp
  rw [after0_6]
  frame_out
  exact point3 m c t y

/-- The reference program ends with its counters at zero and its arguments unchanged. -/
theorem quiescent_ref : Cert.quiescent_SwaInRefIdeal (hSwaInRefIdeal := Cert.SwaInRefIdeal.Gen.facts) :=
  fun m ρ _ => (θ_run Cert.SwaInRefIdeal.defs _ _).mono
    (fun r h => ⟨fun c => (h c).2.2.2.2, Idealize.ShloMosaic.sem_eq_zero_of_no_sems (by decide) r.2⟩)
    (Cert.SwaInRefIdeal.Value.run (F := Ideal) m ρ)

/-- Kernel and reference end with the same four arrays. -/
theorem algebraic : Cert.algebraic_SwaInIdeal_SwaInRefIdeal (hSwaInIdeal := Cert.SwaInIdeal.Gen.facts)
    (hSwaInRefIdeal := Cert.SwaInRefIdeal.Gen.facts) := by
  intro m ρ m' ρ' hpre hag
  refine ⟨fun c => goal0 m c, fun c => goal1 m c, fun c => goal2 m c, fun c => goal3 m c,
    (θ_run _ _ _).mono (fun r h c => ⟨(h c).1.trans (final0 m c), (h c).2.1.trans (final1 m c),
      (h c).2.2.1.trans (final2 m c), (h c).2.2.2.1.trans (final3 m c), (h c).2.2.2.2⟩)
      (Cert.SwaInIdeal.Value.run_blocks (F := Ideal) m ρ),
    (θ_run _ _ _).mono (fun r h c => ?_) (Cert.SwaInRefIdeal.Value.run (F := Ideal) m' ρ')⟩
  obtain ⟨e0, e1, e2⟩ := hag c
  refine ⟨(h c).1.trans ?_, (h c).2.1.trans ?_, (h c).2.2.1.trans ?_, (h c).2.2.2.1.trans ?_, (h c).2.2.2.2⟩ <;>
  · rw [e0, e1, e2]
    rfl

end Cert.SwaInEq

end
-- ==== Proof.DnInFloatFrame.lean ====
/-
  The delta network's input projection with its convolution, on machine floats: the frame. Nothing is said of what the
  outputs hold.
-/
module

public import proofs.«01_k».proof.Proof.DnInFloatRun
public import Idealize.ShloMosaic.Lib.Claim

@[expose] public section

set_option maxRecDepth 16384

noncomputable section

namespace Cert.DnInFloatFrame

open Cert.DnInFloatRun Cert.DnIn Cert.DnIn.Gen Cert.DnIn.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs, whose contents are left unstated. -/
def free (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true

/-- The grid's proof data: the inputs' blocks unchanged, nothing named of the outputs or of the carried rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed 6 t
    | ⟨7, _⟩ => Pipeline.Dat.unnamed 7 t
    | ⟨8, _⟩ => Pipeline.Dat.unnamed 8 t
    | ⟨9, _⟩ => Pipeline.Dat.unnamed 9 t
  Φ _ := Pipeline.ΦA spec0 c
  q _ := fullShare
  owed _ := 0

/-- The arrays are what the grid finds. -/
theorem A_eq (c : Dev nD) (w : Fin cfg0.W) : (dats m 0 c).A w = V m c (Pipeline.arrRef spec0 w) := by
  dsimp only [dats]

/-- What a point leaves in the inputs' blocks, -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- and what it finds there. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ X, owns (c : Thread nD τ) (ms0_6 t) fullShare X)
    ∗ (∃ X, owns (c : Thread nD τ) (ms0_7 t) fullShare X)
    ∗ (∃ X, owns (c : Thread nD τ) (ms0_8 t) fullShare X)
    ∗ (∃ X, owns (c : Thread nD τ) (ms0_9 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, owns (c : Thread nD τ) (ms0_6 t) fullShare X)
    ∗ (∃ X, owns (c : Thread nD τ) (ms0_7 t) fullShare X)
    ∗ (∃ X, owns (c : Thread nD τ) (ms0_8 t) fullShare X)
    ∗ (∃ X, owns (c : Thread nD τ) (ms0_9 t) fullShare X))

set_option maxHeartbeats 8000000 in
/-- The body at any point: the kernel runs to its end from any contents of the outputs and of the carried rows. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.castSucc = Pipeline.ΦA spec0 c from rfl, show (dats m 0 c).Φ t.succ = Pipeline.ΦA spec0 c from rfl, PhiA_eq]
  iintro ⟨⟨⟨%ds, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun c (grid0.coords t) _ _ _ _ _ _ _ _ _ _ _ _ _ _ _ _ _ _ _ _ _ _ (iblk m c 0 t) (iblk m c 1 t) (iblk m c 2 t) (iblk m c 3 t) (iblk m c 4 t) (iblk m c 5 t) ds).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  iintro ⟨H0, H1, H2, H3, H4, H5, ⟨%e6, H6⟩, ⟨%e7, H7⟩, ⟨%e8, H8⟩, ⟨%e9, H9⟩, ⟨%es0, HS0⟩⟩
  isplitl [HS0 Hg]
  · isplitl [HS0]
    · iexists _
      unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; unfold owns; iexists _; isplitr
    swap; · iexact H6
    ipureintro; rfl
  isplitl [H7]
  · iexists _; unfold owns; iexists _; isplitr
    swap; · iexact H7
    ipureintro; rfl
  isplitl [H8]
  · iexists _; unfold owns; iexists _; isplitr
    swap; · iexact H8
    ipureintro; rfl
  iexists _; unfold owns; iexists _; isplitr
  swap; · iexact H9
  ipureintro; rfl

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := F)) Variants.none () Set.univ free := fun t => by
  rw [bigSep_W0, bigSep_W0, defs₀_row]
  exact triple_restated (sound_body m c t) rfl .rfl fun _ => .rfl

/-- What the lines after the grid write: the two sliced results. -/
def written : Finset (Ref sig .tc) := {main_v9, main_v10}

/-- They write nothing else. -/
theorem sfx_writes : ∀ ops ∈ ([hostOps1] : List (List (HloOp τ sig (Elt F)))), ∀ op ∈ ops,
    ∀ b : Ref sig .tc, Proc.devRef .tc b ∈ op.writes → b ∈ written := by
  intro ops hops op hop b hb
  simp only [List.mem_cons, List.mem_nil_iff, or_false] at hops
  rcases hops with rfl
  simp only [hostOps1, List.mem_cons, List.mem_nil_iff, or_false] at hop
  by_contra hn
  rcases hop with rfl | rfl
  all_goals
    simp only [StableHlo.unary_writes, Finset.mem_singleton] at hb
    exact StableHlo.devRef_ne_of_ne (fun e => hn (by rw [e]; decide)) hb

set_option backward.isDefEq.respectTransparency.types false in
set_option maxHeartbeats 800000 in
/-- The whole program's run: the arrays of the inputs and every buffer that is not written as found, every counter at zero. -/
theorem run_main_quiescent : θ_run defs (onTc (τ := τ) (main (F := F))) (s₀ m ρ) (fun r => (Pipeline.RDat.FramePostR cfg0 (fun c => (dats m 0 c).toRForget free) written (fun c b => V0 m c (Proc.devRef .tc b))) r ∧ r.2.sem = fun _ => 0) :=
  Pipeline.θ_run_frame_around_T_forget (Q' := _) cfgs (dats m) (0 : Fin 1) launch0 defs₀ Variants.none free written m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- A buffer the program neither stages nor writes ends as found. -/
theorem untouched {b : Ref sig .tc} (hb : b ∈ Pipeline.restRefs sig spec0) (hw : b ∉ written) : b ∈ Pipeline.restRefs sig spec0 \ written :=
  Finset.mem_sdiff.2 ⟨hb, hw⟩

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (untouched (Pipeline.mem_restRefs_of main_arg0 (by decide) (by decide)) (by decide))).trans (V_main_arg0 m c), ((h.1 c).2 main_arg1 (untouched (Pipeline.mem_restRefs_of main_arg1 (by decide) (by decide)) (by decide))).trans (V_main_arg1 m c), ((h.1 c).2 main_arg2 (untouched (Pipeline.mem_restRefs_of main_arg2 (by decide) (by decide)) (by decide))).trans (V_main_arg2 m c),
      (((dats m 0 c).toRForget_arrAt_iff (fgt := free) (w := 3) rfl _ _).1 ((h.1 c).1 3)).trans (((dats m 0 c).arrAt_in 3 rfl _).trans ((A_eq m c 3).trans (V_main_arg3 m c))),
      ((h.1 c).2 main_arg4 (untouched (Pipeline.mem_restRefs_of main_arg4 (by decide) (by decide)) (by decide))).trans (V_main_arg4 m c), ((h.1 c).2 main_arg5 (untouched (Pipeline.mem_restRefs_of main_arg5 (by decide) (by decide)) (by decide))).trans (V_main_arg5 m c)⟩, h.2⟩) (run_main_quiescent m ρ)

end Cert.DnInFloatFrame

end
-- ==== Proof.lean ====
module

public import proofs.«01_k».proof.Defs
public import proofs.«01_k».proof.Proof.Gen.Band
public import proofs.«01_k».proof.Proof.Gen.Band.Skeleton
public import proofs.«01_k».proof.Proof.Gen.Band.Launch
public import proofs.«01_k».proof.Proof.Gen.Band.Points
public import proofs.«01_k».proof.Proof.Gen.Band.Frame
public import proofs.«01_k».proof.Proof.Gen.BandIdeal
public import proofs.«01_k».proof.Proof.Gen.BandIdeal.Skeleton
public import proofs.«01_k».proof.Proof.Gen.BandIdeal.Launch
public import proofs.«01_k».proof.Proof.Gen.BandIdeal.Points
public import proofs.«01_k».proof.Proof.Gen.BandIdeal.Frame
public import proofs.«01_k».proof.Proof.Gen.BandRefIdeal
public import proofs.«01_k».proof.Proof.Gen.DiffIn
public import proofs.«01_k».proof.Proof.Gen.DiffIn.Skeleton
public import proofs.«01_k».proof.Proof.Gen.DiffIn.Launch
public import proofs.«01_k».proof.Proof.Gen.DiffIn.Points
public import proofs.«01_k».proof.Proof.Gen.DiffIn.Frame
public import proofs.«01_k».proof.Proof.Gen.DiffInIdeal
public import proofs.«01_k».proof.Proof.Gen.DiffInIdeal.Skeleton
public import proofs.«01_k».proof.Proof.Gen.DiffInIdeal.Launch
public import proofs.«01_k».proof.Proof.Gen.DiffInIdeal.Points
public import proofs.«01_k».proof.Proof.Gen.DiffInIdeal.Frame
public import proofs.«01_k».proof.Proof.Gen.DiffInRefIdeal
public import proofs.«01_k».proof.Proof.Gen.DiffInS
public import proofs.«01_k».proof.Proof.Gen.DiffInS.Skeleton
public import proofs.«01_k».proof.Proof.Gen.DiffInS.Launch
public import proofs.«01_k».proof.Proof.Gen.DiffInS.Points
public import proofs.«01_k».proof.Proof.Gen.DiffInS.Frame
public import proofs.«01_k».proof.Proof.Gen.DiffInSIdeal
public import proofs.«01_k».proof.Proof.Gen.DiffInSIdeal.Skeleton
public import proofs.«01_k».proof.Proof.Gen.DiffInSIdeal.Launch
public import proofs.«01_k».proof.Proof.Gen.DiffInSIdeal.Points
public import proofs.«01_k».proof.Proof.Gen.DiffInSIdeal.Frame
public import proofs.«01_k».proof.Proof.Gen.DiffInSRefIdeal
public import proofs.«01_k».proof.Proof.Gen.SwaIn
public import proofs.«01_k».proof.Proof.Gen.SwaIn.Skeleton
public import proofs.«01_k».proof.Proof.Gen.SwaIn.Launch
public import proofs.«01_k».proof.Proof.Gen.SwaIn.Points
public import proofs.«01_k».proof.Proof.Gen.SwaIn.Frame
public import proofs.«01_k».proof.Proof.Gen.SwaInIdeal
public import proofs.«01_k».proof.Proof.Gen.SwaInIdeal.Skeleton
public import proofs.«01_k».proof.Proof.Gen.SwaInIdeal.Launch
public import proofs.«01_k».proof.Proof.Gen.SwaInIdeal.Points
public import proofs.«01_k».proof.Proof.Gen.SwaInIdeal.Frame
public import proofs.«01_k».proof.Proof.Gen.SwaInRefIdeal
public import proofs.«01_k».proof.Proof.Gen.DnOut
public import proofs.«01_k».proof.Proof.Gen.DnOut.Skeleton
public import proofs.«01_k».proof.Proof.Gen.DnOut.Launch
public import proofs.«01_k».proof.Proof.Gen.DnOut.Points
public import proofs.«01_k».proof.Proof.Gen.DnOut.Frame
public import proofs.«01_k».proof.Proof.Gen.DnOutIdeal
public import proofs.«01_k».proof.Proof.Gen.DnOutIdeal.Skeleton
public import proofs.«01_k».proof.Proof.Gen.DnOutIdeal.Launch
public import proofs.«01_k».proof.Proof.Gen.DnOutIdeal.Points
public import proofs.«01_k».proof.Proof.Gen.DnOutIdeal.Frame
public import proofs.«01_k».proof.Proof.Gen.DnOutRefIdeal
public import proofs.«01_k».proof.Proof.Gen.DnOutS
public import proofs.«01_k».proof.Proof.Gen.DnOutS.Skeleton
public import proofs.«01_k».proof.Proof.Gen.DnOutS.Launch
public import proofs.«01_k».proof.Proof.Gen.DnOutS.Points
public import proofs.«01_k».proof.Proof.Gen.DnOutS.Frame
public import proofs.«01_k».proof.Proof.Gen.DnOutSIdeal
public import proofs.«01_k».proof.Proof.Gen.DnOutSIdeal.Skeleton
public import proofs.«01_k».proof.Proof.Gen.DnOutSIdeal.Launch
public import proofs.«01_k».proof.Proof.Gen.DnOutSIdeal.Points
public import proofs.«01_k».proof.Proof.Gen.DnOutSIdeal.Frame
public import proofs.«01_k».proof.Proof.Gen.DnOutSRefIdeal
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.Gen.DnIn
public import proofs.«01_k».proof.Proof.Gen.DnIn.Skeleton
public import proofs.«01_k».proof.Proof.Gen.DnIn.Launch
public import proofs.«01_k».proof.Proof.Gen.DnIn.Points
public import proofs.«01_k».proof.Proof.Gen.DnIn.Frame
public import proofs.«01_k».proof.Proof.Gen.DnInIdeal
public import proofs.«01_k».proof.Proof.Gen.DnInIdeal.Skeleton
public import proofs.«01_k».proof.Proof.Gen.DnInIdeal.Launch
public import proofs.«01_k».proof.Proof.Gen.DnInIdeal.Points
public import proofs.«01_k».proof.Proof.Gen.DnInIdeal.Frame
public import proofs.«01_k».proof.Proof.Gen.DnInRefIdeal
public import proofs.«01_k».proof.Proof.Gen.SwaDec
public import proofs.«01_k».proof.Proof.Gen.SwaDec.Skeleton
public import proofs.«01_k».proof.Proof.Gen.SwaDec.Launch
public import proofs.«01_k».proof.Proof.Gen.SwaDec.Points
public import proofs.«01_k».proof.Proof.Gen.SwaDec.Frame
public import proofs.«01_k».proof.Proof.Gen.SwaDecIdeal
public import proofs.«01_k».proof.Proof.Gen.SwaDecIdeal.Skeleton
public import proofs.«01_k».proof.Proof.Gen.SwaDecIdeal.Launch
public import proofs.«01_k».proof.Proof.Gen.SwaDecIdeal.Points
public import proofs.«01_k».proof.Proof.Gen.SwaDecIdeal.Frame
public import proofs.«01_k».proof.Proof.Gen.SwaDecRefIdeal
public import proofs.«01_k».proof.Proof.Gen.DnPrep
public import proofs.«01_k».proof.Proof.Gen.DnPrep.Skeleton
public import proofs.«01_k».proof.Proof.Gen.DnPrep.Launch
public import proofs.«01_k».proof.Proof.Gen.DnPrep.Points
public import proofs.«01_k».proof.Proof.Gen.DnPrep.Frame
public import proofs.«01_k».proof.Proof.Gen.DnPrepIdeal
public import proofs.«01_k».proof.Proof.Gen.DnPrepIdeal.Skeleton
public import proofs.«01_k».proof.Proof.Gen.DnPrepIdeal.Launch
public import proofs.«01_k».proof.Proof.Gen.DnPrepIdeal.Points
public import proofs.«01_k».proof.Proof.Gen.DnPrepIdeal.Frame
public import proofs.«01_k».proof.Proof.Gen.DnPrepRefIdeal
public import proofs.«01_k».proof.Proof.Gen.DnStep
public import proofs.«01_k».proof.Proof.Gen.DnStep.Skeleton
public import proofs.«01_k».proof.Proof.Gen.DnStep.Launch
public import proofs.«01_k».proof.Proof.Gen.DnStep.Points
public import proofs.«01_k».proof.Proof.Gen.DnStep.Frame
public import proofs.«01_k».proof.Proof.Gen.DnStepIdeal
public import proofs.«01_k».proof.Proof.Gen.DnStepIdeal.Skeleton
public import proofs.«01_k».proof.Proof.Gen.DnStepIdeal.Launch
public import proofs.«01_k».proof.Proof.Gen.DnStepIdeal.Points
public import proofs.«01_k».proof.Proof.Gen.DnStepIdeal.Frame
public import proofs.«01_k».proof.Proof.Gen.DnStepRefIdeal
public import proofs.«01_k».proof.Proof.Gen.BandIdeal.Value
public import proofs.«01_k».proof.Proof.Gen.BandRefIdeal.Run
public import proofs.«01_k».proof.Proof.Gen.DiffInIdeal.Value
public import proofs.«01_k».proof.Proof.Gen.DiffInRefIdeal.Run
public import proofs.«01_k».proof.Proof.Gen.DiffInSIdeal.Value
public import proofs.«01_k».proof.Proof.Gen.DiffInSRefIdeal.Run
public import proofs.«01_k».proof.Proof.Gen.SwaInIdeal.Value
public import proofs.«01_k».proof.Proof.Gen.SwaInRefIdeal.Run
public import proofs.«01_k».proof.Proof.Gen.DnOutIdeal.Value
public import proofs.«01_k».proof.Proof.Gen.DnOutRefIdeal.Run
public import proofs.«01_k».proof.Proof.Gen.DnOutSIdeal.Value
public import proofs.«01_k».proof.Proof.Gen.DnOutSRefIdeal.Run
public import proofs.«01_k».proof.Proof.Gen.MixOutIdeal.Value
public import proofs.«01_k».proof.Proof.Gen.MixOutRefIdeal.Run
public import proofs.«01_k».proof.Proof.Gen.DnInRefIdeal.Run
public import proofs.«01_k».proof.Proof.Gen.DnPrepRefIdeal.Run
public import proofs.«01_k».proof.Proof.Gen.SwaDecIdeal.Value
public import proofs.«01_k».proof.Proof.Gen.SwaDecRefIdeal.Run
public import proofs.«01_k».proof.Proof.Gen.DnStepIdeal.Value
public import proofs.«01_k».proof.Proof.Gen.DnStepRefIdeal.Run
public import proofs.«01_k».proof.Proof.Gen.Pre_band_finite
public import proofs.«01_k».proof.Proof.Gen.Pre_decode_finite
public import proofs.«01_k».proof.Proof.Gen.Pre_step_finite
public import proofs.«01_k».proof.Proof.BandProof
public import proofs.«01_k».proof.Proof.DiffInValue
public import proofs.«01_k».proof.Proof.DiffInSValue
public import proofs.«01_k».proof.Proof.DnInValue
public import proofs.«01_k».proof.Proof.DnOutValue
public import proofs.«01_k».proof.Proof.DnOutSValue
public import proofs.«01_k».proof.Proof.DnPrepValue
public import proofs.«01_k».proof.Proof.DnStepValue
public import proofs.«01_k».proof.Proof.MixOutValue
public import proofs.«01_k».proof.Proof.SwaDecValue
public import proofs.«01_k».proof.Proof.SwaInValue
public import proofs.«01_k».proof.Proof.DnInFloatFrame
public import Idealize.ShloMosaic.Adequacy
public import Idealize.ShloMosaic.Init

@[expose] public section

noncomputable section

namespace Cert.Proof

open Idealize.ShloMosaic Idealize.SL.Sem

/-- Every claim, from the side conditions of the programs on: the frames, the empty ledgers and the equations. -/
theorem claim : Cert.Claim :=
  ⟨Cert.Band.Gen.facts,
    Cert.BandIdeal.Gen.facts,
    Cert.BandRefIdeal.Gen.facts,
    Cert.DiffIn.Gen.facts,
    Cert.DiffInIdeal.Gen.facts,
    Cert.DiffInRefIdeal.Gen.facts,
    Cert.DiffInS.Gen.facts,
    Cert.DiffInSIdeal.Gen.facts,
    Cert.DiffInSRefIdeal.Gen.facts,
    Cert.SwaIn.Gen.facts,
    Cert.SwaInIdeal.Gen.facts,
    Cert.SwaInRefIdeal.Gen.facts,
    Cert.DnOut.Gen.facts,
    Cert.DnOutIdeal.Gen.facts,
    Cert.DnOutRefIdeal.Gen.facts,
    Cert.DnOutS.Gen.facts,
    Cert.DnOutSIdeal.Gen.facts,
    Cert.DnOutSRefIdeal.Gen.facts,
    Cert.MixOut.Gen.facts,
    Cert.MixOutIdeal.Gen.facts,
    Cert.MixOutRefIdeal.Gen.facts,
    Cert.DnIn.Gen.facts,
    Cert.DnInIdeal.Gen.facts,
    Cert.DnInRefIdeal.Gen.facts,
    Cert.SwaDec.Gen.facts,
    Cert.SwaDecIdeal.Gen.facts,
    Cert.SwaDecRefIdeal.Gen.facts,
    Cert.DnPrep.Gen.facts,
    Cert.DnPrepIdeal.Gen.facts,
    Cert.DnPrepRefIdeal.Gen.facts,
    Cert.DnStep.Gen.facts,
    Cert.DnStepIdeal.Gen.facts,
    Cert.DnStepRefIdeal.Gen.facts,
    Cert.Band.preFacts,
    Cert.SwaDecEq.preFacts,
    Cert.DnStepEq.preFacts,
    fun m ρ _ => Cert.Band.Gen.frame m ρ,
    fun m ρ _ => Cert.BandIdeal.Gen.frame m ρ,
    fun m ρ _ => Cert.BandIdeal.Gen.frame m ρ,
    Cert.Band.quiescent_ref,
    fun m ρ _ => Cert.Band.quiescent_ref m ρ trivial,
    fun m ρ _ => Cert.DiffIn.Gen.frame m ρ,
    fun m ρ _ => Cert.DiffInIdeal.Gen.frame m ρ,
    Cert.DiffInEq.quiescent_ref,
    fun m ρ _ => Cert.DiffInS.Gen.frame m ρ,
    fun m ρ _ => Cert.DiffInSIdeal.Gen.frame m ρ,
    Cert.DiffInSEq.quiescent_ref,
    fun m ρ _ => Cert.SwaIn.Gen.frame m ρ,
    fun m ρ _ => Cert.SwaInIdeal.Gen.frame m ρ,
    Cert.SwaInEq.quiescent_ref,
    fun m ρ _ => Cert.DnOut.Gen.frame m ρ,
    fun m ρ _ => Cert.DnOutIdeal.Gen.frame m ρ,
    Cert.DnOutEq.quiescent_ref,
    fun m ρ _ => Cert.DnOutS.Gen.frame m ρ,
    fun m ρ _ => Cert.DnOutSIdeal.Gen.frame m ρ,
    Cert.DnOutSEq.quiescent_ref,
    fun m ρ _ => Cert.MixOut.Gen.frame m ρ,
    fun m ρ _ => Cert.MixOutIdeal.Gen.frame m ρ,
    Cert.MixOutEq.quiescent_ref,
    fun m ρ _ => Cert.DnInFloatFrame.frame m ρ,
    fun m ρ _ => Cert.DnInFrame.frame m ρ,
    Cert.DnInEq.quiescent_ref,
    fun m ρ _ => Cert.SwaDec.Gen.frame m ρ,
    fun m ρ _ => Cert.SwaDecIdeal.Gen.frame m ρ,
    fun m ρ _ => Cert.SwaDecIdeal.Gen.frame m ρ,
    Cert.SwaDecEq.quiescent_ref,
    fun m ρ _ => Cert.SwaDecEq.quiescent_ref m ρ trivial,
    fun m ρ _ => Cert.DnPrep.Gen.frame m ρ,
    fun m ρ _ => Cert.DnPrepIdeal.Gen.frame m ρ,
    Cert.DnPrepEq.quiescent_ref,
    fun m ρ _ => Cert.DnStep.Gen.frame m ρ,
    fun m ρ _ => Cert.DnStepIdeal.Gen.frame m ρ,
    fun m ρ _ => Cert.DnStepIdeal.Gen.frame m ρ,
    Cert.DnStepEq.quiescent_ref,
    fun m ρ _ => Cert.DnStepEq.quiescent_ref m ρ trivial,
    trivial,
    Cert.Band.algebraic,
    trivial,
    Cert.DiffInEq.algebraic,
    trivial,
    Cert.DiffInSEq.algebraic,
    trivial,
    Cert.SwaInEq.algebraic,
    trivial,
    Cert.DnOutEq.algebraic,
    trivial,
    Cert.DnOutSEq.algebraic,
    trivial,
    Cert.MixOutEq.algebraic,
    trivial,
    Cert.DnInEq.algebraic,
    trivial,
    Cert.SwaDecEq.algebraic,
    trivial,
    Cert.DnPrepEq.algebraic,
    trivial,
    Cert.DnStepEq.algebraic⟩

end Cert.Proof

end
